-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_balanced [hPre_balanced : Cert.Pre_balanced.Facts] (m : (ℓ : Loc Cert.KernelIdeal.nD Cert.KernelIdeal.τ Cert.KernelIdeal.sig) → Buf (Elt Ideal) ℓ) : Prop :=
  ∀ c : Dev Cert.KernelIdeal.nD,
    (Cert.Pre_balanced.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced [hPre_balanced : Cert.Pre_balanced.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_balanced [hKernelIdeal : Cert.KernelIdeal.Facts] [hPre_balanced : Cert.Pre_balanced.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_balanced m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_balanced [hReferenceIdeal : Cert.ReferenceIdeal.Facts] [hPre_balanced : Cert.Pre_balanced.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_balanced [hKernelIdeal : Cert.KernelIdeal.Facts] [hReferenceIdeal : Cert.ReferenceIdeal.Facts] [hPre_balanced : Cert.Pre_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_balanced m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_balanced : Cert.Pre_balanced.Facts),
    quiescent_Kernel (hKernel := hKernel)
    ∧ quiescent_KernelIdeal (hKernelIdeal := hKernelIdeal)
    ∧ quiescent_KernelIdeal_pre_balanced (hKernelIdeal := hKernelIdeal) (hPre_balanced := hPre_balanced)
    ∧ quiescent_ReferenceIdeal (hReferenceIdeal := hReferenceIdeal)
    ∧ quiescent_ReferenceIdeal_pre_balanced (hReferenceIdeal := hReferenceIdeal) (hPre_balanced := hPre_balanced)
    ∧ preserves_Kernel_KernelIdeal
    ∧ algebraic_KernelIdeal_ReferenceIdeal_pre_balanced (hKernelIdeal := hKernelIdeal) (hReferenceIdeal := hReferenceIdeal) (hPre_balanced := hPre_balanced)
-- ==== Pre_balanced.lean ====
abbrev S48x1x13312 : Shape := ⟨3, ![48, 1, 13312]⟩
abbrev S13312x8192 : Shape := ⟨2, ![13312, 8192]⟩
abbrev S104x16384 : Shape := ⟨2, ![104, 16384]⟩
abbrev S52x16384 : Shape := ⟨2, ![52, 16384]⟩
abbrev S13312 : Shape := ⟨1, ![13312]⟩
abbrev S_ : Shape := ⟨0, ![]⟩
abbrev S13312x1 : Shape := ⟨2, ![13312, 1]⟩

class Facts : Prop where
  bcast_S_S13312 : S_.BroadcastsInDim S13312 (![] : Fin 0 → Fin S13312.rank)
  bcast_S13312_S13312x1_0 : S13312.BroadcastsInDim S13312x1 (![0] : Fin 1 → Fin S13312x1.rank)
  gather_S13312_S13312x1_S13312_n_0_n_n_0_1_1_wf : GatherDims.WF S13312 S13312x1 S13312 [] [0] [] [0] [] 1 ![1]

variable [Facts]

def comparator_i32_i32_d0 : BitVec 32 × BitVec 32 → BitVec 32 × BitVec 32 → BitVec 1 :=
  fun l r =>
    let v2 := IntOp.cmpi .slt l.1 r.1
    v2
def gather_S13312_S13312x1_S13312_n_0_n_n_0_1_1 : GatherDims S13312 S13312x1 S13312 where
  offsetDims := []
  collapsedSliceDims := [0]
  operandBatchingDims := []
  startIndicesBatchingDims := []
  startIndexMap := [0]
  indexVectorDim := 1
  sliceSizes := ![1]
  wf := gather_S13312_S13312x1_S13312_n_0_n_n_0_1_1_wf
def fn_argsort {F : FTy → Type} [FloatOps F] (arg0 : IVec S13312 32) : IVec S13312 32 :=
  let v0 : IVec S13312 32 := iotaInDim S13312 32 0
  let v1_0 : IVec S13312 32 := (fun x y => (Host.sort2 S13312 0 comparator_i32_i32_d0 x y).1) arg0 v0
  let v1_1 : IVec S13312 32 := (fun x y => (Host.sort2 S13312 0 comparator_i32_i32_d0 x y).2) arg0 v0
  v1_1

def fn_where {F : FTy → Type} [FloatOps F] (arg0 : IVec S13312 1) (arg1 : IVec S13312 32) (arg2 : IVec S13312 32) : IVec S13312 32 :=
  let v0 : IVec S13312 32 := select arg0 arg1 arg2
  v0

def fn_floor_divide {F : FTy → Type} [FloatOps F] (arg0 : IVec S13312 32) (arg1 : IVec S_ 32) : IVec S13312 32 :=
  let v0 : IVec S_ 32 := id arg1
  let v1 : IVec S13312 32 := broadcastInDim S13312 ![] bcast_S_S13312 v0
  let v2 : IVec S13312 32 := Host.divsi arg0 v1
  let v3 : IVec S13312 32 := signi arg0
  let v4 : IVec S_ 32 := signi v0
  let v5 : IVec S13312 32 := broadcastInDim S13312 ![] bcast_S_S13312 v4
  let v6 : IVec S13312 1 := cmpi .ne v3 v5
  let v7 : IVec S13312 32 := broadcastInDim S13312 ![] bcast_S_S13312 v0
  let v8 : IVec S13312 32 := Host.remsi arg0 v7
  let c : IVec S_ 32 := constantI S_ 32 0#32
  let v9 : IVec S13312 32 := broadcastInDim S13312 ![] bcast_S_S13312 c
  let v10 : IVec S13312 1 := cmpi .ne v8 v9
  let v11 : IVec S13312 1 := andi v6 v10
  let c_0 : IVec S_ 32 := constantI S_ 32 1#32
  let v12 : IVec S13312 32 := broadcastInDim S13312 ![] bcast_S_S13312 c_0
  let v13 : IVec S13312 32 := subi v2 v12
  let v14 : IVec S13312 32 := fn_where (F := F) v11 v13 v2
  v14

def fn {F : FTy → Type} [FloatOps F] (main_arg0 : IVec S48x1x13312 16) (main_arg1 : IVec S13312x8192 8) (main_arg2 : IVec S104x16384 16) (main_arg3 : IVec S52x16384 8) (main_arg4 : IVec S13312 32) : IVec S13312 1 :=
  let main_v0 : IVec S13312 32 := fn_argsort (F := F) main_arg4
  let main_c : IVec S_ 32 := constantI S_ 32 0#32
  let main_v1 : IVec S13312 32 := broadcastInDim S13312 ![] bcast_S_S13312 main_c
  let main_v2 : IVec S13312 1 := cmpi .slt main_v0 main_v1
  let main_c_0 : IVec S_ 32 := constantI S_ 32 13312#32
  let main_v3 : IVec S13312 32 := broadcastInDim S13312 ![] bcast_S_S13312 main_c_0
  let main_v4 : IVec S13312 32 := addi main_v0 main_v3
  let main_v5 : IVec S13312 32 := select main_v2 main_v4 main_v0
  let main_v6 : IVec S13312x1 32 := broadcastInDim S13312x1 ![0] bcast_S13312_S13312x1_0 main_v5
  let main_v7 : IVec S13312 32 := (fun x i => Host.gather gather_S13312_S13312x1_S13312_n_0_n_n_0_1_1 x i) main_arg4 main_v6
  let main_v8 : IVec S13312 32 := iotaInDim S13312 32 0
  let main_c_1 : IVec S_ 32 := constantI S_ 32 128#32
  let main_v9 : IVec S13312 32 := fn_floor_divide (F := F) main_v8 main_c_1
  let main_v10 : IVec S13312 1 := cmpi .eq main_v7 main_v9
  main_v10
-- ==== Kernel.lean ====
abbrev S48x1x13312 : Shape := ⟨3, ![48, 1, 13312]⟩
abbrev S13312x8192 : Shape := ⟨2, ![13312, 8192]⟩
abbrev S104x16384 : Shape := ⟨2, ![104, 16384]⟩
abbrev S52x16384 : Shape := ⟨2, ![52, 16384]⟩
abbrev S13312 : Shape := ⟨1, ![13312]⟩
abbrev S16 : Shape := ⟨1, ![16]⟩
abbrev S_ : Shape := ⟨0, ![]⟩
abbrev S104x128 : Shape := ⟨2, ![104, 128]⟩
abbrev S48x13312 : Shape := ⟨2, ![48, 13312]⟩
abbrev S13312x1 : Shape := ⟨2, ![13312, 1]⟩
abbrev S48x13312x2 : Shape := ⟨3, ![48, 13312, 2]⟩
abbrev S48x26624 : Shape := ⟨2, ![48, 26624]⟩
abbrev S24x2x104x256 : Shape := ⟨4, ![24, 2, 104, 256]⟩
abbrev S104x24x256x2 : Shape := ⟨4, ![104, 24, 256, 2]⟩
abbrev S104x24x256 : Shape := ⟨3, ![104, 24, 256]⟩
abbrev S104x16384x1 : Shape := ⟨3, ![104, 16384, 1]⟩
abbrev S3328x4x8192 : Shape := ⟨3, ![3328, 4, 8192]⟩
abbrev S3328x8192x4 : Shape := ⟨3, ![3328, 8192, 4]⟩
abbrev S3328x8192 : Shape := ⟨2, ![3328, 8192]⟩
abbrev S104x8192x2 : Shape := ⟨3, ![104, 8192, 2]⟩
abbrev S104x8192 : Shape := ⟨2, ![104, 8192]⟩
abbrev S104x4x16x128 : Shape := ⟨4, ![104, 4, 16, 128]⟩
abbrev S4x104x16x128 : Shape := ⟨4, ![4, 104, 16, 128]⟩
abbrev S6656x128 : Shape := ⟨2, ![6656, 128]⟩
abbrev S4x48x4096 : Shape := ⟨3, ![4, 48, 4096]⟩
abbrev S106528x128 : Shape := ⟨2, ![106528, 128]⟩
abbrev S1056x128 : Shape := ⟨2, ![1056, 128]⟩
abbrev S2 : Shape := ⟨1, ![2]⟩
abbrev S1 : Shape := ⟨1, ![1]⟩
abbrev S3328x128 : Shape := ⟨2, ![3328, 128]⟩
abbrev S1x1 : Shape := ⟨2, ![1, 1]⟩
abbrev S8x128 : Shape := ⟨2, ![8, 128]⟩
abbrev S32x128 : Shape := ⟨2, ![32, 128]⟩
abbrev S32x1x128 : Shape := ⟨3, ![32, 1, 128]⟩
abbrev S32x8x128 : Shape := ⟨3, ![32, 8, 128]⟩
abbrev S256x128 : Shape := ⟨2, ![256, 128]⟩
abbrev S1x128 : Shape := ⟨2, ![1, 128]⟩
abbrev S128x128 : Shape := ⟨2, ![128, 128]⟩
abbrev S256x256 : Shape := ⟨2, ![256, 256]⟩
abbrev S24x256 : Shape := ⟨2, ![24, 256]⟩
abbrev S1x24x256 : Shape := ⟨3, ![1, 24, 256]⟩
abbrev S48x256 : Shape := ⟨2, ![48, 256]⟩
abbrev S96x256 : Shape := ⟨2, ![96, 256]⟩
abbrev S48x128 : Shape := ⟨2, ![48, 128]⟩
abbrev S48x128x1 : Shape := ⟨3, ![48, 128, 1]⟩
abbrev S1x48x128 : Shape := ⟨3, ![1, 48, 128]⟩
abbrev S48x4x4096 : Shape := ⟨3, ![48, 4, 4096]⟩
abbrev S48x1x16384 : Shape := ⟨3, ![48, 1, 16384]⟩

abbrev nBuf : Space → Nat
  | .hbm => 102
  | .vmem => 6
  | .smem => 2
  | _ => 0

abbrev bufTy : (tb : Table) → Fin (tcTables nBuf tb) → BufTy
  | .hbm, ⟨0, _⟩ => ⟨S48x1x13312, .i16⟩
  | .hbm, ⟨1, _⟩ => ⟨S13312x8192, .i8⟩
  | .hbm, ⟨2, _⟩ => ⟨S104x16384, .i16⟩
  | .hbm, ⟨3, _⟩ => ⟨S52x16384, .i8⟩
  | .hbm, ⟨4, _⟩ => ⟨S13312, .i32⟩
  | .hbm, ⟨5, _⟩ => ⟨S16, .i16⟩
  | .hbm, ⟨6, _⟩ => ⟨S13312, .i32⟩
  | .hbm, ⟨7, _⟩ => ⟨S13312, .i32⟩
  | .hbm, ⟨8, _⟩ => ⟨S13312, .i32⟩
  | .hbm, ⟨9, _⟩ => ⟨S_, .i32⟩
  | .hbm, ⟨10, _⟩ => ⟨S_, .i32⟩
  | .hbm, ⟨11, _⟩ => ⟨S13312, .i32⟩
  | .hbm, ⟨12, _⟩ => ⟨S13312, .i32⟩
  | .hbm, ⟨13, _⟩ => ⟨S13312, .i32⟩
  | .hbm, ⟨14, _⟩ => ⟨S_, .i32⟩
  | .hbm, ⟨15, _⟩ => ⟨S13312, .i32⟩
  | .hbm, ⟨16, _⟩ => ⟨S13312, .i1⟩
  | .hbm, ⟨17, _⟩ => ⟨S13312, .i32⟩
  | .hbm, ⟨18, _⟩ => ⟨S13312, .i32⟩
  | .hbm, ⟨19, _⟩ => ⟨S_, .i32⟩
  | .hbm, ⟨20, _⟩ => ⟨S13312, .i32⟩
  | .hbm, ⟨21, _⟩ => ⟨S13312, .i1⟩
  | .hbm, ⟨22, _⟩ => ⟨S13312, .i1⟩
  | .hbm, ⟨23, _⟩ => ⟨S_, .i32⟩
  | .hbm, ⟨24, _⟩ => ⟨S13312, .i32⟩
  | .hbm, ⟨25, _⟩ => ⟨S13312, .i32⟩
  | .hbm, ⟨26, _⟩ => ⟨S13312, .i32⟩
  | .hbm, ⟨27, _⟩ => ⟨S104x128, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S13312, .i32⟩
  | .hbm, ⟨35, _⟩ => ⟨S13312, .i32⟩
  | .hbm, ⟨36, _⟩ => ⟨S_, .i32⟩
  | .hbm, ⟨37, _⟩ => ⟨S13312, .i32⟩
  | .hbm, ⟨38, _⟩ => ⟨S13312, .i1⟩
  | .hbm, ⟨39, _⟩ => ⟨S_, .i32⟩
  | .hbm, ⟨40, _⟩ => ⟨S13312, .i32⟩
  | .hbm, ⟨41, _⟩ => ⟨S13312, .i1⟩
  | .hbm, ⟨42, _⟩ => ⟨S_, .i32⟩
  | .hbm, ⟨43, _⟩ => ⟨S_, .i1⟩
  | .hbm, ⟨44, _⟩ => ⟨S13312, .i1⟩
  | .hbm, ⟨45, _⟩ => ⟨S13312, .i1⟩
  | .hbm, ⟨46, _⟩ => ⟨S13312, .i1⟩
  | .hbm, ⟨47, _⟩ => ⟨S13312, .i32⟩
  | .hbm, ⟨48, _⟩ => ⟨S13312, .i32⟩
  | .hbm, ⟨49, _⟩ => ⟨S13312, .i32⟩
  | .hbm, ⟨50, _⟩ => ⟨S_, .i32⟩
  | .hbm, ⟨51, _⟩ => ⟨S13312, .i32⟩
  | .hbm, ⟨52, _⟩ => ⟨S13312, .i32⟩
  | .hbm, ⟨53, _⟩ => ⟨S104x128, .i32⟩
  | .hbm, ⟨54, _⟩ => ⟨S48x13312, .i16⟩
  | .hbm, ⟨55, _⟩ => ⟨S_, .i32⟩
  | .hbm, ⟨56, _⟩ => ⟨S13312, .i32⟩
  | .hbm, ⟨57, _⟩ => ⟨S13312, .i1⟩
  | .hbm, ⟨58, _⟩ => ⟨S_, .i32⟩
  | .hbm, ⟨59, _⟩ => ⟨S13312, .i32⟩
  | .hbm, ⟨60, _⟩ => ⟨S13312, .i32⟩
  | .hbm, ⟨61, _⟩ => ⟨S13312, .i32⟩
  | .hbm, ⟨62, _⟩ => ⟨S13312x1, .i32⟩
  | .hbm, ⟨63, _⟩ => ⟨S48x13312, .i16⟩
  | .hbm, ⟨64, _⟩ => ⟨S48x13312x2, .i16⟩
  | .hbm, ⟨65, _⟩ => ⟨S48x26624, .i16⟩
  | .hbm, ⟨66, _⟩ => ⟨S24x2x104x256, .i16⟩
  | .hbm, ⟨67, _⟩ => ⟨S104x24x256x2, .i16⟩
  | .hbm, ⟨68, _⟩ => ⟨S104x24x256, .i32⟩
  | .hbm, ⟨69, _⟩ => ⟨S52x16384, .i32⟩
  | .hbm, ⟨70, _⟩ => ⟨S_, .i32⟩
  | .hbm, ⟨71, _⟩ => ⟨S52x16384, .i32⟩
  | .hbm, ⟨72, _⟩ => ⟨S52x16384, .i32⟩
  | .hbm, ⟨73, _⟩ => ⟨S_, .i32⟩
  | .hbm, ⟨74, _⟩ => ⟨S52x16384, .i32⟩
  | .hbm, ⟨75, _⟩ => ⟨S52x16384, .i32⟩
  | .hbm, ⟨76, _⟩ => ⟨S104x16384, .i32⟩
  | .hbm, ⟨77, _⟩ => ⟨S_, .i32⟩
  | .hbm, ⟨78, _⟩ => ⟨S104x16384, .i32⟩
  | .hbm, ⟨79, _⟩ => ⟨S104x16384, .i1⟩
  | .hbm, ⟨80, _⟩ => ⟨S_, .i32⟩
  | .hbm, ⟨81, _⟩ => ⟨S104x16384, .i32⟩
  | .hbm, ⟨82, _⟩ => ⟨S104x16384, .i32⟩
  | .hbm, ⟨83, _⟩ => ⟨S104x16384, .i32⟩
  | .hbm, ⟨84, _⟩ => ⟨S104x16384x1, .i32⟩
  | .hbm, ⟨85, _⟩ => ⟨S104x16384, .i16⟩
  | .hbm, ⟨86, _⟩ => ⟨S3328x4x8192, .i8⟩
  | .hbm, ⟨87, _⟩ => ⟨S3328x8192x4, .i8⟩
  | .hbm, ⟨88, _⟩ => ⟨S3328x8192, .i32⟩
  | .hbm, ⟨89, _⟩ => ⟨S104x8192x2, .i16⟩
  | .hbm, ⟨90, _⟩ => ⟨S104x8192, .i32⟩
  | .hbm, ⟨91, _⟩ => ⟨S104x4x16x128, .i32⟩
  | .hbm, ⟨92, _⟩ => ⟨S4x104x16x128, .i32⟩
  | .hbm, ⟨93, _⟩ => ⟨S6656x128, .i32⟩
  | .hbm, ⟨94, _⟩ => ⟨S104x8192x2, .i16⟩
  | .hbm, ⟨95, _⟩ => ⟨S104x8192, .i32⟩
  | .hbm, ⟨96, _⟩ => ⟨S104x4x16x128, .i32⟩
  | .hbm, ⟨97, _⟩ => ⟨S4x104x16x128, .i32⟩
  | .hbm, ⟨98, _⟩ => ⟨S6656x128, .i32⟩
  | .hbm, ⟨99, _⟩ => ⟨S4x48x4096, .bf16⟩
  | .hbm, ⟨100, _⟩ => ⟨S48x4x4096, .bf16⟩
  | .hbm, ⟨101, _⟩ => ⟨S48x1x16384, .bf16⟩
  | .local _ .vmem, ⟨0, _⟩ => ⟨S104x24x256, .i32⟩
  | .local _ .vmem, ⟨1, _⟩ => ⟨S6656x128, .i32⟩
  | .local _ .vmem, ⟨2, _⟩ => ⟨S6656x128, .i32⟩
  | .local _ .vmem, ⟨3, _⟩ => ⟨S4x48x4096, .bf16⟩
  | .local _ .vmem, ⟨4, _⟩ => ⟨S106528x128, .i32⟩
  | .local _ .vmem, ⟨5, _⟩ => ⟨S1056x128, .i32⟩
  | .local _ .smem, ⟨0, _⟩ => ⟨S104x128, .i32⟩
  | .local _ .smem, ⟨1, _⟩ => ⟨S104x128, .i32⟩
  | _, _ => ⟨S48x1x13312, .i16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v1 : Ref sig .tc := ⟨.hbm, 26, rfl⟩
abbrev main_v2 : Ref sig .tc := ⟨.hbm, 27, rfl⟩
abbrev main_c_1 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v3 : Ref sig .tc := ⟨.hbm, 49, rfl⟩
abbrev main_c_2 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_c_3 : Ref sig .tc := ⟨.hbm, 55, rfl⟩
abbrev main_v8 : Ref sig .tc := ⟨.hbm, 56, rfl⟩
abbrev main_v9 : Ref sig .tc := ⟨.hbm, 57, rfl⟩
abbrev main_c_4 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_5 : Ref sig .tc := ⟨.hbm, 70, rfl⟩
abbrev main_v21 : Ref sig .tc := ⟨.hbm, 71, rfl⟩
abbrev main_v22 : Ref sig .tc := ⟨.hbm, 72, rfl⟩
abbrev main_c_6 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_7 : Ref sig .tc := ⟨.hbm, 77, rfl⟩
abbrev main_v26 : Ref sig .tc := ⟨.hbm, 78, rfl⟩
abbrev main_v27 : Ref sig .tc := ⟨.hbm, 79, rfl⟩
abbrev main_c_8 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v192_r0 : BitVec 32) (c0_i32_180_r0 : BitVec 32) : Fin 2 → Nat :=
  let c0_i32_177_r0 : BitVec 32 := 0#32
  let v193_r0 : BitVec 32 := Scalar.addi v192_r0 c0_i32_177_r0
  let v195_r0 : BitVec 32 := Scalar.addi v193_r0 c0_i32_180_r0
  let v196_r0 : Index := Scalar.indexCast v195_r0
  let c0_181_r0 : Index := 0#32
  ![v196_r0.toNat, 0]

def k0_chk1 (v192_r0 : BitVec 32) : Prop :=
  (∀ (r : Fin 2), ∀ a, S8x128.size a = 0 ∨ (k0_off1 v192_r0 (BitVec.ofNat 32 (26632 * r.val))) a + (![3329, 1] : Fin 2 → Nat) a * (S8x128.size a - 1) < S106528x128.size a)
theorem k0_off1_inb : ∀ (v192_r0 : BitVec 32) (k0_hw1 : k0_chk1 v192_r0), ∀ (r : Fin 2), ∀ a, S8x128.size a = 0 ∨ (k0_off1 v192_r0 (BitVec.ofNat 32 (26632 * r.val))) a + (![3329, 1] : Fin 2 → Nat) a * (S8x128.size a - 1) < S106528x128.size a := fun v192_r0 k0_hw1 r => k0_hw1 r

def k0_off2 (v205_r0 : BitVec 32) (c0_i32_188_r0 : BitVec 32) : Fin 2 → Nat :=
  let c0_i32_185_r0 : BitVec 32 := 0#32
  let v206_r0 : BitVec 32 := Scalar.addi v205_r0 c0_i32_185_r0
  let v208_r0 : BitVec 32 := Scalar.addi v206_r0 c0_i32_188_r0
  let v209_r0 : Index := Scalar.indexCast v208_r0
  let c0_189_r0 : Index := 0#32
  ![v209_r0.toNat, 0]

def k0_chk2 (v205_r0 : BitVec 32) : Prop :=
  (∀ (r : Fin 2), ∀ a, S8x128.size a = 0 ∨ (k0_off2 v205_r0 (BitVec.ofNat 32 (26632 * r.val))) a + (![3329, 1] : Fin 2 → Nat) a * (S8x128.size a - 1) < S106528x128.size a)
theorem k0_off2_inb : ∀ (v205_r0 : BitVec 32) (k0_hw2 : k0_chk2 v205_r0), ∀ (r : Fin 2), ∀ a, S8x128.size a = 0 ∨ (k0_off2 v205_r0 (BitVec.ofNat 32 (26632 * r.val))) a + (![3329, 1] : Fin 2 → Nat) a * (S8x128.size a - 1) < S106528x128.size a := fun v205_r0 k0_hw2 r => k0_hw2 r

def k0_off3 (v218_r0 : BitVec 32) (c0_i32_196_r0 : BitVec 32) : Fin 2 → Nat :=
  let c0_i32_193_r0 : BitVec 32 := 0#32
  let v219_r0 : BitVec 32 := Scalar.addi v218_r0 c0_i32_193_r0
  let v221_r0 : BitVec 32 := Scalar.addi v219_r0 c0_i32_196_r0
  let v222_r0 : Index := Scalar.indexCast v221_r0
  let c0_197_r0 : Index := 0#32
  ![v222_r0.toNat, 0]

def k0_chk3 (v218_r0 : BitVec 32) : Prop :=
  (∀ (r : Fin 2), ∀ a, S8x128.size a = 0 ∨ (k0_off3 v218_r0 (BitVec.ofNat 32 (26632 * r.val))) a + (![3329, 1] : Fin 2 → Nat) a * (S8x128.size a - 1) < S106528x128.size a)
theorem k0_off3_inb : ∀ (v218_r0 : BitVec 32) (k0_hw3 : k0_chk3 v218_r0), ∀ (r : Fin 2), ∀ a, S8x128.size a = 0 ∨ (k0_off3 v218_r0 (BitVec.ofNat 32 (26632 * r.val))) a + (![3329, 1] : Fin 2 → Nat) a * (S8x128.size a - 1) < S106528x128.size a := fun v218_r0 k0_hw3 r => k0_hw3 r

def k0_off4 (v231_r0 : BitVec 32) (c0_i32_204_r0 : BitVec 32) : Fin 2 → Nat :=
  let c0_i32_201_r0 : BitVec 32 := 0#32
  let v232_r0 : BitVec 32 := Scalar.addi v231_r0 c0_i32_201_r0
  let v234_r0 : BitVec 32 := Scalar.addi v232_r0 c0_i32_204_r0
  let v235_r0 : Index := Scalar.indexCast v234_r0
  let c0_205_r0 : Index := 0#32
  ![v235_r0.toNat, 0]

def k0_chk4 (v231_r0 : BitVec 32) : Prop :=
  (∀ (r : Fin 2), ∀ a, S8x128.size a = 0 ∨ (k0_off4 v231_r0 (BitVec.ofNat 32 (26632 * r.val))) a + (![3329, 1] : Fin 2 → Nat) a * (S8x128.size a - 1) < S106528x128.size a)
theorem k0_off4_inb : ∀ (v231_r0 : BitVec 32) (k0_hw4 : k0_chk4 v231_r0), ∀ (r : Fin 2), ∀ a, S8x128.size a = 0 ∨ (k0_off4 v231_r0 (BitVec.ofNat 32 (26632 * r.val))) a + (![3329, 1] : Fin 2 → Nat) a * (S8x128.size a - 1) < S106528x128.size a := fun v231_r0 k0_hw4 r => k0_hw4 r

def k0_off5 (v252_r0 : BitVec 32) (c0_i32_215_r0 : BitVec 32) : Fin 2 → Nat :=
  let c0_i32_212_r0 : BitVec 32 := 0#32
  let v253_r0 : BitVec 32 := Scalar.addi v252_r0 c0_i32_212_r0
  let v255_r0 : BitVec 32 := Scalar.addi v253_r0 c0_i32_215_r0
  let v256_r0 : Index := Scalar.indexCast v255_r0
  let c0_216_r0 : Index := 0#32
  ![v256_r0.toNat, 0]

def k0_chk5 (v252_r0 : BitVec 32) : Prop :=
  (∀ (r : Fin 2), ∀ a, S8x128.size a = 0 ∨ (k0_off5 v252_r0 (BitVec.ofNat 32 (26632 * r.val))) a + (![3329, 1] : Fin 2 → Nat) a * (S8x128.size a - 1) < S106528x128.size a)
theorem k0_off5_inb : ∀ (v252_r0 : BitVec 32) (k0_hw5 : k0_chk5 v252_r0), ∀ (r : Fin 2), ∀ a, S8x128.size a = 0 ∨ (k0_off5 v252_r0 (BitVec.ofNat 32 (26632 * r.val))) a + (![3329, 1] : Fin 2 → Nat) a * (S8x128.size a - 1) < S106528x128.size a := fun v252_r0 k0_hw5 r => k0_hw5 r

def k0_off6 (v265_r0 : BitVec 32) (c0_i32_223_r0 : BitVec 32) : Fin 2 → Nat :=
  let c0_i32_220_r0 : BitVec 32 := 0#32
  let v266_r0 : BitVec 32 := Scalar.addi v265_r0 c0_i32_220_r0
  let v268_r0 : BitVec 32 := Scalar.addi v266_r0 c0_i32_223_r0
  let v269_r0 : Index := Scalar.indexCast v268_r0
  let c0_224_r0 : Index := 0#32
  ![v269_r0.toNat, 0]

def k0_chk6 (v265_r0 : BitVec 32) : Prop :=
  (∀ (r : Fin 2), ∀ a, S8x128.size a = 0 ∨ (k0_off6 v265_r0 (BitVec.ofNat 32 (26632 * r.val))) a + (![3329, 1] : Fin 2 → Nat) a * (S8x128.size a - 1) < S106528x128.size a)
theorem k0_off6_inb : ∀ (v265_r0 : BitVec 32) (k0_hw6 : k0_chk6 v265_r0), ∀ (r : Fin 2), ∀ a, S8x128.size a = 0 ∨ (k0_off6 v265_r0 (BitVec.ofNat 32 (26632 * r.val))) a + (![3329, 1] : Fin 2 → Nat) a * (S8x128.size a - 1) < S106528x128.size a := fun v265_r0 k0_hw6 r => k0_hw6 r

def k0_off7 (v278_r0 : BitVec 32) (c0_i32_231_r0 : BitVec 32) : Fin 2 → Nat :=
  let c0_i32_228_r0 : BitVec 32 := 0#32
  let v279_r0 : BitVec 32 := Scalar.addi v278_r0 c0_i32_228_r0
  let v281_r0 : BitVec 32 := Scalar.addi v279_r0 c0_i32_231_r0
  let v282_r0 : Index := Scalar.indexCast v281_r0
  let c0_232_r0 : Index := 0#32
  ![v282_r0.toNat, 0]

def k0_chk7 (v278_r0 : BitVec 32) : Prop :=
  (∀ (r : Fin 2), ∀ a, S8x128.size a = 0 ∨ (k0_off7 v278_r0 (BitVec.ofNat 32 (26632 * r.val))) a + (![3329, 1] : Fin 2 → Nat) a * (S8x128.size a - 1) < S106528x128.size a)
theorem k0_off7_inb : ∀ (v278_r0 : BitVec 32) (k0_hw7 : k0_chk7 v278_r0), ∀ (r : Fin 2), ∀ a, S8x128.size a = 0 ∨ (k0_off7 v278_r0 (BitVec.ofNat 32 (26632 * r.val))) a + (![3329, 1] : Fin 2 → Nat) a * (S8x128.size a - 1) < S106528x128.size a := fun v278_r0 k0_hw7 r => k0_hw7 r

def k0_off8 (v291_r0 : BitVec 32) (c0_i32_239_r0 : BitVec 32) : Fin 2 → Nat :=
  let c0_i32_236_r0 : BitVec 32 := 0#32
  let v292_r0 : BitVec 32 := Scalar.addi v291_r0 c0_i32_236_r0
  let v294_r0 : BitVec 32 := Scalar.addi v292_r0 c0_i32_239_r0
  let v295_r0 : Index := Scalar.indexCast v294_r0
  let c0_240_r0 : Index := 0#32
  ![v295_r0.toNat, 0]

def k0_chk8 (v291_r0 : BitVec 32) : Prop :=
  (∀ (r : Fin 2), ∀ a, S8x128.size a = 0 ∨ (k0_off8 v291_r0 (BitVec.ofNat 32 (26632 * r.val))) a + (![3329, 1] : Fin 2 → Nat) a * (S8x128.size a - 1) < S106528x128.size a)
theorem k0_off8_inb : ∀ (v291_r0 : BitVec 32) (k0_hw8 : k0_chk8 v291_r0), ∀ (r : Fin 2), ∀ a, S8x128.size a = 0 ∨ (k0_off8 v291_r0 (BitVec.ofNat 32 (26632 * r.val))) a + (![3329, 1] : Fin 2 → Nat) a * (S8x128.size a - 1) < S106528x128.size a := fun v291_r0 k0_hw8 r => k0_hw8 r

def k0_off9 (v312_r0 : BitVec 32) (c0_i32_250_r0 : BitVec 32) : Fin 2 → Nat :=
  let c0_i32_247_r0 : BitVec 32 := 0#32
  let v313_r0 : BitVec 32 := Scalar.addi v312_r0 c0_i32_247_r0
  let v315_r0 : BitVec 32 := Scalar.addi v313_r0 c0_i32_250_r0
  let v316_r0 : Index := Scalar.indexCast v315_r0
  let c0_251_r0 : Index := 0#32
  ![v316_r0.toNat, 0]

def k0_chk9 (v312_r0 : BitVec 32) : Prop :=
  (∀ (r : Fin 2), ∀ a, S8x128.size a = 0 ∨ (k0_off9 v312_r0 (BitVec.ofNat 32 (26632 * r.val))) a + (![3329, 1] : Fin 2 → Nat) a * (S8x128.size a - 1) < S106528x128.size a)
theorem k0_off9_inb : ∀ (v312_r0 : BitVec 32) (k0_hw9 : k0_chk9 v312_r0), ∀ (r : Fin 2), ∀ a, S8x128.size a = 0 ∨ (k0_off9 v312_r0 (BitVec.ofNat 32 (26632 * r.val))) a + (![3329, 1] : Fin 2 → Nat) a * (S8x128.size a - 1) < S106528x128.size a := fun v312_r0 k0_hw9 r => k0_hw9 r

def k0_off10 (v325_r0 : BitVec 32) (c0_i32_258_r0 : BitVec 32) : Fin 2 → Nat :=
  let c0_i32_255_r0 : BitVec 32 := 0#32
  let v326_r0 : BitVec 32 := Scalar.addi v325_r0 c0_i32_255_r0
  let v328_r0 : BitVec 32 := Scalar.addi v326_r0 c0_i32_258_r0
  let v329_r0 : Index := Scalar.indexCast v328_r0
  let c0_259_r0 : Index := 0#32
  ![v329_r0.toNat, 0]

def k0_chk10 (v325_r0 : BitVec 32) : Prop :=
  (∀ (r : Fin 2), ∀ a, S8x128.size a = 0 ∨ (k0_off10 v325_r0 (BitVec.ofNat 32 (26632 * r.val))) a + (![3329, 1] : Fin 2 → Nat) a * (S8x128.size a - 1) < S106528x128.size a)
theorem k0_off10_inb : ∀ (v325_r0 : BitVec 32) (k0_hw10 : k0_chk10 v325_r0), ∀ (r : Fin 2), ∀ a, S8x128.size a = 0 ∨ (k0_off10 v325_r0 (BitVec.ofNat 32 (26632 * r.val))) a + (![3329, 1] : Fin 2 → Nat) a * (S8x128.size a - 1) < S106528x128.size a := fun v325_r0 k0_hw10 r => k0_hw10 r

def k0_off11 (v338_r0 : BitVec 32) (c0_i32_266_r0 : BitVec 32) : Fin 2 → Nat :=
  let c0_i32_263_r0 : BitVec 32 := 0#32
  let v339_r0 : BitVec 32 := Scalar.addi v338_r0 c0_i32_263_r0
  let v341_r0 : BitVec 32 := Scalar.addi v339_r0 c0_i32_266_r0
  let v342_r0 : Index := Scalar.indexCast v341_r0
  let c0_267_r0 : Index := 0#32
  ![v342_r0.toNat, 0]

def k0_chk11 (v338_r0 : BitVec 32) : Prop :=
  (∀ (r : Fin 2), ∀ a, S8x128.size a = 0 ∨ (k0_off11 v338_r0 (BitVec.ofNat 32 (26632 * r.val))) a + (![3329, 1] : Fin 2 → Nat) a * (S8x128.size a - 1) < S106528x128.size a)
theorem k0_off11_inb : ∀ (v338_r0 : BitVec 32) (k0_hw11 : k0_chk11 v338_r0), ∀ (r : Fin 2), ∀ a, S8x128.size a = 0 ∨ (k0_off11 v338_r0 (BitVec.ofNat 32 (26632 * r.val))) a + (![3329, 1] : Fin 2 → Nat) a * (S8x128.size a - 1) < S106528x128.size a := fun v338_r0 k0_hw11 r => k0_hw11 r

def k0_off12 (v351_r0 : BitVec 32) (c0_i32_274_r0 : BitVec 32) : Fin 2 → Nat :=
  let c0_i32_271_r0 : BitVec 32 := 0#32
  let v352_r0 : BitVec 32 := Scalar.addi v351_r0 c0_i32_271_r0
  let v354_r0 : BitVec 32 := Scalar.addi v352_r0 c0_i32_274_r0
  let v355_r0 : Index := Scalar.indexCast v354_r0
  let c0_275_r0 : Index := 0#32
  ![v355_r0.toNat, 0]

def k0_chk12 (v351_r0 : BitVec 32) : Prop :=
  (∀ (r : Fin 2), ∀ a, S8x128.size a = 0 ∨ (k0_off12 v351_r0 (BitVec.ofNat 32 (26632 * r.val))) a + (![3329, 1] : Fin 2 → Nat) a * (S8x128.size a - 1) < S106528x128.size a)
theorem k0_off12_inb : ∀ (v351_r0 : BitVec 32) (k0_hw12 : k0_chk12 v351_r0), ∀ (r : Fin 2), ∀ a, S8x128.size a = 0 ∨ (k0_off12 v351_r0 (BitVec.ofNat 32 (26632 * r.val))) a + (![3329, 1] : Fin 2 → Nat) a * (S8x128.size a - 1) < S106528x128.size a := fun v351_r0 k0_hw12 r => k0_hw12 r

def k0_off13 (v372_r0 : BitVec 32) (c0_i32_285_r0 : BitVec 32) : Fin 2 → Nat :=
  let c0_i32_282_r0 : BitVec 32 := 0#32
  let v373_r0 : BitVec 32 := Scalar.addi v372_r0 c0_i32_282_r0
  let v375_r0 : BitVec 32 := Scalar.addi v373_r0 c0_i32_285_r0
  let v376_r0 : Index := Scalar.indexCast v375_r0
  let c0_286_r0 : Index := 0#32
  ![v376_r0.toNat, 0]

def k0_chk13 (v372_r0 : BitVec 32) : Prop :=
  (∀ (r : Fin 2), ∀ a, S8x128.size a = 0 ∨ (k0_off13 v372_r0 (BitVec.ofNat 32 (26632 * r.val))) a + (![3329, 1] : Fin 2 → Nat) a * (S8x128.size a - 1) < S106528x128.size a)
theorem k0_off13_inb : ∀ (v372_r0 : BitVec 32) (k0_hw13 : k0_chk13 v372_r0), ∀ (r : Fin 2), ∀ a, S8x128.size a = 0 ∨ (k0_off13 v372_r0 (BitVec.ofNat 32 (26632 * r.val))) a + (![3329, 1] : Fin 2 → Nat) a * (S8x128.size a - 1) < S106528x128.size a := fun v372_r0 k0_hw13 r => k0_hw13 r

def k0_off14 (v385_r0 : BitVec 32) (c0_i32_293_r0 : BitVec 32) : Fin 2 → Nat :=
  let c0_i32_290_r0 : BitVec 32 := 0#32
  let v386_r0 : BitVec 32 := Scalar.addi v385_r0 c0_i32_290_r0
  let v388_r0 : BitVec 32 := Scalar.addi v386_r0 c0_i32_293_r0
  let v389_r0 : Index := Scalar.indexCast v388_r0
  let c0_294_r0 : Index := 0#32
  ![v389_r0.toNat, 0]

def k0_chk14 (v385_r0 : BitVec 32) : Prop :=
  (∀ (r : Fin 2), ∀ a, S8x128.size a = 0 ∨ (k0_off14 v385_r0 (BitVec.ofNat 32 (26632 * r.val))) a + (![3329, 1] : Fin 2 → Nat) a * (S8x128.size a - 1) < S106528x128.size a)
theorem k0_off14_inb : ∀ (v385_r0 : BitVec 32) (k0_hw14 : k0_chk14 v385_r0), ∀ (r : Fin 2), ∀ a, S8x128.size a = 0 ∨ (k0_off14 v385_r0 (BitVec.ofNat 32 (26632 * r.val))) a + (![3329, 1] : Fin 2 → Nat) a * (S8x128.size a - 1) < S106528x128.size a := fun v385_r0 k0_hw14 r => k0_hw14 r

def k0_off15 (v398_r0 : BitVec 32) (c0_i32_301_r0 : BitVec 32) : Fin 2 → Nat :=
  let c0_i32_298_r0 : BitVec 32 := 0#32
  let v399_r0 : BitVec 32 := Scalar.addi v398_r0 c0_i32_298_r0
  let v401_r0 : BitVec 32 := Scalar.addi v399_r0 c0_i32_301_r0
  let v402_r0 : Index := Scalar.indexCast v401_r0
  let c0_302_r0 : Index := 0#32
  ![v402_r0.toNat, 0]

def k0_chk15 (v398_r0 : BitVec 32) : Prop :=
  (∀ (r : Fin 2), ∀ a, S8x128.size a = 0 ∨ (k0_off15 v398_r0 (BitVec.ofNat 32 (26632 * r.val))) a + (![3329, 1] : Fin 2 → Nat) a * (S8x128.size a - 1) < S106528x128.size a)
theorem k0_off15_inb : ∀ (v398_r0 : BitVec 32) (k0_hw15 : k0_chk15 v398_r0), ∀ (r : Fin 2), ∀ a, S8x128.size a = 0 ∨ (k0_off15 v398_r0 (BitVec.ofNat 32 (26632 * r.val))) a + (![3329, 1] : Fin 2 → Nat) a * (S8x128.size a - 1) < S106528x128.size a := fun v398_r0 k0_hw15 r => k0_hw15 r

def k0_off16 (v411_r0 : BitVec 32) (c0_i32_309_r0 : BitVec 32) : Fin 2 → Nat :=
  let c0_i32_306_r0 : BitVec 32 := 0#32
  let v412_r0 : BitVec 32 := Scalar.addi v411_r0 c0_i32_306_r0
  let v414_r0 : BitVec 32 := Scalar.addi v412_r0 c0_i32_309_r0
  let v415_r0 : Index := Scalar.indexCast v414_r0
  let c0_310_r0 : Index := 0#32
  ![v415_r0.toNat, 0]

def k0_chk16 (v411_r0 : BitVec 32) : Prop :=
  (∀ (r : Fin 2), ∀ a, S8x128.size a = 0 ∨ (k0_off16 v411_r0 (BitVec.ofNat 32 (26632 * r.val))) a + (![3329, 1] : Fin 2 → Nat) a * (S8x128.size a - 1) < S106528x128.size a)
theorem k0_off16_inb : ∀ (v411_r0 : BitVec 32) (k0_hw16 : k0_chk16 v411_r0), ∀ (r : Fin 2), ∀ a, S8x128.size a = 0 ∨ (k0_off16 v411_r0 (BitVec.ofNat 32 (26632 * r.val))) a + (![3329, 1] : Fin 2 → Nat) a * (S8x128.size a - 1) < S106528x128.size a := fun v411_r0 k0_hw16 r => k0_hw16 r

def k0_off17 (v432_r0 : BitVec 32) (c0_i32_320_r0 : BitVec 32) : Fin 2 → Nat :=
  let c0_i32_317_r0 : BitVec 32 := 0#32
  let v433_r0 : BitVec 32 := Scalar.addi v432_r0 c0_i32_317_r0
  let v435_r0 : BitVec 32 := Scalar.addi v433_r0 c0_i32_320_r0
  let v436_r0 : Index := Scalar.indexCast v435_r0
  let c0_321_r0 : Index := 0#32
  ![v436_r0.toNat, 0]

def k0_chk17 (v432_r0 : BitVec 32) : Prop :=
  (∀ (r : Fin 2), ∀ a, S8x128.size a = 0 ∨ (k0_off17 v432_r0 (BitVec.ofNat 32 (26632 * r.val))) a + (![3329, 1] : Fin 2 → Nat) a * (S8x128.size a - 1) < S106528x128.size a)
theorem k0_off17_inb : ∀ (v432_r0 : BitVec 32) (k0_hw17 : k0_chk17 v432_r0), ∀ (r : Fin 2), ∀ a, S8x128.size a = 0 ∨ (k0_off17 v432_r0 (BitVec.ofNat 32 (26632 * r.val))) a + (![3329, 1] : Fin 2 → Nat) a * (S8x128.size a - 1) < S106528x128.size a := fun v432_r0 k0_hw17 r => k0_hw17 r

def k0_off18 (v445_r0 : BitVec 32) (c0_i32_328_r0 : BitVec 32) : Fin 2 → Nat :=
  let c0_i32_325_r0 : BitVec 32 := 0#32
  let v446_r0 : BitVec 32 := Scalar.addi v445_r0 c0_i32_325_r0
  let v448_r0 : BitVec 32 := Scalar.addi v446_r0 c0_i32_328_r0
  let v449_r0 : Index := Scalar.indexCast v448_r0
  let c0_329_r0 : Index := 0#32
  ![v449_r0.toNat, 0]

def k0_chk18 (v445_r0 : BitVec 32) : Prop :=
  (∀ (r : Fin 2), ∀ a, S8x128.size a = 0 ∨ (k0_off18 v445_r0 (BitVec.ofNat 32 (26632 * r.val))) a + (![3329, 1] : Fin 2 → Nat) a * (S8x128.size a - 1) < S106528x128.size a)
theorem k0_off18_inb : ∀ (v445_r0 : BitVec 32) (k0_hw18 : k0_chk18 v445_r0), ∀ (r : Fin 2), ∀ a, S8x128.size a = 0 ∨ (k0_off18 v445_r0 (BitVec.ofNat 32 (26632 * r.val))) a + (![3329, 1] : Fin 2 → Nat) a * (S8x128.size a - 1) < S106528x128.size a := fun v445_r0 k0_hw18 r => k0_hw18 r

def k0_off19 (v458_r0 : BitVec 32) (c0_i32_336_r0 : BitVec 32) : Fin 2 → Nat :=
  let c0_i32_333_r0 : BitVec 32 := 0#32
  let v459_r0 : BitVec 32 := Scalar.addi v458_r0 c0_i32_333_r0
  let v461_r0 : BitVec 32 := Scalar.addi v459_r0 c0_i32_336_r0
  let v462_r0 : Index := Scalar.indexCast v461_r0
  let c0_337_r0 : Index := 0#32
  ![v462_r0.toNat, 0]

def k0_chk19 (v458_r0 : BitVec 32) : Prop :=
  (∀ (r : Fin 2), ∀ a, S8x128.size a = 0 ∨ (k0_off19 v458_r0 (BitVec.ofNat 32 (26632 * r.val))) a + (![3329, 1] : Fin 2 → Nat) a * (S8x128.size a - 1) < S106528x128.size a)
theorem k0_off19_inb : ∀ (v458_r0 : BitVec 32) (k0_hw19 : k0_chk19 v458_r0), ∀ (r : Fin 2), ∀ a, S8x128.size a = 0 ∨ (k0_off19 v458_r0 (BitVec.ofNat 32 (26632 * r.val))) a + (![3329, 1] : Fin 2 → Nat) a * (S8x128.size a - 1) < S106528x128.size a := fun v458_r0 k0_hw19 r => k0_hw19 r

def k0_off20 (v471_r0 : BitVec 32) (c0_i32_344_r0 : BitVec 32) : Fin 2 → Nat :=
  let c0_i32_341_r0 : BitVec 32 := 0#32
  let v472_r0 : BitVec 32 := Scalar.addi v471_r0 c0_i32_341_r0
  let v474_r0 : BitVec 32 := Scalar.addi v472_r0 c0_i32_344_r0
  let v475_r0 : Index := Scalar.indexCast v474_r0
  let c0_345_r0 : Index := 0#32
  ![v475_r0.toNat, 0]

def k0_chk20 (v471_r0 : BitVec 32) : Prop :=
  (∀ (r : Fin 2), ∀ a, S8x128.size a = 0 ∨ (k0_off20 v471_r0 (BitVec.ofNat 32 (26632 * r.val))) a + (![3329, 1] : Fin 2 → Nat) a * (S8x128.size a - 1) < S106528x128.size a)
theorem k0_off20_inb : ∀ (v471_r0 : BitVec 32) (k0_hw20 : k0_chk20 v471_r0), ∀ (r : Fin 2), ∀ a, S8x128.size a = 0 ∨ (k0_off20 v471_r0 (BitVec.ofNat 32 (26632 * r.val))) a + (![3329, 1] : Fin 2 → Nat) a * (S8x128.size a - 1) < S106528x128.size a := fun v471_r0 k0_hw20 r => k0_hw20 r

def k0_off21 (v492_r0 : BitVec 32) (c0_i32_355_r0 : BitVec 32) : Fin 2 → Nat :=
  let c0_i32_352_r0 : BitVec 32 := 0#32
  let v493_r0 : BitVec 32 := Scalar.addi v492_r0 c0_i32_352_r0
  let v495_r0 : BitVec 32 := Scalar.addi v493_r0 c0_i32_355_r0
  let v496_r0 : Index := Scalar.indexCast v495_r0
  let c0_356_r0 : Index := 0#32
  ![v496_r0.toNat, 0]

def k0_chk21 (v492_r0 : BitVec 32) : Prop :=
  (∀ (r : Fin 2), ∀ a, S8x128.size a = 0 ∨ (k0_off21 v492_r0 (BitVec.ofNat 32 (26632 * r.val))) a + (![3329, 1] : Fin 2 → Nat) a * (S8x128.size a - 1) < S106528x128.size a)
theorem k0_off21_inb : ∀ (v492_r0 : BitVec 32) (k0_hw21 : k0_chk21 v492_r0), ∀ (r : Fin 2), ∀ a, S8x128.size a = 0 ∨ (k0_off21 v492_r0 (BitVec.ofNat 32 (26632 * r.val))) a + (![3329, 1] : Fin 2 → Nat) a * (S8x128.size a - 1) < S106528x128.size a := fun v492_r0 k0_hw21 r => k0_hw21 r

def k0_off22 (v505_r0 : BitVec 32) (c0_i32_363_r0 : BitVec 32) : Fin 2 → Nat :=
  let c0_i32_360_r0 : BitVec 32 := 0#32
  let v506_r0 : BitVec 32 := Scalar.addi v505_r0 c0_i32_360_r0
  let v508_r0 : BitVec 32 := Scalar.addi v506_r0 c0_i32_363_r0
  let v509_r0 : Index := Scalar.indexCast v508_r0
  let c0_364_r0 : Index := 0#32
  ![v509_r0.toNat, 0]

def k0_chk22 (v505_r0 : BitVec 32) : Prop :=
  (∀ (r : Fin 2), ∀ a, S8x128.size a = 0 ∨ (k0_off22 v505_r0 (BitVec.ofNat 32 (26632 * r.val))) a + (![3329, 1] : Fin 2 → Nat) a * (S8x128.size a - 1) < S106528x128.size a)
theorem k0_off22_inb : ∀ (v505_r0 : BitVec 32) (k0_hw22 : k0_chk22 v505_r0), ∀ (r : Fin 2), ∀ a, S8x128.size a = 0 ∨ (k0_off22 v505_r0 (BitVec.ofNat 32 (26632 * r.val))) a + (![3329, 1] : Fin 2 → Nat) a * (S8x128.size a - 1) < S106528x128.size a := fun v505_r0 k0_hw22 r => k0_hw22 r

def k0_off23 (v518_r0 : BitVec 32) (c0_i32_371_r0 : BitVec 32) : Fin 2 → Nat :=
  let c0_i32_368_r0 : BitVec 32 := 0#32
  let v519_r0 : BitVec 32 := Scalar.addi v518_r0 c0_i32_368_r0
  let v521_r0 : BitVec 32 := Scalar.addi v519_r0 c0_i32_371_r0
  let v522_r0 : Index := Scalar.indexCast v521_r0
  let c0_372_r0 : Index := 0#32
  ![v522_r0.toNat, 0]

def k0_chk23 (v518_r0 : BitVec 32) : Prop :=
  (∀ (r : Fin 2), ∀ a, S8x128.size a = 0 ∨ (k0_off23 v518_r0 (BitVec.ofNat 32 (26632 * r.val))) a + (![3329, 1] : Fin 2 → Nat) a * (S8x128.size a - 1) < S106528x128.size a)
theorem k0_off23_inb : ∀ (v518_r0 : BitVec 32) (k0_hw23 : k0_chk23 v518_r0), ∀ (r : Fin 2), ∀ a, S8x128.size a = 0 ∨ (k0_off23 v518_r0 (BitVec.ofNat 32 (26632 * r.val))) a + (![3329, 1] : Fin 2 → Nat) a * (S8x128.size a - 1) < S106528x128.size a := fun v518_r0 k0_hw23 r => k0_hw23 r

def k0_off24 (v531_r0 : BitVec 32) (c0_i32_379_r0 : BitVec 32) : Fin 2 → Nat :=
  let c0_i32_376_r0 : BitVec 32 := 0#32
  let v532_r0 : BitVec 32 := Scalar.addi v531_r0 c0_i32_376_r0
  let v534_r0 : BitVec 32 := Scalar.addi v532_r0 c0_i32_379_r0
  let v535_r0 : Index := Scalar.indexCast v534_r0
  let c0_380_r0 : Index := 0#32
  ![v535_r0.toNat, 0]

def k0_chk24 (v531_r0 : BitVec 32) : Prop :=
  (∀ (r : Fin 2), ∀ a, S8x128.size a = 0 ∨ (k0_off24 v531_r0 (BitVec.ofNat 32 (26632 * r.val))) a + (![3329, 1] : Fin 2 → Nat) a * (S8x128.size a - 1) < S106528x128.size a)
theorem k0_off24_inb : ∀ (v531_r0 : BitVec 32) (k0_hw24 : k0_chk24 v531_r0), ∀ (r : Fin 2), ∀ a, S8x128.size a = 0 ∨ (k0_off24 v531_r0 (BitVec.ofNat 32 (26632 * r.val))) a + (![3329, 1] : Fin 2 → Nat) a * (S8x128.size a - 1) < S106528x128.size a := fun v531_r0 k0_hw24 r => k0_hw24 r

def k0_off25 (v552_r0 : BitVec 32) (c0_i32_390_r0 : BitVec 32) : Fin 2 → Nat :=
  let c0_i32_387_r0 : BitVec 32 := 0#32
  let v553_r0 : BitVec 32 := Scalar.addi v552_r0 c0_i32_387_r0
  let v555_r0 : BitVec 32 := Scalar.addi v553_r0 c0_i32_390_r0
  let v556_r0 : Index := Scalar.indexCast v555_r0
  let c0_391_r0 : Index := 0#32
  ![v556_r0.toNat, 0]

def k0_chk25 (v552_r0 : BitVec 32) : Prop :=
  (∀ (r : Fin 2), ∀ a, S8x128.size a = 0 ∨ (k0_off25 v552_r0 (BitVec.ofNat 32 (26632 * r.val))) a + (![3329, 1] : Fin 2 → Nat) a * (S8x128.size a - 1) < S106528x128.size a)
theorem k0_off25_inb : ∀ (v552_r0 : BitVec 32) (k0_hw25 : k0_chk25 v552_r0), ∀ (r : Fin 2), ∀ a, S8x128.size a = 0 ∨ (k0_off25 v552_r0 (BitVec.ofNat 32 (26632 * r.val))) a + (![3329, 1] : Fin 2 → Nat) a * (S8x128.size a - 1) < S106528x128.size a := fun v552_r0 k0_hw25 r => k0_hw25 r

def k0_off26 (v565_r0 : BitVec 32) (c0_i32_398_r0 : BitVec 32) : Fin 2 → Nat :=
  let c0_i32_395_r0 : BitVec 32 := 0#32
  let v566_r0 : BitVec 32 := Scalar.addi v565_r0 c0_i32_395_r0
  let v568_r0 : BitVec 32 := Scalar.addi v566_r0 c0_i32_398_r0
  let v569_r0 : Index := Scalar.indexCast v568_r0
  let c0_399_r0 : Index := 0#32
  ![v569_r0.toNat, 0]

def k0_chk26 (v565_r0 : BitVec 32) : Prop :=
  (∀ (r : Fin 2), ∀ a, S8x128.size a = 0 ∨ (k0_off26 v565_r0 (BitVec.ofNat 32 (26632 * r.val))) a + (![3329, 1] : Fin 2 → Nat) a * (S8x128.size a - 1) < S106528x128.size a)
theorem k0_off26_inb : ∀ (v565_r0 : BitVec 32) (k0_hw26 : k0_chk26 v565_r0), ∀ (r : Fin 2), ∀ a, S8x128.size a = 0 ∨ (k0_off26 v565_r0 (BitVec.ofNat 32 (26632 * r.val))) a + (![3329, 1] : Fin 2 → Nat) a * (S8x128.size a - 1) < S106528x128.size a := fun v565_r0 k0_hw26 r => k0_hw26 r

def k0_off27 (v578_r0 : BitVec 32) (c0_i32_406_r0 : BitVec 32) : Fin 2 → Nat :=
  let c0_i32_403_r0 : BitVec 32 := 0#32
  let v579_r0 : BitVec 32 := Scalar.addi v578_r0 c0_i32_403_r0
  let v581_r0 : BitVec 32 := Scalar.addi v579_r0 c0_i32_406_r0
  let v582_r0 : Index := Scalar.indexCast v581_r0
  let c0_407_r0 : Index := 0#32
  ![v582_r0.toNat, 0]

def k0_chk27 (v578_r0 : BitVec 32) : Prop :=
  (∀ (r : Fin 2), ∀ a, S8x128.size a = 0 ∨ (k0_off27 v578_r0 (BitVec.ofNat 32 (26632 * r.val))) a + (![3329, 1] : Fin 2 → Nat) a * (S8x128.size a - 1) < S106528x128.size a)
theorem k0_off27_inb : ∀ (v578_r0 : BitVec 32) (k0_hw27 : k0_chk27 v578_r0), ∀ (r : Fin 2), ∀ a, S8x128.size a = 0 ∨ (k0_off27 v578_r0 (BitVec.ofNat 32 (26632 * r.val))) a + (![3329, 1] : Fin 2 → Nat) a * (S8x128.size a - 1) < S106528x128.size a := fun v578_r0 k0_hw27 r => k0_hw27 r

def k0_off28 (v591_r0 : BitVec 32) (c0_i32_414_r0 : BitVec 32) : Fin 2 → Nat :=
  let c0_i32_411_r0 : BitVec 32 := 0#32
  let v592_r0 : BitVec 32 := Scalar.addi v591_r0 c0_i32_411_r0
  let v594_r0 : BitVec 32 := Scalar.addi v592_r0 c0_i32_414_r0
  let v595_r0 : Index := Scalar.indexCast v594_r0
  let c0_415_r0 : Index := 0#32
  ![v595_r0.toNat, 0]

def k0_chk28 (v591_r0 : BitVec 32) : Prop :=
  (∀ (r : Fin 2), ∀ a, S8x128.size a = 0 ∨ (k0_off28 v591_r0 (BitVec.ofNat 32 (26632 * r.val))) a + (![3329, 1] : Fin 2 → Nat) a * (S8x128.size a - 1) < S106528x128.size a)
theorem k0_off28_inb : ∀ (v591_r0 : BitVec 32) (k0_hw28 : k0_chk28 v591_r0), ∀ (r : Fin 2), ∀ a, S8x128.size a = 0 ∨ (k0_off28 v591_r0 (BitVec.ofNat 32 (26632 * r.val))) a + (![3329, 1] : Fin 2 → Nat) a * (S8x128.size a - 1) < S106528x128.size a := fun v591_r0 k0_hw28 r => k0_hw28 r

def k0_off29 (v612_r0 : BitVec 32) (c0_i32_425_r0 : BitVec 32) : Fin 2 → Nat :=
  let c0_i32_422_r0 : BitVec 32 := 0#32
  let v613_r0 : BitVec 32 := Scalar.addi v612_r0 c0_i32_422_r0
  let v615_r0 : BitVec 32 := Scalar.addi v613_r0 c0_i32_425_r0
  let v616_r0 : Index := Scalar.indexCast v615_r0
  let c0_426_r0 : Index := 0#32
  ![v616_r0.toNat, 0]

def k0_chk29 (v612_r0 : BitVec 32) : Prop :=
  (∀ (r : Fin 2), ∀ a, S8x128.size a = 0 ∨ (k0_off29 v612_r0 (BitVec.ofNat 32 (26632 * r.val))) a + (![3329, 1] : Fin 2 → Nat) a * (S8x128.size a - 1) < S106528x128.size a)
theorem k0_off29_inb : ∀ (v612_r0 : BitVec 32) (k0_hw29 : k0_chk29 v612_r0), ∀ (r : Fin 2), ∀ a, S8x128.size a = 0 ∨ (k0_off29 v612_r0 (BitVec.ofNat 32 (26632 * r.val))) a + (![3329, 1] : Fin 2 → Nat) a * (S8x128.size a - 1) < S106528x128.size a := fun v612_r0 k0_hw29 r => k0_hw29 r

def k0_off30 (v625_r0 : BitVec 32) (c0_i32_433_r0 : BitVec 32) : Fin 2 → Nat :=
  let c0_i32_430_r0 : BitVec 32 := 0#32
  let v626_r0 : BitVec 32 := Scalar.addi v625_r0 c0_i32_430_r0
  let v628_r0 : BitVec 32 := Scalar.addi v626_r0 c0_i32_433_r0
  let v629_r0 : Index := Scalar.indexCast v628_r0
  let c0_434_r0 : Index := 0#32
  ![v629_r0.toNat, 0]

def k0_chk30 (v625_r0 : BitVec 32) : Prop :=
  (∀ (r : Fin 2), ∀ a, S8x128.size a = 0 ∨ (k0_off30 v625_r0 (BitVec.ofNat 32 (26632 * r.val))) a + (![3329, 1] : Fin 2 → Nat) a * (S8x128.size a - 1) < S106528x128.size a)
theorem k0_off30_inb : ∀ (v625_r0 : BitVec 32) (k0_hw30 : k0_chk30 v625_r0), ∀ (r : Fin 2), ∀ a, S8x128.size a = 0 ∨ (k0_off30 v625_r0 (BitVec.ofNat 32 (26632 * r.val))) a + (![3329, 1] : Fin 2 → Nat) a * (S8x128.size a - 1) < S106528x128.size a := fun v625_r0 k0_hw30 r => k0_hw30 r

def k0_off31 (v638_r0 : BitVec 32) (c0_i32_441_r0 : BitVec 32) : Fin 2 → Nat :=
  let c0_i32_438_r0 : BitVec 32 := 0#32
  let v639_r0 : BitVec 32 := Scalar.addi v638_r0 c0_i32_438_r0
  let v641_r0 : BitVec 32 := Scalar.addi v639_r0 c0_i32_441_r0
  let v642_r0 : Index := Scalar.indexCast v641_r0
  let c0_442_r0 : Index := 0#32
  ![v642_r0.toNat, 0]

def k0_chk31 (v638_r0 : BitVec 32) : Prop :=
  (∀ (r : Fin 2), ∀ a, S8x128.size a = 0 ∨ (k0_off31 v638_r0 (BitVec.ofNat 32 (26632 * r.val))) a + (![3329, 1] : Fin 2 → Nat) a * (S8x128.size a - 1) < S106528x128.size a)
theorem k0_off31_inb : ∀ (v638_r0 : BitVec 32) (k0_hw31 : k0_chk31 v638_r0), ∀ (r : Fin 2), ∀ a, S8x128.size a = 0 ∨ (k0_off31 v638_r0 (BitVec.ofNat 32 (26632 * r.val))) a + (![3329, 1] : Fin 2 → Nat) a * (S8x128.size a - 1) < S106528x128.size a := fun v638_r0 k0_hw31 r => k0_hw31 r

def k0_off32 (v651_r0 : BitVec 32) (c0_i32_449_r0 : BitVec 32) : Fin 2 → Nat :=
  let c0_i32_446_r0 : BitVec 32 := 0#32
  let v652_r0 : BitVec 32 := Scalar.addi v651_r0 c0_i32_446_r0
  let v654_r0 : BitVec 32 := Scalar.addi v652_r0 c0_i32_449_r0
  let v655_r0 : Index := Scalar.indexCast v654_r0
  let c0_450_r0 : Index := 0#32
  ![v655_r0.toNat, 0]

def k0_chk32 (v651_r0 : BitVec 32) : Prop :=
  (∀ (r : Fin 2), ∀ a, S8x128.size a = 0 ∨ (k0_off32 v651_r0 (BitVec.ofNat 32 (26632 * r.val))) a + (![3329, 1] : Fin 2 → Nat) a * (S8x128.size a - 1) < S106528x128.size a)
theorem k0_off32_inb : ∀ (v651_r0 : BitVec 32) (k0_hw32 : k0_chk32 v651_r0), ∀ (r : Fin 2), ∀ a, S8x128.size a = 0 ∨ (k0_off32 v651_r0 (BitVec.ofNat 32 (26632 * r.val))) a + (![3329, 1] : Fin 2 → Nat) a * (S8x128.size a - 1) < S106528x128.size a := fun v651_r0 k0_hw32 r => k0_hw32 r

def k0_off33 (v672_r0 : BitVec 32) (c0_i32_460_r0 : BitVec 32) : Fin 2 → Nat :=
  let c0_i32_457_r0 : BitVec 32 := 0#32
  let v673_r0 : BitVec 32 := Scalar.addi v672_r0 c0_i32_457_r0
  let v675_r0 : BitVec 32 := Scalar.addi v673_r0 c0_i32_460_r0
  let v676_r0 : Index := Scalar.indexCast v675_r0
  let c0_461_r0 : Index := 0#32
  ![v676_r0.toNat, 0]

def k0_chk33 (v672_r0 : BitVec 32) : Prop :=
  (∀ (r : Fin 2), ∀ a, S8x128.size a = 0 ∨ (k0_off33 v672_r0 (BitVec.ofNat 32 (26632 * r.val))) a + (![3329, 1] : Fin 2 → Nat) a * (S8x128.size a - 1) < S106528x128.size a)
theorem k0_off33_inb : ∀ (v672_r0 : BitVec 32) (k0_hw33 : k0_chk33 v672_r0), ∀ (r : Fin 2), ∀ a, S8x128.size a = 0 ∨ (k0_off33 v672_r0 (BitVec.ofNat 32 (26632 * r.val))) a + (![3329, 1] : Fin 2 → Nat) a * (S8x128.size a - 1) < S106528x128.size a := fun v672_r0 k0_hw33 r => k0_hw33 r

def k0_off34 (v685_r0 : BitVec 32) (c0_i32_468_r0 : BitVec 32) : Fin 2 → Nat :=
  let c0_i32_465_r0 : BitVec 32 := 0#32
  let v686_r0 : BitVec 32 := Scalar.addi v685_r0 c0_i32_465_r0
  let v688_r0 : BitVec 32 := Scalar.addi v686_r0 c0_i32_468_r0
  let v689_r0 : Index := Scalar.indexCast v688_r0
  let c0_469_r0 : Index := 0#32
  ![v689_r0.toNat, 0]

def k0_chk34 (v685_r0 : BitVec 32) : Prop :=
  (∀ (r : Fin 2), ∀ a, S8x128.size a = 0 ∨ (k0_off34 v685_r0 (BitVec.ofNat 32 (26632 * r.val))) a + (![3329, 1] : Fin 2 → Nat) a * (S8x128.size a - 1) < S106528x128.size a)
theorem k0_off34_inb : ∀ (v685_r0 : BitVec 32) (k0_hw34 : k0_chk34 v685_r0), ∀ (r : Fin 2), ∀ a, S8x128.size a = 0 ∨ (k0_off34 v685_r0 (BitVec.ofNat 32 (26632 * r.val))) a + (![3329, 1] : Fin 2 → Nat) a * (S8x128.size a - 1) < S106528x128.size a := fun v685_r0 k0_hw34 r => k0_hw34 r

def k0_off35 (v698_r0 : BitVec 32) (c0_i32_476_r0 : BitVec 32) : Fin 2 → Nat :=
  let c0_i32_473_r0 : BitVec 32 := 0#32
  let v699_r0 : BitVec 32 := Scalar.addi v698_r0 c0_i32_473_r0
  let v701_r0 : BitVec 32 := Scalar.addi v699_r0 c0_i32_476_r0
  let v702_r0 : Index := Scalar.indexCast v701_r0
  let c0_477_r0 : Index := 0#32
  ![v702_r0.toNat, 0]

def k0_chk35 (v698_r0 : BitVec 32) : Prop :=
  (∀ (r : Fin 2), ∀ a, S8x128.size a = 0 ∨ (k0_off35 v698_r0 (BitVec.ofNat 32 (26632 * r.val))) a + (![3329, 1] : Fin 2 → Nat) a * (S8x128.size a - 1) < S106528x128.size a)
theorem k0_off35_inb : ∀ (v698_r0 : BitVec 32) (k0_hw35 : k0_chk35 v698_r0), ∀ (r : Fin 2), ∀ a, S8x128.size a = 0 ∨ (k0_off35 v698_r0 (BitVec.ofNat 32 (26632 * r.val))) a + (![3329, 1] : Fin 2 → Nat) a * (S8x128.size a - 1) < S106528x128.size a := fun v698_r0 k0_hw35 r => k0_hw35 r

def k0_off36 (v711_r0 : BitVec 32) (c0_i32_484_r0 : BitVec 32) : Fin 2 → Nat :=
  let c0_i32_481_r0 : BitVec 32 := 0#32
  let v712_r0 : BitVec 32 := Scalar.addi v711_r0 c0_i32_481_r0
  let v714_r0 : BitVec 32 := Scalar.addi v712_r0 c0_i32_484_r0
  let v715_r0 : Index := Scalar.indexCast v714_r0
  let c0_485_r0 : Index := 0#32
  ![v715_r0.toNat, 0]

def k0_chk36 (v711_r0 : BitVec 32) : Prop :=
  (∀ (r : Fin 2), ∀ a, S8x128.size a = 0 ∨ (k0_off36 v711_r0 (BitVec.ofNat 32 (26632 * r.val))) a + (![3329, 1] : Fin 2 → Nat) a * (S8x128.size a - 1) < S106528x128.size a)
theorem k0_off36_inb : ∀ (v711_r0 : BitVec 32) (k0_hw36 : k0_chk36 v711_r0), ∀ (r : Fin 2), ∀ a, S8x128.size a = 0 ∨ (k0_off36 v711_r0 (BitVec.ofNat 32 (26632 * r.val))) a + (![3329, 1] : Fin 2 → Nat) a * (S8x128.size a - 1) < S106528x128.size a := fun v711_r0 k0_hw36 r => k0_hw36 r

def k0_off37 (v732_r0 : BitVec 32) (c0_i32_495_r0 : BitVec 32) : Fin 2 → Nat :=
  let c0_i32_492_r0 : BitVec 32 := 0#32
  let v733_r0 : BitVec 32 := Scalar.addi v732_r0 c0_i32_492_r0
  let v735_r0 : BitVec 32 := Scalar.addi v733_r0 c0_i32_495_r0
  let v736_r0 : Index := Scalar.indexCast v735_r0
  let c0_496_r0 : Index := 0#32
  ![v736_r0.toNat, 0]

def k0_chk37 (v732_r0 : BitVec 32) : Prop :=
  (∀ (r : Fin 2), ∀ a, S8x128.size a = 0 ∨ (k0_off37 v732_r0 (BitVec.ofNat 32 (26632 * r.val))) a + (![3329, 1] : Fin 2 → Nat) a * (S8x128.size a - 1) < S106528x128.size a)
theorem k0_off37_inb : ∀ (v732_r0 : BitVec 32) (k0_hw37 : k0_chk37 v732_r0), ∀ (r : Fin 2), ∀ a, S8x128.size a = 0 ∨ (k0_off37 v732_r0 (BitVec.ofNat 32 (26632 * r.val))) a + (![3329, 1] : Fin 2 → Nat) a * (S8x128.size a - 1) < S106528x128.size a := fun v732_r0 k0_hw37 r => k0_hw37 r

def k0_off38 (v745_r0 : BitVec 32) (c0_i32_503_r0 : BitVec 32) : Fin 2 → Nat :=
  let c0_i32_500_r0 : BitVec 32 := 0#32
  let v746_r0 : BitVec 32 := Scalar.addi v745_r0 c0_i32_500_r0
  let v748_r0 : BitVec 32 := Scalar.addi v746_r0 c0_i32_503_r0
  let v749_r0 : Index := Scalar.indexCast v748_r0
  let c0_504_r0 : Index := 0#32
  ![v749_r0.toNat, 0]

def k0_chk38 (v745_r0 : BitVec 32) : Prop :=
  (∀ (r : Fin 2), ∀ a, S8x128.size a = 0 ∨ (k0_off38 v745_r0 (BitVec.ofNat 32 (26632 * r.val))) a + (![3329, 1] : Fin 2 → Nat) a * (S8x128.size a - 1) < S106528x128.size a)
theorem k0_off38_inb : ∀ (v745_r0 : BitVec 32) (k0_hw38 : k0_chk38 v745_r0), ∀ (r : Fin 2), ∀ a, S8x128.size a = 0 ∨ (k0_off38 v745_r0 (BitVec.ofNat 32 (26632 * r.val))) a + (![3329, 1] : Fin 2 → Nat) a * (S8x128.size a - 1) < S106528x128.size a := fun v745_r0 k0_hw38 r => k0_hw38 r

def k0_off39 (v758_r0 : BitVec 32) (c0_i32_511_r0 : BitVec 32) : Fin 2 → Nat :=
  let c0_i32_508_r0 : BitVec 32 := 0#32
  let v759_r0 : BitVec 32 := Scalar.addi v758_r0 c0_i32_508_r0
  let v761_r0 : BitVec 32 := Scalar.addi v759_r0 c0_i32_511_r0
  let v762_r0 : Index := Scalar.indexCast v761_r0
  let c0_512_r0 : Index := 0#32
  ![v762_r0.toNat, 0]

def k0_chk39 (v758_r0 : BitVec 32) : Prop :=
  (∀ (r : Fin 2), ∀ a, S8x128.size a = 0 ∨ (k0_off39 v758_r0 (BitVec.ofNat 32 (26632 * r.val))) a + (![3329, 1] : Fin 2 → Nat) a * (S8x128.size a - 1) < S106528x128.size a)
theorem k0_off39_inb : ∀ (v758_r0 : BitVec 32) (k0_hw39 : k0_chk39 v758_r0), ∀ (r : Fin 2), ∀ a, S8x128.size a = 0 ∨ (k0_off39 v758_r0 (BitVec.ofNat 32 (26632 * r.val))) a + (![3329, 1] : Fin 2 → Nat) a * (S8x128.size a - 1) < S106528x128.size a := fun v758_r0 k0_hw39 r => k0_hw39 r

def k0_off40 (v771_r0 : BitVec 32) (c0_i32_519_r0 : BitVec 32) : Fin 2 → Nat :=
  let c0_i32_516_r0 : BitVec 32 := 0#32
  let v772_r0 : BitVec 32 := Scalar.addi v771_r0 c0_i32_516_r0
  let v774_r0 : BitVec 32 := Scalar.addi v772_r0 c0_i32_519_r0
  let v775_r0 : Index := Scalar.indexCast v774_r0
  let c0_520_r0 : Index := 0#32
  ![v775_r0.toNat, 0]

def k0_chk40 (v771_r0 : BitVec 32) : Prop :=
  (∀ (r : Fin 2), ∀ a, S8x128.size a = 0 ∨ (k0_off40 v771_r0 (BitVec.ofNat 32 (26632 * r.val))) a + (![3329, 1] : Fin 2 → Nat) a * (S8x128.size a - 1) < S106528x128.size a)
theorem k0_off40_inb : ∀ (v771_r0 : BitVec 32) (k0_hw40 : k0_chk40 v771_r0), ∀ (r : Fin 2), ∀ a, S8x128.size a = 0 ∨ (k0_off40 v771_r0 (BitVec.ofNat 32 (26632 * r.val))) a + (![3329, 1] : Fin 2 → Nat) a * (S8x128.size a - 1) < S106528x128.size a := fun v771_r0 k0_hw40 r => k0_hw40 r

def k0_off41 (v792_r0 : BitVec 32) (c0_i32_530_r0 : BitVec 32) : Fin 2 → Nat :=
  let c0_i32_527_r0 : BitVec 32 := 0#32
  let v793_r0 : BitVec 32 := Scalar.addi v792_r0 c0_i32_527_r0
  let v795_r0 : BitVec 32 := Scalar.addi v793_r0 c0_i32_530_r0
  let v796_r0 : Index := Scalar.indexCast v795_r0
  let c0_531_r0 : Index := 0#32
  ![v796_r0.toNat, 0]

def k0_chk41 (v792_r0 : BitVec 32) : Prop :=
  (∀ (r : Fin 2), ∀ a, S8x128.size a = 0 ∨ (k0_off41 v792_r0 (BitVec.ofNat 32 (26632 * r.val))) a + (![3329, 1] : Fin 2 → Nat) a * (S8x128.size a - 1) < S106528x128.size a)
theorem k0_off41_inb : ∀ (v792_r0 : BitVec 32) (k0_hw41 : k0_chk41 v792_r0), ∀ (r : Fin 2), ∀ a, S8x128.size a = 0 ∨ (k0_off41 v792_r0 (BitVec.ofNat 32 (26632 * r.val))) a + (![3329, 1] : Fin 2 → Nat) a * (S8x128.size a - 1) < S106528x128.size a := fun v792_r0 k0_hw41 r => k0_hw41 r

def k0_off42 (v805_r0 : BitVec 32) (c0_i32_538_r0 : BitVec 32) : Fin 2 → Nat :=
  let c0_i32_535_r0 : BitVec 32 := 0#32
  let v806_r0 : BitVec 32 := Scalar.addi v805_r0 c0_i32_535_r0
  let v808_r0 : BitVec 32 := Scalar.addi v806_r0 c0_i32_538_r0
  let v809_r0 : Index := Scalar.indexCast v808_r0
  let c0_539_r0 : Index := 0#32
  ![v809_r0.toNat, 0]

def k0_chk42 (v805_r0 : BitVec 32) : Prop :=
  (∀ (r : Fin 2), ∀ a, S8x128.size a = 0 ∨ (k0_off42 v805_r0 (BitVec.ofNat 32 (26632 * r.val))) a + (![3329, 1] : Fin 2 → Nat) a * (S8x128.size a - 1) < S106528x128.size a)
theorem k0_off42_inb : ∀ (v805_r0 : BitVec 32) (k0_hw42 : k0_chk42 v805_r0), ∀ (r : Fin 2), ∀ a, S8x128.size a = 0 ∨ (k0_off42 v805_r0 (BitVec.ofNat 32 (26632 * r.val))) a + (![3329, 1] : Fin 2 → Nat) a * (S8x128.size a - 1) < S106528x128.size a := fun v805_r0 k0_hw42 r => k0_hw42 r

def k0_off43 (v818_r0 : BitVec 32) (c0_i32_546_r0 : BitVec 32) : Fin 2 → Nat :=
  let c0_i32_543_r0 : BitVec 32 := 0#32
  let v819_r0 : BitVec 32 := Scalar.addi v818_r0 c0_i32_543_r0
  let v821_r0 : BitVec 32 := Scalar.addi v819_r0 c0_i32_546_r0
  let v822_r0 : Index := Scalar.indexCast v821_r0
  let c0_547_r0 : Index := 0#32
  ![v822_r0.toNat, 0]

def k0_chk43 (v818_r0 : BitVec 32) : Prop :=
  (∀ (r : Fin 2), ∀ a, S8x128.size a = 0 ∨ (k0_off43 v818_r0 (BitVec.ofNat 32 (26632 * r.val))) a + (![3329, 1] : Fin 2 → Nat) a * (S8x128.size a - 1) < S106528x128.size a)
theorem k0_off43_inb : ∀ (v818_r0 : BitVec 32) (k0_hw43 : k0_chk43 v818_r0), ∀ (r : Fin 2), ∀ a, S8x128.size a = 0 ∨ (k0_off43 v818_r0 (BitVec.ofNat 32 (26632 * r.val))) a + (![3329, 1] : Fin 2 → Nat) a * (S8x128.size a - 1) < S106528x128.size a := fun v818_r0 k0_hw43 r => k0_hw43 r

def k0_off44 (v831_r0 : BitVec 32) (c0_i32_554_r0 : BitVec 32) : Fin 2 → Nat :=
  let c0_i32_551_r0 : BitVec 32 := 0#32
  let v832_r0 : BitVec 32 := Scalar.addi v831_r0 c0_i32_551_r0
  let v834_r0 : BitVec 32 := Scalar.addi v832_r0 c0_i32_554_r0
  let v835_r0 : Index := Scalar.indexCast v834_r0
  let c0_555_r0 : Index := 0#32
  ![v835_r0.toNat, 0]

def k0_chk44 (v831_r0 : BitVec 32) : Prop :=
  (∀ (r : Fin 2), ∀ a, S8x128.size a = 0 ∨ (k0_off44 v831_r0 (BitVec.ofNat 32 (26632 * r.val))) a + (![3329, 1] : Fin 2 → Nat) a * (S8x128.size a - 1) < S106528x128.size a)
theorem k0_off44_inb : ∀ (v831_r0 : BitVec 32) (k0_hw44 : k0_chk44 v831_r0), ∀ (r : Fin 2), ∀ a, S8x128.size a = 0 ∨ (k0_off44 v831_r0 (BitVec.ofNat 32 (26632 * r.val))) a + (![3329, 1] : Fin 2 → Nat) a * (S8x128.size a - 1) < S106528x128.size a := fun v831_r0 k0_hw44 r => k0_hw44 r

def k0_off45 (v852_r0 : BitVec 32) (c0_i32_565_r0 : BitVec 32) : Fin 2 → Nat :=
  let c0_i32_562_r0 : BitVec 32 := 0#32
  let v853_r0 : BitVec 32 := Scalar.addi v852_r0 c0_i32_562_r0
  let v855_r0 : BitVec 32 := Scalar.addi v853_r0 c0_i32_565_r0
  let v856_r0 : Index := Scalar.indexCast v855_r0
  let c0_566_r0 : Index := 0#32
  ![v856_r0.toNat, 0]

def k0_chk45 (v852_r0 : BitVec 32) : Prop :=
  (∀ (r : Fin 2), ∀ a, S8x128.size a = 0 ∨ (k0_off45 v852_r0 (BitVec.ofNat 32 (26632 * r.val))) a + (![3329, 1] : Fin 2 → Nat) a * (S8x128.size a - 1) < S106528x128.size a)
theorem k0_off45_inb : ∀ (v852_r0 : BitVec 32) (k0_hw45 : k0_chk45 v852_r0), ∀ (r : Fin 2), ∀ a, S8x128.size a = 0 ∨ (k0_off45 v852_r0 (BitVec.ofNat 32 (26632 * r.val))) a + (![3329, 1] : Fin 2 → Nat) a * (S8x128.size a - 1) < S106528x128.size a := fun v852_r0 k0_hw45 r => k0_hw45 r

def k0_off46 (v865_r0 : BitVec 32) (c0_i32_573_r0 : BitVec 32) : Fin 2 → Nat :=
  let c0_i32_570_r0 : BitVec 32 := 0#32
  let v866_r0 : BitVec 32 := Scalar.addi v865_r0 c0_i32_570_r0
  let v868_r0 : BitVec 32 := Scalar.addi v866_r0 c0_i32_573_r0
  let v869_r0 : Index := Scalar.indexCast v868_r0
  let c0_574_r0 : Index := 0#32
  ![v869_r0.toNat, 0]

def k0_chk46 (v865_r0 : BitVec 32) : Prop :=
  (∀ (r : Fin 2), ∀ a, S8x128.size a = 0 ∨ (k0_off46 v865_r0 (BitVec.ofNat 32 (26632 * r.val))) a + (![3329, 1] : Fin 2 → Nat) a * (S8x128.size a - 1) < S106528x128.size a)
theorem k0_off46_inb : ∀ (v865_r0 : BitVec 32) (k0_hw46 : k0_chk46 v865_r0), ∀ (r : Fin 2), ∀ a, S8x128.size a = 0 ∨ (k0_off46 v865_r0 (BitVec.ofNat 32 (26632 * r.val))) a + (![3329, 1] : Fin 2 → Nat) a * (S8x128.size a - 1) < S106528x128.size a := fun v865_r0 k0_hw46 r => k0_hw46 r

def k0_off47 (v878_r0 : BitVec 32) (c0_i32_581_r0 : BitVec 32) : Fin 2 → Nat :=
  let c0_i32_578_r0 : BitVec 32 := 0#32
  let v879_r0 : BitVec 32 := Scalar.addi v878_r0 c0_i32_578_r0
  let v881_r0 : BitVec 32 := Scalar.addi v879_r0 c0_i32_581_r0
  let v882_r0 : Index := Scalar.indexCast v881_r0
  let c0_582_r0 : Index := 0#32
  ![v882_r0.toNat, 0]

def k0_chk47 (v878_r0 : BitVec 32) : Prop :=
  (∀ (r : Fin 2), ∀ a, S8x128.size a = 0 ∨ (k0_off47 v878_r0 (BitVec.ofNat 32 (26632 * r.val))) a + (![3329, 1] : Fin 2 → Nat) a * (S8x128.size a - 1) < S106528x128.size a)
theorem k0_off47_inb : ∀ (v878_r0 : BitVec 32) (k0_hw47 : k0_chk47 v878_r0), ∀ (r : Fin 2), ∀ a, S8x128.size a = 0 ∨ (k0_off47 v878_r0 (BitVec.ofNat 32 (26632 * r.val))) a + (![3329, 1] : Fin 2 → Nat) a * (S8x128.size a - 1) < S106528x128.size a := fun v878_r0 k0_hw47 r => k0_hw47 r

def k0_off48 (v891_r0 : BitVec 32) (c0_i32_589_r0 : BitVec 32) : Fin 2 → Nat :=
  let c0_i32_586_r0 : BitVec 32 := 0#32
  let v892_r0 : BitVec 32 := Scalar.addi v891_r0 c0_i32_586_r0
  let v894_r0 : BitVec 32 := Scalar.addi v892_r0 c0_i32_589_r0
  let v895_r0 : Index := Scalar.indexCast v894_r0
  let c0_590_r0 : Index := 0#32
  ![v895_r0.toNat, 0]

def k0_chk48 (v891_r0 : BitVec 32) : Prop :=
  (∀ (r : Fin 2), ∀ a, S8x128.size a = 0 ∨ (k0_off48 v891_r0 (BitVec.ofNat 32 (26632 * r.val))) a + (![3329, 1] : Fin 2 → Nat) a * (S8x128.size a - 1) < S106528x128.size a)
theorem k0_off48_inb : ∀ (v891_r0 : BitVec 32) (k0_hw48 : k0_chk48 v891_r0), ∀ (r : Fin 2), ∀ a, S8x128.size a = 0 ∨ (k0_off48 v891_r0 (BitVec.ofNat 32 (26632 * r.val))) a + (![3329, 1] : Fin 2 → Nat) a * (S8x128.size a - 1) < S106528x128.size a := fun v891_r0 k0_hw48 r => k0_hw48 r

def k0_off49 (v912_r0 : BitVec 32) (c0_i32_600_r0 : BitVec 32) : Fin 2 → Nat :=
  let c0_i32_597_r0 : BitVec 32 := 0#32
  let v913_r0 : BitVec 32 := Scalar.addi v912_r0 c0_i32_597_r0
  let v915_r0 : BitVec 32 := Scalar.addi v913_r0 c0_i32_600_r0
  let v916_r0 : Index := Scalar.indexCast v915_r0
  let c0_601_r0 : Index := 0#32
  ![v916_r0.toNat, 0]

def k0_chk49 (v912_r0 : BitVec 32) : Prop :=
  (∀ (r : Fin 2), ∀ a, S8x128.size a = 0 ∨ (k0_off49 v912_r0 (BitVec.ofNat 32 (26632 * r.val))) a + (![3329, 1] : Fin 2 → Nat) a * (S8x128.size a - 1) < S106528x128.size a)
theorem k0_off49_inb : ∀ (v912_r0 : BitVec 32) (k0_hw49 : k0_chk49 v912_r0), ∀ (r : Fin 2), ∀ a, S8x128.size a = 0 ∨ (k0_off49 v912_r0 (BitVec.ofNat 32 (26632 * r.val))) a + (![3329, 1] : Fin 2 → Nat) a * (S8x128.size a - 1) < S106528x128.size a := fun v912_r0 k0_hw49 r => k0_hw49 r

def k0_off50 (v925_r0 : BitVec 32) (c0_i32_608_r0 : BitVec 32) : Fin 2 → Nat :=
  let c0_i32_605_r0 : BitVec 32 := 0#32
  let v926_r0 : BitVec 32 := Scalar.addi v925_r0 c0_i32_605_r0
  let v928_r0 : BitVec 32 := Scalar.addi v926_r0 c0_i32_608_r0
  let v929_r0 : Index := Scalar.indexCast v928_r0
  let c0_609_r0 : Index := 0#32
  ![v929_r0.toNat, 0]

def k0_chk50 (v925_r0 : BitVec 32) : Prop :=
  (∀ (r : Fin 2), ∀ a, S8x128.size a = 0 ∨ (k0_off50 v925_r0 (BitVec.ofNat 32 (26632 * r.val))) a + (![3329, 1] : Fin 2 → Nat) a * (S8x128.size a - 1) < S106528x128.size a)
theorem k0_off50_inb : ∀ (v925_r0 : BitVec 32) (k0_hw50 : k0_chk50 v925_r0), ∀ (r : Fin 2), ∀ a, S8x128.size a = 0 ∨ (k0_off50 v925_r0 (BitVec.ofNat 32 (26632 * r.val))) a + (![3329, 1] : Fin 2 → Nat) a * (S8x128.size a - 1) < S106528x128.size a := fun v925_r0 k0_hw50 r => k0_hw50 r

def k0_off51 (v938_r0 : BitVec 32) (c0_i32_616_r0 : BitVec 32) : Fin 2 → Nat :=
  let c0_i32_613_r0 : BitVec 32 := 0#32
  let v939_r0 : BitVec 32 := Scalar.addi v938_r0 c0_i32_613_r0
  let v941_r0 : BitVec 32 := Scalar.addi v939_r0 c0_i32_616_r0
  let v942_r0 : Index := Scalar.indexCast v941_r0
  let c0_617_r0 : Index := 0#32
  ![v942_r0.toNat, 0]

def k0_chk51 (v938_r0 : BitVec 32) : Prop :=
  (∀ (r : Fin 2), ∀ a, S8x128.size a = 0 ∨ (k0_off51 v938_r0 (BitVec.ofNat 32 (26632 * r.val))) a + (![3329, 1] : Fin 2 → Nat) a * (S8x128.size a - 1) < S106528x128.size a)
theorem k0_off51_inb : ∀ (v938_r0 : BitVec 32) (k0_hw51 : k0_chk51 v938_r0), ∀ (r : Fin 2), ∀ a, S8x128.size a = 0 ∨ (k0_off51 v938_r0 (BitVec.ofNat 32 (26632 * r.val))) a + (![3329, 1] : Fin 2 → Nat) a * (S8x128.size a - 1) < S106528x128.size a := fun v938_r0 k0_hw51 r => k0_hw51 r

def k0_off52 (v951_r0 : BitVec 32) (c0_i32_624_r0 : BitVec 32) : Fin 2 → Nat :=
  let c0_i32_621_r0 : BitVec 32 := 0#32
  let v952_r0 : BitVec 32 := Scalar.addi v951_r0 c0_i32_621_r0
  let v954_r0 : BitVec 32 := Scalar.addi v952_r0 c0_i32_624_r0
  let v955_r0 : Index := Scalar.indexCast v954_r0
  let c0_625_r0 : Index := 0#32
  ![v955_r0.toNat, 0]

def k0_chk52 (v951_r0 : BitVec 32) : Prop :=
  (∀ (r : Fin 2), ∀ a, S8x128.size a = 0 ∨ (k0_off52 v951_r0 (BitVec.ofNat 32 (26632 * r.val))) a + (![3329, 1] : Fin 2 → Nat) a * (S8x128.size a - 1) < S106528x128.size a)
theorem k0_off52_inb : ∀ (v951_r0 : BitVec 32) (k0_hw52 : k0_chk52 v951_r0), ∀ (r : Fin 2), ∀ a, S8x128.size a = 0 ∨ (k0_off52 v951_r0 (BitVec.ofNat 32 (26632 * r.val))) a + (![3329, 1] : Fin 2 → Nat) a * (S8x128.size a - 1) < S106528x128.size a := fun v951_r0 k0_hw52 r => k0_hw52 r

def k0_off53 (v972_r0 : BitVec 32) (c0_i32_635_r0 : BitVec 32) : Fin 2 → Nat :=
  let c0_i32_632_r0 : BitVec 32 := 0#32
  let v973_r0 : BitVec 32 := Scalar.addi v972_r0 c0_i32_632_r0
  let v975_r0 : BitVec 32 := Scalar.addi v973_r0 c0_i32_635_r0
  let v976_r0 : Index := Scalar.indexCast v975_r0
  let c0_636_r0 : Index := 0#32
  ![v976_r0.toNat, 0]

def k0_chk53 (v972_r0 : BitVec 32) : Prop :=
  (∀ (r : Fin 2), ∀ a, S8x128.size a = 0 ∨ (k0_off53 v972_r0 (BitVec.ofNat 32 (26632 * r.val))) a + (![3329, 1] : Fin 2 → Nat) a * (S8x128.size a - 1) < S106528x128.size a)
theorem k0_off53_inb : ∀ (v972_r0 : BitVec 32) (k0_hw53 : k0_chk53 v972_r0), ∀ (r : Fin 2), ∀ a, S8x128.size a = 0 ∨ (k0_off53 v972_r0 (BitVec.ofNat 32 (26632 * r.val))) a + (![3329, 1] : Fin 2 → Nat) a * (S8x128.size a - 1) < S106528x128.size a := fun v972_r0 k0_hw53 r => k0_hw53 r

def k0_off54 (v985_r0 : BitVec 32) (c0_i32_643_r0 : BitVec 32) : Fin 2 → Nat :=
  let c0_i32_640_r0 : BitVec 32 := 0#32
  let v986_r0 : BitVec 32 := Scalar.addi v985_r0 c0_i32_640_r0
  let v988_r0 : BitVec 32 := Scalar.addi v986_r0 c0_i32_643_r0
  let v989_r0 : Index := Scalar.indexCast v988_r0
  let c0_644_r0 : Index := 0#32
  ![v989_r0.toNat, 0]

def k0_chk54 (v985_r0 : BitVec 32) : Prop :=
  (∀ (r : Fin 2), ∀ a, S8x128.size a = 0 ∨ (k0_off54 v985_r0 (BitVec.ofNat 32 (26632 * r.val))) a + (![3329, 1] : Fin 2 → Nat) a * (S8x128.size a - 1) < S106528x128.size a)
theorem k0_off54_inb : ∀ (v985_r0 : BitVec 32) (k0_hw54 : k0_chk54 v985_r0), ∀ (r : Fin 2), ∀ a, S8x128.size a = 0 ∨ (k0_off54 v985_r0 (BitVec.ofNat 32 (26632 * r.val))) a + (![3329, 1] : Fin 2 → Nat) a * (S8x128.size a - 1) < S106528x128.size a := fun v985_r0 k0_hw54 r => k0_hw54 r

def k0_off55 (v998_r0 : BitVec 32) (c0_i32_651_r0 : BitVec 32) : Fin 2 → Nat :=
  let c0_i32_648_r0 : BitVec 32 := 0#32
  let v999_r0 : BitVec 32 := Scalar.addi v998_r0 c0_i32_648_r0
  let v1001_r0 : BitVec 32 := Scalar.addi v999_r0 c0_i32_651_r0
  let v1002_r0 : Index := Scalar.indexCast v1001_r0
  let c0_652_r0 : Index := 0#32
  ![v1002_r0.toNat, 0]

def k0_chk55 (v998_r0 : BitVec 32) : Prop :=
  (∀ (r : Fin 2), ∀ a, S8x128.size a = 0 ∨ (k0_off55 v998_r0 (BitVec.ofNat 32 (26632 * r.val))) a + (![3329, 1] : Fin 2 → Nat) a * (S8x128.size a - 1) < S106528x128.size a)
theorem k0_off55_inb : ∀ (v998_r0 : BitVec 32) (k0_hw55 : k0_chk55 v998_r0), ∀ (r : Fin 2), ∀ a, S8x128.size a = 0 ∨ (k0_off55 v998_r0 (BitVec.ofNat 32 (26632 * r.val))) a + (![3329, 1] : Fin 2 → Nat) a * (S8x128.size a - 1) < S106528x128.size a := fun v998_r0 k0_hw55 r => k0_hw55 r

def k0_off56 (v1011_r0 : BitVec 32) (c0_i32_659_r0 : BitVec 32) : Fin 2 → Nat :=
  let c0_i32_656_r0 : BitVec 32 := 0#32
  let v1012_r0 : BitVec 32 := Scalar.addi v1011_r0 c0_i32_656_r0
  let v1014_r0 : BitVec 32 := Scalar.addi v1012_r0 c0_i32_659_r0
  let v1015_r0 : Index := Scalar.indexCast v1014_r0
  let c0_660_r0 : Index := 0#32
  ![v1015_r0.toNat, 0]

def k0_chk56 (v1011_r0 : BitVec 32) : Prop :=
  (∀ (r : Fin 2), ∀ a, S8x128.size a = 0 ∨ (k0_off56 v1011_r0 (BitVec.ofNat 32 (26632 * r.val))) a + (![3329, 1] : Fin 2 → Nat) a * (S8x128.size a - 1) < S106528x128.size a)
theorem k0_off56_inb : ∀ (v1011_r0 : BitVec 32) (k0_hw56 : k0_chk56 v1011_r0), ∀ (r : Fin 2), ∀ a, S8x128.size a = 0 ∨ (k0_off56 v1011_r0 (BitVec.ofNat 32 (26632 * r.val))) a + (![3329, 1] : Fin 2 → Nat) a * (S8x128.size a - 1) < S106528x128.size a := fun v1011_r0 k0_hw56 r => k0_hw56 r

def k0_off57 (v1032_r0 : BitVec 32) (c0_i32_670_r0 : BitVec 32) : Fin 2 → Nat :=
  let c0_i32_667_r0 : BitVec 32 := 0#32
  let v1033_r0 : BitVec 32 := Scalar.addi v1032_r0 c0_i32_667_r0
  let v1035_r0 : BitVec 32 := Scalar.addi v1033_r0 c0_i32_670_r0
  let v1036_r0 : Index := Scalar.indexCast v1035_r0
  let c0_671_r0 : Index := 0#32
  ![v1036_r0.toNat, 0]

def k0_chk57 (v1032_r0 : BitVec 32) : Prop :=
  (∀ (r : Fin 2), ∀ a, S8x128.size a = 0 ∨ (k0_off57 v1032_r0 (BitVec.ofNat 32 (26632 * r.val))) a + (![3329, 1] : Fin 2 → Nat) a * (S8x128.size a - 1) < S106528x128.size a)
theorem k0_off57_inb : ∀ (v1032_r0 : BitVec 32) (k0_hw57 : k0_chk57 v1032_r0), ∀ (r : Fin 2), ∀ a, S8x128.size a = 0 ∨ (k0_off57 v1032_r0 (BitVec.ofNat 32 (26632 * r.val))) a + (![3329, 1] : Fin 2 → Nat) a * (S8x128.size a - 1) < S106528x128.size a := fun v1032_r0 k0_hw57 r => k0_hw57 r

def k0_off58 (v1045_r0 : BitVec 32) (c0_i32_678_r0 : BitVec 32) : Fin 2 → Nat :=
  let c0_i32_675_r0 : BitVec 32 := 0#32
  let v1046_r0 : BitVec 32 := Scalar.addi v1045_r0 c0_i32_675_r0
  let v1048_r0 : BitVec 32 := Scalar.addi v1046_r0 c0_i32_678_r0
  let v1049_r0 : Index := Scalar.indexCast v1048_r0
  let c0_679_r0 : Index := 0#32
  ![v1049_r0.toNat, 0]

def k0_chk58 (v1045_r0 : BitVec 32) : Prop :=
  (∀ (r : Fin 2), ∀ a, S8x128.size a = 0 ∨ (k0_off58 v1045_r0 (BitVec.ofNat 32 (26632 * r.val))) a + (![3329, 1] : Fin 2 → Nat) a * (S8x128.size a - 1) < S106528x128.size a)
theorem k0_off58_inb : ∀ (v1045_r0 : BitVec 32) (k0_hw58 : k0_chk58 v1045_r0), ∀ (r : Fin 2), ∀ a, S8x128.size a = 0 ∨ (k0_off58 v1045_r0 (BitVec.ofNat 32 (26632 * r.val))) a + (![3329, 1] : Fin 2 → Nat) a * (S8x128.size a - 1) < S106528x128.size a := fun v1045_r0 k0_hw58 r => k0_hw58 r

def k0_off59 (v1058_r0 : BitVec 32) (c0_i32_686_r0 : BitVec 32) : Fin 2 → Nat :=
  let c0_i32_683_r0 : BitVec 32 := 0#32
  let v1059_r0 : BitVec 32 := Scalar.addi v1058_r0 c0_i32_683_r0
  let v1061_r0 : BitVec 32 := Scalar.addi v1059_r0 c0_i32_686_r0
  let v1062_r0 : Index := Scalar.indexCast v1061_r0
  let c0_687_r0 : Index := 0#32
  ![v1062_r0.toNat, 0]

def k0_chk59 (v1058_r0 : BitVec 32) : Prop :=
  (∀ (r : Fin 2), ∀ a, S8x128.size a = 0 ∨ (k0_off59 v1058_r0 (BitVec.ofNat 32 (26632 * r.val))) a + (![3329, 1] : Fin 2 → Nat) a * (S8x128.size a - 1) < S106528x128.size a)
theorem k0_off59_inb : ∀ (v1058_r0 : BitVec 32) (k0_hw59 : k0_chk59 v1058_r0), ∀ (r : Fin 2), ∀ a, S8x128.size a = 0 ∨ (k0_off59 v1058_r0 (BitVec.ofNat 32 (26632 * r.val))) a + (![3329, 1] : Fin 2 → Nat) a * (S8x128.size a - 1) < S106528x128.size a := fun v1058_r0 k0_hw59 r => k0_hw59 r

def k0_off60 (v1071_r0 : BitVec 32) (c0_i32_694_r0 : BitVec 32) : Fin 2 → Nat :=
  let c0_i32_691_r0 : BitVec 32 := 0#32
  let v1072_r0 : BitVec 32 := Scalar.addi v1071_r0 c0_i32_691_r0
  let v1074_r0 : BitVec 32 := Scalar.addi v1072_r0 c0_i32_694_r0
  let v1075_r0 : Index := Scalar.indexCast v1074_r0
  let c0_695_r0 : Index := 0#32
  ![v1075_r0.toNat, 0]

def k0_chk60 (v1071_r0 : BitVec 32) : Prop :=
  (∀ (r : Fin 2), ∀ a, S8x128.size a = 0 ∨ (k0_off60 v1071_r0 (BitVec.ofNat 32 (26632 * r.val))) a + (![3329, 1] : Fin 2 → Nat) a * (S8x128.size a - 1) < S106528x128.size a)
theorem k0_off60_inb : ∀ (v1071_r0 : BitVec 32) (k0_hw60 : k0_chk60 v1071_r0), ∀ (r : Fin 2), ∀ a, S8x128.size a = 0 ∨ (k0_off60 v1071_r0 (BitVec.ofNat 32 (26632 * r.val))) a + (![3329, 1] : Fin 2 → Nat) a * (S8x128.size a - 1) < S106528x128.size a := fun v1071_r0 k0_hw60 r => k0_hw60 r

def k0_off61 (v1092_r0 : BitVec 32) (c0_i32_705_r0 : BitVec 32) : Fin 2 → Nat :=
  let c0_i32_702_r0 : BitVec 32 := 0#32
  let v1093_r0 : BitVec 32 := Scalar.addi v1092_r0 c0_i32_702_r0
  let v1095_r0 : BitVec 32 := Scalar.addi v1093_r0 c0_i32_705_r0
  let v1096_r0 : Index := Scalar.indexCast v1095_r0
  let c0_706_r0 : Index := 0#32
  ![v1096_r0.toNat, 0]

def k0_chk61 (v1092_r0 : BitVec 32) : Prop :=
  (∀ (r : Fin 2), ∀ a, S8x128.size a = 0 ∨ (k0_off61 v1092_r0 (BitVec.ofNat 32 (26632 * r.val))) a + (![3329, 1] : Fin 2 → Nat) a * (S8x128.size a - 1) < S106528x128.size a)
theorem k0_off61_inb : ∀ (v1092_r0 : BitVec 32) (k0_hw61 : k0_chk61 v1092_r0), ∀ (r : Fin 2), ∀ a, S8x128.size a = 0 ∨ (k0_off61 v1092_r0 (BitVec.ofNat 32 (26632 * r.val))) a + (![3329, 1] : Fin 2 → Nat) a * (S8x128.size a - 1) < S106528x128.size a := fun v1092_r0 k0_hw61 r => k0_hw61 r

def k0_off62 (v1105_r0 : BitVec 32) (c0_i32_713_r0 : BitVec 32) : Fin 2 → Nat :=
  let c0_i32_710_r0 : BitVec 32 := 0#32
  let v1106_r0 : BitVec 32 := Scalar.addi v1105_r0 c0_i32_710_r0
  let v1108_r0 : BitVec 32 := Scalar.addi v1106_r0 c0_i32_713_r0
  let v1109_r0 : Index := Scalar.indexCast v1108_r0
  let c0_714_r0 : Index := 0#32
  ![v1109_r0.toNat, 0]

def k0_chk62 (v1105_r0 : BitVec 32) : Prop :=
  (∀ (r : Fin 2), ∀ a, S8x128.size a = 0 ∨ (k0_off62 v1105_r0 (BitVec.ofNat 32 (26632 * r.val))) a + (![3329, 1] : Fin 2 → Nat) a * (S8x128.size a - 1) < S106528x128.size a)
theorem k0_off62_inb : ∀ (v1105_r0 : BitVec 32) (k0_hw62 : k0_chk62 v1105_r0), ∀ (r : Fin 2), ∀ a, S8x128.size a = 0 ∨ (k0_off62 v1105_r0 (BitVec.ofNat 32 (26632 * r.val))) a + (![3329, 1] : Fin 2 → Nat) a * (S8x128.size a - 1) < S106528x128.size a := fun v1105_r0 k0_hw62 r => k0_hw62 r

def k0_off63 (v1118_r0 : BitVec 32) (c0_i32_721_r0 : BitVec 32) : Fin 2 → Nat :=
  let c0_i32_718_r0 : BitVec 32 := 0#32
  let v1119_r0 : BitVec 32 := Scalar.addi v1118_r0 c0_i32_718_r0
  let v1121_r0 : BitVec 32 := Scalar.addi v1119_r0 c0_i32_721_r0
  let v1122_r0 : Index := Scalar.indexCast v1121_r0
  let c0_722_r0 : Index := 0#32
  ![v1122_r0.toNat, 0]

def k0_chk63 (v1118_r0 : BitVec 32) : Prop :=
  (∀ (r : Fin 2), ∀ a, S8x128.size a = 0 ∨ (k0_off63 v1118_r0 (BitVec.ofNat 32 (26632 * r.val))) a + (![3329, 1] : Fin 2 → Nat) a * (S8x128.size a - 1) < S106528x128.size a)
theorem k0_off63_inb : ∀ (v1118_r0 : BitVec 32) (k0_hw63 : k0_chk63 v1118_r0), ∀ (r : Fin 2), ∀ a, S8x128.size a = 0 ∨ (k0_off63 v1118_r0 (BitVec.ofNat 32 (26632 * r.val))) a + (![3329, 1] : Fin 2 → Nat) a * (S8x128.size a - 1) < S106528x128.size a := fun v1118_r0 k0_hw63 r => k0_hw63 r

def k0_off64 (v1131_r0 : BitVec 32) (c0_i32_729_r0 : BitVec 32) : Fin 2 → Nat :=
  let c0_i32_726_r0 : BitVec 32 := 0#32
  let v1132_r0 : BitVec 32 := Scalar.addi v1131_r0 c0_i32_726_r0
  let v1134_r0 : BitVec 32 := Scalar.addi v1132_r0 c0_i32_729_r0
  let v1135_r0 : Index := Scalar.indexCast v1134_r0
  let c0_730_r0 : Index := 0#32
  ![v1135_r0.toNat, 0]

def k0_chk64 (v1131_r0 : BitVec 32) : Prop :=
  (∀ (r : Fin 2), ∀ a, S8x128.size a = 0 ∨ (k0_off64 v1131_r0 (BitVec.ofNat 32 (26632 * r.val))) a + (![3329, 1] : Fin 2 → Nat) a * (S8x128.size a - 1) < S106528x128.size a)
theorem k0_off64_inb : ∀ (v1131_r0 : BitVec 32) (k0_hw64 : k0_chk64 v1131_r0), ∀ (r : Fin 2), ∀ a, S8x128.size a = 0 ∨ (k0_off64 v1131_r0 (BitVec.ofNat 32 (26632 * r.val))) a + (![3329, 1] : Fin 2 → Nat) a * (S8x128.size a - 1) < S106528x128.size a := fun v1131_r0 k0_hw64 r => k0_hw64 r

def k0_off65 (v1152_r0 : BitVec 32) (c0_i32_740_r0 : BitVec 32) : Fin 2 → Nat :=
  let c0_i32_737_r0 : BitVec 32 := 0#32
  let v1153_r0 : BitVec 32 := Scalar.addi v1152_r0 c0_i32_737_r0
  let v1155_r0 : BitVec 32 := Scalar.addi v1153_r0 c0_i32_740_r0
  let v1156_r0 : Index := Scalar.indexCast v1155_r0
  let c0_741_r0 : Index := 0#32
  ![v1156_r0.toNat, 0]

def k0_chk65 (v1152_r0 : BitVec 32) : Prop :=
  (∀ (r : Fin 2), ∀ a, S8x128.size a = 0 ∨ (k0_off65 v1152_r0 (BitVec.ofNat 32 (26632 * r.val))) a + (![3329, 1] : Fin 2 → Nat) a * (S8x128.size a - 1) < S106528x128.size a)
theorem k0_off65_inb : ∀ (v1152_r0 : BitVec 32) (k0_hw65 : k0_chk65 v1152_r0), ∀ (r : Fin 2), ∀ a, S8x128.size a = 0 ∨ (k0_off65 v1152_r0 (BitVec.ofNat 32 (26632 * r.val))) a + (![3329, 1] : Fin 2 → Nat) a * (S8x128.size a - 1) < S106528x128.size a := fun v1152_r0 k0_hw65 r => k0_hw65 r

def k0_off66 (v1165_r0 : BitVec 32) (c0_i32_748_r0 : BitVec 32) : Fin 2 → Nat :=
  let c0_i32_745_r0 : BitVec 32 := 0#32
  let v1166_r0 : BitVec 32 := Scalar.addi v1165_r0 c0_i32_745_r0
  let v1168_r0 : BitVec 32 := Scalar.addi v1166_r0 c0_i32_748_r0
  let v1169_r0 : Index := Scalar.indexCast v1168_r0
  let c0_749_r0 : Index := 0#32
  ![v1169_r0.toNat, 0]

def k0_chk66 (v1165_r0 : BitVec 32) : Prop :=
  (∀ (r : Fin 2), ∀ a, S8x128.size a = 0 ∨ (k0_off66 v1165_r0 (BitVec.ofNat 32 (26632 * r.val))) a + (![3329, 1] : Fin 2 → Nat) a * (S8x128.size a - 1) < S106528x128.size a)
theorem k0_off66_inb : ∀ (v1165_r0 : BitVec 32) (k0_hw66 : k0_chk66 v1165_r0), ∀ (r : Fin 2), ∀ a, S8x128.size a = 0 ∨ (k0_off66 v1165_r0 (BitVec.ofNat 32 (26632 * r.val))) a + (![3329, 1] : Fin 2 → Nat) a * (S8x128.size a - 1) < S106528x128.size a := fun v1165_r0 k0_hw66 r => k0_hw66 r

def k0_off67 (v1178_r0 : BitVec 32) (c0_i32_756_r0 : BitVec 32) : Fin 2 → Nat :=
  let c0_i32_753_r0 : BitVec 32 := 0#32
  let v1179_r0 : BitVec 32 := Scalar.addi v1178_r0 c0_i32_753_r0
  let v1181_r0 : BitVec 32 := Scalar.addi v1179_r0 c0_i32_756_r0
  let v1182_r0 : Index := Scalar.indexCast v1181_r0
  let c0_757_r0 : Index := 0#32
  ![v1182_r0.toNat, 0]

def k0_chk67 (v1178_r0 : BitVec 32) : Prop :=
  (∀ (r : Fin 2), ∀ a, S8x128.size a = 0 ∨ (k0_off67 v1178_r0 (BitVec.ofNat 32 (26632 * r.val))) a + (![3329, 1] : Fin 2 → Nat) a * (S8x128.size a - 1) < S106528x128.size a)
theorem k0_off67_inb : ∀ (v1178_r0 : BitVec 32) (k0_hw67 : k0_chk67 v1178_r0), ∀ (r : Fin 2), ∀ a, S8x128.size a = 0 ∨ (k0_off67 v1178_r0 (BitVec.ofNat 32 (26632 * r.val))) a + (![3329, 1] : Fin 2 → Nat) a * (S8x128.size a - 1) < S106528x128.size a := fun v1178_r0 k0_hw67 r => k0_hw67 r

def k0_off68 (v1191_r0 : BitVec 32) (c0_i32_764_r0 : BitVec 32) : Fin 2 → Nat :=
  let c0_i32_761_r0 : BitVec 32 := 0#32
  let v1192_r0 : BitVec 32 := Scalar.addi v1191_r0 c0_i32_761_r0
  let v1194_r0 : BitVec 32 := Scalar.addi v1192_r0 c0_i32_764_r0
  let v1195_r0 : Index := Scalar.indexCast v1194_r0
  let c0_765_r0 : Index := 0#32
  ![v1195_r0.toNat, 0]

def k0_chk68 (v1191_r0 : BitVec 32) : Prop :=
  (∀ (r : Fin 2), ∀ a, S8x128.size a = 0 ∨ (k0_off68 v1191_r0 (BitVec.ofNat 32 (26632 * r.val))) a + (![3329, 1] : Fin 2 → Nat) a * (S8x128.size a - 1) < S106528x128.size a)
theorem k0_off68_inb : ∀ (v1191_r0 : BitVec 32) (k0_hw68 : k0_chk68 v1191_r0), ∀ (r : Fin 2), ∀ a, S8x128.size a = 0 ∨ (k0_off68 v1191_r0 (BitVec.ofNat 32 (26632 * r.val))) a + (![3329, 1] : Fin 2 → Nat) a * (S8x128.size a - 1) < S106528x128.size a := fun v1191_r0 k0_hw68 r => k0_hw68 r

def k0_off69 (v1212_r0 : BitVec 32) (c0_i32_775_r0 : BitVec 32) : Fin 2 → Nat :=
  let c0_i32_772_r0 : BitVec 32 := 0#32
  let v1213_r0 : BitVec 32 := Scalar.addi v1212_r0 c0_i32_772_r0
  let v1215_r0 : BitVec 32 := Scalar.addi v1213_r0 c0_i32_775_r0
  let v1216_r0 : Index := Scalar.indexCast v1215_r0
  let c0_776_r0 : Index := 0#32
  ![v1216_r0.toNat, 0]

def k0_chk69 (v1212_r0 : BitVec 32) : Prop :=
  (∀ (r : Fin 2), ∀ a, S8x128.size a = 0 ∨ (k0_off69 v1212_r0 (BitVec.ofNat 32 (26632 * r.val))) a + (![3329, 1] : Fin 2 → Nat) a * (S8x128.size a - 1) < S106528x128.size a)
theorem k0_off69_inb : ∀ (v1212_r0 : BitVec 32) (k0_hw69 : k0_chk69 v1212_r0), ∀ (r : Fin 2), ∀ a, S8x128.size a = 0 ∨ (k0_off69 v1212_r0 (BitVec.ofNat 32 (26632 * r.val))) a + (![3329, 1] : Fin 2 → Nat) a * (S8x128.size a - 1) < S106528x128.size a := fun v1212_r0 k0_hw69 r => k0_hw69 r

def k0_off70 (v1225_r0 : BitVec 32) (c0_i32_783_r0 : BitVec 32) : Fin 2 → Nat :=
  let c0_i32_780_r0 : BitVec 32 := 0#32
  let v1226_r0 : BitVec 32 := Scalar.addi v1225_r0 c0_i32_780_r0
  let v1228_r0 : BitVec 32 := Scalar.addi v1226_r0 c0_i32_783_r0
  let v1229_r0 : Index := Scalar.indexCast v1228_r0
  let c0_784_r0 : Index := 0#32
  ![v1229_r0.toNat, 0]

def k0_chk70 (v1225_r0 : BitVec 32) : Prop :=
  (∀ (r : Fin 2), ∀ a, S8x128.size a = 0 ∨ (k0_off70 v1225_r0 (BitVec.ofNat 32 (26632 * r.val))) a + (![3329, 1] : Fin 2 → Nat) a * (S8x128.size a - 1) < S106528x128.size a)
theorem k0_off70_inb : ∀ (v1225_r0 : BitVec 32) (k0_hw70 : k0_chk70 v1225_r0), ∀ (r : Fin 2), ∀ a, S8x128.size a = 0 ∨ (k0_off70 v1225_r0 (BitVec.ofNat 32 (26632 * r.val))) a + (![3329, 1] : Fin 2 → Nat) a * (S8x128.size a - 1) < S106528x128.size a := fun v1225_r0 k0_hw70 r => k0_hw70 r

def k0_off71 (v1238_r0 : BitVec 32) (c0_i32_791_r0 : BitVec 32) : Fin 2 → Nat :=
  let c0_i32_788_r0 : BitVec 32 := 0#32
  let v1239_r0 : BitVec 32 := Scalar.addi v1238_r0 c0_i32_788_r0
  let v1241_r0 : BitVec 32 := Scalar.addi v1239_r0 c0_i32_791_r0
  let v1242_r0 : Index := Scalar.indexCast v1241_r0
  let c0_792_r0 : Index := 0#32
  ![v1242_r0.toNat, 0]

def k0_chk71 (v1238_r0 : BitVec 32) : Prop :=
  (∀ (r : Fin 2), ∀ a, S8x128.size a = 0 ∨ (k0_off71 v1238_r0 (BitVec.ofNat 32 (26632 * r.val))) a + (![3329, 1] : Fin 2 → Nat) a * (S8x128.size a - 1) < S106528x128.size a)
theorem k0_off71_inb : ∀ (v1238_r0 : BitVec 32) (k0_hw71 : k0_chk71 v1238_r0), ∀ (r : Fin 2), ∀ a, S8x128.size a = 0 ∨ (k0_off71 v1238_r0 (BitVec.ofNat 32 (26632 * r.val))) a + (![3329, 1] : Fin 2 → Nat) a * (S8x128.size a - 1) < S106528x128.size a := fun v1238_r0 k0_hw71 r => k0_hw71 r

def k0_off72 (v1251_r0 : BitVec 32) (c0_i32_799_r0 : BitVec 32) : Fin 2 → Nat :=
  let c0_i32_796_r0 : BitVec 32 := 0#32
  let v1252_r0 : BitVec 32 := Scalar.addi v1251_r0 c0_i32_796_r0
  let v1254_r0 : BitVec 32 := Scalar.addi v1252_r0 c0_i32_799_r0
  let v1255_r0 : Index := Scalar.indexCast v1254_r0
  let c0_800_r0 : Index := 0#32
  ![v1255_r0.toNat, 0]

def k0_chk72 (v1251_r0 : BitVec 32) : Prop :=
  (∀ (r : Fin 2), ∀ a, S8x128.size a = 0 ∨ (k0_off72 v1251_r0 (BitVec.ofNat 32 (26632 * r.val))) a + (![3329, 1] : Fin 2 → Nat) a * (S8x128.size a - 1) < S106528x128.size a)
theorem k0_off72_inb : ∀ (v1251_r0 : BitVec 32) (k0_hw72 : k0_chk72 v1251_r0), ∀ (r : Fin 2), ∀ a, S8x128.size a = 0 ∨ (k0_off72 v1251_r0 (BitVec.ofNat 32 (26632 * r.val))) a + (![3329, 1] : Fin 2 → Nat) a * (S8x128.size a - 1) < S106528x128.size a := fun v1251_r0 k0_hw72 r => k0_hw72 r

def k0_off73 (v1272_r0 : BitVec 32) (c0_i32_810_r0 : BitVec 32) : Fin 2 → Nat :=
  let c0_i32_807_r0 : BitVec 32 := 0#32
  let v1273_r0 : BitVec 32 := Scalar.addi v1272_r0 c0_i32_807_r0
  let v1275_r0 : BitVec 32 := Scalar.addi v1273_r0 c0_i32_810_r0
  let v1276_r0 : Index := Scalar.indexCast v1275_r0
  let c0_811_r0 : Index := 0#32
  ![v1276_r0.toNat, 0]

def k0_chk73 (v1272_r0 : BitVec 32) : Prop :=
  (∀ (r : Fin 2), ∀ a, S8x128.size a = 0 ∨ (k0_off73 v1272_r0 (BitVec.ofNat 32 (26632 * r.val))) a + (![3329, 1] : Fin 2 → Nat) a * (S8x128.size a - 1) < S106528x128.size a)
theorem k0_off73_inb : ∀ (v1272_r0 : BitVec 32) (k0_hw73 : k0_chk73 v1272_r0), ∀ (r : Fin 2), ∀ a, S8x128.size a = 0 ∨ (k0_off73 v1272_r0 (BitVec.ofNat 32 (26632 * r.val))) a + (![3329, 1] : Fin 2 → Nat) a * (S8x128.size a - 1) < S106528x128.size a := fun v1272_r0 k0_hw73 r => k0_hw73 r

def k0_off74 (v1285_r0 : BitVec 32) (c0_i32_818_r0 : BitVec 32) : Fin 2 → Nat :=
  let c0_i32_815_r0 : BitVec 32 := 0#32
  let v1286_r0 : BitVec 32 := Scalar.addi v1285_r0 c0_i32_815_r0
  let v1288_r0 : BitVec 32 := Scalar.addi v1286_r0 c0_i32_818_r0
  let v1289_r0 : Index := Scalar.indexCast v1288_r0
  let c0_819_r0 : Index := 0#32
  ![v1289_r0.toNat, 0]

def k0_chk74 (v1285_r0 : BitVec 32) : Prop :=
  (∀ (r : Fin 2), ∀ a, S8x128.size a = 0 ∨ (k0_off74 v1285_r0 (BitVec.ofNat 32 (26632 * r.val))) a + (![3329, 1] : Fin 2 → Nat) a * (S8x128.size a - 1) < S106528x128.size a)
theorem k0_off74_inb : ∀ (v1285_r0 : BitVec 32) (k0_hw74 : k0_chk74 v1285_r0), ∀ (r : Fin 2), ∀ a, S8x128.size a = 0 ∨ (k0_off74 v1285_r0 (BitVec.ofNat 32 (26632 * r.val))) a + (![3329, 1] : Fin 2 → Nat) a * (S8x128.size a - 1) < S106528x128.size a := fun v1285_r0 k0_hw74 r => k0_hw74 r

def k0_off75 (v1298_r0 : BitVec 32) (c0_i32_826_r0 : BitVec 32) : Fin 2 → Nat :=
  let c0_i32_823_r0 : BitVec 32 := 0#32
  let v1299_r0 : BitVec 32 := Scalar.addi v1298_r0 c0_i32_823_r0
  let v1301_r0 : BitVec 32 := Scalar.addi v1299_r0 c0_i32_826_r0
  let v1302_r0 : Index := Scalar.indexCast v1301_r0
  let c0_827_r0 : Index := 0#32
  ![v1302_r0.toNat, 0]

def k0_chk75 (v1298_r0 : BitVec 32) : Prop :=
  (∀ (r : Fin 2), ∀ a, S8x128.size a = 0 ∨ (k0_off75 v1298_r0 (BitVec.ofNat 32 (26632 * r.val))) a + (![3329, 1] : Fin 2 → Nat) a * (S8x128.size a - 1) < S106528x128.size a)
theorem k0_off75_inb : ∀ (v1298_r0 : BitVec 32) (k0_hw75 : k0_chk75 v1298_r0), ∀ (r : Fin 2), ∀ a, S8x128.size a = 0 ∨ (k0_off75 v1298_r0 (BitVec.ofNat 32 (26632 * r.val))) a + (![3329, 1] : Fin 2 → Nat) a * (S8x128.size a - 1) < S106528x128.size a := fun v1298_r0 k0_hw75 r => k0_hw75 r

def k0_off76 (v1311_r0 : BitVec 32) (c0_i32_834_r0 : BitVec 32) : Fin 2 → Nat :=
  let c0_i32_831_r0 : BitVec 32 := 0#32
  let v1312_r0 : BitVec 32 := Scalar.addi v1311_r0 c0_i32_831_r0
  let v1314_r0 : BitVec 32 := Scalar.addi v1312_r0 c0_i32_834_r0
  let v1315_r0 : Index := Scalar.indexCast v1314_r0
  let c0_835_r0 : Index := 0#32
  ![v1315_r0.toNat, 0]

def k0_chk76 (v1311_r0 : BitVec 32) : Prop :=
  (∀ (r : Fin 2), ∀ a, S8x128.size a = 0 ∨ (k0_off76 v1311_r0 (BitVec.ofNat 32 (26632 * r.val))) a + (![3329, 1] : Fin 2 → Nat) a * (S8x128.size a - 1) < S106528x128.size a)
theorem k0_off76_inb : ∀ (v1311_r0 : BitVec 32) (k0_hw76 : k0_chk76 v1311_r0), ∀ (r : Fin 2), ∀ a, S8x128.size a = 0 ∨ (k0_off76 v1311_r0 (BitVec.ofNat 32 (26632 * r.val))) a + (![3329, 1] : Fin 2 → Nat) a * (S8x128.size a - 1) < S106528x128.size a := fun v1311_r0 k0_hw76 r => k0_hw76 r

def k0_off77 (v1332_r0 : BitVec 32) (c0_i32_845_r0 : BitVec 32) : Fin 2 → Nat :=
  let c0_i32_842_r0 : BitVec 32 := 0#32
  let v1333_r0 : BitVec 32 := Scalar.addi v1332_r0 c0_i32_842_r0
  let v1335_r0 : BitVec 32 := Scalar.addi v1333_r0 c0_i32_845_r0
  let v1336_r0 : Index := Scalar.indexCast v1335_r0
  let c0_846_r0 : Index := 0#32
  ![v1336_r0.toNat, 0]

def k0_chk77 (v1332_r0 : BitVec 32) : Prop :=
  (∀ (r : Fin 2), ∀ a, S8x128.size a = 0 ∨ (k0_off77 v1332_r0 (BitVec.ofNat 32 (26632 * r.val))) a + (![3329, 1] : Fin 2 → Nat) a * (S8x128.size a - 1) < S106528x128.size a)
theorem k0_off77_inb : ∀ (v1332_r0 : BitVec 32) (k0_hw77 : k0_chk77 v1332_r0), ∀ (r : Fin 2), ∀ a, S8x128.size a = 0 ∨ (k0_off77 v1332_r0 (BitVec.ofNat 32 (26632 * r.val))) a + (![3329, 1] : Fin 2 → Nat) a * (S8x128.size a - 1) < S106528x128.size a := fun v1332_r0 k0_hw77 r => k0_hw77 r

def k0_off78 (v1345_r0 : BitVec 32) (c0_i32_853_r0 : BitVec 32) : Fin 2 → Nat :=
  let c0_i32_850_r0 : BitVec 32 := 0#32
  let v1346_r0 : BitVec 32 := Scalar.addi v1345_r0 c0_i32_850_r0
  let v1348_r0 : BitVec 32 := Scalar.addi v1346_r0 c0_i32_853_r0
  let v1349_r0 : Index := Scalar.indexCast v1348_r0
  let c0_854_r0 : Index := 0#32
  ![v1349_r0.toNat, 0]

def k0_chk78 (v1345_r0 : BitVec 32) : Prop :=
  (∀ (r : Fin 2), ∀ a, S8x128.size a = 0 ∨ (k0_off78 v1345_r0 (BitVec.ofNat 32 (26632 * r.val))) a + (![3329, 1] : Fin 2 → Nat) a * (S8x128.size a - 1) < S106528x128.size a)
theorem k0_off78_inb : ∀ (v1345_r0 : BitVec 32) (k0_hw78 : k0_chk78 v1345_r0), ∀ (r : Fin 2), ∀ a, S8x128.size a = 0 ∨ (k0_off78 v1345_r0 (BitVec.ofNat 32 (26632 * r.val))) a + (![3329, 1] : Fin 2 → Nat) a * (S8x128.size a - 1) < S106528x128.size a := fun v1345_r0 k0_hw78 r => k0_hw78 r

def k0_off79 (v1358_r0 : BitVec 32) (c0_i32_861_r0 : BitVec 32) : Fin 2 → Nat :=
  let c0_i32_858_r0 : BitVec 32 := 0#32
  let v1359_r0 : BitVec 32 := Scalar.addi v1358_r0 c0_i32_858_r0
  let v1361_r0 : BitVec 32 := Scalar.addi v1359_r0 c0_i32_861_r0
  let v1362_r0 : Index := Scalar.indexCast v1361_r0
  let c0_862_r0 : Index := 0#32
  ![v1362_r0.toNat, 0]

def k0_chk79 (v1358_r0 : BitVec 32) : Prop :=
  (∀ (r : Fin 2), ∀ a, S8x128.size a = 0 ∨ (k0_off79 v1358_r0 (BitVec.ofNat 32 (26632 * r.val))) a + (![3329, 1] : Fin 2 → Nat) a * (S8x128.size a - 1) < S106528x128.size a)
theorem k0_off79_inb : ∀ (v1358_r0 : BitVec 32) (k0_hw79 : k0_chk79 v1358_r0), ∀ (r : Fin 2), ∀ a, S8x128.size a = 0 ∨ (k0_off79 v1358_r0 (BitVec.ofNat 32 (26632 * r.val))) a + (![3329, 1] : Fin 2 → Nat) a * (S8x128.size a - 1) < S106528x128.size a := fun v1358_r0 k0_hw79 r => k0_hw79 r

def k0_off80 (v1371_r0 : BitVec 32) (c0_i32_869_r0 : BitVec 32) : Fin 2 → Nat :=
  let c0_i32_866_r0 : BitVec 32 := 0#32
  let v1372_r0 : BitVec 32 := Scalar.addi v1371_r0 c0_i32_866_r0
  let v1374_r0 : BitVec 32 := Scalar.addi v1372_r0 c0_i32_869_r0
  let v1375_r0 : Index := Scalar.indexCast v1374_r0
  let c0_870_r0 : Index := 0#32
  ![v1375_r0.toNat, 0]

def k0_chk80 (v1371_r0 : BitVec 32) : Prop :=
  (∀ (r : Fin 2), ∀ a, S8x128.size a = 0 ∨ (k0_off80 v1371_r0 (BitVec.ofNat 32 (26632 * r.val))) a + (![3329, 1] : Fin 2 → Nat) a * (S8x128.size a - 1) < S106528x128.size a)
theorem k0_off80_inb : ∀ (v1371_r0 : BitVec 32) (k0_hw80 : k0_chk80 v1371_r0), ∀ (r : Fin 2), ∀ a, S8x128.size a = 0 ∨ (k0_off80 v1371_r0 (BitVec.ofNat 32 (26632 * r.val))) a + (![3329, 1] : Fin 2 → Nat) a * (S8x128.size a - 1) < S106528x128.size a := fun v1371_r0 k0_hw80 r => k0_hw80 r

def k0_off81 (v1392_r0 : BitVec 32) (c0_i32_880_r0 : BitVec 32) : Fin 2 → Nat :=
  let c0_i32_877_r0 : BitVec 32 := 0#32
  let v1393_r0 : BitVec 32 := Scalar.addi v1392_r0 c0_i32_877_r0
  let v1395_r0 : BitVec 32 := Scalar.addi v1393_r0 c0_i32_880_r0
  let v1396_r0 : Index := Scalar.indexCast v1395_r0
  let c0_881_r0 : Index := 0#32
  ![v1396_r0.toNat, 0]

def k0_chk81 (v1392_r0 : BitVec 32) : Prop :=
  (∀ (r : Fin 2), ∀ a, S8x128.size a = 0 ∨ (k0_off81 v1392_r0 (BitVec.ofNat 32 (26632 * r.val))) a + (![3329, 1] : Fin 2 → Nat) a * (S8x128.size a - 1) < S106528x128.size a)
theorem k0_off81_inb : ∀ (v1392_r0 : BitVec 32) (k0_hw81 : k0_chk81 v1392_r0), ∀ (r : Fin 2), ∀ a, S8x128.size a = 0 ∨ (k0_off81 v1392_r0 (BitVec.ofNat 32 (26632 * r.val))) a + (![3329, 1] : Fin 2 → Nat) a * (S8x128.size a - 1) < S106528x128.size a := fun v1392_r0 k0_hw81 r => k0_hw81 r

def k0_off82 (v1405_r0 : BitVec 32) (c0_i32_888_r0 : BitVec 32) : Fin 2 → Nat :=
  let c0_i32_885_r0 : BitVec 32 := 0#32
  let v1406_r0 : BitVec 32 := Scalar.addi v1405_r0 c0_i32_885_r0
  let v1408_r0 : BitVec 32 := Scalar.addi v1406_r0 c0_i32_888_r0
  let v1409_r0 : Index := Scalar.indexCast v1408_r0
  let c0_889_r0 : Index := 0#32
  ![v1409_r0.toNat, 0]

def k0_chk82 (v1405_r0 : BitVec 32) : Prop :=
  (∀ (r : Fin 2), ∀ a, S8x128.size a = 0 ∨ (k0_off82 v1405_r0 (BitVec.ofNat 32 (26632 * r.val))) a + (![3329, 1] : Fin 2 → Nat) a * (S8x128.size a - 1) < S106528x128.size a)
theorem k0_off82_inb : ∀ (v1405_r0 : BitVec 32) (k0_hw82 : k0_chk82 v1405_r0), ∀ (r : Fin 2), ∀ a, S8x128.size a = 0 ∨ (k0_off82 v1405_r0 (BitVec.ofNat 32 (26632 * r.val))) a + (![3329, 1] : Fin 2 → Nat) a * (S8x128.size a - 1) < S106528x128.size a := fun v1405_r0 k0_hw82 r => k0_hw82 r

def k0_off83 (v1418_r0 : BitVec 32) (c0_i32_896_r0 : BitVec 32) : Fin 2 → Nat :=
  let c0_i32_893_r0 : BitVec 32 := 0#32
  let v1419_r0 : BitVec 32 := Scalar.addi v1418_r0 c0_i32_893_r0
  let v1421_r0 : BitVec 32 := Scalar.addi v1419_r0 c0_i32_896_r0
  let v1422_r0 : Index := Scalar.indexCast v1421_r0
  let c0_897_r0 : Index := 0#32
  ![v1422_r0.toNat, 0]

def k0_chk83 (v1418_r0 : BitVec 32) : Prop :=
  (∀ (r : Fin 2), ∀ a, S8x128.size a = 0 ∨ (k0_off83 v1418_r0 (BitVec.ofNat 32 (26632 * r.val))) a + (![3329, 1] : Fin 2 → Nat) a * (S8x128.size a - 1) < S106528x128.size a)
theorem k0_off83_inb : ∀ (v1418_r0 : BitVec 32) (k0_hw83 : k0_chk83 v1418_r0), ∀ (r : Fin 2), ∀ a, S8x128.size a = 0 ∨ (k0_off83 v1418_r0 (BitVec.ofNat 32 (26632 * r.val))) a + (![3329, 1] : Fin 2 → Nat) a * (S8x128.size a - 1) < S106528x128.size a := fun v1418_r0 k0_hw83 r => k0_hw83 r

def k0_off84 (v1431_r0 : BitVec 32) (c0_i32_904_r0 : BitVec 32) : Fin 2 → Nat :=
  let c0_i32_901_r0 : BitVec 32 := 0#32
  let v1432_r0 : BitVec 32 := Scalar.addi v1431_r0 c0_i32_901_r0
  let v1434_r0 : BitVec 32 := Scalar.addi v1432_r0 c0_i32_904_r0
  let v1435_r0 : Index := Scalar.indexCast v1434_r0
  let c0_905_r0 : Index := 0#32
  ![v1435_r0.toNat, 0]

def k0_chk84 (v1431_r0 : BitVec 32) : Prop :=
  (∀ (r : Fin 2), ∀ a, S8x128.size a = 0 ∨ (k0_off84 v1431_r0 (BitVec.ofNat 32 (26632 * r.val))) a + (![3329, 1] : Fin 2 → Nat) a * (S8x128.size a - 1) < S106528x128.size a)
theorem k0_off84_inb : ∀ (v1431_r0 : BitVec 32) (k0_hw84 : k0_chk84 v1431_r0), ∀ (r : Fin 2), ∀ a, S8x128.size a = 0 ∨ (k0_off84 v1431_r0 (BitVec.ofNat 32 (26632 * r.val))) a + (![3329, 1] : Fin 2 → Nat) a * (S8x128.size a - 1) < S106528x128.size a := fun v1431_r0 k0_hw84 r => k0_hw84 r

def k0_off85 (v1452_r0 : BitVec 32) (c0_i32_915_r0 : BitVec 32) : Fin 2 → Nat :=
  let c0_i32_912_r0 : BitVec 32 := 0#32
  let v1453_r0 : BitVec 32 := Scalar.addi v1452_r0 c0_i32_912_r0
  let v1455_r0 : BitVec 32 := Scalar.addi v1453_r0 c0_i32_915_r0
  let v1456_r0 : Index := Scalar.indexCast v1455_r0
  let c0_916_r0 : Index := 0#32
  ![v1456_r0.toNat, 0]

def k0_chk85 (v1452_r0 : BitVec 32) : Prop :=
  (∀ (r : Fin 2), ∀ a, S8x128.size a = 0 ∨ (k0_off85 v1452_r0 (BitVec.ofNat 32 (26632 * r.val))) a + (![3329, 1] : Fin 2 → Nat) a * (S8x128.size a - 1) < S106528x128.size a)
theorem k0_off85_inb : ∀ (v1452_r0 : BitVec 32) (k0_hw85 : k0_chk85 v1452_r0), ∀ (r : Fin 2), ∀ a, S8x128.size a = 0 ∨ (k0_off85 v1452_r0 (BitVec.ofNat 32 (26632 * r.val))) a + (![3329, 1] : Fin 2 → Nat) a * (S8x128.size a - 1) < S106528x128.size a := fun v1452_r0 k0_hw85 r => k0_hw85 r

def k0_off86 (v1465_r0 : BitVec 32) (c0_i32_923_r0 : BitVec 32) : Fin 2 → Nat :=
  let c0_i32_920_r0 : BitVec 32 := 0#32
  let v1466_r0 : BitVec 32 := Scalar.addi v1465_r0 c0_i32_920_r0
  let v1468_r0 : BitVec 32 := Scalar.addi v1466_r0 c0_i32_923_r0
  let v1469_r0 : Index := Scalar.indexCast v1468_r0
  let c0_924_r0 : Index := 0#32
  ![v1469_r0.toNat, 0]

def k0_chk86 (v1465_r0 : BitVec 32) : Prop :=
  (∀ (r : Fin 2), ∀ a, S8x128.size a = 0 ∨ (k0_off86 v1465_r0 (BitVec.ofNat 32 (26632 * r.val))) a + (![3329, 1] : Fin 2 → Nat) a * (S8x128.size a - 1) < S106528x128.size a)
theorem k0_off86_inb : ∀ (v1465_r0 : BitVec 32) (k0_hw86 : k0_chk86 v1465_r0), ∀ (r : Fin 2), ∀ a, S8x128.size a = 0 ∨ (k0_off86 v1465_r0 (BitVec.ofNat 32 (26632 * r.val))) a + (![3329, 1] : Fin 2 → Nat) a * (S8x128.size a - 1) < S106528x128.size a := fun v1465_r0 k0_hw86 r => k0_hw86 r

def k0_off87 (v1478_r0 : BitVec 32) (c0_i32_931_r0 : BitVec 32) : Fin 2 → Nat :=
  let c0_i32_928_r0 : BitVec 32 := 0#32
  let v1479_r0 : BitVec 32 := Scalar.addi v1478_r0 c0_i32_928_r0
  let v1481_r0 : BitVec 32 := Scalar.addi v1479_r0 c0_i32_931_r0
  let v1482_r0 : Index := Scalar.indexCast v1481_r0
  let c0_932_r0 : Index := 0#32
  ![v1482_r0.toNat, 0]

def k0_chk87 (v1478_r0 : BitVec 32) : Prop :=
  (∀ (r : Fin 2), ∀ a, S8x128.size a = 0 ∨ (k0_off87 v1478_r0 (BitVec.ofNat 32 (26632 * r.val))) a + (![3329, 1] : Fin 2 → Nat) a * (S8x128.size a - 1) < S106528x128.size a)
theorem k0_off87_inb : ∀ (v1478_r0 : BitVec 32) (k0_hw87 : k0_chk87 v1478_r0), ∀ (r : Fin 2), ∀ a, S8x128.size a = 0 ∨ (k0_off87 v1478_r0 (BitVec.ofNat 32 (26632 * r.val))) a + (![3329, 1] : Fin 2 → Nat) a * (S8x128.size a - 1) < S106528x128.size a := fun v1478_r0 k0_hw87 r => k0_hw87 r

def k0_off88 (v1491_r0 : BitVec 32) (c0_i32_939_r0 : BitVec 32) : Fin 2 → Nat :=
  let c0_i32_936_r0 : BitVec 32 := 0#32
  let v1492_r0 : BitVec 32 := Scalar.addi v1491_r0 c0_i32_936_r0
  let v1494_r0 : BitVec 32 := Scalar.addi v1492_r0 c0_i32_939_r0
  let v1495_r0 : Index := Scalar.indexCast v1494_r0
  let c0_940_r0 : Index := 0#32
  ![v1495_r0.toNat, 0]

def k0_chk88 (v1491_r0 : BitVec 32) : Prop :=
  (∀ (r : Fin 2), ∀ a, S8x128.size a = 0 ∨ (k0_off88 v1491_r0 (BitVec.ofNat 32 (26632 * r.val))) a + (![3329, 1] : Fin 2 → Nat) a * (S8x128.size a - 1) < S106528x128.size a)
theorem k0_off88_inb : ∀ (v1491_r0 : BitVec 32) (k0_hw88 : k0_chk88 v1491_r0), ∀ (r : Fin 2), ∀ a, S8x128.size a = 0 ∨ (k0_off88 v1491_r0 (BitVec.ofNat 32 (26632 * r.val))) a + (![3329, 1] : Fin 2 → Nat) a * (S8x128.size a - 1) < S106528x128.size a := fun v1491_r0 k0_hw88 r => k0_hw88 r

def k0_off89 (v1512_r0 : BitVec 32) (c0_i32_950_r0 : BitVec 32) : Fin 2 → Nat :=
  let c0_i32_947_r0 : BitVec 32 := 0#32
  let v1513_r0 : BitVec 32 := Scalar.addi v1512_r0 c0_i32_947_r0
  let v1515_r0 : BitVec 32 := Scalar.addi v1513_r0 c0_i32_950_r0
  let v1516_r0 : Index := Scalar.indexCast v1515_r0
  let c0_951_r0 : Index := 0#32
  ![v1516_r0.toNat, 0]

def k0_chk89 (v1512_r0 : BitVec 32) : Prop :=
  (∀ (r : Fin 2), ∀ a, S8x128.size a = 0 ∨ (k0_off89 v1512_r0 (BitVec.ofNat 32 (26632 * r.val))) a + (![3329, 1] : Fin 2 → Nat) a * (S8x128.size a - 1) < S106528x128.size a)
theorem k0_off89_inb : ∀ (v1512_r0 : BitVec 32) (k0_hw89 : k0_chk89 v1512_r0), ∀ (r : Fin 2), ∀ a, S8x128.size a = 0 ∨ (k0_off89 v1512_r0 (BitVec.ofNat 32 (26632 * r.val))) a + (![3329, 1] : Fin 2 → Nat) a * (S8x128.size a - 1) < S106528x128.size a := fun v1512_r0 k0_hw89 r => k0_hw89 r

def k0_off90 (v1525_r0 : BitVec 32) (c0_i32_958_r0 : BitVec 32) : Fin 2 → Nat :=
  let c0_i32_955_r0 : BitVec 32 := 0#32
  let v1526_r0 : BitVec 32 := Scalar.addi v1525_r0 c0_i32_955_r0
  let v1528_r0 : BitVec 32 := Scalar.addi v1526_r0 c0_i32_958_r0
  let v1529_r0 : Index := Scalar.indexCast v1528_r0
  let c0_959_r0 : Index := 0#32
  ![v1529_r0.toNat, 0]

def k0_chk90 (v1525_r0 : BitVec 32) : Prop :=
  (∀ (r : Fin 2), ∀ a, S8x128.size a = 0 ∨ (k0_off90 v1525_r0 (BitVec.ofNat 32 (26632 * r.val))) a + (![3329, 1] : Fin 2 → Nat) a * (S8x128.size a - 1) < S106528x128.size a)
theorem k0_off90_inb : ∀ (v1525_r0 : BitVec 32) (k0_hw90 : k0_chk90 v1525_r0), ∀ (r : Fin 2), ∀ a, S8x128.size a = 0 ∨ (k0_off90 v1525_r0 (BitVec.ofNat 32 (26632 * r.val))) a + (![3329, 1] : Fin 2 → Nat) a * (S8x128.size a - 1) < S106528x128.size a := fun v1525_r0 k0_hw90 r => k0_hw90 r

def k0_off91 (v1538_r0 : BitVec 32) (c0_i32_966_r0 : BitVec 32) : Fin 2 → Nat :=
  let c0_i32_963_r0 : BitVec 32 := 0#32
  let v1539_r0 : BitVec 32 := Scalar.addi v1538_r0 c0_i32_963_r0
  let v1541_r0 : BitVec 32 := Scalar.addi v1539_r0 c0_i32_966_r0
  let v1542_r0 : Index := Scalar.indexCast v1541_r0
  let c0_967_r0 : Index := 0#32
  ![v1542_r0.toNat, 0]

def k0_chk91 (v1538_r0 : BitVec 32) : Prop :=
  (∀ (r : Fin 2), ∀ a, S8x128.size a = 0 ∨ (k0_off91 v1538_r0 (BitVec.ofNat 32 (26632 * r.val))) a + (![3329, 1] : Fin 2 → Nat) a * (S8x128.size a - 1) < S106528x128.size a)
theorem k0_off91_inb : ∀ (v1538_r0 : BitVec 32) (k0_hw91 : k0_chk91 v1538_r0), ∀ (r : Fin 2), ∀ a, S8x128.size a = 0 ∨ (k0_off91 v1538_r0 (BitVec.ofNat 32 (26632 * r.val))) a + (![3329, 1] : Fin 2 → Nat) a * (S8x128.size a - 1) < S106528x128.size a := fun v1538_r0 k0_hw91 r => k0_hw91 r

def k0_off92 (v1551_r0 : BitVec 32) (c0_i32_974_r0 : BitVec 32) : Fin 2 → Nat :=
  let c0_i32_971_r0 : BitVec 32 := 0#32
  let v1552_r0 : BitVec 32 := Scalar.addi v1551_r0 c0_i32_971_r0
  let v1554_r0 : BitVec 32 := Scalar.addi v1552_r0 c0_i32_974_r0
  let v1555_r0 : Index := Scalar.indexCast v1554_r0
  let c0_975_r0 : Index := 0#32
  ![v1555_r0.toNat, 0]

def k0_chk92 (v1551_r0 : BitVec 32) : Prop :=
  (∀ (r : Fin 2), ∀ a, S8x128.size a = 0 ∨ (k0_off92 v1551_r0 (BitVec.ofNat 32 (26632 * r.val))) a + (![3329, 1] : Fin 2 → Nat) a * (S8x128.size a - 1) < S106528x128.size a)
theorem k0_off92_inb : ∀ (v1551_r0 : BitVec 32) (k0_hw92 : k0_chk92 v1551_r0), ∀ (r : Fin 2), ∀ a, S8x128.size a = 0 ∨ (k0_off92 v1551_r0 (BitVec.ofNat 32 (26632 * r.val))) a + (![3329, 1] : Fin 2 → Nat) a * (S8x128.size a - 1) < S106528x128.size a := fun v1551_r0 k0_hw92 r => k0_hw92 r

def k0_off93 (v1572_r0 : BitVec 32) (c0_i32_985_r0 : BitVec 32) : Fin 2 → Nat :=
  let c0_i32_982_r0 : BitVec 32 := 0#32
  let v1573_r0 : BitVec 32 := Scalar.addi v1572_r0 c0_i32_982_r0
  let v1575_r0 : BitVec 32 := Scalar.addi v1573_r0 c0_i32_985_r0
  let v1576_r0 : Index := Scalar.indexCast v1575_r0
  let c0_986_r0 : Index := 0#32
  ![v1576_r0.toNat, 0]

def k0_chk93 (v1572_r0 : BitVec 32) : Prop :=
  (∀ (r : Fin 2), ∀ a, S8x128.size a = 0 ∨ (k0_off93 v1572_r0 (BitVec.ofNat 32 (26632 * r.val))) a + (![3329, 1] : Fin 2 → Nat) a * (S8x128.size a - 1) < S106528x128.size a)
theorem k0_off93_inb : ∀ (v1572_r0 : BitVec 32) (k0_hw93 : k0_chk93 v1572_r0), ∀ (r : Fin 2), ∀ a, S8x128.size a = 0 ∨ (k0_off93 v1572_r0 (BitVec.ofNat 32 (26632 * r.val))) a + (![3329, 1] : Fin 2 → Nat) a * (S8x128.size a - 1) < S106528x128.size a := fun v1572_r0 k0_hw93 r => k0_hw93 r

def k0_off94 (v1585_r0 : BitVec 32) (c0_i32_993_r0 : BitVec 32) : Fin 2 → Nat :=
  let c0_i32_990_r0 : BitVec 32 := 0#32
  let v1586_r0 : BitVec 32 := Scalar.addi v1585_r0 c0_i32_990_r0
  let v1588_r0 : BitVec 32 := Scalar.addi v1586_r0 c0_i32_993_r0
  let v1589_r0 : Index := Scalar.indexCast v1588_r0
  let c0_994_r0 : Index := 0#32
  ![v1589_r0.toNat, 0]

def k0_chk94 (v1585_r0 : BitVec 32) : Prop :=
  (∀ (r : Fin 2), ∀ a, S8x128.size a = 0 ∨ (k0_off94 v1585_r0 (BitVec.ofNat 32 (26632 * r.val))) a + (![3329, 1] : Fin 2 → Nat) a * (S8x128.size a - 1) < S106528x128.size a)
theorem k0_off94_inb : ∀ (v1585_r0 : BitVec 32) (k0_hw94 : k0_chk94 v1585_r0), ∀ (r : Fin 2), ∀ a, S8x128.size a = 0 ∨ (k0_off94 v1585_r0 (BitVec.ofNat 32 (26632 * r.val))) a + (![3329, 1] : Fin 2 → Nat) a * (S8x128.size a - 1) < S106528x128.size a := fun v1585_r0 k0_hw94 r => k0_hw94 r

def k0_off95 (v1598_r0 : BitVec 32) (c0_i32_1001_r0 : BitVec 32) : Fin 2 → Nat :=
  let c0_i32_998_r0 : BitVec 32 := 0#32
  let v1599_r0 : BitVec 32 := Scalar.addi v1598_r0 c0_i32_998_r0
  let v1601_r0 : BitVec 32 := Scalar.addi v1599_r0 c0_i32_1001_r0
  let v1602_r0 : Index := Scalar.indexCast v1601_r0
  let c0_1002_r0 : Index := 0#32
  ![v1602_r0.toNat, 0]

def k0_chk95 (v1598_r0 : BitVec 32) : Prop :=
  (∀ (r : Fin 2), ∀ a, S8x128.size a = 0 ∨ (k0_off95 v1598_r0 (BitVec.ofNat 32 (26632 * r.val))) a + (![3329, 1] : Fin 2 → Nat) a * (S8x128.size a - 1) < S106528x128.size a)
theorem k0_off95_inb : ∀ (v1598_r0 : BitVec 32) (k0_hw95 : k0_chk95 v1598_r0), ∀ (r : Fin 2), ∀ a, S8x128.size a = 0 ∨ (k0_off95 v1598_r0 (BitVec.ofNat 32 (26632 * r.val))) a + (![3329, 1] : Fin 2 → Nat) a * (S8x128.size a - 1) < S106528x128.size a := fun v1598_r0 k0_hw95 r => k0_hw95 r

def k0_off96 (v1611_r0 : BitVec 32) (c0_i32_1009_r0 : BitVec 32) : Fin 2 → Nat :=
  let c0_i32_1006_r0 : BitVec 32 := 0#32
  let v1612_r0 : BitVec 32 := Scalar.addi v1611_r0 c0_i32_1006_r0
  let v1614_r0 : BitVec 32 := Scalar.addi v1612_r0 c0_i32_1009_r0
  let v1615_r0 : Index := Scalar.indexCast v1614_r0
  let c0_1010_r0 : Index := 0#32
  ![v1615_r0.toNat, 0]

def k0_chk96 (v1611_r0 : BitVec 32) : Prop :=
  (∀ (r : Fin 2), ∀ a, S8x128.size a = 0 ∨ (k0_off96 v1611_r0 (BitVec.ofNat 32 (26632 * r.val))) a + (![3329, 1] : Fin 2 → Nat) a * (S8x128.size a - 1) < S106528x128.size a)
theorem k0_off96_inb : ∀ (v1611_r0 : BitVec 32) (k0_hw96 : k0_chk96 v1611_r0), ∀ (r : Fin 2), ∀ a, S8x128.size a = 0 ∨ (k0_off96 v1611_r0 (BitVec.ofNat 32 (26632 * r.val))) a + (![3329, 1] : Fin 2 → Nat) a * (S8x128.size a - 1) < S106528x128.size a := fun v1611_r0 k0_hw96 r => k0_hw96 r

def k0_off97 (v1632_r0 : BitVec 32) (c0_i32_1020_r0 : BitVec 32) : Fin 2 → Nat :=
  let c0_i32_1017_r0 : BitVec 32 := 0#32
  let v1633_r0 : BitVec 32 := Scalar.addi v1632_r0 c0_i32_1017_r0
  let v1635_r0 : BitVec 32 := Scalar.addi v1633_r0 c0_i32_1020_r0
  let v1636_r0 : Index := Scalar.indexCast v1635_r0
  let c0_1021_r0 : Index := 0#32
  ![v1636_r0.toNat, 0]

def k0_chk97 (v1632_r0 : BitVec 32) : Prop :=
  (∀ (r : Fin 2), ∀ a, S8x128.size a = 0 ∨ (k0_off97 v1632_r0 (BitVec.ofNat 32 (26632 * r.val))) a + (![3329, 1] : Fin 2 → Nat) a * (S8x128.size a - 1) < S106528x128.size a)
theorem k0_off97_inb : ∀ (v1632_r0 : BitVec 32) (k0_hw97 : k0_chk97 v1632_r0), ∀ (r : Fin 2), ∀ a, S8x128.size a = 0 ∨ (k0_off97 v1632_r0 (BitVec.ofNat 32 (26632 * r.val))) a + (![3329, 1] : Fin 2 → Nat) a * (S8x128.size a - 1) < S106528x128.size a := fun v1632_r0 k0_hw97 r => k0_hw97 r

def k0_off98 (v1645_r0 : BitVec 32) (c0_i32_1028_r0 : BitVec 32) : Fin 2 → Nat :=
  let c0_i32_1025_r0 : BitVec 32 := 0#32
  let v1646_r0 : BitVec 32 := Scalar.addi v1645_r0 c0_i32_1025_r0
  let v1648_r0 : BitVec 32 := Scalar.addi v1646_r0 c0_i32_1028_r0
  let v1649_r0 : Index := Scalar.indexCast v1648_r0
  let c0_1029_r0 : Index := 0#32
  ![v1649_r0.toNat, 0]

def k0_chk98 (v1645_r0 : BitVec 32) : Prop :=
  (∀ (r : Fin 2), ∀ a, S8x128.size a = 0 ∨ (k0_off98 v1645_r0 (BitVec.ofNat 32 (26632 * r.val))) a + (![3329, 1] : Fin 2 → Nat) a * (S8x128.size a - 1) < S106528x128.size a)
theorem k0_off98_inb : ∀ (v1645_r0 : BitVec 32) (k0_hw98 : k0_chk98 v1645_r0), ∀ (r : Fin 2), ∀ a, S8x128.size a = 0 ∨ (k0_off98 v1645_r0 (BitVec.ofNat 32 (26632 * r.val))) a + (![3329, 1] : Fin 2 → Nat) a * (S8x128.size a - 1) < S106528x128.size a := fun v1645_r0 k0_hw98 r => k0_hw98 r

def k0_off99 (v1658_r0 : BitVec 32) (c0_i32_1036_r0 : BitVec 32) : Fin 2 → Nat :=
  let c0_i32_1033_r0 : BitVec 32 := 0#32
  let v1659_r0 : BitVec 32 := Scalar.addi v1658_r0 c0_i32_1033_r0
  let v1661_r0 : BitVec 32 := Scalar.addi v1659_r0 c0_i32_1036_r0
  let v1662_r0 : Index := Scalar.indexCast v1661_r0
  let c0_1037_r0 : Index := 0#32
  ![v1662_r0.toNat, 0]

def k0_chk99 (v1658_r0 : BitVec 32) : Prop :=
  (∀ (r : Fin 2), ∀ a, S8x128.size a = 0 ∨ (k0_off99 v1658_r0 (BitVec.ofNat 32 (26632 * r.val))) a + (![3329, 1] : Fin 2 → Nat) a * (S8x128.size a - 1) < S106528x128.size a)
theorem k0_off99_inb : ∀ (v1658_r0 : BitVec 32) (k0_hw99 : k0_chk99 v1658_r0), ∀ (r : Fin 2), ∀ a, S8x128.size a = 0 ∨ (k0_off99 v1658_r0 (BitVec.ofNat 32 (26632 * r.val))) a + (![3329, 1] : Fin 2 → Nat) a * (S8x128.size a - 1) < S106528x128.size a := fun v1658_r0 k0_hw99 r => k0_hw99 r

def k0_off100 (v1671_r0 : BitVec 32) (c0_i32_1044_r0 : BitVec 32) : Fin 2 → Nat :=
  let c0_i32_1041_r0 : BitVec 32 := 0#32
  let v1672_r0 : BitVec 32 := Scalar.addi v1671_r0 c0_i32_1041_r0
  let v1674_r0 : BitVec 32 := Scalar.addi v1672_r0 c0_i32_1044_r0
  let v1675_r0 : Index := Scalar.indexCast v1674_r0
  let c0_1045_r0 : Index := 0#32
  ![v1675_r0.toNat, 0]

def k0_chk100 (v1671_r0 : BitVec 32) : Prop :=
  (∀ (r : Fin 2), ∀ a, S8x128.size a = 0 ∨ (k0_off100 v1671_r0 (BitVec.ofNat 32 (26632 * r.val))) a + (![3329, 1] : Fin 2 → Nat) a * (S8x128.size a - 1) < S106528x128.size a)
theorem k0_off100_inb : ∀ (v1671_r0 : BitVec 32) (k0_hw100 : k0_chk100 v1671_r0), ∀ (r : Fin 2), ∀ a, S8x128.size a = 0 ∨ (k0_off100 v1671_r0 (BitVec.ofNat 32 (26632 * r.val))) a + (![3329, 1] : Fin 2 → Nat) a * (S8x128.size a - 1) < S106528x128.size a := fun v1671_r0 k0_hw100 r => k0_hw100 r

def k0_off101 (v1692_r0 : BitVec 32) (c0_i32_1055_r0 : BitVec 32) : Fin 2 → Nat :=
  let c0_i32_1052_r0 : BitVec 32 := 0#32
  let v1693_r0 : BitVec 32 := Scalar.addi v1692_r0 c0_i32_1052_r0
  let v1695_r0 : BitVec 32 := Scalar.addi v1693_r0 c0_i32_1055_r0
  let v1696_r0 : Index := Scalar.indexCast v1695_r0
  let c0_1056_r0 : Index := 0#32
  ![v1696_r0.toNat, 0]

def k0_chk101 (v1692_r0 : BitVec 32) : Prop :=
  (∀ (r : Fin 2), ∀ a, S8x128.size a = 0 ∨ (k0_off101 v1692_r0 (BitVec.ofNat 32 (26632 * r.val))) a + (![3329, 1] : Fin 2 → Nat) a * (S8x128.size a - 1) < S106528x128.size a)
theorem k0_off101_inb : ∀ (v1692_r0 : BitVec 32) (k0_hw101 : k0_chk101 v1692_r0), ∀ (r : Fin 2), ∀ a, S8x128.size a = 0 ∨ (k0_off101 v1692_r0 (BitVec.ofNat 32 (26632 * r.val))) a + (![3329, 1] : Fin 2 → Nat) a * (S8x128.size a - 1) < S106528x128.size a := fun v1692_r0 k0_hw101 r => k0_hw101 r

def k0_off102 (v1705_r0 : BitVec 32) (c0_i32_1063_r0 : BitVec 32) : Fin 2 → Nat :=
  let c0_i32_1060_r0 : BitVec 32 := 0#32
  let v1706_r0 : BitVec 32 := Scalar.addi v1705_r0 c0_i32_1060_r0
  let v1708_r0 : BitVec 32 := Scalar.addi v1706_r0 c0_i32_1063_r0
  let v1709_r0 : Index := Scalar.indexCast v1708_r0
  let c0_1064_r0 : Index := 0#32
  ![v1709_r0.toNat, 0]

def k0_chk102 (v1705_r0 : BitVec 32) : Prop :=
  (∀ (r : Fin 2), ∀ a, S8x128.size a = 0 ∨ (k0_off102 v1705_r0 (BitVec.ofNat 32 (26632 * r.val))) a + (![3329, 1] : Fin 2 → Nat) a * (S8x128.size a - 1) < S106528x128.size a)
theorem k0_off102_inb : ∀ (v1705_r0 : BitVec 32) (k0_hw102 : k0_chk102 v1705_r0), ∀ (r : Fin 2), ∀ a, S8x128.size a = 0 ∨ (k0_off102 v1705_r0 (BitVec.ofNat 32 (26632 * r.val))) a + (![3329, 1] : Fin 2 → Nat) a * (S8x128.size a - 1) < S106528x128.size a := fun v1705_r0 k0_hw102 r => k0_hw102 r

def k0_off103 (v1718_r0 : BitVec 32) (c0_i32_1071_r0 : BitVec 32) : Fin 2 → Nat :=
  let c0_i32_1068_r0 : BitVec 32 := 0#32
  let v1719_r0 : BitVec 32 := Scalar.addi v1718_r0 c0_i32_1068_r0
  let v1721_r0 : BitVec 32 := Scalar.addi v1719_r0 c0_i32_1071_r0
  let v1722_r0 : Index := Scalar.indexCast v1721_r0
  let c0_1072_r0 : Index := 0#32
  ![v1722_r0.toNat, 0]

def k0_chk103 (v1718_r0 : BitVec 32) : Prop :=
  (∀ (r : Fin 2), ∀ a, S8x128.size a = 0 ∨ (k0_off103 v1718_r0 (BitVec.ofNat 32 (26632 * r.val))) a + (![3329, 1] : Fin 2 → Nat) a * (S8x128.size a - 1) < S106528x128.size a)
theorem k0_off103_inb : ∀ (v1718_r0 : BitVec 32) (k0_hw103 : k0_chk103 v1718_r0), ∀ (r : Fin 2), ∀ a, S8x128.size a = 0 ∨ (k0_off103 v1718_r0 (BitVec.ofNat 32 (26632 * r.val))) a + (![3329, 1] : Fin 2 → Nat) a * (S8x128.size a - 1) < S106528x128.size a := fun v1718_r0 k0_hw103 r => k0_hw103 r

def k0_off104 (v1731_r0 : BitVec 32) (c0_i32_1079_r0 : BitVec 32) : Fin 2 → Nat :=
  let c0_i32_1076_r0 : BitVec 32 := 0#32
  let v1732_r0 : BitVec 32 := Scalar.addi v1731_r0 c0_i32_1076_r0
  let v1734_r0 : BitVec 32 := Scalar.addi v1732_r0 c0_i32_1079_r0
  let v1735_r0 : Index := Scalar.indexCast v1734_r0
  let c0_1080_r0 : Index := 0#32
  ![v1735_r0.toNat, 0]

def k0_chk104 (v1731_r0 : BitVec 32) : Prop :=
  (∀ (r : Fin 2), ∀ a, S8x128.size a = 0 ∨ (k0_off104 v1731_r0 (BitVec.ofNat 32 (26632 * r.val))) a + (![3329, 1] : Fin 2 → Nat) a * (S8x128.size a - 1) < S106528x128.size a)
theorem k0_off104_inb : ∀ (v1731_r0 : BitVec 32) (k0_hw104 : k0_chk104 v1731_r0), ∀ (r : Fin 2), ∀ a, S8x128.size a = 0 ∨ (k0_off104 v1731_r0 (BitVec.ofNat 32 (26632 * r.val))) a + (![3329, 1] : Fin 2 → Nat) a * (S8x128.size a - 1) < S106528x128.size a := fun v1731_r0 k0_hw104 r => k0_hw104 r

def k0_off105 (v1752_r0 : BitVec 32) (c0_i32_1090_r0 : BitVec 32) : Fin 2 → Nat :=
  let c0_i32_1087_r0 : BitVec 32 := 0#32
  let v1753_r0 : BitVec 32 := Scalar.addi v1752_r0 c0_i32_1087_r0
  let v1755_r0 : BitVec 32 := Scalar.addi v1753_r0 c0_i32_1090_r0
  let v1756_r0 : Index := Scalar.indexCast v1755_r0
  let c0_1091_r0 : Index := 0#32
  ![v1756_r0.toNat, 0]

def k0_chk105 (v1752_r0 : BitVec 32) : Prop :=
  (∀ (r : Fin 2), ∀ a, S8x128.size a = 0 ∨ (k0_off105 v1752_r0 (BitVec.ofNat 32 (26632 * r.val))) a + (![3329, 1] : Fin 2 → Nat) a * (S8x128.size a - 1) < S106528x128.size a)
theorem k0_off105_inb : ∀ (v1752_r0 : BitVec 32) (k0_hw105 : k0_chk105 v1752_r0), ∀ (r : Fin 2), ∀ a, S8x128.size a = 0 ∨ (k0_off105 v1752_r0 (BitVec.ofNat 32 (26632 * r.val))) a + (![3329, 1] : Fin 2 → Nat) a * (S8x128.size a - 1) < S106528x128.size a := fun v1752_r0 k0_hw105 r => k0_hw105 r

def k0_off106 (v1765_r0 : BitVec 32) (c0_i32_1098_r0 : BitVec 32) : Fin 2 → Nat :=
  let c0_i32_1095_r0 : BitVec 32 := 0#32
  let v1766_r0 : BitVec 32 := Scalar.addi v1765_r0 c0_i32_1095_r0
  let v1768_r0 : BitVec 32 := Scalar.addi v1766_r0 c0_i32_1098_r0
  let v1769_r0 : Index := Scalar.indexCast v1768_r0
  let c0_1099_r0 : Index := 0#32
  ![v1769_r0.toNat, 0]

def k0_chk106 (v1765_r0 : BitVec 32) : Prop :=
  (∀ (r : Fin 2), ∀ a, S8x128.size a = 0 ∨ (k0_off106 v1765_r0 (BitVec.ofNat 32 (26632 * r.val))) a + (![3329, 1] : Fin 2 → Nat) a * (S8x128.size a - 1) < S106528x128.size a)
theorem k0_off106_inb : ∀ (v1765_r0 : BitVec 32) (k0_hw106 : k0_chk106 v1765_r0), ∀ (r : Fin 2), ∀ a, S8x128.size a = 0 ∨ (k0_off106 v1765_r0 (BitVec.ofNat 32 (26632 * r.val))) a + (![3329, 1] : Fin 2 → Nat) a * (S8x128.size a - 1) < S106528x128.size a := fun v1765_r0 k0_hw106 r => k0_hw106 r

def k0_off107 (v1778_r0 : BitVec 32) (c0_i32_1106_r0 : BitVec 32) : Fin 2 → Nat :=
  let c0_i32_1103_r0 : BitVec 32 := 0#32
  let v1779_r0 : BitVec 32 := Scalar.addi v1778_r0 c0_i32_1103_r0
  let v1781_r0 : BitVec 32 := Scalar.addi v1779_r0 c0_i32_1106_r0
  let v1782_r0 : Index := Scalar.indexCast v1781_r0
  let c0_1107_r0 : Index := 0#32
  ![v1782_r0.toNat, 0]

def k0_chk107 (v1778_r0 : BitVec 32) : Prop :=
  (∀ (r : Fin 2), ∀ a, S8x128.size a = 0 ∨ (k0_off107 v1778_r0 (BitVec.ofNat 32 (26632 * r.val))) a + (![3329, 1] : Fin 2 → Nat) a * (S8x128.size a - 1) < S106528x128.size a)
theorem k0_off107_inb : ∀ (v1778_r0 : BitVec 32) (k0_hw107 : k0_chk107 v1778_r0), ∀ (r : Fin 2), ∀ a, S8x128.size a = 0 ∨ (k0_off107 v1778_r0 (BitVec.ofNat 32 (26632 * r.val))) a + (![3329, 1] : Fin 2 → Nat) a * (S8x128.size a - 1) < S106528x128.size a := fun v1778_r0 k0_hw107 r => k0_hw107 r

def k0_off108 (v1791_r0 : BitVec 32) (c0_i32_1114_r0 : BitVec 32) : Fin 2 → Nat :=
  let c0_i32_1111_r0 : BitVec 32 := 0#32
  let v1792_r0 : BitVec 32 := Scalar.addi v1791_r0 c0_i32_1111_r0
  let v1794_r0 : BitVec 32 := Scalar.addi v1792_r0 c0_i32_1114_r0
  let v1795_r0 : Index := Scalar.indexCast v1794_r0
  let c0_1115_r0 : Index := 0#32
  ![v1795_r0.toNat, 0]

def k0_chk108 (v1791_r0 : BitVec 32) : Prop :=
  (∀ (r : Fin 2), ∀ a, S8x128.size a = 0 ∨ (k0_off108 v1791_r0 (BitVec.ofNat 32 (26632 * r.val))) a + (![3329, 1] : Fin 2 → Nat) a * (S8x128.size a - 1) < S106528x128.size a)
theorem k0_off108_inb : ∀ (v1791_r0 : BitVec 32) (k0_hw108 : k0_chk108 v1791_r0), ∀ (r : Fin 2), ∀ a, S8x128.size a = 0 ∨ (k0_off108 v1791_r0 (BitVec.ofNat 32 (26632 * r.val))) a + (![3329, 1] : Fin 2 → Nat) a * (S8x128.size a - 1) < S106528x128.size a := fun v1791_r0 k0_hw108 r => k0_hw108 r

def k0_off109 (v1812_r0 : BitVec 32) (c0_i32_1125_r0 : BitVec 32) : Fin 2 → Nat :=
  let c0_i32_1122_r0 : BitVec 32 := 0#32
  let v1813_r0 : BitVec 32 := Scalar.addi v1812_r0 c0_i32_1122_r0
  let v1815_r0 : BitVec 32 := Scalar.addi v1813_r0 c0_i32_1125_r0
  let v1816_r0 : Index := Scalar.indexCast v1815_r0
  let c0_1126_r0 : Index := 0#32
  ![v1816_r0.toNat, 0]

def k0_chk109 (v1812_r0 : BitVec 32) : Prop :=
  (∀ (r : Fin 2), ∀ a, S8x128.size a = 0 ∨ (k0_off109 v1812_r0 (BitVec.ofNat 32 (26632 * r.val))) a + (![3329, 1] : Fin 2 → Nat) a * (S8x128.size a - 1) < S106528x128.size a)
theorem k0_off109_inb : ∀ (v1812_r0 : BitVec 32) (k0_hw109 : k0_chk109 v1812_r0), ∀ (r : Fin 2), ∀ a, S8x128.size a = 0 ∨ (k0_off109 v1812_r0 (BitVec.ofNat 32 (26632 * r.val))) a + (![3329, 1] : Fin 2 → Nat) a * (S8x128.size a - 1) < S106528x128.size a := fun v1812_r0 k0_hw109 r => k0_hw109 r

def k0_off110 (v1825_r0 : BitVec 32) (c0_i32_1133_r0 : BitVec 32) : Fin 2 → Nat :=
  let c0_i32_1130_r0 : BitVec 32 := 0#32
  let v1826_r0 : BitVec 32 := Scalar.addi v1825_r0 c0_i32_1130_r0
  let v1828_r0 : BitVec 32 := Scalar.addi v1826_r0 c0_i32_1133_r0
  let v1829_r0 : Index := Scalar.indexCast v1828_r0
  let c0_1134_r0 : Index := 0#32
  ![v1829_r0.toNat, 0]

def k0_chk110 (v1825_r0 : BitVec 32) : Prop :=
  (∀ (r : Fin 2), ∀ a, S8x128.size a = 0 ∨ (k0_off110 v1825_r0 (BitVec.ofNat 32 (26632 * r.val))) a + (![3329, 1] : Fin 2 → Nat) a * (S8x128.size a - 1) < S106528x128.size a)
theorem k0_off110_inb : ∀ (v1825_r0 : BitVec 32) (k0_hw110 : k0_chk110 v1825_r0), ∀ (r : Fin 2), ∀ a, S8x128.size a = 0 ∨ (k0_off110 v1825_r0 (BitVec.ofNat 32 (26632 * r.val))) a + (![3329, 1] : Fin 2 → Nat) a * (S8x128.size a - 1) < S106528x128.size a := fun v1825_r0 k0_hw110 r => k0_hw110 r

def k0_off111 (v1838_r0 : BitVec 32) (c0_i32_1141_r0 : BitVec 32) : Fin 2 → Nat :=
  let c0_i32_1138_r0 : BitVec 32 := 0#32
  let v1839_r0 : BitVec 32 := Scalar.addi v1838_r0 c0_i32_1138_r0
  let v1841_r0 : BitVec 32 := Scalar.addi v1839_r0 c0_i32_1141_r0
  let v1842_r0 : Index := Scalar.indexCast v1841_r0
  let c0_1142_r0 : Index := 0#32
  ![v1842_r0.toNat, 0]

def k0_chk111 (v1838_r0 : BitVec 32) : Prop :=
  (∀ (r : Fin 2), ∀ a, S8x128.size a = 0 ∨ (k0_off111 v1838_r0 (BitVec.ofNat 32 (26632 * r.val))) a + (![3329, 1] : Fin 2 → Nat) a * (S8x128.size a - 1) < S106528x128.size a)
theorem k0_off111_inb : ∀ (v1838_r0 : BitVec 32) (k0_hw111 : k0_chk111 v1838_r0), ∀ (r : Fin 2), ∀ a, S8x128.size a = 0 ∨ (k0_off111 v1838_r0 (BitVec.ofNat 32 (26632 * r.val))) a + (![3329, 1] : Fin 2 → Nat) a * (S8x128.size a - 1) < S106528x128.size a := fun v1838_r0 k0_hw111 r => k0_hw111 r

def k0_off112 (v1851_r0 : BitVec 32) (c0_i32_1149_r0 : BitVec 32) : Fin 2 → Nat :=
  let c0_i32_1146_r0 : BitVec 32 := 0#32
  let v1852_r0 : BitVec 32 := Scalar.addi v1851_r0 c0_i32_1146_r0
  let v1854_r0 : BitVec 32 := Scalar.addi v1852_r0 c0_i32_1149_r0
  let v1855_r0 : Index := Scalar.indexCast v1854_r0
  let c0_1150_r0 : Index := 0#32
  ![v1855_r0.toNat, 0]

def k0_chk112 (v1851_r0 : BitVec 32) : Prop :=
  (∀ (r : Fin 2), ∀ a, S8x128.size a = 0 ∨ (k0_off112 v1851_r0 (BitVec.ofNat 32 (26632 * r.val))) a + (![3329, 1] : Fin 2 → Nat) a * (S8x128.size a - 1) < S106528x128.size a)
theorem k0_off112_inb : ∀ (v1851_r0 : BitVec 32) (k0_hw112 : k0_chk112 v1851_r0), ∀ (r : Fin 2), ∀ a, S8x128.size a = 0 ∨ (k0_off112 v1851_r0 (BitVec.ofNat 32 (26632 * r.val))) a + (![3329, 1] : Fin 2 → Nat) a * (S8x128.size a - 1) < S106528x128.size a := fun v1851_r0 k0_hw112 r => k0_hw112 r

def k0_off113 (v1872_r0 : BitVec 32) (c0_i32_1160_r0 : BitVec 32) : Fin 2 → Nat :=
  let c0_i32_1157_r0 : BitVec 32 := 0#32
  let v1873_r0 : BitVec 32 := Scalar.addi v1872_r0 c0_i32_1157_r0
  let v1875_r0 : BitVec 32 := Scalar.addi v1873_r0 c0_i32_1160_r0
  let v1876_r0 : Index := Scalar.indexCast v1875_r0
  let c0_1161_r0 : Index := 0#32
  ![v1876_r0.toNat, 0]

def k0_chk113 (v1872_r0 : BitVec 32) : Prop :=
  (∀ (r : Fin 2), ∀ a, S8x128.size a = 0 ∨ (k0_off113 v1872_r0 (BitVec.ofNat 32 (26632 * r.val))) a + (![3329, 1] : Fin 2 → Nat) a * (S8x128.size a - 1) < S106528x128.size a)
theorem k0_off113_inb : ∀ (v1872_r0 : BitVec 32) (k0_hw113 : k0_chk113 v1872_r0), ∀ (r : Fin 2), ∀ a, S8x128.size a = 0 ∨ (k0_off113 v1872_r0 (BitVec.ofNat 32 (26632 * r.val))) a + (![3329, 1] : Fin 2 → Nat) a * (S8x128.size a - 1) < S106528x128.size a := fun v1872_r0 k0_hw113 r => k0_hw113 r

def k0_off114 (v1885_r0 : BitVec 32) (c0_i32_1168_r0 : BitVec 32) : Fin 2 → Nat :=
  let c0_i32_1165_r0 : BitVec 32 := 0#32
  let v1886_r0 : BitVec 32 := Scalar.addi v1885_r0 c0_i32_1165_r0
  let v1888_r0 : BitVec 32 := Scalar.addi v1886_r0 c0_i32_1168_r0
  let v1889_r0 : Index := Scalar.indexCast v1888_r0
  let c0_1169_r0 : Index := 0#32
  ![v1889_r0.toNat, 0]

def k0_chk114 (v1885_r0 : BitVec 32) : Prop :=
  (∀ (r : Fin 2), ∀ a, S8x128.size a = 0 ∨ (k0_off114 v1885_r0 (BitVec.ofNat 32 (26632 * r.val))) a + (![3329, 1] : Fin 2 → Nat) a * (S8x128.size a - 1) < S106528x128.size a)
theorem k0_off114_inb : ∀ (v1885_r0 : BitVec 32) (k0_hw114 : k0_chk114 v1885_r0), ∀ (r : Fin 2), ∀ a, S8x128.size a = 0 ∨ (k0_off114 v1885_r0 (BitVec.ofNat 32 (26632 * r.val))) a + (![3329, 1] : Fin 2 → Nat) a * (S8x128.size a - 1) < S106528x128.size a := fun v1885_r0 k0_hw114 r => k0_hw114 r

def k0_off115 (v1898_r0 : BitVec 32) (c0_i32_1176_r0 : BitVec 32) : Fin 2 → Nat :=
  let c0_i32_1173_r0 : BitVec 32 := 0#32
  let v1899_r0 : BitVec 32 := Scalar.addi v1898_r0 c0_i32_1173_r0
  let v1901_r0 : BitVec 32 := Scalar.addi v1899_r0 c0_i32_1176_r0
  let v1902_r0 : Index := Scalar.indexCast v1901_r0
  let c0_1177_r0 : Index := 0#32
  ![v1902_r0.toNat, 0]

def k0_chk115 (v1898_r0 : BitVec 32) : Prop :=
  (∀ (r : Fin 2), ∀ a, S8x128.size a = 0 ∨ (k0_off115 v1898_r0 (BitVec.ofNat 32 (26632 * r.val))) a + (![3329, 1] : Fin 2 → Nat) a * (S8x128.size a - 1) < S106528x128.size a)
theorem k0_off115_inb : ∀ (v1898_r0 : BitVec 32) (k0_hw115 : k0_chk115 v1898_r0), ∀ (r : Fin 2), ∀ a, S8x128.size a = 0 ∨ (k0_off115 v1898_r0 (BitVec.ofNat 32 (26632 * r.val))) a + (![3329, 1] : Fin 2 → Nat) a * (S8x128.size a - 1) < S106528x128.size a := fun v1898_r0 k0_hw115 r => k0_hw115 r

def k0_off116 (v1911_r0 : BitVec 32) (c0_i32_1184_r0 : BitVec 32) : Fin 2 → Nat :=
  let c0_i32_1181_r0 : BitVec 32 := 0#32
  let v1912_r0 : BitVec 32 := Scalar.addi v1911_r0 c0_i32_1181_r0
  let v1914_r0 : BitVec 32 := Scalar.addi v1912_r0 c0_i32_1184_r0
  let v1915_r0 : Index := Scalar.indexCast v1914_r0
  let c0_1185_r0 : Index := 0#32
  ![v1915_r0.toNat, 0]

def k0_chk116 (v1911_r0 : BitVec 32) : Prop :=
  (∀ (r : Fin 2), ∀ a, S8x128.size a = 0 ∨ (k0_off116 v1911_r0 (BitVec.ofNat 32 (26632 * r.val))) a + (![3329, 1] : Fin 2 → Nat) a * (S8x128.size a - 1) < S106528x128.size a)
theorem k0_off116_inb : ∀ (v1911_r0 : BitVec 32) (k0_hw116 : k0_chk116 v1911_r0), ∀ (r : Fin 2), ∀ a, S8x128.size a = 0 ∨ (k0_off116 v1911_r0 (BitVec.ofNat 32 (26632 * r.val))) a + (![3329, 1] : Fin 2 → Nat) a * (S8x128.size a - 1) < S106528x128.size a := fun v1911_r0 k0_hw116 r => k0_hw116 r

def k0_off117 (v1932_r0 : BitVec 32) (c0_i32_1195_r0 : BitVec 32) : Fin 2 → Nat :=
  let c0_i32_1192_r0 : BitVec 32 := 0#32
  let v1933_r0 : BitVec 32 := Scalar.addi v1932_r0 c0_i32_1192_r0
  let v1935_r0 : BitVec 32 := Scalar.addi v1933_r0 c0_i32_1195_r0
  let v1936_r0 : Index := Scalar.indexCast v1935_r0
  let c0_1196_r0 : Index := 0#32
  ![v1936_r0.toNat, 0]

def k0_chk117 (v1932_r0 : BitVec 32) : Prop :=
  (∀ (r : Fin 2), ∀ a, S8x128.size a = 0 ∨ (k0_off117 v1932_r0 (BitVec.ofNat 32 (26632 * r.val))) a + (![3329, 1] : Fin 2 → Nat) a * (S8x128.size a - 1) < S106528x128.size a)
theorem k0_off117_inb : ∀ (v1932_r0 : BitVec 32) (k0_hw117 : k0_chk117 v1932_r0), ∀ (r : Fin 2), ∀ a, S8x128.size a = 0 ∨ (k0_off117 v1932_r0 (BitVec.ofNat 32 (26632 * r.val))) a + (![3329, 1] : Fin 2 → Nat) a * (S8x128.size a - 1) < S106528x128.size a := fun v1932_r0 k0_hw117 r => k0_hw117 r

def k0_off118 (v1945_r0 : BitVec 32) (c0_i32_1203_r0 : BitVec 32) : Fin 2 → Nat :=
  let c0_i32_1200_r0 : BitVec 32 := 0#32
  let v1946_r0 : BitVec 32 := Scalar.addi v1945_r0 c0_i32_1200_r0
  let v1948_r0 : BitVec 32 := Scalar.addi v1946_r0 c0_i32_1203_r0
  let v1949_r0 : Index := Scalar.indexCast v1948_r0
  let c0_1204_r0 : Index := 0#32
  ![v1949_r0.toNat, 0]

def k0_chk118 (v1945_r0 : BitVec 32) : Prop :=
  (∀ (r : Fin 2), ∀ a, S8x128.size a = 0 ∨ (k0_off118 v1945_r0 (BitVec.ofNat 32 (26632 * r.val))) a + (![3329, 1] : Fin 2 → Nat) a * (S8x128.size a - 1) < S106528x128.size a)
theorem k0_off118_inb : ∀ (v1945_r0 : BitVec 32) (k0_hw118 : k0_chk118 v1945_r0), ∀ (r : Fin 2), ∀ a, S8x128.size a = 0 ∨ (k0_off118 v1945_r0 (BitVec.ofNat 32 (26632 * r.val))) a + (![3329, 1] : Fin 2 → Nat) a * (S8x128.size a - 1) < S106528x128.size a := fun v1945_r0 k0_hw118 r => k0_hw118 r

def k0_off119 (v1958_r0 : BitVec 32) (c0_i32_1211_r0 : BitVec 32) : Fin 2 → Nat :=
  let c0_i32_1208_r0 : BitVec 32 := 0#32
  let v1959_r0 : BitVec 32 := Scalar.addi v1958_r0 c0_i32_1208_r0
  let v1961_r0 : BitVec 32 := Scalar.addi v1959_r0 c0_i32_1211_r0
  let v1962_r0 : Index := Scalar.indexCast v1961_r0
  let c0_1212_r0 : Index := 0#32
  ![v1962_r0.toNat, 0]

def k0_chk119 (v1958_r0 : BitVec 32) : Prop :=
  (∀ (r : Fin 2), ∀ a, S8x128.size a = 0 ∨ (k0_off119 v1958_r0 (BitVec.ofNat 32 (26632 * r.val))) a + (![3329, 1] : Fin 2 → Nat) a * (S8x128.size a - 1) < S106528x128.size a)
theorem k0_off119_inb : ∀ (v1958_r0 : BitVec 32) (k0_hw119 : k0_chk119 v1958_r0), ∀ (r : Fin 2), ∀ a, S8x128.size a = 0 ∨ (k0_off119 v1958_r0 (BitVec.ofNat 32 (26632 * r.val))) a + (![3329, 1] : Fin 2 → Nat) a * (S8x128.size a - 1) < S106528x128.size a := fun v1958_r0 k0_hw119 r => k0_hw119 r

def k0_off120 (v1971_r0 : BitVec 32) (c0_i32_1219_r0 : BitVec 32) : Fin 2 → Nat :=
  let c0_i32_1216_r0 : BitVec 32 := 0#32
  let v1972_r0 : BitVec 32 := Scalar.addi v1971_r0 c0_i32_1216_r0
  let v1974_r0 : BitVec 32 := Scalar.addi v1972_r0 c0_i32_1219_r0
  let v1975_r0 : Index := Scalar.indexCast v1974_r0
  let c0_1220_r0 : Index := 0#32
  ![v1975_r0.toNat, 0]

def k0_chk120 (v1971_r0 : BitVec 32) : Prop :=
  (∀ (r : Fin 2), ∀ a, S8x128.size a = 0 ∨ (k0_off120 v1971_r0 (BitVec.ofNat 32 (26632 * r.val))) a + (![3329, 1] : Fin 2 → Nat) a * (S8x128.size a - 1) < S106528x128.size a)
theorem k0_off120_inb : ∀ (v1971_r0 : BitVec 32) (k0_hw120 : k0_chk120 v1971_r0), ∀ (r : Fin 2), ∀ a, S8x128.size a = 0 ∨ (k0_off120 v1971_r0 (BitVec.ofNat 32 (26632 * r.val))) a + (![3329, 1] : Fin 2 → Nat) a * (S8x128.size a - 1) < S106528x128.size a := fun v1971_r0 k0_hw120 r => k0_hw120 r

def k0_off121 (v1992_r0 : BitVec 32) (c0_i32_1230_r0 : BitVec 32) : Fin 2 → Nat :=
  let c0_i32_1227_r0 : BitVec 32 := 0#32
  let v1993_r0 : BitVec 32 := Scalar.addi v1992_r0 c0_i32_1227_r0
  let v1995_r0 : BitVec 32 := Scalar.addi v1993_r0 c0_i32_1230_r0
  let v1996_r0 : Index := Scalar.indexCast v1995_r0
  let c0_1231_r0 : Index := 0#32
  ![v1996_r0.toNat, 0]

def k0_chk121 (v1992_r0 : BitVec 32) : Prop :=
  (∀ (r : Fin 2), ∀ a, S8x128.size a = 0 ∨ (k0_off121 v1992_r0 (BitVec.ofNat 32 (26632 * r.val))) a + (![3329, 1] : Fin 2 → Nat) a * (S8x128.size a - 1) < S106528x128.size a)
theorem k0_off121_inb : ∀ (v1992_r0 : BitVec 32) (k0_hw121 : k0_chk121 v1992_r0), ∀ (r : Fin 2), ∀ a, S8x128.size a = 0 ∨ (k0_off121 v1992_r0 (BitVec.ofNat 32 (26632 * r.val))) a + (![3329, 1] : Fin 2 → Nat) a * (S8x128.size a - 1) < S106528x128.size a := fun v1992_r0 k0_hw121 r => k0_hw121 r

def k0_off122 (v2005_r0 : BitVec 32) (c0_i32_1238_r0 : BitVec 32) : Fin 2 → Nat :=
  let c0_i32_1235_r0 : BitVec 32 := 0#32
  let v2006_r0 : BitVec 32 := Scalar.addi v2005_r0 c0_i32_1235_r0
  let v2008_r0 : BitVec 32 := Scalar.addi v2006_r0 c0_i32_1238_r0
  let v2009_r0 : Index := Scalar.indexCast v2008_r0
  let c0_1239_r0 : Index := 0#32
  ![v2009_r0.toNat, 0]

def k0_chk122 (v2005_r0 : BitVec 32) : Prop :=
  (∀ (r : Fin 2), ∀ a, S8x128.size a = 0 ∨ (k0_off122 v2005_r0 (BitVec.ofNat 32 (26632 * r.val))) a + (![3329, 1] : Fin 2 → Nat) a * (S8x128.size a - 1) < S106528x128.size a)
theorem k0_off122_inb : ∀ (v2005_r0 : BitVec 32) (k0_hw122 : k0_chk122 v2005_r0), ∀ (r : Fin 2), ∀ a, S8x128.size a = 0 ∨ (k0_off122 v2005_r0 (BitVec.ofNat 32 (26632 * r.val))) a + (![3329, 1] : Fin 2 → Nat) a * (S8x128.size a - 1) < S106528x128.size a := fun v2005_r0 k0_hw122 r => k0_hw122 r

def k0_off123 (v2018_r0 : BitVec 32) (c0_i32_1246_r0 : BitVec 32) : Fin 2 → Nat :=
  let c0_i32_1243_r0 : BitVec 32 := 0#32
  let v2019_r0 : BitVec 32 := Scalar.addi v2018_r0 c0_i32_1243_r0
  let v2021_r0 : BitVec 32 := Scalar.addi v2019_r0 c0_i32_1246_r0
  let v2022_r0 : Index := Scalar.indexCast v2021_r0
  let c0_1247_r0 : Index := 0#32
  ![v2022_r0.toNat, 0]

def k0_chk123 (v2018_r0 : BitVec 32) : Prop :=
  (∀ (r : Fin 2), ∀ a, S8x128.size a = 0 ∨ (k0_off123 v2018_r0 (BitVec.ofNat 32 (26632 * r.val))) a + (![3329, 1] : Fin 2 → Nat) a * (S8x128.size a - 1) < S106528x128.size a)
theorem k0_off123_inb : ∀ (v2018_r0 : BitVec 32) (k0_hw123 : k0_chk123 v2018_r0), ∀ (r : Fin 2), ∀ a, S8x128.size a = 0 ∨ (k0_off123 v2018_r0 (BitVec.ofNat 32 (26632 * r.val))) a + (![3329, 1] : Fin 2 → Nat) a * (S8x128.size a - 1) < S106528x128.size a := fun v2018_r0 k0_hw123 r => k0_hw123 r

def k0_off124 (v2031_r0 : BitVec 32) (c0_i32_1254_r0 : BitVec 32) : Fin 2 → Nat :=
  let c0_i32_1251_r0 : BitVec 32 := 0#32
  let v2032_r0 : BitVec 32 := Scalar.addi v2031_r0 c0_i32_1251_r0
  let v2034_r0 : BitVec 32 := Scalar.addi v2032_r0 c0_i32_1254_r0
  let v2035_r0 : Index := Scalar.indexCast v2034_r0
  let c0_1255_r0 : Index := 0#32
  ![v2035_r0.toNat, 0]

def k0_chk124 (v2031_r0 : BitVec 32) : Prop :=
  (∀ (r : Fin 2), ∀ a, S8x128.size a = 0 ∨ (k0_off124 v2031_r0 (BitVec.ofNat 32 (26632 * r.val))) a + (![3329, 1] : Fin 2 → Nat) a * (S8x128.size a - 1) < S106528x128.size a)
theorem k0_off124_inb : ∀ (v2031_r0 : BitVec 32) (k0_hw124 : k0_chk124 v2031_r0), ∀ (r : Fin 2), ∀ a, S8x128.size a = 0 ∨ (k0_off124 v2031_r0 (BitVec.ofNat 32 (26632 * r.val))) a + (![3329, 1] : Fin 2 → Nat) a * (S8x128.size a - 1) < S106528x128.size a := fun v2031_r0 k0_hw124 r => k0_hw124 r

def k0_off125 (v2052_r0 : BitVec 32) (c0_i32_1265_r0 : BitVec 32) : Fin 2 → Nat :=
  let c0_i32_1262_r0 : BitVec 32 := 0#32
  let v2053_r0 : BitVec 32 := Scalar.addi v2052_r0 c0_i32_1262_r0
  let v2055_r0 : BitVec 32 := Scalar.addi v2053_r0 c0_i32_1265_r0
  let v2056_r0 : Index := Scalar.indexCast v2055_r0
  let c0_1266_r0 : Index := 0#32
  ![v2056_r0.toNat, 0]

def k0_chk125 (v2052_r0 : BitVec 32) : Prop :=
  (∀ (r : Fin 2), ∀ a, S8x128.size a = 0 ∨ (k0_off125 v2052_r0 (BitVec.ofNat 32 (26632 * r.val))) a + (![3329, 1] : Fin 2 → Nat) a * (S8x128.size a - 1) < S106528x128.size a)
theorem k0_off125_inb : ∀ (v2052_r0 : BitVec 32) (k0_hw125 : k0_chk125 v2052_r0), ∀ (r : Fin 2), ∀ a, S8x128.size a = 0 ∨ (k0_off125 v2052_r0 (BitVec.ofNat 32 (26632 * r.val))) a + (![3329, 1] : Fin 2 → Nat) a * (S8x128.size a - 1) < S106528x128.size a := fun v2052_r0 k0_hw125 r => k0_hw125 r

def k0_off126 (v2065_r0 : BitVec 32) (c0_i32_1273_r0 : BitVec 32) : Fin 2 → Nat :=
  let c0_i32_1270_r0 : BitVec 32 := 0#32
  let v2066_r0 : BitVec 32 := Scalar.addi v2065_r0 c0_i32_1270_r0
  let v2068_r0 : BitVec 32 := Scalar.addi v2066_r0 c0_i32_1273_r0
  let v2069_r0 : Index := Scalar.indexCast v2068_r0
  let c0_1274_r0 : Index := 0#32
  ![v2069_r0.toNat, 0]

def k0_chk126 (v2065_r0 : BitVec 32) : Prop :=
  (∀ (r : Fin 2), ∀ a, S8x128.size a = 0 ∨ (k0_off126 v2065_r0 (BitVec.ofNat 32 (26632 * r.val))) a + (![3329, 1] : Fin 2 → Nat) a * (S8x128.size a - 1) < S106528x128.size a)
theorem k0_off126_inb : ∀ (v2065_r0 : BitVec 32) (k0_hw126 : k0_chk126 v2065_r0), ∀ (r : Fin 2), ∀ a, S8x128.size a = 0 ∨ (k0_off126 v2065_r0 (BitVec.ofNat 32 (26632 * r.val))) a + (![3329, 1] : Fin 2 → Nat) a * (S8x128.size a - 1) < S106528x128.size a := fun v2065_r0 k0_hw126 r => k0_hw126 r

def k0_off127 (v2078_r0 : BitVec 32) (c0_i32_1281_r0 : BitVec 32) : Fin 2 → Nat :=
  let c0_i32_1278_r0 : BitVec 32 := 0#32
  let v2079_r0 : BitVec 32 := Scalar.addi v2078_r0 c0_i32_1278_r0
  let v2081_r0 : BitVec 32 := Scalar.addi v2079_r0 c0_i32_1281_r0
  let v2082_r0 : Index := Scalar.indexCast v2081_r0
  let c0_1282_r0 : Index := 0#32
  ![v2082_r0.toNat, 0]

def k0_chk127 (v2078_r0 : BitVec 32) : Prop :=
  (∀ (r : Fin 2), ∀ a, S8x128.size a = 0 ∨ (k0_off127 v2078_r0 (BitVec.ofNat 32 (26632 * r.val))) a + (![3329, 1] : Fin 2 → Nat) a * (S8x128.size a - 1) < S106528x128.size a)
theorem k0_off127_inb : ∀ (v2078_r0 : BitVec 32) (k0_hw127 : k0_chk127 v2078_r0), ∀ (r : Fin 2), ∀ a, S8x128.size a = 0 ∨ (k0_off127 v2078_r0 (BitVec.ofNat 32 (26632 * r.val))) a + (![3329, 1] : Fin 2 → Nat) a * (S8x128.size a - 1) < S106528x128.size a := fun v2078_r0 k0_hw127 r => k0_hw127 r

def k0_off128 (v2091_r0 : BitVec 32) (c0_i32_1289_r0 : BitVec 32) : Fin 2 → Nat :=
  let c0_i32_1286_r0 : BitVec 32 := 0#32
  let v2092_r0 : BitVec 32 := Scalar.addi v2091_r0 c0_i32_1286_r0
  let v2094_r0 : BitVec 32 := Scalar.addi v2092_r0 c0_i32_1289_r0
  let v2095_r0 : Index := Scalar.indexCast v2094_r0
  let c0_1290_r0 : Index := 0#32
  ![v2095_r0.toNat, 0]

def k0_chk128 (v2091_r0 : BitVec 32) : Prop :=
  (∀ (r : Fin 2), ∀ a, S8x128.size a = 0 ∨ (k0_off128 v2091_r0 (BitVec.ofNat 32 (26632 * r.val))) a + (![3329, 1] : Fin 2 → Nat) a * (S8x128.size a - 1) < S106528x128.size a)
theorem k0_off128_inb : ∀ (v2091_r0 : BitVec 32) (k0_hw128 : k0_chk128 v2091_r0), ∀ (r : Fin 2), ∀ a, S8x128.size a = 0 ∨ (k0_off128 v2091_r0 (BitVec.ofNat 32 (26632 * r.val))) a + (![3329, 1] : Fin 2 → Nat) a * (S8x128.size a - 1) < S106528x128.size a := fun v2091_r0 k0_hw128 r => k0_hw128 r

@[reducible] def k0_t1_loop : Scf.Loop 32 :=
  let c0_i32_1297_r0 : BitVec 32 := 0#32
  let c4_i32_r0 : BitVec 32 := 4#32
  let v2112_r0 : BitVec 32 := Scalar.addi c0_i32_1297_r0 c4_i32_r0
  let c1_i32_1298_r0 : BitVec 32 := 1#32
  ⟨c0_i32_1297_r0, v2112_r0, c1_i32_1298_r0⟩
@[reducible] def k0_t2_loop : Scf.Loop 32 :=
  let c0_i32_1301_r0 : BitVec 32 := 0#32
  let c103_i32_r0 : BitVec 32 := 103#32
  let v2113_r0 : BitVec 32 := Scalar.addi c0_i32_1301_r0 c103_i32_r0
  let c1_i32_1302_r0 : BitVec 32 := 1#32
  ⟨c0_i32_1301_r0, v2113_r0, c1_i32_1302_r0⟩
def k0_off129 (k0_t1 : Fin k0_t1_loop.trips) (k0_t2 : Fin k0_t2_loop.trips) (c0_i32_3758_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8273_r0 : BitVec 32 := Scalar.addi v8259_r0 c0_i32_3758_r0
  let v8274_r0 : Index := Scalar.indexCast v8273_r0
  let c0_3759_r0 : Index := 0#32
  ![v8274_r0.toNat, 0]
def k0_off130 (k0_t1 : Fin k0_t1_loop.trips) (k0_t2 : Fin k0_t2_loop.trips) (c0_i32_3770_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3768_r0 : BitVec 32 := 104#32
  let v8303_r0 : BitVec 32 := Scalar.muli arg10_r0 c104_i32_3768_r0
  let c0_i32_1301_r0 : BitVec 32 := 0#32
  let c1_i32_1302_r0 : BitVec 32 := 1#32
  let arg11_r0 : BitVec 32 := Scf.iv c0_i32_1301_r0 c1_i32_1302_r0 k0_t2
  let v8304_r0 : BitVec 32 := Scalar.addi v8303_r0 arg11_r0
  let c16_i32_3769_r0 : BitVec 32 := 16#32
  let v8305_r0 : BitVec 32 := Scalar.muli v8304_r0 c16_i32_3769_r0
  let v8306_r0 : BitVec 32 := Scalar.addi v8305_r0 c0_i32_3770_r0
  let v8307_r0 : Index := Scalar.indexCast v8306_r0
  let c0_3771_r0 : Index := 0#32
  ![v8307_r0.toNat, 0]
def k0_off131 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v8371_r0 : Index := Scalar.indexCast arg11_r0
  let c0_3788_r0 : Index := 0#32
  let c0_3789_r0 : Index := 0#32
  ![v8371_r0.toNat, 0, 0]
def k0_off132 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8397_r0 : Index := Scalar.indexCast v8246_r0
  let c0_3798_r0 : Index := 0#32
  ![v8397_r0.toNat, 0]
def k0_off133 (k0_t1 : Fin k0_t1_loop.trips) (v8398_r0 : BitVec 32) (c0_i32_3800_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8399_r0 : BitVec 32 := Scalar.addi v8398_r0 v8272_r0
  let v8402_r0 : BitVec 32 := Scalar.addi v8399_r0 c0_i32_3800_r0
  let v8403_r0 : Index := Scalar.indexCast v8402_r0
  let c0_3801_r0 : Index := 0#32
  ![v8403_r0.toNat, 0]

def k0_chk129 (k0_t1 : Fin k0_t1_loop.trips) (v8398_r0 : BitVec 32) : Prop :=
  (∀ (r : Fin 2), ∀ a, S8x128.size a = 0 ∨ (k0_off133 k0_t1 v8398_r0 (BitVec.ofNat 32 (26632 * r.val))) a + (![3329, 1] : Fin 2 → Nat) a * (S8x128.size a - 1) < S106528x128.size a)
theorem k0_off133_inb : ∀ (k0_t1 : Fin k0_t1_loop.trips) (v8398_r0 : BitVec 32) (k0_hw129 : k0_chk129 k0_t1 v8398_r0), ∀ (r : Fin 2), ∀ a, S8x128.size a = 0 ∨ (k0_off133 k0_t1 v8398_r0 (BitVec.ofNat 32 (26632 * r.val))) a + (![3329, 1] : Fin 2 → Nat) a * (S8x128.size a - 1) < S106528x128.size a := fun k0_t1 v8398_r0 k0_hw129 r => k0_hw129 r

def k0_off134 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8412_r0 : Index := Scalar.indexCast v8246_r0
  let c1_3804_r0 : Index := 1#32
  ![v8412_r0.toNat, 1]
def k0_off135 (k0_t1 : Fin k0_t1_loop.trips) (v8413_r0 : BitVec 32) (c0_i32_3806_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8414_r0 : BitVec 32 := Scalar.addi v8413_r0 v8272_r0
  let v8417_r0 : BitVec 32 := Scalar.addi v8414_r0 c0_i32_3806_r0
  let v8418_r0 : Index := Scalar.indexCast v8417_r0
  let c0_3807_r0 : Index := 0#32
  ![v8418_r0.toNat, 0]

def k0_chk130 (k0_t1 : Fin k0_t1_loop.trips) (v8413_r0 : BitVec 32) : Prop :=
  (∀ (r : Fin 2), ∀ a, S8x128.size a = 0 ∨ (k0_off135 k0_t1 v8413_r0 (BitVec.ofNat 32 (26632 * r.val))) a + (![3329, 1] : Fin 2 → Nat) a * (S8x128.size a - 1) < S106528x128.size a)
theorem k0_off135_inb : ∀ (k0_t1 : Fin k0_t1_loop.trips) (v8413_r0 : BitVec 32) (k0_hw130 : k0_chk130 k0_t1 v8413_r0), ∀ (r : Fin 2), ∀ a, S8x128.size a = 0 ∨ (k0_off135 k0_t1 v8413_r0 (BitVec.ofNat 32 (26632 * r.val))) a + (![3329, 1] : Fin 2 → Nat) a * (S8x128.size a - 1) < S106528x128.size a := fun k0_t1 v8413_r0 k0_hw130 r => k0_hw130 r

def k0_off136 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8427_r0 : Index := Scalar.indexCast v8246_r0
  let c2_3810_r0 : Index := 2#32
  ![v8427_r0.toNat, 2]
def k0_off137 (k0_t1 : Fin k0_t1_loop.trips) (v8428_r0 : BitVec 32) (c0_i32_3812_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8429_r0 : BitVec 32 := Scalar.addi v8428_r0 v8272_r0
  let v8432_r0 : BitVec 32 := Scalar.addi v8429_r0 c0_i32_3812_r0
  let v8433_r0 : Index := Scalar.indexCast v8432_r0
  let c0_3813_r0 : Index := 0#32
  ![v8433_r0.toNat, 0]

def k0_chk131 (k0_t1 : Fin k0_t1_loop.trips) (v8428_r0 : BitVec 32) : Prop :=
  (∀ (r : Fin 2), ∀ a, S8x128.size a = 0 ∨ (k0_off137 k0_t1 v8428_r0 (BitVec.ofNat 32 (26632 * r.val))) a + (![3329, 1] : Fin 2 → Nat) a * (S8x128.size a - 1) < S106528x128.size a)
theorem k0_off137_inb : ∀ (k0_t1 : Fin k0_t1_loop.trips) (v8428_r0 : BitVec 32) (k0_hw131 : k0_chk131 k0_t1 v8428_r0), ∀ (r : Fin 2), ∀ a, S8x128.size a = 0 ∨ (k0_off137 k0_t1 v8428_r0 (BitVec.ofNat 32 (26632 * r.val))) a + (![3329, 1] : Fin 2 → Nat) a * (S8x128.size a - 1) < S106528x128.size a := fun k0_t1 v8428_r0 k0_hw131 r => k0_hw131 r

def k0_off138 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8442_r0 : Index := Scalar.indexCast v8246_r0
  let c3_3816_r0 : Index := 3#32
  ![v8442_r0.toNat, 3]
def k0_off139 (k0_t1 : Fin k0_t1_loop.trips) (v8443_r0 : BitVec 32) (c0_i32_3818_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8444_r0 : BitVec 32 := Scalar.addi v8443_r0 v8272_r0
  let v8447_r0 : BitVec 32 := Scalar.addi v8444_r0 c0_i32_3818_r0
  let v8448_r0 : Index := Scalar.indexCast v8447_r0
  let c0_3819_r0 : Index := 0#32
  ![v8448_r0.toNat, 0]

def k0_chk132 (k0_t1 : Fin k0_t1_loop.trips) (v8443_r0 : BitVec 32) : Prop :=
  (∀ (r : Fin 2), ∀ a, S8x128.size a = 0 ∨ (k0_off139 k0_t1 v8443_r0 (BitVec.ofNat 32 (26632 * r.val))) a + (![3329, 1] : Fin 2 → Nat) a * (S8x128.size a - 1) < S106528x128.size a)
theorem k0_off139_inb : ∀ (k0_t1 : Fin k0_t1_loop.trips) (v8443_r0 : BitVec 32) (k0_hw132 : k0_chk132 k0_t1 v8443_r0), ∀ (r : Fin 2), ∀ a, S8x128.size a = 0 ∨ (k0_off139 k0_t1 v8443_r0 (BitVec.ofNat 32 (26632 * r.val))) a + (![3329, 1] : Fin 2 → Nat) a * (S8x128.size a - 1) < S106528x128.size a := fun k0_t1 v8443_r0 k0_hw132 r => k0_hw132 r

def k0_off140 (k0_t1 : Fin k0_t1_loop.trips) (k0_t2 : Fin k0_t2_loop.trips) (c0_i32_3823_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c0_i32_3822_r0 : BitVec 32 := 0#32
  let v8458_r0 : BitVec 32 := Scalar.addi v8260_r0 c0_i32_3822_r0
  let v8459_r0 : BitVec 32 := Scalar.addi v8458_r0 c0_i32_3823_r0
  let v8460_r0 : Index := Scalar.indexCast v8459_r0
  let c0_3824_r0 : Index := 0#32
  ![v8460_r0.toNat, 0]
def k0_off141 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8471_r0 : Index := Scalar.indexCast v8246_r0
  let c4_3828_r0 : Index := 4#32
  ![v8471_r0.toNat, 4]
def k0_off142 (k0_t1 : Fin k0_t1_loop.trips) (v8472_r0 : BitVec 32) (c0_i32_3830_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8473_r0 : BitVec 32 := Scalar.addi v8472_r0 v8272_r0
  let v8476_r0 : BitVec 32 := Scalar.addi v8473_r0 c0_i32_3830_r0
  let v8477_r0 : Index := Scalar.indexCast v8476_r0
  let c0_3831_r0 : Index := 0#32
  ![v8477_r0.toNat, 0]

def k0_chk133 (k0_t1 : Fin k0_t1_loop.trips) (v8472_r0 : BitVec 32) : Prop :=
  (∀ (r : Fin 2), ∀ a, S8x128.size a = 0 ∨ (k0_off142 k0_t1 v8472_r0 (BitVec.ofNat 32 (26632 * r.val))) a + (![3329, 1] : Fin 2 → Nat) a * (S8x128.size a - 1) < S106528x128.size a)
theorem k0_off142_inb : ∀ (k0_t1 : Fin k0_t1_loop.trips) (v8472_r0 : BitVec 32) (k0_hw133 : k0_chk133 k0_t1 v8472_r0), ∀ (r : Fin 2), ∀ a, S8x128.size a = 0 ∨ (k0_off142 k0_t1 v8472_r0 (BitVec.ofNat 32 (26632 * r.val))) a + (![3329, 1] : Fin 2 → Nat) a * (S8x128.size a - 1) < S106528x128.size a := fun k0_t1 v8472_r0 k0_hw133 r => k0_hw133 r

def k0_off143 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8486_r0 : Index := Scalar.indexCast v8246_r0
  let c5_3834_r0 : Index := 5#32
  ![v8486_r0.toNat, 5]
def k0_off144 (k0_t1 : Fin k0_t1_loop.trips) (v8487_r0 : BitVec 32) (c0_i32_3836_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8488_r0 : BitVec 32 := Scalar.addi v8487_r0 v8272_r0
  let v8491_r0 : BitVec 32 := Scalar.addi v8488_r0 c0_i32_3836_r0
  let v8492_r0 : Index := Scalar.indexCast v8491_r0
  let c0_3837_r0 : Index := 0#32
  ![v8492_r0.toNat, 0]

def k0_chk134 (k0_t1 : Fin k0_t1_loop.trips) (v8487_r0 : BitVec 32) : Prop :=
  (∀ (r : Fin 2), ∀ a, S8x128.size a = 0 ∨ (k0_off144 k0_t1 v8487_r0 (BitVec.ofNat 32 (26632 * r.val))) a + (![3329, 1] : Fin 2 → Nat) a * (S8x128.size a - 1) < S106528x128.size a)
theorem k0_off144_inb : ∀ (k0_t1 : Fin k0_t1_loop.trips) (v8487_r0 : BitVec 32) (k0_hw134 : k0_chk134 k0_t1 v8487_r0), ∀ (r : Fin 2), ∀ a, S8x128.size a = 0 ∨ (k0_off144 k0_t1 v8487_r0 (BitVec.ofNat 32 (26632 * r.val))) a + (![3329, 1] : Fin 2 → Nat) a * (S8x128.size a - 1) < S106528x128.size a := fun k0_t1 v8487_r0 k0_hw134 r => k0_hw134 r

def k0_off145 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8501_r0 : Index := Scalar.indexCast v8246_r0
  let c6_3840_r0 : Index := 6#32
  ![v8501_r0.toNat, 6]
def k0_off146 (k0_t1 : Fin k0_t1_loop.trips) (v8502_r0 : BitVec 32) (c0_i32_3842_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8503_r0 : BitVec 32 := Scalar.addi v8502_r0 v8272_r0
  let v8506_r0 : BitVec 32 := Scalar.addi v8503_r0 c0_i32_3842_r0
  let v8507_r0 : Index := Scalar.indexCast v8506_r0
  let c0_3843_r0 : Index := 0#32
  ![v8507_r0.toNat, 0]

def k0_chk135 (k0_t1 : Fin k0_t1_loop.trips) (v8502_r0 : BitVec 32) : Prop :=
  (∀ (r : Fin 2), ∀ a, S8x128.size a = 0 ∨ (k0_off146 k0_t1 v8502_r0 (BitVec.ofNat 32 (26632 * r.val))) a + (![3329, 1] : Fin 2 → Nat) a * (S8x128.size a - 1) < S106528x128.size a)
theorem k0_off146_inb : ∀ (k0_t1 : Fin k0_t1_loop.trips) (v8502_r0 : BitVec 32) (k0_hw135 : k0_chk135 k0_t1 v8502_r0), ∀ (r : Fin 2), ∀ a, S8x128.size a = 0 ∨ (k0_off146 k0_t1 v8502_r0 (BitVec.ofNat 32 (26632 * r.val))) a + (![3329, 1] : Fin 2 → Nat) a * (S8x128.size a - 1) < S106528x128.size a := fun k0_t1 v8502_r0 k0_hw135 r => k0_hw135 r

def k0_off147 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8516_r0 : Index := Scalar.indexCast v8246_r0
  let c7_3846_r0 : Index := 7#32
  ![v8516_r0.toNat, 7]
def k0_off148 (k0_t1 : Fin k0_t1_loop.trips) (v8517_r0 : BitVec 32) (c0_i32_3848_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8518_r0 : BitVec 32 := Scalar.addi v8517_r0 v8272_r0
  let v8521_r0 : BitVec 32 := Scalar.addi v8518_r0 c0_i32_3848_r0
  let v8522_r0 : Index := Scalar.indexCast v8521_r0
  let c0_3849_r0 : Index := 0#32
  ![v8522_r0.toNat, 0]

def k0_chk136 (k0_t1 : Fin k0_t1_loop.trips) (v8517_r0 : BitVec 32) : Prop :=
  (∀ (r : Fin 2), ∀ a, S8x128.size a = 0 ∨ (k0_off148 k0_t1 v8517_r0 (BitVec.ofNat 32 (26632 * r.val))) a + (![3329, 1] : Fin 2 → Nat) a * (S8x128.size a - 1) < S106528x128.size a)
theorem k0_off148_inb : ∀ (k0_t1 : Fin k0_t1_loop.trips) (v8517_r0 : BitVec 32) (k0_hw136 : k0_chk136 k0_t1 v8517_r0), ∀ (r : Fin 2), ∀ a, S8x128.size a = 0 ∨ (k0_off148 k0_t1 v8517_r0 (BitVec.ofNat 32 (26632 * r.val))) a + (![3329, 1] : Fin 2 → Nat) a * (S8x128.size a - 1) < S106528x128.size a := fun k0_t1 v8517_r0 k0_hw136 r => k0_hw136 r

def k0_off149 (k0_t1 : Fin k0_t1_loop.trips) (k0_t2 : Fin k0_t2_loop.trips) (c0_i32_3853_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c1_i32_3852_r0 : BitVec 32 := 1#32
  let v8532_r0 : BitVec 32 := Scalar.addi v8260_r0 c1_i32_3852_r0
  let v8533_r0 : BitVec 32 := Scalar.addi v8532_r0 c0_i32_3853_r0
  let v8534_r0 : Index := Scalar.indexCast v8533_r0
  let c0_3854_r0 : Index := 0#32
  ![v8534_r0.toNat, 0]
def k0_off150 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8545_r0 : Index := Scalar.indexCast v8246_r0
  let c8_3858_r0 : Index := 8#32
  ![v8545_r0.toNat, 8]
def k0_off151 (k0_t1 : Fin k0_t1_loop.trips) (v8546_r0 : BitVec 32) (c0_i32_3860_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8547_r0 : BitVec 32 := Scalar.addi v8546_r0 v8272_r0
  let v8550_r0 : BitVec 32 := Scalar.addi v8547_r0 c0_i32_3860_r0
  let v8551_r0 : Index := Scalar.indexCast v8550_r0
  let c0_3861_r0 : Index := 0#32
  ![v8551_r0.toNat, 0]

def k0_chk137 (k0_t1 : Fin k0_t1_loop.trips) (v8546_r0 : BitVec 32) : Prop :=
  (∀ (r : Fin 2), ∀ a, S8x128.size a = 0 ∨ (k0_off151 k0_t1 v8546_r0 (BitVec.ofNat 32 (26632 * r.val))) a + (![3329, 1] : Fin 2 → Nat) a * (S8x128.size a - 1) < S106528x128.size a)
theorem k0_off151_inb : ∀ (k0_t1 : Fin k0_t1_loop.trips) (v8546_r0 : BitVec 32) (k0_hw137 : k0_chk137 k0_t1 v8546_r0), ∀ (r : Fin 2), ∀ a, S8x128.size a = 0 ∨ (k0_off151 k0_t1 v8546_r0 (BitVec.ofNat 32 (26632 * r.val))) a + (![3329, 1] : Fin 2 → Nat) a * (S8x128.size a - 1) < S106528x128.size a := fun k0_t1 v8546_r0 k0_hw137 r => k0_hw137 r

def k0_off152 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8560_r0 : Index := Scalar.indexCast v8246_r0
  let c9_3864_r0 : Index := 9#32
  ![v8560_r0.toNat, 9]
def k0_off153 (k0_t1 : Fin k0_t1_loop.trips) (v8561_r0 : BitVec 32) (c0_i32_3866_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8562_r0 : BitVec 32 := Scalar.addi v8561_r0 v8272_r0
  let v8565_r0 : BitVec 32 := Scalar.addi v8562_r0 c0_i32_3866_r0
  let v8566_r0 : Index := Scalar.indexCast v8565_r0
  let c0_3867_r0 : Index := 0#32
  ![v8566_r0.toNat, 0]

def k0_chk138 (k0_t1 : Fin k0_t1_loop.trips) (v8561_r0 : BitVec 32) : Prop :=
  (∀ (r : Fin 2), ∀ a, S8x128.size a = 0 ∨ (k0_off153 k0_t1 v8561_r0 (BitVec.ofNat 32 (26632 * r.val))) a + (![3329, 1] : Fin 2 → Nat) a * (S8x128.size a - 1) < S106528x128.size a)
theorem k0_off153_inb : ∀ (k0_t1 : Fin k0_t1_loop.trips) (v8561_r0 : BitVec 32) (k0_hw138 : k0_chk138 k0_t1 v8561_r0), ∀ (r : Fin 2), ∀ a, S8x128.size a = 0 ∨ (k0_off153 k0_t1 v8561_r0 (BitVec.ofNat 32 (26632 * r.val))) a + (![3329, 1] : Fin 2 → Nat) a * (S8x128.size a - 1) < S106528x128.size a := fun k0_t1 v8561_r0 k0_hw138 r => k0_hw138 r

def k0_off154 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8575_r0 : Index := Scalar.indexCast v8246_r0
  let c10_3870_r0 : Index := 10#32
  ![v8575_r0.toNat, 10]
def k0_off155 (k0_t1 : Fin k0_t1_loop.trips) (v8576_r0 : BitVec 32) (c0_i32_3872_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8577_r0 : BitVec 32 := Scalar.addi v8576_r0 v8272_r0
  let v8580_r0 : BitVec 32 := Scalar.addi v8577_r0 c0_i32_3872_r0
  let v8581_r0 : Index := Scalar.indexCast v8580_r0
  let c0_3873_r0 : Index := 0#32
  ![v8581_r0.toNat, 0]

def k0_chk139 (k0_t1 : Fin k0_t1_loop.trips) (v8576_r0 : BitVec 32) : Prop :=
  (∀ (r : Fin 2), ∀ a, S8x128.size a = 0 ∨ (k0_off155 k0_t1 v8576_r0 (BitVec.ofNat 32 (26632 * r.val))) a + (![3329, 1] : Fin 2 → Nat) a * (S8x128.size a - 1) < S106528x128.size a)
theorem k0_off155_inb : ∀ (k0_t1 : Fin k0_t1_loop.trips) (v8576_r0 : BitVec 32) (k0_hw139 : k0_chk139 k0_t1 v8576_r0), ∀ (r : Fin 2), ∀ a, S8x128.size a = 0 ∨ (k0_off155 k0_t1 v8576_r0 (BitVec.ofNat 32 (26632 * r.val))) a + (![3329, 1] : Fin 2 → Nat) a * (S8x128.size a - 1) < S106528x128.size a := fun k0_t1 v8576_r0 k0_hw139 r => k0_hw139 r

def k0_off156 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8590_r0 : Index := Scalar.indexCast v8246_r0
  let c11_3876_r0 : Index := 11#32
  ![v8590_r0.toNat, 11]
def k0_off157 (k0_t1 : Fin k0_t1_loop.trips) (v8591_r0 : BitVec 32) (c0_i32_3878_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8592_r0 : BitVec 32 := Scalar.addi v8591_r0 v8272_r0
  let v8595_r0 : BitVec 32 := Scalar.addi v8592_r0 c0_i32_3878_r0
  let v8596_r0 : Index := Scalar.indexCast v8595_r0
  let c0_3879_r0 : Index := 0#32
  ![v8596_r0.toNat, 0]

def k0_chk140 (k0_t1 : Fin k0_t1_loop.trips) (v8591_r0 : BitVec 32) : Prop :=
  (∀ (r : Fin 2), ∀ a, S8x128.size a = 0 ∨ (k0_off157 k0_t1 v8591_r0 (BitVec.ofNat 32 (26632 * r.val))) a + (![3329, 1] : Fin 2 → Nat) a * (S8x128.size a - 1) < S106528x128.size a)
theorem k0_off157_inb : ∀ (k0_t1 : Fin k0_t1_loop.trips) (v8591_r0 : BitVec 32) (k0_hw140 : k0_chk140 k0_t1 v8591_r0), ∀ (r : Fin 2), ∀ a, S8x128.size a = 0 ∨ (k0_off157 k0_t1 v8591_r0 (BitVec.ofNat 32 (26632 * r.val))) a + (![3329, 1] : Fin 2 → Nat) a * (S8x128.size a - 1) < S106528x128.size a := fun k0_t1 v8591_r0 k0_hw140 r => k0_hw140 r

def k0_off158 (k0_t1 : Fin k0_t1_loop.trips) (k0_t2 : Fin k0_t2_loop.trips) (c0_i32_3883_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c2_i32_3882_r0 : BitVec 32 := 2#32
  let v8606_r0 : BitVec 32 := Scalar.addi v8260_r0 c2_i32_3882_r0
  let v8607_r0 : BitVec 32 := Scalar.addi v8606_r0 c0_i32_3883_r0
  let v8608_r0 : Index := Scalar.indexCast v8607_r0
  let c0_3884_r0 : Index := 0#32
  ![v8608_r0.toNat, 0]
def k0_off159 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8619_r0 : Index := Scalar.indexCast v8246_r0
  let c12_3888_r0 : Index := 12#32
  ![v8619_r0.toNat, 12]
def k0_off160 (k0_t1 : Fin k0_t1_loop.trips) (v8620_r0 : BitVec 32) (c0_i32_3890_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8621_r0 : BitVec 32 := Scalar.addi v8620_r0 v8272_r0
  let v8624_r0 : BitVec 32 := Scalar.addi v8621_r0 c0_i32_3890_r0
  let v8625_r0 : Index := Scalar.indexCast v8624_r0
  let c0_3891_r0 : Index := 0#32
  ![v8625_r0.toNat, 0]

def k0_chk141 (k0_t1 : Fin k0_t1_loop.trips) (v8620_r0 : BitVec 32) : Prop :=
  (∀ (r : Fin 2), ∀ a, S8x128.size a = 0 ∨ (k0_off160 k0_t1 v8620_r0 (BitVec.ofNat 32 (26632 * r.val))) a + (![3329, 1] : Fin 2 → Nat) a * (S8x128.size a - 1) < S106528x128.size a)
theorem k0_off160_inb : ∀ (k0_t1 : Fin k0_t1_loop.trips) (v8620_r0 : BitVec 32) (k0_hw141 : k0_chk141 k0_t1 v8620_r0), ∀ (r : Fin 2), ∀ a, S8x128.size a = 0 ∨ (k0_off160 k0_t1 v8620_r0 (BitVec.ofNat 32 (26632 * r.val))) a + (![3329, 1] : Fin 2 → Nat) a * (S8x128.size a - 1) < S106528x128.size a := fun k0_t1 v8620_r0 k0_hw141 r => k0_hw141 r

def k0_off161 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8634_r0 : Index := Scalar.indexCast v8246_r0
  let c13_3894_r0 : Index := 13#32
  ![v8634_r0.toNat, 13]
def k0_off162 (k0_t1 : Fin k0_t1_loop.trips) (v8635_r0 : BitVec 32) (c0_i32_3896_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8636_r0 : BitVec 32 := Scalar.addi v8635_r0 v8272_r0
  let v8639_r0 : BitVec 32 := Scalar.addi v8636_r0 c0_i32_3896_r0
  let v8640_r0 : Index := Scalar.indexCast v8639_r0
  let c0_3897_r0 : Index := 0#32
  ![v8640_r0.toNat, 0]

def k0_chk142 (k0_t1 : Fin k0_t1_loop.trips) (v8635_r0 : BitVec 32) : Prop :=
  (∀ (r : Fin 2), ∀ a, S8x128.size a = 0 ∨ (k0_off162 k0_t1 v8635_r0 (BitVec.ofNat 32 (26632 * r.val))) a + (![3329, 1] : Fin 2 → Nat) a * (S8x128.size a - 1) < S106528x128.size a)
theorem k0_off162_inb : ∀ (k0_t1 : Fin k0_t1_loop.trips) (v8635_r0 : BitVec 32) (k0_hw142 : k0_chk142 k0_t1 v8635_r0), ∀ (r : Fin 2), ∀ a, S8x128.size a = 0 ∨ (k0_off162 k0_t1 v8635_r0 (BitVec.ofNat 32 (26632 * r.val))) a + (![3329, 1] : Fin 2 → Nat) a * (S8x128.size a - 1) < S106528x128.size a := fun k0_t1 v8635_r0 k0_hw142 r => k0_hw142 r

def k0_off163 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8649_r0 : Index := Scalar.indexCast v8246_r0
  let c14_3900_r0 : Index := 14#32
  ![v8649_r0.toNat, 14]
def k0_off164 (k0_t1 : Fin k0_t1_loop.trips) (v8650_r0 : BitVec 32) (c0_i32_3902_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8651_r0 : BitVec 32 := Scalar.addi v8650_r0 v8272_r0
  let v8654_r0 : BitVec 32 := Scalar.addi v8651_r0 c0_i32_3902_r0
  let v8655_r0 : Index := Scalar.indexCast v8654_r0
  let c0_3903_r0 : Index := 0#32
  ![v8655_r0.toNat, 0]

def k0_chk143 (k0_t1 : Fin k0_t1_loop.trips) (v8650_r0 : BitVec 32) : Prop :=
  (∀ (r : Fin 2), ∀ a, S8x128.size a = 0 ∨ (k0_off164 k0_t1 v8650_r0 (BitVec.ofNat 32 (26632 * r.val))) a + (![3329, 1] : Fin 2 → Nat) a * (S8x128.size a - 1) < S106528x128.size a)
theorem k0_off164_inb : ∀ (k0_t1 : Fin k0_t1_loop.trips) (v8650_r0 : BitVec 32) (k0_hw143 : k0_chk143 k0_t1 v8650_r0), ∀ (r : Fin 2), ∀ a, S8x128.size a = 0 ∨ (k0_off164 k0_t1 v8650_r0 (BitVec.ofNat 32 (26632 * r.val))) a + (![3329, 1] : Fin 2 → Nat) a * (S8x128.size a - 1) < S106528x128.size a := fun k0_t1 v8650_r0 k0_hw143 r => k0_hw143 r

def k0_off165 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8664_r0 : Index := Scalar.indexCast v8246_r0
  let c15_3906_r0 : Index := 15#32
  ![v8664_r0.toNat, 15]
def k0_off166 (k0_t1 : Fin k0_t1_loop.trips) (v8665_r0 : BitVec 32) (c0_i32_3908_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8666_r0 : BitVec 32 := Scalar.addi v8665_r0 v8272_r0
  let v8669_r0 : BitVec 32 := Scalar.addi v8666_r0 c0_i32_3908_r0
  let v8670_r0 : Index := Scalar.indexCast v8669_r0
  let c0_3909_r0 : Index := 0#32
  ![v8670_r0.toNat, 0]

def k0_chk144 (k0_t1 : Fin k0_t1_loop.trips) (v8665_r0 : BitVec 32) : Prop :=
  (∀ (r : Fin 2), ∀ a, S8x128.size a = 0 ∨ (k0_off166 k0_t1 v8665_r0 (BitVec.ofNat 32 (26632 * r.val))) a + (![3329, 1] : Fin 2 → Nat) a * (S8x128.size a - 1) < S106528x128.size a)
theorem k0_off166_inb : ∀ (k0_t1 : Fin k0_t1_loop.trips) (v8665_r0 : BitVec 32) (k0_hw144 : k0_chk144 k0_t1 v8665_r0), ∀ (r : Fin 2), ∀ a, S8x128.size a = 0 ∨ (k0_off166 k0_t1 v8665_r0 (BitVec.ofNat 32 (26632 * r.val))) a + (![3329, 1] : Fin 2 → Nat) a * (S8x128.size a - 1) < S106528x128.size a := fun k0_t1 v8665_r0 k0_hw144 r => k0_hw144 r

def k0_off167 (k0_t1 : Fin k0_t1_loop.trips) (k0_t2 : Fin k0_t2_loop.trips) (c0_i32_3913_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c3_i32_3912_r0 : BitVec 32 := 3#32
  let v8680_r0 : BitVec 32 := Scalar.addi v8260_r0 c3_i32_3912_r0
  let v8681_r0 : BitVec 32 := Scalar.addi v8680_r0 c0_i32_3913_r0
  let v8682_r0 : Index := Scalar.indexCast v8681_r0
  let c0_3914_r0 : Index := 0#32
  ![v8682_r0.toNat, 0]
def k0_off168 (k0_t1 : Fin k0_t1_loop.trips) (k0_t2 : Fin k0_t2_loop.trips) (c66_i32_3918_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8693_r0 : BitVec 32 := Scalar.addi v8259_r0 c66_i32_3918_r0
  let v8694_r0 : Index := Scalar.indexCast v8693_r0
  let c0_3919_r0 : Index := 0#32
  ![v8694_r0.toNat, 0]
def k0_off169 (k0_t1 : Fin k0_t1_loop.trips) (k0_t2 : Fin k0_t2_loop.trips) (c2_i32_3930_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3928_r0 : BitVec 32 := 104#32
  let v8723_r0 : BitVec 32 := Scalar.muli arg10_r0 c104_i32_3928_r0
  let c0_i32_1301_r0 : BitVec 32 := 0#32
  let c1_i32_1302_r0 : BitVec 32 := 1#32
  let arg11_r0 : BitVec 32 := Scf.iv c0_i32_1301_r0 c1_i32_1302_r0 k0_t2
  let v8724_r0 : BitVec 32 := Scalar.addi v8723_r0 arg11_r0
  let c16_i32_3929_r0 : BitVec 32 := 16#32
  let v8725_r0 : BitVec 32 := Scalar.muli v8724_r0 c16_i32_3929_r0
  let v8726_r0 : BitVec 32 := Scalar.addi v8725_r0 c2_i32_3930_r0
  let v8727_r0 : Index := Scalar.indexCast v8726_r0
  let c0_3931_r0 : Index := 0#32
  ![v8727_r0.toNat, 0]
def k0_off170 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v8791_r0 : Index := Scalar.indexCast arg11_r0
  let c0_3948_r0 : Index := 0#32
  let c0_3949_r0 : Index := 0#32
  ![v8791_r0.toNat, 0, 0]
def k0_off171 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8817_r0 : Index := Scalar.indexCast v8246_r0
  let c16_3958_r0 : Index := 16#32
  ![v8817_r0.toNat, 16]
def k0_off172 (k0_t1 : Fin k0_t1_loop.trips) (v8818_r0 : BitVec 32) (c0_i32_3960_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8819_r0 : BitVec 32 := Scalar.addi v8818_r0 v8272_r0
  let v8822_r0 : BitVec 32 := Scalar.addi v8819_r0 c0_i32_3960_r0
  let v8823_r0 : Index := Scalar.indexCast v8822_r0
  let c0_3961_r0 : Index := 0#32
  ![v8823_r0.toNat, 0]

def k0_chk145 (k0_t1 : Fin k0_t1_loop.trips) (v8818_r0 : BitVec 32) : Prop :=
  (∀ (r : Fin 2), ∀ a, S8x128.size a = 0 ∨ (k0_off172 k0_t1 v8818_r0 (BitVec.ofNat 32 (26632 * r.val))) a + (![3329, 1] : Fin 2 → Nat) a * (S8x128.size a - 1) < S106528x128.size a)
theorem k0_off172_inb : ∀ (k0_t1 : Fin k0_t1_loop.trips) (v8818_r0 : BitVec 32) (k0_hw145 : k0_chk145 k0_t1 v8818_r0), ∀ (r : Fin 2), ∀ a, S8x128.size a = 0 ∨ (k0_off172 k0_t1 v8818_r0 (BitVec.ofNat 32 (26632 * r.val))) a + (![3329, 1] : Fin 2 → Nat) a * (S8x128.size a - 1) < S106528x128.size a := fun k0_t1 v8818_r0 k0_hw145 r => k0_hw145 r

def k0_off173 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8832_r0 : Index := Scalar.indexCast v8246_r0
  let c17_3964_r0 : Index := 17#32
  ![v8832_r0.toNat, 17]
def k0_off174 (k0_t1 : Fin k0_t1_loop.trips) (v8833_r0 : BitVec 32) (c0_i32_3966_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8834_r0 : BitVec 32 := Scalar.addi v8833_r0 v8272_r0
  let v8837_r0 : BitVec 32 := Scalar.addi v8834_r0 c0_i32_3966_r0
  let v8838_r0 : Index := Scalar.indexCast v8837_r0
  let c0_3967_r0 : Index := 0#32
  ![v8838_r0.toNat, 0]

def k0_chk146 (k0_t1 : Fin k0_t1_loop.trips) (v8833_r0 : BitVec 32) : Prop :=
  (∀ (r : Fin 2), ∀ a, S8x128.size a = 0 ∨ (k0_off174 k0_t1 v8833_r0 (BitVec.ofNat 32 (26632 * r.val))) a + (![3329, 1] : Fin 2 → Nat) a * (S8x128.size a - 1) < S106528x128.size a)
theorem k0_off174_inb : ∀ (k0_t1 : Fin k0_t1_loop.trips) (v8833_r0 : BitVec 32) (k0_hw146 : k0_chk146 k0_t1 v8833_r0), ∀ (r : Fin 2), ∀ a, S8x128.size a = 0 ∨ (k0_off174 k0_t1 v8833_r0 (BitVec.ofNat 32 (26632 * r.val))) a + (![3329, 1] : Fin 2 → Nat) a * (S8x128.size a - 1) < S106528x128.size a := fun k0_t1 v8833_r0 k0_hw146 r => k0_hw146 r

def k0_off175 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8847_r0 : Index := Scalar.indexCast v8246_r0
  let c18_3970_r0 : Index := 18#32
  ![v8847_r0.toNat, 18]
def k0_off176 (k0_t1 : Fin k0_t1_loop.trips) (v8848_r0 : BitVec 32) (c0_i32_3972_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8849_r0 : BitVec 32 := Scalar.addi v8848_r0 v8272_r0
  let v8852_r0 : BitVec 32 := Scalar.addi v8849_r0 c0_i32_3972_r0
  let v8853_r0 : Index := Scalar.indexCast v8852_r0
  let c0_3973_r0 : Index := 0#32
  ![v8853_r0.toNat, 0]

def k0_chk147 (k0_t1 : Fin k0_t1_loop.trips) (v8848_r0 : BitVec 32) : Prop :=
  (∀ (r : Fin 2), ∀ a, S8x128.size a = 0 ∨ (k0_off176 k0_t1 v8848_r0 (BitVec.ofNat 32 (26632 * r.val))) a + (![3329, 1] : Fin 2 → Nat) a * (S8x128.size a - 1) < S106528x128.size a)
theorem k0_off176_inb : ∀ (k0_t1 : Fin k0_t1_loop.trips) (v8848_r0 : BitVec 32) (k0_hw147 : k0_chk147 k0_t1 v8848_r0), ∀ (r : Fin 2), ∀ a, S8x128.size a = 0 ∨ (k0_off176 k0_t1 v8848_r0 (BitVec.ofNat 32 (26632 * r.val))) a + (![3329, 1] : Fin 2 → Nat) a * (S8x128.size a - 1) < S106528x128.size a := fun k0_t1 v8848_r0 k0_hw147 r => k0_hw147 r

def k0_off177 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8862_r0 : Index := Scalar.indexCast v8246_r0
  let c19_3976_r0 : Index := 19#32
  ![v8862_r0.toNat, 19]
def k0_off178 (k0_t1 : Fin k0_t1_loop.trips) (v8863_r0 : BitVec 32) (c0_i32_3978_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8864_r0 : BitVec 32 := Scalar.addi v8863_r0 v8272_r0
  let v8867_r0 : BitVec 32 := Scalar.addi v8864_r0 c0_i32_3978_r0
  let v8868_r0 : Index := Scalar.indexCast v8867_r0
  let c0_3979_r0 : Index := 0#32
  ![v8868_r0.toNat, 0]

def k0_chk148 (k0_t1 : Fin k0_t1_loop.trips) (v8863_r0 : BitVec 32) : Prop :=
  (∀ (r : Fin 2), ∀ a, S8x128.size a = 0 ∨ (k0_off178 k0_t1 v8863_r0 (BitVec.ofNat 32 (26632 * r.val))) a + (![3329, 1] : Fin 2 → Nat) a * (S8x128.size a - 1) < S106528x128.size a)
theorem k0_off178_inb : ∀ (k0_t1 : Fin k0_t1_loop.trips) (v8863_r0 : BitVec 32) (k0_hw148 : k0_chk148 k0_t1 v8863_r0), ∀ (r : Fin 2), ∀ a, S8x128.size a = 0 ∨ (k0_off178 k0_t1 v8863_r0 (BitVec.ofNat 32 (26632 * r.val))) a + (![3329, 1] : Fin 2 → Nat) a * (S8x128.size a - 1) < S106528x128.size a := fun k0_t1 v8863_r0 k0_hw148 r => k0_hw148 r

def k0_off179 (k0_t1 : Fin k0_t1_loop.trips) (k0_t2 : Fin k0_t2_loop.trips) (c0_i32_3983_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c4_i32_3982_r0 : BitVec 32 := 4#32
  let v8878_r0 : BitVec 32 := Scalar.addi v8260_r0 c4_i32_3982_r0
  let v8879_r0 : BitVec 32 := Scalar.addi v8878_r0 c0_i32_3983_r0
  let v8880_r0 : Index := Scalar.indexCast v8879_r0
  let c0_3984_r0 : Index := 0#32
  ![v8880_r0.toNat, 0]
def k0_off180 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8891_r0 : Index := Scalar.indexCast v8246_r0
  let c20_3988_r0 : Index := 20#32
  ![v8891_r0.toNat, 20]
def k0_off181 (k0_t1 : Fin k0_t1_loop.trips) (v8892_r0 : BitVec 32) (c0_i32_3990_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8893_r0 : BitVec 32 := Scalar.addi v8892_r0 v8272_r0
  let v8896_r0 : BitVec 32 := Scalar.addi v8893_r0 c0_i32_3990_r0
  let v8897_r0 : Index := Scalar.indexCast v8896_r0
  let c0_3991_r0 : Index := 0#32
  ![v8897_r0.toNat, 0]

def k0_chk149 (k0_t1 : Fin k0_t1_loop.trips) (v8892_r0 : BitVec 32) : Prop :=
  (∀ (r : Fin 2), ∀ a, S8x128.size a = 0 ∨ (k0_off181 k0_t1 v8892_r0 (BitVec.ofNat 32 (26632 * r.val))) a + (![3329, 1] : Fin 2 → Nat) a * (S8x128.size a - 1) < S106528x128.size a)
theorem k0_off181_inb : ∀ (k0_t1 : Fin k0_t1_loop.trips) (v8892_r0 : BitVec 32) (k0_hw149 : k0_chk149 k0_t1 v8892_r0), ∀ (r : Fin 2), ∀ a, S8x128.size a = 0 ∨ (k0_off181 k0_t1 v8892_r0 (BitVec.ofNat 32 (26632 * r.val))) a + (![3329, 1] : Fin 2 → Nat) a * (S8x128.size a - 1) < S106528x128.size a := fun k0_t1 v8892_r0 k0_hw149 r => k0_hw149 r

def k0_off182 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8906_r0 : Index := Scalar.indexCast v8246_r0
  let c21_3994_r0 : Index := 21#32
  ![v8906_r0.toNat, 21]
def k0_off183 (k0_t1 : Fin k0_t1_loop.trips) (v8907_r0 : BitVec 32) (c0_i32_3996_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8908_r0 : BitVec 32 := Scalar.addi v8907_r0 v8272_r0
  let v8911_r0 : BitVec 32 := Scalar.addi v8908_r0 c0_i32_3996_r0
  let v8912_r0 : Index := Scalar.indexCast v8911_r0
  let c0_3997_r0 : Index := 0#32
  ![v8912_r0.toNat, 0]

def k0_chk150 (k0_t1 : Fin k0_t1_loop.trips) (v8907_r0 : BitVec 32) : Prop :=
  (∀ (r : Fin 2), ∀ a, S8x128.size a = 0 ∨ (k0_off183 k0_t1 v8907_r0 (BitVec.ofNat 32 (26632 * r.val))) a + (![3329, 1] : Fin 2 → Nat) a * (S8x128.size a - 1) < S106528x128.size a)
theorem k0_off183_inb : ∀ (k0_t1 : Fin k0_t1_loop.trips) (v8907_r0 : BitVec 32) (k0_hw150 : k0_chk150 k0_t1 v8907_r0), ∀ (r : Fin 2), ∀ a, S8x128.size a = 0 ∨ (k0_off183 k0_t1 v8907_r0 (BitVec.ofNat 32 (26632 * r.val))) a + (![3329, 1] : Fin 2 → Nat) a * (S8x128.size a - 1) < S106528x128.size a := fun k0_t1 v8907_r0 k0_hw150 r => k0_hw150 r

def k0_off184 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8921_r0 : Index := Scalar.indexCast v8246_r0
  let c22_4000_r0 : Index := 22#32
  ![v8921_r0.toNat, 22]
def k0_off185 (k0_t1 : Fin k0_t1_loop.trips) (v8922_r0 : BitVec 32) (c0_i32_4002_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8923_r0 : BitVec 32 := Scalar.addi v8922_r0 v8272_r0
  let v8926_r0 : BitVec 32 := Scalar.addi v8923_r0 c0_i32_4002_r0
  let v8927_r0 : Index := Scalar.indexCast v8926_r0
  let c0_4003_r0 : Index := 0#32
  ![v8927_r0.toNat, 0]

def k0_chk151 (k0_t1 : Fin k0_t1_loop.trips) (v8922_r0 : BitVec 32) : Prop :=
  (∀ (r : Fin 2), ∀ a, S8x128.size a = 0 ∨ (k0_off185 k0_t1 v8922_r0 (BitVec.ofNat 32 (26632 * r.val))) a + (![3329, 1] : Fin 2 → Nat) a * (S8x128.size a - 1) < S106528x128.size a)
theorem k0_off185_inb : ∀ (k0_t1 : Fin k0_t1_loop.trips) (v8922_r0 : BitVec 32) (k0_hw151 : k0_chk151 k0_t1 v8922_r0), ∀ (r : Fin 2), ∀ a, S8x128.size a = 0 ∨ (k0_off185 k0_t1 v8922_r0 (BitVec.ofNat 32 (26632 * r.val))) a + (![3329, 1] : Fin 2 → Nat) a * (S8x128.size a - 1) < S106528x128.size a := fun k0_t1 v8922_r0 k0_hw151 r => k0_hw151 r

def k0_off186 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8936_r0 : Index := Scalar.indexCast v8246_r0
  let c23_4006_r0 : Index := 23#32
  ![v8936_r0.toNat, 23]
def k0_off187 (k0_t1 : Fin k0_t1_loop.trips) (v8937_r0 : BitVec 32) (c0_i32_4008_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8938_r0 : BitVec 32 := Scalar.addi v8937_r0 v8272_r0
  let v8941_r0 : BitVec 32 := Scalar.addi v8938_r0 c0_i32_4008_r0
  let v8942_r0 : Index := Scalar.indexCast v8941_r0
  let c0_4009_r0 : Index := 0#32
  ![v8942_r0.toNat, 0]

def k0_chk152 (k0_t1 : Fin k0_t1_loop.trips) (v8937_r0 : BitVec 32) : Prop :=
  (∀ (r : Fin 2), ∀ a, S8x128.size a = 0 ∨ (k0_off187 k0_t1 v8937_r0 (BitVec.ofNat 32 (26632 * r.val))) a + (![3329, 1] : Fin 2 → Nat) a * (S8x128.size a - 1) < S106528x128.size a)
theorem k0_off187_inb : ∀ (k0_t1 : Fin k0_t1_loop.trips) (v8937_r0 : BitVec 32) (k0_hw152 : k0_chk152 k0_t1 v8937_r0), ∀ (r : Fin 2), ∀ a, S8x128.size a = 0 ∨ (k0_off187 k0_t1 v8937_r0 (BitVec.ofNat 32 (26632 * r.val))) a + (![3329, 1] : Fin 2 → Nat) a * (S8x128.size a - 1) < S106528x128.size a := fun k0_t1 v8937_r0 k0_hw152 r => k0_hw152 r

def k0_off188 (k0_t1 : Fin k0_t1_loop.trips) (k0_t2 : Fin k0_t2_loop.trips) (c0_i32_4013_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c5_i32_4012_r0 : BitVec 32 := 5#32
  let v8952_r0 : BitVec 32 := Scalar.addi v8260_r0 c5_i32_4012_r0
  let v8953_r0 : BitVec 32 := Scalar.addi v8952_r0 c0_i32_4013_r0
  let v8954_r0 : Index := Scalar.indexCast v8953_r0
  let c0_4014_r0 : Index := 0#32
  ![v8954_r0.toNat, 0]
def k0_off189 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8965_r0 : Index := Scalar.indexCast v8246_r0
  let c24_4018_r0 : Index := 24#32
  ![v8965_r0.toNat, 24]
def k0_off190 (k0_t1 : Fin k0_t1_loop.trips) (v8966_r0 : BitVec 32) (c0_i32_4020_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8967_r0 : BitVec 32 := Scalar.addi v8966_r0 v8272_r0
  let v8970_r0 : BitVec 32 := Scalar.addi v8967_r0 c0_i32_4020_r0
  let v8971_r0 : Index := Scalar.indexCast v8970_r0
  let c0_4021_r0 : Index := 0#32
  ![v8971_r0.toNat, 0]

def k0_chk153 (k0_t1 : Fin k0_t1_loop.trips) (v8966_r0 : BitVec 32) : Prop :=
  (∀ (r : Fin 2), ∀ a, S8x128.size a = 0 ∨ (k0_off190 k0_t1 v8966_r0 (BitVec.ofNat 32 (26632 * r.val))) a + (![3329, 1] : Fin 2 → Nat) a * (S8x128.size a - 1) < S106528x128.size a)
theorem k0_off190_inb : ∀ (k0_t1 : Fin k0_t1_loop.trips) (v8966_r0 : BitVec 32) (k0_hw153 : k0_chk153 k0_t1 v8966_r0), ∀ (r : Fin 2), ∀ a, S8x128.size a = 0 ∨ (k0_off190 k0_t1 v8966_r0 (BitVec.ofNat 32 (26632 * r.val))) a + (![3329, 1] : Fin 2 → Nat) a * (S8x128.size a - 1) < S106528x128.size a := fun k0_t1 v8966_r0 k0_hw153 r => k0_hw153 r

def k0_off191 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8980_r0 : Index := Scalar.indexCast v8246_r0
  let c25_4024_r0 : Index := 25#32
  ![v8980_r0.toNat, 25]
def k0_off192 (k0_t1 : Fin k0_t1_loop.trips) (v8981_r0 : BitVec 32) (c0_i32_4026_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8982_r0 : BitVec 32 := Scalar.addi v8981_r0 v8272_r0
  let v8985_r0 : BitVec 32 := Scalar.addi v8982_r0 c0_i32_4026_r0
  let v8986_r0 : Index := Scalar.indexCast v8985_r0
  let c0_4027_r0 : Index := 0#32
  ![v8986_r0.toNat, 0]

def k0_chk154 (k0_t1 : Fin k0_t1_loop.trips) (v8981_r0 : BitVec 32) : Prop :=
  (∀ (r : Fin 2), ∀ a, S8x128.size a = 0 ∨ (k0_off192 k0_t1 v8981_r0 (BitVec.ofNat 32 (26632 * r.val))) a + (![3329, 1] : Fin 2 → Nat) a * (S8x128.size a - 1) < S106528x128.size a)
theorem k0_off192_inb : ∀ (k0_t1 : Fin k0_t1_loop.trips) (v8981_r0 : BitVec 32) (k0_hw154 : k0_chk154 k0_t1 v8981_r0), ∀ (r : Fin 2), ∀ a, S8x128.size a = 0 ∨ (k0_off192 k0_t1 v8981_r0 (BitVec.ofNat 32 (26632 * r.val))) a + (![3329, 1] : Fin 2 → Nat) a * (S8x128.size a - 1) < S106528x128.size a := fun k0_t1 v8981_r0 k0_hw154 r => k0_hw154 r

def k0_off193 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v8995_r0 : Index := Scalar.indexCast v8246_r0
  let c26_4030_r0 : Index := 26#32
  ![v8995_r0.toNat, 26]
def k0_off194 (k0_t1 : Fin k0_t1_loop.trips) (v8996_r0 : BitVec 32) (c0_i32_4032_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v8997_r0 : BitVec 32 := Scalar.addi v8996_r0 v8272_r0
  let v9000_r0 : BitVec 32 := Scalar.addi v8997_r0 c0_i32_4032_r0
  let v9001_r0 : Index := Scalar.indexCast v9000_r0
  let c0_4033_r0 : Index := 0#32
  ![v9001_r0.toNat, 0]

def k0_chk155 (k0_t1 : Fin k0_t1_loop.trips) (v8996_r0 : BitVec 32) : Prop :=
  (∀ (r : Fin 2), ∀ a, S8x128.size a = 0 ∨ (k0_off194 k0_t1 v8996_r0 (BitVec.ofNat 32 (26632 * r.val))) a + (![3329, 1] : Fin 2 → Nat) a * (S8x128.size a - 1) < S106528x128.size a)
theorem k0_off194_inb : ∀ (k0_t1 : Fin k0_t1_loop.trips) (v8996_r0 : BitVec 32) (k0_hw155 : k0_chk155 k0_t1 v8996_r0), ∀ (r : Fin 2), ∀ a, S8x128.size a = 0 ∨ (k0_off194 k0_t1 v8996_r0 (BitVec.ofNat 32 (26632 * r.val))) a + (![3329, 1] : Fin 2 → Nat) a * (S8x128.size a - 1) < S106528x128.size a := fun k0_t1 v8996_r0 k0_hw155 r => k0_hw155 r

def k0_off195 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9010_r0 : Index := Scalar.indexCast v8246_r0
  let c27_4036_r0 : Index := 27#32
  ![v9010_r0.toNat, 27]
def k0_off196 (k0_t1 : Fin k0_t1_loop.trips) (v9011_r0 : BitVec 32) (c0_i32_4038_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9012_r0 : BitVec 32 := Scalar.addi v9011_r0 v8272_r0
  let v9015_r0 : BitVec 32 := Scalar.addi v9012_r0 c0_i32_4038_r0
  let v9016_r0 : Index := Scalar.indexCast v9015_r0
  let c0_4039_r0 : Index := 0#32
  ![v9016_r0.toNat, 0]

def k0_chk156 (k0_t1 : Fin k0_t1_loop.trips) (v9011_r0 : BitVec 32) : Prop :=
  (∀ (r : Fin 2), ∀ a, S8x128.size a = 0 ∨ (k0_off196 k0_t1 v9011_r0 (BitVec.ofNat 32 (26632 * r.val))) a + (![3329, 1] : Fin 2 → Nat) a * (S8x128.size a - 1) < S106528x128.size a)
theorem k0_off196_inb : ∀ (k0_t1 : Fin k0_t1_loop.trips) (v9011_r0 : BitVec 32) (k0_hw156 : k0_chk156 k0_t1 v9011_r0), ∀ (r : Fin 2), ∀ a, S8x128.size a = 0 ∨ (k0_off196 k0_t1 v9011_r0 (BitVec.ofNat 32 (26632 * r.val))) a + (![3329, 1] : Fin 2 → Nat) a * (S8x128.size a - 1) < S106528x128.size a := fun k0_t1 v9011_r0 k0_hw156 r => k0_hw156 r

def k0_off197 (k0_t1 : Fin k0_t1_loop.trips) (k0_t2 : Fin k0_t2_loop.trips) (c0_i32_4043_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c6_i32_4042_r0 : BitVec 32 := 6#32
  let v9026_r0 : BitVec 32 := Scalar.addi v8260_r0 c6_i32_4042_r0
  let v9027_r0 : BitVec 32 := Scalar.addi v9026_r0 c0_i32_4043_r0
  let v9028_r0 : Index := Scalar.indexCast v9027_r0
  let c0_4044_r0 : Index := 0#32
  ![v9028_r0.toNat, 0]
def k0_off198 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9039_r0 : Index := Scalar.indexCast v8246_r0
  let c28_4048_r0 : Index := 28#32
  ![v9039_r0.toNat, 28]
def k0_off199 (k0_t1 : Fin k0_t1_loop.trips) (v9040_r0 : BitVec 32) (c0_i32_4050_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9041_r0 : BitVec 32 := Scalar.addi v9040_r0 v8272_r0
  let v9044_r0 : BitVec 32 := Scalar.addi v9041_r0 c0_i32_4050_r0
  let v9045_r0 : Index := Scalar.indexCast v9044_r0
  let c0_4051_r0 : Index := 0#32
  ![v9045_r0.toNat, 0]

def k0_chk157 (k0_t1 : Fin k0_t1_loop.trips) (v9040_r0 : BitVec 32) : Prop :=
  (∀ (r : Fin 2), ∀ a, S8x128.size a = 0 ∨ (k0_off199 k0_t1 v9040_r0 (BitVec.ofNat 32 (26632 * r.val))) a + (![3329, 1] : Fin 2 → Nat) a * (S8x128.size a - 1) < S106528x128.size a)
theorem k0_off199_inb : ∀ (k0_t1 : Fin k0_t1_loop.trips) (v9040_r0 : BitVec 32) (k0_hw157 : k0_chk157 k0_t1 v9040_r0), ∀ (r : Fin 2), ∀ a, S8x128.size a = 0 ∨ (k0_off199 k0_t1 v9040_r0 (BitVec.ofNat 32 (26632 * r.val))) a + (![3329, 1] : Fin 2 → Nat) a * (S8x128.size a - 1) < S106528x128.size a := fun k0_t1 v9040_r0 k0_hw157 r => k0_hw157 r

def k0_off200 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9054_r0 : Index := Scalar.indexCast v8246_r0
  let c29_4054_r0 : Index := 29#32
  ![v9054_r0.toNat, 29]
def k0_off201 (k0_t1 : Fin k0_t1_loop.trips) (v9055_r0 : BitVec 32) (c0_i32_4056_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9056_r0 : BitVec 32 := Scalar.addi v9055_r0 v8272_r0
  let v9059_r0 : BitVec 32 := Scalar.addi v9056_r0 c0_i32_4056_r0
  let v9060_r0 : Index := Scalar.indexCast v9059_r0
  let c0_4057_r0 : Index := 0#32
  ![v9060_r0.toNat, 0]

def k0_chk158 (k0_t1 : Fin k0_t1_loop.trips) (v9055_r0 : BitVec 32) : Prop :=
  (∀ (r : Fin 2), ∀ a, S8x128.size a = 0 ∨ (k0_off201 k0_t1 v9055_r0 (BitVec.ofNat 32 (26632 * r.val))) a + (![3329, 1] : Fin 2 → Nat) a * (S8x128.size a - 1) < S106528x128.size a)
theorem k0_off201_inb : ∀ (k0_t1 : Fin k0_t1_loop.trips) (v9055_r0 : BitVec 32) (k0_hw158 : k0_chk158 k0_t1 v9055_r0), ∀ (r : Fin 2), ∀ a, S8x128.size a = 0 ∨ (k0_off201 k0_t1 v9055_r0 (BitVec.ofNat 32 (26632 * r.val))) a + (![3329, 1] : Fin 2 → Nat) a * (S8x128.size a - 1) < S106528x128.size a := fun k0_t1 v9055_r0 k0_hw158 r => k0_hw158 r

def k0_off202 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9069_r0 : Index := Scalar.indexCast v8246_r0
  let c30_4060_r0 : Index := 30#32
  ![v9069_r0.toNat, 30]
def k0_off203 (k0_t1 : Fin k0_t1_loop.trips) (v9070_r0 : BitVec 32) (c0_i32_4062_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9071_r0 : BitVec 32 := Scalar.addi v9070_r0 v8272_r0
  let v9074_r0 : BitVec 32 := Scalar.addi v9071_r0 c0_i32_4062_r0
  let v9075_r0 : Index := Scalar.indexCast v9074_r0
  let c0_4063_r0 : Index := 0#32
  ![v9075_r0.toNat, 0]

def k0_chk159 (k0_t1 : Fin k0_t1_loop.trips) (v9070_r0 : BitVec 32) : Prop :=
  (∀ (r : Fin 2), ∀ a, S8x128.size a = 0 ∨ (k0_off203 k0_t1 v9070_r0 (BitVec.ofNat 32 (26632 * r.val))) a + (![3329, 1] : Fin 2 → Nat) a * (S8x128.size a - 1) < S106528x128.size a)
theorem k0_off203_inb : ∀ (k0_t1 : Fin k0_t1_loop.trips) (v9070_r0 : BitVec 32) (k0_hw159 : k0_chk159 k0_t1 v9070_r0), ∀ (r : Fin 2), ∀ a, S8x128.size a = 0 ∨ (k0_off203 k0_t1 v9070_r0 (BitVec.ofNat 32 (26632 * r.val))) a + (![3329, 1] : Fin 2 → Nat) a * (S8x128.size a - 1) < S106528x128.size a := fun k0_t1 v9070_r0 k0_hw159 r => k0_hw159 r

def k0_off204 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9084_r0 : Index := Scalar.indexCast v8246_r0
  let c31_4066_r0 : Index := 31#32
  ![v9084_r0.toNat, 31]
def k0_off205 (k0_t1 : Fin k0_t1_loop.trips) (v9085_r0 : BitVec 32) (c0_i32_4068_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9086_r0 : BitVec 32 := Scalar.addi v9085_r0 v8272_r0
  let v9089_r0 : BitVec 32 := Scalar.addi v9086_r0 c0_i32_4068_r0
  let v9090_r0 : Index := Scalar.indexCast v9089_r0
  let c0_4069_r0 : Index := 0#32
  ![v9090_r0.toNat, 0]

def k0_chk160 (k0_t1 : Fin k0_t1_loop.trips) (v9085_r0 : BitVec 32) : Prop :=
  (∀ (r : Fin 2), ∀ a, S8x128.size a = 0 ∨ (k0_off205 k0_t1 v9085_r0 (BitVec.ofNat 32 (26632 * r.val))) a + (![3329, 1] : Fin 2 → Nat) a * (S8x128.size a - 1) < S106528x128.size a)
theorem k0_off205_inb : ∀ (k0_t1 : Fin k0_t1_loop.trips) (v9085_r0 : BitVec 32) (k0_hw160 : k0_chk160 k0_t1 v9085_r0), ∀ (r : Fin 2), ∀ a, S8x128.size a = 0 ∨ (k0_off205 k0_t1 v9085_r0 (BitVec.ofNat 32 (26632 * r.val))) a + (![3329, 1] : Fin 2 → Nat) a * (S8x128.size a - 1) < S106528x128.size a := fun k0_t1 v9085_r0 k0_hw160 r => k0_hw160 r

def k0_off206 (k0_t1 : Fin k0_t1_loop.trips) (k0_t2 : Fin k0_t2_loop.trips) (c0_i32_4073_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c7_i32_4072_r0 : BitVec 32 := 7#32
  let v9100_r0 : BitVec 32 := Scalar.addi v8260_r0 c7_i32_4072_r0
  let v9101_r0 : BitVec 32 := Scalar.addi v9100_r0 c0_i32_4073_r0
  let v9102_r0 : Index := Scalar.indexCast v9101_r0
  let c0_4074_r0 : Index := 0#32
  ![v9102_r0.toNat, 0]
def k0_off207 (k0_t1 : Fin k0_t1_loop.trips) (k0_t2 : Fin k0_t2_loop.trips) (c132_i32_4078_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v9113_r0 : BitVec 32 := Scalar.addi v8259_r0 c132_i32_4078_r0
  let v9114_r0 : Index := Scalar.indexCast v9113_r0
  let c0_4079_r0 : Index := 0#32
  ![v9114_r0.toNat, 0]
def k0_off208 (k0_t1 : Fin k0_t1_loop.trips) (k0_t2 : Fin k0_t2_loop.trips) (c4_i32_4090_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_4088_r0 : BitVec 32 := 104#32
  let v9143_r0 : BitVec 32 := Scalar.muli arg10_r0 c104_i32_4088_r0
  let c0_i32_1301_r0 : BitVec 32 := 0#32
  let c1_i32_1302_r0 : BitVec 32 := 1#32
  let arg11_r0 : BitVec 32 := Scf.iv c0_i32_1301_r0 c1_i32_1302_r0 k0_t2
  let v9144_r0 : BitVec 32 := Scalar.addi v9143_r0 arg11_r0
  let c16_i32_4089_r0 : BitVec 32 := 16#32
  let v9145_r0 : BitVec 32 := Scalar.muli v9144_r0 c16_i32_4089_r0
  let v9146_r0 : BitVec 32 := Scalar.addi v9145_r0 c4_i32_4090_r0
  let v9147_r0 : Index := Scalar.indexCast v9146_r0
  let c0_4091_r0 : Index := 0#32
  ![v9147_r0.toNat, 0]
def k0_off209 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v9211_r0 : Index := Scalar.indexCast arg11_r0
  let c0_4108_r0 : Index := 0#32
  let c0_4109_r0 : Index := 0#32
  ![v9211_r0.toNat, 0, 0]
def k0_off210 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9237_r0 : Index := Scalar.indexCast v8246_r0
  let c32_4118_r0 : Index := 32#32
  ![v9237_r0.toNat, 32]
def k0_off211 (k0_t1 : Fin k0_t1_loop.trips) (v9238_r0 : BitVec 32) (c0_i32_4120_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9239_r0 : BitVec 32 := Scalar.addi v9238_r0 v8272_r0
  let v9242_r0 : BitVec 32 := Scalar.addi v9239_r0 c0_i32_4120_r0
  let v9243_r0 : Index := Scalar.indexCast v9242_r0
  let c0_4121_r0 : Index := 0#32
  ![v9243_r0.toNat, 0]

def k0_chk161 (k0_t1 : Fin k0_t1_loop.trips) (v9238_r0 : BitVec 32) : Prop :=
  (∀ (r : Fin 2), ∀ a, S8x128.size a = 0 ∨ (k0_off211 k0_t1 v9238_r0 (BitVec.ofNat 32 (26632 * r.val))) a + (![3329, 1] : Fin 2 → Nat) a * (S8x128.size a - 1) < S106528x128.size a)
theorem k0_off211_inb : ∀ (k0_t1 : Fin k0_t1_loop.trips) (v9238_r0 : BitVec 32) (k0_hw161 : k0_chk161 k0_t1 v9238_r0), ∀ (r : Fin 2), ∀ a, S8x128.size a = 0 ∨ (k0_off211 k0_t1 v9238_r0 (BitVec.ofNat 32 (26632 * r.val))) a + (![3329, 1] : Fin 2 → Nat) a * (S8x128.size a - 1) < S106528x128.size a := fun k0_t1 v9238_r0 k0_hw161 r => k0_hw161 r

def k0_off212 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9252_r0 : Index := Scalar.indexCast v8246_r0
  let c33_4124_r0 : Index := 33#32
  ![v9252_r0.toNat, 33]
def k0_off213 (k0_t1 : Fin k0_t1_loop.trips) (v9253_r0 : BitVec 32) (c0_i32_4126_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9254_r0 : BitVec 32 := Scalar.addi v9253_r0 v8272_r0
  let v9257_r0 : BitVec 32 := Scalar.addi v9254_r0 c0_i32_4126_r0
  let v9258_r0 : Index := Scalar.indexCast v9257_r0
  let c0_4127_r0 : Index := 0#32
  ![v9258_r0.toNat, 0]

def k0_chk162 (k0_t1 : Fin k0_t1_loop.trips) (v9253_r0 : BitVec 32) : Prop :=
  (∀ (r : Fin 2), ∀ a, S8x128.size a = 0 ∨ (k0_off213 k0_t1 v9253_r0 (BitVec.ofNat 32 (26632 * r.val))) a + (![3329, 1] : Fin 2 → Nat) a * (S8x128.size a - 1) < S106528x128.size a)
theorem k0_off213_inb : ∀ (k0_t1 : Fin k0_t1_loop.trips) (v9253_r0 : BitVec 32) (k0_hw162 : k0_chk162 k0_t1 v9253_r0), ∀ (r : Fin 2), ∀ a, S8x128.size a = 0 ∨ (k0_off213 k0_t1 v9253_r0 (BitVec.ofNat 32 (26632 * r.val))) a + (![3329, 1] : Fin 2 → Nat) a * (S8x128.size a - 1) < S106528x128.size a := fun k0_t1 v9253_r0 k0_hw162 r => k0_hw162 r

def k0_off214 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9267_r0 : Index := Scalar.indexCast v8246_r0
  let c34_4130_r0 : Index := 34#32
  ![v9267_r0.toNat, 34]
def k0_off215 (k0_t1 : Fin k0_t1_loop.trips) (v9268_r0 : BitVec 32) (c0_i32_4132_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9269_r0 : BitVec 32 := Scalar.addi v9268_r0 v8272_r0
  let v9272_r0 : BitVec 32 := Scalar.addi v9269_r0 c0_i32_4132_r0
  let v9273_r0 : Index := Scalar.indexCast v9272_r0
  let c0_4133_r0 : Index := 0#32
  ![v9273_r0.toNat, 0]

def k0_chk163 (k0_t1 : Fin k0_t1_loop.trips) (v9268_r0 : BitVec 32) : Prop :=
  (∀ (r : Fin 2), ∀ a, S8x128.size a = 0 ∨ (k0_off215 k0_t1 v9268_r0 (BitVec.ofNat 32 (26632 * r.val))) a + (![3329, 1] : Fin 2 → Nat) a * (S8x128.size a - 1) < S106528x128.size a)
theorem k0_off215_inb : ∀ (k0_t1 : Fin k0_t1_loop.trips) (v9268_r0 : BitVec 32) (k0_hw163 : k0_chk163 k0_t1 v9268_r0), ∀ (r : Fin 2), ∀ a, S8x128.size a = 0 ∨ (k0_off215 k0_t1 v9268_r0 (BitVec.ofNat 32 (26632 * r.val))) a + (![3329, 1] : Fin 2 → Nat) a * (S8x128.size a - 1) < S106528x128.size a := fun k0_t1 v9268_r0 k0_hw163 r => k0_hw163 r

def k0_off216 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9282_r0 : Index := Scalar.indexCast v8246_r0
  let c35_4136_r0 : Index := 35#32
  ![v9282_r0.toNat, 35]
def k0_off217 (k0_t1 : Fin k0_t1_loop.trips) (v9283_r0 : BitVec 32) (c0_i32_4138_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9284_r0 : BitVec 32 := Scalar.addi v9283_r0 v8272_r0
  let v9287_r0 : BitVec 32 := Scalar.addi v9284_r0 c0_i32_4138_r0
  let v9288_r0 : Index := Scalar.indexCast v9287_r0
  let c0_4139_r0 : Index := 0#32
  ![v9288_r0.toNat, 0]

def k0_chk164 (k0_t1 : Fin k0_t1_loop.trips) (v9283_r0 : BitVec 32) : Prop :=
  (∀ (r : Fin 2), ∀ a, S8x128.size a = 0 ∨ (k0_off217 k0_t1 v9283_r0 (BitVec.ofNat 32 (26632 * r.val))) a + (![3329, 1] : Fin 2 → Nat) a * (S8x128.size a - 1) < S106528x128.size a)
theorem k0_off217_inb : ∀ (k0_t1 : Fin k0_t1_loop.trips) (v9283_r0 : BitVec 32) (k0_hw164 : k0_chk164 k0_t1 v9283_r0), ∀ (r : Fin 2), ∀ a, S8x128.size a = 0 ∨ (k0_off217 k0_t1 v9283_r0 (BitVec.ofNat 32 (26632 * r.val))) a + (![3329, 1] : Fin 2 → Nat) a * (S8x128.size a - 1) < S106528x128.size a := fun k0_t1 v9283_r0 k0_hw164 r => k0_hw164 r

def k0_off218 (k0_t1 : Fin k0_t1_loop.trips) (k0_t2 : Fin k0_t2_loop.trips) (c0_i32_4143_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c8_i32_4142_r0 : BitVec 32 := 8#32
  let v9298_r0 : BitVec 32 := Scalar.addi v8260_r0 c8_i32_4142_r0
  let v9299_r0 : BitVec 32 := Scalar.addi v9298_r0 c0_i32_4143_r0
  let v9300_r0 : Index := Scalar.indexCast v9299_r0
  let c0_4144_r0 : Index := 0#32
  ![v9300_r0.toNat, 0]
def k0_off219 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9311_r0 : Index := Scalar.indexCast v8246_r0
  let c36_4148_r0 : Index := 36#32
  ![v9311_r0.toNat, 36]
def k0_off220 (k0_t1 : Fin k0_t1_loop.trips) (v9312_r0 : BitVec 32) (c0_i32_4150_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9313_r0 : BitVec 32 := Scalar.addi v9312_r0 v8272_r0
  let v9316_r0 : BitVec 32 := Scalar.addi v9313_r0 c0_i32_4150_r0
  let v9317_r0 : Index := Scalar.indexCast v9316_r0
  let c0_4151_r0 : Index := 0#32
  ![v9317_r0.toNat, 0]

def k0_chk165 (k0_t1 : Fin k0_t1_loop.trips) (v9312_r0 : BitVec 32) : Prop :=
  (∀ (r : Fin 2), ∀ a, S8x128.size a = 0 ∨ (k0_off220 k0_t1 v9312_r0 (BitVec.ofNat 32 (26632 * r.val))) a + (![3329, 1] : Fin 2 → Nat) a * (S8x128.size a - 1) < S106528x128.size a)
theorem k0_off220_inb : ∀ (k0_t1 : Fin k0_t1_loop.trips) (v9312_r0 : BitVec 32) (k0_hw165 : k0_chk165 k0_t1 v9312_r0), ∀ (r : Fin 2), ∀ a, S8x128.size a = 0 ∨ (k0_off220 k0_t1 v9312_r0 (BitVec.ofNat 32 (26632 * r.val))) a + (![3329, 1] : Fin 2 → Nat) a * (S8x128.size a - 1) < S106528x128.size a := fun k0_t1 v9312_r0 k0_hw165 r => k0_hw165 r

def k0_off221 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9326_r0 : Index := Scalar.indexCast v8246_r0
  let c37_4154_r0 : Index := 37#32
  ![v9326_r0.toNat, 37]
def k0_off222 (k0_t1 : Fin k0_t1_loop.trips) (v9327_r0 : BitVec 32) (c0_i32_4156_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9328_r0 : BitVec 32 := Scalar.addi v9327_r0 v8272_r0
  let v9331_r0 : BitVec 32 := Scalar.addi v9328_r0 c0_i32_4156_r0
  let v9332_r0 : Index := Scalar.indexCast v9331_r0
  let c0_4157_r0 : Index := 0#32
  ![v9332_r0.toNat, 0]

def k0_chk166 (k0_t1 : Fin k0_t1_loop.trips) (v9327_r0 : BitVec 32) : Prop :=
  (∀ (r : Fin 2), ∀ a, S8x128.size a = 0 ∨ (k0_off222 k0_t1 v9327_r0 (BitVec.ofNat 32 (26632 * r.val))) a + (![3329, 1] : Fin 2 → Nat) a * (S8x128.size a - 1) < S106528x128.size a)
theorem k0_off222_inb : ∀ (k0_t1 : Fin k0_t1_loop.trips) (v9327_r0 : BitVec 32) (k0_hw166 : k0_chk166 k0_t1 v9327_r0), ∀ (r : Fin 2), ∀ a, S8x128.size a = 0 ∨ (k0_off222 k0_t1 v9327_r0 (BitVec.ofNat 32 (26632 * r.val))) a + (![3329, 1] : Fin 2 → Nat) a * (S8x128.size a - 1) < S106528x128.size a := fun k0_t1 v9327_r0 k0_hw166 r => k0_hw166 r

def k0_off223 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9341_r0 : Index := Scalar.indexCast v8246_r0
  let c38_4160_r0 : Index := 38#32
  ![v9341_r0.toNat, 38]
def k0_off224 (k0_t1 : Fin k0_t1_loop.trips) (v9342_r0 : BitVec 32) (c0_i32_4162_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9343_r0 : BitVec 32 := Scalar.addi v9342_r0 v8272_r0
  let v9346_r0 : BitVec 32 := Scalar.addi v9343_r0 c0_i32_4162_r0
  let v9347_r0 : Index := Scalar.indexCast v9346_r0
  let c0_4163_r0 : Index := 0#32
  ![v9347_r0.toNat, 0]

def k0_chk167 (k0_t1 : Fin k0_t1_loop.trips) (v9342_r0 : BitVec 32) : Prop :=
  (∀ (r : Fin 2), ∀ a, S8x128.size a = 0 ∨ (k0_off224 k0_t1 v9342_r0 (BitVec.ofNat 32 (26632 * r.val))) a + (![3329, 1] : Fin 2 → Nat) a * (S8x128.size a - 1) < S106528x128.size a)
theorem k0_off224_inb : ∀ (k0_t1 : Fin k0_t1_loop.trips) (v9342_r0 : BitVec 32) (k0_hw167 : k0_chk167 k0_t1 v9342_r0), ∀ (r : Fin 2), ∀ a, S8x128.size a = 0 ∨ (k0_off224 k0_t1 v9342_r0 (BitVec.ofNat 32 (26632 * r.val))) a + (![3329, 1] : Fin 2 → Nat) a * (S8x128.size a - 1) < S106528x128.size a := fun k0_t1 v9342_r0 k0_hw167 r => k0_hw167 r

def k0_off225 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9356_r0 : Index := Scalar.indexCast v8246_r0
  let c39_4166_r0 : Index := 39#32
  ![v9356_r0.toNat, 39]
def k0_off226 (k0_t1 : Fin k0_t1_loop.trips) (v9357_r0 : BitVec 32) (c0_i32_4168_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9358_r0 : BitVec 32 := Scalar.addi v9357_r0 v8272_r0
  let v9361_r0 : BitVec 32 := Scalar.addi v9358_r0 c0_i32_4168_r0
  let v9362_r0 : Index := Scalar.indexCast v9361_r0
  let c0_4169_r0 : Index := 0#32
  ![v9362_r0.toNat, 0]

def k0_chk168 (k0_t1 : Fin k0_t1_loop.trips) (v9357_r0 : BitVec 32) : Prop :=
  (∀ (r : Fin 2), ∀ a, S8x128.size a = 0 ∨ (k0_off226 k0_t1 v9357_r0 (BitVec.ofNat 32 (26632 * r.val))) a + (![3329, 1] : Fin 2 → Nat) a * (S8x128.size a - 1) < S106528x128.size a)
theorem k0_off226_inb : ∀ (k0_t1 : Fin k0_t1_loop.trips) (v9357_r0 : BitVec 32) (k0_hw168 : k0_chk168 k0_t1 v9357_r0), ∀ (r : Fin 2), ∀ a, S8x128.size a = 0 ∨ (k0_off226 k0_t1 v9357_r0 (BitVec.ofNat 32 (26632 * r.val))) a + (![3329, 1] : Fin 2 → Nat) a * (S8x128.size a - 1) < S106528x128.size a := fun k0_t1 v9357_r0 k0_hw168 r => k0_hw168 r

def k0_off227 (k0_t1 : Fin k0_t1_loop.trips) (k0_t2 : Fin k0_t2_loop.trips) (c0_i32_4173_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c9_i32_4172_r0 : BitVec 32 := 9#32
  let v9372_r0 : BitVec 32 := Scalar.addi v8260_r0 c9_i32_4172_r0
  let v9373_r0 : BitVec 32 := Scalar.addi v9372_r0 c0_i32_4173_r0
  let v9374_r0 : Index := Scalar.indexCast v9373_r0
  let c0_4174_r0 : Index := 0#32
  ![v9374_r0.toNat, 0]
def k0_off228 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9385_r0 : Index := Scalar.indexCast v8246_r0
  let c40_4178_r0 : Index := 40#32
  ![v9385_r0.toNat, 40]
def k0_off229 (k0_t1 : Fin k0_t1_loop.trips) (v9386_r0 : BitVec 32) (c0_i32_4180_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9387_r0 : BitVec 32 := Scalar.addi v9386_r0 v8272_r0
  let v9390_r0 : BitVec 32 := Scalar.addi v9387_r0 c0_i32_4180_r0
  let v9391_r0 : Index := Scalar.indexCast v9390_r0
  let c0_4181_r0 : Index := 0#32
  ![v9391_r0.toNat, 0]

def k0_chk169 (k0_t1 : Fin k0_t1_loop.trips) (v9386_r0 : BitVec 32) : Prop :=
  (∀ (r : Fin 2), ∀ a, S8x128.size a = 0 ∨ (k0_off229 k0_t1 v9386_r0 (BitVec.ofNat 32 (26632 * r.val))) a + (![3329, 1] : Fin 2 → Nat) a * (S8x128.size a - 1) < S106528x128.size a)
theorem k0_off229_inb : ∀ (k0_t1 : Fin k0_t1_loop.trips) (v9386_r0 : BitVec 32) (k0_hw169 : k0_chk169 k0_t1 v9386_r0), ∀ (r : Fin 2), ∀ a, S8x128.size a = 0 ∨ (k0_off229 k0_t1 v9386_r0 (BitVec.ofNat 32 (26632 * r.val))) a + (![3329, 1] : Fin 2 → Nat) a * (S8x128.size a - 1) < S106528x128.size a := fun k0_t1 v9386_r0 k0_hw169 r => k0_hw169 r

def k0_off230 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9400_r0 : Index := Scalar.indexCast v8246_r0
  let c41_4184_r0 : Index := 41#32
  ![v9400_r0.toNat, 41]
def k0_off231 (k0_t1 : Fin k0_t1_loop.trips) (v9401_r0 : BitVec 32) (c0_i32_4186_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9402_r0 : BitVec 32 := Scalar.addi v9401_r0 v8272_r0
  let v9405_r0 : BitVec 32 := Scalar.addi v9402_r0 c0_i32_4186_r0
  let v9406_r0 : Index := Scalar.indexCast v9405_r0
  let c0_4187_r0 : Index := 0#32
  ![v9406_r0.toNat, 0]

def k0_chk170 (k0_t1 : Fin k0_t1_loop.trips) (v9401_r0 : BitVec 32) : Prop :=
  (∀ (r : Fin 2), ∀ a, S8x128.size a = 0 ∨ (k0_off231 k0_t1 v9401_r0 (BitVec.ofNat 32 (26632 * r.val))) a + (![3329, 1] : Fin 2 → Nat) a * (S8x128.size a - 1) < S106528x128.size a)
theorem k0_off231_inb : ∀ (k0_t1 : Fin k0_t1_loop.trips) (v9401_r0 : BitVec 32) (k0_hw170 : k0_chk170 k0_t1 v9401_r0), ∀ (r : Fin 2), ∀ a, S8x128.size a = 0 ∨ (k0_off231 k0_t1 v9401_r0 (BitVec.ofNat 32 (26632 * r.val))) a + (![3329, 1] : Fin 2 → Nat) a * (S8x128.size a - 1) < S106528x128.size a := fun k0_t1 v9401_r0 k0_hw170 r => k0_hw170 r

def k0_off232 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9415_r0 : Index := Scalar.indexCast v8246_r0
  let c42_4190_r0 : Index := 42#32
  ![v9415_r0.toNat, 42]
def k0_off233 (k0_t1 : Fin k0_t1_loop.trips) (v9416_r0 : BitVec 32) (c0_i32_4192_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9417_r0 : BitVec 32 := Scalar.addi v9416_r0 v8272_r0
  let v9420_r0 : BitVec 32 := Scalar.addi v9417_r0 c0_i32_4192_r0
  let v9421_r0 : Index := Scalar.indexCast v9420_r0
  let c0_4193_r0 : Index := 0#32
  ![v9421_r0.toNat, 0]

def k0_chk171 (k0_t1 : Fin k0_t1_loop.trips) (v9416_r0 : BitVec 32) : Prop :=
  (∀ (r : Fin 2), ∀ a, S8x128.size a = 0 ∨ (k0_off233 k0_t1 v9416_r0 (BitVec.ofNat 32 (26632 * r.val))) a + (![3329, 1] : Fin 2 → Nat) a * (S8x128.size a - 1) < S106528x128.size a)
theorem k0_off233_inb : ∀ (k0_t1 : Fin k0_t1_loop.trips) (v9416_r0 : BitVec 32) (k0_hw171 : k0_chk171 k0_t1 v9416_r0), ∀ (r : Fin 2), ∀ a, S8x128.size a = 0 ∨ (k0_off233 k0_t1 v9416_r0 (BitVec.ofNat 32 (26632 * r.val))) a + (![3329, 1] : Fin 2 → Nat) a * (S8x128.size a - 1) < S106528x128.size a := fun k0_t1 v9416_r0 k0_hw171 r => k0_hw171 r

def k0_off234 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9430_r0 : Index := Scalar.indexCast v8246_r0
  let c43_4196_r0 : Index := 43#32
  ![v9430_r0.toNat, 43]
def k0_off235 (k0_t1 : Fin k0_t1_loop.trips) (v9431_r0 : BitVec 32) (c0_i32_4198_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9432_r0 : BitVec 32 := Scalar.addi v9431_r0 v8272_r0
  let v9435_r0 : BitVec 32 := Scalar.addi v9432_r0 c0_i32_4198_r0
  let v9436_r0 : Index := Scalar.indexCast v9435_r0
  let c0_4199_r0 : Index := 0#32
  ![v9436_r0.toNat, 0]

def k0_chk172 (k0_t1 : Fin k0_t1_loop.trips) (v9431_r0 : BitVec 32) : Prop :=
  (∀ (r : Fin 2), ∀ a, S8x128.size a = 0 ∨ (k0_off235 k0_t1 v9431_r0 (BitVec.ofNat 32 (26632 * r.val))) a + (![3329, 1] : Fin 2 → Nat) a * (S8x128.size a - 1) < S106528x128.size a)
theorem k0_off235_inb : ∀ (k0_t1 : Fin k0_t1_loop.trips) (v9431_r0 : BitVec 32) (k0_hw172 : k0_chk172 k0_t1 v9431_r0), ∀ (r : Fin 2), ∀ a, S8x128.size a = 0 ∨ (k0_off235 k0_t1 v9431_r0 (BitVec.ofNat 32 (26632 * r.val))) a + (![3329, 1] : Fin 2 → Nat) a * (S8x128.size a - 1) < S106528x128.size a := fun k0_t1 v9431_r0 k0_hw172 r => k0_hw172 r

def k0_off236 (k0_t1 : Fin k0_t1_loop.trips) (k0_t2 : Fin k0_t2_loop.trips) (c0_i32_4203_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c10_i32_4202_r0 : BitVec 32 := 10#32
  let v9446_r0 : BitVec 32 := Scalar.addi v8260_r0 c10_i32_4202_r0
  let v9447_r0 : BitVec 32 := Scalar.addi v9446_r0 c0_i32_4203_r0
  let v9448_r0 : Index := Scalar.indexCast v9447_r0
  let c0_4204_r0 : Index := 0#32
  ![v9448_r0.toNat, 0]
def k0_off237 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9459_r0 : Index := Scalar.indexCast v8246_r0
  let c44_4208_r0 : Index := 44#32
  ![v9459_r0.toNat, 44]
def k0_off238 (k0_t1 : Fin k0_t1_loop.trips) (v9460_r0 : BitVec 32) (c0_i32_4210_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9461_r0 : BitVec 32 := Scalar.addi v9460_r0 v8272_r0
  let v9464_r0 : BitVec 32 := Scalar.addi v9461_r0 c0_i32_4210_r0
  let v9465_r0 : Index := Scalar.indexCast v9464_r0
  let c0_4211_r0 : Index := 0#32
  ![v9465_r0.toNat, 0]

def k0_chk173 (k0_t1 : Fin k0_t1_loop.trips) (v9460_r0 : BitVec 32) : Prop :=
  (∀ (r : Fin 2), ∀ a, S8x128.size a = 0 ∨ (k0_off238 k0_t1 v9460_r0 (BitVec.ofNat 32 (26632 * r.val))) a + (![3329, 1] : Fin 2 → Nat) a * (S8x128.size a - 1) < S106528x128.size a)
theorem k0_off238_inb : ∀ (k0_t1 : Fin k0_t1_loop.trips) (v9460_r0 : BitVec 32) (k0_hw173 : k0_chk173 k0_t1 v9460_r0), ∀ (r : Fin 2), ∀ a, S8x128.size a = 0 ∨ (k0_off238 k0_t1 v9460_r0 (BitVec.ofNat 32 (26632 * r.val))) a + (![3329, 1] : Fin 2 → Nat) a * (S8x128.size a - 1) < S106528x128.size a := fun k0_t1 v9460_r0 k0_hw173 r => k0_hw173 r

def k0_off239 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9474_r0 : Index := Scalar.indexCast v8246_r0
  let c45_4214_r0 : Index := 45#32
  ![v9474_r0.toNat, 45]
def k0_off240 (k0_t1 : Fin k0_t1_loop.trips) (v9475_r0 : BitVec 32) (c0_i32_4216_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9476_r0 : BitVec 32 := Scalar.addi v9475_r0 v8272_r0
  let v9479_r0 : BitVec 32 := Scalar.addi v9476_r0 c0_i32_4216_r0
  let v9480_r0 : Index := Scalar.indexCast v9479_r0
  let c0_4217_r0 : Index := 0#32
  ![v9480_r0.toNat, 0]

def k0_chk174 (k0_t1 : Fin k0_t1_loop.trips) (v9475_r0 : BitVec 32) : Prop :=
  (∀ (r : Fin 2), ∀ a, S8x128.size a = 0 ∨ (k0_off240 k0_t1 v9475_r0 (BitVec.ofNat 32 (26632 * r.val))) a + (![3329, 1] : Fin 2 → Nat) a * (S8x128.size a - 1) < S106528x128.size a)
theorem k0_off240_inb : ∀ (k0_t1 : Fin k0_t1_loop.trips) (v9475_r0 : BitVec 32) (k0_hw174 : k0_chk174 k0_t1 v9475_r0), ∀ (r : Fin 2), ∀ a, S8x128.size a = 0 ∨ (k0_off240 k0_t1 v9475_r0 (BitVec.ofNat 32 (26632 * r.val))) a + (![3329, 1] : Fin 2 → Nat) a * (S8x128.size a - 1) < S106528x128.size a := fun k0_t1 v9475_r0 k0_hw174 r => k0_hw174 r

def k0_off241 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9489_r0 : Index := Scalar.indexCast v8246_r0
  let c46_4220_r0 : Index := 46#32
  ![v9489_r0.toNat, 46]
def k0_off242 (k0_t1 : Fin k0_t1_loop.trips) (v9490_r0 : BitVec 32) (c0_i32_4222_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9491_r0 : BitVec 32 := Scalar.addi v9490_r0 v8272_r0
  let v9494_r0 : BitVec 32 := Scalar.addi v9491_r0 c0_i32_4222_r0
  let v9495_r0 : Index := Scalar.indexCast v9494_r0
  let c0_4223_r0 : Index := 0#32
  ![v9495_r0.toNat, 0]

def k0_chk175 (k0_t1 : Fin k0_t1_loop.trips) (v9490_r0 : BitVec 32) : Prop :=
  (∀ (r : Fin 2), ∀ a, S8x128.size a = 0 ∨ (k0_off242 k0_t1 v9490_r0 (BitVec.ofNat 32 (26632 * r.val))) a + (![3329, 1] : Fin 2 → Nat) a * (S8x128.size a - 1) < S106528x128.size a)
theorem k0_off242_inb : ∀ (k0_t1 : Fin k0_t1_loop.trips) (v9490_r0 : BitVec 32) (k0_hw175 : k0_chk175 k0_t1 v9490_r0), ∀ (r : Fin 2), ∀ a, S8x128.size a = 0 ∨ (k0_off242 k0_t1 v9490_r0 (BitVec.ofNat 32 (26632 * r.val))) a + (![3329, 1] : Fin 2 → Nat) a * (S8x128.size a - 1) < S106528x128.size a := fun k0_t1 v9490_r0 k0_hw175 r => k0_hw175 r

def k0_off243 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9504_r0 : Index := Scalar.indexCast v8246_r0
  let c47_4226_r0 : Index := 47#32
  ![v9504_r0.toNat, 47]
def k0_off244 (k0_t1 : Fin k0_t1_loop.trips) (v9505_r0 : BitVec 32) (c0_i32_4228_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9506_r0 : BitVec 32 := Scalar.addi v9505_r0 v8272_r0
  let v9509_r0 : BitVec 32 := Scalar.addi v9506_r0 c0_i32_4228_r0
  let v9510_r0 : Index := Scalar.indexCast v9509_r0
  let c0_4229_r0 : Index := 0#32
  ![v9510_r0.toNat, 0]

def k0_chk176 (k0_t1 : Fin k0_t1_loop.trips) (v9505_r0 : BitVec 32) : Prop :=
  (∀ (r : Fin 2), ∀ a, S8x128.size a = 0 ∨ (k0_off244 k0_t1 v9505_r0 (BitVec.ofNat 32 (26632 * r.val))) a + (![3329, 1] : Fin 2 → Nat) a * (S8x128.size a - 1) < S106528x128.size a)
theorem k0_off244_inb : ∀ (k0_t1 : Fin k0_t1_loop.trips) (v9505_r0 : BitVec 32) (k0_hw176 : k0_chk176 k0_t1 v9505_r0), ∀ (r : Fin 2), ∀ a, S8x128.size a = 0 ∨ (k0_off244 k0_t1 v9505_r0 (BitVec.ofNat 32 (26632 * r.val))) a + (![3329, 1] : Fin 2 → Nat) a * (S8x128.size a - 1) < S106528x128.size a := fun k0_t1 v9505_r0 k0_hw176 r => k0_hw176 r

def k0_off245 (k0_t1 : Fin k0_t1_loop.trips) (k0_t2 : Fin k0_t2_loop.trips) (c0_i32_4233_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c11_i32_4232_r0 : BitVec 32 := 11#32
  let v9520_r0 : BitVec 32 := Scalar.addi v8260_r0 c11_i32_4232_r0
  let v9521_r0 : BitVec 32 := Scalar.addi v9520_r0 c0_i32_4233_r0
  let v9522_r0 : Index := Scalar.indexCast v9521_r0
  let c0_4234_r0 : Index := 0#32
  ![v9522_r0.toNat, 0]
def k0_off246 (k0_t1 : Fin k0_t1_loop.trips) (k0_t2 : Fin k0_t2_loop.trips) (c198_i32_4238_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v9533_r0 : BitVec 32 := Scalar.addi v8259_r0 c198_i32_4238_r0
  let v9534_r0 : Index := Scalar.indexCast v9533_r0
  let c0_4239_r0 : Index := 0#32
  ![v9534_r0.toNat, 0]
def k0_off247 (k0_t1 : Fin k0_t1_loop.trips) (k0_t2 : Fin k0_t2_loop.trips) (c6_i32_4250_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_4248_r0 : BitVec 32 := 104#32
  let v9563_r0 : BitVec 32 := Scalar.muli arg10_r0 c104_i32_4248_r0
  let c0_i32_1301_r0 : BitVec 32 := 0#32
  let c1_i32_1302_r0 : BitVec 32 := 1#32
  let arg11_r0 : BitVec 32 := Scf.iv c0_i32_1301_r0 c1_i32_1302_r0 k0_t2
  let v9564_r0 : BitVec 32 := Scalar.addi v9563_r0 arg11_r0
  let c16_i32_4249_r0 : BitVec 32 := 16#32
  let v9565_r0 : BitVec 32 := Scalar.muli v9564_r0 c16_i32_4249_r0
  let v9566_r0 : BitVec 32 := Scalar.addi v9565_r0 c6_i32_4250_r0
  let v9567_r0 : Index := Scalar.indexCast v9566_r0
  let c0_4251_r0 : Index := 0#32
  ![v9567_r0.toNat, 0]
def k0_off248 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v9631_r0 : Index := Scalar.indexCast arg11_r0
  let c0_4268_r0 : Index := 0#32
  let c0_4269_r0 : Index := 0#32
  ![v9631_r0.toNat, 0, 0]
def k0_off249 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9657_r0 : Index := Scalar.indexCast v8246_r0
  let c48_4278_r0 : Index := 48#32
  ![v9657_r0.toNat, 48]
def k0_off250 (k0_t1 : Fin k0_t1_loop.trips) (v9658_r0 : BitVec 32) (c0_i32_4280_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9659_r0 : BitVec 32 := Scalar.addi v9658_r0 v8272_r0
  let v9662_r0 : BitVec 32 := Scalar.addi v9659_r0 c0_i32_4280_r0
  let v9663_r0 : Index := Scalar.indexCast v9662_r0
  let c0_4281_r0 : Index := 0#32
  ![v9663_r0.toNat, 0]

def k0_chk177 (k0_t1 : Fin k0_t1_loop.trips) (v9658_r0 : BitVec 32) : Prop :=
  (∀ (r : Fin 2), ∀ a, S8x128.size a = 0 ∨ (k0_off250 k0_t1 v9658_r0 (BitVec.ofNat 32 (26632 * r.val))) a + (![3329, 1] : Fin 2 → Nat) a * (S8x128.size a - 1) < S106528x128.size a)
theorem k0_off250_inb : ∀ (k0_t1 : Fin k0_t1_loop.trips) (v9658_r0 : BitVec 32) (k0_hw177 : k0_chk177 k0_t1 v9658_r0), ∀ (r : Fin 2), ∀ a, S8x128.size a = 0 ∨ (k0_off250 k0_t1 v9658_r0 (BitVec.ofNat 32 (26632 * r.val))) a + (![3329, 1] : Fin 2 → Nat) a * (S8x128.size a - 1) < S106528x128.size a := fun k0_t1 v9658_r0 k0_hw177 r => k0_hw177 r

def k0_off251 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9672_r0 : Index := Scalar.indexCast v8246_r0
  let c49_4284_r0 : Index := 49#32
  ![v9672_r0.toNat, 49]
def k0_off252 (k0_t1 : Fin k0_t1_loop.trips) (v9673_r0 : BitVec 32) (c0_i32_4286_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9674_r0 : BitVec 32 := Scalar.addi v9673_r0 v8272_r0
  let v9677_r0 : BitVec 32 := Scalar.addi v9674_r0 c0_i32_4286_r0
  let v9678_r0 : Index := Scalar.indexCast v9677_r0
  let c0_4287_r0 : Index := 0#32
  ![v9678_r0.toNat, 0]

def k0_chk178 (k0_t1 : Fin k0_t1_loop.trips) (v9673_r0 : BitVec 32) : Prop :=
  (∀ (r : Fin 2), ∀ a, S8x128.size a = 0 ∨ (k0_off252 k0_t1 v9673_r0 (BitVec.ofNat 32 (26632 * r.val))) a + (![3329, 1] : Fin 2 → Nat) a * (S8x128.size a - 1) < S106528x128.size a)
theorem k0_off252_inb : ∀ (k0_t1 : Fin k0_t1_loop.trips) (v9673_r0 : BitVec 32) (k0_hw178 : k0_chk178 k0_t1 v9673_r0), ∀ (r : Fin 2), ∀ a, S8x128.size a = 0 ∨ (k0_off252 k0_t1 v9673_r0 (BitVec.ofNat 32 (26632 * r.val))) a + (![3329, 1] : Fin 2 → Nat) a * (S8x128.size a - 1) < S106528x128.size a := fun k0_t1 v9673_r0 k0_hw178 r => k0_hw178 r

def k0_off253 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9687_r0 : Index := Scalar.indexCast v8246_r0
  let c50_4290_r0 : Index := 50#32
  ![v9687_r0.toNat, 50]
def k0_off254 (k0_t1 : Fin k0_t1_loop.trips) (v9688_r0 : BitVec 32) (c0_i32_4292_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9689_r0 : BitVec 32 := Scalar.addi v9688_r0 v8272_r0
  let v9692_r0 : BitVec 32 := Scalar.addi v9689_r0 c0_i32_4292_r0
  let v9693_r0 : Index := Scalar.indexCast v9692_r0
  let c0_4293_r0 : Index := 0#32
  ![v9693_r0.toNat, 0]

def k0_chk179 (k0_t1 : Fin k0_t1_loop.trips) (v9688_r0 : BitVec 32) : Prop :=
  (∀ (r : Fin 2), ∀ a, S8x128.size a = 0 ∨ (k0_off254 k0_t1 v9688_r0 (BitVec.ofNat 32 (26632 * r.val))) a + (![3329, 1] : Fin 2 → Nat) a * (S8x128.size a - 1) < S106528x128.size a)
theorem k0_off254_inb : ∀ (k0_t1 : Fin k0_t1_loop.trips) (v9688_r0 : BitVec 32) (k0_hw179 : k0_chk179 k0_t1 v9688_r0), ∀ (r : Fin 2), ∀ a, S8x128.size a = 0 ∨ (k0_off254 k0_t1 v9688_r0 (BitVec.ofNat 32 (26632 * r.val))) a + (![3329, 1] : Fin 2 → Nat) a * (S8x128.size a - 1) < S106528x128.size a := fun k0_t1 v9688_r0 k0_hw179 r => k0_hw179 r

def k0_off255 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9702_r0 : Index := Scalar.indexCast v8246_r0
  let c51_4296_r0 : Index := 51#32
  ![v9702_r0.toNat, 51]
def k0_off256 (k0_t1 : Fin k0_t1_loop.trips) (v9703_r0 : BitVec 32) (c0_i32_4298_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9704_r0 : BitVec 32 := Scalar.addi v9703_r0 v8272_r0
  let v9707_r0 : BitVec 32 := Scalar.addi v9704_r0 c0_i32_4298_r0
  let v9708_r0 : Index := Scalar.indexCast v9707_r0
  let c0_4299_r0 : Index := 0#32
  ![v9708_r0.toNat, 0]

def k0_chk180 (k0_t1 : Fin k0_t1_loop.trips) (v9703_r0 : BitVec 32) : Prop :=
  (∀ (r : Fin 2), ∀ a, S8x128.size a = 0 ∨ (k0_off256 k0_t1 v9703_r0 (BitVec.ofNat 32 (26632 * r.val))) a + (![3329, 1] : Fin 2 → Nat) a * (S8x128.size a - 1) < S106528x128.size a)
theorem k0_off256_inb : ∀ (k0_t1 : Fin k0_t1_loop.trips) (v9703_r0 : BitVec 32) (k0_hw180 : k0_chk180 k0_t1 v9703_r0), ∀ (r : Fin 2), ∀ a, S8x128.size a = 0 ∨ (k0_off256 k0_t1 v9703_r0 (BitVec.ofNat 32 (26632 * r.val))) a + (![3329, 1] : Fin 2 → Nat) a * (S8x128.size a - 1) < S106528x128.size a := fun k0_t1 v9703_r0 k0_hw180 r => k0_hw180 r

def k0_off257 (k0_t1 : Fin k0_t1_loop.trips) (k0_t2 : Fin k0_t2_loop.trips) (c0_i32_4303_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c12_i32_4302_r0 : BitVec 32 := 12#32
  let v9718_r0 : BitVec 32 := Scalar.addi v8260_r0 c12_i32_4302_r0
  let v9719_r0 : BitVec 32 := Scalar.addi v9718_r0 c0_i32_4303_r0
  let v9720_r0 : Index := Scalar.indexCast v9719_r0
  let c0_4304_r0 : Index := 0#32
  ![v9720_r0.toNat, 0]
def k0_off258 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9731_r0 : Index := Scalar.indexCast v8246_r0
  let c52_4308_r0 : Index := 52#32
  ![v9731_r0.toNat, 52]
def k0_off259 (k0_t1 : Fin k0_t1_loop.trips) (v9732_r0 : BitVec 32) (c0_i32_4310_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9733_r0 : BitVec 32 := Scalar.addi v9732_r0 v8272_r0
  let v9736_r0 : BitVec 32 := Scalar.addi v9733_r0 c0_i32_4310_r0
  let v9737_r0 : Index := Scalar.indexCast v9736_r0
  let c0_4311_r0 : Index := 0#32
  ![v9737_r0.toNat, 0]

def k0_chk181 (k0_t1 : Fin k0_t1_loop.trips) (v9732_r0 : BitVec 32) : Prop :=
  (∀ (r : Fin 2), ∀ a, S8x128.size a = 0 ∨ (k0_off259 k0_t1 v9732_r0 (BitVec.ofNat 32 (26632 * r.val))) a + (![3329, 1] : Fin 2 → Nat) a * (S8x128.size a - 1) < S106528x128.size a)
theorem k0_off259_inb : ∀ (k0_t1 : Fin k0_t1_loop.trips) (v9732_r0 : BitVec 32) (k0_hw181 : k0_chk181 k0_t1 v9732_r0), ∀ (r : Fin 2), ∀ a, S8x128.size a = 0 ∨ (k0_off259 k0_t1 v9732_r0 (BitVec.ofNat 32 (26632 * r.val))) a + (![3329, 1] : Fin 2 → Nat) a * (S8x128.size a - 1) < S106528x128.size a := fun k0_t1 v9732_r0 k0_hw181 r => k0_hw181 r

def k0_off260 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9746_r0 : Index := Scalar.indexCast v8246_r0
  let c53_4314_r0 : Index := 53#32
  ![v9746_r0.toNat, 53]
def k0_off261 (k0_t1 : Fin k0_t1_loop.trips) (v9747_r0 : BitVec 32) (c0_i32_4316_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9748_r0 : BitVec 32 := Scalar.addi v9747_r0 v8272_r0
  let v9751_r0 : BitVec 32 := Scalar.addi v9748_r0 c0_i32_4316_r0
  let v9752_r0 : Index := Scalar.indexCast v9751_r0
  let c0_4317_r0 : Index := 0#32
  ![v9752_r0.toNat, 0]

def k0_chk182 (k0_t1 : Fin k0_t1_loop.trips) (v9747_r0 : BitVec 32) : Prop :=
  (∀ (r : Fin 2), ∀ a, S8x128.size a = 0 ∨ (k0_off261 k0_t1 v9747_r0 (BitVec.ofNat 32 (26632 * r.val))) a + (![3329, 1] : Fin 2 → Nat) a * (S8x128.size a - 1) < S106528x128.size a)
theorem k0_off261_inb : ∀ (k0_t1 : Fin k0_t1_loop.trips) (v9747_r0 : BitVec 32) (k0_hw182 : k0_chk182 k0_t1 v9747_r0), ∀ (r : Fin 2), ∀ a, S8x128.size a = 0 ∨ (k0_off261 k0_t1 v9747_r0 (BitVec.ofNat 32 (26632 * r.val))) a + (![3329, 1] : Fin 2 → Nat) a * (S8x128.size a - 1) < S106528x128.size a := fun k0_t1 v9747_r0 k0_hw182 r => k0_hw182 r

def k0_off262 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9761_r0 : Index := Scalar.indexCast v8246_r0
  let c54_4320_r0 : Index := 54#32
  ![v9761_r0.toNat, 54]
def k0_off263 (k0_t1 : Fin k0_t1_loop.trips) (v9762_r0 : BitVec 32) (c0_i32_4322_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9763_r0 : BitVec 32 := Scalar.addi v9762_r0 v8272_r0
  let v9766_r0 : BitVec 32 := Scalar.addi v9763_r0 c0_i32_4322_r0
  let v9767_r0 : Index := Scalar.indexCast v9766_r0
  let c0_4323_r0 : Index := 0#32
  ![v9767_r0.toNat, 0]

def k0_chk183 (k0_t1 : Fin k0_t1_loop.trips) (v9762_r0 : BitVec 32) : Prop :=
  (∀ (r : Fin 2), ∀ a, S8x128.size a = 0 ∨ (k0_off263 k0_t1 v9762_r0 (BitVec.ofNat 32 (26632 * r.val))) a + (![3329, 1] : Fin 2 → Nat) a * (S8x128.size a - 1) < S106528x128.size a)
theorem k0_off263_inb : ∀ (k0_t1 : Fin k0_t1_loop.trips) (v9762_r0 : BitVec 32) (k0_hw183 : k0_chk183 k0_t1 v9762_r0), ∀ (r : Fin 2), ∀ a, S8x128.size a = 0 ∨ (k0_off263 k0_t1 v9762_r0 (BitVec.ofNat 32 (26632 * r.val))) a + (![3329, 1] : Fin 2 → Nat) a * (S8x128.size a - 1) < S106528x128.size a := fun k0_t1 v9762_r0 k0_hw183 r => k0_hw183 r

def k0_off264 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9776_r0 : Index := Scalar.indexCast v8246_r0
  let c55_4326_r0 : Index := 55#32
  ![v9776_r0.toNat, 55]
def k0_off265 (k0_t1 : Fin k0_t1_loop.trips) (v9777_r0 : BitVec 32) (c0_i32_4328_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9778_r0 : BitVec 32 := Scalar.addi v9777_r0 v8272_r0
  let v9781_r0 : BitVec 32 := Scalar.addi v9778_r0 c0_i32_4328_r0
  let v9782_r0 : Index := Scalar.indexCast v9781_r0
  let c0_4329_r0 : Index := 0#32
  ![v9782_r0.toNat, 0]

def k0_chk184 (k0_t1 : Fin k0_t1_loop.trips) (v9777_r0 : BitVec 32) : Prop :=
  (∀ (r : Fin 2), ∀ a, S8x128.size a = 0 ∨ (k0_off265 k0_t1 v9777_r0 (BitVec.ofNat 32 (26632 * r.val))) a + (![3329, 1] : Fin 2 → Nat) a * (S8x128.size a - 1) < S106528x128.size a)
theorem k0_off265_inb : ∀ (k0_t1 : Fin k0_t1_loop.trips) (v9777_r0 : BitVec 32) (k0_hw184 : k0_chk184 k0_t1 v9777_r0), ∀ (r : Fin 2), ∀ a, S8x128.size a = 0 ∨ (k0_off265 k0_t1 v9777_r0 (BitVec.ofNat 32 (26632 * r.val))) a + (![3329, 1] : Fin 2 → Nat) a * (S8x128.size a - 1) < S106528x128.size a := fun k0_t1 v9777_r0 k0_hw184 r => k0_hw184 r

def k0_off266 (k0_t1 : Fin k0_t1_loop.trips) (k0_t2 : Fin k0_t2_loop.trips) (c0_i32_4333_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c13_i32_4332_r0 : BitVec 32 := 13#32
  let v9792_r0 : BitVec 32 := Scalar.addi v8260_r0 c13_i32_4332_r0
  let v9793_r0 : BitVec 32 := Scalar.addi v9792_r0 c0_i32_4333_r0
  let v9794_r0 : Index := Scalar.indexCast v9793_r0
  let c0_4334_r0 : Index := 0#32
  ![v9794_r0.toNat, 0]
def k0_off267 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9805_r0 : Index := Scalar.indexCast v8246_r0
  let c56_4338_r0 : Index := 56#32
  ![v9805_r0.toNat, 56]
def k0_off268 (k0_t1 : Fin k0_t1_loop.trips) (v9806_r0 : BitVec 32) (c0_i32_4340_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9807_r0 : BitVec 32 := Scalar.addi v9806_r0 v8272_r0
  let v9810_r0 : BitVec 32 := Scalar.addi v9807_r0 c0_i32_4340_r0
  let v9811_r0 : Index := Scalar.indexCast v9810_r0
  let c0_4341_r0 : Index := 0#32
  ![v9811_r0.toNat, 0]

def k0_chk185 (k0_t1 : Fin k0_t1_loop.trips) (v9806_r0 : BitVec 32) : Prop :=
  (∀ (r : Fin 2), ∀ a, S8x128.size a = 0 ∨ (k0_off268 k0_t1 v9806_r0 (BitVec.ofNat 32 (26632 * r.val))) a + (![3329, 1] : Fin 2 → Nat) a * (S8x128.size a - 1) < S106528x128.size a)
theorem k0_off268_inb : ∀ (k0_t1 : Fin k0_t1_loop.trips) (v9806_r0 : BitVec 32) (k0_hw185 : k0_chk185 k0_t1 v9806_r0), ∀ (r : Fin 2), ∀ a, S8x128.size a = 0 ∨ (k0_off268 k0_t1 v9806_r0 (BitVec.ofNat 32 (26632 * r.val))) a + (![3329, 1] : Fin 2 → Nat) a * (S8x128.size a - 1) < S106528x128.size a := fun k0_t1 v9806_r0 k0_hw185 r => k0_hw185 r

def k0_off269 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9820_r0 : Index := Scalar.indexCast v8246_r0
  let c57_4344_r0 : Index := 57#32
  ![v9820_r0.toNat, 57]
def k0_off270 (k0_t1 : Fin k0_t1_loop.trips) (v9821_r0 : BitVec 32) (c0_i32_4346_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9822_r0 : BitVec 32 := Scalar.addi v9821_r0 v8272_r0
  let v9825_r0 : BitVec 32 := Scalar.addi v9822_r0 c0_i32_4346_r0
  let v9826_r0 : Index := Scalar.indexCast v9825_r0
  let c0_4347_r0 : Index := 0#32
  ![v9826_r0.toNat, 0]

def k0_chk186 (k0_t1 : Fin k0_t1_loop.trips) (v9821_r0 : BitVec 32) : Prop :=
  (∀ (r : Fin 2), ∀ a, S8x128.size a = 0 ∨ (k0_off270 k0_t1 v9821_r0 (BitVec.ofNat 32 (26632 * r.val))) a + (![3329, 1] : Fin 2 → Nat) a * (S8x128.size a - 1) < S106528x128.size a)
theorem k0_off270_inb : ∀ (k0_t1 : Fin k0_t1_loop.trips) (v9821_r0 : BitVec 32) (k0_hw186 : k0_chk186 k0_t1 v9821_r0), ∀ (r : Fin 2), ∀ a, S8x128.size a = 0 ∨ (k0_off270 k0_t1 v9821_r0 (BitVec.ofNat 32 (26632 * r.val))) a + (![3329, 1] : Fin 2 → Nat) a * (S8x128.size a - 1) < S106528x128.size a := fun k0_t1 v9821_r0 k0_hw186 r => k0_hw186 r

def k0_off271 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9835_r0 : Index := Scalar.indexCast v8246_r0
  let c58_4350_r0 : Index := 58#32
  ![v9835_r0.toNat, 58]
def k0_off272 (k0_t1 : Fin k0_t1_loop.trips) (v9836_r0 : BitVec 32) (c0_i32_4352_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9837_r0 : BitVec 32 := Scalar.addi v9836_r0 v8272_r0
  let v9840_r0 : BitVec 32 := Scalar.addi v9837_r0 c0_i32_4352_r0
  let v9841_r0 : Index := Scalar.indexCast v9840_r0
  let c0_4353_r0 : Index := 0#32
  ![v9841_r0.toNat, 0]

def k0_chk187 (k0_t1 : Fin k0_t1_loop.trips) (v9836_r0 : BitVec 32) : Prop :=
  (∀ (r : Fin 2), ∀ a, S8x128.size a = 0 ∨ (k0_off272 k0_t1 v9836_r0 (BitVec.ofNat 32 (26632 * r.val))) a + (![3329, 1] : Fin 2 → Nat) a * (S8x128.size a - 1) < S106528x128.size a)
theorem k0_off272_inb : ∀ (k0_t1 : Fin k0_t1_loop.trips) (v9836_r0 : BitVec 32) (k0_hw187 : k0_chk187 k0_t1 v9836_r0), ∀ (r : Fin 2), ∀ a, S8x128.size a = 0 ∨ (k0_off272 k0_t1 v9836_r0 (BitVec.ofNat 32 (26632 * r.val))) a + (![3329, 1] : Fin 2 → Nat) a * (S8x128.size a - 1) < S106528x128.size a := fun k0_t1 v9836_r0 k0_hw187 r => k0_hw187 r

def k0_off273 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9850_r0 : Index := Scalar.indexCast v8246_r0
  let c59_4356_r0 : Index := 59#32
  ![v9850_r0.toNat, 59]
def k0_off274 (k0_t1 : Fin k0_t1_loop.trips) (v9851_r0 : BitVec 32) (c0_i32_4358_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9852_r0 : BitVec 32 := Scalar.addi v9851_r0 v8272_r0
  let v9855_r0 : BitVec 32 := Scalar.addi v9852_r0 c0_i32_4358_r0
  let v9856_r0 : Index := Scalar.indexCast v9855_r0
  let c0_4359_r0 : Index := 0#32
  ![v9856_r0.toNat, 0]

def k0_chk188 (k0_t1 : Fin k0_t1_loop.trips) (v9851_r0 : BitVec 32) : Prop :=
  (∀ (r : Fin 2), ∀ a, S8x128.size a = 0 ∨ (k0_off274 k0_t1 v9851_r0 (BitVec.ofNat 32 (26632 * r.val))) a + (![3329, 1] : Fin 2 → Nat) a * (S8x128.size a - 1) < S106528x128.size a)
theorem k0_off274_inb : ∀ (k0_t1 : Fin k0_t1_loop.trips) (v9851_r0 : BitVec 32) (k0_hw188 : k0_chk188 k0_t1 v9851_r0), ∀ (r : Fin 2), ∀ a, S8x128.size a = 0 ∨ (k0_off274 k0_t1 v9851_r0 (BitVec.ofNat 32 (26632 * r.val))) a + (![3329, 1] : Fin 2 → Nat) a * (S8x128.size a - 1) < S106528x128.size a := fun k0_t1 v9851_r0 k0_hw188 r => k0_hw188 r

def k0_off275 (k0_t1 : Fin k0_t1_loop.trips) (k0_t2 : Fin k0_t2_loop.trips) (c0_i32_4363_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c14_i32_4362_r0 : BitVec 32 := 14#32
  let v9866_r0 : BitVec 32 := Scalar.addi v8260_r0 c14_i32_4362_r0
  let v9867_r0 : BitVec 32 := Scalar.addi v9866_r0 c0_i32_4363_r0
  let v9868_r0 : Index := Scalar.indexCast v9867_r0
  let c0_4364_r0 : Index := 0#32
  ![v9868_r0.toNat, 0]
def k0_off276 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9879_r0 : Index := Scalar.indexCast v8246_r0
  let c60_4368_r0 : Index := 60#32
  ![v9879_r0.toNat, 60]
def k0_off277 (k0_t1 : Fin k0_t1_loop.trips) (v9880_r0 : BitVec 32) (c0_i32_4370_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9881_r0 : BitVec 32 := Scalar.addi v9880_r0 v8272_r0
  let v9884_r0 : BitVec 32 := Scalar.addi v9881_r0 c0_i32_4370_r0
  let v9885_r0 : Index := Scalar.indexCast v9884_r0
  let c0_4371_r0 : Index := 0#32
  ![v9885_r0.toNat, 0]

def k0_chk189 (k0_t1 : Fin k0_t1_loop.trips) (v9880_r0 : BitVec 32) : Prop :=
  (∀ (r : Fin 2), ∀ a, S8x128.size a = 0 ∨ (k0_off277 k0_t1 v9880_r0 (BitVec.ofNat 32 (26632 * r.val))) a + (![3329, 1] : Fin 2 → Nat) a * (S8x128.size a - 1) < S106528x128.size a)
theorem k0_off277_inb : ∀ (k0_t1 : Fin k0_t1_loop.trips) (v9880_r0 : BitVec 32) (k0_hw189 : k0_chk189 k0_t1 v9880_r0), ∀ (r : Fin 2), ∀ a, S8x128.size a = 0 ∨ (k0_off277 k0_t1 v9880_r0 (BitVec.ofNat 32 (26632 * r.val))) a + (![3329, 1] : Fin 2 → Nat) a * (S8x128.size a - 1) < S106528x128.size a := fun k0_t1 v9880_r0 k0_hw189 r => k0_hw189 r

def k0_off278 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9894_r0 : Index := Scalar.indexCast v8246_r0
  let c61_4374_r0 : Index := 61#32
  ![v9894_r0.toNat, 61]
def k0_off279 (k0_t1 : Fin k0_t1_loop.trips) (v9895_r0 : BitVec 32) (c0_i32_4376_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9896_r0 : BitVec 32 := Scalar.addi v9895_r0 v8272_r0
  let v9899_r0 : BitVec 32 := Scalar.addi v9896_r0 c0_i32_4376_r0
  let v9900_r0 : Index := Scalar.indexCast v9899_r0
  let c0_4377_r0 : Index := 0#32
  ![v9900_r0.toNat, 0]

def k0_chk190 (k0_t1 : Fin k0_t1_loop.trips) (v9895_r0 : BitVec 32) : Prop :=
  (∀ (r : Fin 2), ∀ a, S8x128.size a = 0 ∨ (k0_off279 k0_t1 v9895_r0 (BitVec.ofNat 32 (26632 * r.val))) a + (![3329, 1] : Fin 2 → Nat) a * (S8x128.size a - 1) < S106528x128.size a)
theorem k0_off279_inb : ∀ (k0_t1 : Fin k0_t1_loop.trips) (v9895_r0 : BitVec 32) (k0_hw190 : k0_chk190 k0_t1 v9895_r0), ∀ (r : Fin 2), ∀ a, S8x128.size a = 0 ∨ (k0_off279 k0_t1 v9895_r0 (BitVec.ofNat 32 (26632 * r.val))) a + (![3329, 1] : Fin 2 → Nat) a * (S8x128.size a - 1) < S106528x128.size a := fun k0_t1 v9895_r0 k0_hw190 r => k0_hw190 r

def k0_off280 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9909_r0 : Index := Scalar.indexCast v8246_r0
  let c62_4380_r0 : Index := 62#32
  ![v9909_r0.toNat, 62]
def k0_off281 (k0_t1 : Fin k0_t1_loop.trips) (v9910_r0 : BitVec 32) (c0_i32_4382_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9911_r0 : BitVec 32 := Scalar.addi v9910_r0 v8272_r0
  let v9914_r0 : BitVec 32 := Scalar.addi v9911_r0 c0_i32_4382_r0
  let v9915_r0 : Index := Scalar.indexCast v9914_r0
  let c0_4383_r0 : Index := 0#32
  ![v9915_r0.toNat, 0]

def k0_chk191 (k0_t1 : Fin k0_t1_loop.trips) (v9910_r0 : BitVec 32) : Prop :=
  (∀ (r : Fin 2), ∀ a, S8x128.size a = 0 ∨ (k0_off281 k0_t1 v9910_r0 (BitVec.ofNat 32 (26632 * r.val))) a + (![3329, 1] : Fin 2 → Nat) a * (S8x128.size a - 1) < S106528x128.size a)
theorem k0_off281_inb : ∀ (k0_t1 : Fin k0_t1_loop.trips) (v9910_r0 : BitVec 32) (k0_hw191 : k0_chk191 k0_t1 v9910_r0), ∀ (r : Fin 2), ∀ a, S8x128.size a = 0 ∨ (k0_off281 k0_t1 v9910_r0 (BitVec.ofNat 32 (26632 * r.val))) a + (![3329, 1] : Fin 2 → Nat) a * (S8x128.size a - 1) < S106528x128.size a := fun k0_t1 v9910_r0 k0_hw191 r => k0_hw191 r

def k0_off282 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v9924_r0 : Index := Scalar.indexCast v8246_r0
  let c63_4386_r0 : Index := 63#32
  ![v9924_r0.toNat, 63]
def k0_off283 (k0_t1 : Fin k0_t1_loop.trips) (v9925_r0 : BitVec 32) (c0_i32_4388_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v9926_r0 : BitVec 32 := Scalar.addi v9925_r0 v8272_r0
  let v9929_r0 : BitVec 32 := Scalar.addi v9926_r0 c0_i32_4388_r0
  let v9930_r0 : Index := Scalar.indexCast v9929_r0
  let c0_4389_r0 : Index := 0#32
  ![v9930_r0.toNat, 0]

def k0_chk192 (k0_t1 : Fin k0_t1_loop.trips) (v9925_r0 : BitVec 32) : Prop :=
  (∀ (r : Fin 2), ∀ a, S8x128.size a = 0 ∨ (k0_off283 k0_t1 v9925_r0 (BitVec.ofNat 32 (26632 * r.val))) a + (![3329, 1] : Fin 2 → Nat) a * (S8x128.size a - 1) < S106528x128.size a)
theorem k0_off283_inb : ∀ (k0_t1 : Fin k0_t1_loop.trips) (v9925_r0 : BitVec 32) (k0_hw192 : k0_chk192 k0_t1 v9925_r0), ∀ (r : Fin 2), ∀ a, S8x128.size a = 0 ∨ (k0_off283 k0_t1 v9925_r0 (BitVec.ofNat 32 (26632 * r.val))) a + (![3329, 1] : Fin 2 → Nat) a * (S8x128.size a - 1) < S106528x128.size a := fun k0_t1 v9925_r0 k0_hw192 r => k0_hw192 r

def k0_off284 (k0_t1 : Fin k0_t1_loop.trips) (k0_t2 : Fin k0_t2_loop.trips) (c0_i32_4393_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c15_i32_4392_r0 : BitVec 32 := 15#32
  let v9940_r0 : BitVec 32 := Scalar.addi v8260_r0 c15_i32_4392_r0
  let v9941_r0 : BitVec 32 := Scalar.addi v9940_r0 c0_i32_4393_r0
  let v9942_r0 : Index := Scalar.indexCast v9941_r0
  let c0_4394_r0 : Index := 0#32
  ![v9942_r0.toNat, 0]
def k0_off285 (k0_t1 : Fin k0_t1_loop.trips) (k0_t2 : Fin k0_t2_loop.trips) (c264_i32_4398_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v9953_r0 : BitVec 32 := Scalar.addi v8259_r0 c264_i32_4398_r0
  let v9954_r0 : Index := Scalar.indexCast v9953_r0
  let c0_4399_r0 : Index := 0#32
  ![v9954_r0.toNat, 0]
def k0_off286 (k0_t1 : Fin k0_t1_loop.trips) (k0_t2 : Fin k0_t2_loop.trips) (c8_i32_4410_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_4408_r0 : BitVec 32 := 104#32
  let v9983_r0 : BitVec 32 := Scalar.muli arg10_r0 c104_i32_4408_r0
  let c0_i32_1301_r0 : BitVec 32 := 0#32
  let c1_i32_1302_r0 : BitVec 32 := 1#32
  let arg11_r0 : BitVec 32 := Scf.iv c0_i32_1301_r0 c1_i32_1302_r0 k0_t2
  let v9984_r0 : BitVec 32 := Scalar.addi v9983_r0 arg11_r0
  let c16_i32_4409_r0 : BitVec 32 := 16#32
  let v9985_r0 : BitVec 32 := Scalar.muli v9984_r0 c16_i32_4409_r0
  let v9986_r0 : BitVec 32 := Scalar.addi v9985_r0 c8_i32_4410_r0
  let v9987_r0 : Index := Scalar.indexCast v9986_r0
  let c0_4411_r0 : Index := 0#32
  ![v9987_r0.toNat, 0]
def k0_off287 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v10051_r0 : Index := Scalar.indexCast arg11_r0
  let c0_4428_r0 : Index := 0#32
  let c0_4429_r0 : Index := 0#32
  ![v10051_r0.toNat, 0, 0]
def k0_off288 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10077_r0 : Index := Scalar.indexCast v8246_r0
  let c64_4438_r0 : Index := 64#32
  ![v10077_r0.toNat, 64]
def k0_off289 (k0_t1 : Fin k0_t1_loop.trips) (v10078_r0 : BitVec 32) (c0_i32_4440_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10079_r0 : BitVec 32 := Scalar.addi v10078_r0 v8272_r0
  let v10082_r0 : BitVec 32 := Scalar.addi v10079_r0 c0_i32_4440_r0
  let v10083_r0 : Index := Scalar.indexCast v10082_r0
  let c0_4441_r0 : Index := 0#32
  ![v10083_r0.toNat, 0]

def k0_chk193 (k0_t1 : Fin k0_t1_loop.trips) (v10078_r0 : BitVec 32) : Prop :=
  (∀ (r : Fin 2), ∀ a, S8x128.size a = 0 ∨ (k0_off289 k0_t1 v10078_r0 (BitVec.ofNat 32 (26632 * r.val))) a + (![3329, 1] : Fin 2 → Nat) a * (S8x128.size a - 1) < S106528x128.size a)
theorem k0_off289_inb : ∀ (k0_t1 : Fin k0_t1_loop.trips) (v10078_r0 : BitVec 32) (k0_hw193 : k0_chk193 k0_t1 v10078_r0), ∀ (r : Fin 2), ∀ a, S8x128.size a = 0 ∨ (k0_off289 k0_t1 v10078_r0 (BitVec.ofNat 32 (26632 * r.val))) a + (![3329, 1] : Fin 2 → Nat) a * (S8x128.size a - 1) < S106528x128.size a := fun k0_t1 v10078_r0 k0_hw193 r => k0_hw193 r

def k0_off290 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10092_r0 : Index := Scalar.indexCast v8246_r0
  let c65_4444_r0 : Index := 65#32
  ![v10092_r0.toNat, 65]
def k0_off291 (k0_t1 : Fin k0_t1_loop.trips) (v10093_r0 : BitVec 32) (c0_i32_4446_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10094_r0 : BitVec 32 := Scalar.addi v10093_r0 v8272_r0
  let v10097_r0 : BitVec 32 := Scalar.addi v10094_r0 c0_i32_4446_r0
  let v10098_r0 : Index := Scalar.indexCast v10097_r0
  let c0_4447_r0 : Index := 0#32
  ![v10098_r0.toNat, 0]

def k0_chk194 (k0_t1 : Fin k0_t1_loop.trips) (v10093_r0 : BitVec 32) : Prop :=
  (∀ (r : Fin 2), ∀ a, S8x128.size a = 0 ∨ (k0_off291 k0_t1 v10093_r0 (BitVec.ofNat 32 (26632 * r.val))) a + (![3329, 1] : Fin 2 → Nat) a * (S8x128.size a - 1) < S106528x128.size a)
theorem k0_off291_inb : ∀ (k0_t1 : Fin k0_t1_loop.trips) (v10093_r0 : BitVec 32) (k0_hw194 : k0_chk194 k0_t1 v10093_r0), ∀ (r : Fin 2), ∀ a, S8x128.size a = 0 ∨ (k0_off291 k0_t1 v10093_r0 (BitVec.ofNat 32 (26632 * r.val))) a + (![3329, 1] : Fin 2 → Nat) a * (S8x128.size a - 1) < S106528x128.size a := fun k0_t1 v10093_r0 k0_hw194 r => k0_hw194 r

def k0_off292 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10107_r0 : Index := Scalar.indexCast v8246_r0
  let c66_4450_r0 : Index := 66#32
  ![v10107_r0.toNat, 66]
def k0_off293 (k0_t1 : Fin k0_t1_loop.trips) (v10108_r0 : BitVec 32) (c0_i32_4452_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10109_r0 : BitVec 32 := Scalar.addi v10108_r0 v8272_r0
  let v10112_r0 : BitVec 32 := Scalar.addi v10109_r0 c0_i32_4452_r0
  let v10113_r0 : Index := Scalar.indexCast v10112_r0
  let c0_4453_r0 : Index := 0#32
  ![v10113_r0.toNat, 0]

def k0_chk195 (k0_t1 : Fin k0_t1_loop.trips) (v10108_r0 : BitVec 32) : Prop :=
  (∀ (r : Fin 2), ∀ a, S8x128.size a = 0 ∨ (k0_off293 k0_t1 v10108_r0 (BitVec.ofNat 32 (26632 * r.val))) a + (![3329, 1] : Fin 2 → Nat) a * (S8x128.size a - 1) < S106528x128.size a)
theorem k0_off293_inb : ∀ (k0_t1 : Fin k0_t1_loop.trips) (v10108_r0 : BitVec 32) (k0_hw195 : k0_chk195 k0_t1 v10108_r0), ∀ (r : Fin 2), ∀ a, S8x128.size a = 0 ∨ (k0_off293 k0_t1 v10108_r0 (BitVec.ofNat 32 (26632 * r.val))) a + (![3329, 1] : Fin 2 → Nat) a * (S8x128.size a - 1) < S106528x128.size a := fun k0_t1 v10108_r0 k0_hw195 r => k0_hw195 r

def k0_off294 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10122_r0 : Index := Scalar.indexCast v8246_r0
  let c67_4456_r0 : Index := 67#32
  ![v10122_r0.toNat, 67]
def k0_off295 (k0_t1 : Fin k0_t1_loop.trips) (v10123_r0 : BitVec 32) (c0_i32_4458_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10124_r0 : BitVec 32 := Scalar.addi v10123_r0 v8272_r0
  let v10127_r0 : BitVec 32 := Scalar.addi v10124_r0 c0_i32_4458_r0
  let v10128_r0 : Index := Scalar.indexCast v10127_r0
  let c0_4459_r0 : Index := 0#32
  ![v10128_r0.toNat, 0]

def k0_chk196 (k0_t1 : Fin k0_t1_loop.trips) (v10123_r0 : BitVec 32) : Prop :=
  (∀ (r : Fin 2), ∀ a, S8x128.size a = 0 ∨ (k0_off295 k0_t1 v10123_r0 (BitVec.ofNat 32 (26632 * r.val))) a + (![3329, 1] : Fin 2 → Nat) a * (S8x128.size a - 1) < S106528x128.size a)
theorem k0_off295_inb : ∀ (k0_t1 : Fin k0_t1_loop.trips) (v10123_r0 : BitVec 32) (k0_hw196 : k0_chk196 k0_t1 v10123_r0), ∀ (r : Fin 2), ∀ a, S8x128.size a = 0 ∨ (k0_off295 k0_t1 v10123_r0 (BitVec.ofNat 32 (26632 * r.val))) a + (![3329, 1] : Fin 2 → Nat) a * (S8x128.size a - 1) < S106528x128.size a := fun k0_t1 v10123_r0 k0_hw196 r => k0_hw196 r

def k0_off296 (k0_t1 : Fin k0_t1_loop.trips) (k0_t2 : Fin k0_t2_loop.trips) (c0_i32_4463_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c16_i32_4462_r0 : BitVec 32 := 16#32
  let v10138_r0 : BitVec 32 := Scalar.addi v8260_r0 c16_i32_4462_r0
  let v10139_r0 : BitVec 32 := Scalar.addi v10138_r0 c0_i32_4463_r0
  let v10140_r0 : Index := Scalar.indexCast v10139_r0
  let c0_4464_r0 : Index := 0#32
  ![v10140_r0.toNat, 0]
def k0_off297 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10151_r0 : Index := Scalar.indexCast v8246_r0
  let c68_4468_r0 : Index := 68#32
  ![v10151_r0.toNat, 68]
def k0_off298 (k0_t1 : Fin k0_t1_loop.trips) (v10152_r0 : BitVec 32) (c0_i32_4470_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10153_r0 : BitVec 32 := Scalar.addi v10152_r0 v8272_r0
  let v10156_r0 : BitVec 32 := Scalar.addi v10153_r0 c0_i32_4470_r0
  let v10157_r0 : Index := Scalar.indexCast v10156_r0
  let c0_4471_r0 : Index := 0#32
  ![v10157_r0.toNat, 0]

def k0_chk197 (k0_t1 : Fin k0_t1_loop.trips) (v10152_r0 : BitVec 32) : Prop :=
  (∀ (r : Fin 2), ∀ a, S8x128.size a = 0 ∨ (k0_off298 k0_t1 v10152_r0 (BitVec.ofNat 32 (26632 * r.val))) a + (![3329, 1] : Fin 2 → Nat) a * (S8x128.size a - 1) < S106528x128.size a)
theorem k0_off298_inb : ∀ (k0_t1 : Fin k0_t1_loop.trips) (v10152_r0 : BitVec 32) (k0_hw197 : k0_chk197 k0_t1 v10152_r0), ∀ (r : Fin 2), ∀ a, S8x128.size a = 0 ∨ (k0_off298 k0_t1 v10152_r0 (BitVec.ofNat 32 (26632 * r.val))) a + (![3329, 1] : Fin 2 → Nat) a * (S8x128.size a - 1) < S106528x128.size a := fun k0_t1 v10152_r0 k0_hw197 r => k0_hw197 r

def k0_off299 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10166_r0 : Index := Scalar.indexCast v8246_r0
  let c69_4474_r0 : Index := 69#32
  ![v10166_r0.toNat, 69]
def k0_off300 (k0_t1 : Fin k0_t1_loop.trips) (v10167_r0 : BitVec 32) (c0_i32_4476_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10168_r0 : BitVec 32 := Scalar.addi v10167_r0 v8272_r0
  let v10171_r0 : BitVec 32 := Scalar.addi v10168_r0 c0_i32_4476_r0
  let v10172_r0 : Index := Scalar.indexCast v10171_r0
  let c0_4477_r0 : Index := 0#32
  ![v10172_r0.toNat, 0]

def k0_chk198 (k0_t1 : Fin k0_t1_loop.trips) (v10167_r0 : BitVec 32) : Prop :=
  (∀ (r : Fin 2), ∀ a, S8x128.size a = 0 ∨ (k0_off300 k0_t1 v10167_r0 (BitVec.ofNat 32 (26632 * r.val))) a + (![3329, 1] : Fin 2 → Nat) a * (S8x128.size a - 1) < S106528x128.size a)
theorem k0_off300_inb : ∀ (k0_t1 : Fin k0_t1_loop.trips) (v10167_r0 : BitVec 32) (k0_hw198 : k0_chk198 k0_t1 v10167_r0), ∀ (r : Fin 2), ∀ a, S8x128.size a = 0 ∨ (k0_off300 k0_t1 v10167_r0 (BitVec.ofNat 32 (26632 * r.val))) a + (![3329, 1] : Fin 2 → Nat) a * (S8x128.size a - 1) < S106528x128.size a := fun k0_t1 v10167_r0 k0_hw198 r => k0_hw198 r

def k0_off301 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10181_r0 : Index := Scalar.indexCast v8246_r0
  let c70_4480_r0 : Index := 70#32
  ![v10181_r0.toNat, 70]
def k0_off302 (k0_t1 : Fin k0_t1_loop.trips) (v10182_r0 : BitVec 32) (c0_i32_4482_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10183_r0 : BitVec 32 := Scalar.addi v10182_r0 v8272_r0
  let v10186_r0 : BitVec 32 := Scalar.addi v10183_r0 c0_i32_4482_r0
  let v10187_r0 : Index := Scalar.indexCast v10186_r0
  let c0_4483_r0 : Index := 0#32
  ![v10187_r0.toNat, 0]

def k0_chk199 (k0_t1 : Fin k0_t1_loop.trips) (v10182_r0 : BitVec 32) : Prop :=
  (∀ (r : Fin 2), ∀ a, S8x128.size a = 0 ∨ (k0_off302 k0_t1 v10182_r0 (BitVec.ofNat 32 (26632 * r.val))) a + (![3329, 1] : Fin 2 → Nat) a * (S8x128.size a - 1) < S106528x128.size a)
theorem k0_off302_inb : ∀ (k0_t1 : Fin k0_t1_loop.trips) (v10182_r0 : BitVec 32) (k0_hw199 : k0_chk199 k0_t1 v10182_r0), ∀ (r : Fin 2), ∀ a, S8x128.size a = 0 ∨ (k0_off302 k0_t1 v10182_r0 (BitVec.ofNat 32 (26632 * r.val))) a + (![3329, 1] : Fin 2 → Nat) a * (S8x128.size a - 1) < S106528x128.size a := fun k0_t1 v10182_r0 k0_hw199 r => k0_hw199 r

def k0_off303 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10196_r0 : Index := Scalar.indexCast v8246_r0
  let c71_4486_r0 : Index := 71#32
  ![v10196_r0.toNat, 71]
def k0_off304 (k0_t1 : Fin k0_t1_loop.trips) (v10197_r0 : BitVec 32) (c0_i32_4488_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10198_r0 : BitVec 32 := Scalar.addi v10197_r0 v8272_r0
  let v10201_r0 : BitVec 32 := Scalar.addi v10198_r0 c0_i32_4488_r0
  let v10202_r0 : Index := Scalar.indexCast v10201_r0
  let c0_4489_r0 : Index := 0#32
  ![v10202_r0.toNat, 0]

def k0_chk200 (k0_t1 : Fin k0_t1_loop.trips) (v10197_r0 : BitVec 32) : Prop :=
  (∀ (r : Fin 2), ∀ a, S8x128.size a = 0 ∨ (k0_off304 k0_t1 v10197_r0 (BitVec.ofNat 32 (26632 * r.val))) a + (![3329, 1] : Fin 2 → Nat) a * (S8x128.size a - 1) < S106528x128.size a)
theorem k0_off304_inb : ∀ (k0_t1 : Fin k0_t1_loop.trips) (v10197_r0 : BitVec 32) (k0_hw200 : k0_chk200 k0_t1 v10197_r0), ∀ (r : Fin 2), ∀ a, S8x128.size a = 0 ∨ (k0_off304 k0_t1 v10197_r0 (BitVec.ofNat 32 (26632 * r.val))) a + (![3329, 1] : Fin 2 → Nat) a * (S8x128.size a - 1) < S106528x128.size a := fun k0_t1 v10197_r0 k0_hw200 r => k0_hw200 r

def k0_off305 (k0_t1 : Fin k0_t1_loop.trips) (k0_t2 : Fin k0_t2_loop.trips) (c0_i32_4493_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c17_i32_4492_r0 : BitVec 32 := 17#32
  let v10212_r0 : BitVec 32 := Scalar.addi v8260_r0 c17_i32_4492_r0
  let v10213_r0 : BitVec 32 := Scalar.addi v10212_r0 c0_i32_4493_r0
  let v10214_r0 : Index := Scalar.indexCast v10213_r0
  let c0_4494_r0 : Index := 0#32
  ![v10214_r0.toNat, 0]
def k0_off306 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10225_r0 : Index := Scalar.indexCast v8246_r0
  let c72_4498_r0 : Index := 72#32
  ![v10225_r0.toNat, 72]
def k0_off307 (k0_t1 : Fin k0_t1_loop.trips) (v10226_r0 : BitVec 32) (c0_i32_4500_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10227_r0 : BitVec 32 := Scalar.addi v10226_r0 v8272_r0
  let v10230_r0 : BitVec 32 := Scalar.addi v10227_r0 c0_i32_4500_r0
  let v10231_r0 : Index := Scalar.indexCast v10230_r0
  let c0_4501_r0 : Index := 0#32
  ![v10231_r0.toNat, 0]

def k0_chk201 (k0_t1 : Fin k0_t1_loop.trips) (v10226_r0 : BitVec 32) : Prop :=
  (∀ (r : Fin 2), ∀ a, S8x128.size a = 0 ∨ (k0_off307 k0_t1 v10226_r0 (BitVec.ofNat 32 (26632 * r.val))) a + (![3329, 1] : Fin 2 → Nat) a * (S8x128.size a - 1) < S106528x128.size a)
theorem k0_off307_inb : ∀ (k0_t1 : Fin k0_t1_loop.trips) (v10226_r0 : BitVec 32) (k0_hw201 : k0_chk201 k0_t1 v10226_r0), ∀ (r : Fin 2), ∀ a, S8x128.size a = 0 ∨ (k0_off307 k0_t1 v10226_r0 (BitVec.ofNat 32 (26632 * r.val))) a + (![3329, 1] : Fin 2 → Nat) a * (S8x128.size a - 1) < S106528x128.size a := fun k0_t1 v10226_r0 k0_hw201 r => k0_hw201 r

def k0_off308 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10240_r0 : Index := Scalar.indexCast v8246_r0
  let c73_4504_r0 : Index := 73#32
  ![v10240_r0.toNat, 73]
def k0_off309 (k0_t1 : Fin k0_t1_loop.trips) (v10241_r0 : BitVec 32) (c0_i32_4506_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10242_r0 : BitVec 32 := Scalar.addi v10241_r0 v8272_r0
  let v10245_r0 : BitVec 32 := Scalar.addi v10242_r0 c0_i32_4506_r0
  let v10246_r0 : Index := Scalar.indexCast v10245_r0
  let c0_4507_r0 : Index := 0#32
  ![v10246_r0.toNat, 0]

def k0_chk202 (k0_t1 : Fin k0_t1_loop.trips) (v10241_r0 : BitVec 32) : Prop :=
  (∀ (r : Fin 2), ∀ a, S8x128.size a = 0 ∨ (k0_off309 k0_t1 v10241_r0 (BitVec.ofNat 32 (26632 * r.val))) a + (![3329, 1] : Fin 2 → Nat) a * (S8x128.size a - 1) < S106528x128.size a)
theorem k0_off309_inb : ∀ (k0_t1 : Fin k0_t1_loop.trips) (v10241_r0 : BitVec 32) (k0_hw202 : k0_chk202 k0_t1 v10241_r0), ∀ (r : Fin 2), ∀ a, S8x128.size a = 0 ∨ (k0_off309 k0_t1 v10241_r0 (BitVec.ofNat 32 (26632 * r.val))) a + (![3329, 1] : Fin 2 → Nat) a * (S8x128.size a - 1) < S106528x128.size a := fun k0_t1 v10241_r0 k0_hw202 r => k0_hw202 r

def k0_off310 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10255_r0 : Index := Scalar.indexCast v8246_r0
  let c74_4510_r0 : Index := 74#32
  ![v10255_r0.toNat, 74]
def k0_off311 (k0_t1 : Fin k0_t1_loop.trips) (v10256_r0 : BitVec 32) (c0_i32_4512_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10257_r0 : BitVec 32 := Scalar.addi v10256_r0 v8272_r0
  let v10260_r0 : BitVec 32 := Scalar.addi v10257_r0 c0_i32_4512_r0
  let v10261_r0 : Index := Scalar.indexCast v10260_r0
  let c0_4513_r0 : Index := 0#32
  ![v10261_r0.toNat, 0]

def k0_chk203 (k0_t1 : Fin k0_t1_loop.trips) (v10256_r0 : BitVec 32) : Prop :=
  (∀ (r : Fin 2), ∀ a, S8x128.size a = 0 ∨ (k0_off311 k0_t1 v10256_r0 (BitVec.ofNat 32 (26632 * r.val))) a + (![3329, 1] : Fin 2 → Nat) a * (S8x128.size a - 1) < S106528x128.size a)
theorem k0_off311_inb : ∀ (k0_t1 : Fin k0_t1_loop.trips) (v10256_r0 : BitVec 32) (k0_hw203 : k0_chk203 k0_t1 v10256_r0), ∀ (r : Fin 2), ∀ a, S8x128.size a = 0 ∨ (k0_off311 k0_t1 v10256_r0 (BitVec.ofNat 32 (26632 * r.val))) a + (![3329, 1] : Fin 2 → Nat) a * (S8x128.size a - 1) < S106528x128.size a := fun k0_t1 v10256_r0 k0_hw203 r => k0_hw203 r

def k0_off312 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10270_r0 : Index := Scalar.indexCast v8246_r0
  let c75_4516_r0 : Index := 75#32
  ![v10270_r0.toNat, 75]
def k0_off313 (k0_t1 : Fin k0_t1_loop.trips) (v10271_r0 : BitVec 32) (c0_i32_4518_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10272_r0 : BitVec 32 := Scalar.addi v10271_r0 v8272_r0
  let v10275_r0 : BitVec 32 := Scalar.addi v10272_r0 c0_i32_4518_r0
  let v10276_r0 : Index := Scalar.indexCast v10275_r0
  let c0_4519_r0 : Index := 0#32
  ![v10276_r0.toNat, 0]

def k0_chk204 (k0_t1 : Fin k0_t1_loop.trips) (v10271_r0 : BitVec 32) : Prop :=
  (∀ (r : Fin 2), ∀ a, S8x128.size a = 0 ∨ (k0_off313 k0_t1 v10271_r0 (BitVec.ofNat 32 (26632 * r.val))) a + (![3329, 1] : Fin 2 → Nat) a * (S8x128.size a - 1) < S106528x128.size a)
theorem k0_off313_inb : ∀ (k0_t1 : Fin k0_t1_loop.trips) (v10271_r0 : BitVec 32) (k0_hw204 : k0_chk204 k0_t1 v10271_r0), ∀ (r : Fin 2), ∀ a, S8x128.size a = 0 ∨ (k0_off313 k0_t1 v10271_r0 (BitVec.ofNat 32 (26632 * r.val))) a + (![3329, 1] : Fin 2 → Nat) a * (S8x128.size a - 1) < S106528x128.size a := fun k0_t1 v10271_r0 k0_hw204 r => k0_hw204 r

def k0_off314 (k0_t1 : Fin k0_t1_loop.trips) (k0_t2 : Fin k0_t2_loop.trips) (c0_i32_4523_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c18_i32_4522_r0 : BitVec 32 := 18#32
  let v10286_r0 : BitVec 32 := Scalar.addi v8260_r0 c18_i32_4522_r0
  let v10287_r0 : BitVec 32 := Scalar.addi v10286_r0 c0_i32_4523_r0
  let v10288_r0 : Index := Scalar.indexCast v10287_r0
  let c0_4524_r0 : Index := 0#32
  ![v10288_r0.toNat, 0]
def k0_off315 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10299_r0 : Index := Scalar.indexCast v8246_r0
  let c76_4528_r0 : Index := 76#32
  ![v10299_r0.toNat, 76]
def k0_off316 (k0_t1 : Fin k0_t1_loop.trips) (v10300_r0 : BitVec 32) (c0_i32_4530_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10301_r0 : BitVec 32 := Scalar.addi v10300_r0 v8272_r0
  let v10304_r0 : BitVec 32 := Scalar.addi v10301_r0 c0_i32_4530_r0
  let v10305_r0 : Index := Scalar.indexCast v10304_r0
  let c0_4531_r0 : Index := 0#32
  ![v10305_r0.toNat, 0]

def k0_chk205 (k0_t1 : Fin k0_t1_loop.trips) (v10300_r0 : BitVec 32) : Prop :=
  (∀ (r : Fin 2), ∀ a, S8x128.size a = 0 ∨ (k0_off316 k0_t1 v10300_r0 (BitVec.ofNat 32 (26632 * r.val))) a + (![3329, 1] : Fin 2 → Nat) a * (S8x128.size a - 1) < S106528x128.size a)
theorem k0_off316_inb : ∀ (k0_t1 : Fin k0_t1_loop.trips) (v10300_r0 : BitVec 32) (k0_hw205 : k0_chk205 k0_t1 v10300_r0), ∀ (r : Fin 2), ∀ a, S8x128.size a = 0 ∨ (k0_off316 k0_t1 v10300_r0 (BitVec.ofNat 32 (26632 * r.val))) a + (![3329, 1] : Fin 2 → Nat) a * (S8x128.size a - 1) < S106528x128.size a := fun k0_t1 v10300_r0 k0_hw205 r => k0_hw205 r

def k0_off317 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10314_r0 : Index := Scalar.indexCast v8246_r0
  let c77_4534_r0 : Index := 77#32
  ![v10314_r0.toNat, 77]
def k0_off318 (k0_t1 : Fin k0_t1_loop.trips) (v10315_r0 : BitVec 32) (c0_i32_4536_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10316_r0 : BitVec 32 := Scalar.addi v10315_r0 v8272_r0
  let v10319_r0 : BitVec 32 := Scalar.addi v10316_r0 c0_i32_4536_r0
  let v10320_r0 : Index := Scalar.indexCast v10319_r0
  let c0_4537_r0 : Index := 0#32
  ![v10320_r0.toNat, 0]

def k0_chk206 (k0_t1 : Fin k0_t1_loop.trips) (v10315_r0 : BitVec 32) : Prop :=
  (∀ (r : Fin 2), ∀ a, S8x128.size a = 0 ∨ (k0_off318 k0_t1 v10315_r0 (BitVec.ofNat 32 (26632 * r.val))) a + (![3329, 1] : Fin 2 → Nat) a * (S8x128.size a - 1) < S106528x128.size a)
theorem k0_off318_inb : ∀ (k0_t1 : Fin k0_t1_loop.trips) (v10315_r0 : BitVec 32) (k0_hw206 : k0_chk206 k0_t1 v10315_r0), ∀ (r : Fin 2), ∀ a, S8x128.size a = 0 ∨ (k0_off318 k0_t1 v10315_r0 (BitVec.ofNat 32 (26632 * r.val))) a + (![3329, 1] : Fin 2 → Nat) a * (S8x128.size a - 1) < S106528x128.size a := fun k0_t1 v10315_r0 k0_hw206 r => k0_hw206 r

def k0_off319 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10329_r0 : Index := Scalar.indexCast v8246_r0
  let c78_4540_r0 : Index := 78#32
  ![v10329_r0.toNat, 78]
def k0_off320 (k0_t1 : Fin k0_t1_loop.trips) (v10330_r0 : BitVec 32) (c0_i32_4542_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10331_r0 : BitVec 32 := Scalar.addi v10330_r0 v8272_r0
  let v10334_r0 : BitVec 32 := Scalar.addi v10331_r0 c0_i32_4542_r0
  let v10335_r0 : Index := Scalar.indexCast v10334_r0
  let c0_4543_r0 : Index := 0#32
  ![v10335_r0.toNat, 0]

def k0_chk207 (k0_t1 : Fin k0_t1_loop.trips) (v10330_r0 : BitVec 32) : Prop :=
  (∀ (r : Fin 2), ∀ a, S8x128.size a = 0 ∨ (k0_off320 k0_t1 v10330_r0 (BitVec.ofNat 32 (26632 * r.val))) a + (![3329, 1] : Fin 2 → Nat) a * (S8x128.size a - 1) < S106528x128.size a)
theorem k0_off320_inb : ∀ (k0_t1 : Fin k0_t1_loop.trips) (v10330_r0 : BitVec 32) (k0_hw207 : k0_chk207 k0_t1 v10330_r0), ∀ (r : Fin 2), ∀ a, S8x128.size a = 0 ∨ (k0_off320 k0_t1 v10330_r0 (BitVec.ofNat 32 (26632 * r.val))) a + (![3329, 1] : Fin 2 → Nat) a * (S8x128.size a - 1) < S106528x128.size a := fun k0_t1 v10330_r0 k0_hw207 r => k0_hw207 r

def k0_off321 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10344_r0 : Index := Scalar.indexCast v8246_r0
  let c79_4546_r0 : Index := 79#32
  ![v10344_r0.toNat, 79]
def k0_off322 (k0_t1 : Fin k0_t1_loop.trips) (v10345_r0 : BitVec 32) (c0_i32_4548_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10346_r0 : BitVec 32 := Scalar.addi v10345_r0 v8272_r0
  let v10349_r0 : BitVec 32 := Scalar.addi v10346_r0 c0_i32_4548_r0
  let v10350_r0 : Index := Scalar.indexCast v10349_r0
  let c0_4549_r0 : Index := 0#32
  ![v10350_r0.toNat, 0]

def k0_chk208 (k0_t1 : Fin k0_t1_loop.trips) (v10345_r0 : BitVec 32) : Prop :=
  (∀ (r : Fin 2), ∀ a, S8x128.size a = 0 ∨ (k0_off322 k0_t1 v10345_r0 (BitVec.ofNat 32 (26632 * r.val))) a + (![3329, 1] : Fin 2 → Nat) a * (S8x128.size a - 1) < S106528x128.size a)
theorem k0_off322_inb : ∀ (k0_t1 : Fin k0_t1_loop.trips) (v10345_r0 : BitVec 32) (k0_hw208 : k0_chk208 k0_t1 v10345_r0), ∀ (r : Fin 2), ∀ a, S8x128.size a = 0 ∨ (k0_off322 k0_t1 v10345_r0 (BitVec.ofNat 32 (26632 * r.val))) a + (![3329, 1] : Fin 2 → Nat) a * (S8x128.size a - 1) < S106528x128.size a := fun k0_t1 v10345_r0 k0_hw208 r => k0_hw208 r

def k0_off323 (k0_t1 : Fin k0_t1_loop.trips) (k0_t2 : Fin k0_t2_loop.trips) (c0_i32_4553_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c19_i32_4552_r0 : BitVec 32 := 19#32
  let v10360_r0 : BitVec 32 := Scalar.addi v8260_r0 c19_i32_4552_r0
  let v10361_r0 : BitVec 32 := Scalar.addi v10360_r0 c0_i32_4553_r0
  let v10362_r0 : Index := Scalar.indexCast v10361_r0
  let c0_4554_r0 : Index := 0#32
  ![v10362_r0.toNat, 0]
def k0_off324 (k0_t1 : Fin k0_t1_loop.trips) (k0_t2 : Fin k0_t2_loop.trips) (c330_i32_4558_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v10373_r0 : BitVec 32 := Scalar.addi v8259_r0 c330_i32_4558_r0
  let v10374_r0 : Index := Scalar.indexCast v10373_r0
  let c0_4559_r0 : Index := 0#32
  ![v10374_r0.toNat, 0]
def k0_off325 (k0_t1 : Fin k0_t1_loop.trips) (k0_t2 : Fin k0_t2_loop.trips) (c10_i32_4570_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_4568_r0 : BitVec 32 := 104#32
  let v10403_r0 : BitVec 32 := Scalar.muli arg10_r0 c104_i32_4568_r0
  let c0_i32_1301_r0 : BitVec 32 := 0#32
  let c1_i32_1302_r0 : BitVec 32 := 1#32
  let arg11_r0 : BitVec 32 := Scf.iv c0_i32_1301_r0 c1_i32_1302_r0 k0_t2
  let v10404_r0 : BitVec 32 := Scalar.addi v10403_r0 arg11_r0
  let c16_i32_4569_r0 : BitVec 32 := 16#32
  let v10405_r0 : BitVec 32 := Scalar.muli v10404_r0 c16_i32_4569_r0
  let v10406_r0 : BitVec 32 := Scalar.addi v10405_r0 c10_i32_4570_r0
  let v10407_r0 : Index := Scalar.indexCast v10406_r0
  let c0_4571_r0 : Index := 0#32
  ![v10407_r0.toNat, 0]
def k0_off326 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v10471_r0 : Index := Scalar.indexCast arg11_r0
  let c0_4588_r0 : Index := 0#32
  let c0_4589_r0 : Index := 0#32
  ![v10471_r0.toNat, 0, 0]
def k0_off327 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10497_r0 : Index := Scalar.indexCast v8246_r0
  let c80_4598_r0 : Index := 80#32
  ![v10497_r0.toNat, 80]
def k0_off328 (k0_t1 : Fin k0_t1_loop.trips) (v10498_r0 : BitVec 32) (c0_i32_4600_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10499_r0 : BitVec 32 := Scalar.addi v10498_r0 v8272_r0
  let v10502_r0 : BitVec 32 := Scalar.addi v10499_r0 c0_i32_4600_r0
  let v10503_r0 : Index := Scalar.indexCast v10502_r0
  let c0_4601_r0 : Index := 0#32
  ![v10503_r0.toNat, 0]

def k0_chk209 (k0_t1 : Fin k0_t1_loop.trips) (v10498_r0 : BitVec 32) : Prop :=
  (∀ (r : Fin 2), ∀ a, S8x128.size a = 0 ∨ (k0_off328 k0_t1 v10498_r0 (BitVec.ofNat 32 (26632 * r.val))) a + (![3329, 1] : Fin 2 → Nat) a * (S8x128.size a - 1) < S106528x128.size a)
theorem k0_off328_inb : ∀ (k0_t1 : Fin k0_t1_loop.trips) (v10498_r0 : BitVec 32) (k0_hw209 : k0_chk209 k0_t1 v10498_r0), ∀ (r : Fin 2), ∀ a, S8x128.size a = 0 ∨ (k0_off328 k0_t1 v10498_r0 (BitVec.ofNat 32 (26632 * r.val))) a + (![3329, 1] : Fin 2 → Nat) a * (S8x128.size a - 1) < S106528x128.size a := fun k0_t1 v10498_r0 k0_hw209 r => k0_hw209 r

def k0_off329 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10512_r0 : Index := Scalar.indexCast v8246_r0
  let c81_4604_r0 : Index := 81#32
  ![v10512_r0.toNat, 81]
def k0_off330 (k0_t1 : Fin k0_t1_loop.trips) (v10513_r0 : BitVec 32) (c0_i32_4606_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10514_r0 : BitVec 32 := Scalar.addi v10513_r0 v8272_r0
  let v10517_r0 : BitVec 32 := Scalar.addi v10514_r0 c0_i32_4606_r0
  let v10518_r0 : Index := Scalar.indexCast v10517_r0
  let c0_4607_r0 : Index := 0#32
  ![v10518_r0.toNat, 0]

def k0_chk210 (k0_t1 : Fin k0_t1_loop.trips) (v10513_r0 : BitVec 32) : Prop :=
  (∀ (r : Fin 2), ∀ a, S8x128.size a = 0 ∨ (k0_off330 k0_t1 v10513_r0 (BitVec.ofNat 32 (26632 * r.val))) a + (![3329, 1] : Fin 2 → Nat) a * (S8x128.size a - 1) < S106528x128.size a)
theorem k0_off330_inb : ∀ (k0_t1 : Fin k0_t1_loop.trips) (v10513_r0 : BitVec 32) (k0_hw210 : k0_chk210 k0_t1 v10513_r0), ∀ (r : Fin 2), ∀ a, S8x128.size a = 0 ∨ (k0_off330 k0_t1 v10513_r0 (BitVec.ofNat 32 (26632 * r.val))) a + (![3329, 1] : Fin 2 → Nat) a * (S8x128.size a - 1) < S106528x128.size a := fun k0_t1 v10513_r0 k0_hw210 r => k0_hw210 r

def k0_off331 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10527_r0 : Index := Scalar.indexCast v8246_r0
  let c82_4610_r0 : Index := 82#32
  ![v10527_r0.toNat, 82]
def k0_off332 (k0_t1 : Fin k0_t1_loop.trips) (v10528_r0 : BitVec 32) (c0_i32_4612_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10529_r0 : BitVec 32 := Scalar.addi v10528_r0 v8272_r0
  let v10532_r0 : BitVec 32 := Scalar.addi v10529_r0 c0_i32_4612_r0
  let v10533_r0 : Index := Scalar.indexCast v10532_r0
  let c0_4613_r0 : Index := 0#32
  ![v10533_r0.toNat, 0]

def k0_chk211 (k0_t1 : Fin k0_t1_loop.trips) (v10528_r0 : BitVec 32) : Prop :=
  (∀ (r : Fin 2), ∀ a, S8x128.size a = 0 ∨ (k0_off332 k0_t1 v10528_r0 (BitVec.ofNat 32 (26632 * r.val))) a + (![3329, 1] : Fin 2 → Nat) a * (S8x128.size a - 1) < S106528x128.size a)
theorem k0_off332_inb : ∀ (k0_t1 : Fin k0_t1_loop.trips) (v10528_r0 : BitVec 32) (k0_hw211 : k0_chk211 k0_t1 v10528_r0), ∀ (r : Fin 2), ∀ a, S8x128.size a = 0 ∨ (k0_off332 k0_t1 v10528_r0 (BitVec.ofNat 32 (26632 * r.val))) a + (![3329, 1] : Fin 2 → Nat) a * (S8x128.size a - 1) < S106528x128.size a := fun k0_t1 v10528_r0 k0_hw211 r => k0_hw211 r

def k0_off333 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10542_r0 : Index := Scalar.indexCast v8246_r0
  let c83_4616_r0 : Index := 83#32
  ![v10542_r0.toNat, 83]
def k0_off334 (k0_t1 : Fin k0_t1_loop.trips) (v10543_r0 : BitVec 32) (c0_i32_4618_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10544_r0 : BitVec 32 := Scalar.addi v10543_r0 v8272_r0
  let v10547_r0 : BitVec 32 := Scalar.addi v10544_r0 c0_i32_4618_r0
  let v10548_r0 : Index := Scalar.indexCast v10547_r0
  let c0_4619_r0 : Index := 0#32
  ![v10548_r0.toNat, 0]

def k0_chk212 (k0_t1 : Fin k0_t1_loop.trips) (v10543_r0 : BitVec 32) : Prop :=
  (∀ (r : Fin 2), ∀ a, S8x128.size a = 0 ∨ (k0_off334 k0_t1 v10543_r0 (BitVec.ofNat 32 (26632 * r.val))) a + (![3329, 1] : Fin 2 → Nat) a * (S8x128.size a - 1) < S106528x128.size a)
theorem k0_off334_inb : ∀ (k0_t1 : Fin k0_t1_loop.trips) (v10543_r0 : BitVec 32) (k0_hw212 : k0_chk212 k0_t1 v10543_r0), ∀ (r : Fin 2), ∀ a, S8x128.size a = 0 ∨ (k0_off334 k0_t1 v10543_r0 (BitVec.ofNat 32 (26632 * r.val))) a + (![3329, 1] : Fin 2 → Nat) a * (S8x128.size a - 1) < S106528x128.size a := fun k0_t1 v10543_r0 k0_hw212 r => k0_hw212 r

def k0_off335 (k0_t1 : Fin k0_t1_loop.trips) (k0_t2 : Fin k0_t2_loop.trips) (c0_i32_4623_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c20_i32_4622_r0 : BitVec 32 := 20#32
  let v10558_r0 : BitVec 32 := Scalar.addi v8260_r0 c20_i32_4622_r0
  let v10559_r0 : BitVec 32 := Scalar.addi v10558_r0 c0_i32_4623_r0
  let v10560_r0 : Index := Scalar.indexCast v10559_r0
  let c0_4624_r0 : Index := 0#32
  ![v10560_r0.toNat, 0]
def k0_off336 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10571_r0 : Index := Scalar.indexCast v8246_r0
  let c84_4628_r0 : Index := 84#32
  ![v10571_r0.toNat, 84]
def k0_off337 (k0_t1 : Fin k0_t1_loop.trips) (v10572_r0 : BitVec 32) (c0_i32_4630_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10573_r0 : BitVec 32 := Scalar.addi v10572_r0 v8272_r0
  let v10576_r0 : BitVec 32 := Scalar.addi v10573_r0 c0_i32_4630_r0
  let v10577_r0 : Index := Scalar.indexCast v10576_r0
  let c0_4631_r0 : Index := 0#32
  ![v10577_r0.toNat, 0]

def k0_chk213 (k0_t1 : Fin k0_t1_loop.trips) (v10572_r0 : BitVec 32) : Prop :=
  (∀ (r : Fin 2), ∀ a, S8x128.size a = 0 ∨ (k0_off337 k0_t1 v10572_r0 (BitVec.ofNat 32 (26632 * r.val))) a + (![3329, 1] : Fin 2 → Nat) a * (S8x128.size a - 1) < S106528x128.size a)
theorem k0_off337_inb : ∀ (k0_t1 : Fin k0_t1_loop.trips) (v10572_r0 : BitVec 32) (k0_hw213 : k0_chk213 k0_t1 v10572_r0), ∀ (r : Fin 2), ∀ a, S8x128.size a = 0 ∨ (k0_off337 k0_t1 v10572_r0 (BitVec.ofNat 32 (26632 * r.val))) a + (![3329, 1] : Fin 2 → Nat) a * (S8x128.size a - 1) < S106528x128.size a := fun k0_t1 v10572_r0 k0_hw213 r => k0_hw213 r

def k0_off338 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10586_r0 : Index := Scalar.indexCast v8246_r0
  let c85_4634_r0 : Index := 85#32
  ![v10586_r0.toNat, 85]
def k0_off339 (k0_t1 : Fin k0_t1_loop.trips) (v10587_r0 : BitVec 32) (c0_i32_4636_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10588_r0 : BitVec 32 := Scalar.addi v10587_r0 v8272_r0
  let v10591_r0 : BitVec 32 := Scalar.addi v10588_r0 c0_i32_4636_r0
  let v10592_r0 : Index := Scalar.indexCast v10591_r0
  let c0_4637_r0 : Index := 0#32
  ![v10592_r0.toNat, 0]

def k0_chk214 (k0_t1 : Fin k0_t1_loop.trips) (v10587_r0 : BitVec 32) : Prop :=
  (∀ (r : Fin 2), ∀ a, S8x128.size a = 0 ∨ (k0_off339 k0_t1 v10587_r0 (BitVec.ofNat 32 (26632 * r.val))) a + (![3329, 1] : Fin 2 → Nat) a * (S8x128.size a - 1) < S106528x128.size a)
theorem k0_off339_inb : ∀ (k0_t1 : Fin k0_t1_loop.trips) (v10587_r0 : BitVec 32) (k0_hw214 : k0_chk214 k0_t1 v10587_r0), ∀ (r : Fin 2), ∀ a, S8x128.size a = 0 ∨ (k0_off339 k0_t1 v10587_r0 (BitVec.ofNat 32 (26632 * r.val))) a + (![3329, 1] : Fin 2 → Nat) a * (S8x128.size a - 1) < S106528x128.size a := fun k0_t1 v10587_r0 k0_hw214 r => k0_hw214 r

def k0_off340 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10601_r0 : Index := Scalar.indexCast v8246_r0
  let c86_4640_r0 : Index := 86#32
  ![v10601_r0.toNat, 86]
def k0_off341 (k0_t1 : Fin k0_t1_loop.trips) (v10602_r0 : BitVec 32) (c0_i32_4642_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10603_r0 : BitVec 32 := Scalar.addi v10602_r0 v8272_r0
  let v10606_r0 : BitVec 32 := Scalar.addi v10603_r0 c0_i32_4642_r0
  let v10607_r0 : Index := Scalar.indexCast v10606_r0
  let c0_4643_r0 : Index := 0#32
  ![v10607_r0.toNat, 0]

def k0_chk215 (k0_t1 : Fin k0_t1_loop.trips) (v10602_r0 : BitVec 32) : Prop :=
  (∀ (r : Fin 2), ∀ a, S8x128.size a = 0 ∨ (k0_off341 k0_t1 v10602_r0 (BitVec.ofNat 32 (26632 * r.val))) a + (![3329, 1] : Fin 2 → Nat) a * (S8x128.size a - 1) < S106528x128.size a)
theorem k0_off341_inb : ∀ (k0_t1 : Fin k0_t1_loop.trips) (v10602_r0 : BitVec 32) (k0_hw215 : k0_chk215 k0_t1 v10602_r0), ∀ (r : Fin 2), ∀ a, S8x128.size a = 0 ∨ (k0_off341 k0_t1 v10602_r0 (BitVec.ofNat 32 (26632 * r.val))) a + (![3329, 1] : Fin 2 → Nat) a * (S8x128.size a - 1) < S106528x128.size a := fun k0_t1 v10602_r0 k0_hw215 r => k0_hw215 r

def k0_off342 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10616_r0 : Index := Scalar.indexCast v8246_r0
  let c87_4646_r0 : Index := 87#32
  ![v10616_r0.toNat, 87]
def k0_off343 (k0_t1 : Fin k0_t1_loop.trips) (v10617_r0 : BitVec 32) (c0_i32_4648_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10618_r0 : BitVec 32 := Scalar.addi v10617_r0 v8272_r0
  let v10621_r0 : BitVec 32 := Scalar.addi v10618_r0 c0_i32_4648_r0
  let v10622_r0 : Index := Scalar.indexCast v10621_r0
  let c0_4649_r0 : Index := 0#32
  ![v10622_r0.toNat, 0]

def k0_chk216 (k0_t1 : Fin k0_t1_loop.trips) (v10617_r0 : BitVec 32) : Prop :=
  (∀ (r : Fin 2), ∀ a, S8x128.size a = 0 ∨ (k0_off343 k0_t1 v10617_r0 (BitVec.ofNat 32 (26632 * r.val))) a + (![3329, 1] : Fin 2 → Nat) a * (S8x128.size a - 1) < S106528x128.size a)
theorem k0_off343_inb : ∀ (k0_t1 : Fin k0_t1_loop.trips) (v10617_r0 : BitVec 32) (k0_hw216 : k0_chk216 k0_t1 v10617_r0), ∀ (r : Fin 2), ∀ a, S8x128.size a = 0 ∨ (k0_off343 k0_t1 v10617_r0 (BitVec.ofNat 32 (26632 * r.val))) a + (![3329, 1] : Fin 2 → Nat) a * (S8x128.size a - 1) < S106528x128.size a := fun k0_t1 v10617_r0 k0_hw216 r => k0_hw216 r

def k0_off344 (k0_t1 : Fin k0_t1_loop.trips) (k0_t2 : Fin k0_t2_loop.trips) (c0_i32_4653_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c21_i32_4652_r0 : BitVec 32 := 21#32
  let v10632_r0 : BitVec 32 := Scalar.addi v8260_r0 c21_i32_4652_r0
  let v10633_r0 : BitVec 32 := Scalar.addi v10632_r0 c0_i32_4653_r0
  let v10634_r0 : Index := Scalar.indexCast v10633_r0
  let c0_4654_r0 : Index := 0#32
  ![v10634_r0.toNat, 0]
def k0_off345 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10645_r0 : Index := Scalar.indexCast v8246_r0
  let c88_4658_r0 : Index := 88#32
  ![v10645_r0.toNat, 88]
def k0_off346 (k0_t1 : Fin k0_t1_loop.trips) (v10646_r0 : BitVec 32) (c0_i32_4660_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10647_r0 : BitVec 32 := Scalar.addi v10646_r0 v8272_r0
  let v10650_r0 : BitVec 32 := Scalar.addi v10647_r0 c0_i32_4660_r0
  let v10651_r0 : Index := Scalar.indexCast v10650_r0
  let c0_4661_r0 : Index := 0#32
  ![v10651_r0.toNat, 0]

def k0_chk217 (k0_t1 : Fin k0_t1_loop.trips) (v10646_r0 : BitVec 32) : Prop :=
  (∀ (r : Fin 2), ∀ a, S8x128.size a = 0 ∨ (k0_off346 k0_t1 v10646_r0 (BitVec.ofNat 32 (26632 * r.val))) a + (![3329, 1] : Fin 2 → Nat) a * (S8x128.size a - 1) < S106528x128.size a)
theorem k0_off346_inb : ∀ (k0_t1 : Fin k0_t1_loop.trips) (v10646_r0 : BitVec 32) (k0_hw217 : k0_chk217 k0_t1 v10646_r0), ∀ (r : Fin 2), ∀ a, S8x128.size a = 0 ∨ (k0_off346 k0_t1 v10646_r0 (BitVec.ofNat 32 (26632 * r.val))) a + (![3329, 1] : Fin 2 → Nat) a * (S8x128.size a - 1) < S106528x128.size a := fun k0_t1 v10646_r0 k0_hw217 r => k0_hw217 r

def k0_off347 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10660_r0 : Index := Scalar.indexCast v8246_r0
  let c89_4664_r0 : Index := 89#32
  ![v10660_r0.toNat, 89]
def k0_off348 (k0_t1 : Fin k0_t1_loop.trips) (v10661_r0 : BitVec 32) (c0_i32_4666_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10662_r0 : BitVec 32 := Scalar.addi v10661_r0 v8272_r0
  let v10665_r0 : BitVec 32 := Scalar.addi v10662_r0 c0_i32_4666_r0
  let v10666_r0 : Index := Scalar.indexCast v10665_r0
  let c0_4667_r0 : Index := 0#32
  ![v10666_r0.toNat, 0]

def k0_chk218 (k0_t1 : Fin k0_t1_loop.trips) (v10661_r0 : BitVec 32) : Prop :=
  (∀ (r : Fin 2), ∀ a, S8x128.size a = 0 ∨ (k0_off348 k0_t1 v10661_r0 (BitVec.ofNat 32 (26632 * r.val))) a + (![3329, 1] : Fin 2 → Nat) a * (S8x128.size a - 1) < S106528x128.size a)
theorem k0_off348_inb : ∀ (k0_t1 : Fin k0_t1_loop.trips) (v10661_r0 : BitVec 32) (k0_hw218 : k0_chk218 k0_t1 v10661_r0), ∀ (r : Fin 2), ∀ a, S8x128.size a = 0 ∨ (k0_off348 k0_t1 v10661_r0 (BitVec.ofNat 32 (26632 * r.val))) a + (![3329, 1] : Fin 2 → Nat) a * (S8x128.size a - 1) < S106528x128.size a := fun k0_t1 v10661_r0 k0_hw218 r => k0_hw218 r

def k0_off349 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10675_r0 : Index := Scalar.indexCast v8246_r0
  let c90_4670_r0 : Index := 90#32
  ![v10675_r0.toNat, 90]
def k0_off350 (k0_t1 : Fin k0_t1_loop.trips) (v10676_r0 : BitVec 32) (c0_i32_4672_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10677_r0 : BitVec 32 := Scalar.addi v10676_r0 v8272_r0
  let v10680_r0 : BitVec 32 := Scalar.addi v10677_r0 c0_i32_4672_r0
  let v10681_r0 : Index := Scalar.indexCast v10680_r0
  let c0_4673_r0 : Index := 0#32
  ![v10681_r0.toNat, 0]

def k0_chk219 (k0_t1 : Fin k0_t1_loop.trips) (v10676_r0 : BitVec 32) : Prop :=
  (∀ (r : Fin 2), ∀ a, S8x128.size a = 0 ∨ (k0_off350 k0_t1 v10676_r0 (BitVec.ofNat 32 (26632 * r.val))) a + (![3329, 1] : Fin 2 → Nat) a * (S8x128.size a - 1) < S106528x128.size a)
theorem k0_off350_inb : ∀ (k0_t1 : Fin k0_t1_loop.trips) (v10676_r0 : BitVec 32) (k0_hw219 : k0_chk219 k0_t1 v10676_r0), ∀ (r : Fin 2), ∀ a, S8x128.size a = 0 ∨ (k0_off350 k0_t1 v10676_r0 (BitVec.ofNat 32 (26632 * r.val))) a + (![3329, 1] : Fin 2 → Nat) a * (S8x128.size a - 1) < S106528x128.size a := fun k0_t1 v10676_r0 k0_hw219 r => k0_hw219 r

def k0_off351 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10690_r0 : Index := Scalar.indexCast v8246_r0
  let c91_4676_r0 : Index := 91#32
  ![v10690_r0.toNat, 91]
def k0_off352 (k0_t1 : Fin k0_t1_loop.trips) (v10691_r0 : BitVec 32) (c0_i32_4678_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10692_r0 : BitVec 32 := Scalar.addi v10691_r0 v8272_r0
  let v10695_r0 : BitVec 32 := Scalar.addi v10692_r0 c0_i32_4678_r0
  let v10696_r0 : Index := Scalar.indexCast v10695_r0
  let c0_4679_r0 : Index := 0#32
  ![v10696_r0.toNat, 0]

def k0_chk220 (k0_t1 : Fin k0_t1_loop.trips) (v10691_r0 : BitVec 32) : Prop :=
  (∀ (r : Fin 2), ∀ a, S8x128.size a = 0 ∨ (k0_off352 k0_t1 v10691_r0 (BitVec.ofNat 32 (26632 * r.val))) a + (![3329, 1] : Fin 2 → Nat) a * (S8x128.size a - 1) < S106528x128.size a)
theorem k0_off352_inb : ∀ (k0_t1 : Fin k0_t1_loop.trips) (v10691_r0 : BitVec 32) (k0_hw220 : k0_chk220 k0_t1 v10691_r0), ∀ (r : Fin 2), ∀ a, S8x128.size a = 0 ∨ (k0_off352 k0_t1 v10691_r0 (BitVec.ofNat 32 (26632 * r.val))) a + (![3329, 1] : Fin 2 → Nat) a * (S8x128.size a - 1) < S106528x128.size a := fun k0_t1 v10691_r0 k0_hw220 r => k0_hw220 r

def k0_off353 (k0_t1 : Fin k0_t1_loop.trips) (k0_t2 : Fin k0_t2_loop.trips) (c0_i32_4683_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c22_i32_4682_r0 : BitVec 32 := 22#32
  let v10706_r0 : BitVec 32 := Scalar.addi v8260_r0 c22_i32_4682_r0
  let v10707_r0 : BitVec 32 := Scalar.addi v10706_r0 c0_i32_4683_r0
  let v10708_r0 : Index := Scalar.indexCast v10707_r0
  let c0_4684_r0 : Index := 0#32
  ![v10708_r0.toNat, 0]
def k0_off354 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10719_r0 : Index := Scalar.indexCast v8246_r0
  let c92_4688_r0 : Index := 92#32
  ![v10719_r0.toNat, 92]
def k0_off355 (k0_t1 : Fin k0_t1_loop.trips) (v10720_r0 : BitVec 32) (c0_i32_4690_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10721_r0 : BitVec 32 := Scalar.addi v10720_r0 v8272_r0
  let v10724_r0 : BitVec 32 := Scalar.addi v10721_r0 c0_i32_4690_r0
  let v10725_r0 : Index := Scalar.indexCast v10724_r0
  let c0_4691_r0 : Index := 0#32
  ![v10725_r0.toNat, 0]

def k0_chk221 (k0_t1 : Fin k0_t1_loop.trips) (v10720_r0 : BitVec 32) : Prop :=
  (∀ (r : Fin 2), ∀ a, S8x128.size a = 0 ∨ (k0_off355 k0_t1 v10720_r0 (BitVec.ofNat 32 (26632 * r.val))) a + (![3329, 1] : Fin 2 → Nat) a * (S8x128.size a - 1) < S106528x128.size a)
theorem k0_off355_inb : ∀ (k0_t1 : Fin k0_t1_loop.trips) (v10720_r0 : BitVec 32) (k0_hw221 : k0_chk221 k0_t1 v10720_r0), ∀ (r : Fin 2), ∀ a, S8x128.size a = 0 ∨ (k0_off355 k0_t1 v10720_r0 (BitVec.ofNat 32 (26632 * r.val))) a + (![3329, 1] : Fin 2 → Nat) a * (S8x128.size a - 1) < S106528x128.size a := fun k0_t1 v10720_r0 k0_hw221 r => k0_hw221 r

def k0_off356 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10734_r0 : Index := Scalar.indexCast v8246_r0
  let c93_4694_r0 : Index := 93#32
  ![v10734_r0.toNat, 93]
def k0_off357 (k0_t1 : Fin k0_t1_loop.trips) (v10735_r0 : BitVec 32) (c0_i32_4696_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10736_r0 : BitVec 32 := Scalar.addi v10735_r0 v8272_r0
  let v10739_r0 : BitVec 32 := Scalar.addi v10736_r0 c0_i32_4696_r0
  let v10740_r0 : Index := Scalar.indexCast v10739_r0
  let c0_4697_r0 : Index := 0#32
  ![v10740_r0.toNat, 0]

def k0_chk222 (k0_t1 : Fin k0_t1_loop.trips) (v10735_r0 : BitVec 32) : Prop :=
  (∀ (r : Fin 2), ∀ a, S8x128.size a = 0 ∨ (k0_off357 k0_t1 v10735_r0 (BitVec.ofNat 32 (26632 * r.val))) a + (![3329, 1] : Fin 2 → Nat) a * (S8x128.size a - 1) < S106528x128.size a)
theorem k0_off357_inb : ∀ (k0_t1 : Fin k0_t1_loop.trips) (v10735_r0 : BitVec 32) (k0_hw222 : k0_chk222 k0_t1 v10735_r0), ∀ (r : Fin 2), ∀ a, S8x128.size a = 0 ∨ (k0_off357 k0_t1 v10735_r0 (BitVec.ofNat 32 (26632 * r.val))) a + (![3329, 1] : Fin 2 → Nat) a * (S8x128.size a - 1) < S106528x128.size a := fun k0_t1 v10735_r0 k0_hw222 r => k0_hw222 r

def k0_off358 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10749_r0 : Index := Scalar.indexCast v8246_r0
  let c94_4700_r0 : Index := 94#32
  ![v10749_r0.toNat, 94]
def k0_off359 (k0_t1 : Fin k0_t1_loop.trips) (v10750_r0 : BitVec 32) (c0_i32_4702_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10751_r0 : BitVec 32 := Scalar.addi v10750_r0 v8272_r0
  let v10754_r0 : BitVec 32 := Scalar.addi v10751_r0 c0_i32_4702_r0
  let v10755_r0 : Index := Scalar.indexCast v10754_r0
  let c0_4703_r0 : Index := 0#32
  ![v10755_r0.toNat, 0]

def k0_chk223 (k0_t1 : Fin k0_t1_loop.trips) (v10750_r0 : BitVec 32) : Prop :=
  (∀ (r : Fin 2), ∀ a, S8x128.size a = 0 ∨ (k0_off359 k0_t1 v10750_r0 (BitVec.ofNat 32 (26632 * r.val))) a + (![3329, 1] : Fin 2 → Nat) a * (S8x128.size a - 1) < S106528x128.size a)
theorem k0_off359_inb : ∀ (k0_t1 : Fin k0_t1_loop.trips) (v10750_r0 : BitVec 32) (k0_hw223 : k0_chk223 k0_t1 v10750_r0), ∀ (r : Fin 2), ∀ a, S8x128.size a = 0 ∨ (k0_off359 k0_t1 v10750_r0 (BitVec.ofNat 32 (26632 * r.val))) a + (![3329, 1] : Fin 2 → Nat) a * (S8x128.size a - 1) < S106528x128.size a := fun k0_t1 v10750_r0 k0_hw223 r => k0_hw223 r

def k0_off360 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10764_r0 : Index := Scalar.indexCast v8246_r0
  let c95_4706_r0 : Index := 95#32
  ![v10764_r0.toNat, 95]
def k0_off361 (k0_t1 : Fin k0_t1_loop.trips) (v10765_r0 : BitVec 32) (c0_i32_4708_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10766_r0 : BitVec 32 := Scalar.addi v10765_r0 v8272_r0
  let v10769_r0 : BitVec 32 := Scalar.addi v10766_r0 c0_i32_4708_r0
  let v10770_r0 : Index := Scalar.indexCast v10769_r0
  let c0_4709_r0 : Index := 0#32
  ![v10770_r0.toNat, 0]

def k0_chk224 (k0_t1 : Fin k0_t1_loop.trips) (v10765_r0 : BitVec 32) : Prop :=
  (∀ (r : Fin 2), ∀ a, S8x128.size a = 0 ∨ (k0_off361 k0_t1 v10765_r0 (BitVec.ofNat 32 (26632 * r.val))) a + (![3329, 1] : Fin 2 → Nat) a * (S8x128.size a - 1) < S106528x128.size a)
theorem k0_off361_inb : ∀ (k0_t1 : Fin k0_t1_loop.trips) (v10765_r0 : BitVec 32) (k0_hw224 : k0_chk224 k0_t1 v10765_r0), ∀ (r : Fin 2), ∀ a, S8x128.size a = 0 ∨ (k0_off361 k0_t1 v10765_r0 (BitVec.ofNat 32 (26632 * r.val))) a + (![3329, 1] : Fin 2 → Nat) a * (S8x128.size a - 1) < S106528x128.size a := fun k0_t1 v10765_r0 k0_hw224 r => k0_hw224 r

def k0_off362 (k0_t1 : Fin k0_t1_loop.trips) (k0_t2 : Fin k0_t2_loop.trips) (c0_i32_4713_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c23_i32_4712_r0 : BitVec 32 := 23#32
  let v10780_r0 : BitVec 32 := Scalar.addi v8260_r0 c23_i32_4712_r0
  let v10781_r0 : BitVec 32 := Scalar.addi v10780_r0 c0_i32_4713_r0
  let v10782_r0 : Index := Scalar.indexCast v10781_r0
  let c0_4714_r0 : Index := 0#32
  ![v10782_r0.toNat, 0]
def k0_off363 (k0_t1 : Fin k0_t1_loop.trips) (k0_t2 : Fin k0_t2_loop.trips) (c396_i32_4718_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v10793_r0 : BitVec 32 := Scalar.addi v8259_r0 c396_i32_4718_r0
  let v10794_r0 : Index := Scalar.indexCast v10793_r0
  let c0_4719_r0 : Index := 0#32
  ![v10794_r0.toNat, 0]
def k0_off364 (k0_t1 : Fin k0_t1_loop.trips) (k0_t2 : Fin k0_t2_loop.trips) (c12_i32_4730_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_4728_r0 : BitVec 32 := 104#32
  let v10823_r0 : BitVec 32 := Scalar.muli arg10_r0 c104_i32_4728_r0
  let c0_i32_1301_r0 : BitVec 32 := 0#32
  let c1_i32_1302_r0 : BitVec 32 := 1#32
  let arg11_r0 : BitVec 32 := Scf.iv c0_i32_1301_r0 c1_i32_1302_r0 k0_t2
  let v10824_r0 : BitVec 32 := Scalar.addi v10823_r0 arg11_r0
  let c16_i32_4729_r0 : BitVec 32 := 16#32
  let v10825_r0 : BitVec 32 := Scalar.muli v10824_r0 c16_i32_4729_r0
  let v10826_r0 : BitVec 32 := Scalar.addi v10825_r0 c12_i32_4730_r0
  let v10827_r0 : Index := Scalar.indexCast v10826_r0
  let c0_4731_r0 : Index := 0#32
  ![v10827_r0.toNat, 0]
def k0_off365 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v10891_r0 : Index := Scalar.indexCast arg11_r0
  let c0_4748_r0 : Index := 0#32
  let c0_4749_r0 : Index := 0#32
  ![v10891_r0.toNat, 0, 0]
def k0_off366 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10917_r0 : Index := Scalar.indexCast v8246_r0
  let c96_4758_r0 : Index := 96#32
  ![v10917_r0.toNat, 96]
def k0_off367 (k0_t1 : Fin k0_t1_loop.trips) (v10918_r0 : BitVec 32) (c0_i32_4760_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10919_r0 : BitVec 32 := Scalar.addi v10918_r0 v8272_r0
  let v10922_r0 : BitVec 32 := Scalar.addi v10919_r0 c0_i32_4760_r0
  let v10923_r0 : Index := Scalar.indexCast v10922_r0
  let c0_4761_r0 : Index := 0#32
  ![v10923_r0.toNat, 0]

def k0_chk225 (k0_t1 : Fin k0_t1_loop.trips) (v10918_r0 : BitVec 32) : Prop :=
  (∀ (r : Fin 2), ∀ a, S8x128.size a = 0 ∨ (k0_off367 k0_t1 v10918_r0 (BitVec.ofNat 32 (26632 * r.val))) a + (![3329, 1] : Fin 2 → Nat) a * (S8x128.size a - 1) < S106528x128.size a)
theorem k0_off367_inb : ∀ (k0_t1 : Fin k0_t1_loop.trips) (v10918_r0 : BitVec 32) (k0_hw225 : k0_chk225 k0_t1 v10918_r0), ∀ (r : Fin 2), ∀ a, S8x128.size a = 0 ∨ (k0_off367 k0_t1 v10918_r0 (BitVec.ofNat 32 (26632 * r.val))) a + (![3329, 1] : Fin 2 → Nat) a * (S8x128.size a - 1) < S106528x128.size a := fun k0_t1 v10918_r0 k0_hw225 r => k0_hw225 r

def k0_off368 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10932_r0 : Index := Scalar.indexCast v8246_r0
  let c97_4764_r0 : Index := 97#32
  ![v10932_r0.toNat, 97]
def k0_off369 (k0_t1 : Fin k0_t1_loop.trips) (v10933_r0 : BitVec 32) (c0_i32_4766_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10934_r0 : BitVec 32 := Scalar.addi v10933_r0 v8272_r0
  let v10937_r0 : BitVec 32 := Scalar.addi v10934_r0 c0_i32_4766_r0
  let v10938_r0 : Index := Scalar.indexCast v10937_r0
  let c0_4767_r0 : Index := 0#32
  ![v10938_r0.toNat, 0]

def k0_chk226 (k0_t1 : Fin k0_t1_loop.trips) (v10933_r0 : BitVec 32) : Prop :=
  (∀ (r : Fin 2), ∀ a, S8x128.size a = 0 ∨ (k0_off369 k0_t1 v10933_r0 (BitVec.ofNat 32 (26632 * r.val))) a + (![3329, 1] : Fin 2 → Nat) a * (S8x128.size a - 1) < S106528x128.size a)
theorem k0_off369_inb : ∀ (k0_t1 : Fin k0_t1_loop.trips) (v10933_r0 : BitVec 32) (k0_hw226 : k0_chk226 k0_t1 v10933_r0), ∀ (r : Fin 2), ∀ a, S8x128.size a = 0 ∨ (k0_off369 k0_t1 v10933_r0 (BitVec.ofNat 32 (26632 * r.val))) a + (![3329, 1] : Fin 2 → Nat) a * (S8x128.size a - 1) < S106528x128.size a := fun k0_t1 v10933_r0 k0_hw226 r => k0_hw226 r

def k0_off370 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10947_r0 : Index := Scalar.indexCast v8246_r0
  let c98_4770_r0 : Index := 98#32
  ![v10947_r0.toNat, 98]
def k0_off371 (k0_t1 : Fin k0_t1_loop.trips) (v10948_r0 : BitVec 32) (c0_i32_4772_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10949_r0 : BitVec 32 := Scalar.addi v10948_r0 v8272_r0
  let v10952_r0 : BitVec 32 := Scalar.addi v10949_r0 c0_i32_4772_r0
  let v10953_r0 : Index := Scalar.indexCast v10952_r0
  let c0_4773_r0 : Index := 0#32
  ![v10953_r0.toNat, 0]

def k0_chk227 (k0_t1 : Fin k0_t1_loop.trips) (v10948_r0 : BitVec 32) : Prop :=
  (∀ (r : Fin 2), ∀ a, S8x128.size a = 0 ∨ (k0_off371 k0_t1 v10948_r0 (BitVec.ofNat 32 (26632 * r.val))) a + (![3329, 1] : Fin 2 → Nat) a * (S8x128.size a - 1) < S106528x128.size a)
theorem k0_off371_inb : ∀ (k0_t1 : Fin k0_t1_loop.trips) (v10948_r0 : BitVec 32) (k0_hw227 : k0_chk227 k0_t1 v10948_r0), ∀ (r : Fin 2), ∀ a, S8x128.size a = 0 ∨ (k0_off371 k0_t1 v10948_r0 (BitVec.ofNat 32 (26632 * r.val))) a + (![3329, 1] : Fin 2 → Nat) a * (S8x128.size a - 1) < S106528x128.size a := fun k0_t1 v10948_r0 k0_hw227 r => k0_hw227 r

def k0_off372 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10962_r0 : Index := Scalar.indexCast v8246_r0
  let c99_4776_r0 : Index := 99#32
  ![v10962_r0.toNat, 99]
def k0_off373 (k0_t1 : Fin k0_t1_loop.trips) (v10963_r0 : BitVec 32) (c0_i32_4778_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10964_r0 : BitVec 32 := Scalar.addi v10963_r0 v8272_r0
  let v10967_r0 : BitVec 32 := Scalar.addi v10964_r0 c0_i32_4778_r0
  let v10968_r0 : Index := Scalar.indexCast v10967_r0
  let c0_4779_r0 : Index := 0#32
  ![v10968_r0.toNat, 0]

def k0_chk228 (k0_t1 : Fin k0_t1_loop.trips) (v10963_r0 : BitVec 32) : Prop :=
  (∀ (r : Fin 2), ∀ a, S8x128.size a = 0 ∨ (k0_off373 k0_t1 v10963_r0 (BitVec.ofNat 32 (26632 * r.val))) a + (![3329, 1] : Fin 2 → Nat) a * (S8x128.size a - 1) < S106528x128.size a)
theorem k0_off373_inb : ∀ (k0_t1 : Fin k0_t1_loop.trips) (v10963_r0 : BitVec 32) (k0_hw228 : k0_chk228 k0_t1 v10963_r0), ∀ (r : Fin 2), ∀ a, S8x128.size a = 0 ∨ (k0_off373 k0_t1 v10963_r0 (BitVec.ofNat 32 (26632 * r.val))) a + (![3329, 1] : Fin 2 → Nat) a * (S8x128.size a - 1) < S106528x128.size a := fun k0_t1 v10963_r0 k0_hw228 r => k0_hw228 r

def k0_off374 (k0_t1 : Fin k0_t1_loop.trips) (k0_t2 : Fin k0_t2_loop.trips) (c0_i32_4783_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c24_i32_4782_r0 : BitVec 32 := 24#32
  let v10978_r0 : BitVec 32 := Scalar.addi v8260_r0 c24_i32_4782_r0
  let v10979_r0 : BitVec 32 := Scalar.addi v10978_r0 c0_i32_4783_r0
  let v10980_r0 : Index := Scalar.indexCast v10979_r0
  let c0_4784_r0 : Index := 0#32
  ![v10980_r0.toNat, 0]
def k0_off375 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v10991_r0 : Index := Scalar.indexCast v8246_r0
  let c100_4788_r0 : Index := 100#32
  ![v10991_r0.toNat, 100]
def k0_off376 (k0_t1 : Fin k0_t1_loop.trips) (v10992_r0 : BitVec 32) (c0_i32_4790_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v10993_r0 : BitVec 32 := Scalar.addi v10992_r0 v8272_r0
  let v10996_r0 : BitVec 32 := Scalar.addi v10993_r0 c0_i32_4790_r0
  let v10997_r0 : Index := Scalar.indexCast v10996_r0
  let c0_4791_r0 : Index := 0#32
  ![v10997_r0.toNat, 0]

def k0_chk229 (k0_t1 : Fin k0_t1_loop.trips) (v10992_r0 : BitVec 32) : Prop :=
  (∀ (r : Fin 2), ∀ a, S8x128.size a = 0 ∨ (k0_off376 k0_t1 v10992_r0 (BitVec.ofNat 32 (26632 * r.val))) a + (![3329, 1] : Fin 2 → Nat) a * (S8x128.size a - 1) < S106528x128.size a)
theorem k0_off376_inb : ∀ (k0_t1 : Fin k0_t1_loop.trips) (v10992_r0 : BitVec 32) (k0_hw229 : k0_chk229 k0_t1 v10992_r0), ∀ (r : Fin 2), ∀ a, S8x128.size a = 0 ∨ (k0_off376 k0_t1 v10992_r0 (BitVec.ofNat 32 (26632 * r.val))) a + (![3329, 1] : Fin 2 → Nat) a * (S8x128.size a - 1) < S106528x128.size a := fun k0_t1 v10992_r0 k0_hw229 r => k0_hw229 r

def k0_off377 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11006_r0 : Index := Scalar.indexCast v8246_r0
  let c101_4794_r0 : Index := 101#32
  ![v11006_r0.toNat, 101]
def k0_off378 (k0_t1 : Fin k0_t1_loop.trips) (v11007_r0 : BitVec 32) (c0_i32_4796_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11008_r0 : BitVec 32 := Scalar.addi v11007_r0 v8272_r0
  let v11011_r0 : BitVec 32 := Scalar.addi v11008_r0 c0_i32_4796_r0
  let v11012_r0 : Index := Scalar.indexCast v11011_r0
  let c0_4797_r0 : Index := 0#32
  ![v11012_r0.toNat, 0]

def k0_chk230 (k0_t1 : Fin k0_t1_loop.trips) (v11007_r0 : BitVec 32) : Prop :=
  (∀ (r : Fin 2), ∀ a, S8x128.size a = 0 ∨ (k0_off378 k0_t1 v11007_r0 (BitVec.ofNat 32 (26632 * r.val))) a + (![3329, 1] : Fin 2 → Nat) a * (S8x128.size a - 1) < S106528x128.size a)
theorem k0_off378_inb : ∀ (k0_t1 : Fin k0_t1_loop.trips) (v11007_r0 : BitVec 32) (k0_hw230 : k0_chk230 k0_t1 v11007_r0), ∀ (r : Fin 2), ∀ a, S8x128.size a = 0 ∨ (k0_off378 k0_t1 v11007_r0 (BitVec.ofNat 32 (26632 * r.val))) a + (![3329, 1] : Fin 2 → Nat) a * (S8x128.size a - 1) < S106528x128.size a := fun k0_t1 v11007_r0 k0_hw230 r => k0_hw230 r

def k0_off379 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11021_r0 : Index := Scalar.indexCast v8246_r0
  let c102_4800_r0 : Index := 102#32
  ![v11021_r0.toNat, 102]
def k0_off380 (k0_t1 : Fin k0_t1_loop.trips) (v11022_r0 : BitVec 32) (c0_i32_4802_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11023_r0 : BitVec 32 := Scalar.addi v11022_r0 v8272_r0
  let v11026_r0 : BitVec 32 := Scalar.addi v11023_r0 c0_i32_4802_r0
  let v11027_r0 : Index := Scalar.indexCast v11026_r0
  let c0_4803_r0 : Index := 0#32
  ![v11027_r0.toNat, 0]

def k0_chk231 (k0_t1 : Fin k0_t1_loop.trips) (v11022_r0 : BitVec 32) : Prop :=
  (∀ (r : Fin 2), ∀ a, S8x128.size a = 0 ∨ (k0_off380 k0_t1 v11022_r0 (BitVec.ofNat 32 (26632 * r.val))) a + (![3329, 1] : Fin 2 → Nat) a * (S8x128.size a - 1) < S106528x128.size a)
theorem k0_off380_inb : ∀ (k0_t1 : Fin k0_t1_loop.trips) (v11022_r0 : BitVec 32) (k0_hw231 : k0_chk231 k0_t1 v11022_r0), ∀ (r : Fin 2), ∀ a, S8x128.size a = 0 ∨ (k0_off380 k0_t1 v11022_r0 (BitVec.ofNat 32 (26632 * r.val))) a + (![3329, 1] : Fin 2 → Nat) a * (S8x128.size a - 1) < S106528x128.size a := fun k0_t1 v11022_r0 k0_hw231 r => k0_hw231 r

def k0_off381 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11036_r0 : Index := Scalar.indexCast v8246_r0
  let c103_4806_r0 : Index := 103#32
  ![v11036_r0.toNat, 103]
def k0_off382 (k0_t1 : Fin k0_t1_loop.trips) (v11037_r0 : BitVec 32) (c0_i32_4808_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11038_r0 : BitVec 32 := Scalar.addi v11037_r0 v8272_r0
  let v11041_r0 : BitVec 32 := Scalar.addi v11038_r0 c0_i32_4808_r0
  let v11042_r0 : Index := Scalar.indexCast v11041_r0
  let c0_4809_r0 : Index := 0#32
  ![v11042_r0.toNat, 0]

def k0_chk232 (k0_t1 : Fin k0_t1_loop.trips) (v11037_r0 : BitVec 32) : Prop :=
  (∀ (r : Fin 2), ∀ a, S8x128.size a = 0 ∨ (k0_off382 k0_t1 v11037_r0 (BitVec.ofNat 32 (26632 * r.val))) a + (![3329, 1] : Fin 2 → Nat) a * (S8x128.size a - 1) < S106528x128.size a)
theorem k0_off382_inb : ∀ (k0_t1 : Fin k0_t1_loop.trips) (v11037_r0 : BitVec 32) (k0_hw232 : k0_chk232 k0_t1 v11037_r0), ∀ (r : Fin 2), ∀ a, S8x128.size a = 0 ∨ (k0_off382 k0_t1 v11037_r0 (BitVec.ofNat 32 (26632 * r.val))) a + (![3329, 1] : Fin 2 → Nat) a * (S8x128.size a - 1) < S106528x128.size a := fun k0_t1 v11037_r0 k0_hw232 r => k0_hw232 r

def k0_off383 (k0_t1 : Fin k0_t1_loop.trips) (k0_t2 : Fin k0_t2_loop.trips) (c0_i32_4813_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c25_i32_4812_r0 : BitVec 32 := 25#32
  let v11052_r0 : BitVec 32 := Scalar.addi v8260_r0 c25_i32_4812_r0
  let v11053_r0 : BitVec 32 := Scalar.addi v11052_r0 c0_i32_4813_r0
  let v11054_r0 : Index := Scalar.indexCast v11053_r0
  let c0_4814_r0 : Index := 0#32
  ![v11054_r0.toNat, 0]
def k0_off384 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11065_r0 : Index := Scalar.indexCast v8246_r0
  let c104_4818_r0 : Index := 104#32
  ![v11065_r0.toNat, 104]
def k0_off385 (k0_t1 : Fin k0_t1_loop.trips) (v11066_r0 : BitVec 32) (c0_i32_4820_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11067_r0 : BitVec 32 := Scalar.addi v11066_r0 v8272_r0
  let v11070_r0 : BitVec 32 := Scalar.addi v11067_r0 c0_i32_4820_r0
  let v11071_r0 : Index := Scalar.indexCast v11070_r0
  let c0_4821_r0 : Index := 0#32
  ![v11071_r0.toNat, 0]

def k0_chk233 (k0_t1 : Fin k0_t1_loop.trips) (v11066_r0 : BitVec 32) : Prop :=
  (∀ (r : Fin 2), ∀ a, S8x128.size a = 0 ∨ (k0_off385 k0_t1 v11066_r0 (BitVec.ofNat 32 (26632 * r.val))) a + (![3329, 1] : Fin 2 → Nat) a * (S8x128.size a - 1) < S106528x128.size a)
theorem k0_off385_inb : ∀ (k0_t1 : Fin k0_t1_loop.trips) (v11066_r0 : BitVec 32) (k0_hw233 : k0_chk233 k0_t1 v11066_r0), ∀ (r : Fin 2), ∀ a, S8x128.size a = 0 ∨ (k0_off385 k0_t1 v11066_r0 (BitVec.ofNat 32 (26632 * r.val))) a + (![3329, 1] : Fin 2 → Nat) a * (S8x128.size a - 1) < S106528x128.size a := fun k0_t1 v11066_r0 k0_hw233 r => k0_hw233 r

def k0_off386 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11080_r0 : Index := Scalar.indexCast v8246_r0
  let c105_4824_r0 : Index := 105#32
  ![v11080_r0.toNat, 105]
def k0_off387 (k0_t1 : Fin k0_t1_loop.trips) (v11081_r0 : BitVec 32) (c0_i32_4826_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11082_r0 : BitVec 32 := Scalar.addi v11081_r0 v8272_r0
  let v11085_r0 : BitVec 32 := Scalar.addi v11082_r0 c0_i32_4826_r0
  let v11086_r0 : Index := Scalar.indexCast v11085_r0
  let c0_4827_r0 : Index := 0#32
  ![v11086_r0.toNat, 0]

def k0_chk234 (k0_t1 : Fin k0_t1_loop.trips) (v11081_r0 : BitVec 32) : Prop :=
  (∀ (r : Fin 2), ∀ a, S8x128.size a = 0 ∨ (k0_off387 k0_t1 v11081_r0 (BitVec.ofNat 32 (26632 * r.val))) a + (![3329, 1] : Fin 2 → Nat) a * (S8x128.size a - 1) < S106528x128.size a)
theorem k0_off387_inb : ∀ (k0_t1 : Fin k0_t1_loop.trips) (v11081_r0 : BitVec 32) (k0_hw234 : k0_chk234 k0_t1 v11081_r0), ∀ (r : Fin 2), ∀ a, S8x128.size a = 0 ∨ (k0_off387 k0_t1 v11081_r0 (BitVec.ofNat 32 (26632 * r.val))) a + (![3329, 1] : Fin 2 → Nat) a * (S8x128.size a - 1) < S106528x128.size a := fun k0_t1 v11081_r0 k0_hw234 r => k0_hw234 r

def k0_off388 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11095_r0 : Index := Scalar.indexCast v8246_r0
  let c106_4830_r0 : Index := 106#32
  ![v11095_r0.toNat, 106]
def k0_off389 (k0_t1 : Fin k0_t1_loop.trips) (v11096_r0 : BitVec 32) (c0_i32_4832_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11097_r0 : BitVec 32 := Scalar.addi v11096_r0 v8272_r0
  let v11100_r0 : BitVec 32 := Scalar.addi v11097_r0 c0_i32_4832_r0
  let v11101_r0 : Index := Scalar.indexCast v11100_r0
  let c0_4833_r0 : Index := 0#32
  ![v11101_r0.toNat, 0]

def k0_chk235 (k0_t1 : Fin k0_t1_loop.trips) (v11096_r0 : BitVec 32) : Prop :=
  (∀ (r : Fin 2), ∀ a, S8x128.size a = 0 ∨ (k0_off389 k0_t1 v11096_r0 (BitVec.ofNat 32 (26632 * r.val))) a + (![3329, 1] : Fin 2 → Nat) a * (S8x128.size a - 1) < S106528x128.size a)
theorem k0_off389_inb : ∀ (k0_t1 : Fin k0_t1_loop.trips) (v11096_r0 : BitVec 32) (k0_hw235 : k0_chk235 k0_t1 v11096_r0), ∀ (r : Fin 2), ∀ a, S8x128.size a = 0 ∨ (k0_off389 k0_t1 v11096_r0 (BitVec.ofNat 32 (26632 * r.val))) a + (![3329, 1] : Fin 2 → Nat) a * (S8x128.size a - 1) < S106528x128.size a := fun k0_t1 v11096_r0 k0_hw235 r => k0_hw235 r

def k0_off390 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11110_r0 : Index := Scalar.indexCast v8246_r0
  let c107_4836_r0 : Index := 107#32
  ![v11110_r0.toNat, 107]
def k0_off391 (k0_t1 : Fin k0_t1_loop.trips) (v11111_r0 : BitVec 32) (c0_i32_4838_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11112_r0 : BitVec 32 := Scalar.addi v11111_r0 v8272_r0
  let v11115_r0 : BitVec 32 := Scalar.addi v11112_r0 c0_i32_4838_r0
  let v11116_r0 : Index := Scalar.indexCast v11115_r0
  let c0_4839_r0 : Index := 0#32
  ![v11116_r0.toNat, 0]

def k0_chk236 (k0_t1 : Fin k0_t1_loop.trips) (v11111_r0 : BitVec 32) : Prop :=
  (∀ (r : Fin 2), ∀ a, S8x128.size a = 0 ∨ (k0_off391 k0_t1 v11111_r0 (BitVec.ofNat 32 (26632 * r.val))) a + (![3329, 1] : Fin 2 → Nat) a * (S8x128.size a - 1) < S106528x128.size a)
theorem k0_off391_inb : ∀ (k0_t1 : Fin k0_t1_loop.trips) (v11111_r0 : BitVec 32) (k0_hw236 : k0_chk236 k0_t1 v11111_r0), ∀ (r : Fin 2), ∀ a, S8x128.size a = 0 ∨ (k0_off391 k0_t1 v11111_r0 (BitVec.ofNat 32 (26632 * r.val))) a + (![3329, 1] : Fin 2 → Nat) a * (S8x128.size a - 1) < S106528x128.size a := fun k0_t1 v11111_r0 k0_hw236 r => k0_hw236 r

def k0_off392 (k0_t1 : Fin k0_t1_loop.trips) (k0_t2 : Fin k0_t2_loop.trips) (c0_i32_4843_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c26_i32_4842_r0 : BitVec 32 := 26#32
  let v11126_r0 : BitVec 32 := Scalar.addi v8260_r0 c26_i32_4842_r0
  let v11127_r0 : BitVec 32 := Scalar.addi v11126_r0 c0_i32_4843_r0
  let v11128_r0 : Index := Scalar.indexCast v11127_r0
  let c0_4844_r0 : Index := 0#32
  ![v11128_r0.toNat, 0]
def k0_off393 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11139_r0 : Index := Scalar.indexCast v8246_r0
  let c108_4848_r0 : Index := 108#32
  ![v11139_r0.toNat, 108]
def k0_off394 (k0_t1 : Fin k0_t1_loop.trips) (v11140_r0 : BitVec 32) (c0_i32_4850_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11141_r0 : BitVec 32 := Scalar.addi v11140_r0 v8272_r0
  let v11144_r0 : BitVec 32 := Scalar.addi v11141_r0 c0_i32_4850_r0
  let v11145_r0 : Index := Scalar.indexCast v11144_r0
  let c0_4851_r0 : Index := 0#32
  ![v11145_r0.toNat, 0]

def k0_chk237 (k0_t1 : Fin k0_t1_loop.trips) (v11140_r0 : BitVec 32) : Prop :=
  (∀ (r : Fin 2), ∀ a, S8x128.size a = 0 ∨ (k0_off394 k0_t1 v11140_r0 (BitVec.ofNat 32 (26632 * r.val))) a + (![3329, 1] : Fin 2 → Nat) a * (S8x128.size a - 1) < S106528x128.size a)
theorem k0_off394_inb : ∀ (k0_t1 : Fin k0_t1_loop.trips) (v11140_r0 : BitVec 32) (k0_hw237 : k0_chk237 k0_t1 v11140_r0), ∀ (r : Fin 2), ∀ a, S8x128.size a = 0 ∨ (k0_off394 k0_t1 v11140_r0 (BitVec.ofNat 32 (26632 * r.val))) a + (![3329, 1] : Fin 2 → Nat) a * (S8x128.size a - 1) < S106528x128.size a := fun k0_t1 v11140_r0 k0_hw237 r => k0_hw237 r

def k0_off395 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11154_r0 : Index := Scalar.indexCast v8246_r0
  let c109_4854_r0 : Index := 109#32
  ![v11154_r0.toNat, 109]
def k0_off396 (k0_t1 : Fin k0_t1_loop.trips) (v11155_r0 : BitVec 32) (c0_i32_4856_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11156_r0 : BitVec 32 := Scalar.addi v11155_r0 v8272_r0
  let v11159_r0 : BitVec 32 := Scalar.addi v11156_r0 c0_i32_4856_r0
  let v11160_r0 : Index := Scalar.indexCast v11159_r0
  let c0_4857_r0 : Index := 0#32
  ![v11160_r0.toNat, 0]

def k0_chk238 (k0_t1 : Fin k0_t1_loop.trips) (v11155_r0 : BitVec 32) : Prop :=
  (∀ (r : Fin 2), ∀ a, S8x128.size a = 0 ∨ (k0_off396 k0_t1 v11155_r0 (BitVec.ofNat 32 (26632 * r.val))) a + (![3329, 1] : Fin 2 → Nat) a * (S8x128.size a - 1) < S106528x128.size a)
theorem k0_off396_inb : ∀ (k0_t1 : Fin k0_t1_loop.trips) (v11155_r0 : BitVec 32) (k0_hw238 : k0_chk238 k0_t1 v11155_r0), ∀ (r : Fin 2), ∀ a, S8x128.size a = 0 ∨ (k0_off396 k0_t1 v11155_r0 (BitVec.ofNat 32 (26632 * r.val))) a + (![3329, 1] : Fin 2 → Nat) a * (S8x128.size a - 1) < S106528x128.size a := fun k0_t1 v11155_r0 k0_hw238 r => k0_hw238 r

def k0_off397 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11169_r0 : Index := Scalar.indexCast v8246_r0
  let c110_4860_r0 : Index := 110#32
  ![v11169_r0.toNat, 110]
def k0_off398 (k0_t1 : Fin k0_t1_loop.trips) (v11170_r0 : BitVec 32) (c0_i32_4862_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11171_r0 : BitVec 32 := Scalar.addi v11170_r0 v8272_r0
  let v11174_r0 : BitVec 32 := Scalar.addi v11171_r0 c0_i32_4862_r0
  let v11175_r0 : Index := Scalar.indexCast v11174_r0
  let c0_4863_r0 : Index := 0#32
  ![v11175_r0.toNat, 0]

def k0_chk239 (k0_t1 : Fin k0_t1_loop.trips) (v11170_r0 : BitVec 32) : Prop :=
  (∀ (r : Fin 2), ∀ a, S8x128.size a = 0 ∨ (k0_off398 k0_t1 v11170_r0 (BitVec.ofNat 32 (26632 * r.val))) a + (![3329, 1] : Fin 2 → Nat) a * (S8x128.size a - 1) < S106528x128.size a)
theorem k0_off398_inb : ∀ (k0_t1 : Fin k0_t1_loop.trips) (v11170_r0 : BitVec 32) (k0_hw239 : k0_chk239 k0_t1 v11170_r0), ∀ (r : Fin 2), ∀ a, S8x128.size a = 0 ∨ (k0_off398 k0_t1 v11170_r0 (BitVec.ofNat 32 (26632 * r.val))) a + (![3329, 1] : Fin 2 → Nat) a * (S8x128.size a - 1) < S106528x128.size a := fun k0_t1 v11170_r0 k0_hw239 r => k0_hw239 r

def k0_off399 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11184_r0 : Index := Scalar.indexCast v8246_r0
  let c111_4866_r0 : Index := 111#32
  ![v11184_r0.toNat, 111]
def k0_off400 (k0_t1 : Fin k0_t1_loop.trips) (v11185_r0 : BitVec 32) (c0_i32_4868_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11186_r0 : BitVec 32 := Scalar.addi v11185_r0 v8272_r0
  let v11189_r0 : BitVec 32 := Scalar.addi v11186_r0 c0_i32_4868_r0
  let v11190_r0 : Index := Scalar.indexCast v11189_r0
  let c0_4869_r0 : Index := 0#32
  ![v11190_r0.toNat, 0]

def k0_chk240 (k0_t1 : Fin k0_t1_loop.trips) (v11185_r0 : BitVec 32) : Prop :=
  (∀ (r : Fin 2), ∀ a, S8x128.size a = 0 ∨ (k0_off400 k0_t1 v11185_r0 (BitVec.ofNat 32 (26632 * r.val))) a + (![3329, 1] : Fin 2 → Nat) a * (S8x128.size a - 1) < S106528x128.size a)
theorem k0_off400_inb : ∀ (k0_t1 : Fin k0_t1_loop.trips) (v11185_r0 : BitVec 32) (k0_hw240 : k0_chk240 k0_t1 v11185_r0), ∀ (r : Fin 2), ∀ a, S8x128.size a = 0 ∨ (k0_off400 k0_t1 v11185_r0 (BitVec.ofNat 32 (26632 * r.val))) a + (![3329, 1] : Fin 2 → Nat) a * (S8x128.size a - 1) < S106528x128.size a := fun k0_t1 v11185_r0 k0_hw240 r => k0_hw240 r

def k0_off401 (k0_t1 : Fin k0_t1_loop.trips) (k0_t2 : Fin k0_t2_loop.trips) (c0_i32_4873_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c27_i32_4872_r0 : BitVec 32 := 27#32
  let v11200_r0 : BitVec 32 := Scalar.addi v8260_r0 c27_i32_4872_r0
  let v11201_r0 : BitVec 32 := Scalar.addi v11200_r0 c0_i32_4873_r0
  let v11202_r0 : Index := Scalar.indexCast v11201_r0
  let c0_4874_r0 : Index := 0#32
  ![v11202_r0.toNat, 0]
def k0_off402 (k0_t1 : Fin k0_t1_loop.trips) (k0_t2 : Fin k0_t2_loop.trips) (c462_i32_4878_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v11213_r0 : BitVec 32 := Scalar.addi v8259_r0 c462_i32_4878_r0
  let v11214_r0 : Index := Scalar.indexCast v11213_r0
  let c0_4879_r0 : Index := 0#32
  ![v11214_r0.toNat, 0]
def k0_off403 (k0_t1 : Fin k0_t1_loop.trips) (k0_t2 : Fin k0_t2_loop.trips) (c14_i32_4890_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_4888_r0 : BitVec 32 := 104#32
  let v11243_r0 : BitVec 32 := Scalar.muli arg10_r0 c104_i32_4888_r0
  let c0_i32_1301_r0 : BitVec 32 := 0#32
  let c1_i32_1302_r0 : BitVec 32 := 1#32
  let arg11_r0 : BitVec 32 := Scf.iv c0_i32_1301_r0 c1_i32_1302_r0 k0_t2
  let v11244_r0 : BitVec 32 := Scalar.addi v11243_r0 arg11_r0
  let c16_i32_4889_r0 : BitVec 32 := 16#32
  let v11245_r0 : BitVec 32 := Scalar.muli v11244_r0 c16_i32_4889_r0
  let v11246_r0 : BitVec 32 := Scalar.addi v11245_r0 c14_i32_4890_r0
  let v11247_r0 : Index := Scalar.indexCast v11246_r0
  let c0_4891_r0 : Index := 0#32
  ![v11247_r0.toNat, 0]
def k0_off404 (k0_t2 : Fin k0_t2_loop.trips) : Fin 3 → Nat :=
  let c0_i32_1301_r0 : BitVec 32 := 0#32
  let c1_i32_1302_r0 : BitVec 32 := 1#32
  let arg11_r0 : BitVec 32 := Scf.iv c0_i32_1301_r0 c1_i32_1302_r0 k0_t2
  let v11311_r0 : Index := Scalar.indexCast arg11_r0
  let c0_4908_r0 : Index := 0#32
  let c0_4909_r0 : Index := 0#32
  ![v11311_r0.toNat, 0, 0]
def k0_off405 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11337_r0 : Index := Scalar.indexCast v8246_r0
  let c112_4918_r0 : Index := 112#32
  ![v11337_r0.toNat, 112]
def k0_off406 (k0_t1 : Fin k0_t1_loop.trips) (v11338_r0 : BitVec 32) (c0_i32_4920_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11339_r0 : BitVec 32 := Scalar.addi v11338_r0 v8272_r0
  let v11342_r0 : BitVec 32 := Scalar.addi v11339_r0 c0_i32_4920_r0
  let v11343_r0 : Index := Scalar.indexCast v11342_r0
  let c0_4921_r0 : Index := 0#32
  ![v11343_r0.toNat, 0]

def k0_chk241 (k0_t1 : Fin k0_t1_loop.trips) (v11338_r0 : BitVec 32) : Prop :=
  (∀ (r : Fin 2), ∀ a, S8x128.size a = 0 ∨ (k0_off406 k0_t1 v11338_r0 (BitVec.ofNat 32 (26632 * r.val))) a + (![3329, 1] : Fin 2 → Nat) a * (S8x128.size a - 1) < S106528x128.size a)
theorem k0_off406_inb : ∀ (k0_t1 : Fin k0_t1_loop.trips) (v11338_r0 : BitVec 32) (k0_hw241 : k0_chk241 k0_t1 v11338_r0), ∀ (r : Fin 2), ∀ a, S8x128.size a = 0 ∨ (k0_off406 k0_t1 v11338_r0 (BitVec.ofNat 32 (26632 * r.val))) a + (![3329, 1] : Fin 2 → Nat) a * (S8x128.size a - 1) < S106528x128.size a := fun k0_t1 v11338_r0 k0_hw241 r => k0_hw241 r

def k0_off407 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11352_r0 : Index := Scalar.indexCast v8246_r0
  let c113_4924_r0 : Index := 113#32
  ![v11352_r0.toNat, 113]
def k0_off408 (k0_t1 : Fin k0_t1_loop.trips) (v11353_r0 : BitVec 32) (c0_i32_4926_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11354_r0 : BitVec 32 := Scalar.addi v11353_r0 v8272_r0
  let v11357_r0 : BitVec 32 := Scalar.addi v11354_r0 c0_i32_4926_r0
  let v11358_r0 : Index := Scalar.indexCast v11357_r0
  let c0_4927_r0 : Index := 0#32
  ![v11358_r0.toNat, 0]

def k0_chk242 (k0_t1 : Fin k0_t1_loop.trips) (v11353_r0 : BitVec 32) : Prop :=
  (∀ (r : Fin 2), ∀ a, S8x128.size a = 0 ∨ (k0_off408 k0_t1 v11353_r0 (BitVec.ofNat 32 (26632 * r.val))) a + (![3329, 1] : Fin 2 → Nat) a * (S8x128.size a - 1) < S106528x128.size a)
theorem k0_off408_inb : ∀ (k0_t1 : Fin k0_t1_loop.trips) (v11353_r0 : BitVec 32) (k0_hw242 : k0_chk242 k0_t1 v11353_r0), ∀ (r : Fin 2), ∀ a, S8x128.size a = 0 ∨ (k0_off408 k0_t1 v11353_r0 (BitVec.ofNat 32 (26632 * r.val))) a + (![3329, 1] : Fin 2 → Nat) a * (S8x128.size a - 1) < S106528x128.size a := fun k0_t1 v11353_r0 k0_hw242 r => k0_hw242 r

def k0_off409 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11367_r0 : Index := Scalar.indexCast v8246_r0
  let c114_4930_r0 : Index := 114#32
  ![v11367_r0.toNat, 114]
def k0_off410 (k0_t1 : Fin k0_t1_loop.trips) (v11368_r0 : BitVec 32) (c0_i32_4932_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11369_r0 : BitVec 32 := Scalar.addi v11368_r0 v8272_r0
  let v11372_r0 : BitVec 32 := Scalar.addi v11369_r0 c0_i32_4932_r0
  let v11373_r0 : Index := Scalar.indexCast v11372_r0
  let c0_4933_r0 : Index := 0#32
  ![v11373_r0.toNat, 0]

def k0_chk243 (k0_t1 : Fin k0_t1_loop.trips) (v11368_r0 : BitVec 32) : Prop :=
  (∀ (r : Fin 2), ∀ a, S8x128.size a = 0 ∨ (k0_off410 k0_t1 v11368_r0 (BitVec.ofNat 32 (26632 * r.val))) a + (![3329, 1] : Fin 2 → Nat) a * (S8x128.size a - 1) < S106528x128.size a)
theorem k0_off410_inb : ∀ (k0_t1 : Fin k0_t1_loop.trips) (v11368_r0 : BitVec 32) (k0_hw243 : k0_chk243 k0_t1 v11368_r0), ∀ (r : Fin 2), ∀ a, S8x128.size a = 0 ∨ (k0_off410 k0_t1 v11368_r0 (BitVec.ofNat 32 (26632 * r.val))) a + (![3329, 1] : Fin 2 → Nat) a * (S8x128.size a - 1) < S106528x128.size a := fun k0_t1 v11368_r0 k0_hw243 r => k0_hw243 r

def k0_off411 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11382_r0 : Index := Scalar.indexCast v8246_r0
  let c115_4936_r0 : Index := 115#32
  ![v11382_r0.toNat, 115]
def k0_off412 (k0_t1 : Fin k0_t1_loop.trips) (v11383_r0 : BitVec 32) (c0_i32_4938_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11384_r0 : BitVec 32 := Scalar.addi v11383_r0 v8272_r0
  let v11387_r0 : BitVec 32 := Scalar.addi v11384_r0 c0_i32_4938_r0
  let v11388_r0 : Index := Scalar.indexCast v11387_r0
  let c0_4939_r0 : Index := 0#32
  ![v11388_r0.toNat, 0]

def k0_chk244 (k0_t1 : Fin k0_t1_loop.trips) (v11383_r0 : BitVec 32) : Prop :=
  (∀ (r : Fin 2), ∀ a, S8x128.size a = 0 ∨ (k0_off412 k0_t1 v11383_r0 (BitVec.ofNat 32 (26632 * r.val))) a + (![3329, 1] : Fin 2 → Nat) a * (S8x128.size a - 1) < S106528x128.size a)
theorem k0_off412_inb : ∀ (k0_t1 : Fin k0_t1_loop.trips) (v11383_r0 : BitVec 32) (k0_hw244 : k0_chk244 k0_t1 v11383_r0), ∀ (r : Fin 2), ∀ a, S8x128.size a = 0 ∨ (k0_off412 k0_t1 v11383_r0 (BitVec.ofNat 32 (26632 * r.val))) a + (![3329, 1] : Fin 2 → Nat) a * (S8x128.size a - 1) < S106528x128.size a := fun k0_t1 v11383_r0 k0_hw244 r => k0_hw244 r

def k0_off413 (k0_t1 : Fin k0_t1_loop.trips) (k0_t2 : Fin k0_t2_loop.trips) (c0_i32_4943_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c28_i32_4942_r0 : BitVec 32 := 28#32
  let v11398_r0 : BitVec 32 := Scalar.addi v8260_r0 c28_i32_4942_r0
  let v11399_r0 : BitVec 32 := Scalar.addi v11398_r0 c0_i32_4943_r0
  let v11400_r0 : Index := Scalar.indexCast v11399_r0
  let c0_4944_r0 : Index := 0#32
  ![v11400_r0.toNat, 0]
def k0_off414 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11411_r0 : Index := Scalar.indexCast v8246_r0
  let c116_4948_r0 : Index := 116#32
  ![v11411_r0.toNat, 116]
def k0_off415 (k0_t1 : Fin k0_t1_loop.trips) (v11412_r0 : BitVec 32) (c0_i32_4950_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11413_r0 : BitVec 32 := Scalar.addi v11412_r0 v8272_r0
  let v11416_r0 : BitVec 32 := Scalar.addi v11413_r0 c0_i32_4950_r0
  let v11417_r0 : Index := Scalar.indexCast v11416_r0
  let c0_4951_r0 : Index := 0#32
  ![v11417_r0.toNat, 0]

def k0_chk245 (k0_t1 : Fin k0_t1_loop.trips) (v11412_r0 : BitVec 32) : Prop :=
  (∀ (r : Fin 2), ∀ a, S8x128.size a = 0 ∨ (k0_off415 k0_t1 v11412_r0 (BitVec.ofNat 32 (26632 * r.val))) a + (![3329, 1] : Fin 2 → Nat) a * (S8x128.size a - 1) < S106528x128.size a)
theorem k0_off415_inb : ∀ (k0_t1 : Fin k0_t1_loop.trips) (v11412_r0 : BitVec 32) (k0_hw245 : k0_chk245 k0_t1 v11412_r0), ∀ (r : Fin 2), ∀ a, S8x128.size a = 0 ∨ (k0_off415 k0_t1 v11412_r0 (BitVec.ofNat 32 (26632 * r.val))) a + (![3329, 1] : Fin 2 → Nat) a * (S8x128.size a - 1) < S106528x128.size a := fun k0_t1 v11412_r0 k0_hw245 r => k0_hw245 r

def k0_off416 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11426_r0 : Index := Scalar.indexCast v8246_r0
  let c117_4954_r0 : Index := 117#32
  ![v11426_r0.toNat, 117]
def k0_off417 (k0_t1 : Fin k0_t1_loop.trips) (v11427_r0 : BitVec 32) (c0_i32_4956_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11428_r0 : BitVec 32 := Scalar.addi v11427_r0 v8272_r0
  let v11431_r0 : BitVec 32 := Scalar.addi v11428_r0 c0_i32_4956_r0
  let v11432_r0 : Index := Scalar.indexCast v11431_r0
  let c0_4957_r0 : Index := 0#32
  ![v11432_r0.toNat, 0]

def k0_chk246 (k0_t1 : Fin k0_t1_loop.trips) (v11427_r0 : BitVec 32) : Prop :=
  (∀ (r : Fin 2), ∀ a, S8x128.size a = 0 ∨ (k0_off417 k0_t1 v11427_r0 (BitVec.ofNat 32 (26632 * r.val))) a + (![3329, 1] : Fin 2 → Nat) a * (S8x128.size a - 1) < S106528x128.size a)
theorem k0_off417_inb : ∀ (k0_t1 : Fin k0_t1_loop.trips) (v11427_r0 : BitVec 32) (k0_hw246 : k0_chk246 k0_t1 v11427_r0), ∀ (r : Fin 2), ∀ a, S8x128.size a = 0 ∨ (k0_off417 k0_t1 v11427_r0 (BitVec.ofNat 32 (26632 * r.val))) a + (![3329, 1] : Fin 2 → Nat) a * (S8x128.size a - 1) < S106528x128.size a := fun k0_t1 v11427_r0 k0_hw246 r => k0_hw246 r

def k0_off418 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11441_r0 : Index := Scalar.indexCast v8246_r0
  let c118_4960_r0 : Index := 118#32
  ![v11441_r0.toNat, 118]
def k0_off419 (k0_t1 : Fin k0_t1_loop.trips) (v11442_r0 : BitVec 32) (c0_i32_4962_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11443_r0 : BitVec 32 := Scalar.addi v11442_r0 v8272_r0
  let v11446_r0 : BitVec 32 := Scalar.addi v11443_r0 c0_i32_4962_r0
  let v11447_r0 : Index := Scalar.indexCast v11446_r0
  let c0_4963_r0 : Index := 0#32
  ![v11447_r0.toNat, 0]

def k0_chk247 (k0_t1 : Fin k0_t1_loop.trips) (v11442_r0 : BitVec 32) : Prop :=
  (∀ (r : Fin 2), ∀ a, S8x128.size a = 0 ∨ (k0_off419 k0_t1 v11442_r0 (BitVec.ofNat 32 (26632 * r.val))) a + (![3329, 1] : Fin 2 → Nat) a * (S8x128.size a - 1) < S106528x128.size a)
theorem k0_off419_inb : ∀ (k0_t1 : Fin k0_t1_loop.trips) (v11442_r0 : BitVec 32) (k0_hw247 : k0_chk247 k0_t1 v11442_r0), ∀ (r : Fin 2), ∀ a, S8x128.size a = 0 ∨ (k0_off419 k0_t1 v11442_r0 (BitVec.ofNat 32 (26632 * r.val))) a + (![3329, 1] : Fin 2 → Nat) a * (S8x128.size a - 1) < S106528x128.size a := fun k0_t1 v11442_r0 k0_hw247 r => k0_hw247 r

def k0_off420 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11456_r0 : Index := Scalar.indexCast v8246_r0
  let c119_4966_r0 : Index := 119#32
  ![v11456_r0.toNat, 119]
def k0_off421 (k0_t1 : Fin k0_t1_loop.trips) (v11457_r0 : BitVec 32) (c0_i32_4968_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11458_r0 : BitVec 32 := Scalar.addi v11457_r0 v8272_r0
  let v11461_r0 : BitVec 32 := Scalar.addi v11458_r0 c0_i32_4968_r0
  let v11462_r0 : Index := Scalar.indexCast v11461_r0
  let c0_4969_r0 : Index := 0#32
  ![v11462_r0.toNat, 0]

def k0_chk248 (k0_t1 : Fin k0_t1_loop.trips) (v11457_r0 : BitVec 32) : Prop :=
  (∀ (r : Fin 2), ∀ a, S8x128.size a = 0 ∨ (k0_off421 k0_t1 v11457_r0 (BitVec.ofNat 32 (26632 * r.val))) a + (![3329, 1] : Fin 2 → Nat) a * (S8x128.size a - 1) < S106528x128.size a)
theorem k0_off421_inb : ∀ (k0_t1 : Fin k0_t1_loop.trips) (v11457_r0 : BitVec 32) (k0_hw248 : k0_chk248 k0_t1 v11457_r0), ∀ (r : Fin 2), ∀ a, S8x128.size a = 0 ∨ (k0_off421 k0_t1 v11457_r0 (BitVec.ofNat 32 (26632 * r.val))) a + (![3329, 1] : Fin 2 → Nat) a * (S8x128.size a - 1) < S106528x128.size a := fun k0_t1 v11457_r0 k0_hw248 r => k0_hw248 r

def k0_off422 (k0_t1 : Fin k0_t1_loop.trips) (k0_t2 : Fin k0_t2_loop.trips) (c0_i32_4973_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c29_i32_4972_r0 : BitVec 32 := 29#32
  let v11472_r0 : BitVec 32 := Scalar.addi v8260_r0 c29_i32_4972_r0
  let v11473_r0 : BitVec 32 := Scalar.addi v11472_r0 c0_i32_4973_r0
  let v11474_r0 : Index := Scalar.indexCast v11473_r0
  let c0_4974_r0 : Index := 0#32
  ![v11474_r0.toNat, 0]
def k0_off423 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11485_r0 : Index := Scalar.indexCast v8246_r0
  let c120_4978_r0 : Index := 120#32
  ![v11485_r0.toNat, 120]
def k0_off424 (k0_t1 : Fin k0_t1_loop.trips) (v11486_r0 : BitVec 32) (c0_i32_4980_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11487_r0 : BitVec 32 := Scalar.addi v11486_r0 v8272_r0
  let v11490_r0 : BitVec 32 := Scalar.addi v11487_r0 c0_i32_4980_r0
  let v11491_r0 : Index := Scalar.indexCast v11490_r0
  let c0_4981_r0 : Index := 0#32
  ![v11491_r0.toNat, 0]

def k0_chk249 (k0_t1 : Fin k0_t1_loop.trips) (v11486_r0 : BitVec 32) : Prop :=
  (∀ (r : Fin 2), ∀ a, S8x128.size a = 0 ∨ (k0_off424 k0_t1 v11486_r0 (BitVec.ofNat 32 (26632 * r.val))) a + (![3329, 1] : Fin 2 → Nat) a * (S8x128.size a - 1) < S106528x128.size a)
theorem k0_off424_inb : ∀ (k0_t1 : Fin k0_t1_loop.trips) (v11486_r0 : BitVec 32) (k0_hw249 : k0_chk249 k0_t1 v11486_r0), ∀ (r : Fin 2), ∀ a, S8x128.size a = 0 ∨ (k0_off424 k0_t1 v11486_r0 (BitVec.ofNat 32 (26632 * r.val))) a + (![3329, 1] : Fin 2 → Nat) a * (S8x128.size a - 1) < S106528x128.size a := fun k0_t1 v11486_r0 k0_hw249 r => k0_hw249 r

def k0_off425 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11500_r0 : Index := Scalar.indexCast v8246_r0
  let c121_4984_r0 : Index := 121#32
  ![v11500_r0.toNat, 121]
def k0_off426 (k0_t1 : Fin k0_t1_loop.trips) (v11501_r0 : BitVec 32) (c0_i32_4986_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11502_r0 : BitVec 32 := Scalar.addi v11501_r0 v8272_r0
  let v11505_r0 : BitVec 32 := Scalar.addi v11502_r0 c0_i32_4986_r0
  let v11506_r0 : Index := Scalar.indexCast v11505_r0
  let c0_4987_r0 : Index := 0#32
  ![v11506_r0.toNat, 0]

def k0_chk250 (k0_t1 : Fin k0_t1_loop.trips) (v11501_r0 : BitVec 32) : Prop :=
  (∀ (r : Fin 2), ∀ a, S8x128.size a = 0 ∨ (k0_off426 k0_t1 v11501_r0 (BitVec.ofNat 32 (26632 * r.val))) a + (![3329, 1] : Fin 2 → Nat) a * (S8x128.size a - 1) < S106528x128.size a)
theorem k0_off426_inb : ∀ (k0_t1 : Fin k0_t1_loop.trips) (v11501_r0 : BitVec 32) (k0_hw250 : k0_chk250 k0_t1 v11501_r0), ∀ (r : Fin 2), ∀ a, S8x128.size a = 0 ∨ (k0_off426 k0_t1 v11501_r0 (BitVec.ofNat 32 (26632 * r.val))) a + (![3329, 1] : Fin 2 → Nat) a * (S8x128.size a - 1) < S106528x128.size a := fun k0_t1 v11501_r0 k0_hw250 r => k0_hw250 r

def k0_off427 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11515_r0 : Index := Scalar.indexCast v8246_r0
  let c122_4990_r0 : Index := 122#32
  ![v11515_r0.toNat, 122]
def k0_off428 (k0_t1 : Fin k0_t1_loop.trips) (v11516_r0 : BitVec 32) (c0_i32_4992_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11517_r0 : BitVec 32 := Scalar.addi v11516_r0 v8272_r0
  let v11520_r0 : BitVec 32 := Scalar.addi v11517_r0 c0_i32_4992_r0
  let v11521_r0 : Index := Scalar.indexCast v11520_r0
  let c0_4993_r0 : Index := 0#32
  ![v11521_r0.toNat, 0]

def k0_chk251 (k0_t1 : Fin k0_t1_loop.trips) (v11516_r0 : BitVec 32) : Prop :=
  (∀ (r : Fin 2), ∀ a, S8x128.size a = 0 ∨ (k0_off428 k0_t1 v11516_r0 (BitVec.ofNat 32 (26632 * r.val))) a + (![3329, 1] : Fin 2 → Nat) a * (S8x128.size a - 1) < S106528x128.size a)
theorem k0_off428_inb : ∀ (k0_t1 : Fin k0_t1_loop.trips) (v11516_r0 : BitVec 32) (k0_hw251 : k0_chk251 k0_t1 v11516_r0), ∀ (r : Fin 2), ∀ a, S8x128.size a = 0 ∨ (k0_off428 k0_t1 v11516_r0 (BitVec.ofNat 32 (26632 * r.val))) a + (![3329, 1] : Fin 2 → Nat) a * (S8x128.size a - 1) < S106528x128.size a := fun k0_t1 v11516_r0 k0_hw251 r => k0_hw251 r

def k0_off429 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11530_r0 : Index := Scalar.indexCast v8246_r0
  let c123_4996_r0 : Index := 123#32
  ![v11530_r0.toNat, 123]
def k0_off430 (k0_t1 : Fin k0_t1_loop.trips) (v11531_r0 : BitVec 32) (c0_i32_4998_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11532_r0 : BitVec 32 := Scalar.addi v11531_r0 v8272_r0
  let v11535_r0 : BitVec 32 := Scalar.addi v11532_r0 c0_i32_4998_r0
  let v11536_r0 : Index := Scalar.indexCast v11535_r0
  let c0_4999_r0 : Index := 0#32
  ![v11536_r0.toNat, 0]

def k0_chk252 (k0_t1 : Fin k0_t1_loop.trips) (v11531_r0 : BitVec 32) : Prop :=
  (∀ (r : Fin 2), ∀ a, S8x128.size a = 0 ∨ (k0_off430 k0_t1 v11531_r0 (BitVec.ofNat 32 (26632 * r.val))) a + (![3329, 1] : Fin 2 → Nat) a * (S8x128.size a - 1) < S106528x128.size a)
theorem k0_off430_inb : ∀ (k0_t1 : Fin k0_t1_loop.trips) (v11531_r0 : BitVec 32) (k0_hw252 : k0_chk252 k0_t1 v11531_r0), ∀ (r : Fin 2), ∀ a, S8x128.size a = 0 ∨ (k0_off430 k0_t1 v11531_r0 (BitVec.ofNat 32 (26632 * r.val))) a + (![3329, 1] : Fin 2 → Nat) a * (S8x128.size a - 1) < S106528x128.size a := fun k0_t1 v11531_r0 k0_hw252 r => k0_hw252 r

def k0_off431 (k0_t1 : Fin k0_t1_loop.trips) (k0_t2 : Fin k0_t2_loop.trips) (c0_i32_5003_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c30_i32_5002_r0 : BitVec 32 := 30#32
  let v11546_r0 : BitVec 32 := Scalar.addi v8260_r0 c30_i32_5002_r0
  let v11547_r0 : BitVec 32 := Scalar.addi v11546_r0 c0_i32_5003_r0
  let v11548_r0 : Index := Scalar.indexCast v11547_r0
  let c0_5004_r0 : Index := 0#32
  ![v11548_r0.toNat, 0]
def k0_off432 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11559_r0 : Index := Scalar.indexCast v8246_r0
  let c124_5008_r0 : Index := 124#32
  ![v11559_r0.toNat, 124]
def k0_off433 (k0_t1 : Fin k0_t1_loop.trips) (v11560_r0 : BitVec 32) (c0_i32_5010_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11561_r0 : BitVec 32 := Scalar.addi v11560_r0 v8272_r0
  let v11564_r0 : BitVec 32 := Scalar.addi v11561_r0 c0_i32_5010_r0
  let v11565_r0 : Index := Scalar.indexCast v11564_r0
  let c0_5011_r0 : Index := 0#32
  ![v11565_r0.toNat, 0]

def k0_chk253 (k0_t1 : Fin k0_t1_loop.trips) (v11560_r0 : BitVec 32) : Prop :=
  (∀ (r : Fin 2), ∀ a, S8x128.size a = 0 ∨ (k0_off433 k0_t1 v11560_r0 (BitVec.ofNat 32 (26632 * r.val))) a + (![3329, 1] : Fin 2 → Nat) a * (S8x128.size a - 1) < S106528x128.size a)
theorem k0_off433_inb : ∀ (k0_t1 : Fin k0_t1_loop.trips) (v11560_r0 : BitVec 32) (k0_hw253 : k0_chk253 k0_t1 v11560_r0), ∀ (r : Fin 2), ∀ a, S8x128.size a = 0 ∨ (k0_off433 k0_t1 v11560_r0 (BitVec.ofNat 32 (26632 * r.val))) a + (![3329, 1] : Fin 2 → Nat) a * (S8x128.size a - 1) < S106528x128.size a := fun k0_t1 v11560_r0 k0_hw253 r => k0_hw253 r

def k0_off434 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11574_r0 : Index := Scalar.indexCast v8246_r0
  let c125_5014_r0 : Index := 125#32
  ![v11574_r0.toNat, 125]
def k0_off435 (k0_t1 : Fin k0_t1_loop.trips) (v11575_r0 : BitVec 32) (c0_i32_5016_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11576_r0 : BitVec 32 := Scalar.addi v11575_r0 v8272_r0
  let v11579_r0 : BitVec 32 := Scalar.addi v11576_r0 c0_i32_5016_r0
  let v11580_r0 : Index := Scalar.indexCast v11579_r0
  let c0_5017_r0 : Index := 0#32
  ![v11580_r0.toNat, 0]

def k0_chk254 (k0_t1 : Fin k0_t1_loop.trips) (v11575_r0 : BitVec 32) : Prop :=
  (∀ (r : Fin 2), ∀ a, S8x128.size a = 0 ∨ (k0_off435 k0_t1 v11575_r0 (BitVec.ofNat 32 (26632 * r.val))) a + (![3329, 1] : Fin 2 → Nat) a * (S8x128.size a - 1) < S106528x128.size a)
theorem k0_off435_inb : ∀ (k0_t1 : Fin k0_t1_loop.trips) (v11575_r0 : BitVec 32) (k0_hw254 : k0_chk254 k0_t1 v11575_r0), ∀ (r : Fin 2), ∀ a, S8x128.size a = 0 ∨ (k0_off435 k0_t1 v11575_r0 (BitVec.ofNat 32 (26632 * r.val))) a + (![3329, 1] : Fin 2 → Nat) a * (S8x128.size a - 1) < S106528x128.size a := fun k0_t1 v11575_r0 k0_hw254 r => k0_hw254 r

def k0_off436 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11589_r0 : Index := Scalar.indexCast v8246_r0
  let c126_5020_r0 : Index := 126#32
  ![v11589_r0.toNat, 126]
def k0_off437 (k0_t1 : Fin k0_t1_loop.trips) (v11590_r0 : BitVec 32) (c0_i32_5022_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11591_r0 : BitVec 32 := Scalar.addi v11590_r0 v8272_r0
  let v11594_r0 : BitVec 32 := Scalar.addi v11591_r0 c0_i32_5022_r0
  let v11595_r0 : Index := Scalar.indexCast v11594_r0
  let c0_5023_r0 : Index := 0#32
  ![v11595_r0.toNat, 0]

def k0_chk255 (k0_t1 : Fin k0_t1_loop.trips) (v11590_r0 : BitVec 32) : Prop :=
  (∀ (r : Fin 2), ∀ a, S8x128.size a = 0 ∨ (k0_off437 k0_t1 v11590_r0 (BitVec.ofNat 32 (26632 * r.val))) a + (![3329, 1] : Fin 2 → Nat) a * (S8x128.size a - 1) < S106528x128.size a)
theorem k0_off437_inb : ∀ (k0_t1 : Fin k0_t1_loop.trips) (v11590_r0 : BitVec 32) (k0_hw255 : k0_chk255 k0_t1 v11590_r0), ∀ (r : Fin 2), ∀ a, S8x128.size a = 0 ∨ (k0_off437 k0_t1 v11590_r0 (BitVec.ofNat 32 (26632 * r.val))) a + (![3329, 1] : Fin 2 → Nat) a * (S8x128.size a - 1) < S106528x128.size a := fun k0_t1 v11590_r0 k0_hw255 r => k0_hw255 r

def k0_off438 (k0_t2 : Fin k0_t2_loop.trips) : Fin 2 → Nat :=
  let c0_i32_1301_r0 : BitVec 32 := 0#32
  let c1_i32_1302_r0 : BitVec 32 := 1#32
  let arg11_r0 : BitVec 32 := Scf.iv c0_i32_1301_r0 c1_i32_1302_r0 k0_t2
  let c1_i32_3740_r0 : BitVec 32 := 1#32
  let v8246_r0 : BitVec 32 := Scalar.addi arg11_r0 c1_i32_3740_r0
  let v11604_r0 : Index := Scalar.indexCast v8246_r0
  let c127_5026_r0 : Index := 127#32
  ![v11604_r0.toNat, 127]
def k0_off439 (k0_t1 : Fin k0_t1_loop.trips) (v11605_r0 : BitVec 32) (c0_i32_5028_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3750_r0 : BitVec 32 := 2#32
  let c0_i32_3751_r0 : BitVec 32 := 0#32
  let v8261_r0 : BitVec 1 := Scalar.cmpi .eq c2_i32_3750_r0 c0_i32_3751_r0
  let c1_i32_3752_r0 : BitVec 32 := 1#32
  let v8262_r0 : BitVec 32 := Scalar.select v8261_r0 c1_i32_3752_r0 c2_i32_3750_r0
  let v8263_r0 : BitVec 32 := Scalar.remsi arg10_r0 v8262_r0
  let c0_i32_3754_r0 : BitVec 32 := 0#32
  let v8265_r0 : BitVec 1 := Scalar.cmpi .slt v8263_r0 c0_i32_3754_r0
  let c0_i32_3755_r0 : BitVec 32 := 0#32
  let v8266_r0 : BitVec 1 := Scalar.cmpi .slt v8262_r0 c0_i32_3755_r0
  let v8267_r0 : BitVec 1 := Scalar.xori v8265_r0 v8266_r0
  let c0_i32_3753_r0 : BitVec 32 := 0#32
  let v8264_r0 : BitVec 1 := Scalar.cmpi .ne v8263_r0 c0_i32_3753_r0
  let v8268_r0 : BitVec 1 := Scalar.andi v8267_r0 v8264_r0
  let v8269_r0 : BitVec 32 := Scalar.addi v8263_r0 v8262_r0
  let v8270_r0 : BitVec 32 := Scalar.select v8268_r0 v8269_r0 v8263_r0
  let c16_i32_3756_r0 : BitVec 32 := 16#32
  let v8271_r0 : BitVec 32 := Scalar.muli v8270_r0 c16_i32_3756_r0
  let c3329_i32_3757_r0 : BitVec 32 := 3329#32
  let v8272_r0 : BitVec 32 := Scalar.muli v8271_r0 c3329_i32_3757_r0
  let v11606_r0 : BitVec 32 := Scalar.addi v11605_r0 v8272_r0
  let v11609_r0 : BitVec 32 := Scalar.addi v11606_r0 c0_i32_5028_r0
  let v11610_r0 : Index := Scalar.indexCast v11609_r0
  let c0_5029_r0 : Index := 0#32
  ![v11610_r0.toNat, 0]

def k0_chk256 (k0_t1 : Fin k0_t1_loop.trips) (v11605_r0 : BitVec 32) : Prop :=
  (∀ (r : Fin 2), ∀ a, S8x128.size a = 0 ∨ (k0_off439 k0_t1 v11605_r0 (BitVec.ofNat 32 (26632 * r.val))) a + (![3329, 1] : Fin 2 → Nat) a * (S8x128.size a - 1) < S106528x128.size a)
theorem k0_off439_inb : ∀ (k0_t1 : Fin k0_t1_loop.trips) (v11605_r0 : BitVec 32) (k0_hw256 : k0_chk256 k0_t1 v11605_r0), ∀ (r : Fin 2), ∀ a, S8x128.size a = 0 ∨ (k0_off439 k0_t1 v11605_r0 (BitVec.ofNat 32 (26632 * r.val))) a + (![3329, 1] : Fin 2 → Nat) a * (S8x128.size a - 1) < S106528x128.size a := fun k0_t1 v11605_r0 k0_hw256 r => k0_hw256 r

def k0_off440 (k0_t1 : Fin k0_t1_loop.trips) (k0_t2 : Fin k0_t2_loop.trips) (c0_i32_5033_r0 : BitVec 32) : Fin 2 → Nat :=
  let c528_i32_3749_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_3741_r0 : BitVec 32 := 104#32
  let v8247_r0 : BitVec 32 := Scalar.muli arg10_r0 c104_i32_3741_r0
  let c0_i32_1301_r0 : BitVec 32 := 0#32
  let c1_i32_1302_r0 : BitVec 32 := 1#32
  let arg11_r0 : BitVec 32 := Scf.iv c0_i32_1301_r0 c1_i32_1302_r0 k0_t2
  let v8248_r0 : BitVec 32 := Scalar.addi v8247_r0 arg11_r0
  let c2_i32_3742_r0 : BitVec 32 := 2#32
  let c0_i32_3743_r0 : BitVec 32 := 0#32
  let v8249_r0 : BitVec 1 := Scalar.cmpi .eq c2_i32_3742_r0 c0_i32_3743_r0
  let c1_i32_3744_r0 : BitVec 32 := 1#32
  let v8250_r0 : BitVec 32 := Scalar.select v8249_r0 c1_i32_3744_r0 c2_i32_3742_r0
  let v8251_r0 : BitVec 32 := Scalar.remsi v8248_r0 v8250_r0
  let c0_i32_3746_r0 : BitVec 32 := 0#32
  let v8253_r0 : BitVec 1 := Scalar.cmpi .slt v8251_r0 c0_i32_3746_r0
  let c0_i32_3747_r0 : BitVec 32 := 0#32
  let v8254_r0 : BitVec 1 := Scalar.cmpi .slt v8250_r0 c0_i32_3747_r0
  let v8255_r0 : BitVec 1 := Scalar.xori v8253_r0 v8254_r0
  let c0_i32_3745_r0 : BitVec 32 := 0#32
  let v8252_r0 : BitVec 1 := Scalar.cmpi .ne v8251_r0 c0_i32_3745_r0
  let v8256_r0 : BitVec 1 := Scalar.andi v8255_r0 v8252_r0
  let v8257_r0 : BitVec 32 := Scalar.addi v8251_r0 v8250_r0
  let v8258_r0 : BitVec 32 := Scalar.select v8256_r0 v8257_r0 v8251_r0
  let c528_i32_3748_r0 : BitVec 32 := 528#32
  let v8259_r0 : BitVec 32 := Scalar.muli v8258_r0 c528_i32_3748_r0
  let v8260_r0 : BitVec 32 := Scalar.subi c528_i32_3749_r0 v8259_r0
  let c31_i32_5032_r0 : BitVec 32 := 31#32
  let v11620_r0 : BitVec 32 := Scalar.addi v8260_r0 c31_i32_5032_r0
  let v11621_r0 : BitVec 32 := Scalar.addi v11620_r0 c0_i32_5033_r0
  let v11622_r0 : Index := Scalar.indexCast v11621_r0
  let c0_5034_r0 : Index := 0#32
  ![v11622_r0.toNat, 0]
def k0_cond1 (k0_t1 : Fin k0_t1_loop.trips) : BitVec 1 :=
  let c0_i32_1297_r0 : BitVec 32 := 0#32
  let c1_i32_1298_r0 : BitVec 32 := 1#32
  let arg10_r0 : BitVec 32 := Scf.iv c0_i32_1297_r0 c1_i32_1298_r0 k0_t1
  let c1_i32_1304_r0 : BitVec 32 := 1#32
  let v2114_r0 : BitVec 32 := Scalar.addi arg10_r0 c1_i32_1304_r0
  let c4_i32_1305_r0 : BitVec 32 := 4#32
  let v2115_r0 : BitVec 1 := Scalar.cmpi .slt v2114_r0 c4_i32_1305_r0
  let v2116_r0 : BitVec 32 := Scalar.extui v2115_r0
  let c0_i32_1306_r0 : BitVec 32 := 0#32
  let v2117_r0 : BitVec 1 := Scalar.cmpi .ne v2116_r0 c0_i32_1306_r0
  v2117_r0

def k0_off441 (k0_t1 : Fin k0_t1_loop.trips) : Fin 1 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_3740_r0 : BitVec 32 := 1#32
  let v8246_r0 : BitVec 32 := Scalar.addi arg10_r0 c1_i32_3740_r0
  let c2_i32_3753_r0 : BitVec 32 := 2#32
  let c0_i32_3754_r0 : BitVec 32 := 0#32
  let v8263_r0 : BitVec 1 := Scalar.cmpi .eq c2_i32_3753_r0 c0_i32_3754_r0
  let c1_i32_3755_r0 : BitVec 32 := 1#32
  let v8264_r0 : BitVec 32 := Scalar.select v8263_r0 c1_i32_3755_r0 c2_i32_3753_r0
  let v8265_r0 : BitVec 32 := Scalar.remsi v8246_r0 v8264_r0
  let c0_i32_3757_r0 : BitVec 32 := 0#32
  let v8267_r0 : BitVec 1 := Scalar.cmpi .slt v8265_r0 c0_i32_3757_r0
  let c0_i32_3758_r0 : BitVec 32 := 0#32
  let v8268_r0 : BitVec 1 := Scalar.cmpi .slt v8264_r0 c0_i32_3758_r0
  let v8269_r0 : BitVec 1 := Scalar.xori v8267_r0 v8268_r0
  let c0_i32_3756_r0 : BitVec 32 := 0#32
  let v8266_r0 : BitVec 1 := Scalar.cmpi .ne v8265_r0 c0_i32_3756_r0
  let v8270_r0 : BitVec 1 := Scalar.andi v8269_r0 v8266_r0
  let v8271_r0 : BitVec 32 := Scalar.addi v8265_r0 v8264_r0
  let v8272_r0 : BitVec 32 := Scalar.select v8270_r0 v8271_r0 v8265_r0
  ![v8272_r0.toNat]
def k0_off442 (k0_t1 : Fin k0_t1_loop.trips) (c0_i32_3751_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_3740_r0 : BitVec 32 := 1#32
  let v8246_r0 : BitVec 32 := Scalar.addi arg10_r0 c1_i32_3740_r0
  let c2_i32_3744_r0 : BitVec 32 := 2#32
  let c0_i32_3745_r0 : BitVec 32 := 0#32
  let v8250_r0 : BitVec 1 := Scalar.cmpi .eq c2_i32_3744_r0 c0_i32_3745_r0
  let c1_i32_3746_r0 : BitVec 32 := 1#32
  let v8251_r0 : BitVec 32 := Scalar.select v8250_r0 c1_i32_3746_r0 c2_i32_3744_r0
  let v8252_r0 : BitVec 32 := Scalar.remsi v8246_r0 v8251_r0
  let c0_i32_3748_r0 : BitVec 32 := 0#32
  let v8254_r0 : BitVec 1 := Scalar.cmpi .slt v8252_r0 c0_i32_3748_r0
  let c0_i32_3749_r0 : BitVec 32 := 0#32
  let v8255_r0 : BitVec 1 := Scalar.cmpi .slt v8251_r0 c0_i32_3749_r0
  let v8256_r0 : BitVec 1 := Scalar.xori v8254_r0 v8255_r0
  let c0_i32_3747_r0 : BitVec 32 := 0#32
  let v8253_r0 : BitVec 1 := Scalar.cmpi .ne v8252_r0 c0_i32_3747_r0
  let v8257_r0 : BitVec 1 := Scalar.andi v8256_r0 v8253_r0
  let v8258_r0 : BitVec 32 := Scalar.addi v8252_r0 v8251_r0
  let v8259_r0 : BitVec 32 := Scalar.select v8257_r0 v8258_r0 v8252_r0
  let c16_i32_3750_r0 : BitVec 32 := 16#32
  let v8260_r0 : BitVec 32 := Scalar.muli v8259_r0 c16_i32_3750_r0
  let v8261_r0 : BitVec 32 := Scalar.addi v8260_r0 c0_i32_3751_r0
  let c3329_i32_3752_r0 : BitVec 32 := 3329#32
  let v8262_r0 : BitVec 32 := Scalar.muli v8261_r0 c3329_i32_3752_r0
  let c0_i32_3759_r0 : BitVec 32 := 0#32
  ![v8262_r0.toNat, 0]
def k0_off443 (k0_t1 : Fin k0_t1_loop.trips) (c0_i32_3742_r0 : BitVec 32) : Fin 2 → Nat :=
  let c0_i32_3760_r0 : BitVec 32 := 0#32
  let c0_i32_1297_r0 : BitVec 32 := 0#32
  let c1_i32_1298_r0 : BitVec 32 := 1#32
  let arg10_r0 : BitVec 32 := Scf.iv c0_i32_1297_r0 c1_i32_1298_r0 k0_t1
  let c1_i32_3740_r0 : BitVec 32 := 1#32
  let v8246_r0 : BitVec 32 := Scalar.addi arg10_r0 c1_i32_3740_r0
  let c16_i32_3741_r0 : BitVec 32 := 16#32
  let v8247_r0 : BitVec 32 := Scalar.muli v8246_r0 c16_i32_3741_r0
  let v8248_r0 : BitVec 32 := Scalar.addi v8247_r0 c0_i32_3742_r0
  let c128_i32_3743_r0 : BitVec 32 := 128#32
  let v8249_r0 : BitVec 32 := Scalar.muli v8248_r0 c128_i32_3743_r0
  ![0, v8249_r0.toNat]
def k0_cond2 (k0_t1 : Fin k0_t1_loop.trips) : BitVec 1 :=
  let c0_i32_1297_r0 : BitVec 32 := 0#32
  let c1_i32_1298_r0 : BitVec 32 := 1#32
  let arg10_r0 : BitVec 32 := Scf.iv c0_i32_1297_r0 c1_i32_1298_r0 k0_t1
  let c2_i32_r0 : BitVec 32 := 2#32
  let v2118_r0 : BitVec 32 := Scalar.addi arg10_r0 c2_i32_r0
  let c4_i32_1307_r0 : BitVec 32 := 4#32
  let v2119_r0 : BitVec 1 := Scalar.cmpi .slt v2118_r0 c4_i32_1307_r0
  let v2120_r0 : BitVec 32 := Scalar.extui v2119_r0
  let c0_i32_1308_r0 : BitVec 32 := 0#32
  let v2121_r0 : BitVec 1 := Scalar.cmpi .ne v2120_r0 c0_i32_1308_r0
  v2121_r0

def k0_off444 (k0_t1 : Fin k0_t1_loop.trips) : Fin 1 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3740_r0 : BitVec 32 := 2#32
  let v8246_r0 : BitVec 32 := Scalar.addi arg10_r0 c2_i32_3740_r0
  let c2_i32_3753_r0 : BitVec 32 := 2#32
  let c0_i32_3754_r0 : BitVec 32 := 0#32
  let v8263_r0 : BitVec 1 := Scalar.cmpi .eq c2_i32_3753_r0 c0_i32_3754_r0
  let c1_i32_3755_r0 : BitVec 32 := 1#32
  let v8264_r0 : BitVec 32 := Scalar.select v8263_r0 c1_i32_3755_r0 c2_i32_3753_r0
  let v8265_r0 : BitVec 32 := Scalar.remsi v8246_r0 v8264_r0
  let c0_i32_3757_r0 : BitVec 32 := 0#32
  let v8267_r0 : BitVec 1 := Scalar.cmpi .slt v8265_r0 c0_i32_3757_r0
  let c0_i32_3758_r0 : BitVec 32 := 0#32
  let v8268_r0 : BitVec 1 := Scalar.cmpi .slt v8264_r0 c0_i32_3758_r0
  let v8269_r0 : BitVec 1 := Scalar.xori v8267_r0 v8268_r0
  let c0_i32_3756_r0 : BitVec 32 := 0#32
  let v8266_r0 : BitVec 1 := Scalar.cmpi .ne v8265_r0 c0_i32_3756_r0
  let v8270_r0 : BitVec 1 := Scalar.andi v8269_r0 v8266_r0
  let v8271_r0 : BitVec 32 := Scalar.addi v8265_r0 v8264_r0
  let v8272_r0 : BitVec 32 := Scalar.select v8270_r0 v8271_r0 v8265_r0
  ![v8272_r0.toNat]
def k0_off445 (k0_t1 : Fin k0_t1_loop.trips) (c0_i32_3751_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c2_i32_3740_r0 : BitVec 32 := 2#32
  let v8246_r0 : BitVec 32 := Scalar.addi arg10_r0 c2_i32_3740_r0
  let c2_i32_3744_r0 : BitVec 32 := 2#32
  let c0_i32_3745_r0 : BitVec 32 := 0#32
  let v8250_r0 : BitVec 1 := Scalar.cmpi .eq c2_i32_3744_r0 c0_i32_3745_r0
  let c1_i32_3746_r0 : BitVec 32 := 1#32
  let v8251_r0 : BitVec 32 := Scalar.select v8250_r0 c1_i32_3746_r0 c2_i32_3744_r0
  let v8252_r0 : BitVec 32 := Scalar.remsi v8246_r0 v8251_r0
  let c0_i32_3748_r0 : BitVec 32 := 0#32
  let v8254_r0 : BitVec 1 := Scalar.cmpi .slt v8252_r0 c0_i32_3748_r0
  let c0_i32_3749_r0 : BitVec 32 := 0#32
  let v8255_r0 : BitVec 1 := Scalar.cmpi .slt v8251_r0 c0_i32_3749_r0
  let v8256_r0 : BitVec 1 := Scalar.xori v8254_r0 v8255_r0
  let c0_i32_3747_r0 : BitVec 32 := 0#32
  let v8253_r0 : BitVec 1 := Scalar.cmpi .ne v8252_r0 c0_i32_3747_r0
  let v8257_r0 : BitVec 1 := Scalar.andi v8256_r0 v8253_r0
  let v8258_r0 : BitVec 32 := Scalar.addi v8252_r0 v8251_r0
  let v8259_r0 : BitVec 32 := Scalar.select v8257_r0 v8258_r0 v8252_r0
  let c16_i32_3750_r0 : BitVec 32 := 16#32
  let v8260_r0 : BitVec 32 := Scalar.muli v8259_r0 c16_i32_3750_r0
  let v8261_r0 : BitVec 32 := Scalar.addi v8260_r0 c0_i32_3751_r0
  let c3329_i32_3752_r0 : BitVec 32 := 3329#32
  let v8262_r0 : BitVec 32 := Scalar.muli v8261_r0 c3329_i32_3752_r0
  let c0_i32_3759_r0 : BitVec 32 := 0#32
  ![v8262_r0.toNat, 0]
def k0_off446 (k0_t1 : Fin k0_t1_loop.trips) (c0_i32_3742_r0 : BitVec 32) : Fin 2 → Nat :=
  let c0_i32_3760_r0 : BitVec 32 := 0#32
  let c0_i32_1297_r0 : BitVec 32 := 0#32
  let c1_i32_1298_r0 : BitVec 32 := 1#32
  let arg10_r0 : BitVec 32 := Scf.iv c0_i32_1297_r0 c1_i32_1298_r0 k0_t1
  let c2_i32_3740_r0 : BitVec 32 := 2#32
  let v8246_r0 : BitVec 32 := Scalar.addi arg10_r0 c2_i32_3740_r0
  let c16_i32_3741_r0 : BitVec 32 := 16#32
  let v8247_r0 : BitVec 32 := Scalar.muli v8246_r0 c16_i32_3741_r0
  let v8248_r0 : BitVec 32 := Scalar.addi v8247_r0 c0_i32_3742_r0
  let c128_i32_3743_r0 : BitVec 32 := 128#32
  let v8249_r0 : BitVec 32 := Scalar.muli v8248_r0 c128_i32_3743_r0
  ![0, v8249_r0.toNat]
def k0_off447 (k0_t1 : Fin k0_t1_loop.trips) (c0_i32_1325_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2150_r0 : BitVec 32 := Scalar.addi v2136_r0 c0_i32_1325_r0
  let v2151_r0 : Index := Scalar.indexCast v2150_r0
  let c0_1326_r0 : Index := 0#32
  ![v2151_r0.toNat, 0]
def k0_off448 (k0_t1 : Fin k0_t1_loop.trips) (c0_i32_1336_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_1333_r0 : BitVec 32 := 104#32
  let v2180_r0 : BitVec 32 := Scalar.muli arg10_r0 c104_i32_1333_r0
  let c103_i32_1334_r0 : BitVec 32 := 103#32
  let v2181_r0 : BitVec 32 := Scalar.addi v2180_r0 c103_i32_1334_r0
  let c16_i32_1335_r0 : BitVec 32 := 16#32
  let v2182_r0 : BitVec 32 := Scalar.muli v2181_r0 c16_i32_1335_r0
  let v2183_r0 : BitVec 32 := Scalar.addi v2182_r0 c0_i32_1336_r0
  let v2184_r0 : Index := Scalar.indexCast v2183_r0
  let c0_1337_r0 : Index := 0#32
  ![v2184_r0.toNat, 0]
def k0_off449 (k0_t1 : Fin k0_t1_loop.trips) (v2273_r0 : BitVec 32) (c0_i32_1369_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2274_r0 : BitVec 32 := Scalar.addi v2273_r0 v2149_r0
  let v2276_r0 : BitVec 32 := Scalar.addi v2274_r0 c0_i32_1369_r0
  let v2277_r0 : Index := Scalar.indexCast v2276_r0
  let c0_1370_r0 : Index := 0#32
  ![v2277_r0.toNat, 0]

def k0_chk257 (k0_t1 : Fin k0_t1_loop.trips) (v2273_r0 : BitVec 32) : Prop :=
  (∀ (r : Fin 2), ∀ a, S8x128.size a = 0 ∨ (k0_off449 k0_t1 v2273_r0 (BitVec.ofNat 32 (26632 * r.val))) a + (![3329, 1] : Fin 2 → Nat) a * (S8x128.size a - 1) < S106528x128.size a)
theorem k0_off449_inb : ∀ (k0_t1 : Fin k0_t1_loop.trips) (v2273_r0 : BitVec 32) (k0_hw257 : k0_chk257 k0_t1 v2273_r0), ∀ (r : Fin 2), ∀ a, S8x128.size a = 0 ∨ (k0_off449 k0_t1 v2273_r0 (BitVec.ofNat 32 (26632 * r.val))) a + (![3329, 1] : Fin 2 → Nat) a * (S8x128.size a - 1) < S106528x128.size a := fun k0_t1 v2273_r0 k0_hw257 r => k0_hw257 r

def k0_off450 (k0_t1 : Fin k0_t1_loop.trips) (v2286_r0 : BitVec 32) (c0_i32_1377_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2287_r0 : BitVec 32 := Scalar.addi v2286_r0 v2149_r0
  let v2289_r0 : BitVec 32 := Scalar.addi v2287_r0 c0_i32_1377_r0
  let v2290_r0 : Index := Scalar.indexCast v2289_r0
  let c0_1378_r0 : Index := 0#32
  ![v2290_r0.toNat, 0]

def k0_chk258 (k0_t1 : Fin k0_t1_loop.trips) (v2286_r0 : BitVec 32) : Prop :=
  (∀ (r : Fin 2), ∀ a, S8x128.size a = 0 ∨ (k0_off450 k0_t1 v2286_r0 (BitVec.ofNat 32 (26632 * r.val))) a + (![3329, 1] : Fin 2 → Nat) a * (S8x128.size a - 1) < S106528x128.size a)
theorem k0_off450_inb : ∀ (k0_t1 : Fin k0_t1_loop.trips) (v2286_r0 : BitVec 32) (k0_hw258 : k0_chk258 k0_t1 v2286_r0), ∀ (r : Fin 2), ∀ a, S8x128.size a = 0 ∨ (k0_off450 k0_t1 v2286_r0 (BitVec.ofNat 32 (26632 * r.val))) a + (![3329, 1] : Fin 2 → Nat) a * (S8x128.size a - 1) < S106528x128.size a := fun k0_t1 v2286_r0 k0_hw258 r => k0_hw258 r

def k0_off451 (k0_t1 : Fin k0_t1_loop.trips) (v2299_r0 : BitVec 32) (c0_i32_1385_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2300_r0 : BitVec 32 := Scalar.addi v2299_r0 v2149_r0
  let v2302_r0 : BitVec 32 := Scalar.addi v2300_r0 c0_i32_1385_r0
  let v2303_r0 : Index := Scalar.indexCast v2302_r0
  let c0_1386_r0 : Index := 0#32
  ![v2303_r0.toNat, 0]

def k0_chk259 (k0_t1 : Fin k0_t1_loop.trips) (v2299_r0 : BitVec 32) : Prop :=
  (∀ (r : Fin 2), ∀ a, S8x128.size a = 0 ∨ (k0_off451 k0_t1 v2299_r0 (BitVec.ofNat 32 (26632 * r.val))) a + (![3329, 1] : Fin 2 → Nat) a * (S8x128.size a - 1) < S106528x128.size a)
theorem k0_off451_inb : ∀ (k0_t1 : Fin k0_t1_loop.trips) (v2299_r0 : BitVec 32) (k0_hw259 : k0_chk259 k0_t1 v2299_r0), ∀ (r : Fin 2), ∀ a, S8x128.size a = 0 ∨ (k0_off451 k0_t1 v2299_r0 (BitVec.ofNat 32 (26632 * r.val))) a + (![3329, 1] : Fin 2 → Nat) a * (S8x128.size a - 1) < S106528x128.size a := fun k0_t1 v2299_r0 k0_hw259 r => k0_hw259 r

def k0_off452 (k0_t1 : Fin k0_t1_loop.trips) (v2312_r0 : BitVec 32) (c0_i32_1393_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2313_r0 : BitVec 32 := Scalar.addi v2312_r0 v2149_r0
  let v2315_r0 : BitVec 32 := Scalar.addi v2313_r0 c0_i32_1393_r0
  let v2316_r0 : Index := Scalar.indexCast v2315_r0
  let c0_1394_r0 : Index := 0#32
  ![v2316_r0.toNat, 0]

def k0_chk260 (k0_t1 : Fin k0_t1_loop.trips) (v2312_r0 : BitVec 32) : Prop :=
  (∀ (r : Fin 2), ∀ a, S8x128.size a = 0 ∨ (k0_off452 k0_t1 v2312_r0 (BitVec.ofNat 32 (26632 * r.val))) a + (![3329, 1] : Fin 2 → Nat) a * (S8x128.size a - 1) < S106528x128.size a)
theorem k0_off452_inb : ∀ (k0_t1 : Fin k0_t1_loop.trips) (v2312_r0 : BitVec 32) (k0_hw260 : k0_chk260 k0_t1 v2312_r0), ∀ (r : Fin 2), ∀ a, S8x128.size a = 0 ∨ (k0_off452 k0_t1 v2312_r0 (BitVec.ofNat 32 (26632 * r.val))) a + (![3329, 1] : Fin 2 → Nat) a * (S8x128.size a - 1) < S106528x128.size a := fun k0_t1 v2312_r0 k0_hw260 r => k0_hw260 r

def k0_off453 (k0_t1 : Fin k0_t1_loop.trips) (c0_i32_1398_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c0_i32_1397_r0 : BitVec 32 := 0#32
  let v2326_r0 : BitVec 32 := Scalar.addi v2137_r0 c0_i32_1397_r0
  let v2327_r0 : BitVec 32 := Scalar.addi v2326_r0 c0_i32_1398_r0
  let v2328_r0 : Index := Scalar.indexCast v2327_r0
  let c0_1399_r0 : Index := 0#32
  ![v2328_r0.toNat, 0]
def k0_off454 (k0_t1 : Fin k0_t1_loop.trips) (v2339_r0 : BitVec 32) (c0_i32_1406_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2340_r0 : BitVec 32 := Scalar.addi v2339_r0 v2149_r0
  let v2342_r0 : BitVec 32 := Scalar.addi v2340_r0 c0_i32_1406_r0
  let v2343_r0 : Index := Scalar.indexCast v2342_r0
  let c0_1407_r0 : Index := 0#32
  ![v2343_r0.toNat, 0]

def k0_chk261 (k0_t1 : Fin k0_t1_loop.trips) (v2339_r0 : BitVec 32) : Prop :=
  (∀ (r : Fin 2), ∀ a, S8x128.size a = 0 ∨ (k0_off454 k0_t1 v2339_r0 (BitVec.ofNat 32 (26632 * r.val))) a + (![3329, 1] : Fin 2 → Nat) a * (S8x128.size a - 1) < S106528x128.size a)
theorem k0_off454_inb : ∀ (k0_t1 : Fin k0_t1_loop.trips) (v2339_r0 : BitVec 32) (k0_hw261 : k0_chk261 k0_t1 v2339_r0), ∀ (r : Fin 2), ∀ a, S8x128.size a = 0 ∨ (k0_off454 k0_t1 v2339_r0 (BitVec.ofNat 32 (26632 * r.val))) a + (![3329, 1] : Fin 2 → Nat) a * (S8x128.size a - 1) < S106528x128.size a := fun k0_t1 v2339_r0 k0_hw261 r => k0_hw261 r

def k0_off455 (k0_t1 : Fin k0_t1_loop.trips) (v2352_r0 : BitVec 32) (c0_i32_1414_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2353_r0 : BitVec 32 := Scalar.addi v2352_r0 v2149_r0
  let v2355_r0 : BitVec 32 := Scalar.addi v2353_r0 c0_i32_1414_r0
  let v2356_r0 : Index := Scalar.indexCast v2355_r0
  let c0_1415_r0 : Index := 0#32
  ![v2356_r0.toNat, 0]

def k0_chk262 (k0_t1 : Fin k0_t1_loop.trips) (v2352_r0 : BitVec 32) : Prop :=
  (∀ (r : Fin 2), ∀ a, S8x128.size a = 0 ∨ (k0_off455 k0_t1 v2352_r0 (BitVec.ofNat 32 (26632 * r.val))) a + (![3329, 1] : Fin 2 → Nat) a * (S8x128.size a - 1) < S106528x128.size a)
theorem k0_off455_inb : ∀ (k0_t1 : Fin k0_t1_loop.trips) (v2352_r0 : BitVec 32) (k0_hw262 : k0_chk262 k0_t1 v2352_r0), ∀ (r : Fin 2), ∀ a, S8x128.size a = 0 ∨ (k0_off455 k0_t1 v2352_r0 (BitVec.ofNat 32 (26632 * r.val))) a + (![3329, 1] : Fin 2 → Nat) a * (S8x128.size a - 1) < S106528x128.size a := fun k0_t1 v2352_r0 k0_hw262 r => k0_hw262 r

def k0_off456 (k0_t1 : Fin k0_t1_loop.trips) (v2365_r0 : BitVec 32) (c0_i32_1422_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2366_r0 : BitVec 32 := Scalar.addi v2365_r0 v2149_r0
  let v2368_r0 : BitVec 32 := Scalar.addi v2366_r0 c0_i32_1422_r0
  let v2369_r0 : Index := Scalar.indexCast v2368_r0
  let c0_1423_r0 : Index := 0#32
  ![v2369_r0.toNat, 0]

def k0_chk263 (k0_t1 : Fin k0_t1_loop.trips) (v2365_r0 : BitVec 32) : Prop :=
  (∀ (r : Fin 2), ∀ a, S8x128.size a = 0 ∨ (k0_off456 k0_t1 v2365_r0 (BitVec.ofNat 32 (26632 * r.val))) a + (![3329, 1] : Fin 2 → Nat) a * (S8x128.size a - 1) < S106528x128.size a)
theorem k0_off456_inb : ∀ (k0_t1 : Fin k0_t1_loop.trips) (v2365_r0 : BitVec 32) (k0_hw263 : k0_chk263 k0_t1 v2365_r0), ∀ (r : Fin 2), ∀ a, S8x128.size a = 0 ∨ (k0_off456 k0_t1 v2365_r0 (BitVec.ofNat 32 (26632 * r.val))) a + (![3329, 1] : Fin 2 → Nat) a * (S8x128.size a - 1) < S106528x128.size a := fun k0_t1 v2365_r0 k0_hw263 r => k0_hw263 r

def k0_off457 (k0_t1 : Fin k0_t1_loop.trips) (v2378_r0 : BitVec 32) (c0_i32_1430_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2379_r0 : BitVec 32 := Scalar.addi v2378_r0 v2149_r0
  let v2381_r0 : BitVec 32 := Scalar.addi v2379_r0 c0_i32_1430_r0
  let v2382_r0 : Index := Scalar.indexCast v2381_r0
  let c0_1431_r0 : Index := 0#32
  ![v2382_r0.toNat, 0]

def k0_chk264 (k0_t1 : Fin k0_t1_loop.trips) (v2378_r0 : BitVec 32) : Prop :=
  (∀ (r : Fin 2), ∀ a, S8x128.size a = 0 ∨ (k0_off457 k0_t1 v2378_r0 (BitVec.ofNat 32 (26632 * r.val))) a + (![3329, 1] : Fin 2 → Nat) a * (S8x128.size a - 1) < S106528x128.size a)
theorem k0_off457_inb : ∀ (k0_t1 : Fin k0_t1_loop.trips) (v2378_r0 : BitVec 32) (k0_hw264 : k0_chk264 k0_t1 v2378_r0), ∀ (r : Fin 2), ∀ a, S8x128.size a = 0 ∨ (k0_off457 k0_t1 v2378_r0 (BitVec.ofNat 32 (26632 * r.val))) a + (![3329, 1] : Fin 2 → Nat) a * (S8x128.size a - 1) < S106528x128.size a := fun k0_t1 v2378_r0 k0_hw264 r => k0_hw264 r

def k0_off458 (k0_t1 : Fin k0_t1_loop.trips) (c0_i32_1435_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c1_i32_1434_r0 : BitVec 32 := 1#32
  let v2392_r0 : BitVec 32 := Scalar.addi v2137_r0 c1_i32_1434_r0
  let v2393_r0 : BitVec 32 := Scalar.addi v2392_r0 c0_i32_1435_r0
  let v2394_r0 : Index := Scalar.indexCast v2393_r0
  let c0_1436_r0 : Index := 0#32
  ![v2394_r0.toNat, 0]
def k0_off459 (k0_t1 : Fin k0_t1_loop.trips) (v2405_r0 : BitVec 32) (c0_i32_1444_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2406_r0 : BitVec 32 := Scalar.addi v2405_r0 v2149_r0
  let v2408_r0 : BitVec 32 := Scalar.addi v2406_r0 c0_i32_1444_r0
  let v2409_r0 : Index := Scalar.indexCast v2408_r0
  let c0_1445_r0 : Index := 0#32
  ![v2409_r0.toNat, 0]

def k0_chk265 (k0_t1 : Fin k0_t1_loop.trips) (v2405_r0 : BitVec 32) : Prop :=
  (∀ (r : Fin 2), ∀ a, S8x128.size a = 0 ∨ (k0_off459 k0_t1 v2405_r0 (BitVec.ofNat 32 (26632 * r.val))) a + (![3329, 1] : Fin 2 → Nat) a * (S8x128.size a - 1) < S106528x128.size a)
theorem k0_off459_inb : ∀ (k0_t1 : Fin k0_t1_loop.trips) (v2405_r0 : BitVec 32) (k0_hw265 : k0_chk265 k0_t1 v2405_r0), ∀ (r : Fin 2), ∀ a, S8x128.size a = 0 ∨ (k0_off459 k0_t1 v2405_r0 (BitVec.ofNat 32 (26632 * r.val))) a + (![3329, 1] : Fin 2 → Nat) a * (S8x128.size a - 1) < S106528x128.size a := fun k0_t1 v2405_r0 k0_hw265 r => k0_hw265 r

def k0_off460 (k0_t1 : Fin k0_t1_loop.trips) (v2418_r0 : BitVec 32) (c0_i32_1452_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2419_r0 : BitVec 32 := Scalar.addi v2418_r0 v2149_r0
  let v2421_r0 : BitVec 32 := Scalar.addi v2419_r0 c0_i32_1452_r0
  let v2422_r0 : Index := Scalar.indexCast v2421_r0
  let c0_1453_r0 : Index := 0#32
  ![v2422_r0.toNat, 0]

def k0_chk266 (k0_t1 : Fin k0_t1_loop.trips) (v2418_r0 : BitVec 32) : Prop :=
  (∀ (r : Fin 2), ∀ a, S8x128.size a = 0 ∨ (k0_off460 k0_t1 v2418_r0 (BitVec.ofNat 32 (26632 * r.val))) a + (![3329, 1] : Fin 2 → Nat) a * (S8x128.size a - 1) < S106528x128.size a)
theorem k0_off460_inb : ∀ (k0_t1 : Fin k0_t1_loop.trips) (v2418_r0 : BitVec 32) (k0_hw266 : k0_chk266 k0_t1 v2418_r0), ∀ (r : Fin 2), ∀ a, S8x128.size a = 0 ∨ (k0_off460 k0_t1 v2418_r0 (BitVec.ofNat 32 (26632 * r.val))) a + (![3329, 1] : Fin 2 → Nat) a * (S8x128.size a - 1) < S106528x128.size a := fun k0_t1 v2418_r0 k0_hw266 r => k0_hw266 r

def k0_off461 (k0_t1 : Fin k0_t1_loop.trips) (v2431_r0 : BitVec 32) (c0_i32_1460_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2432_r0 : BitVec 32 := Scalar.addi v2431_r0 v2149_r0
  let v2434_r0 : BitVec 32 := Scalar.addi v2432_r0 c0_i32_1460_r0
  let v2435_r0 : Index := Scalar.indexCast v2434_r0
  let c0_1461_r0 : Index := 0#32
  ![v2435_r0.toNat, 0]

def k0_chk267 (k0_t1 : Fin k0_t1_loop.trips) (v2431_r0 : BitVec 32) : Prop :=
  (∀ (r : Fin 2), ∀ a, S8x128.size a = 0 ∨ (k0_off461 k0_t1 v2431_r0 (BitVec.ofNat 32 (26632 * r.val))) a + (![3329, 1] : Fin 2 → Nat) a * (S8x128.size a - 1) < S106528x128.size a)
theorem k0_off461_inb : ∀ (k0_t1 : Fin k0_t1_loop.trips) (v2431_r0 : BitVec 32) (k0_hw267 : k0_chk267 k0_t1 v2431_r0), ∀ (r : Fin 2), ∀ a, S8x128.size a = 0 ∨ (k0_off461 k0_t1 v2431_r0 (BitVec.ofNat 32 (26632 * r.val))) a + (![3329, 1] : Fin 2 → Nat) a * (S8x128.size a - 1) < S106528x128.size a := fun k0_t1 v2431_r0 k0_hw267 r => k0_hw267 r

def k0_off462 (k0_t1 : Fin k0_t1_loop.trips) (v2444_r0 : BitVec 32) (c0_i32_1468_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2445_r0 : BitVec 32 := Scalar.addi v2444_r0 v2149_r0
  let v2447_r0 : BitVec 32 := Scalar.addi v2445_r0 c0_i32_1468_r0
  let v2448_r0 : Index := Scalar.indexCast v2447_r0
  let c0_1469_r0 : Index := 0#32
  ![v2448_r0.toNat, 0]

def k0_chk268 (k0_t1 : Fin k0_t1_loop.trips) (v2444_r0 : BitVec 32) : Prop :=
  (∀ (r : Fin 2), ∀ a, S8x128.size a = 0 ∨ (k0_off462 k0_t1 v2444_r0 (BitVec.ofNat 32 (26632 * r.val))) a + (![3329, 1] : Fin 2 → Nat) a * (S8x128.size a - 1) < S106528x128.size a)
theorem k0_off462_inb : ∀ (k0_t1 : Fin k0_t1_loop.trips) (v2444_r0 : BitVec 32) (k0_hw268 : k0_chk268 k0_t1 v2444_r0), ∀ (r : Fin 2), ∀ a, S8x128.size a = 0 ∨ (k0_off462 k0_t1 v2444_r0 (BitVec.ofNat 32 (26632 * r.val))) a + (![3329, 1] : Fin 2 → Nat) a * (S8x128.size a - 1) < S106528x128.size a := fun k0_t1 v2444_r0 k0_hw268 r => k0_hw268 r

def k0_off463 (k0_t1 : Fin k0_t1_loop.trips) (c0_i32_1473_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c2_i32_1472_r0 : BitVec 32 := 2#32
  let v2458_r0 : BitVec 32 := Scalar.addi v2137_r0 c2_i32_1472_r0
  let v2459_r0 : BitVec 32 := Scalar.addi v2458_r0 c0_i32_1473_r0
  let v2460_r0 : Index := Scalar.indexCast v2459_r0
  let c0_1474_r0 : Index := 0#32
  ![v2460_r0.toNat, 0]
def k0_off464 (k0_t1 : Fin k0_t1_loop.trips) (v2471_r0 : BitVec 32) (c0_i32_1482_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2472_r0 : BitVec 32 := Scalar.addi v2471_r0 v2149_r0
  let v2474_r0 : BitVec 32 := Scalar.addi v2472_r0 c0_i32_1482_r0
  let v2475_r0 : Index := Scalar.indexCast v2474_r0
  let c0_1483_r0 : Index := 0#32
  ![v2475_r0.toNat, 0]

def k0_chk269 (k0_t1 : Fin k0_t1_loop.trips) (v2471_r0 : BitVec 32) : Prop :=
  (∀ (r : Fin 2), ∀ a, S8x128.size a = 0 ∨ (k0_off464 k0_t1 v2471_r0 (BitVec.ofNat 32 (26632 * r.val))) a + (![3329, 1] : Fin 2 → Nat) a * (S8x128.size a - 1) < S106528x128.size a)
theorem k0_off464_inb : ∀ (k0_t1 : Fin k0_t1_loop.trips) (v2471_r0 : BitVec 32) (k0_hw269 : k0_chk269 k0_t1 v2471_r0), ∀ (r : Fin 2), ∀ a, S8x128.size a = 0 ∨ (k0_off464 k0_t1 v2471_r0 (BitVec.ofNat 32 (26632 * r.val))) a + (![3329, 1] : Fin 2 → Nat) a * (S8x128.size a - 1) < S106528x128.size a := fun k0_t1 v2471_r0 k0_hw269 r => k0_hw269 r

def k0_off465 (k0_t1 : Fin k0_t1_loop.trips) (v2484_r0 : BitVec 32) (c0_i32_1490_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2485_r0 : BitVec 32 := Scalar.addi v2484_r0 v2149_r0
  let v2487_r0 : BitVec 32 := Scalar.addi v2485_r0 c0_i32_1490_r0
  let v2488_r0 : Index := Scalar.indexCast v2487_r0
  let c0_1491_r0 : Index := 0#32
  ![v2488_r0.toNat, 0]

def k0_chk270 (k0_t1 : Fin k0_t1_loop.trips) (v2484_r0 : BitVec 32) : Prop :=
  (∀ (r : Fin 2), ∀ a, S8x128.size a = 0 ∨ (k0_off465 k0_t1 v2484_r0 (BitVec.ofNat 32 (26632 * r.val))) a + (![3329, 1] : Fin 2 → Nat) a * (S8x128.size a - 1) < S106528x128.size a)
theorem k0_off465_inb : ∀ (k0_t1 : Fin k0_t1_loop.trips) (v2484_r0 : BitVec 32) (k0_hw270 : k0_chk270 k0_t1 v2484_r0), ∀ (r : Fin 2), ∀ a, S8x128.size a = 0 ∨ (k0_off465 k0_t1 v2484_r0 (BitVec.ofNat 32 (26632 * r.val))) a + (![3329, 1] : Fin 2 → Nat) a * (S8x128.size a - 1) < S106528x128.size a := fun k0_t1 v2484_r0 k0_hw270 r => k0_hw270 r

def k0_off466 (k0_t1 : Fin k0_t1_loop.trips) (v2497_r0 : BitVec 32) (c0_i32_1498_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2498_r0 : BitVec 32 := Scalar.addi v2497_r0 v2149_r0
  let v2500_r0 : BitVec 32 := Scalar.addi v2498_r0 c0_i32_1498_r0
  let v2501_r0 : Index := Scalar.indexCast v2500_r0
  let c0_1499_r0 : Index := 0#32
  ![v2501_r0.toNat, 0]

def k0_chk271 (k0_t1 : Fin k0_t1_loop.trips) (v2497_r0 : BitVec 32) : Prop :=
  (∀ (r : Fin 2), ∀ a, S8x128.size a = 0 ∨ (k0_off466 k0_t1 v2497_r0 (BitVec.ofNat 32 (26632 * r.val))) a + (![3329, 1] : Fin 2 → Nat) a * (S8x128.size a - 1) < S106528x128.size a)
theorem k0_off466_inb : ∀ (k0_t1 : Fin k0_t1_loop.trips) (v2497_r0 : BitVec 32) (k0_hw271 : k0_chk271 k0_t1 v2497_r0), ∀ (r : Fin 2), ∀ a, S8x128.size a = 0 ∨ (k0_off466 k0_t1 v2497_r0 (BitVec.ofNat 32 (26632 * r.val))) a + (![3329, 1] : Fin 2 → Nat) a * (S8x128.size a - 1) < S106528x128.size a := fun k0_t1 v2497_r0 k0_hw271 r => k0_hw271 r

def k0_off467 (k0_t1 : Fin k0_t1_loop.trips) (v2510_r0 : BitVec 32) (c0_i32_1506_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2511_r0 : BitVec 32 := Scalar.addi v2510_r0 v2149_r0
  let v2513_r0 : BitVec 32 := Scalar.addi v2511_r0 c0_i32_1506_r0
  let v2514_r0 : Index := Scalar.indexCast v2513_r0
  let c0_1507_r0 : Index := 0#32
  ![v2514_r0.toNat, 0]

def k0_chk272 (k0_t1 : Fin k0_t1_loop.trips) (v2510_r0 : BitVec 32) : Prop :=
  (∀ (r : Fin 2), ∀ a, S8x128.size a = 0 ∨ (k0_off467 k0_t1 v2510_r0 (BitVec.ofNat 32 (26632 * r.val))) a + (![3329, 1] : Fin 2 → Nat) a * (S8x128.size a - 1) < S106528x128.size a)
theorem k0_off467_inb : ∀ (k0_t1 : Fin k0_t1_loop.trips) (v2510_r0 : BitVec 32) (k0_hw272 : k0_chk272 k0_t1 v2510_r0), ∀ (r : Fin 2), ∀ a, S8x128.size a = 0 ∨ (k0_off467 k0_t1 v2510_r0 (BitVec.ofNat 32 (26632 * r.val))) a + (![3329, 1] : Fin 2 → Nat) a * (S8x128.size a - 1) < S106528x128.size a := fun k0_t1 v2510_r0 k0_hw272 r => k0_hw272 r

def k0_off468 (k0_t1 : Fin k0_t1_loop.trips) (c0_i32_1511_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c3_i32_1510_r0 : BitVec 32 := 3#32
  let v2524_r0 : BitVec 32 := Scalar.addi v2137_r0 c3_i32_1510_r0
  let v2525_r0 : BitVec 32 := Scalar.addi v2524_r0 c0_i32_1511_r0
  let v2526_r0 : Index := Scalar.indexCast v2525_r0
  let c0_1512_r0 : Index := 0#32
  ![v2526_r0.toNat, 0]
def k0_off469 (k0_t1 : Fin k0_t1_loop.trips) (c66_i32_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2537_r0 : BitVec 32 := Scalar.addi v2136_r0 c66_i32_r0
  let v2538_r0 : Index := Scalar.indexCast v2537_r0
  let c0_1516_r0 : Index := 0#32
  ![v2538_r0.toNat, 0]
def k0_off470 (k0_t1 : Fin k0_t1_loop.trips) (c2_i32_1528_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_1525_r0 : BitVec 32 := 104#32
  let v2567_r0 : BitVec 32 := Scalar.muli arg10_r0 c104_i32_1525_r0
  let c103_i32_1526_r0 : BitVec 32 := 103#32
  let v2568_r0 : BitVec 32 := Scalar.addi v2567_r0 c103_i32_1526_r0
  let c16_i32_1527_r0 : BitVec 32 := 16#32
  let v2569_r0 : BitVec 32 := Scalar.muli v2568_r0 c16_i32_1527_r0
  let v2570_r0 : BitVec 32 := Scalar.addi v2569_r0 c2_i32_1528_r0
  let v2571_r0 : Index := Scalar.indexCast v2570_r0
  let c0_1529_r0 : Index := 0#32
  ![v2571_r0.toNat, 0]
def k0_off471 (k0_t1 : Fin k0_t1_loop.trips) (v2660_r0 : BitVec 32) (c0_i32_1561_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2661_r0 : BitVec 32 := Scalar.addi v2660_r0 v2149_r0
  let v2663_r0 : BitVec 32 := Scalar.addi v2661_r0 c0_i32_1561_r0
  let v2664_r0 : Index := Scalar.indexCast v2663_r0
  let c0_1562_r0 : Index := 0#32
  ![v2664_r0.toNat, 0]

def k0_chk273 (k0_t1 : Fin k0_t1_loop.trips) (v2660_r0 : BitVec 32) : Prop :=
  (∀ (r : Fin 2), ∀ a, S8x128.size a = 0 ∨ (k0_off471 k0_t1 v2660_r0 (BitVec.ofNat 32 (26632 * r.val))) a + (![3329, 1] : Fin 2 → Nat) a * (S8x128.size a - 1) < S106528x128.size a)
theorem k0_off471_inb : ∀ (k0_t1 : Fin k0_t1_loop.trips) (v2660_r0 : BitVec 32) (k0_hw273 : k0_chk273 k0_t1 v2660_r0), ∀ (r : Fin 2), ∀ a, S8x128.size a = 0 ∨ (k0_off471 k0_t1 v2660_r0 (BitVec.ofNat 32 (26632 * r.val))) a + (![3329, 1] : Fin 2 → Nat) a * (S8x128.size a - 1) < S106528x128.size a := fun k0_t1 v2660_r0 k0_hw273 r => k0_hw273 r

def k0_off472 (k0_t1 : Fin k0_t1_loop.trips) (v2673_r0 : BitVec 32) (c0_i32_1569_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2674_r0 : BitVec 32 := Scalar.addi v2673_r0 v2149_r0
  let v2676_r0 : BitVec 32 := Scalar.addi v2674_r0 c0_i32_1569_r0
  let v2677_r0 : Index := Scalar.indexCast v2676_r0
  let c0_1570_r0 : Index := 0#32
  ![v2677_r0.toNat, 0]

def k0_chk274 (k0_t1 : Fin k0_t1_loop.trips) (v2673_r0 : BitVec 32) : Prop :=
  (∀ (r : Fin 2), ∀ a, S8x128.size a = 0 ∨ (k0_off472 k0_t1 v2673_r0 (BitVec.ofNat 32 (26632 * r.val))) a + (![3329, 1] : Fin 2 → Nat) a * (S8x128.size a - 1) < S106528x128.size a)
theorem k0_off472_inb : ∀ (k0_t1 : Fin k0_t1_loop.trips) (v2673_r0 : BitVec 32) (k0_hw274 : k0_chk274 k0_t1 v2673_r0), ∀ (r : Fin 2), ∀ a, S8x128.size a = 0 ∨ (k0_off472 k0_t1 v2673_r0 (BitVec.ofNat 32 (26632 * r.val))) a + (![3329, 1] : Fin 2 → Nat) a * (S8x128.size a - 1) < S106528x128.size a := fun k0_t1 v2673_r0 k0_hw274 r => k0_hw274 r

def k0_off473 (k0_t1 : Fin k0_t1_loop.trips) (v2686_r0 : BitVec 32) (c0_i32_1577_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2687_r0 : BitVec 32 := Scalar.addi v2686_r0 v2149_r0
  let v2689_r0 : BitVec 32 := Scalar.addi v2687_r0 c0_i32_1577_r0
  let v2690_r0 : Index := Scalar.indexCast v2689_r0
  let c0_1578_r0 : Index := 0#32
  ![v2690_r0.toNat, 0]

def k0_chk275 (k0_t1 : Fin k0_t1_loop.trips) (v2686_r0 : BitVec 32) : Prop :=
  (∀ (r : Fin 2), ∀ a, S8x128.size a = 0 ∨ (k0_off473 k0_t1 v2686_r0 (BitVec.ofNat 32 (26632 * r.val))) a + (![3329, 1] : Fin 2 → Nat) a * (S8x128.size a - 1) < S106528x128.size a)
theorem k0_off473_inb : ∀ (k0_t1 : Fin k0_t1_loop.trips) (v2686_r0 : BitVec 32) (k0_hw275 : k0_chk275 k0_t1 v2686_r0), ∀ (r : Fin 2), ∀ a, S8x128.size a = 0 ∨ (k0_off473 k0_t1 v2686_r0 (BitVec.ofNat 32 (26632 * r.val))) a + (![3329, 1] : Fin 2 → Nat) a * (S8x128.size a - 1) < S106528x128.size a := fun k0_t1 v2686_r0 k0_hw275 r => k0_hw275 r

def k0_off474 (k0_t1 : Fin k0_t1_loop.trips) (v2699_r0 : BitVec 32) (c0_i32_1585_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2700_r0 : BitVec 32 := Scalar.addi v2699_r0 v2149_r0
  let v2702_r0 : BitVec 32 := Scalar.addi v2700_r0 c0_i32_1585_r0
  let v2703_r0 : Index := Scalar.indexCast v2702_r0
  let c0_1586_r0 : Index := 0#32
  ![v2703_r0.toNat, 0]

def k0_chk276 (k0_t1 : Fin k0_t1_loop.trips) (v2699_r0 : BitVec 32) : Prop :=
  (∀ (r : Fin 2), ∀ a, S8x128.size a = 0 ∨ (k0_off474 k0_t1 v2699_r0 (BitVec.ofNat 32 (26632 * r.val))) a + (![3329, 1] : Fin 2 → Nat) a * (S8x128.size a - 1) < S106528x128.size a)
theorem k0_off474_inb : ∀ (k0_t1 : Fin k0_t1_loop.trips) (v2699_r0 : BitVec 32) (k0_hw276 : k0_chk276 k0_t1 v2699_r0), ∀ (r : Fin 2), ∀ a, S8x128.size a = 0 ∨ (k0_off474 k0_t1 v2699_r0 (BitVec.ofNat 32 (26632 * r.val))) a + (![3329, 1] : Fin 2 → Nat) a * (S8x128.size a - 1) < S106528x128.size a := fun k0_t1 v2699_r0 k0_hw276 r => k0_hw276 r

def k0_off475 (k0_t1 : Fin k0_t1_loop.trips) (c0_i32_1590_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c4_i32_1589_r0 : BitVec 32 := 4#32
  let v2713_r0 : BitVec 32 := Scalar.addi v2137_r0 c4_i32_1589_r0
  let v2714_r0 : BitVec 32 := Scalar.addi v2713_r0 c0_i32_1590_r0
  let v2715_r0 : Index := Scalar.indexCast v2714_r0
  let c0_1591_r0 : Index := 0#32
  ![v2715_r0.toNat, 0]
def k0_off476 (k0_t1 : Fin k0_t1_loop.trips) (v2726_r0 : BitVec 32) (c0_i32_1599_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2727_r0 : BitVec 32 := Scalar.addi v2726_r0 v2149_r0
  let v2729_r0 : BitVec 32 := Scalar.addi v2727_r0 c0_i32_1599_r0
  let v2730_r0 : Index := Scalar.indexCast v2729_r0
  let c0_1600_r0 : Index := 0#32
  ![v2730_r0.toNat, 0]

def k0_chk277 (k0_t1 : Fin k0_t1_loop.trips) (v2726_r0 : BitVec 32) : Prop :=
  (∀ (r : Fin 2), ∀ a, S8x128.size a = 0 ∨ (k0_off476 k0_t1 v2726_r0 (BitVec.ofNat 32 (26632 * r.val))) a + (![3329, 1] : Fin 2 → Nat) a * (S8x128.size a - 1) < S106528x128.size a)
theorem k0_off476_inb : ∀ (k0_t1 : Fin k0_t1_loop.trips) (v2726_r0 : BitVec 32) (k0_hw277 : k0_chk277 k0_t1 v2726_r0), ∀ (r : Fin 2), ∀ a, S8x128.size a = 0 ∨ (k0_off476 k0_t1 v2726_r0 (BitVec.ofNat 32 (26632 * r.val))) a + (![3329, 1] : Fin 2 → Nat) a * (S8x128.size a - 1) < S106528x128.size a := fun k0_t1 v2726_r0 k0_hw277 r => k0_hw277 r

def k0_off477 (k0_t1 : Fin k0_t1_loop.trips) (v2739_r0 : BitVec 32) (c0_i32_1607_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2740_r0 : BitVec 32 := Scalar.addi v2739_r0 v2149_r0
  let v2742_r0 : BitVec 32 := Scalar.addi v2740_r0 c0_i32_1607_r0
  let v2743_r0 : Index := Scalar.indexCast v2742_r0
  let c0_1608_r0 : Index := 0#32
  ![v2743_r0.toNat, 0]

def k0_chk278 (k0_t1 : Fin k0_t1_loop.trips) (v2739_r0 : BitVec 32) : Prop :=
  (∀ (r : Fin 2), ∀ a, S8x128.size a = 0 ∨ (k0_off477 k0_t1 v2739_r0 (BitVec.ofNat 32 (26632 * r.val))) a + (![3329, 1] : Fin 2 → Nat) a * (S8x128.size a - 1) < S106528x128.size a)
theorem k0_off477_inb : ∀ (k0_t1 : Fin k0_t1_loop.trips) (v2739_r0 : BitVec 32) (k0_hw278 : k0_chk278 k0_t1 v2739_r0), ∀ (r : Fin 2), ∀ a, S8x128.size a = 0 ∨ (k0_off477 k0_t1 v2739_r0 (BitVec.ofNat 32 (26632 * r.val))) a + (![3329, 1] : Fin 2 → Nat) a * (S8x128.size a - 1) < S106528x128.size a := fun k0_t1 v2739_r0 k0_hw278 r => k0_hw278 r

def k0_off478 (k0_t1 : Fin k0_t1_loop.trips) (v2752_r0 : BitVec 32) (c0_i32_1615_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2753_r0 : BitVec 32 := Scalar.addi v2752_r0 v2149_r0
  let v2755_r0 : BitVec 32 := Scalar.addi v2753_r0 c0_i32_1615_r0
  let v2756_r0 : Index := Scalar.indexCast v2755_r0
  let c0_1616_r0 : Index := 0#32
  ![v2756_r0.toNat, 0]

def k0_chk279 (k0_t1 : Fin k0_t1_loop.trips) (v2752_r0 : BitVec 32) : Prop :=
  (∀ (r : Fin 2), ∀ a, S8x128.size a = 0 ∨ (k0_off478 k0_t1 v2752_r0 (BitVec.ofNat 32 (26632 * r.val))) a + (![3329, 1] : Fin 2 → Nat) a * (S8x128.size a - 1) < S106528x128.size a)
theorem k0_off478_inb : ∀ (k0_t1 : Fin k0_t1_loop.trips) (v2752_r0 : BitVec 32) (k0_hw279 : k0_chk279 k0_t1 v2752_r0), ∀ (r : Fin 2), ∀ a, S8x128.size a = 0 ∨ (k0_off478 k0_t1 v2752_r0 (BitVec.ofNat 32 (26632 * r.val))) a + (![3329, 1] : Fin 2 → Nat) a * (S8x128.size a - 1) < S106528x128.size a := fun k0_t1 v2752_r0 k0_hw279 r => k0_hw279 r

def k0_off479 (k0_t1 : Fin k0_t1_loop.trips) (v2765_r0 : BitVec 32) (c0_i32_1623_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2766_r0 : BitVec 32 := Scalar.addi v2765_r0 v2149_r0
  let v2768_r0 : BitVec 32 := Scalar.addi v2766_r0 c0_i32_1623_r0
  let v2769_r0 : Index := Scalar.indexCast v2768_r0
  let c0_1624_r0 : Index := 0#32
  ![v2769_r0.toNat, 0]

def k0_chk280 (k0_t1 : Fin k0_t1_loop.trips) (v2765_r0 : BitVec 32) : Prop :=
  (∀ (r : Fin 2), ∀ a, S8x128.size a = 0 ∨ (k0_off479 k0_t1 v2765_r0 (BitVec.ofNat 32 (26632 * r.val))) a + (![3329, 1] : Fin 2 → Nat) a * (S8x128.size a - 1) < S106528x128.size a)
theorem k0_off479_inb : ∀ (k0_t1 : Fin k0_t1_loop.trips) (v2765_r0 : BitVec 32) (k0_hw280 : k0_chk280 k0_t1 v2765_r0), ∀ (r : Fin 2), ∀ a, S8x128.size a = 0 ∨ (k0_off479 k0_t1 v2765_r0 (BitVec.ofNat 32 (26632 * r.val))) a + (![3329, 1] : Fin 2 → Nat) a * (S8x128.size a - 1) < S106528x128.size a := fun k0_t1 v2765_r0 k0_hw280 r => k0_hw280 r

def k0_off480 (k0_t1 : Fin k0_t1_loop.trips) (c0_i32_1627_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c5_i32_r0 : BitVec 32 := 5#32
  let v2779_r0 : BitVec 32 := Scalar.addi v2137_r0 c5_i32_r0
  let v2780_r0 : BitVec 32 := Scalar.addi v2779_r0 c0_i32_1627_r0
  let v2781_r0 : Index := Scalar.indexCast v2780_r0
  let c0_1628_r0 : Index := 0#32
  ![v2781_r0.toNat, 0]
def k0_off481 (k0_t1 : Fin k0_t1_loop.trips) (v2792_r0 : BitVec 32) (c0_i32_1636_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2793_r0 : BitVec 32 := Scalar.addi v2792_r0 v2149_r0
  let v2795_r0 : BitVec 32 := Scalar.addi v2793_r0 c0_i32_1636_r0
  let v2796_r0 : Index := Scalar.indexCast v2795_r0
  let c0_1637_r0 : Index := 0#32
  ![v2796_r0.toNat, 0]

def k0_chk281 (k0_t1 : Fin k0_t1_loop.trips) (v2792_r0 : BitVec 32) : Prop :=
  (∀ (r : Fin 2), ∀ a, S8x128.size a = 0 ∨ (k0_off481 k0_t1 v2792_r0 (BitVec.ofNat 32 (26632 * r.val))) a + (![3329, 1] : Fin 2 → Nat) a * (S8x128.size a - 1) < S106528x128.size a)
theorem k0_off481_inb : ∀ (k0_t1 : Fin k0_t1_loop.trips) (v2792_r0 : BitVec 32) (k0_hw281 : k0_chk281 k0_t1 v2792_r0), ∀ (r : Fin 2), ∀ a, S8x128.size a = 0 ∨ (k0_off481 k0_t1 v2792_r0 (BitVec.ofNat 32 (26632 * r.val))) a + (![3329, 1] : Fin 2 → Nat) a * (S8x128.size a - 1) < S106528x128.size a := fun k0_t1 v2792_r0 k0_hw281 r => k0_hw281 r

def k0_off482 (k0_t1 : Fin k0_t1_loop.trips) (v2805_r0 : BitVec 32) (c0_i32_1644_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2806_r0 : BitVec 32 := Scalar.addi v2805_r0 v2149_r0
  let v2808_r0 : BitVec 32 := Scalar.addi v2806_r0 c0_i32_1644_r0
  let v2809_r0 : Index := Scalar.indexCast v2808_r0
  let c0_1645_r0 : Index := 0#32
  ![v2809_r0.toNat, 0]

def k0_chk282 (k0_t1 : Fin k0_t1_loop.trips) (v2805_r0 : BitVec 32) : Prop :=
  (∀ (r : Fin 2), ∀ a, S8x128.size a = 0 ∨ (k0_off482 k0_t1 v2805_r0 (BitVec.ofNat 32 (26632 * r.val))) a + (![3329, 1] : Fin 2 → Nat) a * (S8x128.size a - 1) < S106528x128.size a)
theorem k0_off482_inb : ∀ (k0_t1 : Fin k0_t1_loop.trips) (v2805_r0 : BitVec 32) (k0_hw282 : k0_chk282 k0_t1 v2805_r0), ∀ (r : Fin 2), ∀ a, S8x128.size a = 0 ∨ (k0_off482 k0_t1 v2805_r0 (BitVec.ofNat 32 (26632 * r.val))) a + (![3329, 1] : Fin 2 → Nat) a * (S8x128.size a - 1) < S106528x128.size a := fun k0_t1 v2805_r0 k0_hw282 r => k0_hw282 r

def k0_off483 (k0_t1 : Fin k0_t1_loop.trips) (v2818_r0 : BitVec 32) (c0_i32_1652_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2819_r0 : BitVec 32 := Scalar.addi v2818_r0 v2149_r0
  let v2821_r0 : BitVec 32 := Scalar.addi v2819_r0 c0_i32_1652_r0
  let v2822_r0 : Index := Scalar.indexCast v2821_r0
  let c0_1653_r0 : Index := 0#32
  ![v2822_r0.toNat, 0]

def k0_chk283 (k0_t1 : Fin k0_t1_loop.trips) (v2818_r0 : BitVec 32) : Prop :=
  (∀ (r : Fin 2), ∀ a, S8x128.size a = 0 ∨ (k0_off483 k0_t1 v2818_r0 (BitVec.ofNat 32 (26632 * r.val))) a + (![3329, 1] : Fin 2 → Nat) a * (S8x128.size a - 1) < S106528x128.size a)
theorem k0_off483_inb : ∀ (k0_t1 : Fin k0_t1_loop.trips) (v2818_r0 : BitVec 32) (k0_hw283 : k0_chk283 k0_t1 v2818_r0), ∀ (r : Fin 2), ∀ a, S8x128.size a = 0 ∨ (k0_off483 k0_t1 v2818_r0 (BitVec.ofNat 32 (26632 * r.val))) a + (![3329, 1] : Fin 2 → Nat) a * (S8x128.size a - 1) < S106528x128.size a := fun k0_t1 v2818_r0 k0_hw283 r => k0_hw283 r

def k0_off484 (k0_t1 : Fin k0_t1_loop.trips) (v2831_r0 : BitVec 32) (c0_i32_1660_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2832_r0 : BitVec 32 := Scalar.addi v2831_r0 v2149_r0
  let v2834_r0 : BitVec 32 := Scalar.addi v2832_r0 c0_i32_1660_r0
  let v2835_r0 : Index := Scalar.indexCast v2834_r0
  let c0_1661_r0 : Index := 0#32
  ![v2835_r0.toNat, 0]

def k0_chk284 (k0_t1 : Fin k0_t1_loop.trips) (v2831_r0 : BitVec 32) : Prop :=
  (∀ (r : Fin 2), ∀ a, S8x128.size a = 0 ∨ (k0_off484 k0_t1 v2831_r0 (BitVec.ofNat 32 (26632 * r.val))) a + (![3329, 1] : Fin 2 → Nat) a * (S8x128.size a - 1) < S106528x128.size a)
theorem k0_off484_inb : ∀ (k0_t1 : Fin k0_t1_loop.trips) (v2831_r0 : BitVec 32) (k0_hw284 : k0_chk284 k0_t1 v2831_r0), ∀ (r : Fin 2), ∀ a, S8x128.size a = 0 ∨ (k0_off484 k0_t1 v2831_r0 (BitVec.ofNat 32 (26632 * r.val))) a + (![3329, 1] : Fin 2 → Nat) a * (S8x128.size a - 1) < S106528x128.size a := fun k0_t1 v2831_r0 k0_hw284 r => k0_hw284 r

def k0_off485 (k0_t1 : Fin k0_t1_loop.trips) (c0_i32_1664_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c6_i32_r0 : BitVec 32 := 6#32
  let v2845_r0 : BitVec 32 := Scalar.addi v2137_r0 c6_i32_r0
  let v2846_r0 : BitVec 32 := Scalar.addi v2845_r0 c0_i32_1664_r0
  let v2847_r0 : Index := Scalar.indexCast v2846_r0
  let c0_1665_r0 : Index := 0#32
  ![v2847_r0.toNat, 0]
def k0_off486 (k0_t1 : Fin k0_t1_loop.trips) (v2858_r0 : BitVec 32) (c0_i32_1673_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2859_r0 : BitVec 32 := Scalar.addi v2858_r0 v2149_r0
  let v2861_r0 : BitVec 32 := Scalar.addi v2859_r0 c0_i32_1673_r0
  let v2862_r0 : Index := Scalar.indexCast v2861_r0
  let c0_1674_r0 : Index := 0#32
  ![v2862_r0.toNat, 0]

def k0_chk285 (k0_t1 : Fin k0_t1_loop.trips) (v2858_r0 : BitVec 32) : Prop :=
  (∀ (r : Fin 2), ∀ a, S8x128.size a = 0 ∨ (k0_off486 k0_t1 v2858_r0 (BitVec.ofNat 32 (26632 * r.val))) a + (![3329, 1] : Fin 2 → Nat) a * (S8x128.size a - 1) < S106528x128.size a)
theorem k0_off486_inb : ∀ (k0_t1 : Fin k0_t1_loop.trips) (v2858_r0 : BitVec 32) (k0_hw285 : k0_chk285 k0_t1 v2858_r0), ∀ (r : Fin 2), ∀ a, S8x128.size a = 0 ∨ (k0_off486 k0_t1 v2858_r0 (BitVec.ofNat 32 (26632 * r.val))) a + (![3329, 1] : Fin 2 → Nat) a * (S8x128.size a - 1) < S106528x128.size a := fun k0_t1 v2858_r0 k0_hw285 r => k0_hw285 r

def k0_off487 (k0_t1 : Fin k0_t1_loop.trips) (v2871_r0 : BitVec 32) (c0_i32_1681_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2872_r0 : BitVec 32 := Scalar.addi v2871_r0 v2149_r0
  let v2874_r0 : BitVec 32 := Scalar.addi v2872_r0 c0_i32_1681_r0
  let v2875_r0 : Index := Scalar.indexCast v2874_r0
  let c0_1682_r0 : Index := 0#32
  ![v2875_r0.toNat, 0]

def k0_chk286 (k0_t1 : Fin k0_t1_loop.trips) (v2871_r0 : BitVec 32) : Prop :=
  (∀ (r : Fin 2), ∀ a, S8x128.size a = 0 ∨ (k0_off487 k0_t1 v2871_r0 (BitVec.ofNat 32 (26632 * r.val))) a + (![3329, 1] : Fin 2 → Nat) a * (S8x128.size a - 1) < S106528x128.size a)
theorem k0_off487_inb : ∀ (k0_t1 : Fin k0_t1_loop.trips) (v2871_r0 : BitVec 32) (k0_hw286 : k0_chk286 k0_t1 v2871_r0), ∀ (r : Fin 2), ∀ a, S8x128.size a = 0 ∨ (k0_off487 k0_t1 v2871_r0 (BitVec.ofNat 32 (26632 * r.val))) a + (![3329, 1] : Fin 2 → Nat) a * (S8x128.size a - 1) < S106528x128.size a := fun k0_t1 v2871_r0 k0_hw286 r => k0_hw286 r

def k0_off488 (k0_t1 : Fin k0_t1_loop.trips) (v2884_r0 : BitVec 32) (c0_i32_1689_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2885_r0 : BitVec 32 := Scalar.addi v2884_r0 v2149_r0
  let v2887_r0 : BitVec 32 := Scalar.addi v2885_r0 c0_i32_1689_r0
  let v2888_r0 : Index := Scalar.indexCast v2887_r0
  let c0_1690_r0 : Index := 0#32
  ![v2888_r0.toNat, 0]

def k0_chk287 (k0_t1 : Fin k0_t1_loop.trips) (v2884_r0 : BitVec 32) : Prop :=
  (∀ (r : Fin 2), ∀ a, S8x128.size a = 0 ∨ (k0_off488 k0_t1 v2884_r0 (BitVec.ofNat 32 (26632 * r.val))) a + (![3329, 1] : Fin 2 → Nat) a * (S8x128.size a - 1) < S106528x128.size a)
theorem k0_off488_inb : ∀ (k0_t1 : Fin k0_t1_loop.trips) (v2884_r0 : BitVec 32) (k0_hw287 : k0_chk287 k0_t1 v2884_r0), ∀ (r : Fin 2), ∀ a, S8x128.size a = 0 ∨ (k0_off488 k0_t1 v2884_r0 (BitVec.ofNat 32 (26632 * r.val))) a + (![3329, 1] : Fin 2 → Nat) a * (S8x128.size a - 1) < S106528x128.size a := fun k0_t1 v2884_r0 k0_hw287 r => k0_hw287 r

def k0_off489 (k0_t1 : Fin k0_t1_loop.trips) (v2897_r0 : BitVec 32) (c0_i32_1697_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v2898_r0 : BitVec 32 := Scalar.addi v2897_r0 v2149_r0
  let v2900_r0 : BitVec 32 := Scalar.addi v2898_r0 c0_i32_1697_r0
  let v2901_r0 : Index := Scalar.indexCast v2900_r0
  let c0_1698_r0 : Index := 0#32
  ![v2901_r0.toNat, 0]

def k0_chk288 (k0_t1 : Fin k0_t1_loop.trips) (v2897_r0 : BitVec 32) : Prop :=
  (∀ (r : Fin 2), ∀ a, S8x128.size a = 0 ∨ (k0_off489 k0_t1 v2897_r0 (BitVec.ofNat 32 (26632 * r.val))) a + (![3329, 1] : Fin 2 → Nat) a * (S8x128.size a - 1) < S106528x128.size a)
theorem k0_off489_inb : ∀ (k0_t1 : Fin k0_t1_loop.trips) (v2897_r0 : BitVec 32) (k0_hw288 : k0_chk288 k0_t1 v2897_r0), ∀ (r : Fin 2), ∀ a, S8x128.size a = 0 ∨ (k0_off489 k0_t1 v2897_r0 (BitVec.ofNat 32 (26632 * r.val))) a + (![3329, 1] : Fin 2 → Nat) a * (S8x128.size a - 1) < S106528x128.size a := fun k0_t1 v2897_r0 k0_hw288 r => k0_hw288 r

def k0_off490 (k0_t1 : Fin k0_t1_loop.trips) (c0_i32_1701_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c7_i32_r0 : BitVec 32 := 7#32
  let v2911_r0 : BitVec 32 := Scalar.addi v2137_r0 c7_i32_r0
  let v2912_r0 : BitVec 32 := Scalar.addi v2911_r0 c0_i32_1701_r0
  let v2913_r0 : Index := Scalar.indexCast v2912_r0
  let c0_1702_r0 : Index := 0#32
  ![v2913_r0.toNat, 0]
def k0_off491 (k0_t1 : Fin k0_t1_loop.trips) (c132_i32_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2924_r0 : BitVec 32 := Scalar.addi v2136_r0 c132_i32_r0
  let v2925_r0 : Index := Scalar.indexCast v2924_r0
  let c0_1706_r0 : Index := 0#32
  ![v2925_r0.toNat, 0]
def k0_off492 (k0_t1 : Fin k0_t1_loop.trips) (c4_i32_1718_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_1715_r0 : BitVec 32 := 104#32
  let v2954_r0 : BitVec 32 := Scalar.muli arg10_r0 c104_i32_1715_r0
  let c103_i32_1716_r0 : BitVec 32 := 103#32
  let v2955_r0 : BitVec 32 := Scalar.addi v2954_r0 c103_i32_1716_r0
  let c16_i32_1717_r0 : BitVec 32 := 16#32
  let v2956_r0 : BitVec 32 := Scalar.muli v2955_r0 c16_i32_1717_r0
  let v2957_r0 : BitVec 32 := Scalar.addi v2956_r0 c4_i32_1718_r0
  let v2958_r0 : Index := Scalar.indexCast v2957_r0
  let c0_1719_r0 : Index := 0#32
  ![v2958_r0.toNat, 0]
def k0_off493 (k0_t1 : Fin k0_t1_loop.trips) (v3047_r0 : BitVec 32) (c0_i32_1751_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3048_r0 : BitVec 32 := Scalar.addi v3047_r0 v2149_r0
  let v3050_r0 : BitVec 32 := Scalar.addi v3048_r0 c0_i32_1751_r0
  let v3051_r0 : Index := Scalar.indexCast v3050_r0
  let c0_1752_r0 : Index := 0#32
  ![v3051_r0.toNat, 0]

def k0_chk289 (k0_t1 : Fin k0_t1_loop.trips) (v3047_r0 : BitVec 32) : Prop :=
  (∀ (r : Fin 2), ∀ a, S8x128.size a = 0 ∨ (k0_off493 k0_t1 v3047_r0 (BitVec.ofNat 32 (26632 * r.val))) a + (![3329, 1] : Fin 2 → Nat) a * (S8x128.size a - 1) < S106528x128.size a)
theorem k0_off493_inb : ∀ (k0_t1 : Fin k0_t1_loop.trips) (v3047_r0 : BitVec 32) (k0_hw289 : k0_chk289 k0_t1 v3047_r0), ∀ (r : Fin 2), ∀ a, S8x128.size a = 0 ∨ (k0_off493 k0_t1 v3047_r0 (BitVec.ofNat 32 (26632 * r.val))) a + (![3329, 1] : Fin 2 → Nat) a * (S8x128.size a - 1) < S106528x128.size a := fun k0_t1 v3047_r0 k0_hw289 r => k0_hw289 r

def k0_off494 (k0_t1 : Fin k0_t1_loop.trips) (v3060_r0 : BitVec 32) (c0_i32_1759_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3061_r0 : BitVec 32 := Scalar.addi v3060_r0 v2149_r0
  let v3063_r0 : BitVec 32 := Scalar.addi v3061_r0 c0_i32_1759_r0
  let v3064_r0 : Index := Scalar.indexCast v3063_r0
  let c0_1760_r0 : Index := 0#32
  ![v3064_r0.toNat, 0]

def k0_chk290 (k0_t1 : Fin k0_t1_loop.trips) (v3060_r0 : BitVec 32) : Prop :=
  (∀ (r : Fin 2), ∀ a, S8x128.size a = 0 ∨ (k0_off494 k0_t1 v3060_r0 (BitVec.ofNat 32 (26632 * r.val))) a + (![3329, 1] : Fin 2 → Nat) a * (S8x128.size a - 1) < S106528x128.size a)
theorem k0_off494_inb : ∀ (k0_t1 : Fin k0_t1_loop.trips) (v3060_r0 : BitVec 32) (k0_hw290 : k0_chk290 k0_t1 v3060_r0), ∀ (r : Fin 2), ∀ a, S8x128.size a = 0 ∨ (k0_off494 k0_t1 v3060_r0 (BitVec.ofNat 32 (26632 * r.val))) a + (![3329, 1] : Fin 2 → Nat) a * (S8x128.size a - 1) < S106528x128.size a := fun k0_t1 v3060_r0 k0_hw290 r => k0_hw290 r

def k0_off495 (k0_t1 : Fin k0_t1_loop.trips) (v3073_r0 : BitVec 32) (c0_i32_1767_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3074_r0 : BitVec 32 := Scalar.addi v3073_r0 v2149_r0
  let v3076_r0 : BitVec 32 := Scalar.addi v3074_r0 c0_i32_1767_r0
  let v3077_r0 : Index := Scalar.indexCast v3076_r0
  let c0_1768_r0 : Index := 0#32
  ![v3077_r0.toNat, 0]

def k0_chk291 (k0_t1 : Fin k0_t1_loop.trips) (v3073_r0 : BitVec 32) : Prop :=
  (∀ (r : Fin 2), ∀ a, S8x128.size a = 0 ∨ (k0_off495 k0_t1 v3073_r0 (BitVec.ofNat 32 (26632 * r.val))) a + (![3329, 1] : Fin 2 → Nat) a * (S8x128.size a - 1) < S106528x128.size a)
theorem k0_off495_inb : ∀ (k0_t1 : Fin k0_t1_loop.trips) (v3073_r0 : BitVec 32) (k0_hw291 : k0_chk291 k0_t1 v3073_r0), ∀ (r : Fin 2), ∀ a, S8x128.size a = 0 ∨ (k0_off495 k0_t1 v3073_r0 (BitVec.ofNat 32 (26632 * r.val))) a + (![3329, 1] : Fin 2 → Nat) a * (S8x128.size a - 1) < S106528x128.size a := fun k0_t1 v3073_r0 k0_hw291 r => k0_hw291 r

def k0_off496 (k0_t1 : Fin k0_t1_loop.trips) (v3086_r0 : BitVec 32) (c0_i32_1775_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3087_r0 : BitVec 32 := Scalar.addi v3086_r0 v2149_r0
  let v3089_r0 : BitVec 32 := Scalar.addi v3087_r0 c0_i32_1775_r0
  let v3090_r0 : Index := Scalar.indexCast v3089_r0
  let c0_1776_r0 : Index := 0#32
  ![v3090_r0.toNat, 0]

def k0_chk292 (k0_t1 : Fin k0_t1_loop.trips) (v3086_r0 : BitVec 32) : Prop :=
  (∀ (r : Fin 2), ∀ a, S8x128.size a = 0 ∨ (k0_off496 k0_t1 v3086_r0 (BitVec.ofNat 32 (26632 * r.val))) a + (![3329, 1] : Fin 2 → Nat) a * (S8x128.size a - 1) < S106528x128.size a)
theorem k0_off496_inb : ∀ (k0_t1 : Fin k0_t1_loop.trips) (v3086_r0 : BitVec 32) (k0_hw292 : k0_chk292 k0_t1 v3086_r0), ∀ (r : Fin 2), ∀ a, S8x128.size a = 0 ∨ (k0_off496 k0_t1 v3086_r0 (BitVec.ofNat 32 (26632 * r.val))) a + (![3329, 1] : Fin 2 → Nat) a * (S8x128.size a - 1) < S106528x128.size a := fun k0_t1 v3086_r0 k0_hw292 r => k0_hw292 r

def k0_off497 (k0_t1 : Fin k0_t1_loop.trips) (c0_i32_1780_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c8_i32_1779_r0 : BitVec 32 := 8#32
  let v3100_r0 : BitVec 32 := Scalar.addi v2137_r0 c8_i32_1779_r0
  let v3101_r0 : BitVec 32 := Scalar.addi v3100_r0 c0_i32_1780_r0
  let v3102_r0 : Index := Scalar.indexCast v3101_r0
  let c0_1781_r0 : Index := 0#32
  ![v3102_r0.toNat, 0]
def k0_off498 (k0_t1 : Fin k0_t1_loop.trips) (v3113_r0 : BitVec 32) (c0_i32_1789_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3114_r0 : BitVec 32 := Scalar.addi v3113_r0 v2149_r0
  let v3116_r0 : BitVec 32 := Scalar.addi v3114_r0 c0_i32_1789_r0
  let v3117_r0 : Index := Scalar.indexCast v3116_r0
  let c0_1790_r0 : Index := 0#32
  ![v3117_r0.toNat, 0]

def k0_chk293 (k0_t1 : Fin k0_t1_loop.trips) (v3113_r0 : BitVec 32) : Prop :=
  (∀ (r : Fin 2), ∀ a, S8x128.size a = 0 ∨ (k0_off498 k0_t1 v3113_r0 (BitVec.ofNat 32 (26632 * r.val))) a + (![3329, 1] : Fin 2 → Nat) a * (S8x128.size a - 1) < S106528x128.size a)
theorem k0_off498_inb : ∀ (k0_t1 : Fin k0_t1_loop.trips) (v3113_r0 : BitVec 32) (k0_hw293 : k0_chk293 k0_t1 v3113_r0), ∀ (r : Fin 2), ∀ a, S8x128.size a = 0 ∨ (k0_off498 k0_t1 v3113_r0 (BitVec.ofNat 32 (26632 * r.val))) a + (![3329, 1] : Fin 2 → Nat) a * (S8x128.size a - 1) < S106528x128.size a := fun k0_t1 v3113_r0 k0_hw293 r => k0_hw293 r

def k0_off499 (k0_t1 : Fin k0_t1_loop.trips) (v3126_r0 : BitVec 32) (c0_i32_1797_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3127_r0 : BitVec 32 := Scalar.addi v3126_r0 v2149_r0
  let v3129_r0 : BitVec 32 := Scalar.addi v3127_r0 c0_i32_1797_r0
  let v3130_r0 : Index := Scalar.indexCast v3129_r0
  let c0_1798_r0 : Index := 0#32
  ![v3130_r0.toNat, 0]

def k0_chk294 (k0_t1 : Fin k0_t1_loop.trips) (v3126_r0 : BitVec 32) : Prop :=
  (∀ (r : Fin 2), ∀ a, S8x128.size a = 0 ∨ (k0_off499 k0_t1 v3126_r0 (BitVec.ofNat 32 (26632 * r.val))) a + (![3329, 1] : Fin 2 → Nat) a * (S8x128.size a - 1) < S106528x128.size a)
theorem k0_off499_inb : ∀ (k0_t1 : Fin k0_t1_loop.trips) (v3126_r0 : BitVec 32) (k0_hw294 : k0_chk294 k0_t1 v3126_r0), ∀ (r : Fin 2), ∀ a, S8x128.size a = 0 ∨ (k0_off499 k0_t1 v3126_r0 (BitVec.ofNat 32 (26632 * r.val))) a + (![3329, 1] : Fin 2 → Nat) a * (S8x128.size a - 1) < S106528x128.size a := fun k0_t1 v3126_r0 k0_hw294 r => k0_hw294 r

def k0_off500 (k0_t1 : Fin k0_t1_loop.trips) (v3139_r0 : BitVec 32) (c0_i32_1805_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3140_r0 : BitVec 32 := Scalar.addi v3139_r0 v2149_r0
  let v3142_r0 : BitVec 32 := Scalar.addi v3140_r0 c0_i32_1805_r0
  let v3143_r0 : Index := Scalar.indexCast v3142_r0
  let c0_1806_r0 : Index := 0#32
  ![v3143_r0.toNat, 0]

def k0_chk295 (k0_t1 : Fin k0_t1_loop.trips) (v3139_r0 : BitVec 32) : Prop :=
  (∀ (r : Fin 2), ∀ a, S8x128.size a = 0 ∨ (k0_off500 k0_t1 v3139_r0 (BitVec.ofNat 32 (26632 * r.val))) a + (![3329, 1] : Fin 2 → Nat) a * (S8x128.size a - 1) < S106528x128.size a)
theorem k0_off500_inb : ∀ (k0_t1 : Fin k0_t1_loop.trips) (v3139_r0 : BitVec 32) (k0_hw295 : k0_chk295 k0_t1 v3139_r0), ∀ (r : Fin 2), ∀ a, S8x128.size a = 0 ∨ (k0_off500 k0_t1 v3139_r0 (BitVec.ofNat 32 (26632 * r.val))) a + (![3329, 1] : Fin 2 → Nat) a * (S8x128.size a - 1) < S106528x128.size a := fun k0_t1 v3139_r0 k0_hw295 r => k0_hw295 r

def k0_off501 (k0_t1 : Fin k0_t1_loop.trips) (v3152_r0 : BitVec 32) (c0_i32_1813_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3153_r0 : BitVec 32 := Scalar.addi v3152_r0 v2149_r0
  let v3155_r0 : BitVec 32 := Scalar.addi v3153_r0 c0_i32_1813_r0
  let v3156_r0 : Index := Scalar.indexCast v3155_r0
  let c0_1814_r0 : Index := 0#32
  ![v3156_r0.toNat, 0]

def k0_chk296 (k0_t1 : Fin k0_t1_loop.trips) (v3152_r0 : BitVec 32) : Prop :=
  (∀ (r : Fin 2), ∀ a, S8x128.size a = 0 ∨ (k0_off501 k0_t1 v3152_r0 (BitVec.ofNat 32 (26632 * r.val))) a + (![3329, 1] : Fin 2 → Nat) a * (S8x128.size a - 1) < S106528x128.size a)
theorem k0_off501_inb : ∀ (k0_t1 : Fin k0_t1_loop.trips) (v3152_r0 : BitVec 32) (k0_hw296 : k0_chk296 k0_t1 v3152_r0), ∀ (r : Fin 2), ∀ a, S8x128.size a = 0 ∨ (k0_off501 k0_t1 v3152_r0 (BitVec.ofNat 32 (26632 * r.val))) a + (![3329, 1] : Fin 2 → Nat) a * (S8x128.size a - 1) < S106528x128.size a := fun k0_t1 v3152_r0 k0_hw296 r => k0_hw296 r

def k0_off502 (k0_t1 : Fin k0_t1_loop.trips) (c0_i32_1817_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c9_i32_r0 : BitVec 32 := 9#32
  let v3166_r0 : BitVec 32 := Scalar.addi v2137_r0 c9_i32_r0
  let v3167_r0 : BitVec 32 := Scalar.addi v3166_r0 c0_i32_1817_r0
  let v3168_r0 : Index := Scalar.indexCast v3167_r0
  let c0_1818_r0 : Index := 0#32
  ![v3168_r0.toNat, 0]
def k0_off503 (k0_t1 : Fin k0_t1_loop.trips) (v3179_r0 : BitVec 32) (c0_i32_1826_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3180_r0 : BitVec 32 := Scalar.addi v3179_r0 v2149_r0
  let v3182_r0 : BitVec 32 := Scalar.addi v3180_r0 c0_i32_1826_r0
  let v3183_r0 : Index := Scalar.indexCast v3182_r0
  let c0_1827_r0 : Index := 0#32
  ![v3183_r0.toNat, 0]

def k0_chk297 (k0_t1 : Fin k0_t1_loop.trips) (v3179_r0 : BitVec 32) : Prop :=
  (∀ (r : Fin 2), ∀ a, S8x128.size a = 0 ∨ (k0_off503 k0_t1 v3179_r0 (BitVec.ofNat 32 (26632 * r.val))) a + (![3329, 1] : Fin 2 → Nat) a * (S8x128.size a - 1) < S106528x128.size a)
theorem k0_off503_inb : ∀ (k0_t1 : Fin k0_t1_loop.trips) (v3179_r0 : BitVec 32) (k0_hw297 : k0_chk297 k0_t1 v3179_r0), ∀ (r : Fin 2), ∀ a, S8x128.size a = 0 ∨ (k0_off503 k0_t1 v3179_r0 (BitVec.ofNat 32 (26632 * r.val))) a + (![3329, 1] : Fin 2 → Nat) a * (S8x128.size a - 1) < S106528x128.size a := fun k0_t1 v3179_r0 k0_hw297 r => k0_hw297 r

def k0_off504 (k0_t1 : Fin k0_t1_loop.trips) (v3192_r0 : BitVec 32) (c0_i32_1834_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3193_r0 : BitVec 32 := Scalar.addi v3192_r0 v2149_r0
  let v3195_r0 : BitVec 32 := Scalar.addi v3193_r0 c0_i32_1834_r0
  let v3196_r0 : Index := Scalar.indexCast v3195_r0
  let c0_1835_r0 : Index := 0#32
  ![v3196_r0.toNat, 0]

def k0_chk298 (k0_t1 : Fin k0_t1_loop.trips) (v3192_r0 : BitVec 32) : Prop :=
  (∀ (r : Fin 2), ∀ a, S8x128.size a = 0 ∨ (k0_off504 k0_t1 v3192_r0 (BitVec.ofNat 32 (26632 * r.val))) a + (![3329, 1] : Fin 2 → Nat) a * (S8x128.size a - 1) < S106528x128.size a)
theorem k0_off504_inb : ∀ (k0_t1 : Fin k0_t1_loop.trips) (v3192_r0 : BitVec 32) (k0_hw298 : k0_chk298 k0_t1 v3192_r0), ∀ (r : Fin 2), ∀ a, S8x128.size a = 0 ∨ (k0_off504 k0_t1 v3192_r0 (BitVec.ofNat 32 (26632 * r.val))) a + (![3329, 1] : Fin 2 → Nat) a * (S8x128.size a - 1) < S106528x128.size a := fun k0_t1 v3192_r0 k0_hw298 r => k0_hw298 r

def k0_off505 (k0_t1 : Fin k0_t1_loop.trips) (v3205_r0 : BitVec 32) (c0_i32_1842_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3206_r0 : BitVec 32 := Scalar.addi v3205_r0 v2149_r0
  let v3208_r0 : BitVec 32 := Scalar.addi v3206_r0 c0_i32_1842_r0
  let v3209_r0 : Index := Scalar.indexCast v3208_r0
  let c0_1843_r0 : Index := 0#32
  ![v3209_r0.toNat, 0]

def k0_chk299 (k0_t1 : Fin k0_t1_loop.trips) (v3205_r0 : BitVec 32) : Prop :=
  (∀ (r : Fin 2), ∀ a, S8x128.size a = 0 ∨ (k0_off505 k0_t1 v3205_r0 (BitVec.ofNat 32 (26632 * r.val))) a + (![3329, 1] : Fin 2 → Nat) a * (S8x128.size a - 1) < S106528x128.size a)
theorem k0_off505_inb : ∀ (k0_t1 : Fin k0_t1_loop.trips) (v3205_r0 : BitVec 32) (k0_hw299 : k0_chk299 k0_t1 v3205_r0), ∀ (r : Fin 2), ∀ a, S8x128.size a = 0 ∨ (k0_off505 k0_t1 v3205_r0 (BitVec.ofNat 32 (26632 * r.val))) a + (![3329, 1] : Fin 2 → Nat) a * (S8x128.size a - 1) < S106528x128.size a := fun k0_t1 v3205_r0 k0_hw299 r => k0_hw299 r

def k0_off506 (k0_t1 : Fin k0_t1_loop.trips) (v3218_r0 : BitVec 32) (c0_i32_1850_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3219_r0 : BitVec 32 := Scalar.addi v3218_r0 v2149_r0
  let v3221_r0 : BitVec 32 := Scalar.addi v3219_r0 c0_i32_1850_r0
  let v3222_r0 : Index := Scalar.indexCast v3221_r0
  let c0_1851_r0 : Index := 0#32
  ![v3222_r0.toNat, 0]

def k0_chk300 (k0_t1 : Fin k0_t1_loop.trips) (v3218_r0 : BitVec 32) : Prop :=
  (∀ (r : Fin 2), ∀ a, S8x128.size a = 0 ∨ (k0_off506 k0_t1 v3218_r0 (BitVec.ofNat 32 (26632 * r.val))) a + (![3329, 1] : Fin 2 → Nat) a * (S8x128.size a - 1) < S106528x128.size a)
theorem k0_off506_inb : ∀ (k0_t1 : Fin k0_t1_loop.trips) (v3218_r0 : BitVec 32) (k0_hw300 : k0_chk300 k0_t1 v3218_r0), ∀ (r : Fin 2), ∀ a, S8x128.size a = 0 ∨ (k0_off506 k0_t1 v3218_r0 (BitVec.ofNat 32 (26632 * r.val))) a + (![3329, 1] : Fin 2 → Nat) a * (S8x128.size a - 1) < S106528x128.size a := fun k0_t1 v3218_r0 k0_hw300 r => k0_hw300 r

def k0_off507 (k0_t1 : Fin k0_t1_loop.trips) (c0_i32_1854_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c10_i32_r0 : BitVec 32 := 10#32
  let v3232_r0 : BitVec 32 := Scalar.addi v2137_r0 c10_i32_r0
  let v3233_r0 : BitVec 32 := Scalar.addi v3232_r0 c0_i32_1854_r0
  let v3234_r0 : Index := Scalar.indexCast v3233_r0
  let c0_1855_r0 : Index := 0#32
  ![v3234_r0.toNat, 0]
def k0_off508 (k0_t1 : Fin k0_t1_loop.trips) (v3245_r0 : BitVec 32) (c0_i32_1863_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3246_r0 : BitVec 32 := Scalar.addi v3245_r0 v2149_r0
  let v3248_r0 : BitVec 32 := Scalar.addi v3246_r0 c0_i32_1863_r0
  let v3249_r0 : Index := Scalar.indexCast v3248_r0
  let c0_1864_r0 : Index := 0#32
  ![v3249_r0.toNat, 0]

def k0_chk301 (k0_t1 : Fin k0_t1_loop.trips) (v3245_r0 : BitVec 32) : Prop :=
  (∀ (r : Fin 2), ∀ a, S8x128.size a = 0 ∨ (k0_off508 k0_t1 v3245_r0 (BitVec.ofNat 32 (26632 * r.val))) a + (![3329, 1] : Fin 2 → Nat) a * (S8x128.size a - 1) < S106528x128.size a)
theorem k0_off508_inb : ∀ (k0_t1 : Fin k0_t1_loop.trips) (v3245_r0 : BitVec 32) (k0_hw301 : k0_chk301 k0_t1 v3245_r0), ∀ (r : Fin 2), ∀ a, S8x128.size a = 0 ∨ (k0_off508 k0_t1 v3245_r0 (BitVec.ofNat 32 (26632 * r.val))) a + (![3329, 1] : Fin 2 → Nat) a * (S8x128.size a - 1) < S106528x128.size a := fun k0_t1 v3245_r0 k0_hw301 r => k0_hw301 r

def k0_off509 (k0_t1 : Fin k0_t1_loop.trips) (v3258_r0 : BitVec 32) (c0_i32_1871_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3259_r0 : BitVec 32 := Scalar.addi v3258_r0 v2149_r0
  let v3261_r0 : BitVec 32 := Scalar.addi v3259_r0 c0_i32_1871_r0
  let v3262_r0 : Index := Scalar.indexCast v3261_r0
  let c0_1872_r0 : Index := 0#32
  ![v3262_r0.toNat, 0]

def k0_chk302 (k0_t1 : Fin k0_t1_loop.trips) (v3258_r0 : BitVec 32) : Prop :=
  (∀ (r : Fin 2), ∀ a, S8x128.size a = 0 ∨ (k0_off509 k0_t1 v3258_r0 (BitVec.ofNat 32 (26632 * r.val))) a + (![3329, 1] : Fin 2 → Nat) a * (S8x128.size a - 1) < S106528x128.size a)
theorem k0_off509_inb : ∀ (k0_t1 : Fin k0_t1_loop.trips) (v3258_r0 : BitVec 32) (k0_hw302 : k0_chk302 k0_t1 v3258_r0), ∀ (r : Fin 2), ∀ a, S8x128.size a = 0 ∨ (k0_off509 k0_t1 v3258_r0 (BitVec.ofNat 32 (26632 * r.val))) a + (![3329, 1] : Fin 2 → Nat) a * (S8x128.size a - 1) < S106528x128.size a := fun k0_t1 v3258_r0 k0_hw302 r => k0_hw302 r

def k0_off510 (k0_t1 : Fin k0_t1_loop.trips) (v3271_r0 : BitVec 32) (c0_i32_1879_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3272_r0 : BitVec 32 := Scalar.addi v3271_r0 v2149_r0
  let v3274_r0 : BitVec 32 := Scalar.addi v3272_r0 c0_i32_1879_r0
  let v3275_r0 : Index := Scalar.indexCast v3274_r0
  let c0_1880_r0 : Index := 0#32
  ![v3275_r0.toNat, 0]

def k0_chk303 (k0_t1 : Fin k0_t1_loop.trips) (v3271_r0 : BitVec 32) : Prop :=
  (∀ (r : Fin 2), ∀ a, S8x128.size a = 0 ∨ (k0_off510 k0_t1 v3271_r0 (BitVec.ofNat 32 (26632 * r.val))) a + (![3329, 1] : Fin 2 → Nat) a * (S8x128.size a - 1) < S106528x128.size a)
theorem k0_off510_inb : ∀ (k0_t1 : Fin k0_t1_loop.trips) (v3271_r0 : BitVec 32) (k0_hw303 : k0_chk303 k0_t1 v3271_r0), ∀ (r : Fin 2), ∀ a, S8x128.size a = 0 ∨ (k0_off510 k0_t1 v3271_r0 (BitVec.ofNat 32 (26632 * r.val))) a + (![3329, 1] : Fin 2 → Nat) a * (S8x128.size a - 1) < S106528x128.size a := fun k0_t1 v3271_r0 k0_hw303 r => k0_hw303 r

def k0_off511 (k0_t1 : Fin k0_t1_loop.trips) (v3284_r0 : BitVec 32) (c0_i32_1887_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3285_r0 : BitVec 32 := Scalar.addi v3284_r0 v2149_r0
  let v3287_r0 : BitVec 32 := Scalar.addi v3285_r0 c0_i32_1887_r0
  let v3288_r0 : Index := Scalar.indexCast v3287_r0
  let c0_1888_r0 : Index := 0#32
  ![v3288_r0.toNat, 0]

def k0_chk304 (k0_t1 : Fin k0_t1_loop.trips) (v3284_r0 : BitVec 32) : Prop :=
  (∀ (r : Fin 2), ∀ a, S8x128.size a = 0 ∨ (k0_off511 k0_t1 v3284_r0 (BitVec.ofNat 32 (26632 * r.val))) a + (![3329, 1] : Fin 2 → Nat) a * (S8x128.size a - 1) < S106528x128.size a)
theorem k0_off511_inb : ∀ (k0_t1 : Fin k0_t1_loop.trips) (v3284_r0 : BitVec 32) (k0_hw304 : k0_chk304 k0_t1 v3284_r0), ∀ (r : Fin 2), ∀ a, S8x128.size a = 0 ∨ (k0_off511 k0_t1 v3284_r0 (BitVec.ofNat 32 (26632 * r.val))) a + (![3329, 1] : Fin 2 → Nat) a * (S8x128.size a - 1) < S106528x128.size a := fun k0_t1 v3284_r0 k0_hw304 r => k0_hw304 r

def k0_off512 (k0_t1 : Fin k0_t1_loop.trips) (c0_i32_1891_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c11_i32_r0 : BitVec 32 := 11#32
  let v3298_r0 : BitVec 32 := Scalar.addi v2137_r0 c11_i32_r0
  let v3299_r0 : BitVec 32 := Scalar.addi v3298_r0 c0_i32_1891_r0
  let v3300_r0 : Index := Scalar.indexCast v3299_r0
  let c0_1892_r0 : Index := 0#32
  ![v3300_r0.toNat, 0]
def k0_off513 (k0_t1 : Fin k0_t1_loop.trips) (c198_i32_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v3311_r0 : BitVec 32 := Scalar.addi v2136_r0 c198_i32_r0
  let v3312_r0 : Index := Scalar.indexCast v3311_r0
  let c0_1896_r0 : Index := 0#32
  ![v3312_r0.toNat, 0]
def k0_off514 (k0_t1 : Fin k0_t1_loop.trips) (c6_i32_1908_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_1905_r0 : BitVec 32 := 104#32
  let v3341_r0 : BitVec 32 := Scalar.muli arg10_r0 c104_i32_1905_r0
  let c103_i32_1906_r0 : BitVec 32 := 103#32
  let v3342_r0 : BitVec 32 := Scalar.addi v3341_r0 c103_i32_1906_r0
  let c16_i32_1907_r0 : BitVec 32 := 16#32
  let v3343_r0 : BitVec 32 := Scalar.muli v3342_r0 c16_i32_1907_r0
  let v3344_r0 : BitVec 32 := Scalar.addi v3343_r0 c6_i32_1908_r0
  let v3345_r0 : Index := Scalar.indexCast v3344_r0
  let c0_1909_r0 : Index := 0#32
  ![v3345_r0.toNat, 0]
def k0_off515 (k0_t1 : Fin k0_t1_loop.trips) (v3434_r0 : BitVec 32) (c0_i32_1941_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3435_r0 : BitVec 32 := Scalar.addi v3434_r0 v2149_r0
  let v3437_r0 : BitVec 32 := Scalar.addi v3435_r0 c0_i32_1941_r0
  let v3438_r0 : Index := Scalar.indexCast v3437_r0
  let c0_1942_r0 : Index := 0#32
  ![v3438_r0.toNat, 0]

def k0_chk305 (k0_t1 : Fin k0_t1_loop.trips) (v3434_r0 : BitVec 32) : Prop :=
  (∀ (r : Fin 2), ∀ a, S8x128.size a = 0 ∨ (k0_off515 k0_t1 v3434_r0 (BitVec.ofNat 32 (26632 * r.val))) a + (![3329, 1] : Fin 2 → Nat) a * (S8x128.size a - 1) < S106528x128.size a)
theorem k0_off515_inb : ∀ (k0_t1 : Fin k0_t1_loop.trips) (v3434_r0 : BitVec 32) (k0_hw305 : k0_chk305 k0_t1 v3434_r0), ∀ (r : Fin 2), ∀ a, S8x128.size a = 0 ∨ (k0_off515 k0_t1 v3434_r0 (BitVec.ofNat 32 (26632 * r.val))) a + (![3329, 1] : Fin 2 → Nat) a * (S8x128.size a - 1) < S106528x128.size a := fun k0_t1 v3434_r0 k0_hw305 r => k0_hw305 r

def k0_off516 (k0_t1 : Fin k0_t1_loop.trips) (v3447_r0 : BitVec 32) (c0_i32_1949_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3448_r0 : BitVec 32 := Scalar.addi v3447_r0 v2149_r0
  let v3450_r0 : BitVec 32 := Scalar.addi v3448_r0 c0_i32_1949_r0
  let v3451_r0 : Index := Scalar.indexCast v3450_r0
  let c0_1950_r0 : Index := 0#32
  ![v3451_r0.toNat, 0]

def k0_chk306 (k0_t1 : Fin k0_t1_loop.trips) (v3447_r0 : BitVec 32) : Prop :=
  (∀ (r : Fin 2), ∀ a, S8x128.size a = 0 ∨ (k0_off516 k0_t1 v3447_r0 (BitVec.ofNat 32 (26632 * r.val))) a + (![3329, 1] : Fin 2 → Nat) a * (S8x128.size a - 1) < S106528x128.size a)
theorem k0_off516_inb : ∀ (k0_t1 : Fin k0_t1_loop.trips) (v3447_r0 : BitVec 32) (k0_hw306 : k0_chk306 k0_t1 v3447_r0), ∀ (r : Fin 2), ∀ a, S8x128.size a = 0 ∨ (k0_off516 k0_t1 v3447_r0 (BitVec.ofNat 32 (26632 * r.val))) a + (![3329, 1] : Fin 2 → Nat) a * (S8x128.size a - 1) < S106528x128.size a := fun k0_t1 v3447_r0 k0_hw306 r => k0_hw306 r

def k0_off517 (k0_t1 : Fin k0_t1_loop.trips) (v3460_r0 : BitVec 32) (c0_i32_1957_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3461_r0 : BitVec 32 := Scalar.addi v3460_r0 v2149_r0
  let v3463_r0 : BitVec 32 := Scalar.addi v3461_r0 c0_i32_1957_r0
  let v3464_r0 : Index := Scalar.indexCast v3463_r0
  let c0_1958_r0 : Index := 0#32
  ![v3464_r0.toNat, 0]

def k0_chk307 (k0_t1 : Fin k0_t1_loop.trips) (v3460_r0 : BitVec 32) : Prop :=
  (∀ (r : Fin 2), ∀ a, S8x128.size a = 0 ∨ (k0_off517 k0_t1 v3460_r0 (BitVec.ofNat 32 (26632 * r.val))) a + (![3329, 1] : Fin 2 → Nat) a * (S8x128.size a - 1) < S106528x128.size a)
theorem k0_off517_inb : ∀ (k0_t1 : Fin k0_t1_loop.trips) (v3460_r0 : BitVec 32) (k0_hw307 : k0_chk307 k0_t1 v3460_r0), ∀ (r : Fin 2), ∀ a, S8x128.size a = 0 ∨ (k0_off517 k0_t1 v3460_r0 (BitVec.ofNat 32 (26632 * r.val))) a + (![3329, 1] : Fin 2 → Nat) a * (S8x128.size a - 1) < S106528x128.size a := fun k0_t1 v3460_r0 k0_hw307 r => k0_hw307 r

def k0_off518 (k0_t1 : Fin k0_t1_loop.trips) (v3473_r0 : BitVec 32) (c0_i32_1965_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3474_r0 : BitVec 32 := Scalar.addi v3473_r0 v2149_r0
  let v3476_r0 : BitVec 32 := Scalar.addi v3474_r0 c0_i32_1965_r0
  let v3477_r0 : Index := Scalar.indexCast v3476_r0
  let c0_1966_r0 : Index := 0#32
  ![v3477_r0.toNat, 0]

def k0_chk308 (k0_t1 : Fin k0_t1_loop.trips) (v3473_r0 : BitVec 32) : Prop :=
  (∀ (r : Fin 2), ∀ a, S8x128.size a = 0 ∨ (k0_off518 k0_t1 v3473_r0 (BitVec.ofNat 32 (26632 * r.val))) a + (![3329, 1] : Fin 2 → Nat) a * (S8x128.size a - 1) < S106528x128.size a)
theorem k0_off518_inb : ∀ (k0_t1 : Fin k0_t1_loop.trips) (v3473_r0 : BitVec 32) (k0_hw308 : k0_chk308 k0_t1 v3473_r0), ∀ (r : Fin 2), ∀ a, S8x128.size a = 0 ∨ (k0_off518 k0_t1 v3473_r0 (BitVec.ofNat 32 (26632 * r.val))) a + (![3329, 1] : Fin 2 → Nat) a * (S8x128.size a - 1) < S106528x128.size a := fun k0_t1 v3473_r0 k0_hw308 r => k0_hw308 r

def k0_off519 (k0_t1 : Fin k0_t1_loop.trips) (c0_i32_1969_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c12_i32_r0 : BitVec 32 := 12#32
  let v3487_r0 : BitVec 32 := Scalar.addi v2137_r0 c12_i32_r0
  let v3488_r0 : BitVec 32 := Scalar.addi v3487_r0 c0_i32_1969_r0
  let v3489_r0 : Index := Scalar.indexCast v3488_r0
  let c0_1970_r0 : Index := 0#32
  ![v3489_r0.toNat, 0]
def k0_off520 (k0_t1 : Fin k0_t1_loop.trips) (v3500_r0 : BitVec 32) (c0_i32_1978_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3501_r0 : BitVec 32 := Scalar.addi v3500_r0 v2149_r0
  let v3503_r0 : BitVec 32 := Scalar.addi v3501_r0 c0_i32_1978_r0
  let v3504_r0 : Index := Scalar.indexCast v3503_r0
  let c0_1979_r0 : Index := 0#32
  ![v3504_r0.toNat, 0]

def k0_chk309 (k0_t1 : Fin k0_t1_loop.trips) (v3500_r0 : BitVec 32) : Prop :=
  (∀ (r : Fin 2), ∀ a, S8x128.size a = 0 ∨ (k0_off520 k0_t1 v3500_r0 (BitVec.ofNat 32 (26632 * r.val))) a + (![3329, 1] : Fin 2 → Nat) a * (S8x128.size a - 1) < S106528x128.size a)
theorem k0_off520_inb : ∀ (k0_t1 : Fin k0_t1_loop.trips) (v3500_r0 : BitVec 32) (k0_hw309 : k0_chk309 k0_t1 v3500_r0), ∀ (r : Fin 2), ∀ a, S8x128.size a = 0 ∨ (k0_off520 k0_t1 v3500_r0 (BitVec.ofNat 32 (26632 * r.val))) a + (![3329, 1] : Fin 2 → Nat) a * (S8x128.size a - 1) < S106528x128.size a := fun k0_t1 v3500_r0 k0_hw309 r => k0_hw309 r

def k0_off521 (k0_t1 : Fin k0_t1_loop.trips) (v3513_r0 : BitVec 32) (c0_i32_1986_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3514_r0 : BitVec 32 := Scalar.addi v3513_r0 v2149_r0
  let v3516_r0 : BitVec 32 := Scalar.addi v3514_r0 c0_i32_1986_r0
  let v3517_r0 : Index := Scalar.indexCast v3516_r0
  let c0_1987_r0 : Index := 0#32
  ![v3517_r0.toNat, 0]

def k0_chk310 (k0_t1 : Fin k0_t1_loop.trips) (v3513_r0 : BitVec 32) : Prop :=
  (∀ (r : Fin 2), ∀ a, S8x128.size a = 0 ∨ (k0_off521 k0_t1 v3513_r0 (BitVec.ofNat 32 (26632 * r.val))) a + (![3329, 1] : Fin 2 → Nat) a * (S8x128.size a - 1) < S106528x128.size a)
theorem k0_off521_inb : ∀ (k0_t1 : Fin k0_t1_loop.trips) (v3513_r0 : BitVec 32) (k0_hw310 : k0_chk310 k0_t1 v3513_r0), ∀ (r : Fin 2), ∀ a, S8x128.size a = 0 ∨ (k0_off521 k0_t1 v3513_r0 (BitVec.ofNat 32 (26632 * r.val))) a + (![3329, 1] : Fin 2 → Nat) a * (S8x128.size a - 1) < S106528x128.size a := fun k0_t1 v3513_r0 k0_hw310 r => k0_hw310 r

def k0_off522 (k0_t1 : Fin k0_t1_loop.trips) (v3526_r0 : BitVec 32) (c0_i32_1994_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3527_r0 : BitVec 32 := Scalar.addi v3526_r0 v2149_r0
  let v3529_r0 : BitVec 32 := Scalar.addi v3527_r0 c0_i32_1994_r0
  let v3530_r0 : Index := Scalar.indexCast v3529_r0
  let c0_1995_r0 : Index := 0#32
  ![v3530_r0.toNat, 0]

def k0_chk311 (k0_t1 : Fin k0_t1_loop.trips) (v3526_r0 : BitVec 32) : Prop :=
  (∀ (r : Fin 2), ∀ a, S8x128.size a = 0 ∨ (k0_off522 k0_t1 v3526_r0 (BitVec.ofNat 32 (26632 * r.val))) a + (![3329, 1] : Fin 2 → Nat) a * (S8x128.size a - 1) < S106528x128.size a)
theorem k0_off522_inb : ∀ (k0_t1 : Fin k0_t1_loop.trips) (v3526_r0 : BitVec 32) (k0_hw311 : k0_chk311 k0_t1 v3526_r0), ∀ (r : Fin 2), ∀ a, S8x128.size a = 0 ∨ (k0_off522 k0_t1 v3526_r0 (BitVec.ofNat 32 (26632 * r.val))) a + (![3329, 1] : Fin 2 → Nat) a * (S8x128.size a - 1) < S106528x128.size a := fun k0_t1 v3526_r0 k0_hw311 r => k0_hw311 r

def k0_off523 (k0_t1 : Fin k0_t1_loop.trips) (v3539_r0 : BitVec 32) (c0_i32_2002_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3540_r0 : BitVec 32 := Scalar.addi v3539_r0 v2149_r0
  let v3542_r0 : BitVec 32 := Scalar.addi v3540_r0 c0_i32_2002_r0
  let v3543_r0 : Index := Scalar.indexCast v3542_r0
  let c0_2003_r0 : Index := 0#32
  ![v3543_r0.toNat, 0]

def k0_chk312 (k0_t1 : Fin k0_t1_loop.trips) (v3539_r0 : BitVec 32) : Prop :=
  (∀ (r : Fin 2), ∀ a, S8x128.size a = 0 ∨ (k0_off523 k0_t1 v3539_r0 (BitVec.ofNat 32 (26632 * r.val))) a + (![3329, 1] : Fin 2 → Nat) a * (S8x128.size a - 1) < S106528x128.size a)
theorem k0_off523_inb : ∀ (k0_t1 : Fin k0_t1_loop.trips) (v3539_r0 : BitVec 32) (k0_hw312 : k0_chk312 k0_t1 v3539_r0), ∀ (r : Fin 2), ∀ a, S8x128.size a = 0 ∨ (k0_off523 k0_t1 v3539_r0 (BitVec.ofNat 32 (26632 * r.val))) a + (![3329, 1] : Fin 2 → Nat) a * (S8x128.size a - 1) < S106528x128.size a := fun k0_t1 v3539_r0 k0_hw312 r => k0_hw312 r

def k0_off524 (k0_t1 : Fin k0_t1_loop.trips) (c0_i32_2006_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c13_i32_r0 : BitVec 32 := 13#32
  let v3553_r0 : BitVec 32 := Scalar.addi v2137_r0 c13_i32_r0
  let v3554_r0 : BitVec 32 := Scalar.addi v3553_r0 c0_i32_2006_r0
  let v3555_r0 : Index := Scalar.indexCast v3554_r0
  let c0_2007_r0 : Index := 0#32
  ![v3555_r0.toNat, 0]
def k0_off525 (k0_t1 : Fin k0_t1_loop.trips) (v3566_r0 : BitVec 32) (c0_i32_2015_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3567_r0 : BitVec 32 := Scalar.addi v3566_r0 v2149_r0
  let v3569_r0 : BitVec 32 := Scalar.addi v3567_r0 c0_i32_2015_r0
  let v3570_r0 : Index := Scalar.indexCast v3569_r0
  let c0_2016_r0 : Index := 0#32
  ![v3570_r0.toNat, 0]

def k0_chk313 (k0_t1 : Fin k0_t1_loop.trips) (v3566_r0 : BitVec 32) : Prop :=
  (∀ (r : Fin 2), ∀ a, S8x128.size a = 0 ∨ (k0_off525 k0_t1 v3566_r0 (BitVec.ofNat 32 (26632 * r.val))) a + (![3329, 1] : Fin 2 → Nat) a * (S8x128.size a - 1) < S106528x128.size a)
theorem k0_off525_inb : ∀ (k0_t1 : Fin k0_t1_loop.trips) (v3566_r0 : BitVec 32) (k0_hw313 : k0_chk313 k0_t1 v3566_r0), ∀ (r : Fin 2), ∀ a, S8x128.size a = 0 ∨ (k0_off525 k0_t1 v3566_r0 (BitVec.ofNat 32 (26632 * r.val))) a + (![3329, 1] : Fin 2 → Nat) a * (S8x128.size a - 1) < S106528x128.size a := fun k0_t1 v3566_r0 k0_hw313 r => k0_hw313 r

def k0_off526 (k0_t1 : Fin k0_t1_loop.trips) (v3579_r0 : BitVec 32) (c0_i32_2023_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3580_r0 : BitVec 32 := Scalar.addi v3579_r0 v2149_r0
  let v3582_r0 : BitVec 32 := Scalar.addi v3580_r0 c0_i32_2023_r0
  let v3583_r0 : Index := Scalar.indexCast v3582_r0
  let c0_2024_r0 : Index := 0#32
  ![v3583_r0.toNat, 0]

def k0_chk314 (k0_t1 : Fin k0_t1_loop.trips) (v3579_r0 : BitVec 32) : Prop :=
  (∀ (r : Fin 2), ∀ a, S8x128.size a = 0 ∨ (k0_off526 k0_t1 v3579_r0 (BitVec.ofNat 32 (26632 * r.val))) a + (![3329, 1] : Fin 2 → Nat) a * (S8x128.size a - 1) < S106528x128.size a)
theorem k0_off526_inb : ∀ (k0_t1 : Fin k0_t1_loop.trips) (v3579_r0 : BitVec 32) (k0_hw314 : k0_chk314 k0_t1 v3579_r0), ∀ (r : Fin 2), ∀ a, S8x128.size a = 0 ∨ (k0_off526 k0_t1 v3579_r0 (BitVec.ofNat 32 (26632 * r.val))) a + (![3329, 1] : Fin 2 → Nat) a * (S8x128.size a - 1) < S106528x128.size a := fun k0_t1 v3579_r0 k0_hw314 r => k0_hw314 r

def k0_off527 (k0_t1 : Fin k0_t1_loop.trips) (v3592_r0 : BitVec 32) (c0_i32_2031_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3593_r0 : BitVec 32 := Scalar.addi v3592_r0 v2149_r0
  let v3595_r0 : BitVec 32 := Scalar.addi v3593_r0 c0_i32_2031_r0
  let v3596_r0 : Index := Scalar.indexCast v3595_r0
  let c0_2032_r0 : Index := 0#32
  ![v3596_r0.toNat, 0]

def k0_chk315 (k0_t1 : Fin k0_t1_loop.trips) (v3592_r0 : BitVec 32) : Prop :=
  (∀ (r : Fin 2), ∀ a, S8x128.size a = 0 ∨ (k0_off527 k0_t1 v3592_r0 (BitVec.ofNat 32 (26632 * r.val))) a + (![3329, 1] : Fin 2 → Nat) a * (S8x128.size a - 1) < S106528x128.size a)
theorem k0_off527_inb : ∀ (k0_t1 : Fin k0_t1_loop.trips) (v3592_r0 : BitVec 32) (k0_hw315 : k0_chk315 k0_t1 v3592_r0), ∀ (r : Fin 2), ∀ a, S8x128.size a = 0 ∨ (k0_off527 k0_t1 v3592_r0 (BitVec.ofNat 32 (26632 * r.val))) a + (![3329, 1] : Fin 2 → Nat) a * (S8x128.size a - 1) < S106528x128.size a := fun k0_t1 v3592_r0 k0_hw315 r => k0_hw315 r

def k0_off528 (k0_t1 : Fin k0_t1_loop.trips) (v3605_r0 : BitVec 32) (c0_i32_2039_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3606_r0 : BitVec 32 := Scalar.addi v3605_r0 v2149_r0
  let v3608_r0 : BitVec 32 := Scalar.addi v3606_r0 c0_i32_2039_r0
  let v3609_r0 : Index := Scalar.indexCast v3608_r0
  let c0_2040_r0 : Index := 0#32
  ![v3609_r0.toNat, 0]

def k0_chk316 (k0_t1 : Fin k0_t1_loop.trips) (v3605_r0 : BitVec 32) : Prop :=
  (∀ (r : Fin 2), ∀ a, S8x128.size a = 0 ∨ (k0_off528 k0_t1 v3605_r0 (BitVec.ofNat 32 (26632 * r.val))) a + (![3329, 1] : Fin 2 → Nat) a * (S8x128.size a - 1) < S106528x128.size a)
theorem k0_off528_inb : ∀ (k0_t1 : Fin k0_t1_loop.trips) (v3605_r0 : BitVec 32) (k0_hw316 : k0_chk316 k0_t1 v3605_r0), ∀ (r : Fin 2), ∀ a, S8x128.size a = 0 ∨ (k0_off528 k0_t1 v3605_r0 (BitVec.ofNat 32 (26632 * r.val))) a + (![3329, 1] : Fin 2 → Nat) a * (S8x128.size a - 1) < S106528x128.size a := fun k0_t1 v3605_r0 k0_hw316 r => k0_hw316 r

def k0_off529 (k0_t1 : Fin k0_t1_loop.trips) (c0_i32_2043_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c14_i32_r0 : BitVec 32 := 14#32
  let v3619_r0 : BitVec 32 := Scalar.addi v2137_r0 c14_i32_r0
  let v3620_r0 : BitVec 32 := Scalar.addi v3619_r0 c0_i32_2043_r0
  let v3621_r0 : Index := Scalar.indexCast v3620_r0
  let c0_2044_r0 : Index := 0#32
  ![v3621_r0.toNat, 0]
def k0_off530 (k0_t1 : Fin k0_t1_loop.trips) (v3632_r0 : BitVec 32) (c0_i32_2052_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3633_r0 : BitVec 32 := Scalar.addi v3632_r0 v2149_r0
  let v3635_r0 : BitVec 32 := Scalar.addi v3633_r0 c0_i32_2052_r0
  let v3636_r0 : Index := Scalar.indexCast v3635_r0
  let c0_2053_r0 : Index := 0#32
  ![v3636_r0.toNat, 0]

def k0_chk317 (k0_t1 : Fin k0_t1_loop.trips) (v3632_r0 : BitVec 32) : Prop :=
  (∀ (r : Fin 2), ∀ a, S8x128.size a = 0 ∨ (k0_off530 k0_t1 v3632_r0 (BitVec.ofNat 32 (26632 * r.val))) a + (![3329, 1] : Fin 2 → Nat) a * (S8x128.size a - 1) < S106528x128.size a)
theorem k0_off530_inb : ∀ (k0_t1 : Fin k0_t1_loop.trips) (v3632_r0 : BitVec 32) (k0_hw317 : k0_chk317 k0_t1 v3632_r0), ∀ (r : Fin 2), ∀ a, S8x128.size a = 0 ∨ (k0_off530 k0_t1 v3632_r0 (BitVec.ofNat 32 (26632 * r.val))) a + (![3329, 1] : Fin 2 → Nat) a * (S8x128.size a - 1) < S106528x128.size a := fun k0_t1 v3632_r0 k0_hw317 r => k0_hw317 r

def k0_off531 (k0_t1 : Fin k0_t1_loop.trips) (v3645_r0 : BitVec 32) (c0_i32_2060_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3646_r0 : BitVec 32 := Scalar.addi v3645_r0 v2149_r0
  let v3648_r0 : BitVec 32 := Scalar.addi v3646_r0 c0_i32_2060_r0
  let v3649_r0 : Index := Scalar.indexCast v3648_r0
  let c0_2061_r0 : Index := 0#32
  ![v3649_r0.toNat, 0]

def k0_chk318 (k0_t1 : Fin k0_t1_loop.trips) (v3645_r0 : BitVec 32) : Prop :=
  (∀ (r : Fin 2), ∀ a, S8x128.size a = 0 ∨ (k0_off531 k0_t1 v3645_r0 (BitVec.ofNat 32 (26632 * r.val))) a + (![3329, 1] : Fin 2 → Nat) a * (S8x128.size a - 1) < S106528x128.size a)
theorem k0_off531_inb : ∀ (k0_t1 : Fin k0_t1_loop.trips) (v3645_r0 : BitVec 32) (k0_hw318 : k0_chk318 k0_t1 v3645_r0), ∀ (r : Fin 2), ∀ a, S8x128.size a = 0 ∨ (k0_off531 k0_t1 v3645_r0 (BitVec.ofNat 32 (26632 * r.val))) a + (![3329, 1] : Fin 2 → Nat) a * (S8x128.size a - 1) < S106528x128.size a := fun k0_t1 v3645_r0 k0_hw318 r => k0_hw318 r

def k0_off532 (k0_t1 : Fin k0_t1_loop.trips) (v3658_r0 : BitVec 32) (c0_i32_2068_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3659_r0 : BitVec 32 := Scalar.addi v3658_r0 v2149_r0
  let v3661_r0 : BitVec 32 := Scalar.addi v3659_r0 c0_i32_2068_r0
  let v3662_r0 : Index := Scalar.indexCast v3661_r0
  let c0_2069_r0 : Index := 0#32
  ![v3662_r0.toNat, 0]

def k0_chk319 (k0_t1 : Fin k0_t1_loop.trips) (v3658_r0 : BitVec 32) : Prop :=
  (∀ (r : Fin 2), ∀ a, S8x128.size a = 0 ∨ (k0_off532 k0_t1 v3658_r0 (BitVec.ofNat 32 (26632 * r.val))) a + (![3329, 1] : Fin 2 → Nat) a * (S8x128.size a - 1) < S106528x128.size a)
theorem k0_off532_inb : ∀ (k0_t1 : Fin k0_t1_loop.trips) (v3658_r0 : BitVec 32) (k0_hw319 : k0_chk319 k0_t1 v3658_r0), ∀ (r : Fin 2), ∀ a, S8x128.size a = 0 ∨ (k0_off532 k0_t1 v3658_r0 (BitVec.ofNat 32 (26632 * r.val))) a + (![3329, 1] : Fin 2 → Nat) a * (S8x128.size a - 1) < S106528x128.size a := fun k0_t1 v3658_r0 k0_hw319 r => k0_hw319 r

def k0_off533 (k0_t1 : Fin k0_t1_loop.trips) (v3671_r0 : BitVec 32) (c0_i32_2076_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3672_r0 : BitVec 32 := Scalar.addi v3671_r0 v2149_r0
  let v3674_r0 : BitVec 32 := Scalar.addi v3672_r0 c0_i32_2076_r0
  let v3675_r0 : Index := Scalar.indexCast v3674_r0
  let c0_2077_r0 : Index := 0#32
  ![v3675_r0.toNat, 0]

def k0_chk320 (k0_t1 : Fin k0_t1_loop.trips) (v3671_r0 : BitVec 32) : Prop :=
  (∀ (r : Fin 2), ∀ a, S8x128.size a = 0 ∨ (k0_off533 k0_t1 v3671_r0 (BitVec.ofNat 32 (26632 * r.val))) a + (![3329, 1] : Fin 2 → Nat) a * (S8x128.size a - 1) < S106528x128.size a)
theorem k0_off533_inb : ∀ (k0_t1 : Fin k0_t1_loop.trips) (v3671_r0 : BitVec 32) (k0_hw320 : k0_chk320 k0_t1 v3671_r0), ∀ (r : Fin 2), ∀ a, S8x128.size a = 0 ∨ (k0_off533 k0_t1 v3671_r0 (BitVec.ofNat 32 (26632 * r.val))) a + (![3329, 1] : Fin 2 → Nat) a * (S8x128.size a - 1) < S106528x128.size a := fun k0_t1 v3671_r0 k0_hw320 r => k0_hw320 r

def k0_off534 (k0_t1 : Fin k0_t1_loop.trips) (c0_i32_2081_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c15_i32_2080_r0 : BitVec 32 := 15#32
  let v3685_r0 : BitVec 32 := Scalar.addi v2137_r0 c15_i32_2080_r0
  let v3686_r0 : BitVec 32 := Scalar.addi v3685_r0 c0_i32_2081_r0
  let v3687_r0 : Index := Scalar.indexCast v3686_r0
  let c0_2082_r0 : Index := 0#32
  ![v3687_r0.toNat, 0]
def k0_off535 (k0_t1 : Fin k0_t1_loop.trips) (c264_i32_2086_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v3698_r0 : BitVec 32 := Scalar.addi v2136_r0 c264_i32_2086_r0
  let v3699_r0 : Index := Scalar.indexCast v3698_r0
  let c0_2087_r0 : Index := 0#32
  ![v3699_r0.toNat, 0]
def k0_off536 (k0_t1 : Fin k0_t1_loop.trips) (c8_i32_2099_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_2096_r0 : BitVec 32 := 104#32
  let v3728_r0 : BitVec 32 := Scalar.muli arg10_r0 c104_i32_2096_r0
  let c103_i32_2097_r0 : BitVec 32 := 103#32
  let v3729_r0 : BitVec 32 := Scalar.addi v3728_r0 c103_i32_2097_r0
  let c16_i32_2098_r0 : BitVec 32 := 16#32
  let v3730_r0 : BitVec 32 := Scalar.muli v3729_r0 c16_i32_2098_r0
  let v3731_r0 : BitVec 32 := Scalar.addi v3730_r0 c8_i32_2099_r0
  let v3732_r0 : Index := Scalar.indexCast v3731_r0
  let c0_2100_r0 : Index := 0#32
  ![v3732_r0.toNat, 0]
def k0_off537 (k0_t1 : Fin k0_t1_loop.trips) (v3821_r0 : BitVec 32) (c0_i32_2132_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3822_r0 : BitVec 32 := Scalar.addi v3821_r0 v2149_r0
  let v3824_r0 : BitVec 32 := Scalar.addi v3822_r0 c0_i32_2132_r0
  let v3825_r0 : Index := Scalar.indexCast v3824_r0
  let c0_2133_r0 : Index := 0#32
  ![v3825_r0.toNat, 0]

def k0_chk321 (k0_t1 : Fin k0_t1_loop.trips) (v3821_r0 : BitVec 32) : Prop :=
  (∀ (r : Fin 2), ∀ a, S8x128.size a = 0 ∨ (k0_off537 k0_t1 v3821_r0 (BitVec.ofNat 32 (26632 * r.val))) a + (![3329, 1] : Fin 2 → Nat) a * (S8x128.size a - 1) < S106528x128.size a)
theorem k0_off537_inb : ∀ (k0_t1 : Fin k0_t1_loop.trips) (v3821_r0 : BitVec 32) (k0_hw321 : k0_chk321 k0_t1 v3821_r0), ∀ (r : Fin 2), ∀ a, S8x128.size a = 0 ∨ (k0_off537 k0_t1 v3821_r0 (BitVec.ofNat 32 (26632 * r.val))) a + (![3329, 1] : Fin 2 → Nat) a * (S8x128.size a - 1) < S106528x128.size a := fun k0_t1 v3821_r0 k0_hw321 r => k0_hw321 r

def k0_off538 (k0_t1 : Fin k0_t1_loop.trips) (v3834_r0 : BitVec 32) (c0_i32_2140_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3835_r0 : BitVec 32 := Scalar.addi v3834_r0 v2149_r0
  let v3837_r0 : BitVec 32 := Scalar.addi v3835_r0 c0_i32_2140_r0
  let v3838_r0 : Index := Scalar.indexCast v3837_r0
  let c0_2141_r0 : Index := 0#32
  ![v3838_r0.toNat, 0]

def k0_chk322 (k0_t1 : Fin k0_t1_loop.trips) (v3834_r0 : BitVec 32) : Prop :=
  (∀ (r : Fin 2), ∀ a, S8x128.size a = 0 ∨ (k0_off538 k0_t1 v3834_r0 (BitVec.ofNat 32 (26632 * r.val))) a + (![3329, 1] : Fin 2 → Nat) a * (S8x128.size a - 1) < S106528x128.size a)
theorem k0_off538_inb : ∀ (k0_t1 : Fin k0_t1_loop.trips) (v3834_r0 : BitVec 32) (k0_hw322 : k0_chk322 k0_t1 v3834_r0), ∀ (r : Fin 2), ∀ a, S8x128.size a = 0 ∨ (k0_off538 k0_t1 v3834_r0 (BitVec.ofNat 32 (26632 * r.val))) a + (![3329, 1] : Fin 2 → Nat) a * (S8x128.size a - 1) < S106528x128.size a := fun k0_t1 v3834_r0 k0_hw322 r => k0_hw322 r

def k0_off539 (k0_t1 : Fin k0_t1_loop.trips) (v3847_r0 : BitVec 32) (c0_i32_2148_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3848_r0 : BitVec 32 := Scalar.addi v3847_r0 v2149_r0
  let v3850_r0 : BitVec 32 := Scalar.addi v3848_r0 c0_i32_2148_r0
  let v3851_r0 : Index := Scalar.indexCast v3850_r0
  let c0_2149_r0 : Index := 0#32
  ![v3851_r0.toNat, 0]

def k0_chk323 (k0_t1 : Fin k0_t1_loop.trips) (v3847_r0 : BitVec 32) : Prop :=
  (∀ (r : Fin 2), ∀ a, S8x128.size a = 0 ∨ (k0_off539 k0_t1 v3847_r0 (BitVec.ofNat 32 (26632 * r.val))) a + (![3329, 1] : Fin 2 → Nat) a * (S8x128.size a - 1) < S106528x128.size a)
theorem k0_off539_inb : ∀ (k0_t1 : Fin k0_t1_loop.trips) (v3847_r0 : BitVec 32) (k0_hw323 : k0_chk323 k0_t1 v3847_r0), ∀ (r : Fin 2), ∀ a, S8x128.size a = 0 ∨ (k0_off539 k0_t1 v3847_r0 (BitVec.ofNat 32 (26632 * r.val))) a + (![3329, 1] : Fin 2 → Nat) a * (S8x128.size a - 1) < S106528x128.size a := fun k0_t1 v3847_r0 k0_hw323 r => k0_hw323 r

def k0_off540 (k0_t1 : Fin k0_t1_loop.trips) (v3860_r0 : BitVec 32) (c0_i32_2156_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3861_r0 : BitVec 32 := Scalar.addi v3860_r0 v2149_r0
  let v3863_r0 : BitVec 32 := Scalar.addi v3861_r0 c0_i32_2156_r0
  let v3864_r0 : Index := Scalar.indexCast v3863_r0
  let c0_2157_r0 : Index := 0#32
  ![v3864_r0.toNat, 0]

def k0_chk324 (k0_t1 : Fin k0_t1_loop.trips) (v3860_r0 : BitVec 32) : Prop :=
  (∀ (r : Fin 2), ∀ a, S8x128.size a = 0 ∨ (k0_off540 k0_t1 v3860_r0 (BitVec.ofNat 32 (26632 * r.val))) a + (![3329, 1] : Fin 2 → Nat) a * (S8x128.size a - 1) < S106528x128.size a)
theorem k0_off540_inb : ∀ (k0_t1 : Fin k0_t1_loop.trips) (v3860_r0 : BitVec 32) (k0_hw324 : k0_chk324 k0_t1 v3860_r0), ∀ (r : Fin 2), ∀ a, S8x128.size a = 0 ∨ (k0_off540 k0_t1 v3860_r0 (BitVec.ofNat 32 (26632 * r.val))) a + (![3329, 1] : Fin 2 → Nat) a * (S8x128.size a - 1) < S106528x128.size a := fun k0_t1 v3860_r0 k0_hw324 r => k0_hw324 r

def k0_off541 (k0_t1 : Fin k0_t1_loop.trips) (c0_i32_2161_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c16_i32_2160_r0 : BitVec 32 := 16#32
  let v3874_r0 : BitVec 32 := Scalar.addi v2137_r0 c16_i32_2160_r0
  let v3875_r0 : BitVec 32 := Scalar.addi v3874_r0 c0_i32_2161_r0
  let v3876_r0 : Index := Scalar.indexCast v3875_r0
  let c0_2162_r0 : Index := 0#32
  ![v3876_r0.toNat, 0]
def k0_off542 (k0_t1 : Fin k0_t1_loop.trips) (v3887_r0 : BitVec 32) (c0_i32_2170_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3888_r0 : BitVec 32 := Scalar.addi v3887_r0 v2149_r0
  let v3890_r0 : BitVec 32 := Scalar.addi v3888_r0 c0_i32_2170_r0
  let v3891_r0 : Index := Scalar.indexCast v3890_r0
  let c0_2171_r0 : Index := 0#32
  ![v3891_r0.toNat, 0]

def k0_chk325 (k0_t1 : Fin k0_t1_loop.trips) (v3887_r0 : BitVec 32) : Prop :=
  (∀ (r : Fin 2), ∀ a, S8x128.size a = 0 ∨ (k0_off542 k0_t1 v3887_r0 (BitVec.ofNat 32 (26632 * r.val))) a + (![3329, 1] : Fin 2 → Nat) a * (S8x128.size a - 1) < S106528x128.size a)
theorem k0_off542_inb : ∀ (k0_t1 : Fin k0_t1_loop.trips) (v3887_r0 : BitVec 32) (k0_hw325 : k0_chk325 k0_t1 v3887_r0), ∀ (r : Fin 2), ∀ a, S8x128.size a = 0 ∨ (k0_off542 k0_t1 v3887_r0 (BitVec.ofNat 32 (26632 * r.val))) a + (![3329, 1] : Fin 2 → Nat) a * (S8x128.size a - 1) < S106528x128.size a := fun k0_t1 v3887_r0 k0_hw325 r => k0_hw325 r

def k0_off543 (k0_t1 : Fin k0_t1_loop.trips) (v3900_r0 : BitVec 32) (c0_i32_2178_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3901_r0 : BitVec 32 := Scalar.addi v3900_r0 v2149_r0
  let v3903_r0 : BitVec 32 := Scalar.addi v3901_r0 c0_i32_2178_r0
  let v3904_r0 : Index := Scalar.indexCast v3903_r0
  let c0_2179_r0 : Index := 0#32
  ![v3904_r0.toNat, 0]

def k0_chk326 (k0_t1 : Fin k0_t1_loop.trips) (v3900_r0 : BitVec 32) : Prop :=
  (∀ (r : Fin 2), ∀ a, S8x128.size a = 0 ∨ (k0_off543 k0_t1 v3900_r0 (BitVec.ofNat 32 (26632 * r.val))) a + (![3329, 1] : Fin 2 → Nat) a * (S8x128.size a - 1) < S106528x128.size a)
theorem k0_off543_inb : ∀ (k0_t1 : Fin k0_t1_loop.trips) (v3900_r0 : BitVec 32) (k0_hw326 : k0_chk326 k0_t1 v3900_r0), ∀ (r : Fin 2), ∀ a, S8x128.size a = 0 ∨ (k0_off543 k0_t1 v3900_r0 (BitVec.ofNat 32 (26632 * r.val))) a + (![3329, 1] : Fin 2 → Nat) a * (S8x128.size a - 1) < S106528x128.size a := fun k0_t1 v3900_r0 k0_hw326 r => k0_hw326 r

def k0_off544 (k0_t1 : Fin k0_t1_loop.trips) (v3913_r0 : BitVec 32) (c0_i32_2186_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3914_r0 : BitVec 32 := Scalar.addi v3913_r0 v2149_r0
  let v3916_r0 : BitVec 32 := Scalar.addi v3914_r0 c0_i32_2186_r0
  let v3917_r0 : Index := Scalar.indexCast v3916_r0
  let c0_2187_r0 : Index := 0#32
  ![v3917_r0.toNat, 0]

def k0_chk327 (k0_t1 : Fin k0_t1_loop.trips) (v3913_r0 : BitVec 32) : Prop :=
  (∀ (r : Fin 2), ∀ a, S8x128.size a = 0 ∨ (k0_off544 k0_t1 v3913_r0 (BitVec.ofNat 32 (26632 * r.val))) a + (![3329, 1] : Fin 2 → Nat) a * (S8x128.size a - 1) < S106528x128.size a)
theorem k0_off544_inb : ∀ (k0_t1 : Fin k0_t1_loop.trips) (v3913_r0 : BitVec 32) (k0_hw327 : k0_chk327 k0_t1 v3913_r0), ∀ (r : Fin 2), ∀ a, S8x128.size a = 0 ∨ (k0_off544 k0_t1 v3913_r0 (BitVec.ofNat 32 (26632 * r.val))) a + (![3329, 1] : Fin 2 → Nat) a * (S8x128.size a - 1) < S106528x128.size a := fun k0_t1 v3913_r0 k0_hw327 r => k0_hw327 r

def k0_off545 (k0_t1 : Fin k0_t1_loop.trips) (v3926_r0 : BitVec 32) (c0_i32_2194_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3927_r0 : BitVec 32 := Scalar.addi v3926_r0 v2149_r0
  let v3929_r0 : BitVec 32 := Scalar.addi v3927_r0 c0_i32_2194_r0
  let v3930_r0 : Index := Scalar.indexCast v3929_r0
  let c0_2195_r0 : Index := 0#32
  ![v3930_r0.toNat, 0]

def k0_chk328 (k0_t1 : Fin k0_t1_loop.trips) (v3926_r0 : BitVec 32) : Prop :=
  (∀ (r : Fin 2), ∀ a, S8x128.size a = 0 ∨ (k0_off545 k0_t1 v3926_r0 (BitVec.ofNat 32 (26632 * r.val))) a + (![3329, 1] : Fin 2 → Nat) a * (S8x128.size a - 1) < S106528x128.size a)
theorem k0_off545_inb : ∀ (k0_t1 : Fin k0_t1_loop.trips) (v3926_r0 : BitVec 32) (k0_hw328 : k0_chk328 k0_t1 v3926_r0), ∀ (r : Fin 2), ∀ a, S8x128.size a = 0 ∨ (k0_off545 k0_t1 v3926_r0 (BitVec.ofNat 32 (26632 * r.val))) a + (![3329, 1] : Fin 2 → Nat) a * (S8x128.size a - 1) < S106528x128.size a := fun k0_t1 v3926_r0 k0_hw328 r => k0_hw328 r

def k0_off546 (k0_t1 : Fin k0_t1_loop.trips) (c0_i32_2198_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c17_i32_r0 : BitVec 32 := 17#32
  let v3940_r0 : BitVec 32 := Scalar.addi v2137_r0 c17_i32_r0
  let v3941_r0 : BitVec 32 := Scalar.addi v3940_r0 c0_i32_2198_r0
  let v3942_r0 : Index := Scalar.indexCast v3941_r0
  let c0_2199_r0 : Index := 0#32
  ![v3942_r0.toNat, 0]
def k0_off547 (k0_t1 : Fin k0_t1_loop.trips) (v3953_r0 : BitVec 32) (c0_i32_2207_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3954_r0 : BitVec 32 := Scalar.addi v3953_r0 v2149_r0
  let v3956_r0 : BitVec 32 := Scalar.addi v3954_r0 c0_i32_2207_r0
  let v3957_r0 : Index := Scalar.indexCast v3956_r0
  let c0_2208_r0 : Index := 0#32
  ![v3957_r0.toNat, 0]

def k0_chk329 (k0_t1 : Fin k0_t1_loop.trips) (v3953_r0 : BitVec 32) : Prop :=
  (∀ (r : Fin 2), ∀ a, S8x128.size a = 0 ∨ (k0_off547 k0_t1 v3953_r0 (BitVec.ofNat 32 (26632 * r.val))) a + (![3329, 1] : Fin 2 → Nat) a * (S8x128.size a - 1) < S106528x128.size a)
theorem k0_off547_inb : ∀ (k0_t1 : Fin k0_t1_loop.trips) (v3953_r0 : BitVec 32) (k0_hw329 : k0_chk329 k0_t1 v3953_r0), ∀ (r : Fin 2), ∀ a, S8x128.size a = 0 ∨ (k0_off547 k0_t1 v3953_r0 (BitVec.ofNat 32 (26632 * r.val))) a + (![3329, 1] : Fin 2 → Nat) a * (S8x128.size a - 1) < S106528x128.size a := fun k0_t1 v3953_r0 k0_hw329 r => k0_hw329 r

def k0_off548 (k0_t1 : Fin k0_t1_loop.trips) (v3966_r0 : BitVec 32) (c0_i32_2215_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3967_r0 : BitVec 32 := Scalar.addi v3966_r0 v2149_r0
  let v3969_r0 : BitVec 32 := Scalar.addi v3967_r0 c0_i32_2215_r0
  let v3970_r0 : Index := Scalar.indexCast v3969_r0
  let c0_2216_r0 : Index := 0#32
  ![v3970_r0.toNat, 0]

def k0_chk330 (k0_t1 : Fin k0_t1_loop.trips) (v3966_r0 : BitVec 32) : Prop :=
  (∀ (r : Fin 2), ∀ a, S8x128.size a = 0 ∨ (k0_off548 k0_t1 v3966_r0 (BitVec.ofNat 32 (26632 * r.val))) a + (![3329, 1] : Fin 2 → Nat) a * (S8x128.size a - 1) < S106528x128.size a)
theorem k0_off548_inb : ∀ (k0_t1 : Fin k0_t1_loop.trips) (v3966_r0 : BitVec 32) (k0_hw330 : k0_chk330 k0_t1 v3966_r0), ∀ (r : Fin 2), ∀ a, S8x128.size a = 0 ∨ (k0_off548 k0_t1 v3966_r0 (BitVec.ofNat 32 (26632 * r.val))) a + (![3329, 1] : Fin 2 → Nat) a * (S8x128.size a - 1) < S106528x128.size a := fun k0_t1 v3966_r0 k0_hw330 r => k0_hw330 r

def k0_off549 (k0_t1 : Fin k0_t1_loop.trips) (v3979_r0 : BitVec 32) (c0_i32_2223_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3980_r0 : BitVec 32 := Scalar.addi v3979_r0 v2149_r0
  let v3982_r0 : BitVec 32 := Scalar.addi v3980_r0 c0_i32_2223_r0
  let v3983_r0 : Index := Scalar.indexCast v3982_r0
  let c0_2224_r0 : Index := 0#32
  ![v3983_r0.toNat, 0]

def k0_chk331 (k0_t1 : Fin k0_t1_loop.trips) (v3979_r0 : BitVec 32) : Prop :=
  (∀ (r : Fin 2), ∀ a, S8x128.size a = 0 ∨ (k0_off549 k0_t1 v3979_r0 (BitVec.ofNat 32 (26632 * r.val))) a + (![3329, 1] : Fin 2 → Nat) a * (S8x128.size a - 1) < S106528x128.size a)
theorem k0_off549_inb : ∀ (k0_t1 : Fin k0_t1_loop.trips) (v3979_r0 : BitVec 32) (k0_hw331 : k0_chk331 k0_t1 v3979_r0), ∀ (r : Fin 2), ∀ a, S8x128.size a = 0 ∨ (k0_off549 k0_t1 v3979_r0 (BitVec.ofNat 32 (26632 * r.val))) a + (![3329, 1] : Fin 2 → Nat) a * (S8x128.size a - 1) < S106528x128.size a := fun k0_t1 v3979_r0 k0_hw331 r => k0_hw331 r

def k0_off550 (k0_t1 : Fin k0_t1_loop.trips) (v3992_r0 : BitVec 32) (c0_i32_2231_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v3993_r0 : BitVec 32 := Scalar.addi v3992_r0 v2149_r0
  let v3995_r0 : BitVec 32 := Scalar.addi v3993_r0 c0_i32_2231_r0
  let v3996_r0 : Index := Scalar.indexCast v3995_r0
  let c0_2232_r0 : Index := 0#32
  ![v3996_r0.toNat, 0]

def k0_chk332 (k0_t1 : Fin k0_t1_loop.trips) (v3992_r0 : BitVec 32) : Prop :=
  (∀ (r : Fin 2), ∀ a, S8x128.size a = 0 ∨ (k0_off550 k0_t1 v3992_r0 (BitVec.ofNat 32 (26632 * r.val))) a + (![3329, 1] : Fin 2 → Nat) a * (S8x128.size a - 1) < S106528x128.size a)
theorem k0_off550_inb : ∀ (k0_t1 : Fin k0_t1_loop.trips) (v3992_r0 : BitVec 32) (k0_hw332 : k0_chk332 k0_t1 v3992_r0), ∀ (r : Fin 2), ∀ a, S8x128.size a = 0 ∨ (k0_off550 k0_t1 v3992_r0 (BitVec.ofNat 32 (26632 * r.val))) a + (![3329, 1] : Fin 2 → Nat) a * (S8x128.size a - 1) < S106528x128.size a := fun k0_t1 v3992_r0 k0_hw332 r => k0_hw332 r

def k0_off551 (k0_t1 : Fin k0_t1_loop.trips) (c0_i32_2235_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c18_i32_r0 : BitVec 32 := 18#32
  let v4006_r0 : BitVec 32 := Scalar.addi v2137_r0 c18_i32_r0
  let v4007_r0 : BitVec 32 := Scalar.addi v4006_r0 c0_i32_2235_r0
  let v4008_r0 : Index := Scalar.indexCast v4007_r0
  let c0_2236_r0 : Index := 0#32
  ![v4008_r0.toNat, 0]
def k0_off552 (k0_t1 : Fin k0_t1_loop.trips) (v4019_r0 : BitVec 32) (c0_i32_2244_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4020_r0 : BitVec 32 := Scalar.addi v4019_r0 v2149_r0
  let v4022_r0 : BitVec 32 := Scalar.addi v4020_r0 c0_i32_2244_r0
  let v4023_r0 : Index := Scalar.indexCast v4022_r0
  let c0_2245_r0 : Index := 0#32
  ![v4023_r0.toNat, 0]

def k0_chk333 (k0_t1 : Fin k0_t1_loop.trips) (v4019_r0 : BitVec 32) : Prop :=
  (∀ (r : Fin 2), ∀ a, S8x128.size a = 0 ∨ (k0_off552 k0_t1 v4019_r0 (BitVec.ofNat 32 (26632 * r.val))) a + (![3329, 1] : Fin 2 → Nat) a * (S8x128.size a - 1) < S106528x128.size a)
theorem k0_off552_inb : ∀ (k0_t1 : Fin k0_t1_loop.trips) (v4019_r0 : BitVec 32) (k0_hw333 : k0_chk333 k0_t1 v4019_r0), ∀ (r : Fin 2), ∀ a, S8x128.size a = 0 ∨ (k0_off552 k0_t1 v4019_r0 (BitVec.ofNat 32 (26632 * r.val))) a + (![3329, 1] : Fin 2 → Nat) a * (S8x128.size a - 1) < S106528x128.size a := fun k0_t1 v4019_r0 k0_hw333 r => k0_hw333 r

def k0_off553 (k0_t1 : Fin k0_t1_loop.trips) (v4032_r0 : BitVec 32) (c0_i32_2252_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4033_r0 : BitVec 32 := Scalar.addi v4032_r0 v2149_r0
  let v4035_r0 : BitVec 32 := Scalar.addi v4033_r0 c0_i32_2252_r0
  let v4036_r0 : Index := Scalar.indexCast v4035_r0
  let c0_2253_r0 : Index := 0#32
  ![v4036_r0.toNat, 0]

def k0_chk334 (k0_t1 : Fin k0_t1_loop.trips) (v4032_r0 : BitVec 32) : Prop :=
  (∀ (r : Fin 2), ∀ a, S8x128.size a = 0 ∨ (k0_off553 k0_t1 v4032_r0 (BitVec.ofNat 32 (26632 * r.val))) a + (![3329, 1] : Fin 2 → Nat) a * (S8x128.size a - 1) < S106528x128.size a)
theorem k0_off553_inb : ∀ (k0_t1 : Fin k0_t1_loop.trips) (v4032_r0 : BitVec 32) (k0_hw334 : k0_chk334 k0_t1 v4032_r0), ∀ (r : Fin 2), ∀ a, S8x128.size a = 0 ∨ (k0_off553 k0_t1 v4032_r0 (BitVec.ofNat 32 (26632 * r.val))) a + (![3329, 1] : Fin 2 → Nat) a * (S8x128.size a - 1) < S106528x128.size a := fun k0_t1 v4032_r0 k0_hw334 r => k0_hw334 r

def k0_off554 (k0_t1 : Fin k0_t1_loop.trips) (v4045_r0 : BitVec 32) (c0_i32_2260_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4046_r0 : BitVec 32 := Scalar.addi v4045_r0 v2149_r0
  let v4048_r0 : BitVec 32 := Scalar.addi v4046_r0 c0_i32_2260_r0
  let v4049_r0 : Index := Scalar.indexCast v4048_r0
  let c0_2261_r0 : Index := 0#32
  ![v4049_r0.toNat, 0]

def k0_chk335 (k0_t1 : Fin k0_t1_loop.trips) (v4045_r0 : BitVec 32) : Prop :=
  (∀ (r : Fin 2), ∀ a, S8x128.size a = 0 ∨ (k0_off554 k0_t1 v4045_r0 (BitVec.ofNat 32 (26632 * r.val))) a + (![3329, 1] : Fin 2 → Nat) a * (S8x128.size a - 1) < S106528x128.size a)
theorem k0_off554_inb : ∀ (k0_t1 : Fin k0_t1_loop.trips) (v4045_r0 : BitVec 32) (k0_hw335 : k0_chk335 k0_t1 v4045_r0), ∀ (r : Fin 2), ∀ a, S8x128.size a = 0 ∨ (k0_off554 k0_t1 v4045_r0 (BitVec.ofNat 32 (26632 * r.val))) a + (![3329, 1] : Fin 2 → Nat) a * (S8x128.size a - 1) < S106528x128.size a := fun k0_t1 v4045_r0 k0_hw335 r => k0_hw335 r

def k0_off555 (k0_t1 : Fin k0_t1_loop.trips) (v4058_r0 : BitVec 32) (c0_i32_2268_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4059_r0 : BitVec 32 := Scalar.addi v4058_r0 v2149_r0
  let v4061_r0 : BitVec 32 := Scalar.addi v4059_r0 c0_i32_2268_r0
  let v4062_r0 : Index := Scalar.indexCast v4061_r0
  let c0_2269_r0 : Index := 0#32
  ![v4062_r0.toNat, 0]

def k0_chk336 (k0_t1 : Fin k0_t1_loop.trips) (v4058_r0 : BitVec 32) : Prop :=
  (∀ (r : Fin 2), ∀ a, S8x128.size a = 0 ∨ (k0_off555 k0_t1 v4058_r0 (BitVec.ofNat 32 (26632 * r.val))) a + (![3329, 1] : Fin 2 → Nat) a * (S8x128.size a - 1) < S106528x128.size a)
theorem k0_off555_inb : ∀ (k0_t1 : Fin k0_t1_loop.trips) (v4058_r0 : BitVec 32) (k0_hw336 : k0_chk336 k0_t1 v4058_r0), ∀ (r : Fin 2), ∀ a, S8x128.size a = 0 ∨ (k0_off555 k0_t1 v4058_r0 (BitVec.ofNat 32 (26632 * r.val))) a + (![3329, 1] : Fin 2 → Nat) a * (S8x128.size a - 1) < S106528x128.size a := fun k0_t1 v4058_r0 k0_hw336 r => k0_hw336 r

def k0_off556 (k0_t1 : Fin k0_t1_loop.trips) (c0_i32_2272_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c19_i32_r0 : BitVec 32 := 19#32
  let v4072_r0 : BitVec 32 := Scalar.addi v2137_r0 c19_i32_r0
  let v4073_r0 : BitVec 32 := Scalar.addi v4072_r0 c0_i32_2272_r0
  let v4074_r0 : Index := Scalar.indexCast v4073_r0
  let c0_2273_r0 : Index := 0#32
  ![v4074_r0.toNat, 0]
def k0_off557 (k0_t1 : Fin k0_t1_loop.trips) (c330_i32_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v4085_r0 : BitVec 32 := Scalar.addi v2136_r0 c330_i32_r0
  let v4086_r0 : Index := Scalar.indexCast v4085_r0
  let c0_2277_r0 : Index := 0#32
  ![v4086_r0.toNat, 0]
def k0_off558 (k0_t1 : Fin k0_t1_loop.trips) (c10_i32_2289_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_2286_r0 : BitVec 32 := 104#32
  let v4115_r0 : BitVec 32 := Scalar.muli arg10_r0 c104_i32_2286_r0
  let c103_i32_2287_r0 : BitVec 32 := 103#32
  let v4116_r0 : BitVec 32 := Scalar.addi v4115_r0 c103_i32_2287_r0
  let c16_i32_2288_r0 : BitVec 32 := 16#32
  let v4117_r0 : BitVec 32 := Scalar.muli v4116_r0 c16_i32_2288_r0
  let v4118_r0 : BitVec 32 := Scalar.addi v4117_r0 c10_i32_2289_r0
  let v4119_r0 : Index := Scalar.indexCast v4118_r0
  let c0_2290_r0 : Index := 0#32
  ![v4119_r0.toNat, 0]
def k0_off559 (k0_t1 : Fin k0_t1_loop.trips) (v4208_r0 : BitVec 32) (c0_i32_2322_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4209_r0 : BitVec 32 := Scalar.addi v4208_r0 v2149_r0
  let v4211_r0 : BitVec 32 := Scalar.addi v4209_r0 c0_i32_2322_r0
  let v4212_r0 : Index := Scalar.indexCast v4211_r0
  let c0_2323_r0 : Index := 0#32
  ![v4212_r0.toNat, 0]

def k0_chk337 (k0_t1 : Fin k0_t1_loop.trips) (v4208_r0 : BitVec 32) : Prop :=
  (∀ (r : Fin 2), ∀ a, S8x128.size a = 0 ∨ (k0_off559 k0_t1 v4208_r0 (BitVec.ofNat 32 (26632 * r.val))) a + (![3329, 1] : Fin 2 → Nat) a * (S8x128.size a - 1) < S106528x128.size a)
theorem k0_off559_inb : ∀ (k0_t1 : Fin k0_t1_loop.trips) (v4208_r0 : BitVec 32) (k0_hw337 : k0_chk337 k0_t1 v4208_r0), ∀ (r : Fin 2), ∀ a, S8x128.size a = 0 ∨ (k0_off559 k0_t1 v4208_r0 (BitVec.ofNat 32 (26632 * r.val))) a + (![3329, 1] : Fin 2 → Nat) a * (S8x128.size a - 1) < S106528x128.size a := fun k0_t1 v4208_r0 k0_hw337 r => k0_hw337 r

def k0_off560 (k0_t1 : Fin k0_t1_loop.trips) (v4221_r0 : BitVec 32) (c0_i32_2330_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4222_r0 : BitVec 32 := Scalar.addi v4221_r0 v2149_r0
  let v4224_r0 : BitVec 32 := Scalar.addi v4222_r0 c0_i32_2330_r0
  let v4225_r0 : Index := Scalar.indexCast v4224_r0
  let c0_2331_r0 : Index := 0#32
  ![v4225_r0.toNat, 0]

def k0_chk338 (k0_t1 : Fin k0_t1_loop.trips) (v4221_r0 : BitVec 32) : Prop :=
  (∀ (r : Fin 2), ∀ a, S8x128.size a = 0 ∨ (k0_off560 k0_t1 v4221_r0 (BitVec.ofNat 32 (26632 * r.val))) a + (![3329, 1] : Fin 2 → Nat) a * (S8x128.size a - 1) < S106528x128.size a)
theorem k0_off560_inb : ∀ (k0_t1 : Fin k0_t1_loop.trips) (v4221_r0 : BitVec 32) (k0_hw338 : k0_chk338 k0_t1 v4221_r0), ∀ (r : Fin 2), ∀ a, S8x128.size a = 0 ∨ (k0_off560 k0_t1 v4221_r0 (BitVec.ofNat 32 (26632 * r.val))) a + (![3329, 1] : Fin 2 → Nat) a * (S8x128.size a - 1) < S106528x128.size a := fun k0_t1 v4221_r0 k0_hw338 r => k0_hw338 r

def k0_off561 (k0_t1 : Fin k0_t1_loop.trips) (v4234_r0 : BitVec 32) (c0_i32_2338_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4235_r0 : BitVec 32 := Scalar.addi v4234_r0 v2149_r0
  let v4237_r0 : BitVec 32 := Scalar.addi v4235_r0 c0_i32_2338_r0
  let v4238_r0 : Index := Scalar.indexCast v4237_r0
  let c0_2339_r0 : Index := 0#32
  ![v4238_r0.toNat, 0]

def k0_chk339 (k0_t1 : Fin k0_t1_loop.trips) (v4234_r0 : BitVec 32) : Prop :=
  (∀ (r : Fin 2), ∀ a, S8x128.size a = 0 ∨ (k0_off561 k0_t1 v4234_r0 (BitVec.ofNat 32 (26632 * r.val))) a + (![3329, 1] : Fin 2 → Nat) a * (S8x128.size a - 1) < S106528x128.size a)
theorem k0_off561_inb : ∀ (k0_t1 : Fin k0_t1_loop.trips) (v4234_r0 : BitVec 32) (k0_hw339 : k0_chk339 k0_t1 v4234_r0), ∀ (r : Fin 2), ∀ a, S8x128.size a = 0 ∨ (k0_off561 k0_t1 v4234_r0 (BitVec.ofNat 32 (26632 * r.val))) a + (![3329, 1] : Fin 2 → Nat) a * (S8x128.size a - 1) < S106528x128.size a := fun k0_t1 v4234_r0 k0_hw339 r => k0_hw339 r

def k0_off562 (k0_t1 : Fin k0_t1_loop.trips) (v4247_r0 : BitVec 32) (c0_i32_2346_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4248_r0 : BitVec 32 := Scalar.addi v4247_r0 v2149_r0
  let v4250_r0 : BitVec 32 := Scalar.addi v4248_r0 c0_i32_2346_r0
  let v4251_r0 : Index := Scalar.indexCast v4250_r0
  let c0_2347_r0 : Index := 0#32
  ![v4251_r0.toNat, 0]

def k0_chk340 (k0_t1 : Fin k0_t1_loop.trips) (v4247_r0 : BitVec 32) : Prop :=
  (∀ (r : Fin 2), ∀ a, S8x128.size a = 0 ∨ (k0_off562 k0_t1 v4247_r0 (BitVec.ofNat 32 (26632 * r.val))) a + (![3329, 1] : Fin 2 → Nat) a * (S8x128.size a - 1) < S106528x128.size a)
theorem k0_off562_inb : ∀ (k0_t1 : Fin k0_t1_loop.trips) (v4247_r0 : BitVec 32) (k0_hw340 : k0_chk340 k0_t1 v4247_r0), ∀ (r : Fin 2), ∀ a, S8x128.size a = 0 ∨ (k0_off562 k0_t1 v4247_r0 (BitVec.ofNat 32 (26632 * r.val))) a + (![3329, 1] : Fin 2 → Nat) a * (S8x128.size a - 1) < S106528x128.size a := fun k0_t1 v4247_r0 k0_hw340 r => k0_hw340 r

def k0_off563 (k0_t1 : Fin k0_t1_loop.trips) (c0_i32_2350_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c20_i32_r0 : BitVec 32 := 20#32
  let v4261_r0 : BitVec 32 := Scalar.addi v2137_r0 c20_i32_r0
  let v4262_r0 : BitVec 32 := Scalar.addi v4261_r0 c0_i32_2350_r0
  let v4263_r0 : Index := Scalar.indexCast v4262_r0
  let c0_2351_r0 : Index := 0#32
  ![v4263_r0.toNat, 0]
def k0_off564 (k0_t1 : Fin k0_t1_loop.trips) (v4274_r0 : BitVec 32) (c0_i32_2359_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4275_r0 : BitVec 32 := Scalar.addi v4274_r0 v2149_r0
  let v4277_r0 : BitVec 32 := Scalar.addi v4275_r0 c0_i32_2359_r0
  let v4278_r0 : Index := Scalar.indexCast v4277_r0
  let c0_2360_r0 : Index := 0#32
  ![v4278_r0.toNat, 0]

def k0_chk341 (k0_t1 : Fin k0_t1_loop.trips) (v4274_r0 : BitVec 32) : Prop :=
  (∀ (r : Fin 2), ∀ a, S8x128.size a = 0 ∨ (k0_off564 k0_t1 v4274_r0 (BitVec.ofNat 32 (26632 * r.val))) a + (![3329, 1] : Fin 2 → Nat) a * (S8x128.size a - 1) < S106528x128.size a)
theorem k0_off564_inb : ∀ (k0_t1 : Fin k0_t1_loop.trips) (v4274_r0 : BitVec 32) (k0_hw341 : k0_chk341 k0_t1 v4274_r0), ∀ (r : Fin 2), ∀ a, S8x128.size a = 0 ∨ (k0_off564 k0_t1 v4274_r0 (BitVec.ofNat 32 (26632 * r.val))) a + (![3329, 1] : Fin 2 → Nat) a * (S8x128.size a - 1) < S106528x128.size a := fun k0_t1 v4274_r0 k0_hw341 r => k0_hw341 r

def k0_off565 (k0_t1 : Fin k0_t1_loop.trips) (v4287_r0 : BitVec 32) (c0_i32_2367_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4288_r0 : BitVec 32 := Scalar.addi v4287_r0 v2149_r0
  let v4290_r0 : BitVec 32 := Scalar.addi v4288_r0 c0_i32_2367_r0
  let v4291_r0 : Index := Scalar.indexCast v4290_r0
  let c0_2368_r0 : Index := 0#32
  ![v4291_r0.toNat, 0]

def k0_chk342 (k0_t1 : Fin k0_t1_loop.trips) (v4287_r0 : BitVec 32) : Prop :=
  (∀ (r : Fin 2), ∀ a, S8x128.size a = 0 ∨ (k0_off565 k0_t1 v4287_r0 (BitVec.ofNat 32 (26632 * r.val))) a + (![3329, 1] : Fin 2 → Nat) a * (S8x128.size a - 1) < S106528x128.size a)
theorem k0_off565_inb : ∀ (k0_t1 : Fin k0_t1_loop.trips) (v4287_r0 : BitVec 32) (k0_hw342 : k0_chk342 k0_t1 v4287_r0), ∀ (r : Fin 2), ∀ a, S8x128.size a = 0 ∨ (k0_off565 k0_t1 v4287_r0 (BitVec.ofNat 32 (26632 * r.val))) a + (![3329, 1] : Fin 2 → Nat) a * (S8x128.size a - 1) < S106528x128.size a := fun k0_t1 v4287_r0 k0_hw342 r => k0_hw342 r

def k0_off566 (k0_t1 : Fin k0_t1_loop.trips) (v4300_r0 : BitVec 32) (c0_i32_2375_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4301_r0 : BitVec 32 := Scalar.addi v4300_r0 v2149_r0
  let v4303_r0 : BitVec 32 := Scalar.addi v4301_r0 c0_i32_2375_r0
  let v4304_r0 : Index := Scalar.indexCast v4303_r0
  let c0_2376_r0 : Index := 0#32
  ![v4304_r0.toNat, 0]

def k0_chk343 (k0_t1 : Fin k0_t1_loop.trips) (v4300_r0 : BitVec 32) : Prop :=
  (∀ (r : Fin 2), ∀ a, S8x128.size a = 0 ∨ (k0_off566 k0_t1 v4300_r0 (BitVec.ofNat 32 (26632 * r.val))) a + (![3329, 1] : Fin 2 → Nat) a * (S8x128.size a - 1) < S106528x128.size a)
theorem k0_off566_inb : ∀ (k0_t1 : Fin k0_t1_loop.trips) (v4300_r0 : BitVec 32) (k0_hw343 : k0_chk343 k0_t1 v4300_r0), ∀ (r : Fin 2), ∀ a, S8x128.size a = 0 ∨ (k0_off566 k0_t1 v4300_r0 (BitVec.ofNat 32 (26632 * r.val))) a + (![3329, 1] : Fin 2 → Nat) a * (S8x128.size a - 1) < S106528x128.size a := fun k0_t1 v4300_r0 k0_hw343 r => k0_hw343 r

def k0_off567 (k0_t1 : Fin k0_t1_loop.trips) (v4313_r0 : BitVec 32) (c0_i32_2383_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4314_r0 : BitVec 32 := Scalar.addi v4313_r0 v2149_r0
  let v4316_r0 : BitVec 32 := Scalar.addi v4314_r0 c0_i32_2383_r0
  let v4317_r0 : Index := Scalar.indexCast v4316_r0
  let c0_2384_r0 : Index := 0#32
  ![v4317_r0.toNat, 0]

def k0_chk344 (k0_t1 : Fin k0_t1_loop.trips) (v4313_r0 : BitVec 32) : Prop :=
  (∀ (r : Fin 2), ∀ a, S8x128.size a = 0 ∨ (k0_off567 k0_t1 v4313_r0 (BitVec.ofNat 32 (26632 * r.val))) a + (![3329, 1] : Fin 2 → Nat) a * (S8x128.size a - 1) < S106528x128.size a)
theorem k0_off567_inb : ∀ (k0_t1 : Fin k0_t1_loop.trips) (v4313_r0 : BitVec 32) (k0_hw344 : k0_chk344 k0_t1 v4313_r0), ∀ (r : Fin 2), ∀ a, S8x128.size a = 0 ∨ (k0_off567 k0_t1 v4313_r0 (BitVec.ofNat 32 (26632 * r.val))) a + (![3329, 1] : Fin 2 → Nat) a * (S8x128.size a - 1) < S106528x128.size a := fun k0_t1 v4313_r0 k0_hw344 r => k0_hw344 r

def k0_off568 (k0_t1 : Fin k0_t1_loop.trips) (c0_i32_2387_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c21_i32_r0 : BitVec 32 := 21#32
  let v4327_r0 : BitVec 32 := Scalar.addi v2137_r0 c21_i32_r0
  let v4328_r0 : BitVec 32 := Scalar.addi v4327_r0 c0_i32_2387_r0
  let v4329_r0 : Index := Scalar.indexCast v4328_r0
  let c0_2388_r0 : Index := 0#32
  ![v4329_r0.toNat, 0]
def k0_off569 (k0_t1 : Fin k0_t1_loop.trips) (v4340_r0 : BitVec 32) (c0_i32_2396_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4341_r0 : BitVec 32 := Scalar.addi v4340_r0 v2149_r0
  let v4343_r0 : BitVec 32 := Scalar.addi v4341_r0 c0_i32_2396_r0
  let v4344_r0 : Index := Scalar.indexCast v4343_r0
  let c0_2397_r0 : Index := 0#32
  ![v4344_r0.toNat, 0]

def k0_chk345 (k0_t1 : Fin k0_t1_loop.trips) (v4340_r0 : BitVec 32) : Prop :=
  (∀ (r : Fin 2), ∀ a, S8x128.size a = 0 ∨ (k0_off569 k0_t1 v4340_r0 (BitVec.ofNat 32 (26632 * r.val))) a + (![3329, 1] : Fin 2 → Nat) a * (S8x128.size a - 1) < S106528x128.size a)
theorem k0_off569_inb : ∀ (k0_t1 : Fin k0_t1_loop.trips) (v4340_r0 : BitVec 32) (k0_hw345 : k0_chk345 k0_t1 v4340_r0), ∀ (r : Fin 2), ∀ a, S8x128.size a = 0 ∨ (k0_off569 k0_t1 v4340_r0 (BitVec.ofNat 32 (26632 * r.val))) a + (![3329, 1] : Fin 2 → Nat) a * (S8x128.size a - 1) < S106528x128.size a := fun k0_t1 v4340_r0 k0_hw345 r => k0_hw345 r

def k0_off570 (k0_t1 : Fin k0_t1_loop.trips) (v4353_r0 : BitVec 32) (c0_i32_2404_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4354_r0 : BitVec 32 := Scalar.addi v4353_r0 v2149_r0
  let v4356_r0 : BitVec 32 := Scalar.addi v4354_r0 c0_i32_2404_r0
  let v4357_r0 : Index := Scalar.indexCast v4356_r0
  let c0_2405_r0 : Index := 0#32
  ![v4357_r0.toNat, 0]

def k0_chk346 (k0_t1 : Fin k0_t1_loop.trips) (v4353_r0 : BitVec 32) : Prop :=
  (∀ (r : Fin 2), ∀ a, S8x128.size a = 0 ∨ (k0_off570 k0_t1 v4353_r0 (BitVec.ofNat 32 (26632 * r.val))) a + (![3329, 1] : Fin 2 → Nat) a * (S8x128.size a - 1) < S106528x128.size a)
theorem k0_off570_inb : ∀ (k0_t1 : Fin k0_t1_loop.trips) (v4353_r0 : BitVec 32) (k0_hw346 : k0_chk346 k0_t1 v4353_r0), ∀ (r : Fin 2), ∀ a, S8x128.size a = 0 ∨ (k0_off570 k0_t1 v4353_r0 (BitVec.ofNat 32 (26632 * r.val))) a + (![3329, 1] : Fin 2 → Nat) a * (S8x128.size a - 1) < S106528x128.size a := fun k0_t1 v4353_r0 k0_hw346 r => k0_hw346 r

def k0_off571 (k0_t1 : Fin k0_t1_loop.trips) (v4366_r0 : BitVec 32) (c0_i32_2412_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4367_r0 : BitVec 32 := Scalar.addi v4366_r0 v2149_r0
  let v4369_r0 : BitVec 32 := Scalar.addi v4367_r0 c0_i32_2412_r0
  let v4370_r0 : Index := Scalar.indexCast v4369_r0
  let c0_2413_r0 : Index := 0#32
  ![v4370_r0.toNat, 0]

def k0_chk347 (k0_t1 : Fin k0_t1_loop.trips) (v4366_r0 : BitVec 32) : Prop :=
  (∀ (r : Fin 2), ∀ a, S8x128.size a = 0 ∨ (k0_off571 k0_t1 v4366_r0 (BitVec.ofNat 32 (26632 * r.val))) a + (![3329, 1] : Fin 2 → Nat) a * (S8x128.size a - 1) < S106528x128.size a)
theorem k0_off571_inb : ∀ (k0_t1 : Fin k0_t1_loop.trips) (v4366_r0 : BitVec 32) (k0_hw347 : k0_chk347 k0_t1 v4366_r0), ∀ (r : Fin 2), ∀ a, S8x128.size a = 0 ∨ (k0_off571 k0_t1 v4366_r0 (BitVec.ofNat 32 (26632 * r.val))) a + (![3329, 1] : Fin 2 → Nat) a * (S8x128.size a - 1) < S106528x128.size a := fun k0_t1 v4366_r0 k0_hw347 r => k0_hw347 r

def k0_off572 (k0_t1 : Fin k0_t1_loop.trips) (v4379_r0 : BitVec 32) (c0_i32_2420_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4380_r0 : BitVec 32 := Scalar.addi v4379_r0 v2149_r0
  let v4382_r0 : BitVec 32 := Scalar.addi v4380_r0 c0_i32_2420_r0
  let v4383_r0 : Index := Scalar.indexCast v4382_r0
  let c0_2421_r0 : Index := 0#32
  ![v4383_r0.toNat, 0]

def k0_chk348 (k0_t1 : Fin k0_t1_loop.trips) (v4379_r0 : BitVec 32) : Prop :=
  (∀ (r : Fin 2), ∀ a, S8x128.size a = 0 ∨ (k0_off572 k0_t1 v4379_r0 (BitVec.ofNat 32 (26632 * r.val))) a + (![3329, 1] : Fin 2 → Nat) a * (S8x128.size a - 1) < S106528x128.size a)
theorem k0_off572_inb : ∀ (k0_t1 : Fin k0_t1_loop.trips) (v4379_r0 : BitVec 32) (k0_hw348 : k0_chk348 k0_t1 v4379_r0), ∀ (r : Fin 2), ∀ a, S8x128.size a = 0 ∨ (k0_off572 k0_t1 v4379_r0 (BitVec.ofNat 32 (26632 * r.val))) a + (![3329, 1] : Fin 2 → Nat) a * (S8x128.size a - 1) < S106528x128.size a := fun k0_t1 v4379_r0 k0_hw348 r => k0_hw348 r

def k0_off573 (k0_t1 : Fin k0_t1_loop.trips) (c0_i32_2424_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c22_i32_r0 : BitVec 32 := 22#32
  let v4393_r0 : BitVec 32 := Scalar.addi v2137_r0 c22_i32_r0
  let v4394_r0 : BitVec 32 := Scalar.addi v4393_r0 c0_i32_2424_r0
  let v4395_r0 : Index := Scalar.indexCast v4394_r0
  let c0_2425_r0 : Index := 0#32
  ![v4395_r0.toNat, 0]
def k0_off574 (k0_t1 : Fin k0_t1_loop.trips) (v4406_r0 : BitVec 32) (c0_i32_2433_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4407_r0 : BitVec 32 := Scalar.addi v4406_r0 v2149_r0
  let v4409_r0 : BitVec 32 := Scalar.addi v4407_r0 c0_i32_2433_r0
  let v4410_r0 : Index := Scalar.indexCast v4409_r0
  let c0_2434_r0 : Index := 0#32
  ![v4410_r0.toNat, 0]

def k0_chk349 (k0_t1 : Fin k0_t1_loop.trips) (v4406_r0 : BitVec 32) : Prop :=
  (∀ (r : Fin 2), ∀ a, S8x128.size a = 0 ∨ (k0_off574 k0_t1 v4406_r0 (BitVec.ofNat 32 (26632 * r.val))) a + (![3329, 1] : Fin 2 → Nat) a * (S8x128.size a - 1) < S106528x128.size a)
theorem k0_off574_inb : ∀ (k0_t1 : Fin k0_t1_loop.trips) (v4406_r0 : BitVec 32) (k0_hw349 : k0_chk349 k0_t1 v4406_r0), ∀ (r : Fin 2), ∀ a, S8x128.size a = 0 ∨ (k0_off574 k0_t1 v4406_r0 (BitVec.ofNat 32 (26632 * r.val))) a + (![3329, 1] : Fin 2 → Nat) a * (S8x128.size a - 1) < S106528x128.size a := fun k0_t1 v4406_r0 k0_hw349 r => k0_hw349 r

def k0_off575 (k0_t1 : Fin k0_t1_loop.trips) (v4419_r0 : BitVec 32) (c0_i32_2441_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4420_r0 : BitVec 32 := Scalar.addi v4419_r0 v2149_r0
  let v4422_r0 : BitVec 32 := Scalar.addi v4420_r0 c0_i32_2441_r0
  let v4423_r0 : Index := Scalar.indexCast v4422_r0
  let c0_2442_r0 : Index := 0#32
  ![v4423_r0.toNat, 0]

def k0_chk350 (k0_t1 : Fin k0_t1_loop.trips) (v4419_r0 : BitVec 32) : Prop :=
  (∀ (r : Fin 2), ∀ a, S8x128.size a = 0 ∨ (k0_off575 k0_t1 v4419_r0 (BitVec.ofNat 32 (26632 * r.val))) a + (![3329, 1] : Fin 2 → Nat) a * (S8x128.size a - 1) < S106528x128.size a)
theorem k0_off575_inb : ∀ (k0_t1 : Fin k0_t1_loop.trips) (v4419_r0 : BitVec 32) (k0_hw350 : k0_chk350 k0_t1 v4419_r0), ∀ (r : Fin 2), ∀ a, S8x128.size a = 0 ∨ (k0_off575 k0_t1 v4419_r0 (BitVec.ofNat 32 (26632 * r.val))) a + (![3329, 1] : Fin 2 → Nat) a * (S8x128.size a - 1) < S106528x128.size a := fun k0_t1 v4419_r0 k0_hw350 r => k0_hw350 r

def k0_off576 (k0_t1 : Fin k0_t1_loop.trips) (v4432_r0 : BitVec 32) (c0_i32_2449_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4433_r0 : BitVec 32 := Scalar.addi v4432_r0 v2149_r0
  let v4435_r0 : BitVec 32 := Scalar.addi v4433_r0 c0_i32_2449_r0
  let v4436_r0 : Index := Scalar.indexCast v4435_r0
  let c0_2450_r0 : Index := 0#32
  ![v4436_r0.toNat, 0]

def k0_chk351 (k0_t1 : Fin k0_t1_loop.trips) (v4432_r0 : BitVec 32) : Prop :=
  (∀ (r : Fin 2), ∀ a, S8x128.size a = 0 ∨ (k0_off576 k0_t1 v4432_r0 (BitVec.ofNat 32 (26632 * r.val))) a + (![3329, 1] : Fin 2 → Nat) a * (S8x128.size a - 1) < S106528x128.size a)
theorem k0_off576_inb : ∀ (k0_t1 : Fin k0_t1_loop.trips) (v4432_r0 : BitVec 32) (k0_hw351 : k0_chk351 k0_t1 v4432_r0), ∀ (r : Fin 2), ∀ a, S8x128.size a = 0 ∨ (k0_off576 k0_t1 v4432_r0 (BitVec.ofNat 32 (26632 * r.val))) a + (![3329, 1] : Fin 2 → Nat) a * (S8x128.size a - 1) < S106528x128.size a := fun k0_t1 v4432_r0 k0_hw351 r => k0_hw351 r

def k0_off577 (k0_t1 : Fin k0_t1_loop.trips) (v4445_r0 : BitVec 32) (c0_i32_2457_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4446_r0 : BitVec 32 := Scalar.addi v4445_r0 v2149_r0
  let v4448_r0 : BitVec 32 := Scalar.addi v4446_r0 c0_i32_2457_r0
  let v4449_r0 : Index := Scalar.indexCast v4448_r0
  let c0_2458_r0 : Index := 0#32
  ![v4449_r0.toNat, 0]

def k0_chk352 (k0_t1 : Fin k0_t1_loop.trips) (v4445_r0 : BitVec 32) : Prop :=
  (∀ (r : Fin 2), ∀ a, S8x128.size a = 0 ∨ (k0_off577 k0_t1 v4445_r0 (BitVec.ofNat 32 (26632 * r.val))) a + (![3329, 1] : Fin 2 → Nat) a * (S8x128.size a - 1) < S106528x128.size a)
theorem k0_off577_inb : ∀ (k0_t1 : Fin k0_t1_loop.trips) (v4445_r0 : BitVec 32) (k0_hw352 : k0_chk352 k0_t1 v4445_r0), ∀ (r : Fin 2), ∀ a, S8x128.size a = 0 ∨ (k0_off577 k0_t1 v4445_r0 (BitVec.ofNat 32 (26632 * r.val))) a + (![3329, 1] : Fin 2 → Nat) a * (S8x128.size a - 1) < S106528x128.size a := fun k0_t1 v4445_r0 k0_hw352 r => k0_hw352 r

def k0_off578 (k0_t1 : Fin k0_t1_loop.trips) (c0_i32_2461_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c23_i32_r0 : BitVec 32 := 23#32
  let v4459_r0 : BitVec 32 := Scalar.addi v2137_r0 c23_i32_r0
  let v4460_r0 : BitVec 32 := Scalar.addi v4459_r0 c0_i32_2461_r0
  let v4461_r0 : Index := Scalar.indexCast v4460_r0
  let c0_2462_r0 : Index := 0#32
  ![v4461_r0.toNat, 0]
def k0_off579 (k0_t1 : Fin k0_t1_loop.trips) (c396_i32_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v4472_r0 : BitVec 32 := Scalar.addi v2136_r0 c396_i32_r0
  let v4473_r0 : Index := Scalar.indexCast v4472_r0
  let c0_2466_r0 : Index := 0#32
  ![v4473_r0.toNat, 0]
def k0_off580 (k0_t1 : Fin k0_t1_loop.trips) (c12_i32_2478_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_2475_r0 : BitVec 32 := 104#32
  let v4502_r0 : BitVec 32 := Scalar.muli arg10_r0 c104_i32_2475_r0
  let c103_i32_2476_r0 : BitVec 32 := 103#32
  let v4503_r0 : BitVec 32 := Scalar.addi v4502_r0 c103_i32_2476_r0
  let c16_i32_2477_r0 : BitVec 32 := 16#32
  let v4504_r0 : BitVec 32 := Scalar.muli v4503_r0 c16_i32_2477_r0
  let v4505_r0 : BitVec 32 := Scalar.addi v4504_r0 c12_i32_2478_r0
  let v4506_r0 : Index := Scalar.indexCast v4505_r0
  let c0_2479_r0 : Index := 0#32
  ![v4506_r0.toNat, 0]
def k0_off581 (k0_t1 : Fin k0_t1_loop.trips) (v4595_r0 : BitVec 32) (c0_i32_2511_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4596_r0 : BitVec 32 := Scalar.addi v4595_r0 v2149_r0
  let v4598_r0 : BitVec 32 := Scalar.addi v4596_r0 c0_i32_2511_r0
  let v4599_r0 : Index := Scalar.indexCast v4598_r0
  let c0_2512_r0 : Index := 0#32
  ![v4599_r0.toNat, 0]

def k0_chk353 (k0_t1 : Fin k0_t1_loop.trips) (v4595_r0 : BitVec 32) : Prop :=
  (∀ (r : Fin 2), ∀ a, S8x128.size a = 0 ∨ (k0_off581 k0_t1 v4595_r0 (BitVec.ofNat 32 (26632 * r.val))) a + (![3329, 1] : Fin 2 → Nat) a * (S8x128.size a - 1) < S106528x128.size a)
theorem k0_off581_inb : ∀ (k0_t1 : Fin k0_t1_loop.trips) (v4595_r0 : BitVec 32) (k0_hw353 : k0_chk353 k0_t1 v4595_r0), ∀ (r : Fin 2), ∀ a, S8x128.size a = 0 ∨ (k0_off581 k0_t1 v4595_r0 (BitVec.ofNat 32 (26632 * r.val))) a + (![3329, 1] : Fin 2 → Nat) a * (S8x128.size a - 1) < S106528x128.size a := fun k0_t1 v4595_r0 k0_hw353 r => k0_hw353 r

def k0_off582 (k0_t1 : Fin k0_t1_loop.trips) (v4608_r0 : BitVec 32) (c0_i32_2519_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4609_r0 : BitVec 32 := Scalar.addi v4608_r0 v2149_r0
  let v4611_r0 : BitVec 32 := Scalar.addi v4609_r0 c0_i32_2519_r0
  let v4612_r0 : Index := Scalar.indexCast v4611_r0
  let c0_2520_r0 : Index := 0#32
  ![v4612_r0.toNat, 0]

def k0_chk354 (k0_t1 : Fin k0_t1_loop.trips) (v4608_r0 : BitVec 32) : Prop :=
  (∀ (r : Fin 2), ∀ a, S8x128.size a = 0 ∨ (k0_off582 k0_t1 v4608_r0 (BitVec.ofNat 32 (26632 * r.val))) a + (![3329, 1] : Fin 2 → Nat) a * (S8x128.size a - 1) < S106528x128.size a)
theorem k0_off582_inb : ∀ (k0_t1 : Fin k0_t1_loop.trips) (v4608_r0 : BitVec 32) (k0_hw354 : k0_chk354 k0_t1 v4608_r0), ∀ (r : Fin 2), ∀ a, S8x128.size a = 0 ∨ (k0_off582 k0_t1 v4608_r0 (BitVec.ofNat 32 (26632 * r.val))) a + (![3329, 1] : Fin 2 → Nat) a * (S8x128.size a - 1) < S106528x128.size a := fun k0_t1 v4608_r0 k0_hw354 r => k0_hw354 r

def k0_off583 (k0_t1 : Fin k0_t1_loop.trips) (v4621_r0 : BitVec 32) (c0_i32_2527_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4622_r0 : BitVec 32 := Scalar.addi v4621_r0 v2149_r0
  let v4624_r0 : BitVec 32 := Scalar.addi v4622_r0 c0_i32_2527_r0
  let v4625_r0 : Index := Scalar.indexCast v4624_r0
  let c0_2528_r0 : Index := 0#32
  ![v4625_r0.toNat, 0]

def k0_chk355 (k0_t1 : Fin k0_t1_loop.trips) (v4621_r0 : BitVec 32) : Prop :=
  (∀ (r : Fin 2), ∀ a, S8x128.size a = 0 ∨ (k0_off583 k0_t1 v4621_r0 (BitVec.ofNat 32 (26632 * r.val))) a + (![3329, 1] : Fin 2 → Nat) a * (S8x128.size a - 1) < S106528x128.size a)
theorem k0_off583_inb : ∀ (k0_t1 : Fin k0_t1_loop.trips) (v4621_r0 : BitVec 32) (k0_hw355 : k0_chk355 k0_t1 v4621_r0), ∀ (r : Fin 2), ∀ a, S8x128.size a = 0 ∨ (k0_off583 k0_t1 v4621_r0 (BitVec.ofNat 32 (26632 * r.val))) a + (![3329, 1] : Fin 2 → Nat) a * (S8x128.size a - 1) < S106528x128.size a := fun k0_t1 v4621_r0 k0_hw355 r => k0_hw355 r

def k0_off584 (k0_t1 : Fin k0_t1_loop.trips) (v4634_r0 : BitVec 32) (c0_i32_2535_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4635_r0 : BitVec 32 := Scalar.addi v4634_r0 v2149_r0
  let v4637_r0 : BitVec 32 := Scalar.addi v4635_r0 c0_i32_2535_r0
  let v4638_r0 : Index := Scalar.indexCast v4637_r0
  let c0_2536_r0 : Index := 0#32
  ![v4638_r0.toNat, 0]

def k0_chk356 (k0_t1 : Fin k0_t1_loop.trips) (v4634_r0 : BitVec 32) : Prop :=
  (∀ (r : Fin 2), ∀ a, S8x128.size a = 0 ∨ (k0_off584 k0_t1 v4634_r0 (BitVec.ofNat 32 (26632 * r.val))) a + (![3329, 1] : Fin 2 → Nat) a * (S8x128.size a - 1) < S106528x128.size a)
theorem k0_off584_inb : ∀ (k0_t1 : Fin k0_t1_loop.trips) (v4634_r0 : BitVec 32) (k0_hw356 : k0_chk356 k0_t1 v4634_r0), ∀ (r : Fin 2), ∀ a, S8x128.size a = 0 ∨ (k0_off584 k0_t1 v4634_r0 (BitVec.ofNat 32 (26632 * r.val))) a + (![3329, 1] : Fin 2 → Nat) a * (S8x128.size a - 1) < S106528x128.size a := fun k0_t1 v4634_r0 k0_hw356 r => k0_hw356 r

def k0_off585 (k0_t1 : Fin k0_t1_loop.trips) (c0_i32_2539_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c24_i32_r0 : BitVec 32 := 24#32
  let v4648_r0 : BitVec 32 := Scalar.addi v2137_r0 c24_i32_r0
  let v4649_r0 : BitVec 32 := Scalar.addi v4648_r0 c0_i32_2539_r0
  let v4650_r0 : Index := Scalar.indexCast v4649_r0
  let c0_2540_r0 : Index := 0#32
  ![v4650_r0.toNat, 0]
def k0_off586 (k0_t1 : Fin k0_t1_loop.trips) (v4661_r0 : BitVec 32) (c0_i32_2548_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4662_r0 : BitVec 32 := Scalar.addi v4661_r0 v2149_r0
  let v4664_r0 : BitVec 32 := Scalar.addi v4662_r0 c0_i32_2548_r0
  let v4665_r0 : Index := Scalar.indexCast v4664_r0
  let c0_2549_r0 : Index := 0#32
  ![v4665_r0.toNat, 0]

def k0_chk357 (k0_t1 : Fin k0_t1_loop.trips) (v4661_r0 : BitVec 32) : Prop :=
  (∀ (r : Fin 2), ∀ a, S8x128.size a = 0 ∨ (k0_off586 k0_t1 v4661_r0 (BitVec.ofNat 32 (26632 * r.val))) a + (![3329, 1] : Fin 2 → Nat) a * (S8x128.size a - 1) < S106528x128.size a)
theorem k0_off586_inb : ∀ (k0_t1 : Fin k0_t1_loop.trips) (v4661_r0 : BitVec 32) (k0_hw357 : k0_chk357 k0_t1 v4661_r0), ∀ (r : Fin 2), ∀ a, S8x128.size a = 0 ∨ (k0_off586 k0_t1 v4661_r0 (BitVec.ofNat 32 (26632 * r.val))) a + (![3329, 1] : Fin 2 → Nat) a * (S8x128.size a - 1) < S106528x128.size a := fun k0_t1 v4661_r0 k0_hw357 r => k0_hw357 r

def k0_off587 (k0_t1 : Fin k0_t1_loop.trips) (v4674_r0 : BitVec 32) (c0_i32_2556_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4675_r0 : BitVec 32 := Scalar.addi v4674_r0 v2149_r0
  let v4677_r0 : BitVec 32 := Scalar.addi v4675_r0 c0_i32_2556_r0
  let v4678_r0 : Index := Scalar.indexCast v4677_r0
  let c0_2557_r0 : Index := 0#32
  ![v4678_r0.toNat, 0]

def k0_chk358 (k0_t1 : Fin k0_t1_loop.trips) (v4674_r0 : BitVec 32) : Prop :=
  (∀ (r : Fin 2), ∀ a, S8x128.size a = 0 ∨ (k0_off587 k0_t1 v4674_r0 (BitVec.ofNat 32 (26632 * r.val))) a + (![3329, 1] : Fin 2 → Nat) a * (S8x128.size a - 1) < S106528x128.size a)
theorem k0_off587_inb : ∀ (k0_t1 : Fin k0_t1_loop.trips) (v4674_r0 : BitVec 32) (k0_hw358 : k0_chk358 k0_t1 v4674_r0), ∀ (r : Fin 2), ∀ a, S8x128.size a = 0 ∨ (k0_off587 k0_t1 v4674_r0 (BitVec.ofNat 32 (26632 * r.val))) a + (![3329, 1] : Fin 2 → Nat) a * (S8x128.size a - 1) < S106528x128.size a := fun k0_t1 v4674_r0 k0_hw358 r => k0_hw358 r

def k0_off588 (k0_t1 : Fin k0_t1_loop.trips) (v4687_r0 : BitVec 32) (c0_i32_2564_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4688_r0 : BitVec 32 := Scalar.addi v4687_r0 v2149_r0
  let v4690_r0 : BitVec 32 := Scalar.addi v4688_r0 c0_i32_2564_r0
  let v4691_r0 : Index := Scalar.indexCast v4690_r0
  let c0_2565_r0 : Index := 0#32
  ![v4691_r0.toNat, 0]

def k0_chk359 (k0_t1 : Fin k0_t1_loop.trips) (v4687_r0 : BitVec 32) : Prop :=
  (∀ (r : Fin 2), ∀ a, S8x128.size a = 0 ∨ (k0_off588 k0_t1 v4687_r0 (BitVec.ofNat 32 (26632 * r.val))) a + (![3329, 1] : Fin 2 → Nat) a * (S8x128.size a - 1) < S106528x128.size a)
theorem k0_off588_inb : ∀ (k0_t1 : Fin k0_t1_loop.trips) (v4687_r0 : BitVec 32) (k0_hw359 : k0_chk359 k0_t1 v4687_r0), ∀ (r : Fin 2), ∀ a, S8x128.size a = 0 ∨ (k0_off588 k0_t1 v4687_r0 (BitVec.ofNat 32 (26632 * r.val))) a + (![3329, 1] : Fin 2 → Nat) a * (S8x128.size a - 1) < S106528x128.size a := fun k0_t1 v4687_r0 k0_hw359 r => k0_hw359 r

def k0_off589 (k0_t1 : Fin k0_t1_loop.trips) (v4700_r0 : BitVec 32) (c0_i32_2572_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4701_r0 : BitVec 32 := Scalar.addi v4700_r0 v2149_r0
  let v4703_r0 : BitVec 32 := Scalar.addi v4701_r0 c0_i32_2572_r0
  let v4704_r0 : Index := Scalar.indexCast v4703_r0
  let c0_2573_r0 : Index := 0#32
  ![v4704_r0.toNat, 0]

def k0_chk360 (k0_t1 : Fin k0_t1_loop.trips) (v4700_r0 : BitVec 32) : Prop :=
  (∀ (r : Fin 2), ∀ a, S8x128.size a = 0 ∨ (k0_off589 k0_t1 v4700_r0 (BitVec.ofNat 32 (26632 * r.val))) a + (![3329, 1] : Fin 2 → Nat) a * (S8x128.size a - 1) < S106528x128.size a)
theorem k0_off589_inb : ∀ (k0_t1 : Fin k0_t1_loop.trips) (v4700_r0 : BitVec 32) (k0_hw360 : k0_chk360 k0_t1 v4700_r0), ∀ (r : Fin 2), ∀ a, S8x128.size a = 0 ∨ (k0_off589 k0_t1 v4700_r0 (BitVec.ofNat 32 (26632 * r.val))) a + (![3329, 1] : Fin 2 → Nat) a * (S8x128.size a - 1) < S106528x128.size a := fun k0_t1 v4700_r0 k0_hw360 r => k0_hw360 r

def k0_off590 (k0_t1 : Fin k0_t1_loop.trips) (c0_i32_2576_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c25_i32_r0 : BitVec 32 := 25#32
  let v4714_r0 : BitVec 32 := Scalar.addi v2137_r0 c25_i32_r0
  let v4715_r0 : BitVec 32 := Scalar.addi v4714_r0 c0_i32_2576_r0
  let v4716_r0 : Index := Scalar.indexCast v4715_r0
  let c0_2577_r0 : Index := 0#32
  ![v4716_r0.toNat, 0]
def k0_off591 (k0_t1 : Fin k0_t1_loop.trips) (v4727_r0 : BitVec 32) (c0_i32_2585_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4728_r0 : BitVec 32 := Scalar.addi v4727_r0 v2149_r0
  let v4730_r0 : BitVec 32 := Scalar.addi v4728_r0 c0_i32_2585_r0
  let v4731_r0 : Index := Scalar.indexCast v4730_r0
  let c0_2586_r0 : Index := 0#32
  ![v4731_r0.toNat, 0]

def k0_chk361 (k0_t1 : Fin k0_t1_loop.trips) (v4727_r0 : BitVec 32) : Prop :=
  (∀ (r : Fin 2), ∀ a, S8x128.size a = 0 ∨ (k0_off591 k0_t1 v4727_r0 (BitVec.ofNat 32 (26632 * r.val))) a + (![3329, 1] : Fin 2 → Nat) a * (S8x128.size a - 1) < S106528x128.size a)
theorem k0_off591_inb : ∀ (k0_t1 : Fin k0_t1_loop.trips) (v4727_r0 : BitVec 32) (k0_hw361 : k0_chk361 k0_t1 v4727_r0), ∀ (r : Fin 2), ∀ a, S8x128.size a = 0 ∨ (k0_off591 k0_t1 v4727_r0 (BitVec.ofNat 32 (26632 * r.val))) a + (![3329, 1] : Fin 2 → Nat) a * (S8x128.size a - 1) < S106528x128.size a := fun k0_t1 v4727_r0 k0_hw361 r => k0_hw361 r

def k0_off592 (k0_t1 : Fin k0_t1_loop.trips) (v4740_r0 : BitVec 32) (c0_i32_2593_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4741_r0 : BitVec 32 := Scalar.addi v4740_r0 v2149_r0
  let v4743_r0 : BitVec 32 := Scalar.addi v4741_r0 c0_i32_2593_r0
  let v4744_r0 : Index := Scalar.indexCast v4743_r0
  let c0_2594_r0 : Index := 0#32
  ![v4744_r0.toNat, 0]

def k0_chk362 (k0_t1 : Fin k0_t1_loop.trips) (v4740_r0 : BitVec 32) : Prop :=
  (∀ (r : Fin 2), ∀ a, S8x128.size a = 0 ∨ (k0_off592 k0_t1 v4740_r0 (BitVec.ofNat 32 (26632 * r.val))) a + (![3329, 1] : Fin 2 → Nat) a * (S8x128.size a - 1) < S106528x128.size a)
theorem k0_off592_inb : ∀ (k0_t1 : Fin k0_t1_loop.trips) (v4740_r0 : BitVec 32) (k0_hw362 : k0_chk362 k0_t1 v4740_r0), ∀ (r : Fin 2), ∀ a, S8x128.size a = 0 ∨ (k0_off592 k0_t1 v4740_r0 (BitVec.ofNat 32 (26632 * r.val))) a + (![3329, 1] : Fin 2 → Nat) a * (S8x128.size a - 1) < S106528x128.size a := fun k0_t1 v4740_r0 k0_hw362 r => k0_hw362 r

def k0_off593 (k0_t1 : Fin k0_t1_loop.trips) (v4753_r0 : BitVec 32) (c0_i32_2601_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4754_r0 : BitVec 32 := Scalar.addi v4753_r0 v2149_r0
  let v4756_r0 : BitVec 32 := Scalar.addi v4754_r0 c0_i32_2601_r0
  let v4757_r0 : Index := Scalar.indexCast v4756_r0
  let c0_2602_r0 : Index := 0#32
  ![v4757_r0.toNat, 0]

def k0_chk363 (k0_t1 : Fin k0_t1_loop.trips) (v4753_r0 : BitVec 32) : Prop :=
  (∀ (r : Fin 2), ∀ a, S8x128.size a = 0 ∨ (k0_off593 k0_t1 v4753_r0 (BitVec.ofNat 32 (26632 * r.val))) a + (![3329, 1] : Fin 2 → Nat) a * (S8x128.size a - 1) < S106528x128.size a)
theorem k0_off593_inb : ∀ (k0_t1 : Fin k0_t1_loop.trips) (v4753_r0 : BitVec 32) (k0_hw363 : k0_chk363 k0_t1 v4753_r0), ∀ (r : Fin 2), ∀ a, S8x128.size a = 0 ∨ (k0_off593 k0_t1 v4753_r0 (BitVec.ofNat 32 (26632 * r.val))) a + (![3329, 1] : Fin 2 → Nat) a * (S8x128.size a - 1) < S106528x128.size a := fun k0_t1 v4753_r0 k0_hw363 r => k0_hw363 r

def k0_off594 (k0_t1 : Fin k0_t1_loop.trips) (v4766_r0 : BitVec 32) (c0_i32_2609_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4767_r0 : BitVec 32 := Scalar.addi v4766_r0 v2149_r0
  let v4769_r0 : BitVec 32 := Scalar.addi v4767_r0 c0_i32_2609_r0
  let v4770_r0 : Index := Scalar.indexCast v4769_r0
  let c0_2610_r0 : Index := 0#32
  ![v4770_r0.toNat, 0]

def k0_chk364 (k0_t1 : Fin k0_t1_loop.trips) (v4766_r0 : BitVec 32) : Prop :=
  (∀ (r : Fin 2), ∀ a, S8x128.size a = 0 ∨ (k0_off594 k0_t1 v4766_r0 (BitVec.ofNat 32 (26632 * r.val))) a + (![3329, 1] : Fin 2 → Nat) a * (S8x128.size a - 1) < S106528x128.size a)
theorem k0_off594_inb : ∀ (k0_t1 : Fin k0_t1_loop.trips) (v4766_r0 : BitVec 32) (k0_hw364 : k0_chk364 k0_t1 v4766_r0), ∀ (r : Fin 2), ∀ a, S8x128.size a = 0 ∨ (k0_off594 k0_t1 v4766_r0 (BitVec.ofNat 32 (26632 * r.val))) a + (![3329, 1] : Fin 2 → Nat) a * (S8x128.size a - 1) < S106528x128.size a := fun k0_t1 v4766_r0 k0_hw364 r => k0_hw364 r

def k0_off595 (k0_t1 : Fin k0_t1_loop.trips) (c0_i32_2613_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c26_i32_r0 : BitVec 32 := 26#32
  let v4780_r0 : BitVec 32 := Scalar.addi v2137_r0 c26_i32_r0
  let v4781_r0 : BitVec 32 := Scalar.addi v4780_r0 c0_i32_2613_r0
  let v4782_r0 : Index := Scalar.indexCast v4781_r0
  let c0_2614_r0 : Index := 0#32
  ![v4782_r0.toNat, 0]
def k0_off596 (k0_t1 : Fin k0_t1_loop.trips) (v4793_r0 : BitVec 32) (c0_i32_2622_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4794_r0 : BitVec 32 := Scalar.addi v4793_r0 v2149_r0
  let v4796_r0 : BitVec 32 := Scalar.addi v4794_r0 c0_i32_2622_r0
  let v4797_r0 : Index := Scalar.indexCast v4796_r0
  let c0_2623_r0 : Index := 0#32
  ![v4797_r0.toNat, 0]

def k0_chk365 (k0_t1 : Fin k0_t1_loop.trips) (v4793_r0 : BitVec 32) : Prop :=
  (∀ (r : Fin 2), ∀ a, S8x128.size a = 0 ∨ (k0_off596 k0_t1 v4793_r0 (BitVec.ofNat 32 (26632 * r.val))) a + (![3329, 1] : Fin 2 → Nat) a * (S8x128.size a - 1) < S106528x128.size a)
theorem k0_off596_inb : ∀ (k0_t1 : Fin k0_t1_loop.trips) (v4793_r0 : BitVec 32) (k0_hw365 : k0_chk365 k0_t1 v4793_r0), ∀ (r : Fin 2), ∀ a, S8x128.size a = 0 ∨ (k0_off596 k0_t1 v4793_r0 (BitVec.ofNat 32 (26632 * r.val))) a + (![3329, 1] : Fin 2 → Nat) a * (S8x128.size a - 1) < S106528x128.size a := fun k0_t1 v4793_r0 k0_hw365 r => k0_hw365 r

def k0_off597 (k0_t1 : Fin k0_t1_loop.trips) (v4806_r0 : BitVec 32) (c0_i32_2630_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4807_r0 : BitVec 32 := Scalar.addi v4806_r0 v2149_r0
  let v4809_r0 : BitVec 32 := Scalar.addi v4807_r0 c0_i32_2630_r0
  let v4810_r0 : Index := Scalar.indexCast v4809_r0
  let c0_2631_r0 : Index := 0#32
  ![v4810_r0.toNat, 0]

def k0_chk366 (k0_t1 : Fin k0_t1_loop.trips) (v4806_r0 : BitVec 32) : Prop :=
  (∀ (r : Fin 2), ∀ a, S8x128.size a = 0 ∨ (k0_off597 k0_t1 v4806_r0 (BitVec.ofNat 32 (26632 * r.val))) a + (![3329, 1] : Fin 2 → Nat) a * (S8x128.size a - 1) < S106528x128.size a)
theorem k0_off597_inb : ∀ (k0_t1 : Fin k0_t1_loop.trips) (v4806_r0 : BitVec 32) (k0_hw366 : k0_chk366 k0_t1 v4806_r0), ∀ (r : Fin 2), ∀ a, S8x128.size a = 0 ∨ (k0_off597 k0_t1 v4806_r0 (BitVec.ofNat 32 (26632 * r.val))) a + (![3329, 1] : Fin 2 → Nat) a * (S8x128.size a - 1) < S106528x128.size a := fun k0_t1 v4806_r0 k0_hw366 r => k0_hw366 r

def k0_off598 (k0_t1 : Fin k0_t1_loop.trips) (v4819_r0 : BitVec 32) (c0_i32_2638_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4820_r0 : BitVec 32 := Scalar.addi v4819_r0 v2149_r0
  let v4822_r0 : BitVec 32 := Scalar.addi v4820_r0 c0_i32_2638_r0
  let v4823_r0 : Index := Scalar.indexCast v4822_r0
  let c0_2639_r0 : Index := 0#32
  ![v4823_r0.toNat, 0]

def k0_chk367 (k0_t1 : Fin k0_t1_loop.trips) (v4819_r0 : BitVec 32) : Prop :=
  (∀ (r : Fin 2), ∀ a, S8x128.size a = 0 ∨ (k0_off598 k0_t1 v4819_r0 (BitVec.ofNat 32 (26632 * r.val))) a + (![3329, 1] : Fin 2 → Nat) a * (S8x128.size a - 1) < S106528x128.size a)
theorem k0_off598_inb : ∀ (k0_t1 : Fin k0_t1_loop.trips) (v4819_r0 : BitVec 32) (k0_hw367 : k0_chk367 k0_t1 v4819_r0), ∀ (r : Fin 2), ∀ a, S8x128.size a = 0 ∨ (k0_off598 k0_t1 v4819_r0 (BitVec.ofNat 32 (26632 * r.val))) a + (![3329, 1] : Fin 2 → Nat) a * (S8x128.size a - 1) < S106528x128.size a := fun k0_t1 v4819_r0 k0_hw367 r => k0_hw367 r

def k0_off599 (k0_t1 : Fin k0_t1_loop.trips) (v4832_r0 : BitVec 32) (c0_i32_2646_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4833_r0 : BitVec 32 := Scalar.addi v4832_r0 v2149_r0
  let v4835_r0 : BitVec 32 := Scalar.addi v4833_r0 c0_i32_2646_r0
  let v4836_r0 : Index := Scalar.indexCast v4835_r0
  let c0_2647_r0 : Index := 0#32
  ![v4836_r0.toNat, 0]

def k0_chk368 (k0_t1 : Fin k0_t1_loop.trips) (v4832_r0 : BitVec 32) : Prop :=
  (∀ (r : Fin 2), ∀ a, S8x128.size a = 0 ∨ (k0_off599 k0_t1 v4832_r0 (BitVec.ofNat 32 (26632 * r.val))) a + (![3329, 1] : Fin 2 → Nat) a * (S8x128.size a - 1) < S106528x128.size a)
theorem k0_off599_inb : ∀ (k0_t1 : Fin k0_t1_loop.trips) (v4832_r0 : BitVec 32) (k0_hw368 : k0_chk368 k0_t1 v4832_r0), ∀ (r : Fin 2), ∀ a, S8x128.size a = 0 ∨ (k0_off599 k0_t1 v4832_r0 (BitVec.ofNat 32 (26632 * r.val))) a + (![3329, 1] : Fin 2 → Nat) a * (S8x128.size a - 1) < S106528x128.size a := fun k0_t1 v4832_r0 k0_hw368 r => k0_hw368 r

def k0_off600 (k0_t1 : Fin k0_t1_loop.trips) (c0_i32_2650_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c27_i32_r0 : BitVec 32 := 27#32
  let v4846_r0 : BitVec 32 := Scalar.addi v2137_r0 c27_i32_r0
  let v4847_r0 : BitVec 32 := Scalar.addi v4846_r0 c0_i32_2650_r0
  let v4848_r0 : Index := Scalar.indexCast v4847_r0
  let c0_2651_r0 : Index := 0#32
  ![v4848_r0.toNat, 0]
def k0_off601 (k0_t1 : Fin k0_t1_loop.trips) (c462_i32_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v4859_r0 : BitVec 32 := Scalar.addi v2136_r0 c462_i32_r0
  let v4860_r0 : Index := Scalar.indexCast v4859_r0
  let c0_2655_r0 : Index := 0#32
  ![v4860_r0.toNat, 0]
def k0_off602 (k0_t1 : Fin k0_t1_loop.trips) (c14_i32_2667_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c104_i32_2664_r0 : BitVec 32 := 104#32
  let v4889_r0 : BitVec 32 := Scalar.muli arg10_r0 c104_i32_2664_r0
  let c103_i32_2665_r0 : BitVec 32 := 103#32
  let v4890_r0 : BitVec 32 := Scalar.addi v4889_r0 c103_i32_2665_r0
  let c16_i32_2666_r0 : BitVec 32 := 16#32
  let v4891_r0 : BitVec 32 := Scalar.muli v4890_r0 c16_i32_2666_r0
  let v4892_r0 : BitVec 32 := Scalar.addi v4891_r0 c14_i32_2667_r0
  let v4893_r0 : Index := Scalar.indexCast v4892_r0
  let c0_2668_r0 : Index := 0#32
  ![v4893_r0.toNat, 0]
def k0_off603 (k0_t1 : Fin k0_t1_loop.trips) (v4982_r0 : BitVec 32) (c0_i32_2700_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4983_r0 : BitVec 32 := Scalar.addi v4982_r0 v2149_r0
  let v4985_r0 : BitVec 32 := Scalar.addi v4983_r0 c0_i32_2700_r0
  let v4986_r0 : Index := Scalar.indexCast v4985_r0
  let c0_2701_r0 : Index := 0#32
  ![v4986_r0.toNat, 0]

def k0_chk369 (k0_t1 : Fin k0_t1_loop.trips) (v4982_r0 : BitVec 32) : Prop :=
  (∀ (r : Fin 2), ∀ a, S8x128.size a = 0 ∨ (k0_off603 k0_t1 v4982_r0 (BitVec.ofNat 32 (26632 * r.val))) a + (![3329, 1] : Fin 2 → Nat) a * (S8x128.size a - 1) < S106528x128.size a)
theorem k0_off603_inb : ∀ (k0_t1 : Fin k0_t1_loop.trips) (v4982_r0 : BitVec 32) (k0_hw369 : k0_chk369 k0_t1 v4982_r0), ∀ (r : Fin 2), ∀ a, S8x128.size a = 0 ∨ (k0_off603 k0_t1 v4982_r0 (BitVec.ofNat 32 (26632 * r.val))) a + (![3329, 1] : Fin 2 → Nat) a * (S8x128.size a - 1) < S106528x128.size a := fun k0_t1 v4982_r0 k0_hw369 r => k0_hw369 r

def k0_off604 (k0_t1 : Fin k0_t1_loop.trips) (v4995_r0 : BitVec 32) (c0_i32_2708_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v4996_r0 : BitVec 32 := Scalar.addi v4995_r0 v2149_r0
  let v4998_r0 : BitVec 32 := Scalar.addi v4996_r0 c0_i32_2708_r0
  let v4999_r0 : Index := Scalar.indexCast v4998_r0
  let c0_2709_r0 : Index := 0#32
  ![v4999_r0.toNat, 0]

def k0_chk370 (k0_t1 : Fin k0_t1_loop.trips) (v4995_r0 : BitVec 32) : Prop :=
  (∀ (r : Fin 2), ∀ a, S8x128.size a = 0 ∨ (k0_off604 k0_t1 v4995_r0 (BitVec.ofNat 32 (26632 * r.val))) a + (![3329, 1] : Fin 2 → Nat) a * (S8x128.size a - 1) < S106528x128.size a)
theorem k0_off604_inb : ∀ (k0_t1 : Fin k0_t1_loop.trips) (v4995_r0 : BitVec 32) (k0_hw370 : k0_chk370 k0_t1 v4995_r0), ∀ (r : Fin 2), ∀ a, S8x128.size a = 0 ∨ (k0_off604 k0_t1 v4995_r0 (BitVec.ofNat 32 (26632 * r.val))) a + (![3329, 1] : Fin 2 → Nat) a * (S8x128.size a - 1) < S106528x128.size a := fun k0_t1 v4995_r0 k0_hw370 r => k0_hw370 r

def k0_off605 (k0_t1 : Fin k0_t1_loop.trips) (v5008_r0 : BitVec 32) (c0_i32_2716_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5009_r0 : BitVec 32 := Scalar.addi v5008_r0 v2149_r0
  let v5011_r0 : BitVec 32 := Scalar.addi v5009_r0 c0_i32_2716_r0
  let v5012_r0 : Index := Scalar.indexCast v5011_r0
  let c0_2717_r0 : Index := 0#32
  ![v5012_r0.toNat, 0]

def k0_chk371 (k0_t1 : Fin k0_t1_loop.trips) (v5008_r0 : BitVec 32) : Prop :=
  (∀ (r : Fin 2), ∀ a, S8x128.size a = 0 ∨ (k0_off605 k0_t1 v5008_r0 (BitVec.ofNat 32 (26632 * r.val))) a + (![3329, 1] : Fin 2 → Nat) a * (S8x128.size a - 1) < S106528x128.size a)
theorem k0_off605_inb : ∀ (k0_t1 : Fin k0_t1_loop.trips) (v5008_r0 : BitVec 32) (k0_hw371 : k0_chk371 k0_t1 v5008_r0), ∀ (r : Fin 2), ∀ a, S8x128.size a = 0 ∨ (k0_off605 k0_t1 v5008_r0 (BitVec.ofNat 32 (26632 * r.val))) a + (![3329, 1] : Fin 2 → Nat) a * (S8x128.size a - 1) < S106528x128.size a := fun k0_t1 v5008_r0 k0_hw371 r => k0_hw371 r

def k0_off606 (k0_t1 : Fin k0_t1_loop.trips) (v5021_r0 : BitVec 32) (c0_i32_2724_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5022_r0 : BitVec 32 := Scalar.addi v5021_r0 v2149_r0
  let v5024_r0 : BitVec 32 := Scalar.addi v5022_r0 c0_i32_2724_r0
  let v5025_r0 : Index := Scalar.indexCast v5024_r0
  let c0_2725_r0 : Index := 0#32
  ![v5025_r0.toNat, 0]

def k0_chk372 (k0_t1 : Fin k0_t1_loop.trips) (v5021_r0 : BitVec 32) : Prop :=
  (∀ (r : Fin 2), ∀ a, S8x128.size a = 0 ∨ (k0_off606 k0_t1 v5021_r0 (BitVec.ofNat 32 (26632 * r.val))) a + (![3329, 1] : Fin 2 → Nat) a * (S8x128.size a - 1) < S106528x128.size a)
theorem k0_off606_inb : ∀ (k0_t1 : Fin k0_t1_loop.trips) (v5021_r0 : BitVec 32) (k0_hw372 : k0_chk372 k0_t1 v5021_r0), ∀ (r : Fin 2), ∀ a, S8x128.size a = 0 ∨ (k0_off606 k0_t1 v5021_r0 (BitVec.ofNat 32 (26632 * r.val))) a + (![3329, 1] : Fin 2 → Nat) a * (S8x128.size a - 1) < S106528x128.size a := fun k0_t1 v5021_r0 k0_hw372 r => k0_hw372 r

def k0_off607 (k0_t1 : Fin k0_t1_loop.trips) (c0_i32_2728_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c28_i32_r0 : BitVec 32 := 28#32
  let v5035_r0 : BitVec 32 := Scalar.addi v2137_r0 c28_i32_r0
  let v5036_r0 : BitVec 32 := Scalar.addi v5035_r0 c0_i32_2728_r0
  let v5037_r0 : Index := Scalar.indexCast v5036_r0
  let c0_2729_r0 : Index := 0#32
  ![v5037_r0.toNat, 0]
def k0_off608 (k0_t1 : Fin k0_t1_loop.trips) (v5048_r0 : BitVec 32) (c0_i32_2737_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5049_r0 : BitVec 32 := Scalar.addi v5048_r0 v2149_r0
  let v5051_r0 : BitVec 32 := Scalar.addi v5049_r0 c0_i32_2737_r0
  let v5052_r0 : Index := Scalar.indexCast v5051_r0
  let c0_2738_r0 : Index := 0#32
  ![v5052_r0.toNat, 0]

def k0_chk373 (k0_t1 : Fin k0_t1_loop.trips) (v5048_r0 : BitVec 32) : Prop :=
  (∀ (r : Fin 2), ∀ a, S8x128.size a = 0 ∨ (k0_off608 k0_t1 v5048_r0 (BitVec.ofNat 32 (26632 * r.val))) a + (![3329, 1] : Fin 2 → Nat) a * (S8x128.size a - 1) < S106528x128.size a)
theorem k0_off608_inb : ∀ (k0_t1 : Fin k0_t1_loop.trips) (v5048_r0 : BitVec 32) (k0_hw373 : k0_chk373 k0_t1 v5048_r0), ∀ (r : Fin 2), ∀ a, S8x128.size a = 0 ∨ (k0_off608 k0_t1 v5048_r0 (BitVec.ofNat 32 (26632 * r.val))) a + (![3329, 1] : Fin 2 → Nat) a * (S8x128.size a - 1) < S106528x128.size a := fun k0_t1 v5048_r0 k0_hw373 r => k0_hw373 r

def k0_off609 (k0_t1 : Fin k0_t1_loop.trips) (v5061_r0 : BitVec 32) (c0_i32_2745_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5062_r0 : BitVec 32 := Scalar.addi v5061_r0 v2149_r0
  let v5064_r0 : BitVec 32 := Scalar.addi v5062_r0 c0_i32_2745_r0
  let v5065_r0 : Index := Scalar.indexCast v5064_r0
  let c0_2746_r0 : Index := 0#32
  ![v5065_r0.toNat, 0]

def k0_chk374 (k0_t1 : Fin k0_t1_loop.trips) (v5061_r0 : BitVec 32) : Prop :=
  (∀ (r : Fin 2), ∀ a, S8x128.size a = 0 ∨ (k0_off609 k0_t1 v5061_r0 (BitVec.ofNat 32 (26632 * r.val))) a + (![3329, 1] : Fin 2 → Nat) a * (S8x128.size a - 1) < S106528x128.size a)
theorem k0_off609_inb : ∀ (k0_t1 : Fin k0_t1_loop.trips) (v5061_r0 : BitVec 32) (k0_hw374 : k0_chk374 k0_t1 v5061_r0), ∀ (r : Fin 2), ∀ a, S8x128.size a = 0 ∨ (k0_off609 k0_t1 v5061_r0 (BitVec.ofNat 32 (26632 * r.val))) a + (![3329, 1] : Fin 2 → Nat) a * (S8x128.size a - 1) < S106528x128.size a := fun k0_t1 v5061_r0 k0_hw374 r => k0_hw374 r

def k0_off610 (k0_t1 : Fin k0_t1_loop.trips) (v5074_r0 : BitVec 32) (c0_i32_2753_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5075_r0 : BitVec 32 := Scalar.addi v5074_r0 v2149_r0
  let v5077_r0 : BitVec 32 := Scalar.addi v5075_r0 c0_i32_2753_r0
  let v5078_r0 : Index := Scalar.indexCast v5077_r0
  let c0_2754_r0 : Index := 0#32
  ![v5078_r0.toNat, 0]

def k0_chk375 (k0_t1 : Fin k0_t1_loop.trips) (v5074_r0 : BitVec 32) : Prop :=
  (∀ (r : Fin 2), ∀ a, S8x128.size a = 0 ∨ (k0_off610 k0_t1 v5074_r0 (BitVec.ofNat 32 (26632 * r.val))) a + (![3329, 1] : Fin 2 → Nat) a * (S8x128.size a - 1) < S106528x128.size a)
theorem k0_off610_inb : ∀ (k0_t1 : Fin k0_t1_loop.trips) (v5074_r0 : BitVec 32) (k0_hw375 : k0_chk375 k0_t1 v5074_r0), ∀ (r : Fin 2), ∀ a, S8x128.size a = 0 ∨ (k0_off610 k0_t1 v5074_r0 (BitVec.ofNat 32 (26632 * r.val))) a + (![3329, 1] : Fin 2 → Nat) a * (S8x128.size a - 1) < S106528x128.size a := fun k0_t1 v5074_r0 k0_hw375 r => k0_hw375 r

def k0_off611 (k0_t1 : Fin k0_t1_loop.trips) (v5087_r0 : BitVec 32) (c0_i32_2761_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5088_r0 : BitVec 32 := Scalar.addi v5087_r0 v2149_r0
  let v5090_r0 : BitVec 32 := Scalar.addi v5088_r0 c0_i32_2761_r0
  let v5091_r0 : Index := Scalar.indexCast v5090_r0
  let c0_2762_r0 : Index := 0#32
  ![v5091_r0.toNat, 0]

def k0_chk376 (k0_t1 : Fin k0_t1_loop.trips) (v5087_r0 : BitVec 32) : Prop :=
  (∀ (r : Fin 2), ∀ a, S8x128.size a = 0 ∨ (k0_off611 k0_t1 v5087_r0 (BitVec.ofNat 32 (26632 * r.val))) a + (![3329, 1] : Fin 2 → Nat) a * (S8x128.size a - 1) < S106528x128.size a)
theorem k0_off611_inb : ∀ (k0_t1 : Fin k0_t1_loop.trips) (v5087_r0 : BitVec 32) (k0_hw376 : k0_chk376 k0_t1 v5087_r0), ∀ (r : Fin 2), ∀ a, S8x128.size a = 0 ∨ (k0_off611 k0_t1 v5087_r0 (BitVec.ofNat 32 (26632 * r.val))) a + (![3329, 1] : Fin 2 → Nat) a * (S8x128.size a - 1) < S106528x128.size a := fun k0_t1 v5087_r0 k0_hw376 r => k0_hw376 r

def k0_off612 (k0_t1 : Fin k0_t1_loop.trips) (c0_i32_2765_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c29_i32_r0 : BitVec 32 := 29#32
  let v5101_r0 : BitVec 32 := Scalar.addi v2137_r0 c29_i32_r0
  let v5102_r0 : BitVec 32 := Scalar.addi v5101_r0 c0_i32_2765_r0
  let v5103_r0 : Index := Scalar.indexCast v5102_r0
  let c0_2766_r0 : Index := 0#32
  ![v5103_r0.toNat, 0]
def k0_off613 (k0_t1 : Fin k0_t1_loop.trips) (v5114_r0 : BitVec 32) (c0_i32_2774_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5115_r0 : BitVec 32 := Scalar.addi v5114_r0 v2149_r0
  let v5117_r0 : BitVec 32 := Scalar.addi v5115_r0 c0_i32_2774_r0
  let v5118_r0 : Index := Scalar.indexCast v5117_r0
  let c0_2775_r0 : Index := 0#32
  ![v5118_r0.toNat, 0]

def k0_chk377 (k0_t1 : Fin k0_t1_loop.trips) (v5114_r0 : BitVec 32) : Prop :=
  (∀ (r : Fin 2), ∀ a, S8x128.size a = 0 ∨ (k0_off613 k0_t1 v5114_r0 (BitVec.ofNat 32 (26632 * r.val))) a + (![3329, 1] : Fin 2 → Nat) a * (S8x128.size a - 1) < S106528x128.size a)
theorem k0_off613_inb : ∀ (k0_t1 : Fin k0_t1_loop.trips) (v5114_r0 : BitVec 32) (k0_hw377 : k0_chk377 k0_t1 v5114_r0), ∀ (r : Fin 2), ∀ a, S8x128.size a = 0 ∨ (k0_off613 k0_t1 v5114_r0 (BitVec.ofNat 32 (26632 * r.val))) a + (![3329, 1] : Fin 2 → Nat) a * (S8x128.size a - 1) < S106528x128.size a := fun k0_t1 v5114_r0 k0_hw377 r => k0_hw377 r

def k0_off614 (k0_t1 : Fin k0_t1_loop.trips) (v5127_r0 : BitVec 32) (c0_i32_2782_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5128_r0 : BitVec 32 := Scalar.addi v5127_r0 v2149_r0
  let v5130_r0 : BitVec 32 := Scalar.addi v5128_r0 c0_i32_2782_r0
  let v5131_r0 : Index := Scalar.indexCast v5130_r0
  let c0_2783_r0 : Index := 0#32
  ![v5131_r0.toNat, 0]

def k0_chk378 (k0_t1 : Fin k0_t1_loop.trips) (v5127_r0 : BitVec 32) : Prop :=
  (∀ (r : Fin 2), ∀ a, S8x128.size a = 0 ∨ (k0_off614 k0_t1 v5127_r0 (BitVec.ofNat 32 (26632 * r.val))) a + (![3329, 1] : Fin 2 → Nat) a * (S8x128.size a - 1) < S106528x128.size a)
theorem k0_off614_inb : ∀ (k0_t1 : Fin k0_t1_loop.trips) (v5127_r0 : BitVec 32) (k0_hw378 : k0_chk378 k0_t1 v5127_r0), ∀ (r : Fin 2), ∀ a, S8x128.size a = 0 ∨ (k0_off614 k0_t1 v5127_r0 (BitVec.ofNat 32 (26632 * r.val))) a + (![3329, 1] : Fin 2 → Nat) a * (S8x128.size a - 1) < S106528x128.size a := fun k0_t1 v5127_r0 k0_hw378 r => k0_hw378 r

def k0_off615 (k0_t1 : Fin k0_t1_loop.trips) (v5140_r0 : BitVec 32) (c0_i32_2790_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5141_r0 : BitVec 32 := Scalar.addi v5140_r0 v2149_r0
  let v5143_r0 : BitVec 32 := Scalar.addi v5141_r0 c0_i32_2790_r0
  let v5144_r0 : Index := Scalar.indexCast v5143_r0
  let c0_2791_r0 : Index := 0#32
  ![v5144_r0.toNat, 0]

def k0_chk379 (k0_t1 : Fin k0_t1_loop.trips) (v5140_r0 : BitVec 32) : Prop :=
  (∀ (r : Fin 2), ∀ a, S8x128.size a = 0 ∨ (k0_off615 k0_t1 v5140_r0 (BitVec.ofNat 32 (26632 * r.val))) a + (![3329, 1] : Fin 2 → Nat) a * (S8x128.size a - 1) < S106528x128.size a)
theorem k0_off615_inb : ∀ (k0_t1 : Fin k0_t1_loop.trips) (v5140_r0 : BitVec 32) (k0_hw379 : k0_chk379 k0_t1 v5140_r0), ∀ (r : Fin 2), ∀ a, S8x128.size a = 0 ∨ (k0_off615 k0_t1 v5140_r0 (BitVec.ofNat 32 (26632 * r.val))) a + (![3329, 1] : Fin 2 → Nat) a * (S8x128.size a - 1) < S106528x128.size a := fun k0_t1 v5140_r0 k0_hw379 r => k0_hw379 r

def k0_off616 (k0_t1 : Fin k0_t1_loop.trips) (v5153_r0 : BitVec 32) (c0_i32_2798_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5154_r0 : BitVec 32 := Scalar.addi v5153_r0 v2149_r0
  let v5156_r0 : BitVec 32 := Scalar.addi v5154_r0 c0_i32_2798_r0
  let v5157_r0 : Index := Scalar.indexCast v5156_r0
  let c0_2799_r0 : Index := 0#32
  ![v5157_r0.toNat, 0]

def k0_chk380 (k0_t1 : Fin k0_t1_loop.trips) (v5153_r0 : BitVec 32) : Prop :=
  (∀ (r : Fin 2), ∀ a, S8x128.size a = 0 ∨ (k0_off616 k0_t1 v5153_r0 (BitVec.ofNat 32 (26632 * r.val))) a + (![3329, 1] : Fin 2 → Nat) a * (S8x128.size a - 1) < S106528x128.size a)
theorem k0_off616_inb : ∀ (k0_t1 : Fin k0_t1_loop.trips) (v5153_r0 : BitVec 32) (k0_hw380 : k0_chk380 k0_t1 v5153_r0), ∀ (r : Fin 2), ∀ a, S8x128.size a = 0 ∨ (k0_off616 k0_t1 v5153_r0 (BitVec.ofNat 32 (26632 * r.val))) a + (![3329, 1] : Fin 2 → Nat) a * (S8x128.size a - 1) < S106528x128.size a := fun k0_t1 v5153_r0 k0_hw380 r => k0_hw380 r

def k0_off617 (k0_t1 : Fin k0_t1_loop.trips) (c0_i32_2802_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c30_i32_r0 : BitVec 32 := 30#32
  let v5167_r0 : BitVec 32 := Scalar.addi v2137_r0 c30_i32_r0
  let v5168_r0 : BitVec 32 := Scalar.addi v5167_r0 c0_i32_2802_r0
  let v5169_r0 : Index := Scalar.indexCast v5168_r0
  let c0_2803_r0 : Index := 0#32
  ![v5169_r0.toNat, 0]
def k0_off618 (k0_t1 : Fin k0_t1_loop.trips) (v5180_r0 : BitVec 32) (c0_i32_2811_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5181_r0 : BitVec 32 := Scalar.addi v5180_r0 v2149_r0
  let v5183_r0 : BitVec 32 := Scalar.addi v5181_r0 c0_i32_2811_r0
  let v5184_r0 : Index := Scalar.indexCast v5183_r0
  let c0_2812_r0 : Index := 0#32
  ![v5184_r0.toNat, 0]

def k0_chk381 (k0_t1 : Fin k0_t1_loop.trips) (v5180_r0 : BitVec 32) : Prop :=
  (∀ (r : Fin 2), ∀ a, S8x128.size a = 0 ∨ (k0_off618 k0_t1 v5180_r0 (BitVec.ofNat 32 (26632 * r.val))) a + (![3329, 1] : Fin 2 → Nat) a * (S8x128.size a - 1) < S106528x128.size a)
theorem k0_off618_inb : ∀ (k0_t1 : Fin k0_t1_loop.trips) (v5180_r0 : BitVec 32) (k0_hw381 : k0_chk381 k0_t1 v5180_r0), ∀ (r : Fin 2), ∀ a, S8x128.size a = 0 ∨ (k0_off618 k0_t1 v5180_r0 (BitVec.ofNat 32 (26632 * r.val))) a + (![3329, 1] : Fin 2 → Nat) a * (S8x128.size a - 1) < S106528x128.size a := fun k0_t1 v5180_r0 k0_hw381 r => k0_hw381 r

def k0_off619 (k0_t1 : Fin k0_t1_loop.trips) (v5193_r0 : BitVec 32) (c0_i32_2819_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5194_r0 : BitVec 32 := Scalar.addi v5193_r0 v2149_r0
  let v5196_r0 : BitVec 32 := Scalar.addi v5194_r0 c0_i32_2819_r0
  let v5197_r0 : Index := Scalar.indexCast v5196_r0
  let c0_2820_r0 : Index := 0#32
  ![v5197_r0.toNat, 0]

def k0_chk382 (k0_t1 : Fin k0_t1_loop.trips) (v5193_r0 : BitVec 32) : Prop :=
  (∀ (r : Fin 2), ∀ a, S8x128.size a = 0 ∨ (k0_off619 k0_t1 v5193_r0 (BitVec.ofNat 32 (26632 * r.val))) a + (![3329, 1] : Fin 2 → Nat) a * (S8x128.size a - 1) < S106528x128.size a)
theorem k0_off619_inb : ∀ (k0_t1 : Fin k0_t1_loop.trips) (v5193_r0 : BitVec 32) (k0_hw382 : k0_chk382 k0_t1 v5193_r0), ∀ (r : Fin 2), ∀ a, S8x128.size a = 0 ∨ (k0_off619 k0_t1 v5193_r0 (BitVec.ofNat 32 (26632 * r.val))) a + (![3329, 1] : Fin 2 → Nat) a * (S8x128.size a - 1) < S106528x128.size a := fun k0_t1 v5193_r0 k0_hw382 r => k0_hw382 r

def k0_off620 (k0_t1 : Fin k0_t1_loop.trips) (v5206_r0 : BitVec 32) (c0_i32_2827_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5207_r0 : BitVec 32 := Scalar.addi v5206_r0 v2149_r0
  let v5209_r0 : BitVec 32 := Scalar.addi v5207_r0 c0_i32_2827_r0
  let v5210_r0 : Index := Scalar.indexCast v5209_r0
  let c0_2828_r0 : Index := 0#32
  ![v5210_r0.toNat, 0]

def k0_chk383 (k0_t1 : Fin k0_t1_loop.trips) (v5206_r0 : BitVec 32) : Prop :=
  (∀ (r : Fin 2), ∀ a, S8x128.size a = 0 ∨ (k0_off620 k0_t1 v5206_r0 (BitVec.ofNat 32 (26632 * r.val))) a + (![3329, 1] : Fin 2 → Nat) a * (S8x128.size a - 1) < S106528x128.size a)
theorem k0_off620_inb : ∀ (k0_t1 : Fin k0_t1_loop.trips) (v5206_r0 : BitVec 32) (k0_hw383 : k0_chk383 k0_t1 v5206_r0), ∀ (r : Fin 2), ∀ a, S8x128.size a = 0 ∨ (k0_off620 k0_t1 v5206_r0 (BitVec.ofNat 32 (26632 * r.val))) a + (![3329, 1] : Fin 2 → Nat) a * (S8x128.size a - 1) < S106528x128.size a := fun k0_t1 v5206_r0 k0_hw383 r => k0_hw383 r

def k0_off621 (k0_t1 : Fin k0_t1_loop.trips) (v5219_r0 : BitVec 32) (c0_i32_2835_r0 : BitVec 32) : Fin 2 → Nat :=
  let c0_i32_1297_r0 : BitVec 32 := 0#32
  let c1_i32_1298_r0 : BitVec 32 := 1#32
  let arg10_r0 : BitVec 32 := Scf.iv c0_i32_1297_r0 c1_i32_1298_r0 k0_t1
  let c1_i32_1309_r0 : BitVec 32 := 1#32
  let v2122_r0 : BitVec 32 := Scalar.addi arg10_r0 c1_i32_1309_r0
  let c3_i32_r0 : BitVec 32 := 3#32
  let v2123_r0 : BitVec 32 := Scalar.minsi v2122_r0 c3_i32_r0
  let c2_i32_1318_r0 : BitVec 32 := 2#32
  let c0_i32_1319_r0 : BitVec 32 := 0#32
  let v2138_r0 : BitVec 1 := Scalar.cmpi .eq c2_i32_1318_r0 c0_i32_1319_r0
  let c1_i32_1320_r0 : BitVec 32 := 1#32
  let v2139_r0 : BitVec 32 := Scalar.select v2138_r0 c1_i32_1320_r0 c2_i32_1318_r0
  let v2140_r0 : BitVec 32 := Scalar.remsi v2123_r0 v2139_r0
  let c0_i32_1322_r0 : BitVec 32 := 0#32
  let v2142_r0 : BitVec 1 := Scalar.cmpi .slt v2140_r0 c0_i32_1322_r0
  let c0_i32_1323_r0 : BitVec 32 := 0#32
  let v2143_r0 : BitVec 1 := Scalar.cmpi .slt v2139_r0 c0_i32_1323_r0
  let v2144_r0 : BitVec 1 := Scalar.xori v2142_r0 v2143_r0
  let c0_i32_1321_r0 : BitVec 32 := 0#32
  let v2141_r0 : BitVec 1 := Scalar.cmpi .ne v2140_r0 c0_i32_1321_r0
  let v2145_r0 : BitVec 1 := Scalar.andi v2144_r0 v2141_r0
  let v2146_r0 : BitVec 32 := Scalar.addi v2140_r0 v2139_r0
  let v2147_r0 : BitVec 32 := Scalar.select v2145_r0 v2146_r0 v2140_r0
  let c16_i32_r0 : BitVec 32 := 16#32
  let v2148_r0 : BitVec 32 := Scalar.muli v2147_r0 c16_i32_r0
  let c3329_i32_1324_r0 : BitVec 32 := 3329#32
  let v2149_r0 : BitVec 32 := Scalar.muli v2148_r0 c3329_i32_1324_r0
  let v5220_r0 : BitVec 32 := Scalar.addi v5219_r0 v2149_r0
  let v5222_r0 : BitVec 32 := Scalar.addi v5220_r0 c0_i32_2835_r0
  let v5223_r0 : Index := Scalar.indexCast v5222_r0
  let c0_2836_r0 : Index := 0#32
  ![v5223_r0.toNat, 0]

def k0_chk384 (k0_t1 : Fin k0_t1_loop.trips) (v5219_r0 : BitVec 32) : Prop :=
  (∀ (r : Fin 2), ∀ a, S8x128.size a = 0 ∨ (k0_off621 k0_t1 v5219_r0 (BitVec.ofNat 32 (26632 * r.val))) a + (![3329, 1] : Fin 2 → Nat) a * (S8x128.size a - 1) < S106528x128.size a)
theorem k0_off621_inb : ∀ (k0_t1 : Fin k0_t1_loop.trips) (v5219_r0 : BitVec 32) (k0_hw384 : k0_chk384 k0_t1 v5219_r0), ∀ (r : Fin 2), ∀ a, S8x128.size a = 0 ∨ (k0_off621 k0_t1 v5219_r0 (BitVec.ofNat 32 (26632 * r.val))) a + (![3329, 1] : Fin 2 → Nat) a * (S8x128.size a - 1) < S106528x128.size a := fun k0_t1 v5219_r0 k0_hw384 r => k0_hw384 r

def k0_off622 (k0_t1 : Fin k0_t1_loop.trips) (c0_i32_2839_r0 : BitVec 32) : Fin 2 → Nat :=
  let c528_i32_1317_r0 : BitVec 32 := 528#32
  let c0_i32_1297_r0 : BitVec 32 := 0#32
  let c1_i32_1298_r0 : BitVec 32 := 1#32
  let arg10_r0 : BitVec 32 := Scf.iv c0_i32_1297_r0 c1_i32_1298_r0 k0_t1
  let c104_i32_r0 : BitVec 32 := 104#32
  let v2124_r0 : BitVec 32 := Scalar.muli arg10_r0 c104_i32_r0
  let c103_i32_1310_r0 : BitVec 32 := 103#32
  let v2125_r0 : BitVec 32 := Scalar.addi v2124_r0 c103_i32_1310_r0
  let c2_i32_1311_r0 : BitVec 32 := 2#32
  let c0_i32_1312_r0 : BitVec 32 := 0#32
  let v2126_r0 : BitVec 1 := Scalar.cmpi .eq c2_i32_1311_r0 c0_i32_1312_r0
  let c1_i32_1313_r0 : BitVec 32 := 1#32
  let v2127_r0 : BitVec 32 := Scalar.select v2126_r0 c1_i32_1313_r0 c2_i32_1311_r0
  let v2128_r0 : BitVec 32 := Scalar.remsi v2125_r0 v2127_r0
  let c0_i32_1315_r0 : BitVec 32 := 0#32
  let v2130_r0 : BitVec 1 := Scalar.cmpi .slt v2128_r0 c0_i32_1315_r0
  let c0_i32_1316_r0 : BitVec 32 := 0#32
  let v2131_r0 : BitVec 1 := Scalar.cmpi .slt v2127_r0 c0_i32_1316_r0
  let v2132_r0 : BitVec 1 := Scalar.xori v2130_r0 v2131_r0
  let c0_i32_1314_r0 : BitVec 32 := 0#32
  let v2129_r0 : BitVec 1 := Scalar.cmpi .ne v2128_r0 c0_i32_1314_r0
  let v2133_r0 : BitVec 1 := Scalar.andi v2132_r0 v2129_r0
  let v2134_r0 : BitVec 32 := Scalar.addi v2128_r0 v2127_r0
  let v2135_r0 : BitVec 32 := Scalar.select v2133_r0 v2134_r0 v2128_r0
  let c528_i32_r0 : BitVec 32 := 528#32
  let v2136_r0 : BitVec 32 := Scalar.muli v2135_r0 c528_i32_r0
  let v2137_r0 : BitVec 32 := Scalar.subi c528_i32_1317_r0 v2136_r0
  let c31_i32_r0 : BitVec 32 := 31#32
  let v5233_r0 : BitVec 32 := Scalar.addi v2137_r0 c31_i32_r0
  let v5234_r0 : BitVec 32 := Scalar.addi v5233_r0 c0_i32_2839_r0
  let v5235_r0 : Index := Scalar.indexCast v5234_r0
  let c0_2840_r0 : Index := 0#32
  ![v5235_r0.toNat, 0]
def k0_off623 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5338_r0 : Index := Scalar.indexCast arg10_r0
  let c0_2871_r0 : Index := 0#32
  let c0_2872_r0 : Index := 0#32
  ![v5338_r0.toNat, 0, 0]
def k0_off624 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5430_r0 : Index := Scalar.indexCast arg10_r0
  let c0_2899_r0 : Index := 0#32
  let c128_r0 : Index := 128#32
  ![v5430_r0.toNat, 0, 128]
def k0_off625 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5525_r0 : Index := Scalar.indexCast arg10_r0
  let c0_2927_r0 : Index := 0#32
  let c256_r0 : Index := 256#32
  ![v5525_r0.toNat, 0, 256]
def k0_off626 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5617_r0 : Index := Scalar.indexCast arg10_r0
  let c0_2955_r0 : Index := 0#32
  let c384_r0 : Index := 384#32
  ![v5617_r0.toNat, 0, 384]
def k0_off627 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5713_r0 : Index := Scalar.indexCast arg10_r0
  let c0_2983_r0 : Index := 0#32
  let c512_r0 : Index := 512#32
  ![v5713_r0.toNat, 0, 512]
def k0_off628 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5805_r0 : Index := Scalar.indexCast arg10_r0
  let c0_3011_r0 : Index := 0#32
  let c640_r0 : Index := 640#32
  ![v5805_r0.toNat, 0, 640]
def k0_off629 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5900_r0 : Index := Scalar.indexCast arg10_r0
  let c0_3039_r0 : Index := 0#32
  let c768_r0 : Index := 768#32
  ![v5900_r0.toNat, 0, 768]
def k0_off630 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v5992_r0 : Index := Scalar.indexCast arg10_r0
  let c0_3067_r0 : Index := 0#32
  let c896_r0 : Index := 896#32
  ![v5992_r0.toNat, 0, 896]
def k0_off631 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6088_r0 : Index := Scalar.indexCast arg10_r0
  let c0_3095_r0 : Index := 0#32
  let c1024_r0 : Index := 1024#32
  ![v6088_r0.toNat, 0, 1024]
def k0_off632 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6180_r0 : Index := Scalar.indexCast arg10_r0
  let c0_3123_r0 : Index := 0#32
  let c1152_r0 : Index := 1152#32
  ![v6180_r0.toNat, 0, 1152]
def k0_off633 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6275_r0 : Index := Scalar.indexCast arg10_r0
  let c0_3151_r0 : Index := 0#32
  let c1280_r0 : Index := 1280#32
  ![v6275_r0.toNat, 0, 1280]
def k0_off634 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6367_r0 : Index := Scalar.indexCast arg10_r0
  let c0_3179_r0 : Index := 0#32
  let c1408_r0 : Index := 1408#32
  ![v6367_r0.toNat, 0, 1408]
def k0_off635 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6463_r0 : Index := Scalar.indexCast arg10_r0
  let c0_3207_r0 : Index := 0#32
  let c1536_r0 : Index := 1536#32
  ![v6463_r0.toNat, 0, 1536]
def k0_off636 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6555_r0 : Index := Scalar.indexCast arg10_r0
  let c0_3235_r0 : Index := 0#32
  let c1664_r0 : Index := 1664#32
  ![v6555_r0.toNat, 0, 1664]
def k0_off637 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6650_r0 : Index := Scalar.indexCast arg10_r0
  let c0_3263_r0 : Index := 0#32
  let c1792_r0 : Index := 1792#32
  ![v6650_r0.toNat, 0, 1792]
def k0_off638 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6742_r0 : Index := Scalar.indexCast arg10_r0
  let c0_3291_r0 : Index := 0#32
  let c1920_r0 : Index := 1920#32
  ![v6742_r0.toNat, 0, 1920]
def k0_off639 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6838_r0 : Index := Scalar.indexCast arg10_r0
  let c0_3319_r0 : Index := 0#32
  let c2048_r0 : Index := 2048#32
  ![v6838_r0.toNat, 0, 2048]
def k0_off640 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v6930_r0 : Index := Scalar.indexCast arg10_r0
  let c0_3347_r0 : Index := 0#32
  let c2176_r0 : Index := 2176#32
  ![v6930_r0.toNat, 0, 2176]
def k0_off641 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7025_r0 : Index := Scalar.indexCast arg10_r0
  let c0_3375_r0 : Index := 0#32
  let c2304_r0 : Index := 2304#32
  ![v7025_r0.toNat, 0, 2304]
def k0_off642 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7117_r0 : Index := Scalar.indexCast arg10_r0
  let c0_3403_r0 : Index := 0#32
  let c2432_r0 : Index := 2432#32
  ![v7117_r0.toNat, 0, 2432]
def k0_off643 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7213_r0 : Index := Scalar.indexCast arg10_r0
  let c0_3431_r0 : Index := 0#32
  let c2560_r0 : Index := 2560#32
  ![v7213_r0.toNat, 0, 2560]
def k0_off644 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7305_r0 : Index := Scalar.indexCast arg10_r0
  let c0_3459_r0 : Index := 0#32
  let c2688_r0 : Index := 2688#32
  ![v7305_r0.toNat, 0, 2688]
def k0_off645 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7400_r0 : Index := Scalar.indexCast arg10_r0
  let c0_3487_r0 : Index := 0#32
  let c2816_r0 : Index := 2816#32
  ![v7400_r0.toNat, 0, 2816]
def k0_off646 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7492_r0 : Index := Scalar.indexCast arg10_r0
  let c0_3515_r0 : Index := 0#32
  let c2944_r0 : Index := 2944#32
  ![v7492_r0.toNat, 0, 2944]
def k0_off647 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7588_r0 : Index := Scalar.indexCast arg10_r0
  let c0_3543_r0 : Index := 0#32
  let c3072_r0 : Index := 3072#32
  ![v7588_r0.toNat, 0, 3072]
def k0_off648 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7680_r0 : Index := Scalar.indexCast arg10_r0
  let c0_3571_r0 : Index := 0#32
  let c3200_r0 : Index := 3200#32
  ![v7680_r0.toNat, 0, 3200]
def k0_off649 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7775_r0 : Index := Scalar.indexCast arg10_r0
  let c0_3599_r0 : Index := 0#32
  let c3328_r0 : Index := 3328#32
  ![v7775_r0.toNat, 0, 3328]
def k0_off650 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7867_r0 : Index := Scalar.indexCast arg10_r0
  let c0_3627_r0 : Index := 0#32
  let c3456_r0 : Index := 3456#32
  ![v7867_r0.toNat, 0, 3456]
def k0_off651 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v7963_r0 : Index := Scalar.indexCast arg10_r0
  let c0_3655_r0 : Index := 0#32
  let c3584_r0 : Index := 3584#32
  ![v7963_r0.toNat, 0, 3584]
def k0_off652 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v8055_r0 : Index := Scalar.indexCast arg10_r0
  let c0_3683_r0 : Index := 0#32
  let c3712_r0 : Index := 3712#32
  ![v8055_r0.toNat, 0, 3712]
def k0_off653 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v8150_r0 : Index := Scalar.indexCast arg10_r0
  let c0_3711_r0 : Index := 0#32
  let c3840_r0 : Index := 3840#32
  ![v8150_r0.toNat, 0, 3840]
def k0_off654 (k0_t1 : Fin k0_t1_loop.trips) : Fin 3 → Nat :=
  let c0_i32_1297_r0 : BitVec 32 := 0#32
  let c1_i32_1298_r0 : BitVec 32 := 1#32
  let arg10_r0 : BitVec 32 := Scf.iv c0_i32_1297_r0 c1_i32_1298_r0 k0_t1
  let v8242_r0 : Index := Scalar.indexCast arg10_r0
  let c0_3739_r0 : Index := 0#32
  let c3968_r0 : Index := 3968#32
  ![v8242_r0.toNat, 0, 3968]
abbrev stage0_0 : Fin 1 → Memref sig .tc .smem S104x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S104x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S104x24x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6656x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6656x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x48x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S48x1x13312 : Shape := ⟨3, ![48, 1, 13312]⟩
abbrev S13312x8192 : Shape := ⟨2, ![13312, 8192]⟩
abbrev S104x16384 : Shape := ⟨2, ![104, 16384]⟩
abbrev S52x16384 : Shape := ⟨2, ![52, 16384]⟩
abbrev S13312 : Shape := ⟨1, ![13312]⟩
abbrev S_ : Shape := ⟨0, ![]⟩
abbrev S48x13312 : Shape := ⟨2, ![48, 13312]⟩
abbrev S104x8192 : Shape := ⟨2, ![104, 8192]⟩
abbrev S13312x1 : Shape := ⟨2, ![13312, 1]⟩
abbrev S48x8192 : Shape := ⟨2, ![48, 8192]⟩
abbrev S48x8192x1 : Shape := ⟨3, ![48, 8192, 1]⟩
abbrev S48x8192x2 : Shape := ⟨3, ![48, 8192, 2]⟩
abbrev S48x16384 : Shape := ⟨2, ![48, 16384]⟩
abbrev S48x1x16384 : Shape := ⟨3, ![48, 1, 16384]⟩

abbrev nBuf : Space → Nat
  | .hbm => 79
  | .vmem => 0
  | .smem => 0
  | _ => 0

abbrev bufTy : (tb : Table) → Fin (tcTables nBuf tb) → BufTy
  | .hbm, ⟨0, _⟩ => ⟨S48x1x13312, .i16⟩
  | .hbm, ⟨1, _⟩ => ⟨S13312x8192, .i8⟩
  | .hbm, ⟨2, _⟩ => ⟨S104x16384, .i16⟩
  | .hbm, ⟨3, _⟩ => ⟨S52x16384, .i8⟩
  | .hbm, ⟨4, _⟩ => ⟨S13312, .i32⟩
  | .hbm, ⟨5, _⟩ => ⟨S48x1x13312, .bf16⟩
  | .hbm, ⟨6, _⟩ => ⟨S104x16384, .bf16⟩
  | .hbm, ⟨7, _⟩ => ⟨S13312x8192, .i32⟩
  | .hbm, ⟨8, _⟩ => ⟨S52x16384, .i32⟩
  | .hbm, ⟨9, _⟩ => ⟨S_, .i32⟩
  | .hbm, ⟨10, _⟩ => ⟨S52x16384, .i32⟩
  | .hbm, ⟨11, _⟩ => ⟨S52x16384, .i32⟩
  | .hbm, ⟨12, _⟩ => ⟨S_, .i32⟩
  | .hbm, ⟨13, _⟩ => ⟨S52x16384, .i32⟩
  | .hbm, ⟨14, _⟩ => ⟨S52x16384, .i32⟩
  | .hbm, ⟨15, _⟩ => ⟨S104x16384, .i32⟩
  | .hbm, ⟨16, _⟩ => ⟨S48x13312, .bf16⟩
  | .hbm, ⟨17, _⟩ => ⟨S_, .i32⟩
  | .hbm, ⟨18, _⟩ => ⟨S13312x8192, .i32⟩
  | .hbm, ⟨19, _⟩ => ⟨S13312x8192, .i32⟩
  | .hbm, ⟨20, _⟩ => ⟨S104x8192, .bf16⟩
  | .hbm, ⟨21, _⟩ => ⟨S104x8192, .i32⟩
  | .hbm, ⟨22, _⟩ => ⟨S13312x8192, .bf16⟩
  | .hbm, ⟨23, _⟩ => ⟨S_, .i32⟩
  | .hbm, ⟨24, _⟩ => ⟨S13312, .i32⟩
  | .hbm, ⟨25, _⟩ => ⟨S13312, .i1⟩
  | .hbm, ⟨26, _⟩ => ⟨S_, .i32⟩
  | .hbm, ⟨27, _⟩ => ⟨S13312, .i32⟩
  | .hbm, ⟨28, _⟩ => ⟨S13312, .i32⟩
  | .hbm, ⟨29, _⟩ => ⟨S13312, .i32⟩
  | .hbm, ⟨30, _⟩ => ⟨S13312x1, .i32⟩
  | .hbm, ⟨31, _⟩ => ⟨S13312x8192, .i32⟩
  | .hbm, ⟨32, _⟩ => ⟨S13312x8192, .bf16⟩
  | .hbm, ⟨33, _⟩ => ⟨S13312x8192, .bf16⟩
  | .hbm, ⟨34, _⟩ => ⟨S_, .i32⟩
  | .hbm, ⟨35, _⟩ => ⟨S13312, .i32⟩
  | .hbm, ⟨36, _⟩ => ⟨S13312, .i1⟩
  | .hbm, ⟨37, _⟩ => ⟨S_, .i32⟩
  | .hbm, ⟨38, _⟩ => ⟨S13312, .i32⟩
  | .hbm, ⟨39, _⟩ => ⟨S13312, .i32⟩
  | .hbm, ⟨40, _⟩ => ⟨S13312, .i32⟩
  | .hbm, ⟨41, _⟩ => ⟨S13312x1, .i32⟩
  | .hbm, ⟨42, _⟩ => ⟨S13312x8192, .bf16⟩
  | .hbm, ⟨43, _⟩ => ⟨S13312x8192, .bf16⟩
  | .hbm, ⟨44, _⟩ => ⟨S48x8192, .f32⟩
  | .hbm, ⟨45, _⟩ => ⟨S_, .i32⟩
  | .hbm, ⟨46, _⟩ => ⟨S13312x8192, .i32⟩
  | .hbm, ⟨47, _⟩ => ⟨S13312x8192, .i32⟩
  | .hbm, ⟨48, _⟩ => ⟨S104x8192, .bf16⟩
  | .hbm, ⟨49, _⟩ => ⟨S104x8192, .i32⟩
  | .hbm, ⟨50, _⟩ => ⟨S13312x8192, .bf16⟩
  | .hbm, ⟨51, _⟩ => ⟨S_, .i32⟩
  | .hbm, ⟨52, _⟩ => ⟨S13312, .i32⟩
  | .hbm, ⟨53, _⟩ => ⟨S13312, .i1⟩
  | .hbm, ⟨54, _⟩ => ⟨S_, .i32⟩
  | .hbm, ⟨55, _⟩ => ⟨S13312, .i32⟩
  | .hbm, ⟨56, _⟩ => ⟨S13312, .i32⟩
  | .hbm, ⟨57, _⟩ => ⟨S13312, .i32⟩
  | .hbm, ⟨58, _⟩ => ⟨S13312x1, .i32⟩
  | .hbm, ⟨59, _⟩ => ⟨S13312x8192, .i32⟩
  | .hbm, ⟨60, _⟩ => ⟨S13312x8192, .bf16⟩
  | .hbm, ⟨61, _⟩ => ⟨S13312x8192, .bf16⟩
  | .hbm, ⟨62, _⟩ => ⟨S_, .i32⟩
  | .hbm, ⟨63, _⟩ => ⟨S13312, .i32⟩
  | .hbm, ⟨64, _⟩ => ⟨S13312, .i1⟩
  | .hbm, ⟨65, _⟩ => ⟨S_, .i32⟩
  | .hbm, ⟨66, _⟩ => ⟨S13312, .i32⟩
  | .hbm, ⟨67, _⟩ => ⟨S13312, .i32⟩
  | .hbm, ⟨68, _⟩ => ⟨S13312, .i32⟩
  | .hbm, ⟨69, _⟩ => ⟨S13312x1, .i32⟩
  | .hbm, ⟨70, _⟩ => ⟨S13312x8192, .bf16⟩
  | .hbm, ⟨71, _⟩ => ⟨S13312x8192, .bf16⟩
  | .hbm, ⟨72, _⟩ => ⟨S48x8192, .f32⟩
  | .hbm, ⟨73, _⟩ => ⟨S48x8192x1, .f32⟩
  | .hbm, ⟨74, _⟩ => ⟨S48x8192x1, .f32⟩
  | .hbm, ⟨75, _⟩ => ⟨S48x8192x2, .f32⟩
  | .hbm, ⟨76, _⟩ => ⟨S48x16384, .f32⟩
  | .hbm, ⟨77, _⟩ => ⟨S48x1x16384, .f32⟩
  | .hbm, ⟨78, _⟩ => ⟨S48x1x16384, .bf16⟩
  | _, _ => ⟨S48x1x13312, .i16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Proof.KProg.lean ====
/-
  The kernel's body as a few short programs: one gathered word (`gword`), one tile's product (`gtile`), one group's
  step (`gstep`).
-/
module

public import proofs.«01_k».proof.Proof.Gen.Kernel.Skeleton
public import proofs.«01_k».proof.Proof.Gen.Kernel.Loops
public import Idealize.ShloMosaic.Lib.Pipeline.Regions
public meta import Idealize.ShloMosaic.Lib.Pipeline.Regions

@[expose] public section

noncomputable section

namespace Cert.Proof.Kernel

open Cert.Kernel Cert.Kernel.Gen
open Idealize.ShloMosaic Idealize.SL.Sem

variable {F : FTy → Type} [FloatOps F]

/-! ## Offsets, as the kernel computes them -/

/-- Group `g`'s position `j` in the two index tables. -/
def oA (g : BitVec 32) (j : Nat) : Fin 2 → Nat := ![(Scalar.indexCast g : Index).toNat, j]
/-- The row gathered from the staged words: the table's word, plus the slot's base, plus the half's. -/
def oW (base q h : BitVec 32) : Fin 2 → Nat := ![(Scalar.indexCast (Scalar.addi (Scalar.addi q base) h) : Index).toNat, 0]
/-- The row the sorted words are stored from. -/
def oS (nslot w h : BitVec 32) : Fin 2 → Nat := ![(Scalar.indexCast (Scalar.addi (Scalar.addi nslot w) h) : Index).toNat, 0]
/-- The first row of a chunk's sorted words. -/
def oR (slot c : BitVec 32) : Fin 2 → Nat := ![(Scalar.indexCast (Scalar.addi slot c) : Index).toNat, 0]
/-- The row of the scales' and of the zeros' table. -/
def oT (n g c : BitVec 32) : Fin 2 → Nat :=
  ![(Scalar.indexCast (Scalar.addi (Scalar.muli (Scalar.addi (Scalar.muli n 104#32) g) 16#32) c) : Index).toNat, 0]
/-- The group's slab of activations. -/
def oX (g : BitVec 32) : Fin 3 → Nat := ![(Scalar.indexCast g : Index).toNat, 0, 0]

/-- The side condition on a word `q` of the index table: the two strided reads from it stay inside the staged words. -/
def gchk (base q : BitVec 32) : Prop :=
  (∀ (r : Fin 2), ∀ a, S8x128.size a = 0 ∨ (oW base q (BitVec.ofNat 32 (26632 * r.val))) a + (![3329, 1] : Fin 2 → Nat) a * (S8x128.size a - 1) < S106528x128.size a)

instance gchk.dec : ∀ (base q : BitVec 32), Decidable (gchk base q) := fun base q => decidable_of_iff' _ (Iff.of_eq (gchk.eq_1 base q))

/-- What the unchecked offsets of one step owe. -/
structure GOk (g1 nslot : BitVec 32) : Prop where
  a : ∀ j, j < 128 → ∀ a, oA g1 j a + S1x1.size a ≤ S104x128.size a
  s : ∀ w, w < 32 → ∀ (r : Fin 2), ∀ a, S8x128.size a = 0 ∨ (oS nslot (BitVec.ofNat 32 w) (BitVec.ofNat 32 (264 * r.val))) a + (![33, 1] : Fin 2 → Nat) a * (S8x128.size a - 1) < S1056x128.size a

structure TOk (n g slot : BitVec 32) : Prop where
  r : ∀ c, c < 16 → ∀ a, oR slot (BitVec.ofNat 32 (33 * c)) a + S32x128.size a ≤ S1056x128.size a
  t : ∀ c, c < 16 → ∀ a, oT n g (BitVec.ofNat 32 c) a + S1x128.size a ≤ S6656x128.size a
  x : ∀ a, oX g a + S1x24x256.size a ≤ S104x24x256.size a

section Progs

variable (arg1 : Memref sig .tc .smem S104x128 .i32) (arg2 : Memref sig .tc .smem S104x128 .i32)
  (arg3 : Memref sig .tc .vmem S104x24x256 .i32) (arg4 : Memref sig .tc .vmem S6656x128 .i32) (arg5 : Memref sig .tc .vmem S6656x128 .i32)
  (arg7 : Memref sig .tc .vmem S106528x128 .i32) (arg8 : Memref sig .tc .vmem S1056x128 .i32)

/-- One byte of the gathered words: position `j`'s row and shift, and the two halves' rows shifted. -/
def gbyte {α : Type} (g1 base : BitVec 32) (j : Nat) (hj : ∀ a, oA g1 j a + S1x1.size a ≤ S104x128.size a)
    (k : IVec S8x128 32 → IVec S8x128 32 → Prog (TpuEff nD τ sig (Elt F) Λ₀ .tc) α) : Prog (TpuEff nD τ sig (Elt F) Λ₀ .tc) α := do
  let q : Elt F .i32 ← smemLoad arg1 (Rect.unit (s := S104x128) (oA g1 j) S1x1.size hj) numel1_S1x1 rfl
  have hw : gchk base q := (← Prog.lift (TpuEff.assume (gchk base q) (gchk.dec base q))).down
  let sh : Elt F .i32 ← smemLoad arg2 (Rect.unit (s := S104x128) (oA g1 j) S1x1.size hj) numel1_S1x1 rfl
  let a : Vec F S8x128 .i32 ← Prog.lift (.load arg7 (⟨oW base q 0#32, S8x128.size, ![3329, 1], hw 0⟩ : LoadRect S106528x128) (View.loadsAt_vmem h_S8x128))
  let b : Vec F S8x128 .i32 ← Prog.lift (.load arg7 (⟨oW base q 26632#32, S8x128.size, ![3329, 1], hw 1⟩ : LoadRect S106528x128) (View.loadsAt_vmem h_S8x128))
  k (k0_pay10 (F := F) sh a) (k0_pay10 (F := F) sh b)

/-- Four gathered bytes packed and stored: a half's rows. -/
def gput {α : Type} (nslot w : BitVec 32) (h : BitVec 32)
    (hh : ∀ a, S8x128.size a = 0 ∨ oS nslot w h a + (![33, 1] : Fin 2 → Nat) a * (S8x128.size a - 1) < S1056x128.size a)
    (a b c d : IVec S8x128 32) (k : Prog (TpuEff nD τ sig (Elt F) Λ₀ .tc) α) : Prog (TpuEff nD τ sig (Elt F) Λ₀ .tc) α := do
  let _x : Vec F S8x128 .i32 ← Prog.lift (.load arg8 (⟨oS nslot w h, S8x128.size, ![33, 1], hh⟩ : LoadRect S1056x128) (View.loadsAt_vmem h_S8x128))
  Prog.lift (.store arg8 ⟨(⟨oS nslot w h, S8x128.size, ![33, 1], hh⟩ : LoadRect S1056x128), spos_33_1⟩ (shapeCast S8x128 (packElementwiseInt 8 ![a, b, c, d]) shapeCasts_S8x128_S8x128 : IVec S8x128 32) Finset.univ (View.stores_vmem_bits_univ h_S8x128 rfl) (.inl rfl))
  k

/-- One gathered word. -/
def gword {α : Type} (g1 base nslot : BitVec 32) (h : GOk g1 nslot) (w : Nat) (hw : w < 32) (k : Prog (TpuEff nD τ sig (Elt F) Λ₀ .tc) α) : Prog (TpuEff nD τ sig (Elt F) Λ₀ .tc) α :=
  gbyte (F := F) arg1 arg2 arg7 g1 base (4 * w) (h.a _ (by omega)) fun a0 b0 =>
  gbyte (F := F) arg1 arg2 arg7 g1 base (4 * w + 1) (h.a _ (by omega)) fun a1 b1 =>
  gbyte (F := F) arg1 arg2 arg7 g1 base (4 * w + 2) (h.a _ (by omega)) fun a2 b2 =>
  gbyte (F := F) arg1 arg2 arg7 g1 base (4 * w + 3) (h.a _ (by omega)) fun a3 b3 =>
  gput (F := F) arg8 nslot (BitVec.ofNat 32 w) 0#32 (h.s w hw 0) a0 a1 a2 a3 <|
  gput (F := F) arg8 nslot (BitVec.ofNat 32 w) 264#32 (h.s w hw 1) b0 b1 b2 b3 k

/-- A tile's decoded weights. -/
def gwt (v0 : Vec F S32x128 .i32) (s0 z0 : Vec F S1x128 .i32) (v1 : Vec F S32x128 .i32) (s1 z1 : Vec F S1x128 .i32) : FVec F S256x256 .bf16 :=
  k0_pay44 (k0_pay43 (k0_pay42 (F := F) v0) s0 z0) v1 s1 z1

/-- A group's left operand. -/
def glhs (x : Vec F S1x24x256 .i32) : FVec F S96x256 .bf16 :=
  k0_pay45 x

/-- One tile's product. -/
def gtile {α : Type} (n g slot : BitVec 32) (h : TOk n g slot) (t : Nat) (ht : t < 8) (q r : Fin 2) (A : Nat) (hA : Mxu.Fits A 96)
    (s : Mxu F) (k : Mxu F → Prog (TpuEff nD τ sig (Elt F) Λ₀ .tc) α) : Prog (TpuEff nD τ sig (Elt F) Λ₀ .tc) α := do
  let v0 : Vec F S32x128 .i32 ← Prog.lift (.load arg8 (Rect.unit (s := S1056x128) (oR slot (BitVec.ofNat 32 (33 * (2 * t)))) S32x128.size (h.r (2 * t) (by omega))).toLoadRect (View.loadsAt_vmem h_S32x128))
  let s0 : Vec F S1x128 .i32 ← Prog.lift (.load arg4 (Rect.unit (s := S6656x128) (oT n g (BitVec.ofNat 32 (2 * t))) S1x128.size (h.t (2 * t) (by omega))).toLoadRect (View.loadsAt_vmem h_S1x128))
  let z0 : Vec F S1x128 .i32 ← Prog.lift (.load arg5 (Rect.unit (s := S6656x128) (oT n g (BitVec.ofNat 32 (2 * t))) S1x128.size (h.t (2 * t) (by omega))).toLoadRect (View.loadsAt_vmem h_S1x128))
  let v1 : Vec F S32x128 .i32 ← Prog.lift (.load arg8 (Rect.unit (s := S1056x128) (oR slot (BitVec.ofNat 32 (33 * (2 * t + 1)))) S32x128.size (h.r (2 * t + 1) (by omega))).toLoadRect (View.loadsAt_vmem h_S32x128))
  let s1 : Vec F S1x128 .i32 ← Prog.lift (.load arg4 (Rect.unit (s := S6656x128) (oT n g (BitVec.ofNat 32 (2 * t + 1))) S1x128.size (h.t (2 * t + 1) (by omega))).toLoadRect (View.loadsAt_vmem h_S1x128))
  let z1 : Vec F S1x128 .i32 ← Prog.lift (.load arg5 (Rect.unit (s := S6656x128) (oT n g (BitVec.ofNat 32 (2 * t + 1))) S1x128.size (h.t (2 * t + 1) (by omega))).toLoadRect (View.loadsAt_vmem h_S1x128))
  let s' : Mxu F ← s.pushRhs q r false (gwt v0 s0 z0 v1 s1 z1)
  let x : Vec F S1x24x256 .i32 ← Prog.lift (.load arg3 (Rect.unit (s := S104x24x256) (oX g) S1x24x256.size h.x).toLoadRect (View.loadsAt_vmem h_S1x24x256))
  k (s'.accLhs q r A (glhs x) hA)

/-- Four consecutive gathered words. -/
def gfour {α : Type} (g1 base nslot : BitVec 32) (h : GOk g1 nslot) (t : Nat) (ht : t < 8) (k : Prog (TpuEff nD τ sig (Elt F) Λ₀ .tc) α) : Prog (TpuEff nD τ sig (Elt F) Λ₀ .tc) α :=
  gword (F := F) arg1 arg2 arg7 arg8 g1 base nslot h (4 * t) (by omega) <|
  gword (F := F) arg1 arg2 arg7 arg8 g1 base nslot h (4 * t + 1) (by omega) <|
  gword (F := F) arg1 arg2 arg7 arg8 g1 base nslot h (4 * t + 2) (by omega) <|
  gword (F := F) arg1 arg2 arg7 arg8 g1 base nslot h (4 * t + 3) (by omega) k

/-- One group's step: eight tiles, four words gathered for the next group after each. -/
def gstep {α : Type} (n g slot g1 base nslot : BitVec 32) (hT : TOk n g slot) (hG : GOk g1 nslot) (s : Mxu F)
    (k : Mxu F → Prog (TpuEff nD τ sig (Elt F) Λ₀ .tc) α) : Prog (TpuEff nD τ sig (Elt F) Λ₀ .tc) α :=
  gtile (F := F) arg3 arg4 arg5 arg8 n g slot hT 0 (by omega) 0 0 0 (by decide) s fun s =>
  gfour (F := F) arg1 arg2 arg7 arg8 g1 base nslot hG 0 (by omega) <|
  gtile (F := F) arg3 arg4 arg5 arg8 n g slot hT 1 (by omega) 1 0 0 (by decide) s fun s =>
  gfour (F := F) arg1 arg2 arg7 arg8 g1 base nslot hG 1 (by omega) <|
  gtile (F := F) arg3 arg4 arg5 arg8 n g slot hT 2 (by omega) 0 1 24 (by decide) s fun s =>
  gfour (F := F) arg1 arg2 arg7 arg8 g1 base nslot hG 2 (by omega) <|
  gtile (F := F) arg3 arg4 arg5 arg8 n g slot hT 3 (by omega) 1 1 24 (by decide) s fun s =>
  gfour (F := F) arg1 arg2 arg7 arg8 g1 base nslot hG 3 (by omega) <|
  gtile (F := F) arg3 arg4 arg5 arg8 n g slot hT 4 (by omega) 0 0 48 (by decide) s fun s =>
  gfour (F := F) arg1 arg2 arg7 arg8 g1 base nslot hG 4 (by omega) <|
  gtile (F := F) arg3 arg4 arg5 arg8 n g slot hT 5 (by omega) 1 0 48 (by decide) s fun s =>
  gfour (F := F) arg1 arg2 arg7 arg8 g1 base nslot hG 5 (by omega) <|
  gtile (F := F) arg3 arg4 arg5 arg8 n g slot hT 6 (by omega) 0 1 72 (by decide) s fun s =>
  gfour (F := F) arg1 arg2 arg7 arg8 g1 base nslot hG 6 (by omega) <|
  gtile (F := F) arg3 arg4 arg5 arg8 n g slot hT 7 (by omega) 1 1 72 (by decide) s fun s =>
  gfour (F := F) arg1 arg2 arg7 arg8 g1 base nslot hG 7 (by omega) (k s)

end Progs

/-! ## The words a step computes from its trip -/

/-- The remainder by two, as the kernel computes it. -/
def gmod2 (x : BitVec 32) : BitVec 32 :=
  let m : BitVec 32 := Scalar.select (Scalar.cmpi .eq 2#32 0#32) 1#32 2#32
  let r : BitVec 32 := Scalar.remsi x m
  Scalar.select (Scalar.andi (Scalar.xori (Scalar.cmpi .slt r 0#32) (Scalar.cmpi .slt m 0#32)) (Scalar.cmpi .ne r 0#32)) (Scalar.addi r m) r

/-- The block, the group, the slot's first row, the staged half's first row. -/
def gN (t1 : Fin k0_t1_loop.trips) : BitVec 32 := Scf.iv 0#32 1#32 t1
def gG (t2 : Fin k0_t2_loop.trips) : BitVec 32 := Scf.iv 0#32 1#32 t2
def gSlot (n g : BitVec 32) : BitVec 32 := Scalar.muli (gmod2 (Scalar.addi (Scalar.muli n 104#32) g)) 528#32
def gBase (n : BitVec 32) : BitVec 32 := Scalar.muli (Scalar.muli (gmod2 n) 16#32) 3329#32

/-! ## The copies, and the results -/

/-- The cell of a block's copies, the row a chunk's copy lands at, the column it is read from. -/
def oQ (n : BitVec 32) : Fin 1 → Nat := ![(gmod2 n).toNat]
def oD (n c : BitVec 32) : Fin 2 → Nat := ![(Scalar.muli (Scalar.addi (Scalar.muli (gmod2 n) 16#32) c) 3329#32).toNat, 0]
def oB (n c : BitVec 32) : Fin 2 → Nat := ![0, (Scalar.muli (Scalar.addi (Scalar.muli n 16#32) c) 128#32).toNat]
/-- Where a tile of results is stored. -/
def oO (n : BitVec 32) (j : Nat) : Fin 3 → Nat := ![(Scalar.indexCast n : Index).toNat, 0, 128 * j]

/-- What the unchecked offsets of a block's copies owe. -/
structure DOk (n : BitVec 32) : Prop where
  q : ∀ a, oQ n a + S1.size a ≤ S2.size a
  d : ∀ c, c < 16 → ∀ a, oD n (BitVec.ofNat 32 c) a + S3328x128.size a ≤ S106528x128.size a
  s : ∀ c, c < 16 → ∀ a, oB n (BitVec.ofNat 32 c) a + S3328x128.size a ≤ S3328x8192.size a

section Copies

variable (arg0 : Memref sig .tc .hbm S3328x8192 .i32) (arg7 : Memref sig .tc .vmem S106528x128 .i32) (arg9 : DmaSems sig S2)

def gsem (n : BitVec 32) (h : DOk n) : DmaSems sig S_ := (arg9.slice (Rect.unit (s := S2) (oQ n) S1.size h.q)).squeeze S_ squeezes_S1_S_
def gdst (n : BitVec 32) (h : DOk n) (c : Nat) (hc : c < 16) : Memref sig .tc .vmem S3328x128 .i32 :=
  arg7.slice (Rect.unit (s := S106528x128) (oD n (BitVec.ofNat 32 c)) S3328x128.size (h.d c hc)) (fun _ => rfl)
def gsrc (n : BitVec 32) (h : DOk n) (c : Nat) (hc : c < 16) : Memref sig .tc .hbm S3328x128 .i32 :=
  arg0.slice (Rect.unit (s := S3328x8192) (oB n (BitVec.ofNat 32 c)) S3328x128.size (h.s c hc)) (fun _ => rfl)

/-- The last `m` of a block's sixteen copies, started; -/
def gstarts {α : Type} (n : BitVec 32) (h : DOk n) (k : Prog (TpuEff nD τ sig (Elt F) Λ₀ .tc) α) : (m : Nat) → m ≤ 16 → Prog (TpuEff nD τ sig (Elt F) Λ₀ .tc) α
  | 0, _ => k
  | m + 1, hm => do
    Prog.lift (.enqueueDma (gsrc arg0 n h (16 - (m + 1)) (by omega)) (.here (gdst arg7 n h (16 - (m + 1)) (by omega))) (.dma (gsem arg9 n h).sem)
      (View.wordExact_bits rfl) (View.wordExact_bits rfl) ⟨Or.inl rfl, trivial⟩)
    gstarts n h k m (by omega)

/-- waited for. -/
def gwaits {α : Type} (n : BitVec 32) (h : DOk n) (k : Prog (TpuEff nD τ sig (Elt F) Λ₀ .tc) α) : (m : Nat) → m ≤ 16 → Prog (TpuEff nD τ sig (Elt F) Λ₀ .tc) α
  | 0, _ => k
  | m + 1, hm => do
    Prog.lift (.waitDma2 (gsem arg9 n h).sem (gsrc arg0 n h (16 - (m + 1)) (by omega)) (gdst arg7 n h (16 - (m + 1)) (by omega))
      (View.wordExact_bits rfl) (View.wordExact_bits rfl))
    gwaits n h k m (by omega)

end Copies

section Words

variable (arg1 : Memref sig .tc .smem S104x128 .i32) (arg2 : Memref sig .tc .smem S104x128 .i32)
  (arg7 : Memref sig .tc .vmem S106528x128 .i32) (arg8 : Memref sig .tc .vmem S1056x128 .i32)

/-- The last `m` of a group's 32 words. -/
def gwords {α : Type} (g1 base nslot : BitVec 32) (h : GOk g1 nslot) (k : Prog (TpuEff nD τ sig (Elt F) Λ₀ .tc) α) : (m : Nat) → m ≤ 32 → Prog (TpuEff nD τ sig (Elt F) Λ₀ .tc) α
  | 0, _ => k
  | m + 1, hm => gword (F := F) arg1 arg2 arg7 arg8 g1 base nslot h (32 - (m + 1)) (by omega) (gwords g1 base nslot h k m (by omega))

end Words

/-- The lane a result's lane is read from, a pair of lanes reading one. -/
def gidx (kk : BitVec 32) : IVec S48x128 32 :=
  have v5217_r0 : IVec S48x128 32 := iota .tc S48x128 32 [1] iota_S48x128_d1_w32
  have v5218_r0 : IVec S48x128 32 := broadcast S48x128 2#32
  have v5219_r0 : IVec S48x128 32 := divsi v5217_r0 v5218_r0
  have v5220_r0 : IVec S48x128 32 := broadcast S48x128 0#32
  have v5221_r0 : IVec S48x128 1 := cmpi .sgt v5217_r0 v5220_r0
  have v5222_r0 : IVec S48x128 32 := extui 32 v5221_r0 natLt_1_32
  have v5223_r0 : IVec S48x128 32 := broadcast S48x128 0#32
  have v5224_r0 : IVec S48x128 1 := cmpi .slt v5217_r0 v5223_r0
  have v5225_r0 : IVec S48x128 32 := extui 32 v5224_r0 natLt_1_32
  have v5226_r0 : IVec S48x128 32 := subi v5222_r0 v5225_r0
  let v5227_r0 : BitVec 1 := Scalar.cmpi .sgt 2#32 0#32
  let v5228_r0 : BitVec 32 := Scalar.extui v5227_r0
  let v5229_r0 : BitVec 1 := Scalar.cmpi .slt 2#32 0#32
  let v5230_r0 : BitVec 32 := Scalar.extui v5229_r0
  let v5231_r0 : BitVec 32 := Scalar.subi v5228_r0 v5230_r0
  have v5232_r0 : IVec S48x128 32 := broadcast S48x128 v5231_r0
  have v5233_r0 : IVec S48x128 1 := cmpi .ne v5226_r0 v5232_r0
  have v5234_r0 : IVec S48x128 32 := broadcast S48x128 2#32
  have v5235_r0 : IVec S48x128 32 := remsi v5217_r0 v5234_r0
  have v5236_r0 : IVec S48x128 32 := broadcast S48x128 0#32
  have v5237_r0 : IVec S48x128 1 := cmpi .ne v5235_r0 v5236_r0
  have v5238_r0 : IVec S48x128 1 := andi v5233_r0 v5237_r0
  have v5239_r0 : IVec S48x128 32 := broadcast S48x128 1#32
  have v5240_r0 : IVec S48x128 32 := subi v5219_r0 v5239_r0
  have v5241_r0 : IVec S48x128 32 := select v5238_r0 v5240_r0 v5219_r0
  have v5242_r0 : IVec S48x128 32 := broadcast S48x128 kk
  have v5243_r0 : IVec S48x128 32 := addi v5241_r0 v5242_r0
  have v5244_r0 : IVec S48x128 32 := broadcast S48x128 0#32
  have v5245_r0 : IVec S48x128 1 := cmpi .slt v5243_r0 v5244_r0
  have v5246_r0 : IVec S48x128 32 := broadcast S48x128 128#32
  have v5247_r0 : IVec S48x128 32 := addi v5243_r0 v5246_r0
  have v5248_r0 : IVec S48x128 32 := select v5245_r0 v5247_r0 v5243_r0
  have v5249_r0 : IVec S48x128x1 32 := shapeCast S48x128x1 v5248_r0 shapeCasts_S48x128_S48x128x1
  have v5250_r0 : IVec S48x128 32 := shapeCast S48x128 v5249_r0 shapeCasts_S48x128x1_S48x128
  v5250_r0

/-- One stored tile of results: even lanes of the first, odd lanes of the second. -/
def gval (ye yo : FVec F S48x128 .f32) (kk : BitVec 32) : FVec F S1x48x128 .bf16 :=
  have v5217_r0 : IVec S48x128 32 := iota .tc S48x128 32 [1] iota_S48x128_d1_w32
  have v5251_r0 : FVec F S48x128 .f32 := dynamicGather 1 ye (gidx kk)
  have v5285_r0 : FVec F S48x128 .f32 := dynamicGather 1 yo (gidx kk)
  let v5286_r0 : BitVec 1 := Scalar.cmpi .eq 2#32 0#32
  let v5287_r0 : BitVec 32 := Scalar.select v5286_r0 1#32 2#32
  have v5288_r0 : IVec S48x128 32 := broadcast S48x128 v5287_r0
  have v5289_r0 : IVec S48x128 32 := remsi v5217_r0 v5288_r0
  have v5290_r0 : IVec S48x128 32 := broadcast S48x128 0#32
  have v5291_r0 : IVec S48x128 1 := cmpi .ne v5289_r0 v5290_r0
  have v5292_r0 : IVec S48x128 32 := broadcast S48x128 0#32
  have v5293_r0 : IVec S48x128 1 := cmpi .slt v5289_r0 v5292_r0
  let v5294_r0 : BitVec 1 := Scalar.cmpi .slt v5287_r0 0#32
  have v5295_r0 : IVec S48x128 1 := broadcast S48x128 v5294_r0
  have v5296_r0 : IVec S48x128 1 := broadcastTo S48x128 v5295_r0 broadcasts_S48x128_S48x128
  have v5297_r0 : IVec S48x128 1 := xori v5293_r0 v5296_r0
  have v5298_r0 : IVec S48x128 1 := andi v5297_r0 v5291_r0
  have v5299_r0 : IVec S48x128 32 := broadcast S48x128 v5287_r0
  have v5300_r0 : IVec S48x128 32 := addi v5289_r0 v5299_r0
  have v5301_r0 : IVec S48x128 32 := select v5298_r0 v5300_r0 v5289_r0
  have v5302_r0 : IVec S48x128 32 := broadcast S48x128 0#32
  have v5303_r0 : IVec S48x128 1 := cmpi .eq v5301_r0 v5302_r0
  have v5304_r0 : FVec F S48x128 .f32 := select v5303_r0 v5251_r0 v5285_r0
  have v5305_r0 : FVec F S48x128 .bf16 := truncf .bf16 v5304_r0 bitsLt_bf16_f32
  have v5309_r0 : FVec F S1x48x128 .bf16 := shapeCast S1x48x128 v5305_r0 shapeCasts_S48x128_S1x48x128
  v5309_r0

section Results

variable (arg6 : Memref sig .tc .vmem S4x48x4096 .bf16)

/-- What the stores of a block's results owe. -/
structure OOk (n : BitVec 32) : Prop where
  o : ∀ j, j < 32 → ∀ a, oO n j a + S1x48x128.size a ≤ S4x48x4096.size a
  st : ∀ j (hj : j < 32), (arg6.access (Rect.unit (s := S4x48x4096) (oO n j) S1x48x128.size (o j hj))).Stores Finset.univ

def gst {α : Type} (n : BitVec 32) (h : OOk arg6 n) (j : Nat) (hj : j < 32) (ye yo : FVec F S48x128 .f32) (kk : BitVec 32)
    (k : Prog (TpuEff nD τ sig (Elt F) Λ₀ .tc) α) : Prog (TpuEff nD τ sig (Elt F) Λ₀ .tc) α := do
  let _x : Vec F S1x48x128 .bf16 ← Prog.lift (.load arg6 (Rect.unit (s := S4x48x4096) (oO n j) S1x48x128.size (h.o j hj)).toLoadRect (View.loadsAt_vmem h_S1x48x128))
  Prog.lift (.store arg6 (Rect.unit (s := S4x48x4096) (oO n j) S1x48x128.size (h.o j hj)) (gval ye yo kk) Finset.univ (h.st j hj) (.inl rfl))
  k

/-- One tile's results popped and stored. -/
def gpop {α : Type} (n : BitVec 32) (h : OOk arg6 n) (t : Nat) (ht : t < 8) (q : Fin 2) (A : Nat) (hA : Mxu.Fits A 96) (s : Mxu F)
    (k : Mxu F → Prog (TpuEff nD τ sig (Elt F) Λ₀ .tc) α) : Prog (TpuEff nD τ sig (Elt F) Λ₀ .tc) α :=
  gst (F := F) arg6 n h (4 * t) (by omega) (extractStridedSlice S48x128 ![0, 0] (s.read q A hA) slices_S96x256_o0_0_S48x128)
    (extractStridedSlice S48x128 ![48, 0] (s.read q A hA) slices_S96x256_o48_0_S48x128) 0#32 <|
  gst (F := F) arg6 n h (4 * t + 1) (by omega) (extractStridedSlice S48x128 ![0, 0] (s.read q A hA) slices_S96x256_o0_0_S48x128)
    (extractStridedSlice S48x128 ![48, 0] (s.read q A hA) slices_S96x256_o48_0_S48x128) 64#32 <|
  gst (F := F) arg6 n h (4 * t + 2) (by omega) (extractStridedSlice S48x128 ![0, 128] (s.read q A hA) slices_S96x256_o0_128_S48x128)
    (extractStridedSlice S48x128 ![48, 128] (s.read q A hA) slices_S96x256_o48_128_S48x128) 0#32 <|
  gst (F := F) arg6 n h (4 * t + 3) (by omega) (extractStridedSlice S48x128 ![0, 128] (s.read q A hA) slices_S96x256_o0_128_S48x128)
    (extractStridedSlice S48x128 ![48, 128] (s.read q A hA) slices_S96x256_o48_128_S48x128) 64#32 <|
  k (s.pop q A 96 hA)

/-- A block's eight tiles, popped and stored. -/
def gpops {α : Type} (n : BitVec 32) (h : OOk arg6 n) (s : Mxu F)
    (k : Mxu F → Prog (TpuEff nD τ sig (Elt F) Λ₀ .tc) α) : Prog (TpuEff nD τ sig (Elt F) Λ₀ .tc) α :=
  gpop (F := F) arg6 n h 0 (by omega) 0 0 (by decide) s fun s =>
  gpop (F := F) arg6 n h 1 (by omega) 1 0 (by decide) s fun s =>
  gpop (F := F) arg6 n h 2 (by omega) 0 24 (by decide) s fun s =>
  gpop (F := F) arg6 n h 3 (by omega) 1 24 (by decide) s fun s =>
  gpop (F := F) arg6 n h 4 (by omega) 0 48 (by decide) s fun s =>
  gpop (F := F) arg6 n h 5 (by omega) 1 48 (by decide) s fun s =>
  gpop (F := F) arg6 n h 6 (by omega) 0 72 (by decide) s fun s =>
  gpop (F := F) arg6 n h 7 (by omega) 1 72 (by decide) s fun s =>
  k s

end Results

end Cert.Proof.Kernel
-- ==== Proof.KEq.lean ====
module

public import proofs.«01_k».proof.Proof.KProg
public meta import Idealize.ShloMosaic.Lib.Pipeline.Regions

@[expose] public section

set_option maxRecDepth 65536

noncomputable section

namespace Cert.Proof.Kernel

open Cert.Kernel Cert.Kernel.Gen
open Idealize.ShloMosaic Idealize.SL.Sem

variable {F : FTy → Type} [FloatOps F]

theorem t2_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s0 : Mxu F) (t2 : Fin k0_t2_loop.trips) (s : Mxu F)
  (hT : TOk (gN t1) (gG t2) (gSlot (gN t1) (gG t2)))
  (hG : GOk (Scalar.addi (gG t2) 1#32) (Scalar.subi 528#32 (gSlot (gN t1) (gG t2)))) :
    k0_t2_body (F := F) arg0 harg0 arg1 harg1 arg2 harg2 arg3 harg3 arg4 harg4 arg5 harg5 arg6 harg6 arg7 harg7 arg8 harg8 arg9 0#32 1#32 t1 s0 (gN t1) t2 s
      = gstep (F := F) arg1 arg2 arg3 arg4 arg5 arg7 arg8 (gN t1) (gG t2) (gSlot (gN t1) (gG t2)) (Scalar.addi (gG t2) 1#32) (gBase (gN t1)) (Scalar.subi 528#32 (gSlot (gN t1) (gG t2))) hT hG s .ret := by
  chain_rfl

end Cert.Proof.Kernel
-- ==== Proof.KEq2.lean ====
module

public import proofs.«01_k».proof.Proof.KProg
public meta import Idealize.ShloMosaic.Lib.Pipeline.Regions

@[expose] public section

set_option maxRecDepth 65536

noncomputable section

namespace Cert.Proof.Kernel

open Cert.Kernel Cert.Kernel.Gen
open Idealize.ShloMosaic Idealize.SL.Sem

variable {F : FTy → Type} [FloatOps F]

theorem bind_bind.{v} {E : Type → Type v} {α β γ : Type} (p : Prog E α) (f : α → Prog E β) (g : β → Prog E γ) :
    Prog.bind (Prog.bind p f) g = Prog.bind p fun a => Prog.bind (f a) g := Prog.bind_assoc p f g

theorem gwaits_bind {α β : Type} (arg0 : Memref sig .tc .hbm S3328x8192 .i32) (arg7 : Memref sig .tc .vmem S106528x128 .i32) (arg9 : DmaSems sig S2)
    (n : BitVec 32) (h : DOk n) (k : Prog (TpuEff nD τ sig (Elt F) Λ₀ .tc) α) (f : α → Prog (TpuEff nD τ sig (Elt F) Λ₀ .tc) β) :
    ∀ (m : Nat) (hm : m ≤ 16), Prog.bind (gwaits (F := F) arg0 arg7 arg9 n h k m hm) f = gwaits (F := F) arg0 arg7 arg9 n h (Prog.bind k f) m hm
  | 0, _ => rfl
  | m + 1, hm => by
    refine congrArg (Prog.op _) (funext fun _ => gwaits_bind arg0 arg7 arg9 n h k f m (by omega))

theorem gstarts_bind {α β : Type} (arg0 : Memref sig .tc .hbm S3328x8192 .i32) (arg7 : Memref sig .tc .vmem S106528x128 .i32) (arg9 : DmaSems sig S2)
    (n : BitVec 32) (h : DOk n) (k : Prog (TpuEff nD τ sig (Elt F) Λ₀ .tc) α) (f : α → Prog (TpuEff nD τ sig (Elt F) Λ₀ .tc) β) :
    ∀ (m : Nat) (hm : m ≤ 16), Prog.bind (gstarts (F := F) arg0 arg7 arg9 n h k m hm) f = gstarts (F := F) arg0 arg7 arg9 n h (Prog.bind k f) m hm
  | 0, _ => rfl
  | m + 1, hm => by
    refine congrArg (Prog.op _) (funext fun _ => gstarts_bind arg0 arg7 arg9 n h k f m (by omega))

/-- The inner loop, the waits and the starts before the last group of a block. -/
def g109 (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s : Mxu F)
    (hD1 : k0_cond1 t1 = 1#1 → DOk (Scalar.addi (gN t1) 1#32)) (hD2 : k0_cond2 t1 = 1#1 → DOk (Scalar.addi (gN t1) 2#32)) {α : Type} (k : Mxu F → Prog (TpuEff nD τ sig (Elt F) Λ₀ .tc) α) :
    Prog (TpuEff nD τ sig (Elt F) Λ₀ .tc) α :=
  Prog.bind (Scf.Loop.for k0_t2_loop k0_t2_ok s (k0_t2_body arg0 harg0 arg1 harg1 arg2 harg2 arg3 harg3 arg4 harg4 arg5 harg5 arg6 harg6 arg7 harg7 arg8 harg8 arg9 0#32 1#32 t1 s (gN t1))) fun s' =>
  if h : k0_cond1 t1 = 1#1 then gwaits (F := F) arg0 arg7 arg9 (Scalar.addi (gN t1) 1#32) (hD1 h)
    (if h : k0_cond2 t1 = 1#1 then gstarts (F := F) arg0 arg7 arg9 (Scalar.addi (gN t1) 2#32) (hD2 h) (k s') 16 le_rfl else k s') 16 le_rfl
  else if h : k0_cond2 t1 = 1#1 then gstarts (F := F) arg0 arg7 arg9 (Scalar.addi (gN t1) 2#32) (hD2 h) (k s') 16 le_rfl else k s'

theorem part109_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s : Mxu F)
    (hD1 : k0_cond1 t1 = 1#1 → DOk (Scalar.addi (gN t1) 1#32)) (hD2 : k0_cond2 t1 = 1#1 → DOk (Scalar.addi (gN t1) 2#32)) :
    k0_part109 (F := F) arg0 harg0 arg1 harg1 arg2 harg2 arg3 harg3 arg4 harg4 arg5 harg5 arg6 harg6 arg7 harg7 arg8 harg8 arg9 0#32 1#32 t1 s = g109 arg0 harg0 arg1 harg1 arg2 harg2 arg3 harg3 arg4 harg4 arg5 harg5 arg6 harg6 arg7 harg7 arg8 harg8 arg9 t1 s hD1 hD2 fun s' => .ret
      (let m : BitVec 32 := Scalar.select (Scalar.cmpi .eq 2#32 0#32) 1#32 2#32
       let r : BitVec 32 := Scalar.remsi (Scalar.minsi (Scalar.addi (gN t1) 1#32) 3#32) m
       ⟨gN t1, s', gSlot (gN t1) 103#32, Scalar.subi 528#32 (gSlot (gN t1) 103#32), m, r, Scalar.cmpi .ne r 0#32⟩) := by
  chain_rfl

/-- One block: its inner loop, its copies, its last group and its results. -/
theorem t1_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s : Mxu F)
    (hD1 : k0_cond1 t1 = 1#1 → DOk (Scalar.addi (gN t1) 1#32)) (hD2 : k0_cond2 t1 = 1#1 → DOk (Scalar.addi (gN t1) 2#32))
    (hT : TOk (gN t1) 103#32 (gSlot (gN t1) 103#32)) (hG : GOk 0#32 (Scalar.subi 528#32 (gSlot (gN t1) 103#32))) (hO : OOk arg6 (gN t1)) :
    k0_t1_body (F := F) arg0 harg0 arg1 harg1 arg2 harg2 arg3 harg3 arg4 harg4 arg5 harg5 arg6 harg6 arg7 harg7 arg8 harg8 arg9 t1 s = g109 arg0 harg0 arg1 harg1 arg2 harg2 arg3 harg3 arg4 harg4 arg5 harg5 arg6 harg6 arg7 harg7 arg8 harg8 arg9 t1 s hD1 hD2 fun s' =>
      gstep (F := F) arg1 arg2 arg3 arg4 arg5 arg7 arg8 (gN t1) 103#32 (gSlot (gN t1) 103#32) 0#32 (gBase (Scalar.minsi (Scalar.addi (gN t1) 1#32) 3#32))
        (Scalar.subi 528#32 (gSlot (gN t1) 103#32)) hT hG s' fun s'' => gpops (F := F) arg6 (gN t1) hO s'' .ret := by
  have e : k0_t1_body (F := F) arg0 harg0 arg1 harg1 arg2 harg2 arg3 harg3 arg4 harg4 arg5 harg5 arg6 harg6 arg7 harg7 arg8 harg8 arg9 t1 s = Prog.bind (k0_part109 (F := F) arg0 harg0 arg1 harg1 arg2 harg2 arg3 harg3 arg4 harg4 arg5 harg5 arg6 harg6 arg7 harg7 arg8 harg8 arg9 0#32 1#32 t1 s) fun x =>
      gstep (F := F) arg1 arg2 arg3 arg4 arg5 arg7 arg8 (gN t1) 103#32 (gSlot (gN t1) 103#32) 0#32 (gBase (Scalar.minsi (Scalar.addi (gN t1) 1#32) 3#32))
        (Scalar.subi 528#32 (gSlot (gN t1) 103#32)) hT hG x.2.1 fun s'' => gpops (F := F) arg6 (gN t1) hO s'' .ret := by
    show Prog.bind (Prog.bind (k0_part109 (F := F) arg0 harg0 arg1 harg1 arg2 harg2 arg3 harg3 arg4 harg4 arg5 harg5 arg6 harg6 arg7 harg7 arg8 harg8 arg9 0#32 1#32 t1 s) _) _ = _
    refine Eq.trans (Prog.bind_assoc _ _ _) ?_
    chain_rfl
  rw [e, part109_eq (hD1 := hD1) (hD2 := hD2)]
  unfold g109
  refine (bind_bind _ _ _).trans (congrArg _ (funext fun s' => ?_))
  split <;> split <;> (try rw [gwaits_bind]) <;> (try rw [gstarts_bind]) <;> rfl

/-- The whole body. -/
theorem root_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (h0 : DOk 0#32) (h1 : DOk 1#32) (hG : GOk 0#32 0#32) :
    cc0_gptq_linear_skel (F := F) arg0 harg0 arg1 harg1 arg2 harg2 arg3 harg3 arg4 harg4 arg5 harg5 arg6 harg6 arg7 harg7 arg8 harg8 arg9 =
      gstarts (F := F) arg0 arg7 arg9 0#32 h0 (gstarts (F := F) arg0 arg7 arg9 1#32 h1 (gwaits (F := F) arg0 arg7 arg9 0#32 h0
        (gwords (F := F) arg1 arg2 arg7 arg8 0#32 0#32 0#32 hG
          (Prog.bind (Scf.Loop.for k0_t1_loop k0_t1_ok Mxu.init (k0_t1_body (F := F) arg0 harg0 arg1 harg1 arg2 harg2 arg3 harg3 arg4 harg4 arg5 harg5 arg6 harg6 arg7 harg7 arg8 harg8 arg9)) fun s => s.exit >>= fun _ => .ret PUnit.unit) 32 le_rfl) 16 le_rfl) 16 le_rfl) 16 le_rfl := by
  chain_rfl

end Cert.Proof.Kernel
-- ==== Proof.KVal.lean ====
/-
  What the kernel computes, as functions of its arguments: the gathered words, a tile's weights, the accumulated
  products, the results.
-/
module

public import proofs.«01_k».proof.Proof.KProg

@[expose] public section

noncomputable section

namespace Cert.Proof.Kernel

open Cert.Kernel Cert.Kernel.Gen
open Idealize.ShloMosaic Idealize.SL.Sem

variable {F : FTy → Type} [FloatOps F]

/-- An array of words read at natural coordinates. -/
def pk {S : Shape} (f : S.Idx → BitVec 32) (v : Fin S.rank → Nat) : BitVec 32 :=
  if h : ∀ a, v a < S.size a then f (fun a => ⟨v a, h a⟩) else 0

theorem pk_eq {S : Shape} (f : S.Idx → BitVec 32) (i : S.Idx) (v : Fin S.rank → Nat) (h : ∀ a, (i a : Nat) = v a) : f i = pk f v := by
  have e : v = fun a => (i a : Nat) := funext fun a => (h a).symm
  subst e
  unfold pk
  rw [dif_pos fun a => (i a).isLt]

/-- The kernel's arguments: the staged words, the two index tables, the activations, the scales, the zeros. -/
structure Ins where
  q : S3328x8192.Idx → BitVec 32
  a : S104x128.Idx → BitVec 32
  sh : S104x128.Idx → BitVec 32
  xs : S104x24x256.Idx → BitVec 32
  st : S6656x128.Idx → BitVec 32
  zt : S6656x128.Idx → BitVec 32

/-- Every row the index table names is one of the staged words' rows. -/
def Ins.Ok (I : Ins) : Prop := ∀ i, (I.a i).toNat < 3328

theorem Ins.Ok.pk {I : Ins} (h : I.Ok) (v : Fin 2 → Nat) : (Kernel.pk I.a v).toNat < 3328 := by
  unfold Kernel.pk; split
  · exact h _
  · decide

variable (I : Ins)

/-- The words staged for block `n`. -/
def wrd (n : Nat) : S106528x128.Idx → BitVec 32 := fun i =>
  pk I.q ![((i 0 : Nat) % 53264) % 3329, (n * 16 + ((i 0 : Nat) % 53264) / 3329) * 128 + (i 1 : Nat)]

/-- Row `r` of half `h` of the block's sixteen chunks. -/
def rowsOf (n r h : Nat) : IVec S8x128 32 := fun x => pk I.q ![r, (n * 16 + (8 * h + (x 0 : Nat))) * 128 + (x 1 : Nat)]

/-- The byte words of group `g`'s position `j`. -/
def byt (n g j h : Nat) : IVec S8x128 32 := k0_pay10 (F := F) (pk I.sh ![g, j]) (rowsOf I n (pk I.a ![g, j]).toNat h)

/-- Four packed. -/
def srtRows (n g w h : Nat) : IVec S8x128 32 :=
  shapeCast S8x128 (packElementwiseInt 8 ![byt (F := F) I n g (4 * w) h, byt (F := F) I n g (4 * w + 1) h, byt (F := F) I n g (4 * w + 2) h,
    byt (F := F) I n g (4 * w + 3) h]) shapeCasts_S8x128_S8x128

/-- Word `w` of chunk `C`, lane `l`. -/
def srtVal (n g C w l : Nat) : BitVec 32 := pk (srtRows (F := F) I n g w (C / 8)) ![C % 8, l]

def tileRows (n g C : Nat) : IVec S32x128 32 := fun x => srtVal (F := F) I n g C (x 0 : Nat) (x 1 : Nat)
def stRow (n g C : Nat) : IVec S1x128 32 := fun x => pk I.st ![(n * 104 + g) * 16 + C, (x 1 : Nat)]
def ztRow (n g C : Nat) : IVec S1x128 32 := fun x => pk I.zt ![(n * 104 + g) * 16 + C, (x 1 : Nat)]
def xSlab (g : Nat) : IVec S1x24x256 32 := fun x => pk I.xs ![g, (x 1 : Nat), (x 2 : Nat)]

/-- A tile's weights, a group's left operand, their product. -/
def wt (n g t : Nat) : FVec F S256x256 .bf16 :=
  gwt (F := F) (tileRows (F := F) I n g (2 * t)) (stRow I n g (2 * t)) (ztRow I n g (2 * t))
    (tileRows (F := F) I n g (2 * t + 1)) (stRow I n g (2 * t + 1)) (ztRow I n g (2 * t + 1))
def lh (g : Nat) : FVec F S96x256 .bf16 := glhs (F := F) (xSlab I g)
def pas (n g t : Nat) : FVec F (Mxu.STile 96) .f32 := FloatOps.mxuPass (DotDims.plain 96 256 256) (lh (F := F) I g) (wt (F := F) I n g t)

/-- The products of groups `0` to `g` added up. -/
def acc (n t : Nat) : Nat → FVec F (Mxu.STile 96) .f32
  | 0 => pas (F := F) I n 0 t
  | g + 1 => addf (acc n t g) (pas (F := F) I n (g + 1) t)

/-- What a tile's rows hold once `k` groups were added: nothing at first. -/
def accO (n t : Nat) : Nat → Option (FVec F (Mxu.STile 96) .f32)
  | 0 => none
  | g + 1 => some (acc (F := F) I n t g)

/-- The even or odd rows of column block `j` of a tile's products. -/
def rowsE (y : FVec F S96x256 .f32) (j : Nat) : FVec F S48x128 .f32 :=
  if (j / 2) % 2 = 0 then extractStridedSlice S48x128 ![0, 0] y slices_S96x256_o0_0_S48x128
  else extractStridedSlice S48x128 ![0, 128] y slices_S96x256_o0_128_S48x128
def rowsO (y : FVec F S96x256 .f32) (j : Nat) : FVec F S48x128 .f32 :=
  if (j / 2) % 2 = 0 then extractStridedSlice S48x128 ![48, 0] y slices_S96x256_o48_0_S48x128
  else extractStridedSlice S48x128 ![48, 128] y slices_S96x256_o48_128_S48x128

/-- Block `n`'s `j`-th stored tile of results. -/
def oblk (n j : Nat) : FVec F S1x48x128 .bf16 :=
  gval (F := F) (rowsE (acc (F := F) I n (j / 4) 103) j) (rowsO (acc (F := F) I n (j / 4) 103) j) (if j % 2 = 0 then 0#32 else 64#32)

/-- The results. -/
def out : S4x48x4096.Idx → F .bf16 := fun i =>
  oblk (F := F) I (i 0 : Nat) ((i 2 : Nat) / 128) (fun a => match a with
    | ⟨0, _⟩ => ⟨0, Nat.one_pos⟩
    | ⟨1, _⟩ => ⟨(i 1 : Nat), (i 1).isLt⟩
    | ⟨2, _⟩ => ⟨(i 2 : Nat) % 128, Nat.mod_lt _ (by decide)⟩)

/-! ## The offsets -/

theorem oA_eq {g : Nat} (hg : g < 104) (j : Nat) : oA (BitVec.ofNat 32 g) j = ![g, j] := by
  simp only [oA, Scalar.indexCast, BitVec.toNat_ofNat]
  rw [Nat.mod_eq_of_lt (by omega)]

theorem oW_eq {s h : Nat} (hs : s < 2) (hh : h < 2) {q : BitVec 32} (hq : q.toNat < 3328) :
    oW (BitVec.ofNat 32 (53264 * s)) q (BitVec.ofNat 32 (26632 * h)) = ![q.toNat + 53264 * s + 26632 * h, 0] := by
  simp only [oW, Scalar.indexCast, Scalar.addi, IntOp.addi, BitVec.toNat_add, BitVec.toNat_ofNat]
  congr 1; omega

theorem oS_eq {s w h : Nat} (hs : s < 2) (hw : w < 32) (hh : h < 2) :
    oS (BitVec.ofNat 32 (528 * s)) (BitVec.ofNat 32 w) (BitVec.ofNat 32 (264 * h)) = ![528 * s + w + 264 * h, 0] := by
  simp only [oS, Scalar.indexCast, Scalar.addi, IntOp.addi, BitVec.toNat_add, BitVec.toNat_ofNat]
  congr 1; omega

theorem oR_eq {s C : Nat} (hs : s < 2) (hC : C < 16) :
    oR (BitVec.ofNat 32 (528 * s)) (BitVec.ofNat 32 (33 * C)) = ![528 * s + 33 * C, 0] := by
  simp only [oR, Scalar.indexCast, Scalar.addi, IntOp.addi, BitVec.toNat_add, BitVec.toNat_ofNat]
  congr 1; omega

theorem oT_eq {n g C : Nat} (hn : n < 4) (hg : g < 104) (hC : C < 16) :
    oT (BitVec.ofNat 32 n) (BitVec.ofNat 32 g) (BitVec.ofNat 32 C) = ![(n * 104 + g) * 16 + C, 0] := by
  simp only [oT, Scalar.indexCast, Scalar.addi, Scalar.muli, IntOp.addi, IntOp.muli, BitVec.toNat_add, BitVec.toNat_mul, BitVec.toNat_ofNat]
  congr 1; omega

theorem oX_eq {g : Nat} (hg : g < 104) : oX (BitVec.ofNat 32 g) = ![g, 0, 0] := by
  simp only [oX, Scalar.indexCast, BitVec.toNat_ofNat]
  congr 1; omega

theorem gmod2_eq {n : Nat} (hn : n < 512) : gmod2 (BitVec.ofNat 32 n) = BitVec.ofNat 32 (n % 2) := by
  have h : ∀ n : Fin 512, gmod2 (BitVec.ofNat 32 n) = BitVec.ofNat 32 (n % 2) := by decide +kernel
  exact h ⟨n, hn⟩

theorem gSlot_eq {n g : Nat} (hn : n < 4) (hg : g < 104) : gSlot (BitVec.ofNat 32 n) (BitVec.ofNat 32 g) = BitVec.ofNat 32 (528 * (g % 2)) := by
  have e : Scalar.addi (Scalar.muli (BitVec.ofNat 32 n) 104#32) (BitVec.ofNat 32 g) = BitVec.ofNat 32 (n * 104 + g) := by
    apply BitVec.eq_of_toNat_eq
    simp only [Scalar.addi, Scalar.muli, IntOp.addi, IntOp.muli, BitVec.toNat_add, BitVec.toNat_mul, BitVec.toNat_ofNat]; omega
  unfold gSlot
  rw [e, gmod2_eq (by omega), show (n * 104 + g) % 2 = g % 2 by omega]
  apply BitVec.eq_of_toNat_eq
  simp only [Scalar.muli, IntOp.muli, BitVec.toNat_mul, BitVec.toNat_ofNat]; omega

theorem nslot_eq {s : Nat} (hs : s < 2) : Scalar.subi 528#32 (BitVec.ofNat 32 (528 * s)) = BitVec.ofNat 32 (528 * (1 - s)) := by
  have : s = 0 ∨ s = 1 := by omega
  rcases this with rfl | rfl <;> decide

theorem gBase_eq {n : Nat} (hn : n < 4) : gBase (BitVec.ofNat 32 n) = BitVec.ofNat 32 (53264 * (n % 2)) := by
  unfold gBase
  rw [gmod2_eq (by omega)]
  apply BitVec.eq_of_toNat_eq
  simp only [Scalar.muli, IntOp.muli, BitVec.toNat_mul, BitVec.toNat_ofNat]; omega

theorem oQ_eq {n : Nat} (hn : n < 4) : oQ (BitVec.ofNat 32 n) = ![n % 2] := by
  unfold oQ; rw [gmod2_eq (by omega), BitVec.toNat_ofNat]; congr 1; omega

theorem oD_eq {n c : Nat} (hn : n < 4) (hc : c < 16) : oD (BitVec.ofNat 32 n) (BitVec.ofNat 32 c) = ![((n % 2) * 16 + c) * 3329, 0] := by
  unfold oD; rw [gmod2_eq (by omega)]
  simp only [Scalar.addi, Scalar.muli, IntOp.addi, IntOp.muli, BitVec.toNat_add, BitVec.toNat_mul, BitVec.toNat_ofNat]
  congr 1; omega

theorem oB_eq {n c : Nat} (hn : n < 4) (hc : c < 16) : oB (BitVec.ofNat 32 n) (BitVec.ofNat 32 c) = ![0, (n * 16 + c) * 128] := by
  simp only [oB, Scalar.addi, Scalar.muli, IntOp.addi, IntOp.muli, BitVec.toNat_add, BitVec.toNat_mul, BitVec.toNat_ofNat]
  congr 2; omega

theorem oO_eq {n : Nat} (hn : n < 4) (j : Nat) : oO (BitVec.ofNat 32 n) j = ![n, 0, 128 * j] := by
  simp only [oO, Scalar.indexCast, BitVec.toNat_ofNat]
  rw [Nat.mod_eq_of_lt (by omega)]

theorem gchk_ok {s : Nat} (hs : s < 2) {q : BitVec 32} (hq : q.toNat < 3328) : gchk (BitVec.ofNat 32 (53264 * s)) q := by
  intro r a
  right
  rw [oW_eq hs r.isLt hq]
  have := r.isLt
  match a with
  | ⟨0, _⟩ => show q.toNat + 53264 * s + 26632 * r.val + 3329 * (8 - 1) < 106528; omega
  | ⟨1, _⟩ => show 0 + 1 * (128 - 1) < 128; omega

theorem GOk_ok {g s : Nat} (hg : g < 104) (hs : s < 2) : GOk (BitVec.ofNat 32 g) (BitVec.ofNat 32 (528 * s)) where
  a j hj a := by
    rw [oA_eq hg]
    match a with
    | ⟨0, _⟩ => show g + 1 ≤ 104; omega
    | ⟨1, _⟩ => show j + 1 ≤ 128; omega
  s w hw r a := by
    right
    rw [oS_eq hs hw r.isLt]
    have := r.isLt
    match a with
    | ⟨0, _⟩ => show 528 * s + w + 264 * r.val + 33 * (8 - 1) < 1056; omega
    | ⟨1, _⟩ => show 0 + 1 * (128 - 1) < 128; omega

theorem TOk_ok {n g s : Nat} (hn : n < 4) (hg : g < 104) (hs : s < 2) :
    TOk (BitVec.ofNat 32 n) (BitVec.ofNat 32 g) (BitVec.ofNat 32 (528 * s)) where
  r c hc a := by
    rw [oR_eq hs hc]
    match a with
    | ⟨0, _⟩ => show 528 * s + 33 * c + 32 ≤ 1056; omega
    | ⟨1, _⟩ => show 0 + 128 ≤ 128; omega
  t c hc a := by
    rw [oT_eq hn hg hc]
    match a with
    | ⟨0, _⟩ => show (n * 104 + g) * 16 + c + 1 ≤ 6656; omega
    | ⟨1, _⟩ => show 0 + 128 ≤ 128; omega
  x a := by
    rw [oX_eq hg]
    match a with
    | ⟨0, _⟩ => show g + 1 ≤ 104; omega
    | ⟨1, _⟩ => show 0 + 24 ≤ 24; omega
    | ⟨2, _⟩ => show 0 + 256 ≤ 256; omega

theorem DOk_ok {n : Nat} (hn : n < 4) : DOk (BitVec.ofNat 32 n) where
  q a := by
    rw [oQ_eq hn]
    match a with
    | ⟨0, _⟩ => show n % 2 + 1 ≤ 2; omega
  d c hc a := by
    rw [oD_eq hn hc]
    match a with
    | ⟨0, _⟩ => show ((n % 2) * 16 + c) * 3329 + 3328 ≤ 106528; omega
    | ⟨1, _⟩ => show 0 + 128 ≤ 128; omega
  s c hc a := by
    rw [oB_eq hn hc]
    match a with
    | ⟨0, _⟩ => show 0 + 3328 ≤ 3328; omega
    | ⟨1, _⟩ => show (n * 16 + c) * 128 + 128 ≤ 8192; omega

/-! ## What the sorted words hold -/

/-- From `f` to `f'`, words `k` to `k'` of every chunk of a slot were stored for `(n, g)`, and nothing else changed. -/
def Ext (s k k' n g : Nat) (f f' : S1056x128.Idx → BitVec 32) : Prop :=
  (∀ C w l, C < 16 → k ≤ w → w < k' → l < 128 → pk f' ![528 * s + w + 33 * C, l] = srtVal (F := F) I n g C w l)
  ∧ ∀ r l, (∀ C w, C < 16 → k ≤ w → w < k' → r ≠ 528 * s + w + 33 * C) → pk f' ![r, l] = pk f ![r, l]

theorem Ext.trans {s k k' k'' n g : Nat} {f f' f'' : S1056x128.Idx → BitVec 32} (hk' : k'' ≤ 33)
    (h : Ext (F := F) I s k k' n g f f') (h' : Ext (F := F) I s k' k'' n g f' f'') (h0 : k ≤ k') (h1 : k' ≤ k'') : Ext (F := F) I s k k'' n g f f'' := by
  refine ⟨fun C w l hC hk hk2 hl => ?_, fun r l hr => ?_⟩
  · by_cases hw : w < k'
    · rw [h'.2, h.1 C w l hC hk hw hl]
      intro C' w' hC' hw' hw'' e
      omega
    · exact h'.1 C w l hC (by omega) hk2 hl
  · rw [h'.2 r l fun C w hC h2 h3 => hr C w hC (by omega) h3, h.2 r l fun C w hC h2 h3 => hr C w hC h2 (by omega)]

/-- Slot `s` holds the words of `(n, g)`. -/
def Sorted (s n g : Nat) (f : S1056x128.Idx → BitVec 32) : Prop :=
  ∀ C w l, C < 16 → w < 32 → l < 128 → pk f ![528 * s + w + 33 * C, l] = srtVal (F := F) I n g C w l

theorem Ext.sorted {s n g : Nat} {f f' : S1056x128.Idx → BitVec 32} (h : Ext (F := F) I s 0 32 n g f f') : Sorted (F := F) I s n g f' :=
  fun C w l hC hw hl => h.1 C w l hC (by omega) hw hl

theorem Sorted.ext {s s' k k' n g n' g' : Nat} {f f' : S1056x128.Idx → BitVec 32} (hs : s < 2) (hs' : s' < 2) (hne : s ≠ s') (hk : k' ≤ 32)
    (h : Sorted (F := F) I s n g f) (h' : Ext (F := F) I s' k k' n' g' f f') : Sorted (F := F) I s n g f' := by
  intro C w l hC hw hl
  rw [h'.2, h C w l hC hw hl]
  intro C' w' hC' h1 h2 e
  omega

end Cert.Proof.Kernel
-- ==== Proof.KRun1.lean ====
/-
  One gathered word, run: the four bytes' rows read and the packed words stored.
-/
module

public import proofs.«01_k».proof.Proof.KVal
public import proofs.«01_k».proof.Proof.Gen.Kernel.Launch
public import proofs.«01_k».proof.Proof.Gen.Kernel.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The operands: the staged words' array, the index tables, the activations, the scales, the zeros, the results, and
    the two scratch buffers. -/
abbrev mQ : Memref sig .tc .hbm S3328x8192 .i32 := Memref.whole main_v35
abbrev mA : Memref sig .tc .smem S104x128 .i32 := Memref.whole cc0_stg0_0
abbrev mH : Memref sig .tc .smem S104x128 .i32 := Memref.whole cc0_stg1_0
abbrev mX : Memref sig .tc .vmem S104x24x256 .i32 := Memref.whole cc0_stg2_0
abbrev mS : Memref sig .tc .vmem S6656x128 .i32 := Memref.whole cc0_stg3_0
abbrev mZ : Memref sig .tc .vmem S6656x128 .i32 := Memref.whole cc0_stg4_0
abbrev mO : Memref sig .tc .vmem S4x48x4096 .bf16 := Memref.whole cc0_stg5_0
abbrev mW : Memref sig .tc .vmem S106528x128 .i32 := Memref.whole cc0_scratch0
abbrev mT : Memref sig .tc .vmem S1056x128 .i32 := Memref.whole cc0_scratch1

/-- A memref's buffer held whole; held on a set of elements. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev ptOn (c : Dev nD) {sp : Space} {S : Shape} {e : EltTy} (M : Memref sig .tc sp S e) (s : Finset (Idx (M.view.loc (c : Thread nD τ))))
    (f : Buf (Elt F) (M.view.loc (c : Thread nD τ))) : sProp 𝕄 :=
  M.view.loc (c : Thread nD τ) ↦[s]{fullShare} f

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The rows staged for the blocks of parity `s`. -/
def wset (s : Nat) : Finset S106528x128.Idx := Finset.univ.filter fun i => (i 0 : Nat) / 53264 = s ∧ ((i 0 : Nat) % 53264) % 3329 < 3328

theorem ret_bind' {E : Type → Type} {α β : Type} (a : α) (k : α → Prog E β) : (Prog.ret a).bind k = k a := rfl

variable (c : Dev nD) (I : Ins) {α : Type} (Q : α → sProp (MT nD τ sig Unit (Elt F) ℕ (Pipeline.UD sig nD τ) ℕ))

/-- The strided rows lie among the staged ones, -/
theorem rows_mem {s h : Nat} (hs : s < 2) (hh : h < 2) {q : BitVec 32} (hq : q.toNat < 3328) {b hb : BitVec 32} (eb : b = BitVec.ofNat 32 (53264 * s))
    (eh : hb = BitVec.ofNat 32 (26632 * h))
    (hr : ∀ a, S8x128.size a = 0 ∨ oW b q hb a + (![3329, 1] : Fin 2 → Nat) a * (S8x128.size a - 1) < S106528x128.size a) :
    mW.view.setOn (⟨oW b q hb, S8x128.size, ![3329, 1], hr⟩ : LoadRect S106528x128).set ⊆ wset s := by
  subst eb eh
  intro i hi
  have e0 : oW (BitVec.ofNat 32 (53264 * s)) q (BitVec.ofNat 32 (26632 * h)) 0 = q.toNat + 53264 * s + 26632 * h := by rw [oW_eq hs hh hq]; rfl
  simp [View.setOn, LoadRect.set] at hi
  obtain ⟨a, ⟨⟨j, hj8, ha⟩, -⟩, rfl⟩ := hi
  rw [e0] at ha
  refine Finset.mem_filter.mpr ⟨Finset.mem_univ _, ?_⟩
  show (a 0 : Nat) / 53264 = s ∧ ((a 0 : Nat) % 53264) % 3329 < 3328
  omega

/-- and hold the block's rows. -/
theorem rows_val {n h : Nat} (hh : h < 2) {q : BitVec 32} (hq : q.toNat < 3328) {b hb : BitVec 32} (eb : b = BitVec.ofNat 32 (53264 * (n % 2)))
    (eh : hb = BitVec.ofNat 32 (26632 * h))
    (hr : ∀ a, S8x128.size a = 0 ∨ oW b q hb a + (![3329, 1] : Fin 2 → Nat) a * (S8x128.size a - 1) < S106528x128.size a) :
    (mW.view.readAt (Elt F) (⟨oW b q hb, S8x128.size, ![3329, 1], hr⟩ : LoadRect S106528x128) (wrd I n) : IVec S8x128 32) = rowsOf I n q.toNat h := by
  subst eb eh
  have hs : n % 2 < 2 := Nat.mod_lt _ (by decide)
  funext x
  show wrd I n ((⟨oW _ q _, S8x128.size, ![3329, 1], hr⟩ : LoadRect S106528x128).idx x) = _
  generalize hi : (⟨oW _ q _, S8x128.size, ![3329, 1], hr⟩ : LoadRect S106528x128).idx x = i
  have e0 : oW (BitVec.ofNat 32 (53264 * (n % 2))) q (BitVec.ofNat 32 (26632 * h)) 0 = q.toNat + 53264 * (n % 2) + 26632 * h := by rw [oW_eq hs hh hq]; rfl
  have e1 : oW (BitVec.ofNat 32 (53264 * (n % 2))) q (BitVec.ofNat 32 (26632 * h)) 1 = 0 := by rw [oW_eq hs hh hq]; rfl
  have h0 : (i 0 : Nat) = q.toNat + 53264 * (n % 2) + 26632 * h + 3329 * (x 0 : Nat) := by
    rw [← hi, LoadRect.idx_apply]
    exact congrArg (· + 3329 * (x 0 : Nat)) e0
  have h1 : (i 1 : Nat) = (x 1 : Nat) := by
    rw [← hi, LoadRect.idx_apply]
    exact (congrArg (· + 1 * (x 1 : Nat)) e1).trans (by omega)
  have h8 : (x 0 : Nat) < 8 := (x 0).isLt
  unfold wrd rowsOf
  rw [h0, h1, show (q.toNat + 53264 * (n % 2) + 26632 * h + 3329 * (x 0 : Nat)) % 53264 % 3329 = q.toNat by omega,
    show (q.toNat + 53264 * (n % 2) + 26632 * h + 3329 * (x 0 : Nat)) % 53264 / 3329 = 8 * h + (x 0 : Nat) by omega]

/-- The word loaded from an index table. -/
theorem smem_val {g j : Nat} (hg : g < 104) (f : S104x128.Idx → BitVec 32)
    (hj : ∀ a, oA (BitVec.ofNat 32 g) j a + S1x1.size a ≤ S104x128.size a) (x : (Rect.unit (s := S104x128) (oA (BitVec.ofNat 32 g) j) S1x1.size hj).shape.Idx) :
    f ((Rect.unit (s := S104x128) (oA (BitVec.ofNat 32 g) j) S1x1.size hj).emb x) = pk f ![g, j] := by
  refine pk_eq f _ _ fun a => ?_
  rw [Rect.emb_apply]
  refine (congrArg (· + 1 * (x a : Nat)) (congrFun (oA_eq hg j) a)).trans ?_
  have hx : (x a : Nat) < S1x1.size a := (x a).isLt
  match a with
  | ⟨0, _⟩ => have : (x 0 : Nat) < 1 := hx
              show g + 1 * (x 0 : Nat) = g; omega
  | ⟨1, _⟩ => have : (x 1 : Nat) < 1 := hx
              show j + 1 * (x 1 : Nat) = j; omega

set_option maxHeartbeats 4000000 in
theorem gbyte_run {n g j : Nat} (hn : n < 4) (hg : g < 104) (hI : I.Ok)
    (hj : ∀ a, oA (BitVec.ofNat 32 g) j a + S1x1.size a ≤ S104x128.size a)
    (k : IVec S8x128 32 → IVec S8x128 32 → Prog (TpuEff nD τ sig (Elt F) Λ₀ .tc) α) :
    iprop(pt c mA I.a ∗ pt c mH I.sh ∗ ptOn c mW (wset (n % 2)) (wrd I n))
      ⊢ iprop((iprop(pt c mA I.a ∗ pt c mH I.sh ∗ ptOn c mW (wset (n % 2)) (wrd I n)) -∗ WP c (k (byt (F := F) I n g j 0) (byt (F := F) I n g j 1)) Q)
        -∗ WP c (gbyte (F := F) mA mH mW (BitVec.ofNat 32 g) (BitVec.ofNat 32 (53264 * (n % 2))) j hj k) Q) := by
  iintro ⟨HA, HH, HW⟩ Hk
  have hs : n % 2 < 2 := Nat.mod_lt _ (by decide)
  have hq : (pk I.a ![g, j]).toNat < 3328 := hI.pk _
  unfold gbyte smemLoad
  rw [smemLoadElt_bind]
  iapply (wp_smemLoadElt_named Variants.none (c : Thread nD τ) none Set.univ (m := mA) (r := Rect.unit (s := S104x128) (oA (BitVec.ofNat 32 g) j) S1x1.size hj)) $$ HA
  iintro HA %w %hw
  have ew : w = pk I.a ![g, j] := hw.trans (smem_val hg I.a hj _)
  subst ew
  simp only [Prog.bind_ret, smemLoadElt_bind]
  iapply (wp_assume Variants.none (c : Thread nD τ) none Set.univ (gchk_ok hs hq))
  rw [ret_bind']
  iapply (wp_smemLoadElt_named Variants.none (c : Thread nD τ) none Set.univ (m := mH) (r := Rect.unit (s := S104x128) (oA (BitVec.ofNat 32 g) j) S1x1.size hj)) $$ HH
  iintro HH %w %hw
  have ew : w = pk I.sh ![g, j] := hw.trans (smem_val hg I.sh hj _)
  subst ew
  iapply (wp_load Variants.none (c : Thread nD τ) none Set.univ (m := mW) (S := wset (n % 2)) (rows_mem (h := 0) hs (by decide) hq rfl rfl _)) $$ HW
  iintro HW
  rw [ret_bind', rows_val I (h := 0) (by decide) hq rfl rfl]
  iapply (wp_load Variants.none (c : Thread nD τ) none Set.univ (m := mW) (S := wset (n % 2)) (rows_mem (h := 1) hs (by decide) hq rfl rfl _)) $$ HW
  iintro HW
  rw [ret_bind', rows_val I (h := 1) (by decide) hq rfl rfl]
  iapply Hk
  isplitl [HA]; · iexact HA
  isplitl [HH]; · iexact HH
  iexact HW

/-- A stored half: the rows are the packed words, the others unchanged. -/
theorem put_val {s w h : Nat} (hs : s < 2) (hw : w < 32) (hh : h < 2) {b hb : BitVec 32} (eb : b = BitVec.ofNat 32 (528 * s))
    (eh : hb = BitVec.ofNat 32 (264 * h))
    (hr : ∀ a, S8x128.size a = 0 ∨ oS b (BitVec.ofNat 32 w) hb a + (![33, 1] : Fin 2 → Nat) a * (S8x128.size a - 1) < S1056x128.size a)
    (f : S1056x128.Idx → BitVec 32) (v : IVec S8x128 32) (f' : S1056x128.Idx → BitVec 32)
    (hf : f' = (mT.access ⟨(⟨oS b (BitVec.ofNat 32 w) hb, S8x128.size, ![33, 1], hr⟩ : LoadRect S1056x128), spos_33_1⟩).write (Elt F) f v Finset.univ) :
    (∀ C l, C < 8 → l < 128 → pk f' ![528 * s + w + 264 * h + 33 * C, l] = pk v ![C, l])
    ∧ ∀ r l, (∀ C, C < 8 → r ≠ 528 * s + w + 264 * h + 33 * C) → pk f' ![r, l] = pk f ![r, l] := by
  subst eb eh
  have e0 : oS (BitVec.ofNat 32 (528 * s)) (BitVec.ofNat 32 w) (BitVec.ofNat 32 (264 * h)) 0 = 528 * s + w + 264 * h := by rw [oS_eq hs hw hh]; rfl
  have e1 : oS (BitVec.ofNat 32 (528 * s)) (BitVec.ofNat 32 w) (BitVec.ofNat 32 (264 * h)) 1 = 0 := by rw [oS_eq hs hw hh]; rfl
  have key : ∀ x : S8x128.Idx, (mT.access ⟨(⟨oS (BitVec.ofNat 32 (528 * s)) (BitVec.ofNat 32 w) (BitVec.ofNat 32 (264 * h)), S8x128.size, ![33, 1], hr⟩ : LoadRect S1056x128), spos_33_1⟩).emb x
      = (fun a => match a with
        | ⟨0, _⟩ => ⟨528 * s + w + 264 * h + 33 * (x 0 : Nat), by have : (x 0 : Nat) < 8 := (x 0).isLt; show _ < 1056; omega⟩
        | ⟨1, _⟩ => ⟨(x 1 : Nat), (x 1).isLt⟩ : S1056x128.Idx) := by
    intro x
    funext a
    apply Fin.ext
    match a with
    | ⟨0, _⟩ => exact congrArg (· + 33 * (x 0 : Nat)) e0
    | ⟨1, _⟩ => exact (congrArg (· + 1 * (x 1 : Nat)) e1).trans (by show 0 + 1 * (x 1 : Nat) = (x 1 : Nat); omega)
  refine ⟨fun C l hC hl => ?_, fun r l hr' => ?_⟩
  · let x : S8x128.Idx := fun a => match a with | ⟨0, _⟩ => ⟨C, hC⟩ | ⟨1, _⟩ => ⟨l, hl⟩
    have h1 : f' ((mT.access ⟨(⟨oS (BitVec.ofNat 32 (528 * s)) (BitVec.ofNat 32 w) (BitVec.ofNat 32 (264 * h)), S8x128.size, ![33, 1], hr⟩ : LoadRect S1056x128), spos_33_1⟩).emb x) = v x := by
      rw [hf, View.write_emb_of_mem _ _ (Finset.mem_univ _)]; rfl
    rw [key] at h1
    refine Eq.trans (Eq.trans (pk_eq f' _ _ fun a => ?_).symm h1) (pk_eq v x _ fun a => ?_)
    · match a with | ⟨0, _⟩ => rfl | ⟨1, _⟩ => rfl
    · match a with | ⟨0, _⟩ => rfl | ⟨1, _⟩ => rfl
  · unfold pk
    split
    · rename_i hv
      rw [hf]
      refine View.write_of_not_mem _ _ _ fun hm => ?_
      simp [View.setOn] at hm
      obtain ⟨x, hx⟩ := hm
      have hx2 := (key x).symm.trans hx
      exact hr' (x 0 : Nat) (x 0).isLt (by have := congrArg (fun i : S1056x128.Idx => (i 0 : Nat)) hx2; exact this.symm)
    · rfl

/-- Four bytes packed and stored. -/
theorem gput_run {s w h : Nat} (hs : s < 2) (hw : w < 32) (hh : h < 2) {b hb : BitVec 32} (eb : b = BitVec.ofNat 32 (528 * s))
    (eh : hb = BitVec.ofNat 32 (264 * h))
    (hr : ∀ a, S8x128.size a = 0 ∨ oS b (BitVec.ofNat 32 w) hb a + (![33, 1] : Fin 2 → Nat) a * (S8x128.size a - 1) < S1056x128.size a)
    (f : S1056x128.Idx → BitVec 32) (v0 v1 v2 v3 : IVec S8x128 32) (k : Prog (TpuEff nD τ sig (Elt F) Λ₀ .tc) α) :
    pt c mT f ⊢ iprop((∀ f' : S1056x128.Idx → BitVec 32, ⌜(∀ C l, C < 8 → l < 128 → pk f' ![528 * s + w + 264 * h + 33 * C, l]
            = pk (shapeCast S8x128 (packElementwiseInt 8 ![v0, v1, v2, v3]) shapeCasts_S8x128_S8x128 : IVec S8x128 32) ![C, l])
          ∧ ∀ r l, (∀ C, C < 8 → r ≠ 528 * s + w + 264 * h + 33 * C) → pk f' ![r, l] = pk f ![r, l]⌝ -∗ pt c mT f' -∗ WP c k Q)
        -∗ WP c (gput (F := F) mT b (BitVec.ofNat 32 w) hb hr v0 v1 v2 v3 k) Q) := by
  iintro HT Hk
  unfold gput
  iapply (wp_load Variants.none (c : Thread nD τ) none Set.univ (m := mT) (S := Finset.univ) (Finset.subset_univ _)) $$ HT
  iintro HT
  simp only [ret_bind']
  iapply (wp_store Variants.none (c : Thread nD τ) none Set.univ (m := mT) (r := ⟨(⟨oS b (BitVec.ofNat 32 w) hb, S8x128.size, ![33, 1], hr⟩ : LoadRect S1056x128), spos_33_1⟩) (S := Finset.univ) (Finset.subset_univ _)) $$ HT
  iintro HT
  simp only [ret_bind']
  iapply Hk $$ [] HT
  ipureintro
  exact put_val (F := F) hs hw hh eb eh hr f _ _ rfl

/-- What a gathered word reads. -/
abbrev rd (n : Nat) : sProp 𝕄 := iprop(pt c mA I.a ∗ pt c mH I.sh ∗ ptOn c mW (wset (n % 2)) (wrd I n))

/-- One gathered word. -/
theorem gword_run {n g s w : Nat} (hn : n < 4) (hg : g < 104) (hs : s < 2) (hw : w < 32) (hI : I.Ok) (hG : GOk (BitVec.ofNat 32 g) (BitVec.ofNat 32 (528 * s)))
    (f : S1056x128.Idx → BitVec 32) (k : Prog (TpuEff nD τ sig (Elt F) Λ₀ .tc) α) :
    iprop(rd (F := F) c I n ∗ pt c mT f)
      ⊢ iprop((∀ f' : S1056x128.Idx → BitVec 32, ⌜Ext (F := F) I s w (w + 1) n g f f'⌝ -∗ iprop(rd (F := F) c I n ∗ pt c mT f') -∗ WP c k Q)
        -∗ WP c (gword (F := F) mA mH mW mT (BitVec.ofNat 32 g) (BitVec.ofNat 32 (53264 * (n % 2))) (BitVec.ofNat 32 (528 * s)) hG w hw k) Q) := by
  iintro ⟨HR, HT⟩ Hk
  unfold gword
  iapply (gbyte_run c I Q hn hg hI) $$ HR
  iintro HR
  iapply (gbyte_run c I Q hn hg hI) $$ HR
  iintro HR
  iapply (gbyte_run c I Q hn hg hI) $$ HR
  iintro HR
  iapply (gbyte_run c I Q hn hg hI) $$ HR
  iintro HR
  iapply (gput_run c Q (h := 0) hs hw (by decide) rfl rfl) $$ HT
  iintro %f1 %h1 HT
  iapply (gput_run c Q (h := 1) hs hw (by decide) rfl rfl) $$ HT
  iintro %f2 %h2 HT
  iapply Hk $$ [] [HR HT]
  · ipureintro
    refine ⟨fun C w' l hC hw1 hw2 hl => ?_, fun r l hr => ?_⟩
    · obtain rfl : w' = w := by omega
      unfold srtVal
      by_cases h8 : C < 8
      · rw [h2.2 _ _ (fun C' hC' => by omega), show 528 * s + w' + 33 * C = 528 * s + w' + 264 * 0 + 33 * C by omega, h1.1 C l h8 hl,
          Nat.div_eq_of_lt h8, Nat.mod_eq_of_lt h8]
        rfl
      · rw [show 528 * s + w' + 33 * C = 528 * s + w' + 264 * 1 + 33 * (C - 8) by omega, h2.1 (C - 8) l (by omega) hl,
          show C / 8 = 1 by omega, show C % 8 = C - 8 by omega]
        rfl
    · rw [h2.2 _ _ (fun C hC => by have := hr (C + 8) w (by omega) (by omega) (by omega); omega),
        h1.2 _ _ (fun C hC => by have := hr C w (by omega) (by omega) (by omega); omega)]
  · isplitl [HR]; · iexact HR
    iexact HT

/-- Four. -/
theorem gfour_run {n g s t : Nat} (hn : n < 4) (hg : g < 104) (hs : s < 2) (ht : t < 8) (hI : I.Ok) (hG : GOk (BitVec.ofNat 32 g) (BitVec.ofNat 32 (528 * s)))
    (f : S1056x128.Idx → BitVec 32) (k : Prog (TpuEff nD τ sig (Elt F) Λ₀ .tc) α) :
    iprop(rd (F := F) c I n ∗ pt c mT f)
      ⊢ iprop((∀ f' : S1056x128.Idx → BitVec 32, ⌜Ext (F := F) I s (4 * t) (4 * (t + 1)) n g f f'⌝ -∗ iprop(rd (F := F) c I n ∗ pt c mT f') -∗ WP c k Q)
        -∗ WP c (gfour (F := F) mA mH mW mT (BitVec.ofNat 32 g) (BitVec.ofNat 32 (53264 * (n % 2))) (BitVec.ofNat 32 (528 * s)) hG t ht k) Q) := by
  iintro HR Hk
  unfold gfour
  iapply (gword_run c I Q hn hg hs _ hI) $$ HR
  iintro %f1 %h1 HR
  iapply (gword_run c I Q hn hg hs _ hI) $$ HR
  iintro %f2 %h2 HR
  iapply (gword_run c I Q hn hg hs _ hI) $$ HR
  iintro %f3 %h3 HR
  iapply (gword_run c I Q hn hg hs _ hI) $$ HR
  iintro %f4 %h4 HR
  iapply Hk $$ [] HR
  ipureintro
  exact ((h1.trans I (by omega) h2 (by omega) (by omega)).trans I (by omega) h3 (by omega) (by omega)).trans I (by omega) h4 (by omega) (by omega)

/-- The last `m` words of a group. -/
theorem gwords_run {n g s : Nat} (hn : n < 4) (hg : g < 104) (hs : s < 2) (hI : I.Ok) (hG : GOk (BitVec.ofNat 32 g) (BitVec.ofNat 32 (528 * s)))
    (k : Prog (TpuEff nD τ sig (Elt F) Λ₀ .tc) α) : ∀ (m : Nat) (hm : m ≤ 32) (f : S1056x128.Idx → BitVec 32),
    iprop(rd (F := F) c I n ∗ pt c mT f)
      ⊢ iprop((∀ f' : S1056x128.Idx → BitVec 32, ⌜Ext (F := F) I s (32 - m) 32 n g f f'⌝ -∗ iprop(rd (F := F) c I n ∗ pt c mT f') -∗ WP c k Q)
        -∗ WP c (gwords (F := F) mA mH mW mT (BitVec.ofNat 32 g) (BitVec.ofNat 32 (53264 * (n % 2))) (BitVec.ofNat 32 (528 * s)) hG k m hm) Q)
  | 0, hm, f => by
    iintro HR Hk
    unfold gwords
    iapply Hk $$ [] HR
    ipureintro
    exact ⟨fun C w l hC h1 h2 hl => by omega, fun r l _ => rfl⟩
  | m + 1, hm, f => by
    iintro HR Hk
    unfold gwords
    iapply (gword_run c I Q hn hg hs _ hI) $$ HR
    iintro %f1 %h1 HR
    iapply (gwords_run hn hg hs hI hG k m _ f1) $$ HR
    iintro %f2 %h2 HR
    iapply Hk $$ [] HR
    ipureintro
    have e : 32 - (m + 1) + 1 = 32 - m := by omega
    rw [e] at h1
    exact h1.trans I (by omega) h2 (by omega) (by omega)

end Cert.Proof.Kernel
-- ==== Proof.KRun3.lean ====
/-
  A block's sixteen copies: started from the rows at any contents, waited for with every row staged.
-/
module

public import proofs.«01_k».proof.Proof.KRun1

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The cell of the copies of the blocks of parity `s`. -/
def dsem (s : Nat) : DmaSem sig := if s = 0 then ⟨6, by decide⟩ else ⟨7, by decide⟩

theorem gsem_at {s : Nat} (hs : s < 2) {o : Fin 1 → Nat} (eo : o = ![s]) (ho : ∀ a, o a + S1.size a ≤ S2.size a) :
    ((cc0_scratch2.slice (Rect.unit (s := S2) o S1.size ho)).squeeze S_ squeezes_S1_S_).sem = dsem s := by
  subst eo
  have key : ∀ y : S1.Idx, (S2.rowMajor ((Rect.unit (s := S2) ![s] S1.size ho).emb y) : Nat) = s := fun y => by
    have hy : (y 0 : Nat) < 1 := (y 0).isLt
    refine (Shape.rowMajor_val_one _).trans ((Rect.emb_apply (Rect.unit (s := S2) ![s] S1.size ho) y 0).trans ?_)
    show s + 1 * (y 0 : Nat) = s
    omega
  apply Fin.ext
  refine (congrArg (6 + ·) (key _)).trans ?_
  match s, hs with
  | 0, _ => rfl
  | 1, _ => rfl

theorem gsem_eq {n : Nat} (hn : n < 4) (h : DOk (BitVec.ofNat 32 n)) : (gsem cc0_scratch2 (BitVec.ofNat 32 n) h).sem = dsem (n % 2) :=
  gsem_at (Nat.mod_lt _ (by decide)) (oQ_eq hn) _

/-- The rows a chunk's copy lands at, the columns it is read from; from chunk `j` on; and of the whole block. -/
def dset (n t : Nat) : Finset S106528x128.Idx := Finset.univ.filter fun i => (i 0 : Nat) / 3329 = (n % 2) * 16 + t ∧ (i 0 : Nat) % 3329 < 3328
def sset (n t : Nat) : Finset S3328x8192.Idx := Finset.univ.filter fun i => (i 1 : Nat) / 128 = n * 16 + t
def dfrom (n j : Nat) : Finset S106528x128.Idx :=
  Finset.univ.filter fun i => (i 0 : Nat) / 3329 < (n % 2) * 16 + 16 ∧ (n % 2) * 16 + j ≤ (i 0 : Nat) / 3329 ∧ (i 0 : Nat) % 3329 < 3328
def sfrom (n j : Nat) : Finset S3328x8192.Idx := Finset.univ.filter fun i => (i 1 : Nat) / 128 < n * 16 + 16 ∧ n * 16 + j ≤ (i 1 : Nat) / 128
def srcs (n : Nat) : Finset S3328x8192.Idx := Finset.univ.filter fun i => (i 1 : Nat) / 2048 = n

theorem mem_filt {α : Type} [Fintype α] {p : α → Prop} [DecidablePred p] {i : α} : i ∈ Finset.univ.filter p ↔ p i :=
  ⟨fun h => (Finset.mem_filter.mp h).2, fun h => Finset.mem_filter.mpr ⟨Finset.mem_univ _, h⟩⟩

/-- A disjoint split of the elements held. -/
theorem ptOn_split (c : Dev nD) {sp : Space} {S : Shape} {e : EltTy} (M : Memref sig .tc sp S e) {A B C : Finset (Idx (M.view.loc (c : Thread nD τ)))}
    (f : Buf (Elt F) (M.view.loc (c : Thread nD τ))) (h : ∀ i, i ∈ A ↔ i ∈ B ∨ i ∈ C) (hd : ∀ i, i ∈ B → i ∉ C) :
    (ptOn c M A f : sProp 𝕄) ⊣⊢ iprop(ptOn c M B f ∗ ptOn c M C f) := by
  have e : A \ B = C := by
    ext i
    rw [Finset.mem_sdiff, h i]
    constructor
    · rintro ⟨h1 | h1, h2⟩
      · exact absurd h1 h2
      · exact h1
    · exact fun h1 => ⟨Or.inr h1, fun h2 => hd i h2 h1⟩
  have := pointsTo_split_subset (ℓ := M.view.loc (c : Thread nD τ)) (q := fullShare) (f := f) (Ix := Unit) (Name := ℕ) (U := Pipeline.UD sig nD τ) (Lvl := ℕ)
    (I := B) (S := A) fun i hi => (h i).mpr (Or.inl hi)
  rw [e] at this
  exact this

variable (c : Dev nD) (I : Ins) {α : Type} (Q : α → sProp (MT nD τ sig Unit (Elt F) ℕ (Pipeline.UD sig nD τ) ℕ))

abbrev bdst (n : Nat) (h : DOk (BitVec.ofNat 32 n)) (t : Nat) (ht : t < 16) := gdst mW (BitVec.ofNat 32 n) h t ht
abbrev bsrc (n : Nat) (h : DOk (BitVec.ofNat 32 n)) (t : Nat) (ht : t < 16) := gsrc mQ (BitVec.ofNat 32 n) h t ht

/-- Where an element of a chunk lands, and where it is read. -/
def dAt (n : Nat) (h : DOk (BitVec.ofNat 32 n)) (t : Nat) (ht : t < 16) (x : S3328x128.Idx) : S106528x128.Idx := (bdst n h t ht).view.emb x
def sAt (n : Nat) (h : DOk (BitVec.ofNat 32 n)) (t : Nat) (ht : t < 16) (x : S3328x128.Idx) : S3328x8192.Idx := (bsrc n h t ht).view.emb x

theorem dst_emb {n t : Nat} (hn : n < 4) (ht : t < 16) (h : DOk (BitVec.ofNat 32 n)) (x : S3328x128.Idx) :
    (dAt n h t ht x 0 : Nat) = ((n % 2) * 16 + t) * 3329 + (x 0 : Nat)
      ∧ (dAt n h t ht x 1 : Nat) = (x 1 : Nat) := by
  have e := oD_eq hn ht
  constructor
  · refine (Rect.emb_apply (Rect.unit (s := S106528x128) (oD (BitVec.ofNat 32 n) (BitVec.ofNat 32 t)) S3328x128.size (h.d t ht)) x 0).trans ?_
    refine (congrArg (· + 1 * (x 0 : Nat)) (congrFun e 0)).trans ?_
    show ((n % 2) * 16 + t) * 3329 + 1 * (x 0 : Nat) = _; omega
  · refine (Rect.emb_apply (Rect.unit (s := S106528x128) (oD (BitVec.ofNat 32 n) (BitVec.ofNat 32 t)) S3328x128.size (h.d t ht)) x 1).trans ?_
    refine (congrArg (· + 1 * (x 1 : Nat)) (congrFun e 1)).trans ?_
    show 0 + 1 * (x 1 : Nat) = _; omega

theorem src_emb {n t : Nat} (hn : n < 4) (ht : t < 16) (h : DOk (BitVec.ofNat 32 n)) (x : S3328x128.Idx) :
    (sAt n h t ht x 0 : Nat) = (x 0 : Nat)
      ∧ (sAt n h t ht x 1 : Nat) = (n * 16 + t) * 128 + (x 1 : Nat) := by
  have e := oB_eq hn ht
  constructor
  · refine (Rect.emb_apply (Rect.unit (s := S3328x8192) (oB (BitVec.ofNat 32 n) (BitVec.ofNat 32 t)) S3328x128.size (h.s t ht)) x 0).trans ?_
    refine (congrArg (· + 1 * (x 0 : Nat)) (congrFun e 0)).trans ?_
    show 0 + 1 * (x 0 : Nat) = _; omega
  · refine (Rect.emb_apply (Rect.unit (s := S3328x8192) (oB (BitVec.ofNat 32 n) (BitVec.ofNat 32 t)) S3328x128.size (h.s t ht)) x 1).trans ?_
    refine (congrArg (· + 1 * (x 1 : Nat)) (congrFun e 1)).trans ?_
    show (n * 16 + t) * 128 + 1 * (x 1 : Nat) = _; omega

theorem dst_set {n t : Nat} (hn : n < 4) (ht : t < 16) (h : DOk (BitVec.ofNat 32 n)) : ((bdst n h t ht).view.set : Finset S106528x128.Idx) = dset n t := by
  refine Finset.ext fun (i : S106528x128.Idx) => ?_
  refine Iff.trans ⟨fun hi => ?_, fun hi => ?_⟩ mem_filt.symm
  · obtain ⟨x, -, hx⟩ := Finset.mem_map.mp hi
    have hx : dAt n h t ht x = i := hx
    subst hx
    obtain ⟨e0, -⟩ := dst_emb hn ht h x
    rw [e0]
    have : (x 0 : Nat) < 3328 := (x 0).isLt
    omega
  · have h1 : (i 1 : Nat) < 128 := (i 1).isLt
    let x : S3328x128.Idx := fun a => match a with | ⟨0, _⟩ => ⟨(i 0 : Nat) % 3329, hi.2⟩ | ⟨1, _⟩ => ⟨(i 1 : Nat), h1⟩
    have e : dAt n h t ht x = i := by
      obtain ⟨e0, e1⟩ := dst_emb hn ht h x
      funext a
      apply Fin.ext
      match a with
      | ⟨0, _⟩ => refine e0.trans ?_; show ((n % 2) * 16 + t) * 3329 + (i 0 : Nat) % 3329 = (i 0 : Nat); omega
      | ⟨1, _⟩ => exact e1
    rw [← e]; exact View.emb_mem_set _ x

theorem src_set {n t : Nat} (hn : n < 4) (ht : t < 16) (h : DOk (BitVec.ofNat 32 n)) : ((bsrc n h t ht).view.set : Finset S3328x8192.Idx) = sset n t := by
  refine Finset.ext fun (i : S3328x8192.Idx) => ?_
  refine Iff.trans ⟨fun hi => ?_, fun hi => ?_⟩ mem_filt.symm
  · obtain ⟨x, -, hx⟩ := Finset.mem_map.mp hi
    have hx : sAt n h t ht x = i := hx
    subst hx
    obtain ⟨-, e0⟩ := src_emb hn ht h x
    rw [e0]
    have : (x 1 : Nat) < 128 := (x 1).isLt
    omega
  · have h0 : (i 0 : Nat) < 3328 := (i 0).isLt
    let x : S3328x128.Idx := fun a => match a with | ⟨0, _⟩ => ⟨(i 0 : Nat), h0⟩ | ⟨1, _⟩ => ⟨(i 1 : Nat) % 128, Nat.mod_lt _ (by decide)⟩
    have e : sAt n h t ht x = i := by
      obtain ⟨e0, e1⟩ := src_emb hn ht h x
      funext a
      apply Fin.ext
      match a with
      | ⟨0, _⟩ => exact e0
      | ⟨1, _⟩ => refine e1.trans ?_; show (n * 16 + t) * 128 + (i 1 : Nat) % 128 = (i 1 : Nat); omega
    rw [← e]; exact View.emb_mem_set _ x

/-- A landed chunk holds the block's words. -/
theorem dst_val {n t : Nat} (hn : n < 4) (ht : t < 16) (h : DOk (BitVec.ofNat 32 n)) (fd : S106528x128.Idx → BitVec 32) (i : S106528x128.Idx) (hi : i ∈ dset n t) :
    (bdst n h t ht).view.write (Elt F) fd ((ReadAs.same : ReadAs (Elt F) S3328x128 .i32 S3328x128 .i32).apply ((bsrc n h t ht).view.read (Elt F) I.q)) Finset.univ i = wrd I n i := by
  rw [← dst_set hn ht h] at hi
  obtain ⟨x, -, hx⟩ := Finset.mem_map.mp hi
  have hx : dAt n h t ht x = i := hx
  subst hx
  refine (View.write_emb_of_mem _ _ (Finset.mem_univ x)).trans ?_
  obtain ⟨d0, d1⟩ := dst_emb hn ht h x
  obtain ⟨s0, s1⟩ := src_emb hn ht h x
  have hx : (x 0 : Nat) < 3328 := (x 0).isLt
  show I.q (sAt n h t ht x) = _
  unfold wrd
  rw [d0, d1]
  refine pk_eq I.q _ _ fun a => ?_
  match a with
  | ⟨0, _⟩ => refine s0.trans ?_
              show (x 0 : Nat) = (((n % 2) * 16 + t) * 3329 + (x 0 : Nat)) % 53264 % 3329; omega
  | ⟨1, _⟩ => refine s1.trans ?_
              show (n * 16 + t) * 128 + (x 1 : Nat) = (n * 16 + (((n % 2) * 16 + t) * 3329 + (x 0 : Nat)) % 53264 / 3329) * 128 + (x 1 : Nat); omega

/-- What a chunk's copy delivers. -/
def del (n : Nat) (t : Fin 16) : sProp 𝕄 := iprop(ptOn c mW (dset n t) (wrd I n) ∗ ptOn c mQ (sset n t) I.q)

instance del_storable (n : Nat) (t : Fin 16) : Storable (upEmb : UEmb _ 𝕄) (del (F := F) c I n t) := by unfold del; infer_instance

/-- One copy's credit. -/
def nCr : ℕ := (bdst 0 (DOk_ok (by decide)) 0 (by decide)).view.amount (SemLoc.dma (sig := sig) (dsem 0))

theorem nCr_pos : 0 < nCr := by
  unfold nCr
  exact View.amount_pos _ _ (by decide)

theorem nCr_amount {n t : Nat} (h : DOk (BitVec.ofNat 32 n)) (ht : t < 16) (s : DmaSem sig) : (bdst n h t ht).view.amount (SemLoc.dma s) = nCr := rfl
theorem nCr_credit {n t : Nat} (h : DOk (BitVec.ofNat 32 n)) (ht : t < 16) : (bdst n h t ht).view.dmaCredit = nCr := rfl

attribute [irreducible] nCr

/-- A block's copies in flight, of which `j` are started and `u` units waited for. -/
abbrev batOn (sm : DmaSem sig) (n j u : Nat) : sProp 𝕄 :=
  Transfers.Batch (countersEmb (U := Pipeline.UD sig nD τ)) (c : Thread nD τ) (.dma sm) () nCr (del (F := F) c I n) j u

abbrev bat (n j u : Nat) : sProp 𝕄 := batOn (F := F) c I (dsem (n % 2)) n j u

abbrev sem0 (s : Nat) : sProp 𝕄 := semVal ((c : Thread nD τ), SemLoc.dma (dsem s)) 0

set_option maxHeartbeats 3000000 in
theorem gstarts_aux {n : Nat} (hn : n < 4) (h : DOk (BitVec.ofNat 32 n)) (f : S106528x128.Idx → BitVec 32)
    (k : Prog (TpuEff nD τ sig (Elt F) Λ₀ .tc) α) : (m : Nat) → (hm : m ≤ 16) →
    iprop(ptOn c mW (dfrom n (16 - m)) f ∗ ptOn c mQ (sfrom n (16 - m)) I.q ∗ batOn (F := F) c I (gsem cc0_scratch2 (BitVec.ofNat 32 n) h).sem n (16 - m) 0)
      ⊢ iprop((batOn (F := F) c I (gsem cc0_scratch2 (BitVec.ofNat 32 n) h).sem n 16 0 -∗ WP c k Q) -∗ WP c (gstarts (F := F) mQ mW cc0_scratch2 (BitVec.ofNat 32 n) h k m hm) Q)
  | 0, _ => by
    iintro ⟨-, -, HB⟩ Hk
    unfold gstarts
    iapply Hk
    iexact HB
  | m + 1, hm => by
    have ht : 16 - (m + 1) < 16 := by omega
    have e1 : 16 - (m + 1) + 1 = 16 - m := by omega
    have ih := gstarts_aux hn h f k m (by omega)
    rw [gstarts.eq_def]
    dsimp only
    iintro ⟨HW, HS, HB⟩ Hk
    ihave HW := (ptOn_split (F := F) c mW (A := dfrom n (16 - (m + 1))) (B := dset n (16 - (m + 1))) (C := dfrom n (16 - m)) f
      (fun i => by rw [dfrom, dset, dfrom, mem_filt, mem_filt, mem_filt]; omega) (fun i => by rw [dset, dfrom, mem_filt, mem_filt]; omega)).1 $$ HW
    icases HW with ⟨HW, HW'⟩
    ihave HS := (ptOn_split (F := F) c mQ (A := sfrom n (16 - (m + 1))) (B := sset n (16 - (m + 1))) (C := sfrom n (16 - m)) I.q
      (fun i => by rw [sfrom, sset, sfrom, mem_filt, mem_filt, mem_filt]; omega) (fun i => by rw [sset, sfrom, mem_filt, mem_filt]; omega)).1 $$ HS
    icases HS with ⟨HS, HS'⟩
    iapply (Transfers.wp_dmaBatch (countersEmb (U := Pipeline.UD sig nD τ)) Variants.none (c : Thread nD τ) none
      (src := bsrc n h (16 - (m + 1)) ht) (dst := bdst n h (16 - (m + 1)) ht) (Sd := dset n (16 - (m + 1))) (fs := I.q) (fd := f) (q := fullShare)
      () nCr (nCr_amount h ht _) (dst_set hn ht h).le (D := del (F := F) c I n) (j := 16 - (m + 1)) (u := 0) ht (Nat.zero_le _)
      (by
        unfold del
        refine sep_mono (Entails.of_eq (pointsTo_congr fun i hi => dst_val I hn ht h f i hi)) (Entails.of_eq ?_)
        rw [src_set hn ht h]; rfl)) $$ [HW HS HB]
    · isplitl [HS]
      · rw [src_set hn ht h]; iexact HS
      isplitl [HW]; · iexact HW
      iexact HB
    rw [e1]
    iintro HB
    iapply ih $$ [HW' HS' HB]
    · isplitl [HW']; · iexact HW'
      isplitl [HS']; · iexact HS'
      iexact HB
    iexact Hk

/-- A block's copies started, from its rows at any contents. -/
theorem gstarts_run {n : Nat} (hn : n < 4) (h : DOk (BitVec.ofNat 32 n)) (f : S106528x128.Idx → BitVec 32)
    (k : Prog (TpuEff nD τ sig (Elt F) Λ₀ .tc) α) :
    iprop(ptOn c mW (wset (n % 2)) f ∗ ptOn c mQ (srcs n) I.q ∗ sem0 (F := F) c (n % 2))
      ⊢ iprop((bat (F := F) c I n 16 0 -∗ WP c k Q) -∗ WP c (gstarts (F := F) mQ mW cc0_scratch2 (BitVec.ofNat 32 n) h k 16 le_rfl) Q) := by
  unfold bat sem0
  rw [← gsem_eq hn h]
  iintro ⟨HW, HS, HV⟩ Hk
  imod (Transfers.batch_alloc' (Lvl := ℕ) (countersEmb (U := Pipeline.UD sig nD τ)) (c : Thread nD τ) () nCr (del (F := F) c I n)
    (sm := .dma (gsem cc0_scratch2 (BitVec.ofNat 32 n) h).sem) (E := Set.univ)) $$ HV with HB
  have eW : wset (n % 2) = dfrom n (16 - 16) := by
    ext i; rw [wset, dfrom, mem_filt, mem_filt]; omega
  have eS : srcs n = sfrom n (16 - 16) := by
    ext i; rw [srcs, sfrom, mem_filt, mem_filt]; omega
  rw [eW, eS]
  iapply (gstarts_aux c I Q hn h f k 16 le_rfl) $$ [HW HS HB]
  · isplitl [HW]; · iexact HW
    isplitl [HS]; · iexact HS
    iexact HB
  iexact Hk

/-- The deliveries, put together. -/
theorem del_all {n : Nat} (hn : n < 4) :
    bigSep Finset.univ (del (F := F) c I n) ⊢ iprop(ptOn c mW (wset (n % 2)) (wrd I n) ∗ ptOn c mQ (srcs n) I.q) := by
  have eW : wset (n % 2) = (Finset.univ : Finset (Fin 16)).biUnion fun t => dset n t := by
    ext i
    rw [wset, mem_filt, Finset.mem_biUnion]
    constructor
    · intro hi
      exact ⟨⟨(i 0 : Nat) % 53264 / 3329, by omega⟩, Finset.mem_univ _, mem_filt.mpr (by show _ = (n % 2) * 16 + (i 0 : Nat) % 53264 / 3329 ∧ _; omega)⟩
    · rintro ⟨t, -, ht⟩
      have := mem_filt.mp ht
      have := t.isLt
      omega
  have eS : srcs n = (Finset.univ : Finset (Fin 16)).biUnion fun t => sset n t := by
    ext i
    rw [srcs, mem_filt, Finset.mem_biUnion]
    constructor
    · intro hi
      exact ⟨⟨(i 1 : Nat) % 2048 / 128, by omega⟩, Finset.mem_univ _, mem_filt.mpr (by show _ = n * 16 + (i 1 : Nat) % 2048 / 128; omega)⟩
    · rintro ⟨t, -, ht⟩
      have := mem_filt.mp ht
      have := t.isLt
      omega
  have e : bigSep Finset.univ (del (F := F) c I n)
      = iprop(bigSep Finset.univ (fun t : Fin 16 => ptOn c mW (dset n t) (wrd I n)) ∗ bigSep Finset.univ (fun t : Fin 16 => ptOn c mQ (sset n t) I.q)) :=
    bigSep_sep' _ _ _
  have dW : ∀ t ∈ (Finset.univ : Finset (Fin 16)), ∀ t' ∈ (Finset.univ : Finset (Fin 16)), t ≠ t' → Disjoint (dset n t) (dset n t') :=
    fun t _ t' _ hne => Finset.disjoint_left.mpr fun i h1 h2 => hne (Fin.ext (by
      have := mem_filt.mp h1
      have := mem_filt.mp h2
      omega))
  have dS : ∀ t ∈ (Finset.univ : Finset (Fin 16)), ∀ t' ∈ (Finset.univ : Finset (Fin 16)), t ≠ t' → Disjoint (sset n t) (sset n t') :=
    fun t _ t' _ hne => Finset.disjoint_left.mpr fun i h1 h2 => hne (Fin.ext (by
      have := mem_filt.mp h1
      have := mem_filt.mp h2
      omega))
  have pW := pointsTo_biUnion (ℓ := mW.view.loc (c : Thread nD τ)) (q := fullShare) (Val := Elt F) (f := wrd I n) (Ix := Unit) (Name := ℕ) (U := Pipeline.UD sig nD τ) (Lvl := ℕ)
    Finset.univ (fun t : Fin 16 => dset n t) dW
  have pS := pointsTo_biUnion (ℓ := mQ.view.loc (c : Thread nD τ)) (q := fullShare) (Val := Elt F) (f := I.q) (Ix := Unit) (Name := ℕ) (U := Pipeline.UD sig nD τ) (Lvl := ℕ)
    Finset.univ (fun t : Fin 16 => sset n t) dS
  rw [e, eW, eS]
  exact Idealize.SL.BI.BIClass.sep_mono (Entails.of_eq pW.symm) (Entails.of_eq pS.symm)

theorem gwaits_aux {n : Nat} (hn : n < 4) (h : DOk (BitVec.ofNat 32 n)) (k : Prog (TpuEff nD τ sig (Elt F) Λ₀ .tc) α) :
    (m : Nat) → (hm : m + 1 ≤ 16) → (W : Waits sig Unit) →
    iprop(batOn (F := F) c I (gsem cc0_scratch2 (BitVec.ofNat 32 n) h).sem n 16 (nCr * (16 - (m + 1))) ∗ owes (c : Thread nD τ) 0 W)
      ⊢ iprop((iprop(ptOn c mW (wset (n % 2)) (wrd I n) ∗ ptOn c mQ (srcs n) I.q ∗ semVal ((c : Thread nD τ), SemLoc.dma (gsem cc0_scratch2 (BitVec.ofNat 32 n) h).sem) 0 ∗ ∃ W', owes (c : Thread nD τ) 0 W') -∗ WP c k Q)
        -∗ WP c (gwaits (F := F) mQ mW cc0_scratch2 (BitVec.ofNat 32 n) h k (m + 1) hm) Q)
  | 0, hm, W => by
    unfold gwaits
    iintro ⟨HB, HO⟩ Hk
    iapply (Transfers.wp_waitBatchLast (countersEmb (U := Pipeline.UD sig nD τ)) Variants.none (c : Thread nD τ) none () (N := nCr) (nCr_credit h (by omega)) nCr_pos
      (D := del (F := F) c I n) (u := nCr * (16 - (0 + 1))) (by have := nCr_pos; omega)) $$ [HB HO]
    · isplitl [HB] <;> iassumption
    iintro ⟨HD, HV, HO⟩
    ihave HD := (del_all c I hn) $$ HD
    icases HD with ⟨HW, HS⟩
    rw [ret_bind']
    unfold gwaits
    iapply Hk
    isplitl [HW]; · iexact HW
    isplitl [HS]; · iexact HS
    isplitl [HV]; · iexact HV
    iexists _; iexact HO
  | m + 1, hm, W => by
    have ih := gwaits_aux hn h k m (by omega)
    have ht : 16 - (m + 1 + 1) < 16 := by omega
    have e1 : nCr * (16 - (m + 1 + 1)) + nCr = nCr * (16 - (m + 1)) := by
      rw [show 16 - (m + 1) = 16 - (m + 1 + 1) + 1 by omega, Nat.mul_succ]
    rw [gwaits.eq_def]
    dsimp only
    iintro ⟨HB, HO⟩ Hk
    iapply (Transfers.wp_waitBatch (countersEmb (U := Pipeline.UD sig nD τ)) Variants.none (c : Thread nD τ) none (srcw := bsrc n h _ ht) (dstw := bdst n h _ ht) () (N := nCr) (nCr_credit h _)
      (D := del (F := F) c I n) (u := nCr * (16 - (m + 1 + 1))) (by rw [e1]; exact Nat.mul_lt_mul_of_pos_left (by omega) nCr_pos)) $$ [HB HO]
    · isplitl [HB] <;> iassumption
    rw [e1]
    iintro ⟨HB, HO⟩
    rw [ret_bind']
    iapply (ih _) $$ [HB HO]
    · isplitl [HB]; · iexact HB
      iexact HO
    iexact Hk

/-- A block's copies waited for: its rows staged. -/
theorem gwaits_run {n : Nat} (hn : n < 4) (h : DOk (BitVec.ofNat 32 n)) (k : Prog (TpuEff nD τ sig (Elt F) Λ₀ .tc) α) :
    iprop(bat (F := F) c I n 16 0 ∗ ∃ W, owes (c : Thread nD τ) 0 W)
      ⊢ iprop((iprop(ptOn c mW (wset (n % 2)) (wrd I n) ∗ ptOn c mQ (srcs n) I.q ∗ sem0 (F := F) c (n % 2) ∗ ∃ W', owes (c : Thread nD τ) 0 W') -∗ WP c k Q)
        -∗ WP c (gwaits (F := F) mQ mW cc0_scratch2 (BitVec.ofNat 32 n) h k 16 le_rfl) Q) := by
  unfold bat sem0
  rw [← gsem_eq hn h]
  iintro ⟨HB, %W, HO⟩ Hk
  iapply (gwaits_aux c I Q hn h k 15 le_rfl W) $$ [HB HO]
  · isplitl [HB]; · iexact HB
    iexact HO
  iexact Hk

end Cert.Proof.Kernel
-- ==== Proof.KRun2.lean ====
/-
  One group's step, run: the eight tiles' products added, the next group's words gathered.
-/
module

public import proofs.«01_k».proof.Proof.KRun1
public import Idealize.ShloMosaic.Lib.Mxu.Lemmas

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The matrix units' state -/

/-- A tile's unit and address. -/
def tq (t : Nat) : Fin 2 := ⟨t % 2, Nat.mod_lt _ (by decide)⟩
def tA (t : Nat) : Nat := 24 * (t / 2)
theorem tfits {t : Nat} (ht : t < 8) : Mxu.Fits (tA t) 96 := by unfold tA Mxu.Fits; omega

/-- A tile's rows hold nothing yet, or the products `y`. -/
def TileIs (s : Mxu F) (q : Fin 2) (A : Nat) (hA : Mxu.Fits A 96) : Option (FVec F (Mxu.STile 96) .f32) → Prop
  | none => ∀ r : Fin 96, s.live q (Mxu.row hA r) = false
  | some y => (∀ r : Fin 96, s.live q (Mxu.row hA r) = true) ∧ s.read q A hA = y

/-- The units' state between tiles: no tile staged, tile `t`'s rows at `v t`, no other row in use. -/
structure MxuIs (s : Mxu F) (v : Nat → Option (FVec F (Mxu.STile 96) .f32)) : Prop where
  reg : ∀ q r, s.reg q r = none
  tile : ∀ t (ht : t < 8), TileIs s (tq t) (tA t) (tfits ht) (v t)
  rest : ∀ q (R : Fin 1024), 384 ≤ R.val → s.live q R = false

theorem MxuIs.congr {s : Mxu F} {v v' : Nat → Option (FVec F (Mxu.STile 96) .f32)} (h : MxuIs s v) (e : ∀ t, t < 8 → v t = v' t) : MxuIs s v' :=
  ⟨h.reg, fun t ht => e t ht ▸ h.tile t ht, h.rest⟩

theorem MxuIs.init : MxuIs (Mxu.init : Mxu F) (fun _ => none) :=
  ⟨fun q r => Mxu.reg_init q r, fun t ht r => rfl, fun q R _ => rfl⟩

/-- A product added to what the rows hold. -/
def depo (o : Option (FVec F (Mxu.STile 96) .f32)) (p : FVec F (Mxu.STile 96) .f32) : FVec F (Mxu.STile 96) .f32 :=
  match o with
  | none => p
  | some y => addf y p

theorem tile_ne {t t' : Nat} (ht : t < 8) (ht' : t' < 8) (hne : t' ≠ t) : tq t' ≠ tq t ∨ 4 * tA t' + 96 ≤ 4 * tA t ∨ 4 * tA t + 96 ≤ 4 * tA t' := by
  by_cases h : t' % 2 = t % 2
  · right; unfold tA; omega
  · left; exact fun e => h (congrArg Fin.val e)

/-- Pushing a tile's weights and accumulating adds the product to its rows alone. -/
theorem MxuIs.step {s : Mxu F} {v v' : Nat → Option (FVec F (Mxu.STile 96) .f32)} (h : MxuIs s v) {t : Nat} (ht : t < 8) (r : Fin 2)
    (W : FVec F (Mxu.STile 256) .bf16) (L : FVec F (Mxu.STile 96) .bf16)
    (hv : v' t = some (depo (v t) (FloatOps.mxuPass (DotDims.plain 96 256 256) L W))) (hv' : ∀ t', t' < 8 → t' ≠ t → v' t' = v t') :
    MxuIs ((s.pushed (tq t) r false W).accLhs (tq t) r (tA t) L (tfits ht)) v' := by
  refine ⟨fun q' r' => ?_, fun t' ht' => ?_, fun q' R hR => ?_⟩
  · by_cases hqr : q' = tq t ∧ r' = r
    · obtain ⟨rfl, rfl⟩ := hqr
      exact Mxu.reg_accLhs _ _ _ _ _ _
    · rw [Mxu.reg_accLhs_ne _ _ _ _ _ _ _ _ hqr, Mxu.reg_pushed_ne _ _ _ _ _ _ _ hqr]
      exact h.reg _ _
  · by_cases e : t' = t
    · subst e
      rw [hv]
      refine ⟨fun r' => Mxu.live_accLhs_row _ _ _ _ _ _ _, ?_⟩
      have hst : (s.pushed (tq t') r false W).staged (tq t') r = ⟨.bf16, false, W⟩ := by
        rw [Mxu.staged_eq, Mxu.reg_pushed_of_none _ _ _ _ _ (h.reg _ _)]; rfl
      have ht2 := h.tile t' ht
      cases hvt : v t' with
      | none =>
        rw [hvt] at ht2
        rw [Mxu.read_accLhs_of_not_live _ _ _ _ _ _ (fun r' => by rw [Mxu.live_pushed]; exact ht2 r'), hst]
        rfl
      | some y =>
        rw [hvt] at ht2
        rw [Mxu.read_accLhs_of_live _ _ _ _ _ _ (fun r' => by rw [Mxu.live_pushed]; exact ht2.1 r'), hst, Mxu.read_pushed, ht2.2]
        rfl
    · rw [hv' t' ht' e]
      have ht2 := h.tile t' ht'
      have hne := tile_ne ht ht' e
      have hl : ∀ r' : Fin 96, ((s.pushed (tq t) r false W).accLhs (tq t) r (tA t) L (tfits ht)).live (tq t') (Mxu.row (tfits ht') r') = s.live (tq t') (Mxu.row (tfits ht') r') := by
        intro r'
        rw [Mxu.live_accLhs, if_neg, Mxu.live_pushed]
        have hr := r'.isLt
        rintro ⟨e1, h1, h2⟩
        rcases hne with hne | hne
        · exact hne e1
        · simp only [Mxu.row] at h1 h2; omega
      cases hvt : v t' with
      | none =>
        rw [hvt] at ht2
        exact fun r' => (hl r').trans (ht2 r')
      | some y =>
        rw [hvt] at ht2
        refine ⟨fun r' => (hl r').trans (ht2.1 r'), ?_⟩
        rw [Mxu.read_accLhs_ne _ _ _ _ _ _ _ _ _ hne, Mxu.read_pushed, ht2.2]
  · rw [Mxu.live_accLhs, if_neg, Mxu.live_pushed]
    · exact h.rest _ _ hR
    · rintro ⟨-, h1, h2⟩
      unfold tA at h2; omega

/-- Popping a tile's rows empties them alone. -/
theorem MxuIs.pop {s : Mxu F} {v v' : Nat → Option (FVec F (Mxu.STile 96) .f32)} (h : MxuIs s v) {t : Nat} (ht : t < 8)
    (hv : v' t = none) (hv' : ∀ t', t' < 8 → t' ≠ t → v' t' = v t') :
    MxuIs (s.pop (tq t) (tA t) 96 (tfits ht)) v' := by
  refine ⟨fun q' r' => ?_, fun t' ht' => ?_, fun q' R hR => ?_⟩
  · rw [Mxu.reg_pop]; exact h.reg _ _
  · by_cases e : t' = t
    · subst e
      rw [hv]
      exact fun r' => Mxu.live_pop_row _ _ _ _ _
    · rw [hv' t' ht' e]
      have ht2 := h.tile t' ht'
      have hne := tile_ne ht ht' e
      have hl : ∀ r' : Fin 96, (s.pop (tq t) (tA t) 96 (tfits ht)).live (tq t') (Mxu.row (tfits ht') r') = s.live (tq t') (Mxu.row (tfits ht') r') := by
        intro r'
        rw [Mxu.live_pop, if_neg]
        have hr := r'.isLt
        rintro ⟨e1, h1, h2⟩
        rcases hne with hne | hne
        · exact hne e1
        · simp only [Mxu.row] at h1 h2; omega
      cases hvt : v t' with
      | none =>
        rw [hvt] at ht2
        exact fun r' => (hl r').trans (ht2 r')
      | some y =>
        rw [hvt] at ht2
        refine ⟨fun r' => (hl r').trans (ht2.1 r'), ?_⟩
        rw [Mxu.read_pop_ne _ _ _ _ _ _ _ hne, ht2.2]
  · rw [Mxu.live_pop, if_neg]
    · exact h.rest _ _ hR
    · rintro ⟨-, h1, h2⟩
      unfold tA at h2; omega

/-- With every tile popped the units are drained. -/
theorem MxuIs.drained {s : Mxu F} (h : MxuIs s fun _ => none) : s.Drained := by
  refine ⟨fun q r => by rw [h.reg]; rfl, fun q R => ?_⟩
  by_cases hR : 384 ≤ R.val
  · exact h.rest q R hR
  · have ht : 2 * (R.val / 96) + q.val < 8 := by have := q.isLt; omega
    have h1 := h.tile (2 * (R.val / 96) + q.val) ht ⟨R.val % 96, Nat.mod_lt _ (by decide)⟩
    have e1 : tq (2 * (R.val / 96) + q.val) = q := Fin.ext (by have := q.isLt; show (2 * (R.val / 96) + q.val) % 2 = q.val; omega)
    have e2 : Mxu.row (tfits ht) ⟨R.val % 96, Nat.mod_lt _ (by decide)⟩ = R := Fin.ext (by
      have := q.isLt
      show 4 * (24 * ((2 * (R.val / 96) + q.val) / 2)) + R.val % 96 = R.val; omega)
    rw [e1, e2] at h1
    exact h1

variable (c : Dev nD) (I : Ins) {α : Type} (Q : α → sProp (MT nD τ sig Unit (Elt F) ℕ (Pipeline.UD sig nD τ) ℕ))

/-- In the midst of group `g`'s step: the first `T` tiles have its product. -/
def mid (n g T : Nat) : Nat → Option (FVec F (Mxu.STile 96) .f32) := fun t => if t < T then accO (F := F) I n t (g + 1) else accO (F := F) I n t g

theorem accO_succ (n t g : Nat) : accO (F := F) I n t (g + 1) = some (depo (accO (F := F) I n t g) (pas (F := F) I n g t)) := by
  cases g <;> rfl

/-! ## What a tile reads -/

theorem tile_val {s n g C : Nat} (hs : s < 2) (hC : C < 16) {b h : BitVec 32} (eb : b = BitVec.ofNat 32 (528 * s)) (eh : h = BitVec.ofNat 32 (33 * C))
    (hr : ∀ a, oR b h a + S32x128.size a ≤ S1056x128.size a) {f : S1056x128.Idx → BitVec 32} (hf : Sorted (F := F) I s n g f) :
    (mT.view.readAt (Elt F) (Rect.unit (s := S1056x128) (oR b h) S32x128.size hr).toLoadRect f : IVec S32x128 32) = tileRows (F := F) I n g C := by
  subst eb eh
  funext x
  have h0 : (x 0 : Nat) < 32 := (x 0).isLt
  have h1 : (x 1 : Nat) < 128 := (x 1).isLt
  refine Eq.trans (pk_eq f _ ![528 * s + (x 0 : Nat) + 33 * C, (x 1 : Nat)] fun a => ?_) (hf C _ _ hC h0 h1)
  match a with
  | ⟨0, _⟩ => exact (congrArg (· + 1 * (x 0 : Nat)) (congrFun (oR_eq hs hC) 0)).trans (by show 528 * s + 33 * C + 1 * (x 0 : Nat) = 528 * s + (x 0 : Nat) + 33 * C; omega)
  | ⟨1, _⟩ => exact (congrArg (· + 1 * (x 1 : Nat)) (congrFun (oR_eq hs hC) 1)).trans (by show 0 + 1 * (x 1 : Nat) = (x 1 : Nat); omega)

theorem row_val {n g C : Nat} (hn : n < 4) (hg : g < 104) (hC : C < 16) {h : BitVec 32} (eh : h = BitVec.ofNat 32 C) (M : Memref sig .tc .vmem S6656x128 .i32) (f : S6656x128.Idx → BitVec 32)
    (hr : ∀ a, oT (BitVec.ofNat 32 n) (BitVec.ofNat 32 g) h a + S1x128.size a ≤ S6656x128.size a) (x : S1x128.Idx) :
    f ((Rect.unit (s := S6656x128) (oT (BitVec.ofNat 32 n) (BitVec.ofNat 32 g) h) S1x128.size hr).toLoadRect.idx x) = pk f ![(n * 104 + g) * 16 + C, (x 1 : Nat)] := by
  subst eh
  have h0 : (x 0 : Nat) < 1 := (x 0).isLt
  refine pk_eq f _ _ fun a => ?_
  match a with
  | ⟨0, _⟩ => exact (congrArg (· + 1 * (x 0 : Nat)) (congrFun (oT_eq hn hg hC) 0)).trans (by show (n * 104 + g) * 16 + C + 1 * (x 0 : Nat) = (n * 104 + g) * 16 + C; omega)
  | ⟨1, _⟩ => exact (congrArg (· + 1 * (x 1 : Nat)) (congrFun (oT_eq hn hg hC) 1)).trans (by show 0 + 1 * (x 1 : Nat) = (x 1 : Nat); omega)

theorem slab_val {g : Nat} (hg : g < 104) (f : S104x24x256.Idx → BitVec 32)
    (hr : ∀ a, oX (BitVec.ofNat 32 g) a + S1x24x256.size a ≤ S104x24x256.size a) (x : S1x24x256.Idx) :
    f ((Rect.unit (s := S104x24x256) (oX (BitVec.ofNat 32 g)) S1x24x256.size hr).toLoadRect.idx x) = pk f ![g, (x 1 : Nat), (x 2 : Nat)] := by
  have h0 : (x 0 : Nat) < 1 := (x 0).isLt
  refine pk_eq f _ _ fun a => ?_
  match a with
  | ⟨0, _⟩ => exact (congrArg (· + 1 * (x 0 : Nat)) (congrFun (oX_eq hg) 0)).trans (by show g + 1 * (x 0 : Nat) = g; omega)
  | ⟨1, _⟩ => exact (congrArg (· + 1 * (x 1 : Nat)) (congrFun (oX_eq hg) 1)).trans (by show 0 + 1 * (x 1 : Nat) = (x 1 : Nat); omega)
  | ⟨2, _⟩ => exact (congrArg (· + 1 * (x 2 : Nat)) (congrFun (oX_eq hg) 2)).trans (by show 0 + 1 * (x 2 : Nat) = (x 2 : Nat); omega)

/-- What a tile reads beside the sorted words. -/
abbrev ro : sProp 𝕄 := iprop(pt c mX I.xs ∗ pt c mS I.st ∗ pt c mZ I.zt)

/-- One tile. -/
theorem gtile_run {n g s t : Nat} (hn : n < 4) (hg : g < 104) (hs : s < 2) (ht : t < 8)
    (hT : TOk (BitVec.ofNat 32 n) (BitVec.ofNat 32 g) (BitVec.ofNat 32 (528 * s))) {q : Fin 2} (r : Fin 2) {A : Nat} (hA : Mxu.Fits A 96)
    (eq : q = tq t) (eA : A = tA t) {f : S1056x128.Idx → BitVec 32} (hf : Sorted (F := F) I s n g f) {u : Mxu F} (hu : MxuIs u (mid (F := F) I n g t))
    (k : Mxu F → Prog (TpuEff nD τ sig (Elt F) Λ₀ .tc) α) :
    iprop(ro (F := F) c I ∗ pt c mT f)
      ⊢ iprop((∀ u' : Mxu F, ⌜MxuIs u' (mid (F := F) I n g (t + 1))⌝ -∗ iprop(ro (F := F) c I ∗ pt c mT f) -∗ WP c (k u') Q)
        -∗ WP c (gtile (F := F) mX mS mZ mT (BitVec.ofNat 32 n) (BitVec.ofNat 32 g) (BitVec.ofNat 32 (528 * s)) hT t ht q r A hA u k) Q) := by
  subst eq eA
  iintro ⟨⟨HX, HS, HZ⟩, HT⟩ Hk
  unfold gtile
  iapply (wp_load Variants.none (c : Thread nD τ) none Set.univ (m := mT) (S := Finset.univ) (Finset.subset_univ _)) $$ HT
  iintro HT
  rw [ret_bind', tile_val (F := F) I (C := 2 * t) hs (by omega) rfl rfl _ hf]
  iapply (wp_load Variants.none (c : Thread nD τ) none Set.univ (m := mS) (S := Finset.univ) (Finset.subset_univ _)) $$ HS
  iintro HS
  rw [ret_bind', show (mS.view.readAt (Elt F) (Rect.unit (s := S6656x128) (oT (BitVec.ofNat 32 n) (BitVec.ofNat 32 g) (BitVec.ofNat 32 (2 * t))) S1x128.size (hT.t (2 * t) (by omega))).toLoadRect I.st : IVec S1x128 32) = stRow I n g (2 * t) from funext fun x => row_val hn hg (by omega) rfl mS I.st _ x]
  iapply (wp_load Variants.none (c : Thread nD τ) none Set.univ (m := mZ) (S := Finset.univ) (Finset.subset_univ _)) $$ HZ
  iintro HZ
  rw [ret_bind', show (mZ.view.readAt (Elt F) (Rect.unit (s := S6656x128) (oT (BitVec.ofNat 32 n) (BitVec.ofNat 32 g) (BitVec.ofNat 32 (2 * t))) S1x128.size (hT.t (2 * t) (by omega))).toLoadRect I.zt : IVec S1x128 32) = ztRow I n g (2 * t) from funext fun x => row_val hn hg (by omega) rfl mZ I.zt _ x]
  iapply (wp_load Variants.none (c : Thread nD τ) none Set.univ (m := mT) (S := Finset.univ) (Finset.subset_univ _)) $$ HT
  iintro HT
  rw [ret_bind', tile_val (F := F) I (C := 2 * t + 1) hs (by omega) rfl rfl _ hf]
  iapply (wp_load Variants.none (c : Thread nD τ) none Set.univ (m := mS) (S := Finset.univ) (Finset.subset_univ _)) $$ HS
  iintro HS
  rw [ret_bind', show (mS.view.readAt (Elt F) (Rect.unit (s := S6656x128) (oT (BitVec.ofNat 32 n) (BitVec.ofNat 32 g) (BitVec.ofNat 32 (2 * t + 1))) S1x128.size (hT.t (2 * t + 1) (by omega))).toLoadRect I.st : IVec S1x128 32) = stRow I n g (2 * t + 1) from funext fun x => row_val hn hg (by omega) rfl mS I.st _ x]
  iapply (wp_load Variants.none (c : Thread nD τ) none Set.univ (m := mZ) (S := Finset.univ) (Finset.subset_univ _)) $$ HZ
  iintro HZ
  rw [ret_bind', show (mZ.view.readAt (Elt F) (Rect.unit (s := S6656x128) (oT (BitVec.ofNat 32 n) (BitVec.ofNat 32 g) (BitVec.ofNat 32 (2 * t + 1))) S1x128.size (hT.t (2 * t + 1) (by omega))).toLoadRect I.zt : IVec S1x128 32) = ztRow I n g (2 * t + 1) from funext fun x => row_val hn hg (by omega) rfl mZ I.zt _ x]
  iapply (Mxu.wp_pushRhs _ (Mxu.pushOk_of_none u (tq t) r false (hu.reg _ _)))
  iapply (wp_load Variants.none (c : Thread nD τ) none Set.univ (m := mX) (S := Finset.univ) (Finset.subset_univ _)) $$ HX
  iintro HX
  rw [ret_bind', show (mX.view.readAt (Elt F) (Rect.unit (s := S104x24x256) (oX (BitVec.ofNat 32 g)) S1x24x256.size hT.x).toLoadRect I.xs : IVec S1x24x256 32) = xSlab I g from funext fun x => slab_val hg I.xs _ x]
  iapply Hk $$ [] [HX HS HZ HT]
  · ipureintro
    refine hu.step ht r _ _ ?_ fun t' ht' hne => ?_
    · unfold mid
      rw [if_pos (Nat.lt_succ_self t), if_neg (Nat.lt_irrefl t), accO_succ]; rfl
    · unfold mid
      by_cases h : t' < t
      · rw [if_pos h, if_pos (by omega)]
      · rw [if_neg h, if_neg (by omega)]
  · isplitl [HX HS HZ]
    · isplitl [HX]; · iexact HX
      isplitl [HS]; · iexact HS
      iexact HZ
    iexact HT

/-- One group's step: the tiles advance by group `g`'s product, and the other slot gets the words of `(n', g')`. -/
theorem gstep_run {n g s n' g' s' : Nat} (hn : n < 4) (hg : g < 104) (hs : s < 2) (hn' : n' < 4) (hg' : g' < 104) (hs' : s' < 2) (hne : s ≠ s') (hI : I.Ok)
    (hT : TOk (BitVec.ofNat 32 n) (BitVec.ofNat 32 g) (BitVec.ofNat 32 (528 * s))) (hG : GOk (BitVec.ofNat 32 g') (BitVec.ofNat 32 (528 * s')))
    {f : S1056x128.Idx → BitVec 32} (hf : Sorted (F := F) I s n g f) {u : Mxu F} (hu : MxuIs u (fun t => accO (F := F) I n t g))
    (k : Mxu F → Prog (TpuEff nD τ sig (Elt F) Λ₀ .tc) α) :
    iprop(ro (F := F) c I ∗ rd (F := F) c I n' ∗ pt c mT f)
      ⊢ iprop((∀ (u' : Mxu F) (f' : S1056x128.Idx → BitVec 32), ⌜MxuIs u' (fun t => accO (F := F) I n t (g + 1)) ∧ Sorted (F := F) I s' n' g' f'⌝
            -∗ iprop(ro (F := F) c I ∗ rd (F := F) c I n' ∗ pt c mT f') -∗ WP c (k u') Q)
        -∗ WP c (gstep (F := F) mA mH mX mS mZ mW mT (BitVec.ofNat 32 n) (BitVec.ofNat 32 g) (BitVec.ofNat 32 (528 * s)) (BitVec.ofNat 32 g')
            (BitVec.ofNat 32 (53264 * (n' % 2))) (BitVec.ofNat 32 (528 * s')) hT hG u k) Q) := by
  have l0 : 0 < 8 := by decide
  have a0 : Mxu.Fits 0 96 := by decide
  have a1 : Mxu.Fits 24 96 := by decide
  have a2 : Mxu.Fits 48 96 := by decide
  have a3 : Mxu.Fits 72 96 := by decide
  have l1 : 1 < 8 := by decide
  have l2 : 2 < 8 := by decide
  have l3 : 3 < 8 := by decide
  have l4 : 4 < 8 := by decide
  have l5 : 5 < 8 := by decide
  have l6 : 6 < 8 := by decide
  have l7 : 7 < 8 := by decide
  iintro ⟨HO, HR, HT⟩ Hk
  have hu0 : MxuIs u (mid (F := F) I n g 0) := hu
  unfold gstep
  iapply (gtile_run c I Q hn hg hs l0 hT 0 a0 rfl rfl hf hu0) $$ [HO HT]
  · isplitl [HO]; · iexact HO
    iexact HT
  iintro %u1 %hu1 ⟨HO, HT⟩
  iapply (gfour_run c I Q hn' hg' hs' l0 hI hG) $$ [HR HT]
  · isplitl [HR]; · iexact HR
    iexact HT
  iintro %f1 %e1 ⟨HR, HT⟩
  have hf1 := hf.ext I hs hs' hne (by omega) e1
  iapply (gtile_run c I Q hn hg hs l1 hT 0 a0 rfl rfl hf1 hu1) $$ [HO HT]
  · isplitl [HO]; · iexact HO
    iexact HT
  iintro %u2 %hu2 ⟨HO, HT⟩
  iapply (gfour_run c I Q hn' hg' hs' l1 hI hG) $$ [HR HT]
  · isplitl [HR]; · iexact HR
    iexact HT
  iintro %f2 %e2 ⟨HR, HT⟩
  have hf2 := hf1.ext I hs hs' hne (by omega) e2
  iapply (gtile_run c I Q hn hg hs l2 hT 1 a1 rfl rfl hf2 hu2) $$ [HO HT]
  · isplitl [HO]; · iexact HO
    iexact HT
  iintro %u3 %hu3 ⟨HO, HT⟩
  iapply (gfour_run c I Q hn' hg' hs' l2 hI hG) $$ [HR HT]
  · isplitl [HR]; · iexact HR
    iexact HT
  iintro %f3 %e3 ⟨HR, HT⟩
  have hf3 := hf2.ext I hs hs' hne (by omega) e3
  iapply (gtile_run c I Q hn hg hs l3 hT 1 a1 rfl rfl hf3 hu3) $$ [HO HT]
  · isplitl [HO]; · iexact HO
    iexact HT
  iintro %u4 %hu4 ⟨HO, HT⟩
  iapply (gfour_run c I Q hn' hg' hs' l3 hI hG) $$ [HR HT]
  · isplitl [HR]; · iexact HR
    iexact HT
  iintro %f4 %e4 ⟨HR, HT⟩
  have hf4 := hf3.ext I hs hs' hne (by omega) e4
  iapply (gtile_run c I Q hn hg hs l4 hT 0 a2 rfl rfl hf4 hu4) $$ [HO HT]
  · isplitl [HO]; · iexact HO
    iexact HT
  iintro %u5 %hu5 ⟨HO, HT⟩
  iapply (gfour_run c I Q hn' hg' hs' l4 hI hG) $$ [HR HT]
  · isplitl [HR]; · iexact HR
    iexact HT
  iintro %f5 %e5 ⟨HR, HT⟩
  have hf5 := hf4.ext I hs hs' hne (by omega) e5
  iapply (gtile_run c I Q hn hg hs l5 hT 0 a2 rfl rfl hf5 hu5) $$ [HO HT]
  · isplitl [HO]; · iexact HO
    iexact HT
  iintro %u6 %hu6 ⟨HO, HT⟩
  iapply (gfour_run c I Q hn' hg' hs' l5 hI hG) $$ [HR HT]
  · isplitl [HR]; · iexact HR
    iexact HT
  iintro %f6 %e6 ⟨HR, HT⟩
  have hf6 := hf5.ext I hs hs' hne (by omega) e6
  iapply (gtile_run c I Q hn hg hs l6 hT 1 a3 rfl rfl hf6 hu6) $$ [HO HT]
  · isplitl [HO]; · iexact HO
    iexact HT
  iintro %u7 %hu7 ⟨HO, HT⟩
  iapply (gfour_run c I Q hn' hg' hs' l6 hI hG) $$ [HR HT]
  · isplitl [HR]; · iexact HR
    iexact HT
  iintro %f7 %e7 ⟨HR, HT⟩
  have hf7 := hf6.ext I hs hs' hne (by omega) e7
  iapply (gtile_run c I Q hn hg hs l7 hT 1 a3 rfl rfl hf7 hu7) $$ [HO HT]
  · isplitl [HO]; · iexact HO
    iexact HT
  iintro %u8 %hu8 ⟨HO, HT⟩
  iapply (gfour_run c I Q hn' hg' hs' l7 hI hG) $$ [HR HT]
  · isplitl [HR]; · iexact HR
    iexact HT
  iintro %f8 %e8 ⟨HR, HT⟩
  have E2 := e1.trans I (by omega) e2 (by omega) (by omega)
  have E3 := E2.trans I (by omega) e3 (by omega) (by omega)
  have E4 := E3.trans I (by omega) e4 (by omega) (by omega)
  have E5 := E4.trans I (by omega) e5 (by omega) (by omega)
  have E6 := E5.trans I (by omega) e6 (by omega) (by omega)
  have E7 := E6.trans I (by omega) e7 (by omega) (by omega)
  have E8 := E7.trans I (by omega) e8 (by omega) (by omega)
  have hS : Sorted (F := F) I s' n' g' f8 := E8.sorted I
  have hU : MxuIs _ (fun t => accO (F := F) I n t (g + 1)) := hu8.congr fun t ht => if_pos ht
  iapply Hk $$ [] [HO HR HT]
  · ipureintro; exact ⟨hU, hS⟩
  · isplitl [HO]; · iexact HO
    isplitl [HR]; · iexact HR
    iexact HT

end Cert.Proof.Kernel
-- ==== Proof.KRun4.lean ====
/-
  A block's results: its eight tiles popped and stored.
-/
module

public import proofs.«01_k».proof.Proof.KRun2

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (I : Ins) {α : Type} (Q : α → sProp (MT nD τ sig Unit (Elt F) ℕ (Pipeline.UD sig nD τ) ℕ))

/-- The blocks before `n`, and the first `j` column blocks of block `n`, are stored. -/
def Done (n j : Nat) (f : S4x48x4096.Idx → F .bf16) : Prop :=
  ∀ i : S4x48x4096.Idx, (i 0 : Nat) < n ∨ ((i 0 : Nat) = n ∧ (i 2 : Nat) < 128 * j) → f i = out (F := F) I i

theorem Done.next {n : Nat} {f : S4x48x4096.Idx → F .bf16} (h : Done (F := F) I n 32 f) : Done (F := F) I (n + 1) 0 f := fun i hi => by
  have : (i 2 : Nat) < 4096 := (i 2).isLt
  exact h i (by omega)

/-- An index of a stored tile. -/
def oIx (x1 x2 : Nat) (h1 : x1 < 48) (h2 : x2 < 128) : S1x48x128.Idx := fun a => match a with
  | ⟨0, _⟩ => ⟨0, Nat.one_pos⟩
  | ⟨1, _⟩ => ⟨x1, h1⟩
  | ⟨2, _⟩ => ⟨x2, h2⟩

theorem out_eq (i : S4x48x4096.Idx) :
    out (F := F) I i = oblk (F := F) I (i 0 : Nat) ((i 2 : Nat) / 128) (oIx (i 1 : Nat) ((i 2 : Nat) % 128) (i 1).isLt (Nat.mod_lt _ (by decide))) := by
  unfold out
  refine congrArg _ (funext fun a => ?_)
  match a with
  | ⟨0, _⟩ => rfl
  | ⟨1, _⟩ => rfl
  | ⟨2, _⟩ => rfl

theorem st_val {n j : Nat} (hn : n < 4) (hj : j < 32) (ho : ∀ a, oO (BitVec.ofNat 32 n) j a + S1x48x128.size a ≤ S4x48x4096.size a)
    (f : S4x48x4096.Idx → F .bf16) (v : FVec F S1x48x128 .bf16) (hv : v = oblk (F := F) I n j) (hd : Done (F := F) I n j f) :
    Done (F := F) I n (j + 1) ((mO.access (Rect.unit (s := S4x48x4096) (oO (BitVec.ofNat 32 n) j) S1x48x128.size ho)).write (Elt F) f v Finset.univ) := by
  have e := oO_eq hn j
  generalize oO (BitVec.ofNat 32 n) j = o at ho e
  subst e
  have key : ∀ x : S1x48x128.Idx, (mO.access (Rect.unit (s := S4x48x4096) ![n, 0, 128 * j] S1x48x128.size ho)).emb x
      = (fun a => match a with
        | ⟨0, _⟩ => ⟨n, hn⟩
        | ⟨1, _⟩ => ⟨(x 1 : Nat), (x 1).isLt⟩
        | ⟨2, _⟩ => ⟨128 * j + (x 2 : Nat), by have : (x 2 : Nat) < 128 := (x 2).isLt; show _ < 4096; omega⟩ : S4x48x4096.Idx) := by
    intro x
    funext a
    apply Fin.ext
    match a with
    | ⟨0, _⟩ => have : (x 0 : Nat) < 1 := (x 0).isLt
                show n + 1 * (x 0 : Nat) = n; omega
    | ⟨1, _⟩ => show 0 + 1 * (x 1 : Nat) = (x 1 : Nat); omega
    | ⟨2, _⟩ => show 128 * j + 1 * (x 2 : Nat) = 128 * j + (x 2 : Nat); omega
  intro i hi
  have h1 : (i 1 : Nat) < 48 := (i 1).isLt
  by_cases hm : (i 0 : Nat) = n ∧ (i 2 : Nat) / 128 = j
  · obtain ⟨hm0, hm2⟩ := hm
    have ei : (mO.access (Rect.unit (s := S4x48x4096) ![n, 0, 128 * j] S1x48x128.size ho)).emb
        (oIx (i 1 : Nat) ((i 2 : Nat) % 128) h1 (Nat.mod_lt _ (by decide))) = i := by
      rw [key]
      funext a
      apply Fin.ext
      match a with
      | ⟨0, _⟩ => exact hm0.symm
      | ⟨1, _⟩ => rfl
      | ⟨2, _⟩ => show 128 * j + (i 2 : Nat) % 128 = (i 2 : Nat); omega
    rw [out_eq, hm0, hm2, ← hv]
    conv_lhs => rw [← ei]
    exact View.write_emb_of_mem _ _ (Finset.mem_univ _)
  · refine (View.write_of_not_mem _ _ _ fun hmem => hm ?_).trans (hd i (by omega))
    obtain ⟨x, -, rfl⟩ := Finset.mem_map.mp hmem
    rw [key]
    have : (x 2 : Nat) < 128 := (x 2).isLt
    refine ⟨rfl, ?_⟩
    show (128 * j + (x 2 : Nat)) / 128 = j
    omega

theorem gst_run {n j : Nat} (hn : n < 4) (hj : j < 32) (h : OOk mO (BitVec.ofNat 32 n)) (f : S4x48x4096.Idx → F .bf16) (ye yo : FVec F S48x128 .f32) (kk : BitVec 32)
    (hv : gval (F := F) ye yo kk = oblk (F := F) I n j) (hd : Done (F := F) I n j f) (k : Prog (TpuEff nD τ sig (Elt F) Λ₀ .tc) α) :
    pt c mO f ⊢ iprop((∀ f' : S4x48x4096.Idx → F .bf16, ⌜Done (F := F) I n (j + 1) f'⌝ -∗ pt c mO f' -∗ WP c k Q)
        -∗ WP c (gst (F := F) mO (BitVec.ofNat 32 n) h j hj ye yo kk k) Q) := by
  iintro HO Hk
  unfold gst
  iapply (wp_load Variants.none (c : Thread nD τ) none Set.univ (m := mO) (S := Finset.univ) (Finset.subset_univ _)) $$ HO
  iintro HO
  simp only [ret_bind']
  iapply (wp_store Variants.none (c : Thread nD τ) none Set.univ (m := mO) (r := Rect.unit (s := S4x48x4096) (oO (BitVec.ofNat 32 n) j) S1x48x128.size (h.o j hj))
    (S := Finset.univ) (Finset.subset_univ _)) $$ HO
  iintro HO
  simp only [ret_bind']
  iapply Hk $$ [] HO
  ipureintro
  exact st_val (F := F) I hn hj _ f _ hv hd

/-- The tiles before `t` popped. -/
def popd (n t : Nat) (t' : Nat) : Option (FVec F (Mxu.STile 96) .f32) := if t' < t then none else accO (F := F) I n t' 104

theorem gpop_run {n t : Nat} (hn : n < 4) (ht : t < 8) (h : OOk mO (BitVec.ofNat 32 n)) {q : Fin 2} {A : Nat} (hA : Mxu.Fits A 96)
    (eq : q = tq t) (eA : A = tA t) (f : S4x48x4096.Idx → F .bf16) (hd : Done (F := F) I n (4 * t) f) {u : Mxu F} (hu : MxuIs u (popd (F := F) I n t))
    (k : Mxu F → Prog (TpuEff nD τ sig (Elt F) Λ₀ .tc) α) :
    pt c mO f ⊢ iprop((∀ (u' : Mxu F) (f' : S4x48x4096.Idx → F .bf16), ⌜MxuIs u' (popd (F := F) I n (t + 1)) ∧ Done (F := F) I n (4 * (t + 1)) f'⌝ -∗ pt c mO f' -∗ WP c (k u') Q)
        -∗ WP c (gpop (F := F) mO (BitVec.ofNat 32 n) h t ht q A hA u k) Q) := by
  subst eq eA
  have er : u.read (tq t) (tA t) hA = acc (F := F) I n t 103 := by
    have := hu.tile t ht
    rw [show popd (F := F) I n t t = some (acc (F := F) I n t 103) from if_neg (Nat.lt_irrefl t)] at this
    exact this.2
  have j0 : 4 * t < 32 := by omega
  have j1 : 4 * t + 1 < 32 := by omega
  have j2 : 4 * t + 2 < 32 := by omega
  have j3 : 4 * t + 3 < 32 := by omega
  unfold gpop
  rw [er]
  iintro HO Hk
  iapply (gst_run c I Q hn j0 h f _ _ _ (by
    unfold oblk rowsE rowsO
    rw [if_pos (by omega), if_pos (by omega), if_pos (by omega), show 4 * t / 4 = t by omega]) hd) $$ HO
  iintro %f1 %h1 HO
  iapply (gst_run c I Q hn j1 h f1 _ _ _ (by
    unfold oblk rowsE rowsO
    rw [if_pos (by omega), if_pos (by omega), if_neg (by omega), show (4 * t + 1) / 4 = t by omega]) h1) $$ HO
  iintro %f2 %h2 HO
  iapply (gst_run c I Q hn j2 h f2 _ _ _ (by
    unfold oblk rowsE rowsO
    rw [if_neg (by omega), if_neg (by omega), if_pos (by omega), show (4 * t + 1 + 1) / 4 = t by omega]) h2) $$ HO
  iintro %f3 %h3 HO
  iapply (gst_run c I Q hn j3 h f3 _ _ _ (by
    unfold oblk rowsE rowsO
    rw [if_neg (by omega), if_neg (by omega), if_neg (by omega), show (4 * t + 1 + 1 + 1) / 4 = t by omega]) h3) $$ HO
  iintro %f4 %h4 HO
  have hU : MxuIs (u.pop (tq t) (tA t) 96 hA) (popd (F := F) I n (t + 1)) := hu.pop ht (if_pos (Nat.lt_succ_self t)) fun t' _ hne => by
    unfold popd
    by_cases hl : t' < t
    · rw [if_pos hl, if_pos (by omega)]
    · rw [if_neg hl, if_neg (by omega)]
  iapply Hk $$ [] HO
  ipureintro
  exact ⟨hU, h4⟩

/-- A block's results stored. -/
theorem gpops_run {n : Nat} (hn : n < 4) (h : OOk mO (BitVec.ofNat 32 n)) (f : S4x48x4096.Idx → F .bf16) (hd : Done (F := F) I n 0 f)
    {u : Mxu F} (hu : MxuIs u (fun t => accO (F := F) I n t 104)) (k : Mxu F → Prog (TpuEff nD τ sig (Elt F) Λ₀ .tc) α) :
    pt c mO f ⊢ iprop((∀ (u' : Mxu F) (f' : S4x48x4096.Idx → F .bf16), ⌜MxuIs u' (fun _ => none) ∧ Done (F := F) I (n + 1) 0 f'⌝ -∗ pt c mO f' -∗ WP c (k u') Q)
        -∗ WP c (gpops (F := F) mO (BitVec.ofNat 32 n) h u k) Q) := by
  have l0 : 0 < 8 := by decide
  have l1 : 1 < 8 := by decide
  have l2 : 2 < 8 := by decide
  have l3 : 3 < 8 := by decide
  have l4 : 4 < 8 := by decide
  have l5 : 5 < 8 := by decide
  have l6 : 6 < 8 := by decide
  have l7 : 7 < 8 := by decide
  have a0 : Mxu.Fits 0 96 := by decide
  have a1 : Mxu.Fits 24 96 := by decide
  have a2 : Mxu.Fits 48 96 := by decide
  have a3 : Mxu.Fits 72 96 := by decide
  have hu0 : MxuIs u (popd (F := F) I n 0) := hu
  iintro HO Hk
  unfold gpops
  iapply (gpop_run c I Q hn l0 h a0 rfl rfl f hd hu0) $$ HO
  iintro %u1 %f1 %h1 HO
  iapply (gpop_run c I Q hn l1 h a0 rfl rfl f1 h1.2 h1.1) $$ HO
  iintro %u2 %f2 %h2 HO
  iapply (gpop_run c I Q hn l2 h a1 rfl rfl f2 h2.2 h2.1) $$ HO
  iintro %u3 %f3 %h3 HO
  iapply (gpop_run c I Q hn l3 h a1 rfl rfl f3 h3.2 h3.1) $$ HO
  iintro %u4 %f4 %h4 HO
  iapply (gpop_run c I Q hn l4 h a2 rfl rfl f4 h4.2 h4.1) $$ HO
  iintro %u5 %f5 %h5 HO
  iapply (gpop_run c I Q hn l5 h a2 rfl rfl f5 h5.2 h5.1) $$ HO
  iintro %u6 %f6 %h6 HO
  iapply (gpop_run c I Q hn l6 h a3 rfl rfl f6 h6.2 h6.1) $$ HO
  iintro %u7 %f7 %h7 HO
  iapply (gpop_run c I Q hn l7 h a3 rfl rfl f7 h7.2 h7.1) $$ HO
  iintro %u8 %f8 %h8 HO
  have hU : MxuIs u8 (fun _ => none) := h8.1.congr fun t ht => if_pos ht
  have hD : Done (F := F) I (n + 1) 0 f8 := h8.2.next I
  iapply Hk $$ [] HO
  ipureintro
  exact ⟨hU, hD⟩

end Cert.Proof.Kernel
-- ==== Proof.KRun5.lean ====
/-
  The loops and the whole body, run.
-/
module

public import proofs.«01_k».proof.Proof.KEq
public import proofs.«01_k».proof.Proof.KEq2
public import proofs.«01_k».proof.Proof.KRun3
public import proofs.«01_k».proof.Proof.KRun4

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxRecDepth 65536

local notation "𝕄" => MT nD τ sig Unit (Elt F) ℕ (Pipeline.UD sig nD τ) ℕ

/-! ### Words -/

theorem trips1 : k0_t1_loop.trips = 4 := by decide
theorem trips2 : k0_t2_loop.trips = 103 := by decide

theorem gN_eq (t : Fin k0_t1_loop.trips) : gN t = BitVec.ofNat 32 t := by
  unfold gN Scf.iv; simp
theorem gG_eq (t : Fin k0_t2_loop.trips) : gG t = BitVec.ofNat 32 t := by
  unfold gG Scf.iv; simp
theorem gadd_eq (g k : Nat) : Scalar.addi (BitVec.ofNat 32 g) (BitVec.ofNat 32 k) = BitVec.ofNat 32 (g + k) := by
  simp only [Scalar.addi, IntOp.addi, BitVec.ofNat_add]
theorem gmin_eq {n : Nat} (hn : n < 4) : Scalar.minsi (BitVec.ofNat 32 (n + 1)) 3#32 = BitVec.ofNat 32 (min (n + 1) 3) := by
  have h : ∀ n : Fin 4, Scalar.minsi (BitVec.ofNat 32 (n + 1)) 3#32 = BitVec.ofNat 32 (min (n + 1) 3) := by decide +kernel
  exact h ⟨n, hn⟩
theorem cond1_iff : ∀ t : Fin k0_t1_loop.trips, k0_cond1 t = 1#1 ↔ (t : Nat) + 1 < 4 := by decide +kernel
theorem cond2_iff : ∀ t : Fin k0_t1_loop.trips, k0_cond2 t = 1#1 ↔ (t : Nat) + 2 < 4 := by decide +kernel

theorem OOk_ok {n : Nat} (hn : n < 4) : OOk mO (BitVec.ofNat 32 n) := by
  have o : ∀ j, j < 32 → ∀ a, oO (BitVec.ofNat 32 n) j a + S1x48x128.size a ≤ S4x48x4096.size a := fun j hj a => by
    rw [oO_eq hn j]
    match a with
    | ⟨0, _⟩ => show n + 1 ≤ 4; omega
    | ⟨1, _⟩ => show 0 + 48 ≤ 48; omega
    | ⟨2, _⟩ => show 128 * j + 128 ≤ 4096; omega
  refine ⟨o, fun j hj => ?_⟩
  have h2 : 2 ≤ S4x48x4096.rank := by decide
  have p : (Rect.unit (s := S4x48x4096) (oO (BitVec.ofNat 32 n) j) S1x48x128.size (o j hj)).PackedRows (EltTy.packing .bf16) :=
    .inr ⟨h2, rfl, .inl ⟨⟨0, (congrFun (oO_eq hn j) 1 :)⟩, ⟨24, rfl⟩⟩⟩
  exact View.stores_vmem h_S1x48x128 ((Memref.isWhole_whole cc0_stg5_0).storeExact_slice rfl _ p) (fun _ => rfl)

theorem gstep_congr {n n' g g' a a' b b' d d' e e' : BitVec 32} (e1 : n = n') (e2 : g = g') (e3 : a = a') (e4 : b = b') (e5 : d = d') (e6 : e = e')
    {hT : TOk n g a} {hT' : TOk n' g' a'} {hG : GOk b e} {hG' : GOk b' e'} {α : Type} {u : Mxu F} {k : Mxu F → Prog (TpuEff nD τ sig (Elt F) Λ₀ .tc) α} :
    gstep (F := F) mA mH mX mS mZ mW mT n g a b d e hT hG u k = gstep (F := F) mA mH mX mS mZ mW mT n' g' a' b' d' e' hT' hG' u k := by
  subst e1 e2 e3 e4 e5 e6; rfl

theorem gstarts_congr {n n' : BitVec 32} (e : n = n') {h : DOk n} {h' : DOk n'} {α : Type} {k : Prog (TpuEff nD τ sig (Elt F) Λ₀ .tc) α} :
    gstarts (F := F) mQ mW cc0_scratch2 n h k 16 le_rfl = gstarts (F := F) mQ mW cc0_scratch2 n' h' k 16 le_rfl := by subst e; rfl
theorem gwaits_congr {n n' : BitVec 32} (e : n = n') {h : DOk n} {h' : DOk n'} {α : Type} {k : Prog (TpuEff nD τ sig (Elt F) Λ₀ .tc) α} :
    gwaits (F := F) mQ mW cc0_scratch2 n h k 16 le_rfl = gwaits (F := F) mQ mW cc0_scratch2 n' h' k 16 le_rfl := by subst e; rfl
theorem gpops_congr {n n' : BitVec 32} (e : n = n') {h : OOk mO n} {h' : OOk mO n'} {α : Type} {u : Mxu F} {k : Mxu F → Prog (TpuEff nD τ sig (Elt F) Λ₀ .tc) α} :
    gpops (F := F) mO n h u k = gpops (F := F) mO n' h' u k := by subst e; rfl

variable (c : Dev nD) (I : Ins)

theorem WP_ret {α : Type} (Q : α → sProp 𝕄) (a : α) : Q a ⊢ WP c (.ret a : Prog (TpuEff nD τ sig (Elt F) Λ₀ .tc) α) Q := by
  unfold WP
  rw [wp_ret]
  iintro H
  imodintro
  iexact H

/-! ### The loop over groups -/

abbrev body2 (t1 : Fin k0_t1_loop.trips) (s0 : Mxu F) :=
  k0_t2_body (F := F) mQ (Memref.isWhole_whole _) mA (Memref.isWhole_whole _) mH (Memref.isWhole_whole _) mX (Memref.isWhole_whole _) mS (Memref.isWhole_whole _)
    mZ (Memref.isWhole_whole _) mO (Memref.isWhole_whole _) mW (Memref.isWhole_whole _) mT (Memref.isWhole_whole _) cc0_scratch2 0#32 1#32 t1 s0 (gN t1)

theorem body2_eq (t1 : Fin k0_t1_loop.trips) (s0 : Mxu F) (t2 : Fin k0_t2_loop.trips) (s : Mxu F) (hn : t1.val < 4) (hg : t2.val < 103)
    (hT : TOk (BitVec.ofNat 32 t1) (BitVec.ofNat 32 t2) (BitVec.ofNat 32 (528 * (t2.val % 2)))) (hG : GOk (BitVec.ofNat 32 (t2 + 1)) (BitVec.ofNat 32 (528 * (1 - t2.val % 2)))) :
    body2 (F := F) t1 s0 t2 s = gstep mA mH mX mS mZ mW mT (BitVec.ofNat 32 t1) (BitVec.ofNat 32 t2) (BitVec.ofNat 32 (528 * (t2.val % 2))) (BitVec.ofNat 32 (t2 + 1))
      (BitVec.ofNat 32 (53264 * (t1.val % 2))) (BitVec.ofNat 32 (528 * (1 - t2.val % 2))) hT hG s .ret := by
  have e1 := gN_eq t1
  have e2 := gG_eq t2
  have e3 : gSlot (gN t1) (gG t2) = BitVec.ofNat 32 (528 * (t2.val % 2)) := by rw [e1, e2, gSlot_eq hn (by omega)]
  have e4 : Scalar.addi (gG t2) 1#32 = BitVec.ofNat 32 (t2 + 1) := by rw [e2]; exact gadd_eq _ 1
  have e5 : gBase (gN t1) = BitVec.ofNat 32 (53264 * (t1.val % 2)) := by rw [e1, gBase_eq hn]
  have e6 : Scalar.subi 528#32 (gSlot (gN t1) (gG t2)) = BitVec.ofNat 32 (528 * (1 - t2.val % 2)) := by rw [e3, nslot_eq (by omega)]
  refine (t2_eq _ _ _ _ _ _ _ _ _ _ _ _ _ _ _ _ _ _ _ t1 s0 t2 s (by rw [e3, e1, e2]; exact hT) (by rw [e4, e6]; exact hG)).trans ?_
  exact gstep_congr e1 e2 e3 e4 e5 e6

/-- Before group `g` of block `n`: the units hold the sums so far and the group's words lie sorted. -/
def inv2 (n g : Nat) (u : Mxu F) : sProp 𝕄 :=
  iprop(∃ f : S1056x128.Idx → BitVec 32, ⌜MxuIs u (fun t => accO (F := F) I n t g) ∧ Sorted (F := F) I (g % 2) n g f⌝ ∗ ro (F := F) c I ∗ rd (F := F) c I n ∗ pt c mT f)

theorem inv2_step (hI : I.Ok) (t1 : Fin k0_t1_loop.trips) (s0 : Mxu F) (t2 : Fin k0_t2_loop.trips) (s : Mxu F) :
    inv2 (F := F) c I t1 t2 s ⊢ WP c (body2 (F := F) t1 s0 t2 s) (inv2 (F := F) c I t1 (t2.val + 1)) := by
  have hn : t1.val < 4 := lt_of_lt_of_eq t1.isLt trips1
  have hg : t2.val < 103 := lt_of_lt_of_eq t2.isLt trips2
  have hg' : t2.val < 104 := by omega
  have hg1 : t2.val + 1 < 104 := by omega
  have hs : t2.val % 2 < 2 := by omega
  have hs' : 1 - t2.val % 2 < 2 := by omega
  have hne : t2.val % 2 ≠ 1 - t2.val % 2 := by omega
  have es : 1 - t2.val % 2 = (t2.val + 1) % 2 := by omega
  have hT := TOk_ok hn hg' hs
  have hG := GOk_ok hg1 hs'
  rw [body2_eq t1 s0 t2 s hn hg hT hG]
  unfold inv2
  iintro ⟨%f, %hp, HO, HR, HT⟩
  iapply (gstep_run c I _ hn hg' hs hn hg1 hs' hne hI hT hG hp.2 hp.1 .ret) $$ [HO HR HT]
  · isplitl [HO]; · iexact HO
    isplitl [HR]; · iexact HR
    iexact HT
  iintro %u' %f' %hp' ⟨HO, HR, HT⟩
  iapply (WP_ret c)
  iexists f'
  isplitr
  · ipureintro
    rw [es] at hp'
    exact hp'
  isplitl [HO]; · iexact HO
  isplitl [HR]; · iexact HR
  iexact HT

theorem loop2_run (hI : I.Ok) {α : Type} (Q : α → sProp 𝕄) (t1 : Fin k0_t1_loop.trips) (s0 : Mxu F) (k : Mxu F → Prog (TpuEff nD τ sig (Elt F) Λ₀ .tc) α) :
    inv2 (F := F) c I t1 0 s0
      ⊢ iprop((∀ u' : Mxu F, inv2 (F := F) c I t1 103 u' -∗ WP c (k u') Q) -∗ WP c (Prog.bind (Scf.Loop.for k0_t2_loop k0_t2_ok s0 (body2 (F := F) t1 s0)) k) Q) := by
  have h := Scf.wp_for_bind frame (wpE (defs₀ (F := F)) Variants.none (c : Thread nD τ) none) Set.univ k0_t2_loop.lb k0_t2_loop.ub k0_t2_loop.st k0_t2_ok s0
    (body2 (F := F) t1 s0) (inv2 (F := F) c I t1) (inv2_step c I hI t1 s0) (kk := k) (Q := Q)
  have e : Scf.trips k0_t2_loop.lb k0_t2_loop.ub k0_t2_loop.st = 103 := by decide
  rw [e] at h
  exact h

/-! ### The copies in flight -/

/-- A block's rows staged, its semaphore at rest; a block's columns at rest. -/
def hot (n : Nat) : sProp 𝕄 := iprop(ptOn c mW (wset (n % 2)) (wrd I n) ∗ sem0 (F := F) c (n % 2))
def src (n : Nat) : sProp 𝕄 := ptOn c mQ (srcs n) I.q

/-- What is held beside the block in use: at block 0 block 1 is in flight, at 1 block 2, at 2 block 3, then none. -/
def rest : Nat → sProp 𝕄
  | 0 => iprop(bat (F := F) c I 1 16 0 ∗ src c I 0 ∗ src c I 2 ∗ src c I 3)
  | 1 => iprop(bat (F := F) c I 2 16 0 ∗ src c I 0 ∗ src c I 1 ∗ src c I 3)
  | 2 => iprop(bat (F := F) c I 3 16 0 ∗ src c I 0 ∗ src c I 1 ∗ src c I 2)
  | _ => iprop(hot (F := F) c I 2 ∗ src c I 0 ∗ src c I 1 ∗ src c I 2 ∗ src c I 3)

/-- The waits and the starts of block `t1`. -/
def gcopy (t1 : Fin k0_t1_loop.trips) (hD1 : k0_cond1 t1 = 1#1 → DOk (Scalar.addi (gN t1) 1#32)) (hD2 : k0_cond2 t1 = 1#1 → DOk (Scalar.addi (gN t1) 2#32))
    {α : Type} (k : Prog (TpuEff nD τ sig (Elt F) Λ₀ .tc) α) : Prog (TpuEff nD τ sig (Elt F) Λ₀ .tc) α :=
  if h : k0_cond1 t1 = 1#1 then gwaits (F := F) mQ mW cc0_scratch2 (Scalar.addi (gN t1) 1#32) (hD1 h)
    (if h : k0_cond2 t1 = 1#1 then gstarts (F := F) mQ mW cc0_scratch2 (Scalar.addi (gN t1) 2#32) (hD2 h) k 16 le_rfl else k) 16 le_rfl
  else if h : k0_cond2 t1 = 1#1 then gstarts (F := F) mQ mW cc0_scratch2 (Scalar.addi (gN t1) 2#32) (hD2 h) k 16 le_rfl else k

theorem gN1 (t1 : Fin k0_t1_loop.trips) : Scalar.addi (gN t1) 1#32 = BitVec.ofNat 32 (t1 + 1) := by rw [gN_eq]; exact gadd_eq _ 1
theorem gN2 (t1 : Fin k0_t1_loop.trips) : Scalar.addi (gN t1) 2#32 = BitVec.ofNat 32 (t1 + 2) := by rw [gN_eq]; exact gadd_eq _ 2

/-- A wait for block `n + 1` and a start of block `n + 2`. -/
theorem copy2 {n : Nat} (hn : n + 2 < 4) {w1 w2 : BitVec 32} (e1 : w1 = BitVec.ofNat 32 (n + 1)) (e2 : w2 = BitVec.ofNat 32 (n + 2)) (h1 : DOk w1) (h2 : DOk w2)
    {α : Type} (Q : α → sProp 𝕄) (k : Prog (TpuEff nD τ sig (Elt F) Λ₀ .tc) α) :
    iprop(hot (F := F) c I n ∗ bat (F := F) c I (n + 1) 16 0 ∗ src c I (n + 2) ∗ ∃ W, owes (c : Thread nD τ) 0 W)
      ⊢ iprop((iprop(hot (F := F) c I (n + 1) ∗ bat (F := F) c I (n + 2) 16 0 ∗ src c I (n + 1) ∗ ∃ W, owes (c : Thread nD τ) 0 W) -∗ WP c k Q)
        -∗ WP c (gwaits (F := F) mQ mW cc0_scratch2 w1 h1 (gstarts (F := F) mQ mW cc0_scratch2 w2 h2 k 16 le_rfl) 16 le_rfl) Q) := by
  subst e1 e2
  have hn1 : n + 1 < 4 := by omega
  have em : (n + 2) % 2 = n % 2 := by omega
  unfold hot src
  iintro ⟨⟨HW, HS⟩, HB, HC, HO⟩ Hk
  iapply (gwaits_run c I Q hn1 h1 _) $$ [HB HO]
  · isplitl [HB]; · iexact HB
    iexact HO
  iintro ⟨HW1, HC1, HS1, HO⟩
  iapply (gstarts_run c I Q hn h2 (wrd I n) k) $$ [HW HC HS]
  · rw [em]
    isplitl [HW]; · iexact HW
    isplitl [HC]; · iexact HC
    iexact HS
  iintro HB
  iapply Hk
  isplitl [HW1 HS1]
  · isplitl [HW1]; · iexact HW1
    iexact HS1
  isplitl [HB]; · iexact HB
  isplitl [HC1]; · iexact HC1
  iexact HO

theorem gcopy_run (t1 : Fin k0_t1_loop.trips) (hD1 : k0_cond1 t1 = 1#1 → DOk (Scalar.addi (gN t1) 1#32)) (hD2 : k0_cond2 t1 = 1#1 → DOk (Scalar.addi (gN t1) 2#32))
    {α : Type} (Q : α → sProp 𝕄) (k : Prog (TpuEff nD τ sig (Elt F) Λ₀ .tc) α) :
    iprop(hot (F := F) c I t1 ∗ rest (F := F) c I t1 ∗ ∃ W, owes (c : Thread nD τ) 0 W)
      ⊢ iprop((iprop(hot (F := F) c I (min (t1.val + 1) 3) ∗ rest (F := F) c I (t1.val + 1) ∗ ∃ W, owes (c : Thread nD τ) 0 W) -∗ WP c k Q)
        -∗ WP c (gcopy (F := F) t1 hD1 hD2 k) Q) := by
  have hn : t1.val < 4 := lt_of_lt_of_eq t1.isLt trips1
  have e1 := gN1 t1
  have e2 := gN2 t1
  have c1 := cond1_iff t1
  have c2 := cond2_iff t1
  unfold gcopy
  generalize t1.val = n at *
  obtain rfl | rfl | rfl | rfl : n = 0 ∨ n = 1 ∨ n = 2 ∨ n = 3 := by omega
  · have k1 := c1.mpr (by decide)
    have k2 := c2.mpr (by decide)
    rw [dif_pos k1, dif_pos k2]
    show iprop(hot (F := F) c I 0 ∗ (bat (F := F) c I 1 16 0 ∗ src c I 0 ∗ src c I 2 ∗ src c I 3) ∗ _) ⊢
      iprop((iprop(hot (F := F) c I 1 ∗ (bat (F := F) c I 2 16 0 ∗ src c I 0 ∗ src c I 1 ∗ src c I 3) ∗ _) -∗ _) -∗ _)
    iintro ⟨HH, ⟨HB, H0, H2, H3⟩, HO⟩ Hk
    iapply (copy2 c I (n := 0) (by decide) e1 e2 (hD1 k1) (hD2 k2) Q k) $$ [HH HB H2 HO]
    · isplitl [HH]; · iexact HH
      isplitl [HB]; · iexact HB
      isplitl [H2]; · iexact H2
      iexact HO
    iintro ⟨HH, HB, H1, HO⟩
    iapply Hk
    isplitl [HH]; · iexact HH
    isplitr [HO]
    · isplitl [HB]; · iexact HB
      isplitl [H0]; · iexact H0
      isplitl [H1]; · iexact H1
      iexact H3
    iexact HO
  · have k1 := c1.mpr (by decide)
    have k2 := c2.mpr (by decide)
    rw [dif_pos k1, dif_pos k2]
    show iprop(hot (F := F) c I 1 ∗ (bat (F := F) c I 2 16 0 ∗ src c I 0 ∗ src c I 1 ∗ src c I 3) ∗ _) ⊢
      iprop((iprop(hot (F := F) c I 2 ∗ (bat (F := F) c I 3 16 0 ∗ src c I 0 ∗ src c I 1 ∗ src c I 2) ∗ _) -∗ _) -∗ _)
    iintro ⟨HH, ⟨HB, H0, H1, H3⟩, HO⟩ Hk
    iapply (copy2 c I (n := 1) (by decide) e1 e2 (hD1 k1) (hD2 k2) Q k) $$ [HH HB H3 HO]
    · isplitl [HH]; · iexact HH
      isplitl [HB]; · iexact HB
      isplitl [H3]; · iexact H3
      iexact HO
    iintro ⟨HH, HB, H2, HO⟩
    iapply Hk
    isplitl [HH]; · iexact HH
    isplitr [HO]
    · isplitl [HB]; · iexact HB
      isplitl [H0]; · iexact H0
      isplitl [H1]; · iexact H1
      iexact H2
    iexact HO
  · rw [dif_pos (c1.mpr (by decide)), dif_neg (fun h => absurd (c2.mp h) (by decide))]
    rw [gwaits_congr e1 (h' := DOk_ok (by decide))]
    show iprop(hot (F := F) c I 2 ∗ (bat (F := F) c I 3 16 0 ∗ src c I 0 ∗ src c I 1 ∗ src c I 2) ∗ _) ⊢
      iprop((iprop(hot (F := F) c I 3 ∗ (hot (F := F) c I 2 ∗ src c I 0 ∗ src c I 1 ∗ src c I 2 ∗ src c I 3) ∗ _) -∗ _) -∗ _)
    iintro ⟨HH, ⟨HB, H0, H1, H2⟩, HO⟩ Hk
    iapply (gwaits_run c I Q (n := 3) (by decide) _ k) $$ [HB HO]
    · isplitl [HB]; · iexact HB
      iexact HO
    iintro ⟨HW, H3, HS, HO⟩
    iapply Hk
    isplitl [HW HS]
    · unfold hot
      isplitl [HW]; · iexact HW
      iexact HS
    isplitr [HO]
    · isplitl [HH]; · iexact HH
      isplitl [H0]; · iexact H0
      isplitl [H1]; · iexact H1
      isplitl [H2]; · iexact H2
      unfold src
      iexact H3
    iexact HO
  · rw [dif_neg (fun h => absurd (c1.mp h) (by decide)), dif_neg (fun h => absurd (c2.mp h) (by decide))]
    show iprop(hot (F := F) c I 3 ∗ (hot (F := F) c I 2 ∗ src c I 0 ∗ src c I 1 ∗ src c I 2 ∗ src c I 3) ∗ _) ⊢
      iprop((iprop(hot (F := F) c I 3 ∗ (hot (F := F) c I 2 ∗ src c I 0 ∗ src c I 1 ∗ src c I 2 ∗ src c I 3) ∗ _) -∗ _) -∗ _)
    iintro H Hk
    iapply Hk
    iexact H

/-! ### The loop over blocks -/

/-- The two index tables. -/
abbrev ah : sProp 𝕄 := iprop(pt c mA I.a ∗ pt c mH I.sh)

abbrev body1 :=
  k0_t1_body (F := F) mQ (Memref.isWhole_whole _) mA (Memref.isWhole_whole _) mH (Memref.isWhole_whole _) mX (Memref.isWhole_whole _) mS (Memref.isWhole_whole _)
    mZ (Memref.isWhole_whole _) mO (Memref.isWhole_whole _) mW (Memref.isWhole_whole _) mT (Memref.isWhole_whole _) cc0_scratch2

/-- Before block `n`: the units empty, the block's first group sorted, the earlier blocks' results stored. -/
def inv1 (n : Nat) (u : Mxu F) : sProp 𝕄 :=
  iprop(∃ (f : S1056x128.Idx → BitVec 32) (fo : S4x48x4096.Idx → F .bf16),
    ⌜MxuIs u (fun _ => none) ∧ Sorted (F := F) I 0 (min n 3) 0 f ∧ Done (F := F) I n 0 fo⌝ ∗ ro (F := F) c I ∗ ah c I ∗ pt c mT f ∗ pt c mO fo
      ∗ hot (F := F) c I (min n 3) ∗ rest (F := F) c I n ∗ ∃ W, owes (c : Thread nD τ) 0 W)

theorem inv1_step (hI : I.Ok) (t1 : Fin k0_t1_loop.trips) (s : Mxu F) :
    inv1 (F := F) c I t1 s ⊢ WP c (body1 (F := F) t1 s) (inv1 (F := F) c I (t1.val + 1)) := by
  have hn : t1.val < 4 := lt_of_lt_of_eq t1.isLt trips1
  have hn' : min (t1.val + 1) 3 < 4 := by omega
  have em : min t1.val 3 = t1.val := by omega
  have hD1 : k0_cond1 t1 = 1#1 → DOk (Scalar.addi (gN t1) 1#32) := fun h => by rw [gN1]; exact DOk_ok ((cond1_iff t1).mp h)
  have hD2 : k0_cond2 t1 = 1#1 → DOk (Scalar.addi (gN t1) 2#32) := fun h => by rw [gN2]; exact DOk_ok ((cond2_iff t1).mp h)
  have g3 : 103 < 104 := by decide
  have g0 : 0 < 104 := by decide
  have s1 : 1 < 2 := by decide
  have s0 : 0 < 2 := by decide
  have ne : 1 ≠ 0 := by decide
  have e1 := gN_eq t1
  have e3 : gSlot (gN t1) 103#32 = BitVec.ofNat 32 (528 * 1) := by rw [e1]; exact gSlot_eq hn g3
  have e6 : Scalar.subi 528#32 (gSlot (gN t1) 103#32) = BitVec.ofNat 32 (528 * 0) := by rw [e3]; exact nslot_eq s1
  have e5 : gBase (Scalar.minsi (Scalar.addi (gN t1) 1#32) 3#32) = BitVec.ofNat 32 (53264 * (min (t1.val + 1) 3 % 2)) := by rw [gN1, gmin_eq hn, gBase_eq hn']
  have hT := TOk_ok hn g3 s1
  have hG := GOk_ok g0 s0
  have hO := OOk_ok hn
  have eq : body1 (F := F) t1 s = Prog.bind (Scf.Loop.for k0_t2_loop k0_t2_ok s (body2 (F := F) t1 s)) fun s' => gcopy (F := F) t1 hD1 hD2
      (gstep (F := F) mA mH mX mS mZ mW mT (BitVec.ofNat 32 t1) (BitVec.ofNat 32 103) (BitVec.ofNat 32 (528 * 1)) (BitVec.ofNat 32 0)
        (BitVec.ofNat 32 (53264 * (min (t1.val + 1) 3 % 2))) (BitVec.ofNat 32 (528 * 0)) hT hG s' fun s'' => gpops (F := F) mO (BitVec.ofNat 32 t1) hO s'' .ret) := by
    refine (t1_eq (hD1 := hD1) (hD2 := hD2) (hT := by rw [e3, e1]; exact hT) (hG := by rw [e6]; exact hG) (hO := by rw [e1]; exact hO) ..).trans ?_
    unfold g109 gcopy
    refine congrArg _ (funext fun s' => ?_)
    beta_reduce
    rw [gstep_congr (n' := BitVec.ofNat 32 t1) (g' := BitVec.ofNat 32 103) (b' := BitVec.ofNat 32 0) e1 rfl e3 rfl e5 e6 (hT' := hT) (hG' := hG)]
    simp only [gpops_congr e1 (h' := hO)]
  rw [eq]
  unfold inv1
  rw [em]
  iintro ⟨%f, %fo, %hp, HO, HA, HT, HY, HH, HR, HW⟩
  obtain ⟨hu, hf, hd⟩ := hp
  unfold hot
  icases HH with ⟨HV, HS⟩
  icases HA with ⟨HA, HI⟩
  iapply (loop2_run c I hI _ t1 s _) $$ [HO HA HI HT HV]
  · unfold inv2
    iexists f
    isplitr
    · ipureintro
      exact ⟨hu, hf⟩
    isplitl [HO]; · iexact HO
    isplitr [HT]
    · unfold rd
      isplitl [HA]; · iexact HA
      isplitl [HI]; · iexact HI
      iexact HV
    iexact HT
  unfold inv2
  iintro %u1 ⟨%f1, %hp1, HO, HR', HT⟩
  unfold rd
  icases HR' with ⟨HA, HI, HV⟩
  iapply (gcopy_run c I t1 hD1 hD2 _ _) $$ [HV HS HR HW]
  · isplitl [HV HS]
    · unfold hot
      isplitl [HV]; · iexact HV
      iexact HS
    isplitl [HR]; · iexact HR
    iexact HW
  iintro ⟨HH, HR, HW⟩
  unfold hot
  icases HH with ⟨HV, HS⟩
  iapply (gstep_run c I _ hn g3 s1 hn' g0 s0 ne hI hT hG hp1.2 hp1.1 _) $$ [HO HA HI HV HT]
  · isplitl [HO]; · iexact HO
    isplitr [HT]
    · unfold rd
      isplitl [HA]; · iexact HA
      isplitl [HI]; · iexact HI
      iexact HV
    iexact HT
  iintro %u2 %f2 %hp2 ⟨HO, HR', HT⟩
  unfold rd
  icases HR' with ⟨HA, HI, HV⟩
  iapply (gpops_run c I _ hn hO fo hd hp2.1 _) $$ HY
  iintro %u3 %f3 %hp3 HY
  iapply (WP_ret c)
  iexists f2, f3
  isplitr
  · ipureintro
    exact ⟨hp3.1, hp2.2, hp3.2⟩
  isplitl [HO]; · iexact HO
  isplitl [HA HI]
  · isplitl [HA]; · iexact HA
    iexact HI
  isplitl [HT]; · iexact HT
  isplitl [HY]; · iexact HY
  isplitl [HV HS]
  · isplitl [HV]; · iexact HV
    iexact HS
  isplitl [HR]; · iexact HR
  iexact HW

theorem loop1_run (hI : I.Ok) {α : Type} (Q : α → sProp 𝕄) (s0 : Mxu F) (k : Mxu F → Prog (TpuEff nD τ sig (Elt F) Λ₀ .tc) α) :
    inv1 (F := F) c I 0 s0
      ⊢ iprop((∀ u' : Mxu F, inv1 (F := F) c I 4 u' -∗ WP c (k u') Q) -∗ WP c (Prog.bind (Scf.Loop.for k0_t1_loop k0_t1_ok s0 (body1 (F := F))) k) Q) := by
  have h := Scf.wp_for_bind frame (wpE (defs₀ (F := F)) Variants.none (c : Thread nD τ) none) Set.univ k0_t1_loop.lb k0_t1_loop.ub k0_t1_loop.st k0_t1_ok s0
    (body1 (F := F)) (inv1 (F := F) c I) (inv1_step c I hI) (kk := k) (Q := Q)
  have e : Scf.trips k0_t1_loop.lb k0_t1_loop.ub k0_t1_loop.st = 4 := by decide
  rw [e] at h
  exact h

/-! ### The whole body -/

theorem Done.zero (f : S4x48x4096.Idx → F .bf16) : Done (F := F) I 0 0 f := fun i h => by omega

theorem Done.all {f : S4x48x4096.Idx → F .bf16} (h : Done (F := F) I 4 0 f) : f = out (F := F) I :=
  funext fun i => h i (.inl (i 0).isLt)

/-- Everything at rest, the weights' array and the staging buffer whole. -/
def idle (fo : S4x48x4096.Idx → F .bf16) : sProp 𝕄 :=
  iprop(pt c mQ I.q ∗ pt c mA I.a ∗ pt c mH I.sh ∗ pt c mX I.xs ∗ pt c mS I.st ∗ pt c mZ I.zt ∗ pt c mO fo
    ∗ (∃ f : S106528x128.Idx → BitVec 32, pt c mW f) ∗ (∃ f : S1056x128.Idx → BitVec 32, pt c mT f)
    ∗ sem0 (F := F) c 0 ∗ sem0 (F := F) c 1 ∗ ∃ W, owes (c : Thread nD τ) 0 W)

/-- The rows of the staging buffer no copy lands at. -/
def gap : Finset S106528x128.Idx := Finset.univ.filter fun i => ¬ ((i 0 : Nat) % 53264) % 3329 < 3328
def wgap (s : Nat) : Finset S106528x128.Idx := Finset.univ.filter fun i => (i 0 : Nat) / 53264 = s ∧ ((i 0 : Nat) % 53264) % 3329 < 3328 ∨ ¬ ((i 0 : Nat) % 53264) % 3329 < 3328
def sge (n : Nat) : Finset S3328x8192.Idx := Finset.univ.filter fun i => n ≤ (i 1 : Nat) / 2048

theorem mW_split (f : S106528x128.Idx → BitVec 32) :
    (pt c mW f : sProp 𝕄) ⊣⊢ iprop(ptOn c mW (wset 0) f ∗ ptOn c mW (wset 1) f ∗ ptOn c mW gap f) := by
  have m1 : ∀ i : S106528x128.Idx, i ∈ (Finset.univ : Finset S106528x128.Idx) ↔ i ∈ wset 0 ∨ i ∈ wgap 1 := fun i => by
    have h : (i 0 : Nat) < 106528 := (i 0).isLt
    rw [wset, wgap, mem_filt, mem_filt]
    exact ⟨fun _ => by omega, fun _ => Finset.mem_univ _⟩
  have d1 : ∀ i : S106528x128.Idx, i ∈ wset 0 → i ∉ wgap 1 := fun i => by rw [wset, wgap, mem_filt, mem_filt]; omega
  have m2 : ∀ i : S106528x128.Idx, i ∈ wgap 1 ↔ i ∈ wset 1 ∨ i ∈ gap := fun i => by rw [wset, wgap, gap, mem_filt, mem_filt, mem_filt]
  have d2 : ∀ i : S106528x128.Idx, i ∈ wset 1 → i ∉ gap := fun i => by rw [wset, gap, mem_filt, mem_filt]; omega
  have h1 := ptOn_split (F := F) c mW (A := Finset.univ) (B := wset 0) (C := wgap 1) f m1 d1
  have h2 := ptOn_split (F := F) c mW (A := wgap 1) (B := wset 1) (C := gap) f m2 d2
  refine h1.trans ⟨?_, ?_⟩
  · iintro ⟨H0, H⟩
    isplitl [H0]; · iexact H0
    iapply h2.1
    iexact H
  · iintro ⟨H0, H⟩
    isplitl [H0]; · iexact H0
    iapply h2.2
    iexact H

theorem mQ_split (f : S3328x8192.Idx → BitVec 32) :
    (pt c mQ f : sProp 𝕄) ⊣⊢ iprop(ptOn c mQ (srcs 0) f ∗ ptOn c mQ (srcs 1) f ∗ ptOn c mQ (srcs 2) f ∗ ptOn c mQ (srcs 3) f) := by
  have m1 : ∀ i : S3328x8192.Idx, i ∈ (Finset.univ : Finset S3328x8192.Idx) ↔ i ∈ srcs 0 ∨ i ∈ sge 1 := fun i => by
    rw [srcs, sge, mem_filt, mem_filt]
    exact ⟨fun _ => by omega, fun _ => Finset.mem_univ _⟩
  have d1 : ∀ i : S3328x8192.Idx, i ∈ srcs 0 → i ∉ sge 1 := fun i => by rw [srcs, sge, mem_filt, mem_filt]; omega
  have m2 : ∀ i : S3328x8192.Idx, i ∈ sge 1 ↔ i ∈ srcs 1 ∨ i ∈ sge 2 := fun i => by rw [srcs, sge, sge, mem_filt, mem_filt, mem_filt]; omega
  have d2 : ∀ i : S3328x8192.Idx, i ∈ srcs 1 → i ∉ sge 2 := fun i => by rw [srcs, sge, mem_filt, mem_filt]; omega
  have m3 : ∀ i : S3328x8192.Idx, i ∈ sge 2 ↔ i ∈ srcs 2 ∨ i ∈ srcs 3 := fun i => by
    have h : (i 1 : Nat) < 8192 := (i 1).isLt
    rw [srcs, sge, srcs, mem_filt, mem_filt, mem_filt]; omega
  have d3 : ∀ i : S3328x8192.Idx, i ∈ srcs 2 → i ∉ srcs 3 := fun i => by rw [srcs, srcs, mem_filt, mem_filt]; omega
  have h1 := ptOn_split (F := F) c mQ (A := Finset.univ) (B := srcs 0) (C := sge 1) f m1 d1
  have h2 := ptOn_split (F := F) c mQ (A := sge 1) (B := srcs 1) (C := sge 2) f m2 d2
  have h3 := ptOn_split (F := F) c mQ (A := sge 2) (B := srcs 2) (C := srcs 3) f m3 d3
  refine h1.trans ⟨?_, ?_⟩
  · iintro ⟨H0, H⟩
    isplitl [H0]; · iexact H0
    ihave H := h2.1 $$ H
    icases H with ⟨H1, H⟩
    isplitl [H1]; · iexact H1
    iapply h3.1
    iexact H
  · iintro ⟨H0, H1, H⟩
    isplitl [H0]; · iexact H0
    iapply h2.2
    isplitl [H1]; · iexact H1
    iapply h3.2
    iexact H

/-- The staging buffer put together again. -/
theorem mW_join (f0 f1 f2 : S106528x128.Idx → BitVec 32) :
    iprop(ptOn c mW (wset 0) f0 ∗ ptOn c mW (wset 1) f1 ∗ ptOn c mW gap f2) ⊢ (iprop(∃ f : S106528x128.Idx → BitVec 32, pt c mW f) : sProp 𝕄) := by
  let f : S106528x128.Idx → BitVec 32 := fun i => if i ∈ wset 0 then f0 i else if i ∈ wset 1 then f1 i else f2 i
  have e0 : (ptOn c mW (wset 0) f0 : sProp 𝕄) = ptOn c mW (wset 0) f := pointsTo_congr fun i hi => (if_pos hi).symm
  have e1 : (ptOn c mW (wset 1) f1 : sProp 𝕄) = ptOn c mW (wset 1) f := pointsTo_congr fun (i : S106528x128.Idx) hi => by
    have h0 : i ∉ wset 0 := fun h => by
      have hi : i ∈ wset 1 := hi
      rw [wset, mem_filt] at h hi
      omega
    exact ((if_neg h0).trans (if_pos hi)).symm
  have e2 : (ptOn c mW gap f2 : sProp 𝕄) = ptOn c mW gap f := pointsTo_congr fun (i : S106528x128.Idx) hi => by
    have hi : i ∈ gap := hi
    have h0 : i ∉ wset 0 := fun h => by
      rw [wset, mem_filt] at h
      rw [gap, mem_filt] at hi
      exact hi h.2
    have h1 : i ∉ wset 1 := fun h => by
      rw [wset, mem_filt] at h
      rw [gap, mem_filt] at hi
      exact hi h.2
    exact ((if_neg h0).trans (if_neg h1)).symm
  rw [e0, e1, e2]
  iintro H
  iexists f
  iapply (mW_split c f).2
  iexact H

theorem rest_zero : rest (F := F) c I 0 = iprop(bat (F := F) c I 1 16 0 ∗ src c I 0 ∗ src c I 2 ∗ src c I 3) := rfl
theorem rest_four : rest (F := F) c I 4 ⊢ iprop(hot (F := F) c I 2 ∗ src c I 0 ∗ src c I 1 ∗ src c I 2 ∗ src c I 3) := .rfl

theorem root_run (hI : I.Ok) (fo : S4x48x4096.Idx → F .bf16) :
    idle (F := F) c I fo ⊢ WP c (cc0_gptq_linear_skel (F := F) mQ (Memref.isWhole_whole _) mA (Memref.isWhole_whole _) mH (Memref.isWhole_whole _) mX (Memref.isWhole_whole _)
      mS (Memref.isWhole_whole _) mZ (Memref.isWhole_whole _) mO (Memref.isWhole_whole _) mW (Memref.isWhole_whole _) mT (Memref.isWhole_whole _) cc0_scratch2)
      fun _ => idle (F := F) c I (out (F := F) I) := by
  have n0 : 0 < 4 := by decide
  have n1 : 1 < 4 := by decide
  have g0 : 0 < 104 := by decide
  have s0 : 0 < 2 := by decide
  have h0 := DOk_ok n0
  have h1 := DOk_ok n1
  have hG := GOk_ok g0 s0
  have eq : cc0_gptq_linear_skel (F := F) mQ (Memref.isWhole_whole _) mA (Memref.isWhole_whole _) mH (Memref.isWhole_whole _) mX (Memref.isWhole_whole _)
      mS (Memref.isWhole_whole _) mZ (Memref.isWhole_whole _) mO (Memref.isWhole_whole _) mW (Memref.isWhole_whole _) mT (Memref.isWhole_whole _) cc0_scratch2 =
      gstarts (F := F) mQ mW cc0_scratch2 (BitVec.ofNat 32 0) h0 (gstarts (F := F) mQ mW cc0_scratch2 (BitVec.ofNat 32 1) h1 (gwaits (F := F) mQ mW cc0_scratch2 (BitVec.ofNat 32 0) h0
        (gwords (F := F) mA mH mW mT (BitVec.ofNat 32 0) (BitVec.ofNat 32 (53264 * (0 % 2))) (BitVec.ofNat 32 (528 * 0)) hG
          (Prog.bind (Scf.Loop.for k0_t1_loop k0_t1_ok Mxu.init (body1 (F := F))) fun s => s.exit >>= fun _ => .ret PUnit.unit) 32 le_rfl) 16 le_rfl) 16 le_rfl) 16 le_rfl :=
    root_eq _ _ _ _ _ _ _ _ _ _ _ _ _ _ _ _ _ _ _ h0 h1 hG
  rw [eq]
  unfold idle
  iintro ⟨HQ, HA, HI, HX, HC, HZ, HY, ⟨%fw, HW⟩, ⟨%ft, HT⟩, HS0, HS1, HO⟩
  ihave HQ := (mQ_split c I.q).1 $$ HQ
  icases HQ with ⟨Q0, Q1, Q2, Q3⟩
  ihave HW := (mW_split c fw).1 $$ HW
  icases HW with ⟨W0, W1, W2⟩
  iapply (gstarts_run c I _ n0 h0 fw _) $$ [W0 Q0 HS0]
  · isplitl [W0]; · iexact W0
    isplitl [Q0]; · iexact Q0
    iexact HS0
  iintro B0
  iapply (gstarts_run c I _ n1 h1 fw _) $$ [W1 Q1 HS1]
  · isplitl [W1]; · iexact W1
    isplitl [Q1]; · iexact Q1
    iexact HS1
  iintro B1
  iapply (gwaits_run c I _ n0 h0 _) $$ [B0 HO]
  · isplitl [B0]; · iexact B0
    iexact HO
  iintro ⟨W0, Q0, HS0, HO⟩
  iapply (gwords_run c I _ n0 g0 s0 hI hG _ 32 le_rfl ft) $$ [HA HI W0 HT]
  · isplitr [HT]
    · unfold rd
      isplitl [HA]; · iexact HA
      isplitl [HI]; · iexact HI
      iexact W0
    iexact HT
  iintro %f1 %he ⟨HR, HT⟩
  unfold rd
  icases HR with ⟨HA, HI, W0⟩
  have hf := Ext.sorted I he
  iapply (loop1_run c I hI _ Mxu.init _) $$ [HA HI HX HC HZ HY W0 HS0 HT B1 Q0 Q2 Q3 HO]
  · unfold inv1
    iexists f1, fo
    isplitr
    · ipureintro
      exact ⟨MxuIs.init, hf, Done.zero I fo⟩
    isplitl [HX HC HZ]
    · unfold ro
      isplitl [HX]; · iexact HX
      isplitl [HC]; · iexact HC
      iexact HZ
    isplitl [HA HI]
    · isplitl [HA]; · iexact HA
      iexact HI
    isplitl [HT]; · iexact HT
    isplitl [HY]; · iexact HY
    isplitl [W0 HS0]
    · unfold hot
      isplitl [W0]; · iexact W0
      iexact HS0
    isplitr [HO]
    · rw [rest_zero]
      unfold src
      isplitl [B1]; · iexact B1
      isplitl [Q0]; · iexact Q0
      isplitl [Q2]; · iexact Q2
      iexact Q3
    iexact HO
  unfold inv1
  iintro %u ⟨%f, %fz, %hp, HO', HA, HT, HY, HH, HR, HO⟩
  obtain ⟨hu, -, hd⟩ := hp
  have ey := hd.all I
  subst ey
  iapply (Mxu.wp_exit (defs := defs₀ (F := F)) (hd := hu.drained))
  iapply (WP_ret c)
  unfold ro
  icases HO' with ⟨HX, HC, HZ⟩
  icases HA with ⟨HA, HI⟩
  ihave HR := (rest_four c I) $$ HR
  unfold hot src
  icases HH with ⟨W1, HS1⟩
  icases HR with ⟨⟨W0, HS0⟩, Q0, Q1, Q2, Q3⟩
  isplitl [Q0 Q1 Q2 Q3]
  · iapply (mQ_split c I.q).2
    isplitl [Q0]; · iexact Q0
    isplitl [Q1]; · iexact Q1
    isplitl [Q2]; · iexact Q2
    iexact Q3
  isplitl [HA]; · iexact HA
  isplitl [HI]; · iexact HI
  isplitl [HX]; · iexact HX
  isplitl [HC]; · iexact HC
  isplitl [HZ]; · iexact HZ
  isplitl [HY]; · iexact HY
  isplitl [W0 W1 W2]
  · iapply (mW_join c (wrd I 2) (wrd I 3) fw)
    isplitl [W0]; · iexact W0
    isplitl [W1]; · iexact W1
    iexact W2
  isplitl [HT]
  · iexists f
    iexact HT
  isplitl [HS0]; · iexact HS0
  isplitl [HS1]; · iexact HS1
  iexact HO

end Cert.Proof.Kernel
-- ==== Proof.KFrame.lean ====
/-
  The launch: the region's staging buffers, transfers and accumulators, given the whole body's run.
-/
module

public import proofs.«01_k».proof.Proof.KRun5
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxRecDepth 65536

/-! ### @main around the region -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operand the body's transfers read. -/
def H0 : Finset (Ref sig .tc) := {main_v35}
theorem H0_sub : H0 ⊆ Pipeline.restRefs sig spec0 := by decide

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ spec0 H0 op ((List.forall_iff_forall_mem.mp hostOps1_sub) op hop) (fun k => k.elim0) fun b hb => ?_
  obtain rfl : b = main_v35 := by simpa [H0] using hb
  simp only [hostOps1, List.mem_cons, List.mem_nil_iff, or_false] at hop
  rcases hop with rfl | rfl
  · simp only [StableHlo.unary_bufs, Finset.mem_insert, Finset.mem_singleton, not_or]
    exact ⟨StableHlo.devRef_ne_of_ne (by decide), StableHlo.devRef_ne_of_ne (by decide)⟩
  · simp only [StableHlo.reshape_bufs, Finset.mem_insert, Finset.mem_singleton, not_or]
    exact ⟨StableHlo.devRef_ne_of_ne (by decide), StableHlo.devRef_ne_of_ne (by decide)⟩

/-- The body's two transfer counters. -/
abbrev osem0 : Fin 2 → SemLoc sig := fun j => (![SemLoc.dma (dsem 0), SemLoc.dma (dsem 1)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 (F := F) c 0 ∗ sem0 (F := F) c 1) := by
  rw [Pipeline.ownSems0_eq_of_list c osem0 [0, 1] (by decide) (by decide)]; rfl
theorem hbmPts0_eq (c : Dev nD) :
    (bigSep H0 (fun b => ((c : Thread nD τ).loc b) ↦{fullShare} V m c b) : sProp 𝕄) = iprop(pt c mQ (V m c main_v35)) := by
  rw [BI.bigSep_eq_bigSepL_of_eq [main_v35] (by decide) (by decide)]; rfl

theorem PhiD0_eq (c : Dev nD) :
    (Pipeline.ΦD osem0 spec0 H0 (V m) c : sProp 𝕄)
      = iprop(iprop((∃ f : S106528x128.Idx → BitVec 32, pt c mW f) ∗ (∃ f : S1056x128.Idx → BitVec 32, pt c mT f))
          ∗ (∃ r, prngReg c r) ∗ iprop(sem0 (F := F) c 0 ∗ sem0 (F := F) c 1) ∗ pt c mQ (V m c main_v35)) := by
  rw [Pipeline.ΦD_eq, scopedRest0_eq, ownSems00_eq, hbmPts0_eq]; try rfl

/-! ### The one point's blocks are the arrays -/

def t0 : Fin cfg0.N := ⟨0, by decide⟩
theorem t_eq (t : Fin cfg0.N) : t = t0 := by
  have h : ∀ t : Fin grid0.N, t = (⟨0, by decide⟩ : Fin grid0.N) := by decide
  exact h t

theorem ix0 (t : Fin cfg0.N) : win0_0.index t 0 = 0 ∧ win0_0.index t 1 = 0 := (by decide +kernel : ∀ t : Fin grid0.N, win0_0.index t 0 = 0 ∧ win0_0.index t 1 = 0) t
theorem ix1 (t : Fin cfg0.N) : win0_1.index t 0 = 0 ∧ win0_1.index t 1 = 0 := (by decide +kernel : ∀ t : Fin grid0.N, win0_1.index t 0 = 0 ∧ win0_1.index t 1 = 0) t
theorem ix2 (t : Fin cfg0.N) : win0_2.index t 0 = 0 ∧ win0_2.index t 1 = 0 ∧ win0_2.index t 2 = 0 := (by decide +kernel : ∀ t : Fin grid0.N, win0_2.index t 0 = 0 ∧ win0_2.index t 1 = 0 ∧ win0_2.index t 2 = 0) t
theorem ix3 (t : Fin cfg0.N) : win0_3.index t 0 = 0 ∧ win0_3.index t 1 = 0 := (by decide +kernel : ∀ t : Fin grid0.N, win0_3.index t 0 = 0 ∧ win0_3.index t 1 = 0) t
theorem ix4 (t : Fin cfg0.N) : win0_4.index t 0 = 0 ∧ win0_4.index t 1 = 0 := (by decide +kernel : ∀ t : Fin grid0.N, win0_4.index t 0 = 0 ∧ win0_4.index t 1 = 0) t
theorem ix5 (t : Fin cfg0.N) : win0_5.index t 0 = 0 ∧ win0_5.index t 1 = 0 ∧ win0_5.index t 2 = 0 := (by decide +kernel : ∀ t : Fin grid0.N, win0_5.index t 0 = 0 ∧ win0_5.index t 1 = 0 ∧ win0_5.index t 2 = 0) t

theorem emb0 (t : Fin cfg0.N) (j : S104x128.Idx) : ((cfg0.win 0).blk t).view.emb j = j := by
  obtain ⟨e0, e1⟩ := ix0 t
  funext a; apply Fin.ext
  match a with
  | ⟨0, _⟩ => show win0_0.index t (0 : Fin 2) * 104 + 1 * (j 0).val = (j 0).val; omega
  | ⟨1, _⟩ => show win0_0.index t (1 : Fin 2) * 128 + 1 * (j 1).val = (j 1).val; omega
theorem emb1 (t : Fin cfg0.N) (j : S104x128.Idx) : ((cfg0.win 1).blk t).view.emb j = j := by
  obtain ⟨e0, e1⟩ := ix1 t
  funext a; apply Fin.ext
  match a with
  | ⟨0, _⟩ => show win0_1.index t (0 : Fin 2) * 104 + 1 * (j 0).val = (j 0).val; omega
  | ⟨1, _⟩ => show win0_1.index t (1 : Fin 2) * 128 + 1 * (j 1).val = (j 1).val; omega
theorem emb2 (t : Fin cfg0.N) (j : S104x24x256.Idx) : ((cfg0.win 2).blk t).view.emb j = j := by
  obtain ⟨e0, e1, e2⟩ := ix2 t
  funext a; apply Fin.ext
  match a with
  | ⟨0, _⟩ => show win0_2.index t (0 : Fin 3) * 104 + 1 * (j 0).val = (j 0).val; omega
  | ⟨1, _⟩ => show win0_2.index t (1 : Fin 3) * 24 + 1 * (j 1).val = (j 1).val; omega
  | ⟨2, _⟩ => show win0_2.index t (2 : Fin 3) * 256 + 1 * (j 2).val = (j 2).val; omega
theorem emb3 (t : Fin cfg0.N) (j : S6656x128.Idx) : ((cfg0.win 3).blk t).view.emb j = j := by
  obtain ⟨e0, e1⟩ := ix3 t
  funext a; apply Fin.ext
  match a with
  | ⟨0, _⟩ => show win0_3.index t (0 : Fin 2) * 6656 + 1 * (j 0).val = (j 0).val; omega
  | ⟨1, _⟩ => show win0_3.index t (1 : Fin 2) * 128 + 1 * (j 1).val = (j 1).val; omega
theorem emb4 (t : Fin cfg0.N) (j : S6656x128.Idx) : ((cfg0.win 4).blk t).view.emb j = j := by
  obtain ⟨e0, e1⟩ := ix4 t
  funext a; apply Fin.ext
  match a with
  | ⟨0, _⟩ => show win0_4.index t (0 : Fin 2) * 6656 + 1 * (j 0).val = (j 0).val; omega
  | ⟨1, _⟩ => show win0_4.index t (1 : Fin 2) * 128 + 1 * (j 1).val = (j 1).val; omega
theorem emb5 (t : Fin cfg0.N) (j : S4x48x4096.Idx) : ((cfg0.win 5).blk t).view.emb j = j := by
  obtain ⟨e0, e1, e2⟩ := ix5 t
  funext a; apply Fin.ext
  match a with
  | ⟨0, _⟩ => show win0_5.index t (0 : Fin 3) * 4 + 1 * (j 0).val = (j 0).val; omega
  | ⟨1, _⟩ => show win0_5.index t (1 : Fin 3) * 48 + 1 * (j 1).val = (j 1).val; omega
  | ⟨2, _⟩ => show win0_5.index t (2 : Fin 3) * 4096 + 1 * (j 2).val = (j 2).val; omega

theorem iblk0_eq (c : Dev nD) (t : Fin cfg0.N) : iblk m c 0 t = V m c main_v2 := by
  funext j; show V m c main_v2 (((cfg0.win 0).blk t).view.emb j) = V m c main_v2 j; rw [emb0]
theorem iblk1_eq (c : Dev nD) (t : Fin cfg0.N) : iblk m c 1 t = V m c main_v6 := by
  funext j; show V m c main_v6 (((cfg0.win 1).blk t).view.emb j) = V m c main_v6 j; rw [emb1]
theorem iblk2_eq (c : Dev nD) (t : Fin cfg0.N) : iblk m c 2 t = V m c main_v19 := by
  funext j; show V m c main_v19 (((cfg0.win 2).blk t).view.emb j) = V m c main_v19 j; rw [emb2]
theorem iblk3_eq (c : Dev nD) (t : Fin cfg0.N) : iblk m c 3 t = V m c main_v40 := by
  funext j; show V m c main_v40 (((cfg0.win 3).blk t).view.emb j) = V m c main_v40 j; rw [emb3]
theorem iblk4_eq (c : Dev nD) (t : Fin cfg0.N) : iblk m c 4 t = V m c main_v45 := by
  funext j; show V m c main_v45 (((cfg0.win 4).blk t).view.emb j) = V m c main_v45 j; rw [emb4]

/-- What the body is given: the staged words, the two index tables, the activations, the scales, the zeros. -/
def ins (c : Dev nD) : Ins :=
  ⟨V m c main_v35, V m c main_v2, V m c main_v6, V m c main_v19, V m c main_v40, V m c main_v45⟩

/-! ### The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (out (F := F) (ins m c) : S4x48x4096.Idx → F .bf16)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (out (F := F) (ins m c) : S4x48x4096.Idx → F .bf16) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ### The body at the one point -/

abbrev sg0 (t : Fin cfg0.N) : Memref sig .tc .smem S104x128 .i32 := win0_0.stage (cfg0.slots t 0)
abbrev sg1 (t : Fin cfg0.N) : Memref sig .tc .smem S104x128 .i32 := win0_1.stage (cfg0.slots t 1)
abbrev sg2 (t : Fin cfg0.N) : Memref sig .tc .vmem S104x24x256 .i32 := win0_2.stage (cfg0.slots t 2)
abbrev sg3 (t : Fin cfg0.N) : Memref sig .tc .vmem S6656x128 .i32 := win0_3.stage (cfg0.slots t 3)
abbrev sg4 (t : Fin cfg0.N) : Memref sig .tc .vmem S6656x128 .i32 := win0_4.stage (cfg0.slots t 4)
abbrev sg5 (t : Fin cfg0.N) : Memref sig .tc .vmem S4x48x4096 .bf16 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (sg0 t) fullShare ((dats m 0 c).after 0 t)
    ∗ owns (c : Thread nD τ) (sg1 t) fullShare ((dats m 0 c).after 1 t)
    ∗ owns (c : Thread nD τ) (sg2 t) fullShare ((dats m 0 c).after 2 t)
    ∗ owns (c : Thread nD τ) (sg3 t) fullShare ((dats m 0 c).after 3 t)
    ∗ owns (c : Thread nD τ) (sg4 t) fullShare ((dats m 0 c).after 4 t)
    ∗ owns (c : Thread nD τ) (sg5 t) fullShare ((dats m 0 c).after 5 t))

theorem slots_eq (t : Fin cfg0.N) : sg0 t = mA ∧ sg1 t = mH ∧ sg2 t = mX ∧ sg3 t = mS ∧ sg4 t = mZ ∧ sg5 t = mO := by
  have e0 : cfg0.slots t 0 = (0 : Fin 1) := Subsingleton.elim (α := Fin 1) _ _
  have e1 : cfg0.slots t 1 = (0 : Fin 1) := Subsingleton.elim (α := Fin 1) _ _
  have e2 : cfg0.slots t 2 = (0 : Fin 1) := Subsingleton.elim (α := Fin 1) _ _
  have e3 : cfg0.slots t 3 = (0 : Fin 1) := Subsingleton.elim (α := Fin 1) _ _
  have e4 : cfg0.slots t 4 = (0 : Fin 1) := Subsingleton.elim (α := Fin 1) _ _
  have e5 : cfg0.slots t 5 = (0 : Fin 1) := Subsingleton.elim (α := Fin 1) _ _
  unfold sg0 sg1 sg2 sg3 sg4 sg5
  rw [e0, e1, e2, e3, e4, e5]
  exact ⟨rfl, rfl, rfl, rfl, rfl, rfl⟩

/-- The body as the run states it. -/
abbrev bodyR : Prog (TpuEff nD τ sig (Elt F) Λ₀ .tc) PUnit :=
  cc0_gptq_linear_skel mQ (Memref.isWhole_whole _) mA (Memref.isWhole_whole _) mH (Memref.isWhole_whole _) mX (Memref.isWhole_whole _)
    mS (Memref.isWhole_whole _) mZ (Memref.isWhole_whole _) mO (Memref.isWhole_whole _) mW (Memref.isWhole_whole _) mT (Memref.isWhole_whole _) cc0_scratch2

theorem bodyAt_eq (t : Fin cfg0.N) : bodyAt0 (F := F) t = bodyR := by
  have e0 : cfg0.slots t 0 = (0 : Fin 1) := Subsingleton.elim (α := Fin 1) _ _
  have e1 : cfg0.slots t 1 = (0 : Fin 1) := Subsingleton.elim (α := Fin 1) _ _
  have e2 : cfg0.slots t 2 = (0 : Fin 1) := Subsingleton.elim (α := Fin 1) _ _
  have e3 : cfg0.slots t 3 = (0 : Fin 1) := Subsingleton.elim (α := Fin 1) _ _
  have e4 : cfg0.slots t 4 = (0 : Fin 1) := Subsingleton.elim (α := Fin 1) _ _
  have e5 : cfg0.slots t 5 = (0 : Fin 1) := Subsingleton.elim (α := Fin 1) _ _
  unfold bodyAt0 bodyR
  rw [← cc0_gptq_linear_eq_skeleton]

set_option maxHeartbeats 4000000 in
theorem sound_body (hI : ∀ c, (ins m c).Ok) (c : Dev nD) (t : Fin cfg0.N) :
    bodyPre m c t ⊢ wp frame (wpE (defs₀ (F := F)) Variants.none c none) Set.univ (bodyAt0 t) (fun _ => bodyPost m c t) := by
  unfold bodyPre bodyPost
  obtain ⟨s0, s1, s2, s3, s4, s5⟩ := slots_eq t
  rw [s0, s1, s2, s3, s4, s5, bodyAt_eq]
  rw [after0_0, after0_1, after0_2, after0_3, after0_4, after0_5]
  simp only [before0_0, before0_1, before0_2, before0_3, before0_4]
  rw [iblk0_eq, iblk1_eq, iblk2_eq, iblk3_eq, iblk4_eq]
  rw [show (dats m 0 c).Φ t.succ = Pipeline.ΦD osem0 spec0 H0 (V m) c from rfl,
    show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [mA, mH, mX, mS, mZ, mO, owns_whole]
  iintro ⟨⟨⟨HW, HT⟩, Hg, ⟨HS0, HS1⟩, HQ⟩, ⟨%W, -, HO⟩, ⟨%d0, H0⟩, ⟨%d1, H1⟩, ⟨%d2, H2⟩, ⟨%d3, H3⟩, ⟨%d4, H4⟩, ⟨%d5, H5⟩⟩
  ihave Hwp := (root_run (F := F) c (ins m c) (hI c) ((dats m 0 c).before 5 t d5)) $$ [HW HT HS0 HS1 HQ HO H0 H1 H2 H3 H4 H5]
  · unfold idle
    isplitl [HQ]; · iexact HQ
    isplitl [H0]; · iexact H0
    isplitl [H1]; · iexact H1
    isplitl [H2]; · iexact H2
    isplitl [H3]; · iexact H3
    isplitl [H4]; · iexact H4
    isplitl [H5]; · iexact H5
    isplitl [HW]; · iexact HW
    isplitl [HT]; · iexact HT
    isplitl [HS0]; · iexact HS0
    isplitl [HS1]; · iexact HS1
    iexists W; iexact HO
  iapply (wp_wand) $$ [Hwp] [Hg]
  · iexact Hwp
  iintro %u Hid
  unfold idle
  icases Hid with ⟨HQ, H0, H1, H2, H3, H4, H5, HW, HT, HS0, HS1, ⟨%W', HO⟩⟩
  isplitl [HW HT Hg HS0 HS1 HQ]
  · isplitl [HW HT]
    · isplitl [HW]; · iexact HW
      iexact HT
    isplitl [Hg]; · iexact Hg
    isplitl [HS0 HS1]
    · isplitl [HS0]; · iexact HS0
      iexact HS1
    iexact HQ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (hI : ∀ c, (ins m c).Ok) (c : Dev nD) : BodyObligation (dats (F := F) m 0 c) (defs₀ (F := F)) Variants.none () Set.univ := fun t => by
  rw [bigSep_W0, bigSep_W0, defs₀_row]
  exact triple_restated (sound_body m hI c t) rfl .rfl fun _ => .rfl

/-! ### The run -/

set_option backward.isDefEq.respectTransparency.types false in
theorem run_main (hI : ∀ c, (ins m c).Ok) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hI c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := fun _ => .rfl) (hout := fun _ => .rfl)

/-- No line after the region writes an argument: each ends as launched. -/
theorem W_arg (c : Dev nD) (b : Ref sig .tc) (h1 : b ≠ main_v47) (h2 : b ≠ main_v48) (hw : ∀ w, Pipeline.arrRef spec0 w ≠ b)
    (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h1, StableHlo.devRef_ne_of_ne h2⟩)),
    Pipeline.withArrays_of_ne _ c (V0 m c) _ b hw]
  exact hV

/-- The arguments end unchanged, every counter at zero, and the result is what the tail leaves of the body's output. -/
theorem run_all (hI : ∀ c, (ins m c).Ok) : θ_run defs (onTc (τ := τ) (main (F := F))) ⟨m, fun _ => 0, ρ⟩ (fun r => (∀ c : Dev nD,
      r.2.mem ((c.tc : Thread nD τ).loc main_v48) = Pipeline.afterTail₀ cfgs (dats m) 0 (V0 m) [hostOps1] c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_v48 (Pipeline.mem_restRefs_of main_v48 (by decide) (by decide))),
      ((h.1 c).2 main_arg0 (Pipeline.mem_restRefs_of main_arg0 (by decide) (by decide))).trans (W_arg m c main_arg0 (by decide) (by decide) (by exact (by decide : ∀ w, Pipeline.arrRef spec0 w ≠ main_arg0)) (V_main_arg0 m c)),
      ((h.1 c).2 main_arg1 (Pipeline.mem_restRefs_of main_arg1 (by decide) (by decide))).trans (W_arg m c main_arg1 (by decide) (by decide) (by exact (by decide : ∀ w, Pipeline.arrRef spec0 w ≠ main_arg1)) (V_main_arg1 m c)),
      ((h.1 c).2 main_arg2 (Pipeline.mem_restRefs_of main_arg2 (by decide) (by decide))).trans (W_arg m c main_arg2 (by decide) (by decide) (by exact (by decide : ∀ w, Pipeline.arrRef spec0 w ≠ main_arg2)) (V_main_arg2 m c)),
      ((h.1 c).2 main_arg3 (Pipeline.mem_restRefs_of main_arg3 (by decide) (by decide))).trans (W_arg m c main_arg3 (by decide) (by decide) (by exact (by decide : ∀ w, Pipeline.arrRef spec0 w ≠ main_arg3)) (V_main_arg3 m c)),
      ((h.1 c).2 main_arg4 (Pipeline.mem_restRefs_of main_arg4 (by decide) (by decide))).trans (W_arg m c main_arg4 (by decide) (by decide) (by exact (by decide : ∀ w, Pipeline.arrRef spec0 w ≠ main_arg4)) (V_main_arg4 m c))⟩, h.2⟩) (run_main m ρ hI)

end Cert.Proof.Kernel
-- ==== Proof.KHost.lean ====
/-
  What the host's lines before the region leave in the operands: the order of the rows, the words' rows and shifts.
-/
module

public import proofs.«01_k».proof.Proof.Gen.Kernel.Frame
public import Idealize.ShloMosaic.Lib.StableHlo.RunRead
public import Idealize.ShloMosaic.Lib.Claim
public import Idealize.ShloMosaic.Lib.SortFacts

@[expose] public section

set_option maxRecDepth 65536

noncomputable section

namespace Cert.Proof.Kernel

open Cert.Kernel Cert.Kernel.Gen
open Idealize.ShloMosaic Idealize.ShloMosaic.TcCoe
open Idealize.SL.Sem

variable {F : FTy → Type} [FloatOps F]
variable (m : (ℓ : Loc nD τ sig) → Buf (Elt F) ℓ)

/-! ### The order of the rows -/

/-- The rows in the order of their groups, equal groups as they stand. -/
def ordv (g : IVec S13312 32) : IVec S13312 32 := (Host.sort2 S13312 0 comparator_i32_i32_d0 g (iotaInDim S13312 32 0)).2

/-- The stable sorting permutation of a vector of words with their numbers beside them: place `k` holds row `permN cmp g k`. -/
def permN {n : Nat} (cmp : BitVec 32 × BitVec 32 → BitVec 32 × BitVec 32 → BitVec 1) (g : IVec ⟨1, ![n]⟩ 32) : Fin n → Fin n :=
  sortedFrom fun k k' => cmp (g (Shape.Idx.ofFin k), iotaInDim ⟨1, ![n]⟩ 32 0 (Shape.Idx.ofFin k)) (g (Shape.Idx.ofFin k'), iotaInDim ⟨1, ![n]⟩ 32 0 (Shape.Idx.ofFin k')) == 1#1

/-- The sorted numbers are read through that permutation. -/
theorem sort2_iota {n : Nat} (cmp : BitVec 32 × BitVec 32 → BitVec 32 × BitVec 32 → BitVec 1) (g : IVec ⟨1, ![n]⟩ 32) (j : (⟨1, ![n]⟩ : Shape).Idx) :
    (Host.sort2 ⟨1, ![n]⟩ 0 cmp g (iotaInDim ⟨1, ![n]⟩ 32 0)).2 j = BitVec.ofNat 32 (permN cmp g (j 0)).val := by
  unfold Host.sort2 permN
  simp [iotaInDim]

theorem permN_bijective {n : Nat} (cmp : BitVec 32 × BitVec 32 → BitVec 32 × BitVec 32 → BitVec 1) (g : IVec ⟨1, ![n]⟩ 32) :
    Function.Bijective (permN cmp g) := ⟨sortedFrom_injective _, sortedFrom_surjective _⟩

/-- The row at place `k` of that order. -/
@[irreducible] def perm (g : IVec S13312 32) : Fin 13312 → Fin 13312 := permN comparator_i32_i32_d0 g

theorem perm_bijective (g : IVec S13312 32) : Function.Bijective (perm g) := by
  unfold perm
  exact permN_bijective _ _

theorem ordv_eq (g : IVec S13312 32) (j : S13312.Idx) : ordv g j = BitVec.ofNat 32 (perm g (j 0)).val := by
  unfold perm ordv
  exact sort2_iota comparator_i32_i32_d0 g j

/-- The sign of a word. -/
def sgn (o : BitVec 32) : BitVec 32 := if o = 0 then 0 else if o.msb then -1 else 1

/-- The floor of a word over four, as the host computes it. -/
def fl4 (o : BitVec 32) : BitVec 32 :=
  Scalar.select (IntOp.andi (IntOp.cmpi .ne (sgn o) (sgn 4#32))
    (IntOp.cmpi .ne (IntOp.remsi .host o 4#32) 0#32)) (IntOp.subi (IntOp.divsi .host o 4#32) 1#32) (IntOp.divsi .host o 4#32)

theorem fl4_eq {k : Nat} (hk : k < 13312) : fl4 (BitVec.ofNat 32 k) = BitVec.ofNat 32 (k / 4) := by
  have h : ∀ k : Fin 13312, fl4 (BitVec.ofNat 32 k.val) = BitVec.ofNat 32 (k.val / 4) := by decide +kernel
  exact h ⟨k, hk⟩

theorem V_v2 (c : Dev nD) : V m c main_v2
    = shapeCast S104x128 (fun k => fl4 (ordv (m (c, Proc.devRef .tc main_arg4)) k) : IVec S13312 32) shapeCasts_S13312_S104x128 := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp only [StableHlo.TRef.ofBuf_toBuf]
  rfl

theorem V_v2_lt (c : Dev nD) (i : S104x128.Idx) : (V m c main_v2 i : BitVec 32).toNat < 3328 := by
  rw [V_v2]
  show (fl4 (ordv _ (Shape.reshapeEquiv _ i))).toNat < 3328
  rw [ordv_eq, fl4_eq (Fin.isLt _), BitVec.toNat_ofNat]
  have := (perm (m (c, Proc.devRef .tc main_arg4)) (Shape.reshapeEquiv shapeCasts_S13312_S104x128 i 0)).isLt
  omega

end Cert.Proof.Kernel
-- ==== Proof.IProg.lean ====
/-
  The kernel's body as a few short programs: one gathered word (`gword`), one tile's product (`gtile`), one group's
  step (`gstep`).
-/
module

public import proofs.«01_k».proof.Proof.Gen.KernelIdeal.Skeleton
public import proofs.«01_k».proof.Proof.Gen.KernelIdeal.Loops
public import Idealize.ShloMosaic.Lib.Pipeline.Regions
public meta import Idealize.ShloMosaic.Lib.Pipeline.Regions

@[expose] public section

noncomputable section

namespace Cert.Proof.KernelIdeal

open Cert.KernelIdeal Cert.KernelIdeal.Gen
open Idealize.ShloMosaic Idealize.SL.Sem

variable {F : FTy → Type} [FloatOps F]

/-! ## Offsets, as the kernel computes them -/

/-- Group `g`'s position `j` in the two index tables. -/
def oA (g : BitVec 32) (j : Nat) : Fin 2 → Nat := ![(Scalar.indexCast g : Index).toNat, j]
/-- The row gathered from the staged words: the table's word, plus the slot's base, plus the half's. -/
def oW (base q h : BitVec 32) : Fin 2 → Nat := ![(Scalar.indexCast (Scalar.addi (Scalar.addi q base) h) : Index).toNat, 0]
/-- The row the sorted words are stored from. -/
def oS (nslot w h : BitVec 32) : Fin 2 → Nat := ![(Scalar.indexCast (Scalar.addi (Scalar.addi nslot w) h) : Index).toNat, 0]
/-- The first row of a chunk's sorted words. -/
def oR (slot c : BitVec 32) : Fin 2 → Nat := ![(Scalar.indexCast (Scalar.addi slot c) : Index).toNat, 0]
/-- The row of the scales' and of the zeros' table. -/
def oT (n g c : BitVec 32) : Fin 2 → Nat :=
  ![(Scalar.indexCast (Scalar.addi (Scalar.muli (Scalar.addi (Scalar.muli n 104#32) g) 16#32) c) : Index).toNat, 0]
/-- The group's slab of activations. -/
def oX (g : BitVec 32) : Fin 3 → Nat := ![(Scalar.indexCast g : Index).toNat, 0, 0]

/-- The side condition on a word `q` of the index table: the two strided reads from it stay inside the staged words. -/
def gchk (base q : BitVec 32) : Prop :=
  (∀ (r : Fin 2), ∀ a, S8x128.size a = 0 ∨ (oW base q (BitVec.ofNat 32 (26632 * r.val))) a + (![3329, 1] : Fin 2 → Nat) a * (S8x128.size a - 1) < S106528x128.size a)

instance gchk.dec : ∀ (base q : BitVec 32), Decidable (gchk base q) := fun base q => decidable_of_iff' _ (Iff.of_eq (gchk.eq_1 base q))

/-- What the unchecked offsets of one step owe. -/
structure GOk (g1 nslot : BitVec 32) : Prop where
  a : ∀ j, j < 128 → ∀ a, oA g1 j a + S1x1.size a ≤ S104x128.size a
  s : ∀ w, w < 32 → ∀ (r : Fin 2), ∀ a, S8x128.size a = 0 ∨ (oS nslot (BitVec.ofNat 32 w) (BitVec.ofNat 32 (264 * r.val))) a + (![33, 1] : Fin 2 → Nat) a * (S8x128.size a - 1) < S1056x128.size a

structure TOk (n g slot : BitVec 32) : Prop where
  r : ∀ c, c < 16 → ∀ a, oR slot (BitVec.ofNat 32 (33 * c)) a + S32x128.size a ≤ S1056x128.size a
  t : ∀ c, c < 16 → ∀ a, oT n g (BitVec.ofNat 32 c) a + S1x128.size a ≤ S6656x128.size a
  x : ∀ a, oX g a + S1x24x256.size a ≤ S104x24x256.size a

section Progs

variable (arg1 : Memref sig .tc .smem S104x128 .i32) (arg2 : Memref sig .tc .smem S104x128 .i32)
  (arg3 : Memref sig .tc .vmem S104x24x256 .i32) (arg4 : Memref sig .tc .vmem S6656x128 .i32) (arg5 : Memref sig .tc .vmem S6656x128 .i32)
  (arg7 : Memref sig .tc .vmem S106528x128 .i32) (arg8 : Memref sig .tc .vmem S1056x128 .i32)

/-- One byte of the gathered words: position `j`'s row and shift, and the two halves' rows shifted. -/
def gbyte {α : Type} (g1 base : BitVec 32) (j : Nat) (hj : ∀ a, oA g1 j a + S1x1.size a ≤ S104x128.size a)
    (k : IVec S8x128 32 → IVec S8x128 32 → Prog (TpuEff nD τ sig (Elt F) Λ₀ .tc) α) : Prog (TpuEff nD τ sig (Elt F) Λ₀ .tc) α := do
  let q : Elt F .i32 ← smemLoad arg1 (Rect.unit (s := S104x128) (oA g1 j) S1x1.size hj) numel1_S1x1 rfl
  have hw : gchk base q := (← Prog.lift (TpuEff.assume (gchk base q) (gchk.dec base q))).down
  let sh : Elt F .i32 ← smemLoad arg2 (Rect.unit (s := S104x128) (oA g1 j) S1x1.size hj) numel1_S1x1 rfl
  let a : Vec F S8x128 .i32 ← Prog.lift (.load arg7 (⟨oW base q 0#32, S8x128.size, ![3329, 1], hw 0⟩ : LoadRect S106528x128) (View.loadsAt_vmem h_S8x128))
  let b : Vec F S8x128 .i32 ← Prog.lift (.load arg7 (⟨oW base q 26632#32, S8x128.size, ![3329, 1], hw 1⟩ : LoadRect S106528x128) (View.loadsAt_vmem h_S8x128))
  k (k0_pay10 (F := F) sh a) (k0_pay10 (F := F) sh b)

/-- Four gathered bytes packed and stored: a half's rows. -/
def gput {α : Type} (nslot w : BitVec 32) (h : BitVec 32)
    (hh : ∀ a, S8x128.size a = 0 ∨ oS nslot w h a + (![33, 1] : Fin 2 → Nat) a * (S8x128.size a - 1) < S1056x128.size a)
    (a b c d : IVec S8x128 32) (k : Prog (TpuEff nD τ sig (Elt F) Λ₀ .tc) α) : Prog (TpuEff nD τ sig (Elt F) Λ₀ .tc) α := do
  let _x : Vec F S8x128 .i32 ← Prog.lift (.load arg8 (⟨oS nslot w h, S8x128.size, ![33, 1], hh⟩ : LoadRect S1056x128) (View.loadsAt_vmem h_S8x128))
  Prog.lift (.store arg8 ⟨(⟨oS nslot w h, S8x128.size, ![33, 1], hh⟩ : LoadRect S1056x128), spos_33_1⟩ (shapeCast S8x128 (packElementwiseInt 8 ![a, b, c, d]) shapeCasts_S8x128_S8x128 : IVec S8x128 32) Finset.univ (View.stores_vmem_bits_univ h_S8x128 rfl) (.inl rfl))
  k

/-- One gathered word. -/
def gword {α : Type} (g1 base nslot : BitVec 32) (h : GOk g1 nslot) (w : Nat) (hw : w < 32) (k : Prog (TpuEff nD τ sig (Elt F) Λ₀ .tc) α) : Prog (TpuEff nD τ sig (Elt F) Λ₀ .tc) α :=
  gbyte (F := F) arg1 arg2 arg7 g1 base (4 * w) (h.a _ (by omega)) fun a0 b0 =>
  gbyte (F := F) arg1 arg2 arg7 g1 base (4 * w + 1) (h.a _ (by omega)) fun a1 b1 =>
  gbyte (F := F) arg1 arg2 arg7 g1 base (4 * w + 2) (h.a _ (by omega)) fun a2 b2 =>
  gbyte (F := F) arg1 arg2 arg7 g1 base (4 * w + 3) (h.a _ (by omega)) fun a3 b3 =>
  gput (F := F) arg8 nslot (BitVec.ofNat 32 w) 0#32 (h.s w hw 0) a0 a1 a2 a3 <|
  gput (F := F) arg8 nslot (BitVec.ofNat 32 w) 264#32 (h.s w hw 1) b0 b1 b2 b3 k

/-- A tile's decoded weights. -/
def gwt (v0 : Vec F S32x128 .i32) (s0 z0 : Vec F S1x128 .i32) (v1 : Vec F S32x128 .i32) (s1 z1 : Vec F S1x128 .i32) : FVec F S256x256 .bf16 :=
  k0_pay44 (k0_pay43 (k0_pay42 (F := F) v0) s0 z0) v1 s1 z1

/-- A group's left operand. -/
def glhs (x : Vec F S1x24x256 .i32) : FVec F S96x256 .bf16 :=
  k0_pay45 x

/-- One tile's product. -/
def gtile {α : Type} (n g slot : BitVec 32) (h : TOk n g slot) (t : Nat) (ht : t < 8) (q r : Fin 2) (A : Nat) (hA : Mxu.Fits A 96)
    (s : Mxu F) (k : Mxu F → Prog (TpuEff nD τ sig (Elt F) Λ₀ .tc) α) : Prog (TpuEff nD τ sig (Elt F) Λ₀ .tc) α := do
  let v0 : Vec F S32x128 .i32 ← Prog.lift (.load arg8 (Rect.unit (s := S1056x128) (oR slot (BitVec.ofNat 32 (33 * (2 * t)))) S32x128.size (h.r (2 * t) (by omega))).toLoadRect (View.loadsAt_vmem h_S32x128))
  let s0 : Vec F S1x128 .i32 ← Prog.lift (.load arg4 (Rect.unit (s := S6656x128) (oT n g (BitVec.ofNat 32 (2 * t))) S1x128.size (h.t (2 * t) (by omega))).toLoadRect (View.loadsAt_vmem h_S1x128))
  let z0 : Vec F S1x128 .i32 ← Prog.lift (.load arg5 (Rect.unit (s := S6656x128) (oT n g (BitVec.ofNat 32 (2 * t))) S1x128.size (h.t (2 * t) (by omega))).toLoadRect (View.loadsAt_vmem h_S1x128))
  let v1 : Vec F S32x128 .i32 ← Prog.lift (.load arg8 (Rect.unit (s := S1056x128) (oR slot (BitVec.ofNat 32 (33 * (2 * t + 1)))) S32x128.size (h.r (2 * t + 1) (by omega))).toLoadRect (View.loadsAt_vmem h_S32x128))
  let s1 : Vec F S1x128 .i32 ← Prog.lift (.load arg4 (Rect.unit (s := S6656x128) (oT n g (BitVec.ofNat 32 (2 * t + 1))) S1x128.size (h.t (2 * t + 1) (by omega))).toLoadRect (View.loadsAt_vmem h_S1x128))
  let z1 : Vec F S1x128 .i32 ← Prog.lift (.load arg5 (Rect.unit (s := S6656x128) (oT n g (BitVec.ofNat 32 (2 * t + 1))) S1x128.size (h.t (2 * t + 1) (by omega))).toLoadRect (View.loadsAt_vmem h_S1x128))
  let s' : Mxu F ← s.pushRhs q r false (gwt v0 s0 z0 v1 s1 z1)
  let x : Vec F S1x24x256 .i32 ← Prog.lift (.load arg3 (Rect.unit (s := S104x24x256) (oX g) S1x24x256.size h.x).toLoadRect (View.loadsAt_vmem h_S1x24x256))
  k (s'.accLhs q r A (glhs x) hA)

/-- Four consecutive gathered words. -/
def gfour {α : Type} (g1 base nslot : BitVec 32) (h : GOk g1 nslot) (t : Nat) (ht : t < 8) (k : Prog (TpuEff nD τ sig (Elt F) Λ₀ .tc) α) : Prog (TpuEff nD τ sig (Elt F) Λ₀ .tc) α :=
  gword (F := F) arg1 arg2 arg7 arg8 g1 base nslot h (4 * t) (by omega) <|
  gword (F := F) arg1 arg2 arg7 arg8 g1 base nslot h (4 * t + 1) (by omega) <|
  gword (F := F) arg1 arg2 arg7 arg8 g1 base nslot h (4 * t + 2) (by omega) <|
  gword (F := F) arg1 arg2 arg7 arg8 g1 base nslot h (4 * t + 3) (by omega) k

/-- One group's step: eight tiles, four words gathered for the next group after each. -/
def gstep {α : Type} (n g slot g1 base nslot : BitVec 32) (hT : TOk n g slot) (hG : GOk g1 nslot) (s : Mxu F)
    (k : Mxu F → Prog (TpuEff nD τ sig (Elt F) Λ₀ .tc) α) : Prog (TpuEff nD τ sig (Elt F) Λ₀ .tc) α :=
  gtile (F := F) arg3 arg4 arg5 arg8 n g slot hT 0 (by omega) 0 0 0 (by decide) s fun s =>
  gfour (F := F) arg1 arg2 arg7 arg8 g1 base nslot hG 0 (by omega) <|
  gtile (F := F) arg3 arg4 arg5 arg8 n g slot hT 1 (by omega) 1 0 0 (by decide) s fun s =>
  gfour (F := F) arg1 arg2 arg7 arg8 g1 base nslot hG 1 (by omega) <|
  gtile (F := F) arg3 arg4 arg5 arg8 n g slot hT 2 (by omega) 0 1 24 (by decide) s fun s =>
  gfour (F := F) arg1 arg2 arg7 arg8 g1 base nslot hG 2 (by omega) <|
  gtile (F := F) arg3 arg4 arg5 arg8 n g slot hT 3 (by omega) 1 1 24 (by decide) s fun s =>
  gfour (F := F) arg1 arg2 arg7 arg8 g1 base nslot hG 3 (by omega) <|
  gtile (F := F) arg3 arg4 arg5 arg8 n g slot hT 4 (by omega) 0 0 48 (by decide) s fun s =>
  gfour (F := F) arg1 arg2 arg7 arg8 g1 base nslot hG 4 (by omega) <|
  gtile (F := F) arg3 arg4 arg5 arg8 n g slot hT 5 (by omega) 1 0 48 (by decide) s fun s =>
  gfour (F := F) arg1 arg2 arg7 arg8 g1 base nslot hG 5 (by omega) <|
  gtile (F := F) arg3 arg4 arg5 arg8 n g slot hT 6 (by omega) 0 1 72 (by decide) s fun s =>
  gfour (F := F) arg1 arg2 arg7 arg8 g1 base nslot hG 6 (by omega) <|
  gtile (F := F) arg3 arg4 arg5 arg8 n g slot hT 7 (by omega) 1 1 72 (by decide) s fun s =>
  gfour (F := F) arg1 arg2 arg7 arg8 g1 base nslot hG 7 (by omega) (k s)

end Progs

/-! ## The words a step computes from its trip -/

/-- The remainder by two, as the kernel computes it. -/
def gmod2 (x : BitVec 32) : BitVec 32 :=
  let m : BitVec 32 := Scalar.select (Scalar.cmpi .eq 2#32 0#32) 1#32 2#32
  let r : BitVec 32 := Scalar.remsi x m
  Scalar.select (Scalar.andi (Scalar.xori (Scalar.cmpi .slt r 0#32) (Scalar.cmpi .slt m 0#32)) (Scalar.cmpi .ne r 0#32)) (Scalar.addi r m) r

/-- The block, the group, the slot's first row, the staged half's first row. -/
def gN (t1 : Fin k0_t1_loop.trips) : BitVec 32 := Scf.iv 0#32 1#32 t1
def gG (t2 : Fin k0_t2_loop.trips) : BitVec 32 := Scf.iv 0#32 1#32 t2
def gSlot (n g : BitVec 32) : BitVec 32 := Scalar.muli (gmod2 (Scalar.addi (Scalar.muli n 104#32) g)) 528#32
def gBase (n : BitVec 32) : BitVec 32 := Scalar.muli (Scalar.muli (gmod2 n) 16#32) 3329#32

/-! ## The copies, and the results -/

/-- The cell of a block's copies, the row a chunk's copy lands at, the column it is read from. -/
def oQ (n : BitVec 32) : Fin 1 → Nat := ![(gmod2 n).toNat]
def oD (n c : BitVec 32) : Fin 2 → Nat := ![(Scalar.muli (Scalar.addi (Scalar.muli (gmod2 n) 16#32) c) 3329#32).toNat, 0]
def oB (n c : BitVec 32) : Fin 2 → Nat := ![0, (Scalar.muli (Scalar.addi (Scalar.muli n 16#32) c) 128#32).toNat]
/-- Where a tile of results is stored. -/
def oO (n : BitVec 32) (j : Nat) : Fin 3 → Nat := ![(Scalar.indexCast n : Index).toNat, 0, 128 * j]

/-- What the unchecked offsets of a block's copies owe. -/
structure DOk (n : BitVec 32) : Prop where
  q : ∀ a, oQ n a + S1.size a ≤ S2.size a
  d : ∀ c, c < 16 → ∀ a, oD n (BitVec.ofNat 32 c) a + S3328x128.size a ≤ S106528x128.size a
  s : ∀ c, c < 16 → ∀ a, oB n (BitVec.ofNat 32 c) a + S3328x128.size a ≤ S3328x8192.size a

section Copies

variable (arg0 : Memref sig .tc .hbm S3328x8192 .i32) (arg7 : Memref sig .tc .vmem S106528x128 .i32) (arg9 : DmaSems sig S2)

def gsem (n : BitVec 32) (h : DOk n) : DmaSems sig S_ := (arg9.slice (Rect.unit (s := S2) (oQ n) S1.size h.q)).squeeze S_ squeezes_S1_S_
def gdst (n : BitVec 32) (h : DOk n) (c : Nat) (hc : c < 16) : Memref sig .tc .vmem S3328x128 .i32 :=
  arg7.slice (Rect.unit (s := S106528x128) (oD n (BitVec.ofNat 32 c)) S3328x128.size (h.d c hc)) (fun _ => rfl)
def gsrc (n : BitVec 32) (h : DOk n) (c : Nat) (hc : c < 16) : Memref sig .tc .hbm S3328x128 .i32 :=
  arg0.slice (Rect.unit (s := S3328x8192) (oB n (BitVec.ofNat 32 c)) S3328x128.size (h.s c hc)) (fun _ => rfl)

/-- The last `m` of a block's sixteen copies, started; -/
def gstarts {α : Type} (n : BitVec 32) (h : DOk n) (k : Prog (TpuEff nD τ sig (Elt F) Λ₀ .tc) α) : (m : Nat) → m ≤ 16 → Prog (TpuEff nD τ sig (Elt F) Λ₀ .tc) α
  | 0, _ => k
  | m + 1, hm => do
    Prog.lift (.enqueueDma (gsrc arg0 n h (16 - (m + 1)) (by omega)) (.here (gdst arg7 n h (16 - (m + 1)) (by omega))) (.dma (gsem arg9 n h).sem)
      (View.wordExact_bits rfl) (View.wordExact_bits rfl) ⟨Or.inl rfl, trivial⟩)
    gstarts n h k m (by omega)

/-- waited for. -/
def gwaits {α : Type} (n : BitVec 32) (h : DOk n) (k : Prog (TpuEff nD τ sig (Elt F) Λ₀ .tc) α) : (m : Nat) → m ≤ 16 → Prog (TpuEff nD τ sig (Elt F) Λ₀ .tc) α
  | 0, _ => k
  | m + 1, hm => do
    Prog.lift (.waitDma2 (gsem arg9 n h).sem (gsrc arg0 n h (16 - (m + 1)) (by omega)) (gdst arg7 n h (16 - (m + 1)) (by omega))
      (View.wordExact_bits rfl) (View.wordExact_bits rfl))
    gwaits n h k m (by omega)

end Copies

section Words

variable (arg1 : Memref sig .tc .smem S104x128 .i32) (arg2 : Memref sig .tc .smem S104x128 .i32)
  (arg7 : Memref sig .tc .vmem S106528x128 .i32) (arg8 : Memref sig .tc .vmem S1056x128 .i32)

/-- The last `m` of a group's 32 words. -/
def gwords {α : Type} (g1 base nslot : BitVec 32) (h : GOk g1 nslot) (k : Prog (TpuEff nD τ sig (Elt F) Λ₀ .tc) α) : (m : Nat) → m ≤ 32 → Prog (TpuEff nD τ sig (Elt F) Λ₀ .tc) α
  | 0, _ => k
  | m + 1, hm => gword (F := F) arg1 arg2 arg7 arg8 g1 base nslot h (32 - (m + 1)) (by omega) (gwords g1 base nslot h k m (by omega))

end Words

/-- The lane a result's lane is read from, a pair of lanes reading one. -/
def gidx (kk : BitVec 32) : IVec S48x128 32 :=
  have v5217_r0 : IVec S48x128 32 := iota .tc S48x128 32 [1] iota_S48x128_d1_w32
  have v5218_r0 : IVec S48x128 32 := broadcast S48x128 2#32
  have v5219_r0 : IVec S48x128 32 := divsi v5217_r0 v5218_r0
  have v5220_r0 : IVec S48x128 32 := broadcast S48x128 0#32
  have v5221_r0 : IVec S48x128 1 := cmpi .sgt v5217_r0 v5220_r0
  have v5222_r0 : IVec S48x128 32 := extui 32 v5221_r0 natLt_1_32
  have v5223_r0 : IVec S48x128 32 := broadcast S48x128 0#32
  have v5224_r0 : IVec S48x128 1 := cmpi .slt v5217_r0 v5223_r0
  have v5225_r0 : IVec S48x128 32 := extui 32 v5224_r0 natLt_1_32
  have v5226_r0 : IVec S48x128 32 := subi v5222_r0 v5225_r0
  let v5227_r0 : BitVec 1 := Scalar.cmpi .sgt 2#32 0#32
  let v5228_r0 : BitVec 32 := Scalar.extui v5227_r0
  let v5229_r0 : BitVec 1 := Scalar.cmpi .slt 2#32 0#32
  let v5230_r0 : BitVec 32 := Scalar.extui v5229_r0
  let v5231_r0 : BitVec 32 := Scalar.subi v5228_r0 v5230_r0
  have v5232_r0 : IVec S48x128 32 := broadcast S48x128 v5231_r0
  have v5233_r0 : IVec S48x128 1 := cmpi .ne v5226_r0 v5232_r0
  have v5234_r0 : IVec S48x128 32 := broadcast S48x128 2#32
  have v5235_r0 : IVec S48x128 32 := remsi v5217_r0 v5234_r0
  have v5236_r0 : IVec S48x128 32 := broadcast S48x128 0#32
  have v5237_r0 : IVec S48x128 1 := cmpi .ne v5235_r0 v5236_r0
  have v5238_r0 : IVec S48x128 1 := andi v5233_r0 v5237_r0
  have v5239_r0 : IVec S48x128 32 := broadcast S48x128 1#32
  have v5240_r0 : IVec S48x128 32 := subi v5219_r0 v5239_r0
  have v5241_r0 : IVec S48x128 32 := select v5238_r0 v5240_r0 v5219_r0
  have v5242_r0 : IVec S48x128 32 := broadcast S48x128 kk
  have v5243_r0 : IVec S48x128 32 := addi v5241_r0 v5242_r0
  have v5244_r0 : IVec S48x128 32 := broadcast S48x128 0#32
  have v5245_r0 : IVec S48x128 1 := cmpi .slt v5243_r0 v5244_r0
  have v5246_r0 : IVec S48x128 32 := broadcast S48x128 128#32
  have v5247_r0 : IVec S48x128 32 := addi v5243_r0 v5246_r0
  have v5248_r0 : IVec S48x128 32 := select v5245_r0 v5247_r0 v5243_r0
  have v5249_r0 : IVec S48x128x1 32 := shapeCast S48x128x1 v5248_r0 shapeCasts_S48x128_S48x128x1
  have v5250_r0 : IVec S48x128 32 := shapeCast S48x128 v5249_r0 shapeCasts_S48x128x1_S48x128
  v5250_r0

/-- One stored tile of results: even lanes of the first, odd lanes of the second. -/
def gval (ye yo : FVec F S48x128 .f32) (kk : BitVec 32) : FVec F S1x48x128 .bf16 :=
  have v5217_r0 : IVec S48x128 32 := iota .tc S48x128 32 [1] iota_S48x128_d1_w32
  have v5251_r0 : FVec F S48x128 .f32 := dynamicGather 1 ye (gidx kk)
  have v5285_r0 : FVec F S48x128 .f32 := dynamicGather 1 yo (gidx kk)
  let v5286_r0 : BitVec 1 := Scalar.cmpi .eq 2#32 0#32
  let v5287_r0 : BitVec 32 := Scalar.select v5286_r0 1#32 2#32
  have v5288_r0 : IVec S48x128 32 := broadcast S48x128 v5287_r0
  have v5289_r0 : IVec S48x128 32 := remsi v5217_r0 v5288_r0
  have v5290_r0 : IVec S48x128 32 := broadcast S48x128 0#32
  have v5291_r0 : IVec S48x128 1 := cmpi .ne v5289_r0 v5290_r0
  have v5292_r0 : IVec S48x128 32 := broadcast S48x128 0#32
  have v5293_r0 : IVec S48x128 1 := cmpi .slt v5289_r0 v5292_r0
  let v5294_r0 : BitVec 1 := Scalar.cmpi .slt v5287_r0 0#32
  have v5295_r0 : IVec S48x128 1 := broadcast S48x128 v5294_r0
  have v5296_r0 : IVec S48x128 1 := broadcastTo S48x128 v5295_r0 broadcasts_S48x128_S48x128
  have v5297_r0 : IVec S48x128 1 := xori v5293_r0 v5296_r0
  have v5298_r0 : IVec S48x128 1 := andi v5297_r0 v5291_r0
  have v5299_r0 : IVec S48x128 32 := broadcast S48x128 v5287_r0
  have v5300_r0 : IVec S48x128 32 := addi v5289_r0 v5299_r0
  have v5301_r0 : IVec S48x128 32 := select v5298_r0 v5300_r0 v5289_r0
  have v5302_r0 : IVec S48x128 32 := broadcast S48x128 0#32
  have v5303_r0 : IVec S48x128 1 := cmpi .eq v5301_r0 v5302_r0
  have v5304_r0 : FVec F S48x128 .f32 := select v5303_r0 v5251_r0 v5285_r0
  have v5305_r0 : FVec F S48x128 .bf16 := truncf .bf16 v5304_r0 bitsLt_bf16_f32
  have v5309_r0 : FVec F S1x48x128 .bf16 := shapeCast S1x48x128 v5305_r0 shapeCasts_S48x128_S1x48x128
  v5309_r0

section Results

variable (arg6 : Memref sig .tc .vmem S4x48x4096 .bf16)

/-- What the stores of a block's results owe. -/
structure OOk (n : BitVec 32) : Prop where
  o : ∀ j, j < 32 → ∀ a, oO n j a + S1x48x128.size a ≤ S4x48x4096.size a
  st : ∀ j (hj : j < 32), (arg6.access (Rect.unit (s := S4x48x4096) (oO n j) S1x48x128.size (o j hj))).Stores Finset.univ

def gst {α : Type} (n : BitVec 32) (h : OOk arg6 n) (j : Nat) (hj : j < 32) (ye yo : FVec F S48x128 .f32) (kk : BitVec 32)
    (k : Prog (TpuEff nD τ sig (Elt F) Λ₀ .tc) α) : Prog (TpuEff nD τ sig (Elt F) Λ₀ .tc) α := do
  let _x : Vec F S1x48x128 .bf16 ← Prog.lift (.load arg6 (Rect.unit (s := S4x48x4096) (oO n j) S1x48x128.size (h.o j hj)).toLoadRect (View.loadsAt_vmem h_S1x48x128))
  Prog.lift (.store arg6 (Rect.unit (s := S4x48x4096) (oO n j) S1x48x128.size (h.o j hj)) (gval ye yo kk) Finset.univ (h.st j hj) (.inl rfl))
  k

/-- One tile's results popped and stored. -/
def gpop {α : Type} (n : BitVec 32) (h : OOk arg6 n) (t : Nat) (ht : t < 8) (q : Fin 2) (A : Nat) (hA : Mxu.Fits A 96) (s : Mxu F)
    (k : Mxu F → Prog (TpuEff nD τ sig (Elt F) Λ₀ .tc) α) : Prog (TpuEff nD τ sig (Elt F) Λ₀ .tc) α :=
  gst (F := F) arg6 n h (4 * t) (by omega) (extractStridedSlice S48x128 ![0, 0] (s.read q A hA) slices_S96x256_o0_0_S48x128)
    (extractStridedSlice S48x128 ![48, 0] (s.read q A hA) slices_S96x256_o48_0_S48x128) 0#32 <|
  gst (F := F) arg6 n h (4 * t + 1) (by omega) (extractStridedSlice S48x128 ![0, 0] (s.read q A hA) slices_S96x256_o0_0_S48x128)
    (extractStridedSlice S48x128 ![48, 0] (s.read q A hA) slices_S96x256_o48_0_S48x128) 64#32 <|
  gst (F := F) arg6 n h (4 * t + 2) (by omega) (extractStridedSlice S48x128 ![0, 128] (s.read q A hA) slices_S96x256_o0_128_S48x128)
    (extractStridedSlice S48x128 ![48, 128] (s.read q A hA) slices_S96x256_o48_128_S48x128) 0#32 <|
  gst (F := F) arg6 n h (4 * t + 3) (by omega) (extractStridedSlice S48x128 ![0, 128] (s.read q A hA) slices_S96x256_o0_128_S48x128)
    (extractStridedSlice S48x128 ![48, 128] (s.read q A hA) slices_S96x256_o48_128_S48x128) 64#32 <|
  k (s.pop q A 96 hA)

/-- A block's eight tiles, popped and stored. -/
def gpops {α : Type} (n : BitVec 32) (h : OOk arg6 n) (s : Mxu F)
    (k : Mxu F → Prog (TpuEff nD τ sig (Elt F) Λ₀ .tc) α) : Prog (TpuEff nD τ sig (Elt F) Λ₀ .tc) α :=
  gpop (F := F) arg6 n h 0 (by omega) 0 0 (by decide) s fun s =>
  gpop (F := F) arg6 n h 1 (by omega) 1 0 (by decide) s fun s =>
  gpop (F := F) arg6 n h 2 (by omega) 0 24 (by decide) s fun s =>
  gpop (F := F) arg6 n h 3 (by omega) 1 24 (by decide) s fun s =>
  gpop (F := F) arg6 n h 4 (by omega) 0 48 (by decide) s fun s =>
  gpop (F := F) arg6 n h 5 (by omega) 1 48 (by decide) s fun s =>
  gpop (F := F) arg6 n h 6 (by omega) 0 72 (by decide) s fun s =>
  gpop (F := F) arg6 n h 7 (by omega) 1 72 (by decide) s fun s =>
  k s

end Results

end Cert.Proof.KernelIdeal
-- ==== Proof.IEq.lean ====
module

public import proofs.«01_k».proof.Proof.IProg
public meta import Idealize.ShloMosaic.Lib.Pipeline.Regions

@[expose] public section

set_option maxRecDepth 65536

noncomputable section

namespace Cert.Proof.KernelIdeal

open Cert.KernelIdeal Cert.KernelIdeal.Gen
open Idealize.ShloMosaic Idealize.SL.Sem

variable {F : FTy → Type} [FloatOps F]

theorem t2_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s0 : Mxu F) (t2 : Fin k0_t2_loop.trips) (s : Mxu F)
  (hT : TOk (gN t1) (gG t2) (gSlot (gN t1) (gG t2)))
  (hG : GOk (Scalar.addi (gG t2) 1#32) (Scalar.subi 528#32 (gSlot (gN t1) (gG t2)))) :
    k0_t2_body (F := F) arg0 harg0 arg1 harg1 arg2 harg2 arg3 harg3 arg4 harg4 arg5 harg5 arg6 harg6 arg7 harg7 arg8 harg8 arg9 0#32 1#32 t1 s0 (gN t1) t2 s
      = gstep (F := F) arg1 arg2 arg3 arg4 arg5 arg7 arg8 (gN t1) (gG t2) (gSlot (gN t1) (gG t2)) (Scalar.addi (gG t2) 1#32) (gBase (gN t1)) (Scalar.subi 528#32 (gSlot (gN t1) (gG t2))) hT hG s .ret := by
  chain_rfl

end Cert.Proof.KernelIdeal
-- ==== Proof.IEq2.lean ====
module

public import proofs.«01_k».proof.Proof.IProg
public meta import Idealize.ShloMosaic.Lib.Pipeline.Regions

@[expose] public section

set_option maxRecDepth 65536

noncomputable section

namespace Cert.Proof.KernelIdeal

open Cert.KernelIdeal Cert.KernelIdeal.Gen
open Idealize.ShloMosaic Idealize.SL.Sem

variable {F : FTy → Type} [FloatOps F]

theorem bind_bind.{v} {E : Type → Type v} {α β γ : Type} (p : Prog E α) (f : α → Prog E β) (g : β → Prog E γ) :
    Prog.bind (Prog.bind p f) g = Prog.bind p fun a => Prog.bind (f a) g := Prog.bind_assoc p f g

theorem gwaits_bind {α β : Type} (arg0 : Memref sig .tc .hbm S3328x8192 .i32) (arg7 : Memref sig .tc .vmem S106528x128 .i32) (arg9 : DmaSems sig S2)
    (n : BitVec 32) (h : DOk n) (k : Prog (TpuEff nD τ sig (Elt F) Λ₀ .tc) α) (f : α → Prog (TpuEff nD τ sig (Elt F) Λ₀ .tc) β) :
    ∀ (m : Nat) (hm : m ≤ 16), Prog.bind (gwaits (F := F) arg0 arg7 arg9 n h k m hm) f = gwaits (F := F) arg0 arg7 arg9 n h (Prog.bind k f) m hm
  | 0, _ => rfl
  | m + 1, hm => by
    refine congrArg (Prog.op _) (funext fun _ => gwaits_bind arg0 arg7 arg9 n h k f m (by omega))

theorem gstarts_bind {α β : Type} (arg0 : Memref sig .tc .hbm S3328x8192 .i32) (arg7 : Memref sig .tc .vmem S106528x128 .i32) (arg9 : DmaSems sig S2)
    (n : BitVec 32) (h : DOk n) (k : Prog (TpuEff nD τ sig (Elt F) Λ₀ .tc) α) (f : α → Prog (TpuEff nD τ sig (Elt F) Λ₀ .tc) β) :
    ∀ (m : Nat) (hm : m ≤ 16), Prog.bind (gstarts (F := F) arg0 arg7 arg9 n h k m hm) f = gstarts (F := F) arg0 arg7 arg9 n h (Prog.bind k f) m hm
  | 0, _ => rfl
  | m + 1, hm => by
    refine congrArg (Prog.op _) (funext fun _ => gstarts_bind arg0 arg7 arg9 n h k f m (by omega))

/-- The inner loop, the waits and the starts before the last group of a block. -/
def g109 (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s : Mxu F)
    (hD1 : k0_cond1 t1 = 1#1 → DOk (Scalar.addi (gN t1) 1#32)) (hD2 : k0_cond2 t1 = 1#1 → DOk (Scalar.addi (gN t1) 2#32)) {α : Type} (k : Mxu F → Prog (TpuEff nD τ sig (Elt F) Λ₀ .tc) α) :
    Prog (TpuEff nD τ sig (Elt F) Λ₀ .tc) α :=
  Prog.bind (Scf.Loop.for k0_t2_loop k0_t2_ok s (k0_t2_body arg0 harg0 arg1 harg1 arg2 harg2 arg3 harg3 arg4 harg4 arg5 harg5 arg6 harg6 arg7 harg7 arg8 harg8 arg9 0#32 1#32 t1 s (gN t1))) fun s' =>
  if h : k0_cond1 t1 = 1#1 then gwaits (F := F) arg0 arg7 arg9 (Scalar.addi (gN t1) 1#32) (hD1 h)
    (if h : k0_cond2 t1 = 1#1 then gstarts (F := F) arg0 arg7 arg9 (Scalar.addi (gN t1) 2#32) (hD2 h) (k s') 16 le_rfl else k s') 16 le_rfl
  else if h : k0_cond2 t1 = 1#1 then gstarts (F := F) arg0 arg7 arg9 (Scalar.addi (gN t1) 2#32) (hD2 h) (k s') 16 le_rfl else k s'

theorem part109_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s : Mxu F)
    (hD1 : k0_cond1 t1 = 1#1 → DOk (Scalar.addi (gN t1) 1#32)) (hD2 : k0_cond2 t1 = 1#1 → DOk (Scalar.addi (gN t1) 2#32)) :
    k0_part109 (F := F) arg0 harg0 arg1 harg1 arg2 harg2 arg3 harg3 arg4 harg4 arg5 harg5 arg6 harg6 arg7 harg7 arg8 harg8 arg9 0#32 1#32 t1 s = g109 arg0 harg0 arg1 harg1 arg2 harg2 arg3 harg3 arg4 harg4 arg5 harg5 arg6 harg6 arg7 harg7 arg8 harg8 arg9 t1 s hD1 hD2 fun s' => .ret
      (let m : BitVec 32 := Scalar.select (Scalar.cmpi .eq 2#32 0#32) 1#32 2#32
       let r : BitVec 32 := Scalar.remsi (Scalar.minsi (Scalar.addi (gN t1) 1#32) 3#32) m
       ⟨gN t1, s', gSlot (gN t1) 103#32, Scalar.subi 528#32 (gSlot (gN t1) 103#32), m, r, Scalar.cmpi .ne r 0#32⟩) := by
  chain_rfl

/-- One block: its inner loop, its copies, its last group and its results. -/
theorem t1_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (t1 : Fin k0_t1_loop.trips) (s : Mxu F)
    (hD1 : k0_cond1 t1 = 1#1 → DOk (Scalar.addi (gN t1) 1#32)) (hD2 : k0_cond2 t1 = 1#1 → DOk (Scalar.addi (gN t1) 2#32))
    (hT : TOk (gN t1) 103#32 (gSlot (gN t1) 103#32)) (hG : GOk 0#32 (Scalar.subi 528#32 (gSlot (gN t1) 103#32))) (hO : OOk arg6 (gN t1)) :
    k0_t1_body (F := F) arg0 harg0 arg1 harg1 arg2 harg2 arg3 harg3 arg4 harg4 arg5 harg5 arg6 harg6 arg7 harg7 arg8 harg8 arg9 t1 s = g109 arg0 harg0 arg1 harg1 arg2 harg2 arg3 harg3 arg4 harg4 arg5 harg5 arg6 harg6 arg7 harg7 arg8 harg8 arg9 t1 s hD1 hD2 fun s' =>
      gstep (F := F) arg1 arg2 arg3 arg4 arg5 arg7 arg8 (gN t1) 103#32 (gSlot (gN t1) 103#32) 0#32 (gBase (Scalar.minsi (Scalar.addi (gN t1) 1#32) 3#32))
        (Scalar.subi 528#32 (gSlot (gN t1) 103#32)) hT hG s' fun s'' => gpops (F := F) arg6 (gN t1) hO s'' .ret := by
  have e : k0_t1_body (F := F) arg0 harg0 arg1 harg1 arg2 harg2 arg3 harg3 arg4 harg4 arg5 harg5 arg6 harg6 arg7 harg7 arg8 harg8 arg9 t1 s = Prog.bind (k0_part109 (F := F) arg0 harg0 arg1 harg1 arg2 harg2 arg3 harg3 arg4 harg4 arg5 harg5 arg6 harg6 arg7 harg7 arg8 harg8 arg9 0#32 1#32 t1 s) fun x =>
      gstep (F := F) arg1 arg2 arg3 arg4 arg5 arg7 arg8 (gN t1) 103#32 (gSlot (gN t1) 103#32) 0#32 (gBase (Scalar.minsi (Scalar.addi (gN t1) 1#32) 3#32))
        (Scalar.subi 528#32 (gSlot (gN t1) 103#32)) hT hG x.2.1 fun s'' => gpops (F := F) arg6 (gN t1) hO s'' .ret := by
    show Prog.bind (Prog.bind (k0_part109 (F := F) arg0 harg0 arg1 harg1 arg2 harg2 arg3 harg3 arg4 harg4 arg5 harg5 arg6 harg6 arg7 harg7 arg8 harg8 arg9 0#32 1#32 t1 s) _) _ = _
    refine Eq.trans (Prog.bind_assoc _ _ _) ?_
    chain_rfl
  rw [e, part109_eq (hD1 := hD1) (hD2 := hD2)]
  unfold g109
  refine (bind_bind _ _ _).trans (congrArg _ (funext fun s' => ?_))
  split <;> split <;> (try rw [gwaits_bind]) <;> (try rw [gstarts_bind]) <;> rfl

/-- The whole body. -/
theorem root_eq (arg0 : Memref sig .tc .hbm S3328x8192 .i32) (harg0 : arg0.IsWhole) (arg1 : Memref sig .tc .smem S104x128 .i32) (harg1 : arg1.IsWhole) (arg2 : Memref sig .tc .smem S104x128 .i32) (harg2 : arg2.IsWhole) (arg3 : Memref sig .tc .vmem S104x24x256 .i32) (harg3 : arg3.IsWhole) (arg4 : Memref sig .tc .vmem S6656x128 .i32) (harg4 : arg4.IsWhole) (arg5 : Memref sig .tc .vmem S6656x128 .i32) (harg5 : arg5.IsWhole) (arg6 : Memref sig .tc .vmem S4x48x4096 .bf16) (harg6 : arg6.IsWhole) (arg7 : Memref sig .tc .vmem S106528x128 .i32) (harg7 : arg7.IsWhole) (arg8 : Memref sig .tc .vmem S1056x128 .i32) (harg8 : arg8.IsWhole) (arg9 : DmaSems sig S2) (h0 : DOk 0#32) (h1 : DOk 1#32) (hG : GOk 0#32 0#32) :
    cc0_gptq_linear_skel (F := F) arg0 harg0 arg1 harg1 arg2 harg2 arg3 harg3 arg4 harg4 arg5 harg5 arg6 harg6 arg7 harg7 arg8 harg8 arg9 =
      gstarts (F := F) arg0 arg7 arg9 0#32 h0 (gstarts (F := F) arg0 arg7 arg9 1#32 h1 (gwaits (F := F) arg0 arg7 arg9 0#32 h0
        (gwords (F := F) arg1 arg2 arg7 arg8 0#32 0#32 0#32 hG
          (Prog.bind (Scf.Loop.for k0_t1_loop k0_t1_ok Mxu.init (k0_t1_body (F := F) arg0 harg0 arg1 harg1 arg2 harg2 arg3 harg3 arg4 harg4 arg5 harg5 arg6 harg6 arg7 harg7 arg8 harg8 arg9)) fun s => s.exit >>= fun _ => .ret PUnit.unit) 32 le_rfl) 16 le_rfl) 16 le_rfl) 16 le_rfl := by
  chain_rfl

end Cert.Proof.KernelIdeal
-- ==== Proof.IVal.lean ====
/-
  What the kernel computes, as functions of its arguments: the gathered words, a tile's weights, the accumulated
  products, the results.
-/
module

public import proofs.«01_k».proof.Proof.IProg

@[expose] public section

noncomputable section

namespace Cert.Proof.KernelIdeal

open Cert.KernelIdeal Cert.KernelIdeal.Gen
open Idealize.ShloMosaic Idealize.SL.Sem

variable {F : FTy → Type} [FloatOps F]

/-- An array of words read at natural coordinates. -/
def pk {S : Shape} (f : S.Idx → BitVec 32) (v : Fin S.rank → Nat) : BitVec 32 :=
  if h : ∀ a, v a < S.size a then f (fun a => ⟨v a, h a⟩) else 0

theorem pk_eq {S : Shape} (f : S.Idx → BitVec 32) (i : S.Idx) (v : Fin S.rank → Nat) (h : ∀ a, (i a : Nat) = v a) : f i = pk f v := by
  have e : v = fun a => (i a : Nat) := funext fun a => (h a).symm
  subst e
  unfold pk
  rw [dif_pos fun a => (i a).isLt]

/-- The kernel's arguments: the staged words, the two index tables, the activations, the scales, the zeros. -/
structure Ins where
  q : S3328x8192.Idx → BitVec 32
  a : S104x128.Idx → BitVec 32
  sh : S104x128.Idx → BitVec 32
  xs : S104x24x256.Idx → BitVec 32
  st : S6656x128.Idx → BitVec 32
  zt : S6656x128.Idx → BitVec 32

/-- Every row the index table names is one of the staged words' rows. -/
def Ins.Ok (I : Ins) : Prop := ∀ i, (I.a i).toNat < 3328

theorem Ins.Ok.pk {I : Ins} (h : I.Ok) (v : Fin 2 → Nat) : (KernelIdeal.pk I.a v).toNat < 3328 := by
  unfold KernelIdeal.pk; split
  · exact h _
  · decide

variable (I : Ins)

/-- The words staged for block `n`. -/
def wrd (n : Nat) : S106528x128.Idx → BitVec 32 := fun i =>
  pk I.q ![((i 0 : Nat) % 53264) % 3329, (n * 16 + ((i 0 : Nat) % 53264) / 3329) * 128 + (i 1 : Nat)]

/-- Row `r` of half `h` of the block's sixteen chunks. -/
def rowsOf (n r h : Nat) : IVec S8x128 32 := fun x => pk I.q ![r, (n * 16 + (8 * h + (x 0 : Nat))) * 128 + (x 1 : Nat)]

/-- The byte words of group `g`'s position `j`. -/
def byt (n g j h : Nat) : IVec S8x128 32 := k0_pay10 (F := F) (pk I.sh ![g, j]) (rowsOf I n (pk I.a ![g, j]).toNat h)

/-- Four packed. -/
def srtRows (n g w h : Nat) : IVec S8x128 32 :=
  shapeCast S8x128 (packElementwiseInt 8 ![byt (F := F) I n g (4 * w) h, byt (F := F) I n g (4 * w + 1) h, byt (F := F) I n g (4 * w + 2) h,
    byt (F := F) I n g (4 * w + 3) h]) shapeCasts_S8x128_S8x128

/-- Word `w` of chunk `C`, lane `l`. -/
def srtVal (n g C w l : Nat) : BitVec 32 := pk (srtRows (F := F) I n g w (C / 8)) ![C % 8, l]

def tileRows (n g C : Nat) : IVec S32x128 32 := fun x => srtVal (F := F) I n g C (x 0 : Nat) (x 1 : Nat)
def stRow (n g C : Nat) : IVec S1x128 32 := fun x => pk I.st ![(n * 104 + g) * 16 + C, (x 1 : Nat)]
def ztRow (n g C : Nat) : IVec S1x128 32 := fun x => pk I.zt ![(n * 104 + g) * 16 + C, (x 1 : Nat)]
def xSlab (g : Nat) : IVec S1x24x256 32 := fun x => pk I.xs ![g, (x 1 : Nat), (x 2 : Nat)]

/-- A tile's weights, a group's left operand, their product. -/
def wt (n g t : Nat) : FVec F S256x256 .bf16 :=
  gwt (F := F) (tileRows (F := F) I n g (2 * t)) (stRow I n g (2 * t)) (ztRow I n g (2 * t))
    (tileRows (F := F) I n g (2 * t + 1)) (stRow I n g (2 * t + 1)) (ztRow I n g (2 * t + 1))
def lh (g : Nat) : FVec F S96x256 .bf16 := glhs (F := F) (xSlab I g)
def pas (n g t : Nat) : FVec F (Mxu.STile 96) .f32 := FloatOps.mxuPass (DotDims.plain 96 256 256) (lh (F := F) I g) (wt (F := F) I n g t)

/-- The products of groups `0` to `g` added up. -/
def acc (n t : Nat) : Nat → FVec F (Mxu.STile 96) .f32
  | 0 => pas (F := F) I n 0 t
  | g + 1 => addf (acc n t g) (pas (F := F) I n (g + 1) t)

/-- What a tile's rows hold once `k` groups were added: nothing at first. -/
def accO (n t : Nat) : Nat → Option (FVec F (Mxu.STile 96) .f32)
  | 0 => none
  | g + 1 => some (acc (F := F) I n t g)

/-- The even or odd rows of column block `j` of a tile's products. -/
def rowsE (y : FVec F S96x256 .f32) (j : Nat) : FVec F S48x128 .f32 :=
  if (j / 2) % 2 = 0 then extractStridedSlice S48x128 ![0, 0] y slices_S96x256_o0_0_S48x128
  else extractStridedSlice S48x128 ![0, 128] y slices_S96x256_o0_128_S48x128
def rowsO (y : FVec F S96x256 .f32) (j : Nat) : FVec F S48x128 .f32 :=
  if (j / 2) % 2 = 0 then extractStridedSlice S48x128 ![48, 0] y slices_S96x256_o48_0_S48x128
  else extractStridedSlice S48x128 ![48, 128] y slices_S96x256_o48_128_S48x128

/-- Block `n`'s `j`-th stored tile of results. -/
def oblk (n j : Nat) : FVec F S1x48x128 .bf16 :=
  gval (F := F) (rowsE (acc (F := F) I n (j / 4) 103) j) (rowsO (acc (F := F) I n (j / 4) 103) j) (if j % 2 = 0 then 0#32 else 64#32)

/-- The results. -/
def out : S4x48x4096.Idx → F .bf16 := fun i =>
  oblk (F := F) I (i 0 : Nat) ((i 2 : Nat) / 128) (fun a => match a with
    | ⟨0, _⟩ => ⟨0, Nat.one_pos⟩
    | ⟨1, _⟩ => ⟨(i 1 : Nat), (i 1).isLt⟩
    | ⟨2, _⟩ => ⟨(i 2 : Nat) % 128, Nat.mod_lt _ (by decide)⟩)

/-! ## The offsets -/

theorem oA_eq {g : Nat} (hg : g < 104) (j : Nat) : oA (BitVec.ofNat 32 g) j = ![g, j] := by
  simp only [oA, Scalar.indexCast, BitVec.toNat_ofNat]
  rw [Nat.mod_eq_of_lt (by omega)]

theorem oW_eq {s h : Nat} (hs : s < 2) (hh : h < 2) {q : BitVec 32} (hq : q.toNat < 3328) :
    oW (BitVec.ofNat 32 (53264 * s)) q (BitVec.ofNat 32 (26632 * h)) = ![q.toNat + 53264 * s + 26632 * h, 0] := by
  simp only [oW, Scalar.indexCast, Scalar.addi, IntOp.addi, BitVec.toNat_add, BitVec.toNat_ofNat]
  congr 1; omega

theorem oS_eq {s w h : Nat} (hs : s < 2) (hw : w < 32) (hh : h < 2) :
    oS (BitVec.ofNat 32 (528 * s)) (BitVec.ofNat 32 w) (BitVec.ofNat 32 (264 * h)) = ![528 * s + w + 264 * h, 0] := by
  simp only [oS, Scalar.indexCast, Scalar.addi, IntOp.addi, BitVec.toNat_add, BitVec.toNat_ofNat]
  congr 1; omega

theorem oR_eq {s C : Nat} (hs : s < 2) (hC : C < 16) :
    oR (BitVec.ofNat 32 (528 * s)) (BitVec.ofNat 32 (33 * C)) = ![528 * s + 33 * C, 0] := by
  simp only [oR, Scalar.indexCast, Scalar.addi, IntOp.addi, BitVec.toNat_add, BitVec.toNat_ofNat]
  congr 1; omega

theorem oT_eq {n g C : Nat} (hn : n < 4) (hg : g < 104) (hC : C < 16) :
    oT (BitVec.ofNat 32 n) (BitVec.ofNat 32 g) (BitVec.ofNat 32 C) = ![(n * 104 + g) * 16 + C, 0] := by
  simp only [oT, Scalar.indexCast, Scalar.addi, Scalar.muli, IntOp.addi, IntOp.muli, BitVec.toNat_add, BitVec.toNat_mul, BitVec.toNat_ofNat]
  congr 1; omega

theorem oX_eq {g : Nat} (hg : g < 104) : oX (BitVec.ofNat 32 g) = ![g, 0, 0] := by
  simp only [oX, Scalar.indexCast, BitVec.toNat_ofNat]
  congr 1; omega

theorem gmod2_eq {n : Nat} (hn : n < 512) : gmod2 (BitVec.ofNat 32 n) = BitVec.ofNat 32 (n % 2) := by
  have h : ∀ n : Fin 512, gmod2 (BitVec.ofNat 32 n) = BitVec.ofNat 32 (n % 2) := by decide +kernel
  exact h ⟨n, hn⟩

theorem gSlot_eq {n g : Nat} (hn : n < 4) (hg : g < 104) : gSlot (BitVec.ofNat 32 n) (BitVec.ofNat 32 g) = BitVec.ofNat 32 (528 * (g % 2)) := by
  have e : Scalar.addi (Scalar.muli (BitVec.ofNat 32 n) 104#32) (BitVec.ofNat 32 g) = BitVec.ofNat 32 (n * 104 + g) := by
    apply BitVec.eq_of_toNat_eq
    simp only [Scalar.addi, Scalar.muli, IntOp.addi, IntOp.muli, BitVec.toNat_add, BitVec.toNat_mul, BitVec.toNat_ofNat]; omega
  unfold gSlot
  rw [e, gmod2_eq (by omega), show (n * 104 + g) % 2 = g % 2 by omega]
  apply BitVec.eq_of_toNat_eq
  simp only [Scalar.muli, IntOp.muli, BitVec.toNat_mul, BitVec.toNat_ofNat]; omega

theorem nslot_eq {s : Nat} (hs : s < 2) : Scalar.subi 528#32 (BitVec.ofNat 32 (528 * s)) = BitVec.ofNat 32 (528 * (1 - s)) := by
  have : s = 0 ∨ s = 1 := by omega
  rcases this with rfl | rfl <;> decide

theorem gBase_eq {n : Nat} (hn : n < 4) : gBase (BitVec.ofNat 32 n) = BitVec.ofNat 32 (53264 * (n % 2)) := by
  unfold gBase
  rw [gmod2_eq (by omega)]
  apply BitVec.eq_of_toNat_eq
  simp only [Scalar.muli, IntOp.muli, BitVec.toNat_mul, BitVec.toNat_ofNat]; omega

theorem oQ_eq {n : Nat} (hn : n < 4) : oQ (BitVec.ofNat 32 n) = ![n % 2] := by
  unfold oQ; rw [gmod2_eq (by omega), BitVec.toNat_ofNat]; congr 1; omega

theorem oD_eq {n c : Nat} (hn : n < 4) (hc : c < 16) : oD (BitVec.ofNat 32 n) (BitVec.ofNat 32 c) = ![((n % 2) * 16 + c) * 3329, 0] := by
  unfold oD; rw [gmod2_eq (by omega)]
  simp only [Scalar.addi, Scalar.muli, IntOp.addi, IntOp.muli, BitVec.toNat_add, BitVec.toNat_mul, BitVec.toNat_ofNat]
  congr 1; omega

theorem oB_eq {n c : Nat} (hn : n < 4) (hc : c < 16) : oB (BitVec.ofNat 32 n) (BitVec.ofNat 32 c) = ![0, (n * 16 + c) * 128] := by
  simp only [oB, Scalar.addi, Scalar.muli, IntOp.addi, IntOp.muli, BitVec.toNat_add, BitVec.toNat_mul, BitVec.toNat_ofNat]
  congr 2; omega

theorem oO_eq {n : Nat} (hn : n < 4) (j : Nat) : oO (BitVec.ofNat 32 n) j = ![n, 0, 128 * j] := by
  simp only [oO, Scalar.indexCast, BitVec.toNat_ofNat]
  rw [Nat.mod_eq_of_lt (by omega)]

theorem gchk_ok {s : Nat} (hs : s < 2) {q : BitVec 32} (hq : q.toNat < 3328) : gchk (BitVec.ofNat 32 (53264 * s)) q := by
  intro r a
  right
  rw [oW_eq hs r.isLt hq]
  have := r.isLt
  match a with
  | ⟨0, _⟩ => show q.toNat + 53264 * s + 26632 * r.val + 3329 * (8 - 1) < 106528; omega
  | ⟨1, _⟩ => show 0 + 1 * (128 - 1) < 128; omega

theorem GOk_ok {g s : Nat} (hg : g < 104) (hs : s < 2) : GOk (BitVec.ofNat 32 g) (BitVec.ofNat 32 (528 * s)) where
  a j hj a := by
    rw [oA_eq hg]
    match a with
    | ⟨0, _⟩ => show g + 1 ≤ 104; omega
    | ⟨1, _⟩ => show j + 1 ≤ 128; omega
  s w hw r a := by
    right
    rw [oS_eq hs hw r.isLt]
    have := r.isLt
    match a with
    | ⟨0, _⟩ => show 528 * s + w + 264 * r.val + 33 * (8 - 1) < 1056; omega
    | ⟨1, _⟩ => show 0 + 1 * (128 - 1) < 128; omega

theorem TOk_ok {n g s : Nat} (hn : n < 4) (hg : g < 104) (hs : s < 2) :
    TOk (BitVec.ofNat 32 n) (BitVec.ofNat 32 g) (BitVec.ofNat 32 (528 * s)) where
  r c hc a := by
    rw [oR_eq hs hc]
    match a with
    | ⟨0, _⟩ => show 528 * s + 33 * c + 32 ≤ 1056; omega
    | ⟨1, _⟩ => show 0 + 128 ≤ 128; omega
  t c hc a := by
    rw [oT_eq hn hg hc]
    match a with
    | ⟨0, _⟩ => show (n * 104 + g) * 16 + c + 1 ≤ 6656; omega
    | ⟨1, _⟩ => show 0 + 128 ≤ 128; omega
  x a := by
    rw [oX_eq hg]
    match a with
    | ⟨0, _⟩ => show g + 1 ≤ 104; omega
    | ⟨1, _⟩ => show 0 + 24 ≤ 24; omega
    | ⟨2, _⟩ => show 0 + 256 ≤ 256; omega

theorem DOk_ok {n : Nat} (hn : n < 4) : DOk (BitVec.ofNat 32 n) where
  q a := by
    rw [oQ_eq hn]
    match a with
    | ⟨0, _⟩ => show n % 2 + 1 ≤ 2; omega
  d c hc a := by
    rw [oD_eq hn hc]
    match a with
    | ⟨0, _⟩ => show ((n % 2) * 16 + c) * 3329 + 3328 ≤ 106528; omega
    | ⟨1, _⟩ => show 0 + 128 ≤ 128; omega
  s c hc a := by
    rw [oB_eq hn hc]
    match a with
    | ⟨0, _⟩ => show 0 + 3328 ≤ 3328; omega
    | ⟨1, _⟩ => show (n * 16 + c) * 128 + 128 ≤ 8192; omega

/-! ## What the sorted words hold -/

/-- From `f` to `f'`, words `k` to `k'` of every chunk of a slot were stored for `(n, g)`, and nothing else changed. -/
def Ext (s k k' n g : Nat) (f f' : S1056x128.Idx → BitVec 32) : Prop :=
  (∀ C w l, C < 16 → k ≤ w → w < k' → l < 128 → pk f' ![528 * s + w + 33 * C, l] = srtVal (F := F) I n g C w l)
  ∧ ∀ r l, (∀ C w, C < 16 → k ≤ w → w < k' → r ≠ 528 * s + w + 33 * C) → pk f' ![r, l] = pk f ![r, l]

theorem Ext.trans {s k k' k'' n g : Nat} {f f' f'' : S1056x128.Idx → BitVec 32} (hk' : k'' ≤ 33)
    (h : Ext (F := F) I s k k' n g f f') (h' : Ext (F := F) I s k' k'' n g f' f'') (h0 : k ≤ k') (h1 : k' ≤ k'') : Ext (F := F) I s k k'' n g f f'' := by
  refine ⟨fun C w l hC hk hk2 hl => ?_, fun r l hr => ?_⟩
  · by_cases hw : w < k'
    · rw [h'.2, h.1 C w l hC hk hw hl]
      intro C' w' hC' hw' hw'' e
      omega
    · exact h'.1 C w l hC (by omega) hk2 hl
  · rw [h'.2 r l fun C w hC h2 h3 => hr C w hC (by omega) h3, h.2 r l fun C w hC h2 h3 => hr C w hC h2 (by omega)]

/-- Slot `s` holds the words of `(n, g)`. -/
def Sorted (s n g : Nat) (f : S1056x128.Idx → BitVec 32) : Prop :=
  ∀ C w l, C < 16 → w < 32 → l < 128 → pk f ![528 * s + w + 33 * C, l] = srtVal (F := F) I n g C w l

theorem Ext.sorted {s n g : Nat} {f f' : S1056x128.Idx → BitVec 32} (h : Ext (F := F) I s 0 32 n g f f') : Sorted (F := F) I s n g f' :=
  fun C w l hC hw hl => h.1 C w l hC (by omega) hw hl

theorem Sorted.ext {s s' k k' n g n' g' : Nat} {f f' : S1056x128.Idx → BitVec 32} (hs : s < 2) (hs' : s' < 2) (hne : s ≠ s') (hk : k' ≤ 32)
    (h : Sorted (F := F) I s n g f) (h' : Ext (F := F) I s' k k' n' g' f f') : Sorted (F := F) I s n g f' := by
  intro C w l hC hw hl
  rw [h'.2, h C w l hC hw hl]
  intro C' w' hC' h1 h2 e
  omega

end Cert.Proof.KernelIdeal
-- ==== Proof.IRun1.lean ====
/-
  One gathered word, run: the four bytes' rows read and the packed words stored.
-/
module

public import proofs.«01_k».proof.Proof.IVal
public import proofs.«01_k».proof.Proof.Gen.KernelIdeal.Launch
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The operands: the staged words' array, the index tables, the activations, the scales, the zeros, the results, and
    the two scratch buffers. -/
abbrev mQ : Memref sig .tc .hbm S3328x8192 .i32 := Memref.whole main_v35
abbrev mA : Memref sig .tc .smem S104x128 .i32 := Memref.whole cc0_stg0_0
abbrev mH : Memref sig .tc .smem S104x128 .i32 := Memref.whole cc0_stg1_0
abbrev mX : Memref sig .tc .vmem S104x24x256 .i32 := Memref.whole cc0_stg2_0
abbrev mS : Memref sig .tc .vmem S6656x128 .i32 := Memref.whole cc0_stg3_0
abbrev mZ : Memref sig .tc .vmem S6656x128 .i32 := Memref.whole cc0_stg4_0
abbrev mO : Memref sig .tc .vmem S4x48x4096 .bf16 := Memref.whole cc0_stg5_0
abbrev mW : Memref sig .tc .vmem S106528x128 .i32 := Memref.whole cc0_scratch0
abbrev mT : Memref sig .tc .vmem S1056x128 .i32 := Memref.whole cc0_scratch1

/-- A memref's buffer held whole; held on a set of elements. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev ptOn (c : Dev nD) {sp : Space} {S : Shape} {e : EltTy} (M : Memref sig .tc sp S e) (s : Finset (Idx (M.view.loc (c : Thread nD τ))))
    (f : Buf (Elt F) (M.view.loc (c : Thread nD τ))) : sProp 𝕄 :=
  M.view.loc (c : Thread nD τ) ↦[s]{fullShare} f

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The rows staged for the blocks of parity `s`. -/
def wset (s : Nat) : Finset S106528x128.Idx := Finset.univ.filter fun i => (i 0 : Nat) / 53264 = s ∧ ((i 0 : Nat) % 53264) % 3329 < 3328

theorem ret_bind' {E : Type → Type} {α β : Type} (a : α) (k : α → Prog E β) : (Prog.ret a).bind k = k a := rfl

variable (c : Dev nD) (I : Ins) {α : Type} (Q : α → sProp (MT nD τ sig Unit (Elt F) ℕ (Pipeline.UD sig nD τ) ℕ))

/-- The strided rows lie among the staged ones, -/
theorem rows_mem {s h : Nat} (hs : s < 2) (hh : h < 2) {q : BitVec 32} (hq : q.toNat < 3328) {b hb : BitVec 32} (eb : b = BitVec.ofNat 32 (53264 * s))
    (eh : hb = BitVec.ofNat 32 (26632 * h))
    (hr : ∀ a, S8x128.size a = 0 ∨ oW b q hb a + (![3329, 1] : Fin 2 → Nat) a * (S8x128.size a - 1) < S106528x128.size a) :
    mW.view.setOn (⟨oW b q hb, S8x128.size, ![3329, 1], hr⟩ : LoadRect S106528x128).set ⊆ wset s := by
  subst eb eh
  intro i hi
  have e0 : oW (BitVec.ofNat 32 (53264 * s)) q (BitVec.ofNat 32 (26632 * h)) 0 = q.toNat + 53264 * s + 26632 * h := by rw [oW_eq hs hh hq]; rfl
  simp [View.setOn, LoadRect.set] at hi
  obtain ⟨a, ⟨⟨j, hj8, ha⟩, -⟩, rfl⟩ := hi
  rw [e0] at ha
  refine Finset.mem_filter.mpr ⟨Finset.mem_univ _, ?_⟩
  show (a 0 : Nat) / 53264 = s ∧ ((a 0 : Nat) % 53264) % 3329 < 3328
  omega

/-- and hold the block's rows. -/
theorem rows_val {n h : Nat} (hh : h < 2) {q : BitVec 32} (hq : q.toNat < 3328) {b hb : BitVec 32} (eb : b = BitVec.ofNat 32 (53264 * (n % 2)))
    (eh : hb = BitVec.ofNat 32 (26632 * h))
    (hr : ∀ a, S8x128.size a = 0 ∨ oW b q hb a + (![3329, 1] : Fin 2 → Nat) a * (S8x128.size a - 1) < S106528x128.size a) :
    (mW.view.readAt (Elt F) (⟨oW b q hb, S8x128.size, ![3329, 1], hr⟩ : LoadRect S106528x128) (wrd I n) : IVec S8x128 32) = rowsOf I n q.toNat h := by
  subst eb eh
  have hs : n % 2 < 2 := Nat.mod_lt _ (by decide)
  funext x
  show wrd I n ((⟨oW _ q _, S8x128.size, ![3329, 1], hr⟩ : LoadRect S106528x128).idx x) = _
  generalize hi : (⟨oW _ q _, S8x128.size, ![3329, 1], hr⟩ : LoadRect S106528x128).idx x = i
  have e0 : oW (BitVec.ofNat 32 (53264 * (n % 2))) q (BitVec.ofNat 32 (26632 * h)) 0 = q.toNat + 53264 * (n % 2) + 26632 * h := by rw [oW_eq hs hh hq]; rfl
  have e1 : oW (BitVec.ofNat 32 (53264 * (n % 2))) q (BitVec.ofNat 32 (26632 * h)) 1 = 0 := by rw [oW_eq hs hh hq]; rfl
  have h0 : (i 0 : Nat) = q.toNat + 53264 * (n % 2) + 26632 * h + 3329 * (x 0 : Nat) := by
    rw [← hi, LoadRect.idx_apply]
    exact congrArg (· + 3329 * (x 0 : Nat)) e0
  have h1 : (i 1 : Nat) = (x 1 : Nat) := by
    rw [← hi, LoadRect.idx_apply]
    exact (congrArg (· + 1 * (x 1 : Nat)) e1).trans (by omega)
  have h8 : (x 0 : Nat) < 8 := (x 0).isLt
  unfold wrd rowsOf
  rw [h0, h1, show (q.toNat + 53264 * (n % 2) + 26632 * h + 3329 * (x 0 : Nat)) % 53264 % 3329 = q.toNat by omega,
    show (q.toNat + 53264 * (n % 2) + 26632 * h + 3329 * (x 0 : Nat)) % 53264 / 3329 = 8 * h + (x 0 : Nat) by omega]

/-- The word loaded from an index table. -/
theorem smem_val {g j : Nat} (hg : g < 104) (f : S104x128.Idx → BitVec 32)
    (hj : ∀ a, oA (BitVec.ofNat 32 g) j a + S1x1.size a ≤ S104x128.size a) (x : (Rect.unit (s := S104x128) (oA (BitVec.ofNat 32 g) j) S1x1.size hj).shape.Idx) :
    f ((Rect.unit (s := S104x128) (oA (BitVec.ofNat 32 g) j) S1x1.size hj).emb x) = pk f ![g, j] := by
  refine pk_eq f _ _ fun a => ?_
  rw [Rect.emb_apply]
  refine (congrArg (· + 1 * (x a : Nat)) (congrFun (oA_eq hg j) a)).trans ?_
  have hx : (x a : Nat) < S1x1.size a := (x a).isLt
  match a with
  | ⟨0, _⟩ => have : (x 0 : Nat) < 1 := hx
              show g + 1 * (x 0 : Nat) = g; omega
  | ⟨1, _⟩ => have : (x 1 : Nat) < 1 := hx
              show j + 1 * (x 1 : Nat) = j; omega

set_option maxHeartbeats 4000000 in
theorem gbyte_run {n g j : Nat} (hn : n < 4) (hg : g < 104) (hI : I.Ok)
    (hj : ∀ a, oA (BitVec.ofNat 32 g) j a + S1x1.size a ≤ S104x128.size a)
    (k : IVec S8x128 32 → IVec S8x128 32 → Prog (TpuEff nD τ sig (Elt F) Λ₀ .tc) α) :
    iprop(pt c mA I.a ∗ pt c mH I.sh ∗ ptOn c mW (wset (n % 2)) (wrd I n))
      ⊢ iprop((iprop(pt c mA I.a ∗ pt c mH I.sh ∗ ptOn c mW (wset (n % 2)) (wrd I n)) -∗ WP c (k (byt (F := F) I n g j 0) (byt (F := F) I n g j 1)) Q)
        -∗ WP c (gbyte (F := F) mA mH mW (BitVec.ofNat 32 g) (BitVec.ofNat 32 (53264 * (n % 2))) j hj k) Q) := by
  iintro ⟨HA, HH, HW⟩ Hk
  have hs : n % 2 < 2 := Nat.mod_lt _ (by decide)
  have hq : (pk I.a ![g, j]).toNat < 3328 := hI.pk _
  unfold gbyte smemLoad
  rw [smemLoadElt_bind]
  iapply (wp_smemLoadElt_named Variants.none (c : Thread nD τ) none Set.univ (m := mA) (r := Rect.unit (s := S104x128) (oA (BitVec.ofNat 32 g) j) S1x1.size hj)) $$ HA
  iintro HA %w %hw
  have ew : w = pk I.a ![g, j] := hw.trans (smem_val hg I.a hj _)
  subst ew
  simp only [Prog.bind_ret, smemLoadElt_bind]
  iapply (wp_assume Variants.none (c : Thread nD τ) none Set.univ (gchk_ok hs hq))
  rw [ret_bind']
  iapply (wp_smemLoadElt_named Variants.none (c : Thread nD τ) none Set.univ (m := mH) (r := Rect.unit (s := S104x128) (oA (BitVec.ofNat 32 g) j) S1x1.size hj)) $$ HH
  iintro HH %w %hw
  have ew : w = pk I.sh ![g, j] := hw.trans (smem_val hg I.sh hj _)
  subst ew
  iapply (wp_load Variants.none (c : Thread nD τ) none Set.univ (m := mW) (S := wset (n % 2)) (rows_mem (h := 0) hs (by decide) hq rfl rfl _)) $$ HW
  iintro HW
  rw [ret_bind', rows_val I (h := 0) (by decide) hq rfl rfl]
  iapply (wp_load Variants.none (c : Thread nD τ) none Set.univ (m := mW) (S := wset (n % 2)) (rows_mem (h := 1) hs (by decide) hq rfl rfl _)) $$ HW
  iintro HW
  rw [ret_bind', rows_val I (h := 1) (by decide) hq rfl rfl]
  iapply Hk
  isplitl [HA]; · iexact HA
  isplitl [HH]; · iexact HH
  iexact HW

/-- A stored half: the rows are the packed words, the others unchanged. -/
theorem put_val {s w h : Nat} (hs : s < 2) (hw : w < 32) (hh : h < 2) {b hb : BitVec 32} (eb : b = BitVec.ofNat 32 (528 * s))
    (eh : hb = BitVec.ofNat 32 (264 * h))
    (hr : ∀ a, S8x128.size a = 0 ∨ oS b (BitVec.ofNat 32 w) hb a + (![33, 1] : Fin 2 → Nat) a * (S8x128.size a - 1) < S1056x128.size a)
    (f : S1056x128.Idx → BitVec 32) (v : IVec S8x128 32) (f' : S1056x128.Idx → BitVec 32)
    (hf : f' = (mT.access ⟨(⟨oS b (BitVec.ofNat 32 w) hb, S8x128.size, ![33, 1], hr⟩ : LoadRect S1056x128), spos_33_1⟩).write (Elt F) f v Finset.univ) :
    (∀ C l, C < 8 → l < 128 → pk f' ![528 * s + w + 264 * h + 33 * C, l] = pk v ![C, l])
    ∧ ∀ r l, (∀ C, C < 8 → r ≠ 528 * s + w + 264 * h + 33 * C) → pk f' ![r, l] = pk f ![r, l] := by
  subst eb eh
  have e0 : oS (BitVec.ofNat 32 (528 * s)) (BitVec.ofNat 32 w) (BitVec.ofNat 32 (264 * h)) 0 = 528 * s + w + 264 * h := by rw [oS_eq hs hw hh]; rfl
  have e1 : oS (BitVec.ofNat 32 (528 * s)) (BitVec.ofNat 32 w) (BitVec.ofNat 32 (264 * h)) 1 = 0 := by rw [oS_eq hs hw hh]; rfl
  have key : ∀ x : S8x128.Idx, (mT.access ⟨(⟨oS (BitVec.ofNat 32 (528 * s)) (BitVec.ofNat 32 w) (BitVec.ofNat 32 (264 * h)), S8x128.size, ![33, 1], hr⟩ : LoadRect S1056x128), spos_33_1⟩).emb x
      = (fun a => match a with
        | ⟨0, _⟩ => ⟨528 * s + w + 264 * h + 33 * (x 0 : Nat), by have : (x 0 : Nat) < 8 := (x 0).isLt; show _ < 1056; omega⟩
        | ⟨1, _⟩ => ⟨(x 1 : Nat), (x 1).isLt⟩ : S1056x128.Idx) := by
    intro x
    funext a
    apply Fin.ext
    match a with
    | ⟨0, _⟩ => exact congrArg (· + 33 * (x 0 : Nat)) e0
    | ⟨1, _⟩ => exact (congrArg (· + 1 * (x 1 : Nat)) e1).trans (by show 0 + 1 * (x 1 : Nat) = (x 1 : Nat); omega)
  refine ⟨fun C l hC hl => ?_, fun r l hr' => ?_⟩
  · let x : S8x128.Idx := fun a => match a with | ⟨0, _⟩ => ⟨C, hC⟩ | ⟨1, _⟩ => ⟨l, hl⟩
    have h1 : f' ((mT.access ⟨(⟨oS (BitVec.ofNat 32 (528 * s)) (BitVec.ofNat 32 w) (BitVec.ofNat 32 (264 * h)), S8x128.size, ![33, 1], hr⟩ : LoadRect S1056x128), spos_33_1⟩).emb x) = v x := by
      rw [hf, View.write_emb_of_mem _ _ (Finset.mem_univ _)]; rfl
    rw [key] at h1
    refine Eq.trans (Eq.trans (pk_eq f' _ _ fun a => ?_).symm h1) (pk_eq v x _ fun a => ?_)
    · match a with | ⟨0, _⟩ => rfl | ⟨1, _⟩ => rfl
    · match a with | ⟨0, _⟩ => rfl | ⟨1, _⟩ => rfl
  · unfold pk
    split
    · rename_i hv
      rw [hf]
      refine View.write_of_not_mem _ _ _ fun hm => ?_
      simp [View.setOn] at hm
      obtain ⟨x, hx⟩ := hm
      have hx2 := (key x).symm.trans hx
      exact hr' (x 0 : Nat) (x 0).isLt (by have := congrArg (fun i : S1056x128.Idx => (i 0 : Nat)) hx2; exact this.symm)
    · rfl

/-- Four bytes packed and stored. -/
theorem gput_run {s w h : Nat} (hs : s < 2) (hw : w < 32) (hh : h < 2) {b hb : BitVec 32} (eb : b = BitVec.ofNat 32 (528 * s))
    (eh : hb = BitVec.ofNat 32 (264 * h))
    (hr : ∀ a, S8x128.size a = 0 ∨ oS b (BitVec.ofNat 32 w) hb a + (![33, 1] : Fin 2 → Nat) a * (S8x128.size a - 1) < S1056x128.size a)
    (f : S1056x128.Idx → BitVec 32) (v0 v1 v2 v3 : IVec S8x128 32) (k : Prog (TpuEff nD τ sig (Elt F) Λ₀ .tc) α) :
    pt c mT f ⊢ iprop((∀ f' : S1056x128.Idx → BitVec 32, ⌜(∀ C l, C < 8 → l < 128 → pk f' ![528 * s + w + 264 * h + 33 * C, l]
            = pk (shapeCast S8x128 (packElementwiseInt 8 ![v0, v1, v2, v3]) shapeCasts_S8x128_S8x128 : IVec S8x128 32) ![C, l])
          ∧ ∀ r l, (∀ C, C < 8 → r ≠ 528 * s + w + 264 * h + 33 * C) → pk f' ![r, l] = pk f ![r, l]⌝ -∗ pt c mT f' -∗ WP c k Q)
        -∗ WP c (gput (F := F) mT b (BitVec.ofNat 32 w) hb hr v0 v1 v2 v3 k) Q) := by
  iintro HT Hk
  unfold gput
  iapply (wp_load Variants.none (c : Thread nD τ) none Set.univ (m := mT) (S := Finset.univ) (Finset.subset_univ _)) $$ HT
  iintro HT
  simp only [ret_bind']
  iapply (wp_store Variants.none (c : Thread nD τ) none Set.univ (m := mT) (r := ⟨(⟨oS b (BitVec.ofNat 32 w) hb, S8x128.size, ![33, 1], hr⟩ : LoadRect S1056x128), spos_33_1⟩) (S := Finset.univ) (Finset.subset_univ _)) $$ HT
  iintro HT
  simp only [ret_bind']
  iapply Hk $$ [] HT
  ipureintro
  exact put_val (F := F) hs hw hh eb eh hr f _ _ rfl

/-- What a gathered word reads. -/
abbrev rd (n : Nat) : sProp 𝕄 := iprop(pt c mA I.a ∗ pt c mH I.sh ∗ ptOn c mW (wset (n % 2)) (wrd I n))

/-- One gathered word. -/
theorem gword_run {n g s w : Nat} (hn : n < 4) (hg : g < 104) (hs : s < 2) (hw : w < 32) (hI : I.Ok) (hG : GOk (BitVec.ofNat 32 g) (BitVec.ofNat 32 (528 * s)))
    (f : S1056x128.Idx → BitVec 32) (k : Prog (TpuEff nD τ sig (Elt F) Λ₀ .tc) α) :
    iprop(rd (F := F) c I n ∗ pt c mT f)
      ⊢ iprop((∀ f' : S1056x128.Idx → BitVec 32, ⌜Ext (F := F) I s w (w + 1) n g f f'⌝ -∗ iprop(rd (F := F) c I n ∗ pt c mT f') -∗ WP c k Q)
        -∗ WP c (gword (F := F) mA mH mW mT (BitVec.ofNat 32 g) (BitVec.ofNat 32 (53264 * (n % 2))) (BitVec.ofNat 32 (528 * s)) hG w hw k) Q) := by
  iintro ⟨HR, HT⟩ Hk
  unfold gword
  iapply (gbyte_run c I Q hn hg hI) $$ HR
  iintro HR
  iapply (gbyte_run c I Q hn hg hI) $$ HR
  iintro HR
  iapply (gbyte_run c I Q hn hg hI) $$ HR
  iintro HR
  iapply (gbyte_run c I Q hn hg hI) $$ HR
  iintro HR
  iapply (gput_run c Q (h := 0) hs hw (by decide) rfl rfl) $$ HT
  iintro %f1 %h1 HT
  iapply (gput_run c Q (h := 1) hs hw (by decide) rfl rfl) $$ HT
  iintro %f2 %h2 HT
  iapply Hk $$ [] [HR HT]
  · ipureintro
    refine ⟨fun C w' l hC hw1 hw2 hl => ?_, fun r l hr => ?_⟩
    · obtain rfl : w' = w := by omega
      unfold srtVal
      by_cases h8 : C < 8
      · rw [h2.2 _ _ (fun C' hC' => by omega), show 528 * s + w' + 33 * C = 528 * s + w' + 264 * 0 + 33 * C by omega, h1.1 C l h8 hl,
          Nat.div_eq_of_lt h8, Nat.mod_eq_of_lt h8]
        rfl
      · rw [show 528 * s + w' + 33 * C = 528 * s + w' + 264 * 1 + 33 * (C - 8) by omega, h2.1 (C - 8) l (by omega) hl,
          show C / 8 = 1 by omega, show C % 8 = C - 8 by omega]
        rfl
    · rw [h2.2 _ _ (fun C hC => by have := hr (C + 8) w (by omega) (by omega) (by omega); omega),
        h1.2 _ _ (fun C hC => by have := hr C w (by omega) (by omega) (by omega); omega)]
  · isplitl [HR]; · iexact HR
    iexact HT

/-- Four. -/
theorem gfour_run {n g s t : Nat} (hn : n < 4) (hg : g < 104) (hs : s < 2) (ht : t < 8) (hI : I.Ok) (hG : GOk (BitVec.ofNat 32 g) (BitVec.ofNat 32 (528 * s)))
    (f : S1056x128.Idx → BitVec 32) (k : Prog (TpuEff nD τ sig (Elt F) Λ₀ .tc) α) :
    iprop(rd (F := F) c I n ∗ pt c mT f)
      ⊢ iprop((∀ f' : S1056x128.Idx → BitVec 32, ⌜Ext (F := F) I s (4 * t) (4 * (t + 1)) n g f f'⌝ -∗ iprop(rd (F := F) c I n ∗ pt c mT f') -∗ WP c k Q)
        -∗ WP c (gfour (F := F) mA mH mW mT (BitVec.ofNat 32 g) (BitVec.ofNat 32 (53264 * (n % 2))) (BitVec.ofNat 32 (528 * s)) hG t ht k) Q) := by
  iintro HR Hk
  unfold gfour
  iapply (gword_run c I Q hn hg hs _ hI) $$ HR
  iintro %f1 %h1 HR
  iapply (gword_run c I Q hn hg hs _ hI) $$ HR
  iintro %f2 %h2 HR
  iapply (gword_run c I Q hn hg hs _ hI) $$ HR
  iintro %f3 %h3 HR
  iapply (gword_run c I Q hn hg hs _ hI) $$ HR
  iintro %f4 %h4 HR
  iapply Hk $$ [] HR
  ipureintro
  exact ((h1.trans I (by omega) h2 (by omega) (by omega)).trans I (by omega) h3 (by omega) (by omega)).trans I (by omega) h4 (by omega) (by omega)

/-- The last `m` words of a group. -/
theorem gwords_run {n g s : Nat} (hn : n < 4) (hg : g < 104) (hs : s < 2) (hI : I.Ok) (hG : GOk (BitVec.ofNat 32 g) (BitVec.ofNat 32 (528 * s)))
    (k : Prog (TpuEff nD τ sig (Elt F) Λ₀ .tc) α) : ∀ (m : Nat) (hm : m ≤ 32) (f : S1056x128.Idx → BitVec 32),
    iprop(rd (F := F) c I n ∗ pt c mT f)
      ⊢ iprop((∀ f' : S1056x128.Idx → BitVec 32, ⌜Ext (F := F) I s (32 - m) 32 n g f f'⌝ -∗ iprop(rd (F := F) c I n ∗ pt c mT f') -∗ WP c k Q)
        -∗ WP c (gwords (F := F) mA mH mW mT (BitVec.ofNat 32 g) (BitVec.ofNat 32 (53264 * (n % 2))) (BitVec.ofNat 32 (528 * s)) hG k m hm) Q)
  | 0, hm, f => by
    iintro HR Hk
    unfold gwords
    iapply Hk $$ [] HR
    ipureintro
    exact ⟨fun C w l hC h1 h2 hl => by omega, fun r l _ => rfl⟩
  | m + 1, hm, f => by
    iintro HR Hk
    unfold gwords
    iapply (gword_run c I Q hn hg hs _ hI) $$ HR
    iintro %f1 %h1 HR
    iapply (gwords_run hn hg hs hI hG k m _ f1) $$ HR
    iintro %f2 %h2 HR
    iapply Hk $$ [] HR
    ipureintro
    have e : 32 - (m + 1) + 1 = 32 - m := by omega
    rw [e] at h1
    exact h1.trans I (by omega) h2 (by omega) (by omega)

end Cert.Proof.KernelIdeal
-- ==== Proof.IRun3.lean ====
/-
  A block's sixteen copies: started from the rows at any contents, waited for with every row staged.
-/
module

public import proofs.«01_k».proof.Proof.IRun1

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The cell of the copies of the blocks of parity `s`. -/
def dsem (s : Nat) : DmaSem sig := if s = 0 then ⟨6, by decide⟩ else ⟨7, by decide⟩

theorem gsem_at {s : Nat} (hs : s < 2) {o : Fin 1 → Nat} (eo : o = ![s]) (ho : ∀ a, o a + S1.size a ≤ S2.size a) :
    ((cc0_scratch2.slice (Rect.unit (s := S2) o S1.size ho)).squeeze S_ squeezes_S1_S_).sem = dsem s := by
  subst eo
  have key : ∀ y : S1.Idx, (S2.rowMajor ((Rect.unit (s := S2) ![s] S1.size ho).emb y) : Nat) = s := fun y => by
    have hy : (y 0 : Nat) < 1 := (y 0).isLt
    refine (Shape.rowMajor_val_one _).trans ((Rect.emb_apply (Rect.unit (s := S2) ![s] S1.size ho) y 0).trans ?_)
    show s + 1 * (y 0 : Nat) = s
    omega
  apply Fin.ext
  refine (congrArg (6 + ·) (key _)).trans ?_
  match s, hs with
  | 0, _ => rfl
  | 1, _ => rfl

theorem gsem_eq {n : Nat} (hn : n < 4) (h : DOk (BitVec.ofNat 32 n)) : (gsem cc0_scratch2 (BitVec.ofNat 32 n) h).sem = dsem (n % 2) :=
  gsem_at (Nat.mod_lt _ (by decide)) (oQ_eq hn) _

/-- The rows a chunk's copy lands at, the columns it is read from; from chunk `j` on; and of the whole block. -/
def dset (n t : Nat) : Finset S106528x128.Idx := Finset.univ.filter fun i => (i 0 : Nat) / 3329 = (n % 2) * 16 + t ∧ (i 0 : Nat) % 3329 < 3328
def sset (n t : Nat) : Finset S3328x8192.Idx := Finset.univ.filter fun i => (i 1 : Nat) / 128 = n * 16 + t
def dfrom (n j : Nat) : Finset S106528x128.Idx :=
  Finset.univ.filter fun i => (i 0 : Nat) / 3329 < (n % 2) * 16 + 16 ∧ (n % 2) * 16 + j ≤ (i 0 : Nat) / 3329 ∧ (i 0 : Nat) % 3329 < 3328
def sfrom (n j : Nat) : Finset S3328x8192.Idx := Finset.univ.filter fun i => (i 1 : Nat) / 128 < n * 16 + 16 ∧ n * 16 + j ≤ (i 1 : Nat) / 128
def srcs (n : Nat) : Finset S3328x8192.Idx := Finset.univ.filter fun i => (i 1 : Nat) / 2048 = n

theorem mem_filt {α : Type} [Fintype α] {p : α → Prop} [DecidablePred p] {i : α} : i ∈ Finset.univ.filter p ↔ p i :=
  ⟨fun h => (Finset.mem_filter.mp h).2, fun h => Finset.mem_filter.mpr ⟨Finset.mem_univ _, h⟩⟩

/-- A disjoint split of the elements held. -/
theorem ptOn_split (c : Dev nD) {sp : Space} {S : Shape} {e : EltTy} (M : Memref sig .tc sp S e) {A B C : Finset (Idx (M.view.loc (c : Thread nD τ)))}
    (f : Buf (Elt F) (M.view.loc (c : Thread nD τ))) (h : ∀ i, i ∈ A ↔ i ∈ B ∨ i ∈ C) (hd : ∀ i, i ∈ B → i ∉ C) :
    (ptOn c M A f : sProp 𝕄) ⊣⊢ iprop(ptOn c M B f ∗ ptOn c M C f) := by
  have e : A \ B = C := by
    ext i
    rw [Finset.mem_sdiff, h i]
    constructor
    · rintro ⟨h1 | h1, h2⟩
      · exact absurd h1 h2
      · exact h1
    · exact fun h1 => ⟨Or.inr h1, fun h2 => hd i h2 h1⟩
  have := pointsTo_split_subset (ℓ := M.view.loc (c : Thread nD τ)) (q := fullShare) (f := f) (Ix := Unit) (Name := ℕ) (U := Pipeline.UD sig nD τ) (Lvl := ℕ)
    (I := B) (S := A) fun i hi => (h i).mpr (Or.inl hi)
  rw [e] at this
  exact this

variable (c : Dev nD) (I : Ins) {α : Type} (Q : α → sProp (MT nD τ sig Unit (Elt F) ℕ (Pipeline.UD sig nD τ) ℕ))

abbrev bdst (n : Nat) (h : DOk (BitVec.ofNat 32 n)) (t : Nat) (ht : t < 16) := gdst mW (BitVec.ofNat 32 n) h t ht
abbrev bsrc (n : Nat) (h : DOk (BitVec.ofNat 32 n)) (t : Nat) (ht : t < 16) := gsrc mQ (BitVec.ofNat 32 n) h t ht

/-- Where an element of a chunk lands, and where it is read. -/
def dAt (n : Nat) (h : DOk (BitVec.ofNat 32 n)) (t : Nat) (ht : t < 16) (x : S3328x128.Idx) : S106528x128.Idx := (bdst n h t ht).view.emb x
def sAt (n : Nat) (h : DOk (BitVec.ofNat 32 n)) (t : Nat) (ht : t < 16) (x : S3328x128.Idx) : S3328x8192.Idx := (bsrc n h t ht).view.emb x

theorem dst_emb {n t : Nat} (hn : n < 4) (ht : t < 16) (h : DOk (BitVec.ofNat 32 n)) (x : S3328x128.Idx) :
    (dAt n h t ht x 0 : Nat) = ((n % 2) * 16 + t) * 3329 + (x 0 : Nat)
      ∧ (dAt n h t ht x 1 : Nat) = (x 1 : Nat) := by
  have e := oD_eq hn ht
  constructor
  · refine (Rect.emb_apply (Rect.unit (s := S106528x128) (oD (BitVec.ofNat 32 n) (BitVec.ofNat 32 t)) S3328x128.size (h.d t ht)) x 0).trans ?_
    refine (congrArg (· + 1 * (x 0 : Nat)) (congrFun e 0)).trans ?_
    show ((n % 2) * 16 + t) * 3329 + 1 * (x 0 : Nat) = _; omega
  · refine (Rect.emb_apply (Rect.unit (s := S106528x128) (oD (BitVec.ofNat 32 n) (BitVec.ofNat 32 t)) S3328x128.size (h.d t ht)) x 1).trans ?_
    refine (congrArg (· + 1 * (x 1 : Nat)) (congrFun e 1)).trans ?_
    show 0 + 1 * (x 1 : Nat) = _; omega

theorem src_emb {n t : Nat} (hn : n < 4) (ht : t < 16) (h : DOk (BitVec.ofNat 32 n)) (x : S3328x128.Idx) :
    (sAt n h t ht x 0 : Nat) = (x 0 : Nat)
      ∧ (sAt n h t ht x 1 : Nat) = (n * 16 + t) * 128 + (x 1 : Nat) := by
  have e := oB_eq hn ht
  constructor
  · refine (Rect.emb_apply (Rect.unit (s := S3328x8192) (oB (BitVec.ofNat 32 n) (BitVec.ofNat 32 t)) S3328x128.size (h.s t ht)) x 0).trans ?_
    refine (congrArg (· + 1 * (x 0 : Nat)) (congrFun e 0)).trans ?_
    show 0 + 1 * (x 0 : Nat) = _; omega
  · refine (Rect.emb_apply (Rect.unit (s := S3328x8192) (oB (BitVec.ofNat 32 n) (BitVec.ofNat 32 t)) S3328x128.size (h.s t ht)) x 1).trans ?_
    refine (congrArg (· + 1 * (x 1 : Nat)) (congrFun e 1)).trans ?_
    show (n * 16 + t) * 128 + 1 * (x 1 : Nat) = _; omega

theorem dst_set {n t : Nat} (hn : n < 4) (ht : t < 16) (h : DOk (BitVec.ofNat 32 n)) : ((bdst n h t ht).view.set : Finset S106528x128.Idx) = dset n t := by
  refine Finset.ext fun (i : S106528x128.Idx) => ?_
  refine Iff.trans ⟨fun hi => ?_, fun hi => ?_⟩ mem_filt.symm
  · obtain ⟨x, -, hx⟩ := Finset.mem_map.mp hi
    have hx : dAt n h t ht x = i := hx
    subst hx
    obtain ⟨e0, -⟩ := dst_emb hn ht h x
    rw [e0]
    have : (x 0 : Nat) < 3328 := (x 0).isLt
    omega
  · have h1 : (i 1 : Nat) < 128 := (i 1).isLt
    let x : S3328x128.Idx := fun a => match a with | ⟨0, _⟩ => ⟨(i 0 : Nat) % 3329, hi.2⟩ | ⟨1, _⟩ => ⟨(i 1 : Nat), h1⟩
    have e : dAt n h t ht x = i := by
      obtain ⟨e0, e1⟩ := dst_emb hn ht h x
      funext a
      apply Fin.ext
      match a with
      | ⟨0, _⟩ => refine e0.trans ?_; show ((n % 2) * 16 + t) * 3329 + (i 0 : Nat) % 3329 = (i 0 : Nat); omega
      | ⟨1, _⟩ => exact e1
    rw [← e]; exact View.emb_mem_set _ x

theorem src_set {n t : Nat} (hn : n < 4) (ht : t < 16) (h : DOk (BitVec.ofNat 32 n)) : ((bsrc n h t ht).view.set : Finset S3328x8192.Idx) = sset n t := by
  refine Finset.ext fun (i : S3328x8192.Idx) => ?_
  refine Iff.trans ⟨fun hi => ?_, fun hi => ?_⟩ mem_filt.symm
  · obtain ⟨x, -, hx⟩ := Finset.mem_map.mp hi
    have hx : sAt n h t ht x = i := hx
    subst hx
    obtain ⟨-, e0⟩ := src_emb hn ht h x
    rw [e0]
    have : (x 1 : Nat) < 128 := (x 1).isLt
    omega
  · have h0 : (i 0 : Nat) < 3328 := (i 0).isLt
    let x : S3328x128.Idx := fun a => match a with | ⟨0, _⟩ => ⟨(i 0 : Nat), h0⟩ | ⟨1, _⟩ => ⟨(i 1 : Nat) % 128, Nat.mod_lt _ (by decide)⟩
    have e : sAt n h t ht x = i := by
      obtain ⟨e0, e1⟩ := src_emb hn ht h x
      funext a
      apply Fin.ext
      match a with
      | ⟨0, _⟩ => exact e0
      | ⟨1, _⟩ => refine e1.trans ?_; show (n * 16 + t) * 128 + (i 1 : Nat) % 128 = (i 1 : Nat); omega
    rw [← e]; exact View.emb_mem_set _ x

/-- A landed chunk holds the block's words. -/
theorem dst_val {n t : Nat} (hn : n < 4) (ht : t < 16) (h : DOk (BitVec.ofNat 32 n)) (fd : S106528x128.Idx → BitVec 32) (i : S106528x128.Idx) (hi : i ∈ dset n t) :
    (bdst n h t ht).view.write (Elt F) fd ((ReadAs.same : ReadAs (Elt F) S3328x128 .i32 S3328x128 .i32).apply ((bsrc n h t ht).view.read (Elt F) I.q)) Finset.univ i = wrd I n i := by
  rw [← dst_set hn ht h] at hi
  obtain ⟨x, -, hx⟩ := Finset.mem_map.mp hi
  have hx : dAt n h t ht x = i := hx
  subst hx
  refine (View.write_emb_of_mem _ _ (Finset.mem_univ x)).trans ?_
  obtain ⟨d0, d1⟩ := dst_emb hn ht h x
  obtain ⟨s0, s1⟩ := src_emb hn ht h x
  have hx : (x 0 : Nat) < 3328 := (x 0).isLt
  show I.q (sAt n h t ht x) = _
  unfold wrd
  rw [d0, d1]
  refine pk_eq I.q _ _ fun a => ?_
  match a with
  | ⟨0, _⟩ => refine s0.trans ?_
              show (x 0 : Nat) = (((n % 2) * 16 + t) * 3329 + (x 0 : Nat)) % 53264 % 3329; omega
  | ⟨1, _⟩ => refine s1.trans ?_
              show (n * 16 + t) * 128 + (x 1 : Nat) = (n * 16 + (((n % 2) * 16 + t) * 3329 + (x 0 : Nat)) % 53264 / 3329) * 128 + (x 1 : Nat); omega

/-- What a chunk's copy delivers. -/
def del (n : Nat) (t : Fin 16) : sProp 𝕄 := iprop(ptOn c mW (dset n t) (wrd I n) ∗ ptOn c mQ (sset n t) I.q)

instance del_storable (n : Nat) (t : Fin 16) : Storable (upEmb : UEmb _ 𝕄) (del (F := F) c I n t) := by unfold del; infer_instance

/-- One copy's credit. -/
def nCr : ℕ := (bdst 0 (DOk_ok (by decide)) 0 (by decide)).view.amount (SemLoc.dma (sig := sig) (dsem 0))

theorem nCr_pos : 0 < nCr := by
  unfold nCr
  exact View.amount_pos _ _ (by decide)

theorem nCr_amount {n t : Nat} (h : DOk (BitVec.ofNat 32 n)) (ht : t < 16) (s : DmaSem sig) : (bdst n h t ht).view.amount (SemLoc.dma s) = nCr := rfl
theorem nCr_credit {n t : Nat} (h : DOk (BitVec.ofNat 32 n)) (ht : t < 16) : (bdst n h t ht).view.dmaCredit = nCr := rfl

attribute [irreducible] nCr

/-- A block's copies in flight, of which `j` are started and `u` units waited for. -/
abbrev batOn (sm : DmaSem sig) (n j u : Nat) : sProp 𝕄 :=
  Transfers.Batch (countersEmb (U := Pipeline.UD sig nD τ)) (c : Thread nD τ) (.dma sm) () nCr (del (F := F) c I n) j u

abbrev bat (n j u : Nat) : sProp 𝕄 := batOn (F := F) c I (dsem (n % 2)) n j u

abbrev sem0 (s : Nat) : sProp 𝕄 := semVal ((c : Thread nD τ), SemLoc.dma (dsem s)) 0

set_option maxHeartbeats 3000000 in
theorem gstarts_aux {n : Nat} (hn : n < 4) (h : DOk (BitVec.ofNat 32 n)) (f : S106528x128.Idx → BitVec 32)
    (k : Prog (TpuEff nD τ sig (Elt F) Λ₀ .tc) α) : (m : Nat) → (hm : m ≤ 16) →
    iprop(ptOn c mW (dfrom n (16 - m)) f ∗ ptOn c mQ (sfrom n (16 - m)) I.q ∗ batOn (F := F) c I (gsem cc0_scratch2 (BitVec.ofNat 32 n) h).sem n (16 - m) 0)
      ⊢ iprop((batOn (F := F) c I (gsem cc0_scratch2 (BitVec.ofNat 32 n) h).sem n 16 0 -∗ WP c k Q) -∗ WP c (gstarts (F := F) mQ mW cc0_scratch2 (BitVec.ofNat 32 n) h k m hm) Q)
  | 0, _ => by
    iintro ⟨-, -, HB⟩ Hk
    unfold gstarts
    iapply Hk
    iexact HB
  | m + 1, hm => by
    have ht : 16 - (m + 1) < 16 := by omega
    have e1 : 16 - (m + 1) + 1 = 16 - m := by omega
    have ih := gstarts_aux hn h f k m (by omega)
    rw [gstarts.eq_def]
    dsimp only
    iintro ⟨HW, HS, HB⟩ Hk
    ihave HW := (ptOn_split (F := F) c mW (A := dfrom n (16 - (m + 1))) (B := dset n (16 - (m + 1))) (C := dfrom n (16 - m)) f
      (fun i => by rw [dfrom, dset, dfrom, mem_filt, mem_filt, mem_filt]; omega) (fun i => by rw [dset, dfrom, mem_filt, mem_filt]; omega)).1 $$ HW
    icases HW with ⟨HW, HW'⟩
    ihave HS := (ptOn_split (F := F) c mQ (A := sfrom n (16 - (m + 1))) (B := sset n (16 - (m + 1))) (C := sfrom n (16 - m)) I.q
      (fun i => by rw [sfrom, sset, sfrom, mem_filt, mem_filt, mem_filt]; omega) (fun i => by rw [sset, sfrom, mem_filt, mem_filt]; omega)).1 $$ HS
    icases HS with ⟨HS, HS'⟩
    iapply (Transfers.wp_dmaBatch (countersEmb (U := Pipeline.UD sig nD τ)) Variants.none (c : Thread nD τ) none
      (src := bsrc n h (16 - (m + 1)) ht) (dst := bdst n h (16 - (m + 1)) ht) (Sd := dset n (16 - (m + 1))) (fs := I.q) (fd := f) (q := fullShare)
      () nCr (nCr_amount h ht _) (dst_set hn ht h).le (D := del (F := F) c I n) (j := 16 - (m + 1)) (u := 0) ht (Nat.zero_le _)
      (by
        unfold del
        refine sep_mono (Entails.of_eq (pointsTo_congr fun i hi => dst_val I hn ht h f i hi)) (Entails.of_eq ?_)
        rw [src_set hn ht h]; rfl)) $$ [HW HS HB]
    · isplitl [HS]
      · rw [src_set hn ht h]; iexact HS
      isplitl [HW]; · iexact HW
      iexact HB
    rw [e1]
    iintro HB
    iapply ih $$ [HW' HS' HB]
    · isplitl [HW']; · iexact HW'
      isplitl [HS']; · iexact HS'
      iexact HB
    iexact Hk

/-- A block's copies started, from its rows at any contents. -/
theorem gstarts_run {n : Nat} (hn : n < 4) (h : DOk (BitVec.ofNat 32 n)) (f : S106528x128.Idx → BitVec 32)
    (k : Prog (TpuEff nD τ sig (Elt F) Λ₀ .tc) α) :
    iprop(ptOn c mW (wset (n % 2)) f ∗ ptOn c mQ (srcs n) I.q ∗ sem0 (F := F) c (n % 2))
      ⊢ iprop((bat (F := F) c I n 16 0 -∗ WP c k Q) -∗ WP c (gstarts (F := F) mQ mW cc0_scratch2 (BitVec.ofNat 32 n) h k 16 le_rfl) Q) := by
  unfold bat sem0
  rw [← gsem_eq hn h]
  iintro ⟨HW, HS, HV⟩ Hk
  imod (Transfers.batch_alloc' (Lvl := ℕ) (countersEmb (U := Pipeline.UD sig nD τ)) (c : Thread nD τ) () nCr (del (F := F) c I n)
    (sm := .dma (gsem cc0_scratch2 (BitVec.ofNat 32 n) h).sem) (E := Set.univ)) $$ HV with HB
  have eW : wset (n % 2) = dfrom n (16 - 16) := by
    ext i; rw [wset, dfrom, mem_filt, mem_filt]; omega
  have eS : srcs n = sfrom n (16 - 16) := by
    ext i; rw [srcs, sfrom, mem_filt, mem_filt]; omega
  rw [eW, eS]
  iapply (gstarts_aux c I Q hn h f k 16 le_rfl) $$ [HW HS HB]
  · isplitl [HW]; · iexact HW
    isplitl [HS]; · iexact HS
    iexact HB
  iexact Hk

/-- The deliveries, put together. -/
theorem del_all {n : Nat} (hn : n < 4) :
    bigSep Finset.univ (del (F := F) c I n) ⊢ iprop(ptOn c mW (wset (n % 2)) (wrd I n) ∗ ptOn c mQ (srcs n) I.q) := by
  have eW : wset (n % 2) = (Finset.univ : Finset (Fin 16)).biUnion fun t => dset n t := by
    ext i
    rw [wset, mem_filt, Finset.mem_biUnion]
    constructor
    · intro hi
      exact ⟨⟨(i 0 : Nat) % 53264 / 3329, by omega⟩, Finset.mem_univ _, mem_filt.mpr (by show _ = (n % 2) * 16 + (i 0 : Nat) % 53264 / 3329 ∧ _; omega)⟩
    · rintro ⟨t, -, ht⟩
      have := mem_filt.mp ht
      have := t.isLt
      omega
  have eS : srcs n = (Finset.univ : Finset (Fin 16)).biUnion fun t => sset n t := by
    ext i
    rw [srcs, mem_filt, Finset.mem_biUnion]
    constructor
    · intro hi
      exact ⟨⟨(i 1 : Nat) % 2048 / 128, by omega⟩, Finset.mem_univ _, mem_filt.mpr (by show _ = n * 16 + (i 1 : Nat) % 2048 / 128; omega)⟩
    · rintro ⟨t, -, ht⟩
      have := mem_filt.mp ht
      have := t.isLt
      omega
  have e : bigSep Finset.univ (del (F := F) c I n)
      = iprop(bigSep Finset.univ (fun t : Fin 16 => ptOn c mW (dset n t) (wrd I n)) ∗ bigSep Finset.univ (fun t : Fin 16 => ptOn c mQ (sset n t) I.q)) :=
    bigSep_sep' _ _ _
  have dW : ∀ t ∈ (Finset.univ : Finset (Fin 16)), ∀ t' ∈ (Finset.univ : Finset (Fin 16)), t ≠ t' → Disjoint (dset n t) (dset n t') :=
    fun t _ t' _ hne => Finset.disjoint_left.mpr fun i h1 h2 => hne (Fin.ext (by
      have := mem_filt.mp h1
      have := mem_filt.mp h2
      omega))
  have dS : ∀ t ∈ (Finset.univ : Finset (Fin 16)), ∀ t' ∈ (Finset.univ : Finset (Fin 16)), t ≠ t' → Disjoint (sset n t) (sset n t') :=
    fun t _ t' _ hne => Finset.disjoint_left.mpr fun i h1 h2 => hne (Fin.ext (by
      have := mem_filt.mp h1
      have := mem_filt.mp h2
      omega))
  have pW := pointsTo_biUnion (ℓ := mW.view.loc (c : Thread nD τ)) (q := fullShare) (Val := Elt F) (f := wrd I n) (Ix := Unit) (Name := ℕ) (U := Pipeline.UD sig nD τ) (Lvl := ℕ)
    Finset.univ (fun t : Fin 16 => dset n t) dW
  have pS := pointsTo_biUnion (ℓ := mQ.view.loc (c : Thread nD τ)) (q := fullShare) (Val := Elt F) (f := I.q) (Ix := Unit) (Name := ℕ) (U := Pipeline.UD sig nD τ) (Lvl := ℕ)
    Finset.univ (fun t : Fin 16 => sset n t) dS
  rw [e, eW, eS]
  exact Idealize.SL.BI.BIClass.sep_mono (Entails.of_eq pW.symm) (Entails.of_eq pS.symm)

theorem gwaits_aux {n : Nat} (hn : n < 4) (h : DOk (BitVec.ofNat 32 n)) (k : Prog (TpuEff nD τ sig (Elt F) Λ₀ .tc) α) :
    (m : Nat) → (hm : m + 1 ≤ 16) → (W : Waits sig Unit) →
    iprop(batOn (F := F) c I (gsem cc0_scratch2 (BitVec.ofNat 32 n) h).sem n 16 (nCr * (16 - (m + 1))) ∗ owes (c : Thread nD τ) 0 W)
      ⊢ iprop((iprop(ptOn c mW (wset (n % 2)) (wrd I n) ∗ ptOn c mQ (srcs n) I.q ∗ semVal ((c : Thread nD τ), SemLoc.dma (gsem cc0_scratch2 (BitVec.ofNat 32 n) h).sem) 0 ∗ ∃ W', owes (c : Thread nD τ) 0 W') -∗ WP c k Q)
        -∗ WP c (gwaits (F := F) mQ mW cc0_scratch2 (BitVec.ofNat 32 n) h k (m + 1) hm) Q)
  | 0, hm, W => by
    unfold gwaits
    iintro ⟨HB, HO⟩ Hk
    iapply (Transfers.wp_waitBatchLast (countersEmb (U := Pipeline.UD sig nD τ)) Variants.none (c : Thread nD τ) none () (N := nCr) (nCr_credit h (by omega)) nCr_pos
      (D := del (F := F) c I n) (u := nCr * (16 - (0 + 1))) (by have := nCr_pos; omega)) $$ [HB HO]
    · isplitl [HB] <;> iassumption
    iintro ⟨HD, HV, HO⟩
    ihave HD := (del_all c I hn) $$ HD
    icases HD with ⟨HW, HS⟩
    rw [ret_bind']
    unfold gwaits
    iapply Hk
    isplitl [HW]; · iexact HW
    isplitl [HS]; · iexact HS
    isplitl [HV]; · iexact HV
    iexists _; iexact HO
  | m + 1, hm, W => by
    have ih := gwaits_aux hn h k m (by omega)
    have ht : 16 - (m + 1 + 1) < 16 := by omega
    have e1 : nCr * (16 - (m + 1 + 1)) + nCr = nCr * (16 - (m + 1)) := by
      rw [show 16 - (m + 1) = 16 - (m + 1 + 1) + 1 by omega, Nat.mul_succ]
    rw [gwaits.eq_def]
    dsimp only
    iintro ⟨HB, HO⟩ Hk
    iapply (Transfers.wp_waitBatch (countersEmb (U := Pipeline.UD sig nD τ)) Variants.none (c : Thread nD τ) none (srcw := bsrc n h _ ht) (dstw := bdst n h _ ht) () (N := nCr) (nCr_credit h _)
      (D := del (F := F) c I n) (u := nCr * (16 - (m + 1 + 1))) (by rw [e1]; exact Nat.mul_lt_mul_of_pos_left (by omega) nCr_pos)) $$ [HB HO]
    · isplitl [HB] <;> iassumption
    rw [e1]
    iintro ⟨HB, HO⟩
    rw [ret_bind']
    iapply (ih _) $$ [HB HO]
    · isplitl [HB]; · iexact HB
      iexact HO
    iexact Hk

/-- A block's copies waited for: its rows staged. -/
theorem gwaits_run {n : Nat} (hn : n < 4) (h : DOk (BitVec.ofNat 32 n)) (k : Prog (TpuEff nD τ sig (Elt F) Λ₀ .tc) α) :
    iprop(bat (F := F) c I n 16 0 ∗ ∃ W, owes (c : Thread nD τ) 0 W)
      ⊢ iprop((iprop(ptOn c mW (wset (n % 2)) (wrd I n) ∗ ptOn c mQ (srcs n) I.q ∗ sem0 (F := F) c (n % 2) ∗ ∃ W', owes (c : Thread nD τ) 0 W') -∗ WP c k Q)
        -∗ WP c (gwaits (F := F) mQ mW cc0_scratch2 (BitVec.ofNat 32 n) h k 16 le_rfl) Q) := by
  unfold bat sem0
  rw [← gsem_eq hn h]
  iintro ⟨HB, %W, HO⟩ Hk
  iapply (gwaits_aux c I Q hn h k 15 le_rfl W) $$ [HB HO]
  · isplitl [HB]; · iexact HB
    iexact HO
  iexact Hk

end Cert.Proof.KernelIdeal
-- ==== Proof.IRun2.lean ====
/-
  One group's step, run: the eight tiles' products added, the next group's words gathered.
-/
module

public import proofs.«01_k».proof.Proof.IRun1
public import Idealize.ShloMosaic.Lib.Mxu.Lemmas

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The matrix units' state -/

/-- A tile's unit and address. -/
def tq (t : Nat) : Fin 2 := ⟨t % 2, Nat.mod_lt _ (by decide)⟩
def tA (t : Nat) : Nat := 24 * (t / 2)
theorem tfits {t : Nat} (ht : t < 8) : Mxu.Fits (tA t) 96 := by unfold tA Mxu.Fits; omega

/-- A tile's rows hold nothing yet, or the products `y`. -/
def TileIs (s : Mxu F) (q : Fin 2) (A : Nat) (hA : Mxu.Fits A 96) : Option (FVec F (Mxu.STile 96) .f32) → Prop
  | none => ∀ r : Fin 96, s.live q (Mxu.row hA r) = false
  | some y => (∀ r : Fin 96, s.live q (Mxu.row hA r) = true) ∧ s.read q A hA = y

/-- The units' state between tiles: no tile staged, tile `t`'s rows at `v t`, no other row in use. -/
structure MxuIs (s : Mxu F) (v : Nat → Option (FVec F (Mxu.STile 96) .f32)) : Prop where
  reg : ∀ q r, s.reg q r = none
  tile : ∀ t (ht : t < 8), TileIs s (tq t) (tA t) (tfits ht) (v t)
  rest : ∀ q (R : Fin 1024), 384 ≤ R.val → s.live q R = false

theorem MxuIs.congr {s : Mxu F} {v v' : Nat → Option (FVec F (Mxu.STile 96) .f32)} (h : MxuIs s v) (e : ∀ t, t < 8 → v t = v' t) : MxuIs s v' :=
  ⟨h.reg, fun t ht => e t ht ▸ h.tile t ht, h.rest⟩

theorem MxuIs.init : MxuIs (Mxu.init : Mxu F) (fun _ => none) :=
  ⟨fun q r => Mxu.reg_init q r, fun t ht r => rfl, fun q R _ => rfl⟩

/-- A product added to what the rows hold. -/
def depo (o : Option (FVec F (Mxu.STile 96) .f32)) (p : FVec F (Mxu.STile 96) .f32) : FVec F (Mxu.STile 96) .f32 :=
  match o with
  | none => p
  | some y => addf y p

theorem tile_ne {t t' : Nat} (ht : t < 8) (ht' : t' < 8) (hne : t' ≠ t) : tq t' ≠ tq t ∨ 4 * tA t' + 96 ≤ 4 * tA t ∨ 4 * tA t + 96 ≤ 4 * tA t' := by
  by_cases h : t' % 2 = t % 2
  · right; unfold tA; omega
  · left; exact fun e => h (congrArg Fin.val e)

/-- Pushing a tile's weights and accumulating adds the product to its rows alone. -/
theorem MxuIs.step {s : Mxu F} {v v' : Nat → Option (FVec F (Mxu.STile 96) .f32)} (h : MxuIs s v) {t : Nat} (ht : t < 8) (r : Fin 2)
    (W : FVec F (Mxu.STile 256) .bf16) (L : FVec F (Mxu.STile 96) .bf16)
    (hv : v' t = some (depo (v t) (FloatOps.mxuPass (DotDims.plain 96 256 256) L W))) (hv' : ∀ t', t' < 8 → t' ≠ t → v' t' = v t') :
    MxuIs ((s.pushed (tq t) r false W).accLhs (tq t) r (tA t) L (tfits ht)) v' := by
  refine ⟨fun q' r' => ?_, fun t' ht' => ?_, fun q' R hR => ?_⟩
  · by_cases hqr : q' = tq t ∧ r' = r
    · obtain ⟨rfl, rfl⟩ := hqr
      exact Mxu.reg_accLhs _ _ _ _ _ _
    · rw [Mxu.reg_accLhs_ne _ _ _ _ _ _ _ _ hqr, Mxu.reg_pushed_ne _ _ _ _ _ _ _ hqr]
      exact h.reg _ _
  · by_cases e : t' = t
    · subst e
      rw [hv]
      refine ⟨fun r' => Mxu.live_accLhs_row _ _ _ _ _ _ _, ?_⟩
      have hst : (s.pushed (tq t') r false W).staged (tq t') r = ⟨.bf16, false, W⟩ := by
        rw [Mxu.staged_eq, Mxu.reg_pushed_of_none _ _ _ _ _ (h.reg _ _)]; rfl
      have ht2 := h.tile t' ht
      cases hvt : v t' with
      | none =>
        rw [hvt] at ht2
        rw [Mxu.read_accLhs_of_not_live _ _ _ _ _ _ (fun r' => by rw [Mxu.live_pushed]; exact ht2 r'), hst]
        rfl
      | some y =>
        rw [hvt] at ht2
        rw [Mxu.read_accLhs_of_live _ _ _ _ _ _ (fun r' => by rw [Mxu.live_pushed]; exact ht2.1 r'), hst, Mxu.read_pushed, ht2.2]
        rfl
    · rw [hv' t' ht' e]
      have ht2 := h.tile t' ht'
      have hne := tile_ne ht ht' e
      have hl : ∀ r' : Fin 96, ((s.pushed (tq t) r false W).accLhs (tq t) r (tA t) L (tfits ht)).live (tq t') (Mxu.row (tfits ht') r') = s.live (tq t') (Mxu.row (tfits ht') r') := by
        intro r'
        rw [Mxu.live_accLhs, if_neg, Mxu.live_pushed]
        have hr := r'.isLt
        rintro ⟨e1, h1, h2⟩
        rcases hne with hne | hne
        · exact hne e1
        · simp only [Mxu.row] at h1 h2; omega
      cases hvt : v t' with
      | none =>
        rw [hvt] at ht2
        exact fun r' => (hl r').trans (ht2 r')
      | some y =>
        rw [hvt] at ht2
        refine ⟨fun r' => (hl r').trans (ht2.1 r'), ?_⟩
        rw [Mxu.read_accLhs_ne _ _ _ _ _ _ _ _ _ hne, Mxu.read_pushed, ht2.2]
  · rw [Mxu.live_accLhs, if_neg, Mxu.live_pushed]
    · exact h.rest _ _ hR
    · rintro ⟨-, h1, h2⟩
      unfold tA at h2; omega

/-- Popping a tile's rows empties them alone. -/
theorem MxuIs.pop {s : Mxu F} {v v' : Nat → Option (FVec F (Mxu.STile 96) .f32)} (h : MxuIs s v) {t : Nat} (ht : t < 8)
    (hv : v' t = none) (hv' : ∀ t', t' < 8 → t' ≠ t → v' t' = v t') :
    MxuIs (s.pop (tq t) (tA t) 96 (tfits ht)) v' := by
  refine ⟨fun q' r' => ?_, fun t' ht' => ?_, fun q' R hR => ?_⟩
  · rw [Mxu.reg_pop]; exact h.reg _ _
  · by_cases e : t' = t
    · subst e
      rw [hv]
      exact fun r' => Mxu.live_pop_row _ _ _ _ _
    · rw [hv' t' ht' e]
      have ht2 := h.tile t' ht'
      have hne := tile_ne ht ht' e
      have hl : ∀ r' : Fin 96, (s.pop (tq t) (tA t) 96 (tfits ht)).live (tq t') (Mxu.row (tfits ht') r') = s.live (tq t') (Mxu.row (tfits ht') r') := by
        intro r'
        rw [Mxu.live_pop, if_neg]
        have hr := r'.isLt
        rintro ⟨e1, h1, h2⟩
        rcases hne with hne | hne
        · exact hne e1
        · simp only [Mxu.row] at h1 h2; omega
      cases hvt : v t' with
      | none =>
        rw [hvt] at ht2
        exact fun r' => (hl r').trans (ht2 r')
      | some y =>
        rw [hvt] at ht2
        refine ⟨fun r' => (hl r').trans (ht2.1 r'), ?_⟩
        rw [Mxu.read_pop_ne _ _ _ _ _ _ _ hne, ht2.2]
  · rw [Mxu.live_pop, if_neg]
    · exact h.rest _ _ hR
    · rintro ⟨-, h1, h2⟩
      unfold tA at h2; omega

/-- With every tile popped the units are drained. -/
theorem MxuIs.drained {s : Mxu F} (h : MxuIs s fun _ => none) : s.Drained := by
  refine ⟨fun q r => by rw [h.reg]; rfl, fun q R => ?_⟩
  by_cases hR : 384 ≤ R.val
  · exact h.rest q R hR
  · have ht : 2 * (R.val / 96) + q.val < 8 := by have := q.isLt; omega
    have h1 := h.tile (2 * (R.val / 96) + q.val) ht ⟨R.val % 96, Nat.mod_lt _ (by decide)⟩
    have e1 : tq (2 * (R.val / 96) + q.val) = q := Fin.ext (by have := q.isLt; show (2 * (R.val / 96) + q.val) % 2 = q.val; omega)
    have e2 : Mxu.row (tfits ht) ⟨R.val % 96, Nat.mod_lt _ (by decide)⟩ = R := Fin.ext (by
      have := q.isLt
      show 4 * (24 * ((2 * (R.val / 96) + q.val) / 2)) + R.val % 96 = R.val; omega)
    rw [e1, e2] at h1
    exact h1

variable (c : Dev nD) (I : Ins) {α : Type} (Q : α → sProp (MT nD τ sig Unit (Elt F) ℕ (Pipeline.UD sig nD τ) ℕ))

/-- In the midst of group `g`'s step: the first `T` tiles have its product. -/
def mid (n g T : Nat) : Nat → Option (FVec F (Mxu.STile 96) .f32) := fun t => if t < T then accO (F := F) I n t (g + 1) else accO (F := F) I n t g

theorem accO_succ (n t g : Nat) : accO (F := F) I n t (g + 1) = some (depo (accO (F := F) I n t g) (pas (F := F) I n g t)) := by
  cases g <;> rfl

/-! ## What a tile reads -/

theorem tile_val {s n g C : Nat} (hs : s < 2) (hC : C < 16) {b h : BitVec 32} (eb : b = BitVec.ofNat 32 (528 * s)) (eh : h = BitVec.ofNat 32 (33 * C))
    (hr : ∀ a, oR b h a + S32x128.size a ≤ S1056x128.size a) {f : S1056x128.Idx → BitVec 32} (hf : Sorted (F := F) I s n g f) :
    (mT.view.readAt (Elt F) (Rect.unit (s := S1056x128) (oR b h) S32x128.size hr).toLoadRect f : IVec S32x128 32) = tileRows (F := F) I n g C := by
  subst eb eh
  funext x
  have h0 : (x 0 : Nat) < 32 := (x 0).isLt
  have h1 : (x 1 : Nat) < 128 := (x 1).isLt
  refine Eq.trans (pk_eq f _ ![528 * s + (x 0 : Nat) + 33 * C, (x 1 : Nat)] fun a => ?_) (hf C _ _ hC h0 h1)
  match a with
  | ⟨0, _⟩ => exact (congrArg (· + 1 * (x 0 : Nat)) (congrFun (oR_eq hs hC) 0)).trans (by show 528 * s + 33 * C + 1 * (x 0 : Nat) = 528 * s + (x 0 : Nat) + 33 * C; omega)
  | ⟨1, _⟩ => exact (congrArg (· + 1 * (x 1 : Nat)) (congrFun (oR_eq hs hC) 1)).trans (by show 0 + 1 * (x 1 : Nat) = (x 1 : Nat); omega)

theorem row_val {n g C : Nat} (hn : n < 4) (hg : g < 104) (hC : C < 16) {h : BitVec 32} (eh : h = BitVec.ofNat 32 C) (M : Memref sig .tc .vmem S6656x128 .i32) (f : S6656x128.Idx → BitVec 32)
    (hr : ∀ a, oT (BitVec.ofNat 32 n) (BitVec.ofNat 32 g) h a + S1x128.size a ≤ S6656x128.size a) (x : S1x128.Idx) :
    f ((Rect.unit (s := S6656x128) (oT (BitVec.ofNat 32 n) (BitVec.ofNat 32 g) h) S1x128.size hr).toLoadRect.idx x) = pk f ![(n * 104 + g) * 16 + C, (x 1 : Nat)] := by
  subst eh
  have h0 : (x 0 : Nat) < 1 := (x 0).isLt
  refine pk_eq f _ _ fun a => ?_
  match a with
  | ⟨0, _⟩ => exact (congrArg (· + 1 * (x 0 : Nat)) (congrFun (oT_eq hn hg hC) 0)).trans (by show (n * 104 + g) * 16 + C + 1 * (x 0 : Nat) = (n * 104 + g) * 16 + C; omega)
  | ⟨1, _⟩ => exact (congrArg (· + 1 * (x 1 : Nat)) (congrFun (oT_eq hn hg hC) 1)).trans (by show 0 + 1 * (x 1 : Nat) = (x 1 : Nat); omega)

theorem slab_val {g : Nat} (hg : g < 104) (f : S104x24x256.Idx → BitVec 32)
    (hr : ∀ a, oX (BitVec.ofNat 32 g) a + S1x24x256.size a ≤ S104x24x256.size a) (x : S1x24x256.Idx) :
    f ((Rect.unit (s := S104x24x256) (oX (BitVec.ofNat 32 g)) S1x24x256.size hr).toLoadRect.idx x) = pk f ![g, (x 1 : Nat), (x 2 : Nat)] := by
  have h0 : (x 0 : Nat) < 1 := (x 0).isLt
  refine pk_eq f _ _ fun a => ?_
  match a with
  | ⟨0, _⟩ => exact (congrArg (· + 1 * (x 0 : Nat)) (congrFun (oX_eq hg) 0)).trans (by show g + 1 * (x 0 : Nat) = g; omega)
  | ⟨1, _⟩ => exact (congrArg (· + 1 * (x 1 : Nat)) (congrFun (oX_eq hg) 1)).trans (by show 0 + 1 * (x 1 : Nat) = (x 1 : Nat); omega)
  | ⟨2, _⟩ => exact (congrArg (· + 1 * (x 2 : Nat)) (congrFun (oX_eq hg) 2)).trans (by show 0 + 1 * (x 2 : Nat) = (x 2 : Nat); omega)

/-- What a tile reads beside the sorted words. -/
abbrev ro : sProp 𝕄 := iprop(pt c mX I.xs ∗ pt c mS I.st ∗ pt c mZ I.zt)

/-- One tile. -/
theorem gtile_run {n g s t : Nat} (hn : n < 4) (hg : g < 104) (hs : s < 2) (ht : t < 8)
    (hT : TOk (BitVec.ofNat 32 n) (BitVec.ofNat 32 g) (BitVec.ofNat 32 (528 * s))) {q : Fin 2} (r : Fin 2) {A : Nat} (hA : Mxu.Fits A 96)
    (eq : q = tq t) (eA : A = tA t) {f : S1056x128.Idx → BitVec 32} (hf : Sorted (F := F) I s n g f) {u : Mxu F} (hu : MxuIs u (mid (F := F) I n g t))
    (k : Mxu F → Prog (TpuEff nD τ sig (Elt F) Λ₀ .tc) α) :
    iprop(ro (F := F) c I ∗ pt c mT f)
      ⊢ iprop((∀ u' : Mxu F, ⌜MxuIs u' (mid (F := F) I n g (t + 1))⌝ -∗ iprop(ro (F := F) c I ∗ pt c mT f) -∗ WP c (k u') Q)
        -∗ WP c (gtile (F := F) mX mS mZ mT (BitVec.ofNat 32 n) (BitVec.ofNat 32 g) (BitVec.ofNat 32 (528 * s)) hT t ht q r A hA u k) Q) := by
  subst eq eA
  iintro ⟨⟨HX, HS, HZ⟩, HT⟩ Hk
  unfold gtile
  iapply (wp_load Variants.none (c : Thread nD τ) none Set.univ (m := mT) (S := Finset.univ) (Finset.subset_univ _)) $$ HT
  iintro HT
  rw [ret_bind', tile_val (F := F) I (C := 2 * t) hs (by omega) rfl rfl _ hf]
  iapply (wp_load Variants.none (c : Thread nD τ) none Set.univ (m := mS) (S := Finset.univ) (Finset.subset_univ _)) $$ HS
  iintro HS
  rw [ret_bind', show (mS.view.readAt (Elt F) (Rect.unit (s := S6656x128) (oT (BitVec.ofNat 32 n) (BitVec.ofNat 32 g) (BitVec.ofNat 32 (2 * t))) S1x128.size (hT.t (2 * t) (by omega))).toLoadRect I.st : IVec S1x128 32) = stRow I n g (2 * t) from funext fun x => row_val hn hg (by omega) rfl mS I.st _ x]
  iapply (wp_load Variants.none (c : Thread nD τ) none Set.univ (m := mZ) (S := Finset.univ) (Finset.subset_univ _)) $$ HZ
  iintro HZ
  rw [ret_bind', show (mZ.view.readAt (Elt F) (Rect.unit (s := S6656x128) (oT (BitVec.ofNat 32 n) (BitVec.ofNat 32 g) (BitVec.ofNat 32 (2 * t))) S1x128.size (hT.t (2 * t) (by omega))).toLoadRect I.zt : IVec S1x128 32) = ztRow I n g (2 * t) from funext fun x => row_val hn hg (by omega) rfl mZ I.zt _ x]
  iapply (wp_load Variants.none (c : Thread nD τ) none Set.univ (m := mT) (S := Finset.univ) (Finset.subset_univ _)) $$ HT
  iintro HT
  rw [ret_bind', tile_val (F := F) I (C := 2 * t + 1) hs (by omega) rfl rfl _ hf]
  iapply (wp_load Variants.none (c : Thread nD τ) none Set.univ (m := mS) (S := Finset.univ) (Finset.subset_univ _)) $$ HS
  iintro HS
  rw [ret_bind', show (mS.view.readAt (Elt F) (Rect.unit (s := S6656x128) (oT (BitVec.ofNat 32 n) (BitVec.ofNat 32 g) (BitVec.ofNat 32 (2 * t + 1))) S1x128.size (hT.t (2 * t + 1) (by omega))).toLoadRect I.st : IVec S1x128 32) = stRow I n g (2 * t + 1) from funext fun x => row_val hn hg (by omega) rfl mS I.st _ x]
  iapply (wp_load Variants.none (c : Thread nD τ) none Set.univ (m := mZ) (S := Finset.univ) (Finset.subset_univ _)) $$ HZ
  iintro HZ
  rw [ret_bind', show (mZ.view.readAt (Elt F) (Rect.unit (s := S6656x128) (oT (BitVec.ofNat 32 n) (BitVec.ofNat 32 g) (BitVec.ofNat 32 (2 * t + 1))) S1x128.size (hT.t (2 * t + 1) (by omega))).toLoadRect I.zt : IVec S1x128 32) = ztRow I n g (2 * t + 1) from funext fun x => row_val hn hg (by omega) rfl mZ I.zt _ x]
  iapply (Mxu.wp_pushRhs _ (Mxu.pushOk_of_none u (tq t) r false (hu.reg _ _)))
  iapply (wp_load Variants.none (c : Thread nD τ) none Set.univ (m := mX) (S := Finset.univ) (Finset.subset_univ _)) $$ HX
  iintro HX
  rw [ret_bind', show (mX.view.readAt (Elt F) (Rect.unit (s := S104x24x256) (oX (BitVec.ofNat 32 g)) S1x24x256.size hT.x).toLoadRect I.xs : IVec S1x24x256 32) = xSlab I g from funext fun x => slab_val hg I.xs _ x]
  iapply Hk $$ [] [HX HS HZ HT]
  · ipureintro
    refine hu.step ht r _ _ ?_ fun t' ht' hne => ?_
    · unfold mid
      rw [if_pos (Nat.lt_succ_self t), if_neg (Nat.lt_irrefl t), accO_succ]; rfl
    · unfold mid
      by_cases h : t' < t
      · rw [if_pos h, if_pos (by omega)]
      · rw [if_neg h, if_neg (by omega)]
  · isplitl [HX HS HZ]
    · isplitl [HX]; · iexact HX
      isplitl [HS]; · iexact HS
      iexact HZ
    iexact HT

/-- One group's step: the tiles advance by group `g`'s product, and the other slot gets the words of `(n', g')`. -/
theorem gstep_run {n g s n' g' s' : Nat} (hn : n < 4) (hg : g < 104) (hs : s < 2) (hn' : n' < 4) (hg' : g' < 104) (hs' : s' < 2) (hne : s ≠ s') (hI : I.Ok)
    (hT : TOk (BitVec.ofNat 32 n) (BitVec.ofNat 32 g) (BitVec.ofNat 32 (528 * s))) (hG : GOk (BitVec.ofNat 32 g') (BitVec.ofNat 32 (528 * s')))
    {f : S1056x128.Idx → BitVec 32} (hf : Sorted (F := F) I s n g f) {u : Mxu F} (hu : MxuIs u (fun t => accO (F := F) I n t g))
    (k : Mxu F → Prog (TpuEff nD τ sig (Elt F) Λ₀ .tc) α) :
    iprop(ro (F := F) c I ∗ rd (F := F) c I n' ∗ pt c mT f)
      ⊢ iprop((∀ (u' : Mxu F) (f' : S1056x128.Idx → BitVec 32), ⌜MxuIs u' (fun t => accO (F := F) I n t (g + 1)) ∧ Sorted (F := F) I s' n' g' f'⌝
            -∗ iprop(ro (F := F) c I ∗ rd (F := F) c I n' ∗ pt c mT f') -∗ WP c (k u') Q)
        -∗ WP c (gstep (F := F) mA mH mX mS mZ mW mT (BitVec.ofNat 32 n) (BitVec.ofNat 32 g) (BitVec.ofNat 32 (528 * s)) (BitVec.ofNat 32 g')
            (BitVec.ofNat 32 (53264 * (n' % 2))) (BitVec.ofNat 32 (528 * s')) hT hG u k) Q) := by
  have l0 : 0 < 8 := by decide
  have a0 : Mxu.Fits 0 96 := by decide
  have a1 : Mxu.Fits 24 96 := by decide
  have a2 : Mxu.Fits 48 96 := by decide
  have a3 : Mxu.Fits 72 96 := by decide
  have l1 : 1 < 8 := by decide
  have l2 : 2 < 8 := by decide
  have l3 : 3 < 8 := by decide
  have l4 : 4 < 8 := by decide
  have l5 : 5 < 8 := by decide
  have l6 : 6 < 8 := by decide
  have l7 : 7 < 8 := by decide
  iintro ⟨HO, HR, HT⟩ Hk
  have hu0 : MxuIs u (mid (F := F) I n g 0) := hu
  unfold gstep
  iapply (gtile_run c I Q hn hg hs l0 hT 0 a0 rfl rfl hf hu0) $$ [HO HT]
  · isplitl [HO]; · iexact HO
    iexact HT
  iintro %u1 %hu1 ⟨HO, HT⟩
  iapply (gfour_run c I Q hn' hg' hs' l0 hI hG) $$ [HR HT]
  · isplitl [HR]; · iexact HR
    iexact HT
  iintro %f1 %e1 ⟨HR, HT⟩
  have hf1 := hf.ext I hs hs' hne (by omega) e1
  iapply (gtile_run c I Q hn hg hs l1 hT 0 a0 rfl rfl hf1 hu1) $$ [HO HT]
  · isplitl [HO]; · iexact HO
    iexact HT
  iintro %u2 %hu2 ⟨HO, HT⟩
  iapply (gfour_run c I Q hn' hg' hs' l1 hI hG) $$ [HR HT]
  · isplitl [HR]; · iexact HR
    iexact HT
  iintro %f2 %e2 ⟨HR, HT⟩
  have hf2 := hf1.ext I hs hs' hne (by omega) e2
  iapply (gtile_run c I Q hn hg hs l2 hT 1 a1 rfl rfl hf2 hu2) $$ [HO HT]
  · isplitl [HO]; · iexact HO
    iexact HT
  iintro %u3 %hu3 ⟨HO, HT⟩
  iapply (gfour_run c I Q hn' hg' hs' l2 hI hG) $$ [HR HT]
  · isplitl [HR]; · iexact HR
    iexact HT
  iintro %f3 %e3 ⟨HR, HT⟩
  have hf3 := hf2.ext I hs hs' hne (by omega) e3
  iapply (gtile_run c I Q hn hg hs l3 hT 1 a1 rfl rfl hf3 hu3) $$ [HO HT]
  · isplitl [HO]; · iexact HO
    iexact HT
  iintro %u4 %hu4 ⟨HO, HT⟩
  iapply (gfour_run c I Q hn' hg' hs' l3 hI hG) $$ [HR HT]
  · isplitl [HR]; · iexact HR
    iexact HT
  iintro %f4 %e4 ⟨HR, HT⟩
  have hf4 := hf3.ext I hs hs' hne (by omega) e4
  iapply (gtile_run c I Q hn hg hs l4 hT 0 a2 rfl rfl hf4 hu4) $$ [HO HT]
  · isplitl [HO]; · iexact HO
    iexact HT
  iintro %u5 %hu5 ⟨HO, HT⟩
  iapply (gfour_run c I Q hn' hg' hs' l4 hI hG) $$ [HR HT]
  · isplitl [HR]; · iexact HR
    iexact HT
  iintro %f5 %e5 ⟨HR, HT⟩
  have hf5 := hf4.ext I hs hs' hne (by omega) e5
  iapply (gtile_run c I Q hn hg hs l5 hT 0 a2 rfl rfl hf5 hu5) $$ [HO HT]
  · isplitl [HO]; · iexact HO
    iexact HT
  iintro %u6 %hu6 ⟨HO, HT⟩
  iapply (gfour_run c I Q hn' hg' hs' l5 hI hG) $$ [HR HT]
  · isplitl [HR]; · iexact HR
    iexact HT
  iintro %f6 %e6 ⟨HR, HT⟩
  have hf6 := hf5.ext I hs hs' hne (by omega) e6
  iapply (gtile_run c I Q hn hg hs l6 hT 1 a3 rfl rfl hf6 hu6) $$ [HO HT]
  · isplitl [HO]; · iexact HO
    iexact HT
  iintro %u7 %hu7 ⟨HO, HT⟩
  iapply (gfour_run c I Q hn' hg' hs' l6 hI hG) $$ [HR HT]
  · isplitl [HR]; · iexact HR
    iexact HT
  iintro %f7 %e7 ⟨HR, HT⟩
  have hf7 := hf6.ext I hs hs' hne (by omega) e7
  iapply (gtile_run c I Q hn hg hs l7 hT 1 a3 rfl rfl hf7 hu7) $$ [HO HT]
  · isplitl [HO]; · iexact HO
    iexact HT
  iintro %u8 %hu8 ⟨HO, HT⟩
  iapply (gfour_run c I Q hn' hg' hs' l7 hI hG) $$ [HR HT]
  · isplitl [HR]; · iexact HR
    iexact HT
  iintro %f8 %e8 ⟨HR, HT⟩
  have E2 := e1.trans I (by omega) e2 (by omega) (by omega)
  have E3 := E2.trans I (by omega) e3 (by omega) (by omega)
  have E4 := E3.trans I (by omega) e4 (by omega) (by omega)
  have E5 := E4.trans I (by omega) e5 (by omega) (by omega)
  have E6 := E5.trans I (by omega) e6 (by omega) (by omega)
  have E7 := E6.trans I (by omega) e7 (by omega) (by omega)
  have E8 := E7.trans I (by omega) e8 (by omega) (by omega)
  have hS : Sorted (F := F) I s' n' g' f8 := E8.sorted I
  have hU : MxuIs _ (fun t => accO (F := F) I n t (g + 1)) := hu8.congr fun t ht => if_pos ht
  iapply Hk $$ [] [HO HR HT]
  · ipureintro; exact ⟨hU, hS⟩
  · isplitl [HO]; · iexact HO
    isplitl [HR]; · iexact HR
    iexact HT

end Cert.Proof.KernelIdeal
-- ==== Proof.IRun4.lean ====
/-
  A block's results: its eight tiles popped and stored.
-/
module

public import proofs.«01_k».proof.Proof.IRun2

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (I : Ins) {α : Type} (Q : α → sProp (MT nD τ sig Unit (Elt F) ℕ (Pipeline.UD sig nD τ) ℕ))

/-- The blocks before `n`, and the first `j` column blocks of block `n`, are stored. -/
def Done (n j : Nat) (f : S4x48x4096.Idx → F .bf16) : Prop :=
  ∀ i : S4x48x4096.Idx, (i 0 : Nat) < n ∨ ((i 0 : Nat) = n ∧ (i 2 : Nat) < 128 * j) → f i = out (F := F) I i

theorem Done.next {n : Nat} {f : S4x48x4096.Idx → F .bf16} (h : Done (F := F) I n 32 f) : Done (F := F) I (n + 1) 0 f := fun i hi => by
  have : (i 2 : Nat) < 4096 := (i 2).isLt
  exact h i (by omega)

/-- An index of a stored tile. -/
def oIx (x1 x2 : Nat) (h1 : x1 < 48) (h2 : x2 < 128) : S1x48x128.Idx := fun a => match a with
  | ⟨0, _⟩ => ⟨0, Nat.one_pos⟩
  | ⟨1, _⟩ => ⟨x1, h1⟩
  | ⟨2, _⟩ => ⟨x2, h2⟩

theorem out_eq (i : S4x48x4096.Idx) :
    out (F := F) I i = oblk (F := F) I (i 0 : Nat) ((i 2 : Nat) / 128) (oIx (i 1 : Nat) ((i 2 : Nat) % 128) (i 1).isLt (Nat.mod_lt _ (by decide))) := by
  unfold out
  refine congrArg _ (funext fun a => ?_)
  match a with
  | ⟨0, _⟩ => rfl
  | ⟨1, _⟩ => rfl
  | ⟨2, _⟩ => rfl

theorem st_val {n j : Nat} (hn : n < 4) (hj : j < 32) (ho : ∀ a, oO (BitVec.ofNat 32 n) j a + S1x48x128.size a ≤ S4x48x4096.size a)
    (f : S4x48x4096.Idx → F .bf16) (v : FVec F S1x48x128 .bf16) (hv : v = oblk (F := F) I n j) (hd : Done (F := F) I n j f) :
    Done (F := F) I n (j + 1) ((mO.access (Rect.unit (s := S4x48x4096) (oO (BitVec.ofNat 32 n) j) S1x48x128.size ho)).write (Elt F) f v Finset.univ) := by
  have e := oO_eq hn j
  generalize oO (BitVec.ofNat 32 n) j = o at ho e
  subst e
  have key : ∀ x : S1x48x128.Idx, (mO.access (Rect.unit (s := S4x48x4096) ![n, 0, 128 * j] S1x48x128.size ho)).emb x
      = (fun a => match a with
        | ⟨0, _⟩ => ⟨n, hn⟩
        | ⟨1, _⟩ => ⟨(x 1 : Nat), (x 1).isLt⟩
        | ⟨2, _⟩ => ⟨128 * j + (x 2 : Nat), by have : (x 2 : Nat) < 128 := (x 2).isLt; show _ < 4096; omega⟩ : S4x48x4096.Idx) := by
    intro x
    funext a
    apply Fin.ext
    match a with
    | ⟨0, _⟩ => have : (x 0 : Nat) < 1 := (x 0).isLt
                show n + 1 * (x 0 : Nat) = n; omega
    | ⟨1, _⟩ => show 0 + 1 * (x 1 : Nat) = (x 1 : Nat); omega
    | ⟨2, _⟩ => show 128 * j + 1 * (x 2 : Nat) = 128 * j + (x 2 : Nat); omega
  intro i hi
  have h1 : (i 1 : Nat) < 48 := (i 1).isLt
  by_cases hm : (i 0 : Nat) = n ∧ (i 2 : Nat) / 128 = j
  · obtain ⟨hm0, hm2⟩ := hm
    have ei : (mO.access (Rect.unit (s := S4x48x4096) ![n, 0, 128 * j] S1x48x128.size ho)).emb
        (oIx (i 1 : Nat) ((i 2 : Nat) % 128) h1 (Nat.mod_lt _ (by decide))) = i := by
      rw [key]
      funext a
      apply Fin.ext
      match a with
      | ⟨0, _⟩ => exact hm0.symm
      | ⟨1, _⟩ => rfl
      | ⟨2, _⟩ => show 128 * j + (i 2 : Nat) % 128 = (i 2 : Nat); omega
    rw [out_eq, hm0, hm2, ← hv]
    conv_lhs => rw [← ei]
    exact View.write_emb_of_mem _ _ (Finset.mem_univ _)
  · refine (View.write_of_not_mem _ _ _ fun hmem => hm ?_).trans (hd i (by omega))
    obtain ⟨x, -, rfl⟩ := Finset.mem_map.mp hmem
    rw [key]
    have : (x 2 : Nat) < 128 := (x 2).isLt
    refine ⟨rfl, ?_⟩
    show (128 * j + (x 2 : Nat)) / 128 = j
    omega

theorem gst_run {n j : Nat} (hn : n < 4) (hj : j < 32) (h : OOk mO (BitVec.ofNat 32 n)) (f : S4x48x4096.Idx → F .bf16) (ye yo : FVec F S48x128 .f32) (kk : BitVec 32)
    (hv : gval (F := F) ye yo kk = oblk (F := F) I n j) (hd : Done (F := F) I n j f) (k : Prog (TpuEff nD τ sig (Elt F) Λ₀ .tc) α) :
    pt c mO f ⊢ iprop((∀ f' : S4x48x4096.Idx → F .bf16, ⌜Done (F := F) I n (j + 1) f'⌝ -∗ pt c mO f' -∗ WP c k Q)
        -∗ WP c (gst (F := F) mO (BitVec.ofNat 32 n) h j hj ye yo kk k) Q) := by
  iintro HO Hk
  unfold gst
  iapply (wp_load Variants.none (c : Thread nD τ) none Set.univ (m := mO) (S := Finset.univ) (Finset.subset_univ _)) $$ HO
  iintro HO
  simp only [ret_bind']
  iapply (wp_store Variants.none (c : Thread nD τ) none Set.univ (m := mO) (r := Rect.unit (s := S4x48x4096) (oO (BitVec.ofNat 32 n) j) S1x48x128.size (h.o j hj))
    (S := Finset.univ) (Finset.subset_univ _)) $$ HO
  iintro HO
  simp only [ret_bind']
  iapply Hk $$ [] HO
  ipureintro
  exact st_val (F := F) I hn hj _ f _ hv hd

/-- The tiles before `t` popped. -/
def popd (n t : Nat) (t' : Nat) : Option (FVec F (Mxu.STile 96) .f32) := if t' < t then none else accO (F := F) I n t' 104

theorem gpop_run {n t : Nat} (hn : n < 4) (ht : t < 8) (h : OOk mO (BitVec.ofNat 32 n)) {q : Fin 2} {A : Nat} (hA : Mxu.Fits A 96)
    (eq : q = tq t) (eA : A = tA t) (f : S4x48x4096.Idx → F .bf16) (hd : Done (F := F) I n (4 * t) f) {u : Mxu F} (hu : MxuIs u (popd (F := F) I n t))
    (k : Mxu F → Prog (TpuEff nD τ sig (Elt F) Λ₀ .tc) α) :
    pt c mO f ⊢ iprop((∀ (u' : Mxu F) (f' : S4x48x4096.Idx → F .bf16), ⌜MxuIs u' (popd (F := F) I n (t + 1)) ∧ Done (F := F) I n (4 * (t + 1)) f'⌝ -∗ pt c mO f' -∗ WP c (k u') Q)
        -∗ WP c (gpop (F := F) mO (BitVec.ofNat 32 n) h t ht q A hA u k) Q) := by
  subst eq eA
  have er : u.read (tq t) (tA t) hA = acc (F := F) I n t 103 := by
    have := hu.tile t ht
    rw [show popd (F := F) I n t t = some (acc (F := F) I n t 103) from if_neg (Nat.lt_irrefl t)] at this
    exact this.2
  have j0 : 4 * t < 32 := by omega
  have j1 : 4 * t + 1 < 32 := by omega
  have j2 : 4 * t + 2 < 32 := by omega
  have j3 : 4 * t + 3 < 32 := by omega
  unfold gpop
  rw [er]
  iintro HO Hk
  iapply (gst_run c I Q hn j0 h f _ _ _ (by
    unfold oblk rowsE rowsO
    rw [if_pos (by omega), if_pos (by omega), if_pos (by omega), show 4 * t / 4 = t by omega]) hd) $$ HO
  iintro %f1 %h1 HO
  iapply (gst_run c I Q hn j1 h f1 _ _ _ (by
    unfold oblk rowsE rowsO
    rw [if_pos (by omega), if_pos (by omega), if_neg (by omega), show (4 * t + 1) / 4 = t by omega]) h1) $$ HO
  iintro %f2 %h2 HO
  iapply (gst_run c I Q hn j2 h f2 _ _ _ (by
    unfold oblk rowsE rowsO
    rw [if_neg (by omega), if_neg (by omega), if_pos (by omega), show (4 * t + 1 + 1) / 4 = t by omega]) h2) $$ HO
  iintro %f3 %h3 HO
  iapply (gst_run c I Q hn j3 h f3 _ _ _ (by
    unfold oblk rowsE rowsO
    rw [if_neg (by omega), if_neg (by omega), if_neg (by omega), show (4 * t + 1 + 1 + 1) / 4 = t by omega]) h3) $$ HO
  iintro %f4 %h4 HO
  have hU : MxuIs (u.pop (tq t) (tA t) 96 hA) (popd (F := F) I n (t + 1)) := hu.pop ht (if_pos (Nat.lt_succ_self t)) fun t' _ hne => by
    unfold popd
    by_cases hl : t' < t
    · rw [if_pos hl, if_pos (by omega)]
    · rw [if_neg hl, if_neg (by omega)]
  iapply Hk $$ [] HO
  ipureintro
  exact ⟨hU, h4⟩

/-- A block's results stored. -/
theorem gpops_run {n : Nat} (hn : n < 4) (h : OOk mO (BitVec.ofNat 32 n)) (f : S4x48x4096.Idx → F .bf16) (hd : Done (F := F) I n 0 f)
    {u : Mxu F} (hu : MxuIs u (fun t => accO (F := F) I n t 104)) (k : Mxu F → Prog (TpuEff nD τ sig (Elt F) Λ₀ .tc) α) :
    pt c mO f ⊢ iprop((∀ (u' : Mxu F) (f' : S4x48x4096.Idx → F .bf16), ⌜MxuIs u' (fun _ => none) ∧ Done (F := F) I (n + 1) 0 f'⌝ -∗ pt c mO f' -∗ WP c (k u') Q)
        -∗ WP c (gpops (F := F) mO (BitVec.ofNat 32 n) h u k) Q) := by
  have l0 : 0 < 8 := by decide
  have l1 : 1 < 8 := by decide
  have l2 : 2 < 8 := by decide
  have l3 : 3 < 8 := by decide
  have l4 : 4 < 8 := by decide
  have l5 : 5 < 8 := by decide
  have l6 : 6 < 8 := by decide
  have l7 : 7 < 8 := by decide
  have a0 : Mxu.Fits 0 96 := by decide
  have a1 : Mxu.Fits 24 96 := by decide
  have a2 : Mxu.Fits 48 96 := by decide
  have a3 : Mxu.Fits 72 96 := by decide
  have hu0 : MxuIs u (popd (F := F) I n 0) := hu
  iintro HO Hk
  unfold gpops
  iapply (gpop_run c I Q hn l0 h a0 rfl rfl f hd hu0) $$ HO
  iintro %u1 %f1 %h1 HO
  iapply (gpop_run c I Q hn l1 h a0 rfl rfl f1 h1.2 h1.1) $$ HO
  iintro %u2 %f2 %h2 HO
  iapply (gpop_run c I Q hn l2 h a1 rfl rfl f2 h2.2 h2.1) $$ HO
  iintro %u3 %f3 %h3 HO
  iapply (gpop_run c I Q hn l3 h a1 rfl rfl f3 h3.2 h3.1) $$ HO
  iintro %u4 %f4 %h4 HO
  iapply (gpop_run c I Q hn l4 h a2 rfl rfl f4 h4.2 h4.1) $$ HO
  iintro %u5 %f5 %h5 HO
  iapply (gpop_run c I Q hn l5 h a2 rfl rfl f5 h5.2 h5.1) $$ HO
  iintro %u6 %f6 %h6 HO
  iapply (gpop_run c I Q hn l6 h a3 rfl rfl f6 h6.2 h6.1) $$ HO
  iintro %u7 %f7 %h7 HO
  iapply (gpop_run c I Q hn l7 h a3 rfl rfl f7 h7.2 h7.1) $$ HO
  iintro %u8 %f8 %h8 HO
  have hU : MxuIs u8 (fun _ => none) := h8.1.congr fun t ht => if_pos ht
  have hD : Done (F := F) I (n + 1) 0 f8 := h8.2.next I
  iapply Hk $$ [] HO
  ipureintro
  exact ⟨hU, hD⟩

end Cert.Proof.KernelIdeal
-- ==== Proof.IRun5.lean ====
/-
  The loops and the whole body, run.
-/
module

public import proofs.«01_k».proof.Proof.IEq
public import proofs.«01_k».proof.Proof.IEq2
public import proofs.«01_k».proof.Proof.IRun3
public import proofs.«01_k».proof.Proof.IRun4

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxRecDepth 65536

local notation "𝕄" => MT nD τ sig Unit (Elt F) ℕ (Pipeline.UD sig nD τ) ℕ

/-! ### Words -/

theorem trips1 : k0_t1_loop.trips = 4 := by decide
theorem trips2 : k0_t2_loop.trips = 103 := by decide

theorem gN_eq (t : Fin k0_t1_loop.trips) : gN t = BitVec.ofNat 32 t := by
  unfold gN Scf.iv; simp
theorem gG_eq (t : Fin k0_t2_loop.trips) : gG t = BitVec.ofNat 32 t := by
  unfold gG Scf.iv; simp
theorem gadd_eq (g k : Nat) : Scalar.addi (BitVec.ofNat 32 g) (BitVec.ofNat 32 k) = BitVec.ofNat 32 (g + k) := by
  simp only [Scalar.addi, IntOp.addi, BitVec.ofNat_add]
theorem gmin_eq {n : Nat} (hn : n < 4) : Scalar.minsi (BitVec.ofNat 32 (n + 1)) 3#32 = BitVec.ofNat 32 (min (n + 1) 3) := by
  have h : ∀ n : Fin 4, Scalar.minsi (BitVec.ofNat 32 (n + 1)) 3#32 = BitVec.ofNat 32 (min (n + 1) 3) := by decide +kernel
  exact h ⟨n, hn⟩
theorem cond1_iff : ∀ t : Fin k0_t1_loop.trips, k0_cond1 t = 1#1 ↔ (t : Nat) + 1 < 4 := by decide +kernel
theorem cond2_iff : ∀ t : Fin k0_t1_loop.trips, k0_cond2 t = 1#1 ↔ (t : Nat) + 2 < 4 := by decide +kernel

theorem OOk_ok {n : Nat} (hn : n < 4) : OOk mO (BitVec.ofNat 32 n) := by
  have o : ∀ j, j < 32 → ∀ a, oO (BitVec.ofNat 32 n) j a + S1x48x128.size a ≤ S4x48x4096.size a := fun j hj a => by
    rw [oO_eq hn j]
    match a with
    | ⟨0, _⟩ => show n + 1 ≤ 4; omega
    | ⟨1, _⟩ => show 0 + 48 ≤ 48; omega
    | ⟨2, _⟩ => show 128 * j + 128 ≤ 4096; omega
  refine ⟨o, fun j hj => ?_⟩
  have h2 : 2 ≤ S4x48x4096.rank := by decide
  have p : (Rect.unit (s := S4x48x4096) (oO (BitVec.ofNat 32 n) j) S1x48x128.size (o j hj)).PackedRows (EltTy.packing .bf16) :=
    .inr ⟨h2, rfl, .inl ⟨⟨0, (congrFun (oO_eq hn j) 1 :)⟩, ⟨24, rfl⟩⟩⟩
  exact View.stores_vmem h_S1x48x128 ((Memref.isWhole_whole cc0_stg5_0).storeExact_slice rfl _ p) (fun _ => rfl)

theorem gstep_congr {n n' g g' a a' b b' d d' e e' : BitVec 32} (e1 : n = n') (e2 : g = g') (e3 : a = a') (e4 : b = b') (e5 : d = d') (e6 : e = e')
    {hT : TOk n g a} {hT' : TOk n' g' a'} {hG : GOk b e} {hG' : GOk b' e'} {α : Type} {u : Mxu F} {k : Mxu F → Prog (TpuEff nD τ sig (Elt F) Λ₀ .tc) α} :
    gstep (F := F) mA mH mX mS mZ mW mT n g a b d e hT hG u k = gstep (F := F) mA mH mX mS mZ mW mT n' g' a' b' d' e' hT' hG' u k := by
  subst e1 e2 e3 e4 e5 e6; rfl

theorem gstarts_congr {n n' : BitVec 32} (e : n = n') {h : DOk n} {h' : DOk n'} {α : Type} {k : Prog (TpuEff nD τ sig (Elt F) Λ₀ .tc) α} :
    gstarts (F := F) mQ mW cc0_scratch2 n h k 16 le_rfl = gstarts (F := F) mQ mW cc0_scratch2 n' h' k 16 le_rfl := by subst e; rfl
theorem gwaits_congr {n n' : BitVec 32} (e : n = n') {h : DOk n} {h' : DOk n'} {α : Type} {k : Prog (TpuEff nD τ sig (Elt F) Λ₀ .tc) α} :
    gwaits (F := F) mQ mW cc0_scratch2 n h k 16 le_rfl = gwaits (F := F) mQ mW cc0_scratch2 n' h' k 16 le_rfl := by subst e; rfl
theorem gpops_congr {n n' : BitVec 32} (e : n = n') {h : OOk mO n} {h' : OOk mO n'} {α : Type} {u : Mxu F} {k : Mxu F → Prog (TpuEff nD τ sig (Elt F) Λ₀ .tc) α} :
    gpops (F := F) mO n h u k = gpops (F := F) mO n' h' u k := by subst e; rfl

variable (c : Dev nD) (I : Ins)

theorem WP_ret {α : Type} (Q : α → sProp 𝕄) (a : α) : Q a ⊢ WP c (.ret a : Prog (TpuEff nD τ sig (Elt F) Λ₀ .tc) α) Q := by
  unfold WP
  rw [wp_ret]
  iintro H
  imodintro
  iexact H

/-! ### The loop over groups -/

abbrev body2 (t1 : Fin k0_t1_loop.trips) (s0 : Mxu F) :=
  k0_t2_body (F := F) mQ (Memref.isWhole_whole _) mA (Memref.isWhole_whole _) mH (Memref.isWhole_whole _) mX (Memref.isWhole_whole _) mS (Memref.isWhole_whole _)
    mZ (Memref.isWhole_whole _) mO (Memref.isWhole_whole _) mW (Memref.isWhole_whole _) mT (Memref.isWhole_whole _) cc0_scratch2 0#32 1#32 t1 s0 (gN t1)

theorem body2_eq (t1 : Fin k0_t1_loop.trips) (s0 : Mxu F) (t2 : Fin k0_t2_loop.trips) (s : Mxu F) (hn : t1.val < 4) (hg : t2.val < 103)
    (hT : TOk (BitVec.ofNat 32 t1) (BitVec.ofNat 32 t2) (BitVec.ofNat 32 (528 * (t2.val % 2)))) (hG : GOk (BitVec.ofNat 32 (t2 + 1)) (BitVec.ofNat 32 (528 * (1 - t2.val % 2)))) :
    body2 (F := F) t1 s0 t2 s = gstep mA mH mX mS mZ mW mT (BitVec.ofNat 32 t1) (BitVec.ofNat 32 t2) (BitVec.ofNat 32 (528 * (t2.val % 2))) (BitVec.ofNat 32 (t2 + 1))
      (BitVec.ofNat 32 (53264 * (t1.val % 2))) (BitVec.ofNat 32 (528 * (1 - t2.val % 2))) hT hG s .ret := by
  have e1 := gN_eq t1
  have e2 := gG_eq t2
  have e3 : gSlot (gN t1) (gG t2) = BitVec.ofNat 32 (528 * (t2.val % 2)) := by rw [e1, e2, gSlot_eq hn (by omega)]
  have e4 : Scalar.addi (gG t2) 1#32 = BitVec.ofNat 32 (t2 + 1) := by rw [e2]; exact gadd_eq _ 1
  have e5 : gBase (gN t1) = BitVec.ofNat 32 (53264 * (t1.val % 2)) := by rw [e1, gBase_eq hn]
  have e6 : Scalar.subi 528#32 (gSlot (gN t1) (gG t2)) = BitVec.ofNat 32 (528 * (1 - t2.val % 2)) := by rw [e3, nslot_eq (by omega)]
  refine (t2_eq _ _ _ _ _ _ _ _ _ _ _ _ _ _ _ _ _ _ _ t1 s0 t2 s (by rw [e3, e1, e2]; exact hT) (by rw [e4, e6]; exact hG)).trans ?_
  exact gstep_congr e1 e2 e3 e4 e5 e6

/-- Before group `g` of block `n`: the units hold the sums so far and the group's words lie sorted. -/
def inv2 (n g : Nat) (u : Mxu F) : sProp 𝕄 :=
  iprop(∃ f : S1056x128.Idx → BitVec 32, ⌜MxuIs u (fun t => accO (F := F) I n t g) ∧ Sorted (F := F) I (g % 2) n g f⌝ ∗ ro (F := F) c I ∗ rd (F := F) c I n ∗ pt c mT f)

theorem inv2_step (hI : I.Ok) (t1 : Fin k0_t1_loop.trips) (s0 : Mxu F) (t2 : Fin k0_t2_loop.trips) (s : Mxu F) :
    inv2 (F := F) c I t1 t2 s ⊢ WP c (body2 (F := F) t1 s0 t2 s) (inv2 (F := F) c I t1 (t2.val + 1)) := by
  have hn : t1.val < 4 := lt_of_lt_of_eq t1.isLt trips1
  have hg : t2.val < 103 := lt_of_lt_of_eq t2.isLt trips2
  have hg' : t2.val < 104 := by omega
  have hg1 : t2.val + 1 < 104 := by omega
  have hs : t2.val % 2 < 2 := by omega
  have hs' : 1 - t2.val % 2 < 2 := by omega
  have hne : t2.val % 2 ≠ 1 - t2.val % 2 := by omega
  have es : 1 - t2.val % 2 = (t2.val + 1) % 2 := by omega
  have hT := TOk_ok hn hg' hs
  have hG := GOk_ok hg1 hs'
  rw [body2_eq t1 s0 t2 s hn hg hT hG]
  unfold inv2
  iintro ⟨%f, %hp, HO, HR, HT⟩
  iapply (gstep_run c I _ hn hg' hs hn hg1 hs' hne hI hT hG hp.2 hp.1 .ret) $$ [HO HR HT]
  · isplitl [HO]; · iexact HO
    isplitl [HR]; · iexact HR
    iexact HT
  iintro %u' %f' %hp' ⟨HO, HR, HT⟩
  iapply (WP_ret c)
  iexists f'
  isplitr
  · ipureintro
    rw [es] at hp'
    exact hp'
  isplitl [HO]; · iexact HO
  isplitl [HR]; · iexact HR
  iexact HT

theorem loop2_run (hI : I.Ok) {α : Type} (Q : α → sProp 𝕄) (t1 : Fin k0_t1_loop.trips) (s0 : Mxu F) (k : Mxu F → Prog (TpuEff nD τ sig (Elt F) Λ₀ .tc) α) :
    inv2 (F := F) c I t1 0 s0
      ⊢ iprop((∀ u' : Mxu F, inv2 (F := F) c I t1 103 u' -∗ WP c (k u') Q) -∗ WP c (Prog.bind (Scf.Loop.for k0_t2_loop k0_t2_ok s0 (body2 (F := F) t1 s0)) k) Q) := by
  have h := Scf.wp_for_bind frame (wpE (defs₀ (F := F)) Variants.none (c : Thread nD τ) none) Set.univ k0_t2_loop.lb k0_t2_loop.ub k0_t2_loop.st k0_t2_ok s0
    (body2 (F := F) t1 s0) (inv2 (F := F) c I t1) (inv2_step c I hI t1 s0) (kk := k) (Q := Q)
  have e : Scf.trips k0_t2_loop.lb k0_t2_loop.ub k0_t2_loop.st = 103 := by decide
  rw [e] at h
  exact h

/-! ### The copies in flight -/

/-- A block's rows staged, its semaphore at rest; a block's columns at rest. -/
def hot (n : Nat) : sProp 𝕄 := iprop(ptOn c mW (wset (n % 2)) (wrd I n) ∗ sem0 (F := F) c (n % 2))
def src (n : Nat) : sProp 𝕄 := ptOn c mQ (srcs n) I.q

/-- What is held beside the block in use: at block 0 block 1 is in flight, at 1 block 2, at 2 block 3, then none. -/
def rest : Nat → sProp 𝕄
  | 0 => iprop(bat (F := F) c I 1 16 0 ∗ src c I 0 ∗ src c I 2 ∗ src c I 3)
  | 1 => iprop(bat (F := F) c I 2 16 0 ∗ src c I 0 ∗ src c I 1 ∗ src c I 3)
  | 2 => iprop(bat (F := F) c I 3 16 0 ∗ src c I 0 ∗ src c I 1 ∗ src c I 2)
  | _ => iprop(hot (F := F) c I 2 ∗ src c I 0 ∗ src c I 1 ∗ src c I 2 ∗ src c I 3)

/-- The waits and the starts of block `t1`. -/
def gcopy (t1 : Fin k0_t1_loop.trips) (hD1 : k0_cond1 t1 = 1#1 → DOk (Scalar.addi (gN t1) 1#32)) (hD2 : k0_cond2 t1 = 1#1 → DOk (Scalar.addi (gN t1) 2#32))
    {α : Type} (k : Prog (TpuEff nD τ sig (Elt F) Λ₀ .tc) α) : Prog (TpuEff nD τ sig (Elt F) Λ₀ .tc) α :=
  if h : k0_cond1 t1 = 1#1 then gwaits (F := F) mQ mW cc0_scratch2 (Scalar.addi (gN t1) 1#32) (hD1 h)
    (if h : k0_cond2 t1 = 1#1 then gstarts (F := F) mQ mW cc0_scratch2 (Scalar.addi (gN t1) 2#32) (hD2 h) k 16 le_rfl else k) 16 le_rfl
  else if h : k0_cond2 t1 = 1#1 then gstarts (F := F) mQ mW cc0_scratch2 (Scalar.addi (gN t1) 2#32) (hD2 h) k 16 le_rfl else k

theorem gN1 (t1 : Fin k0_t1_loop.trips) : Scalar.addi (gN t1) 1#32 = BitVec.ofNat 32 (t1 + 1) := by rw [gN_eq]; exact gadd_eq _ 1
theorem gN2 (t1 : Fin k0_t1_loop.trips) : Scalar.addi (gN t1) 2#32 = BitVec.ofNat 32 (t1 + 2) := by rw [gN_eq]; exact gadd_eq _ 2

/-- A wait for block `n + 1` and a start of block `n + 2`. -/
theorem copy2 {n : Nat} (hn : n + 2 < 4) {w1 w2 : BitVec 32} (e1 : w1 = BitVec.ofNat 32 (n + 1)) (e2 : w2 = BitVec.ofNat 32 (n + 2)) (h1 : DOk w1) (h2 : DOk w2)
    {α : Type} (Q : α → sProp 𝕄) (k : Prog (TpuEff nD τ sig (Elt F) Λ₀ .tc) α) :
    iprop(hot (F := F) c I n ∗ bat (F := F) c I (n + 1) 16 0 ∗ src c I (n + 2) ∗ ∃ W, owes (c : Thread nD τ) 0 W)
      ⊢ iprop((iprop(hot (F := F) c I (n + 1) ∗ bat (F := F) c I (n + 2) 16 0 ∗ src c I (n + 1) ∗ ∃ W, owes (c : Thread nD τ) 0 W) -∗ WP c k Q)
        -∗ WP c (gwaits (F := F) mQ mW cc0_scratch2 w1 h1 (gstarts (F := F) mQ mW cc0_scratch2 w2 h2 k 16 le_rfl) 16 le_rfl) Q) := by
  subst e1 e2
  have hn1 : n + 1 < 4 := by omega
  have em : (n + 2) % 2 = n % 2 := by omega
  unfold hot src
  iintro ⟨⟨HW, HS⟩, HB, HC, HO⟩ Hk
  iapply (gwaits_run c I Q hn1 h1 _) $$ [HB HO]
  · isplitl [HB]; · iexact HB
    iexact HO
  iintro ⟨HW1, HC1, HS1, HO⟩
  iapply (gstarts_run c I Q hn h2 (wrd I n) k) $$ [HW HC HS]
  · rw [em]
    isplitl [HW]; · iexact HW
    isplitl [HC]; · iexact HC
    iexact HS
  iintro HB
  iapply Hk
  isplitl [HW1 HS1]
  · isplitl [HW1]; · iexact HW1
    iexact HS1
  isplitl [HB]; · iexact HB
  isplitl [HC1]; · iexact HC1
  iexact HO

theorem gcopy_run (t1 : Fin k0_t1_loop.trips) (hD1 : k0_cond1 t1 = 1#1 → DOk (Scalar.addi (gN t1) 1#32)) (hD2 : k0_cond2 t1 = 1#1 → DOk (Scalar.addi (gN t1) 2#32))
    {α : Type} (Q : α → sProp 𝕄) (k : Prog (TpuEff nD τ sig (Elt F) Λ₀ .tc) α) :
    iprop(hot (F := F) c I t1 ∗ rest (F := F) c I t1 ∗ ∃ W, owes (c : Thread nD τ) 0 W)
      ⊢ iprop((iprop(hot (F := F) c I (min (t1.val + 1) 3) ∗ rest (F := F) c I (t1.val + 1) ∗ ∃ W, owes (c : Thread nD τ) 0 W) -∗ WP c k Q)
        -∗ WP c (gcopy (F := F) t1 hD1 hD2 k) Q) := by
  have hn : t1.val < 4 := lt_of_lt_of_eq t1.isLt trips1
  have e1 := gN1 t1
  have e2 := gN2 t1
  have c1 := cond1_iff t1
  have c2 := cond2_iff t1
  unfold gcopy
  generalize t1.val = n at *
  obtain rfl | rfl | rfl | rfl : n = 0 ∨ n = 1 ∨ n = 2 ∨ n = 3 := by omega
  · have k1 := c1.mpr (by decide)
    have k2 := c2.mpr (by decide)
    rw [dif_pos k1, dif_pos k2]
    show iprop(hot (F := F) c I 0 ∗ (bat (F := F) c I 1 16 0 ∗ src c I 0 ∗ src c I 2 ∗ src c I 3) ∗ _) ⊢
      iprop((iprop(hot (F := F) c I 1 ∗ (bat (F := F) c I 2 16 0 ∗ src c I 0 ∗ src c I 1 ∗ src c I 3) ∗ _) -∗ _) -∗ _)
    iintro ⟨HH, ⟨HB, H0, H2, H3⟩, HO⟩ Hk
    iapply (copy2 c I (n := 0) (by decide) e1 e2 (hD1 k1) (hD2 k2) Q k) $$ [HH HB H2 HO]
    · isplitl [HH]; · iexact HH
      isplitl [HB]; · iexact HB
      isplitl [H2]; · iexact H2
      iexact HO
    iintro ⟨HH, HB, H1, HO⟩
    iapply Hk
    isplitl [HH]; · iexact HH
    isplitr [HO]
    · isplitl [HB]; · iexact HB
      isplitl [H0]; · iexact H0
      isplitl [H1]; · iexact H1
      iexact H3
    iexact HO
  · have k1 := c1.mpr (by decide)
    have k2 := c2.mpr (by decide)
    rw [dif_pos k1, dif_pos k2]
    show iprop(hot (F := F) c I 1 ∗ (bat (F := F) c I 2 16 0 ∗ src c I 0 ∗ src c I 1 ∗ src c I 3) ∗ _) ⊢
      iprop((iprop(hot (F := F) c I 2 ∗ (bat (F := F) c I 3 16 0 ∗ src c I 0 ∗ src c I 1 ∗ src c I 2) ∗ _) -∗ _) -∗ _)
    iintro ⟨HH, ⟨HB, H0, H1, H3⟩, HO⟩ Hk
    iapply (copy2 c I (n := 1) (by decide) e1 e2 (hD1 k1) (hD2 k2) Q k) $$ [HH HB H3 HO]
    · isplitl [HH]; · iexact HH
      isplitl [HB]; · iexact HB
      isplitl [H3]; · iexact H3
      iexact HO
    iintro ⟨HH, HB, H2, HO⟩
    iapply Hk
    isplitl [HH]; · iexact HH
    isplitr [HO]
    · isplitl [HB]; · iexact HB
      isplitl [H0]; · iexact H0
      isplitl [H1]; · iexact H1
      iexact H2
    iexact HO
  · rw [dif_pos (c1.mpr (by decide)), dif_neg (fun h => absurd (c2.mp h) (by decide))]
    rw [gwaits_congr e1 (h' := DOk_ok (by decide))]
    show iprop(hot (F := F) c I 2 ∗ (bat (F := F) c I 3 16 0 ∗ src c I 0 ∗ src c I 1 ∗ src c I 2) ∗ _) ⊢
      iprop((iprop(hot (F := F) c I 3 ∗ (hot (F := F) c I 2 ∗ src c I 0 ∗ src c I 1 ∗ src c I 2 ∗ src c I 3) ∗ _) -∗ _) -∗ _)
    iintro ⟨HH, ⟨HB, H0, H1, H2⟩, HO⟩ Hk
    iapply (gwaits_run c I Q (n := 3) (by decide) _ k) $$ [HB HO]
    · isplitl [HB]; · iexact HB
      iexact HO
    iintro ⟨HW, H3, HS, HO⟩
    iapply Hk
    isplitl [HW HS]
    · unfold hot
      isplitl [HW]; · iexact HW
      iexact HS
    isplitr [HO]
    · isplitl [HH]; · iexact HH
      isplitl [H0]; · iexact H0
      isplitl [H1]; · iexact H1
      isplitl [H2]; · iexact H2
      unfold src
      iexact H3
    iexact HO
  · rw [dif_neg (fun h => absurd (c1.mp h) (by decide)), dif_neg (fun h => absurd (c2.mp h) (by decide))]
    show iprop(hot (F := F) c I 3 ∗ (hot (F := F) c I 2 ∗ src c I 0 ∗ src c I 1 ∗ src c I 2 ∗ src c I 3) ∗ _) ⊢
      iprop((iprop(hot (F := F) c I 3 ∗ (hot (F := F) c I 2 ∗ src c I 0 ∗ src c I 1 ∗ src c I 2 ∗ src c I 3) ∗ _) -∗ _) -∗ _)
    iintro H Hk
    iapply Hk
    iexact H

/-! ### The loop over blocks -/

/-- The two index tables. -/
abbrev ah : sProp 𝕄 := iprop(pt c mA I.a ∗ pt c mH I.sh)

abbrev body1 :=
  k0_t1_body (F := F) mQ (Memref.isWhole_whole _) mA (Memref.isWhole_whole _) mH (Memref.isWhole_whole _) mX (Memref.isWhole_whole _) mS (Memref.isWhole_whole _)
    mZ (Memref.isWhole_whole _) mO (Memref.isWhole_whole _) mW (Memref.isWhole_whole _) mT (Memref.isWhole_whole _) cc0_scratch2

/-- Before block `n`: the units empty, the block's first group sorted, the earlier blocks' results stored. -/
def inv1 (n : Nat) (u : Mxu F) : sProp 𝕄 :=
  iprop(∃ (f : S1056x128.Idx → BitVec 32) (fo : S4x48x4096.Idx → F .bf16),
    ⌜MxuIs u (fun _ => none) ∧ Sorted (F := F) I 0 (min n 3) 0 f ∧ Done (F := F) I n 0 fo⌝ ∗ ro (F := F) c I ∗ ah c I ∗ pt c mT f ∗ pt c mO fo
      ∗ hot (F := F) c I (min n 3) ∗ rest (F := F) c I n ∗ ∃ W, owes (c : Thread nD τ) 0 W)

theorem inv1_step (hI : I.Ok) (t1 : Fin k0_t1_loop.trips) (s : Mxu F) :
    inv1 (F := F) c I t1 s ⊢ WP c (body1 (F := F) t1 s) (inv1 (F := F) c I (t1.val + 1)) := by
  have hn : t1.val < 4 := lt_of_lt_of_eq t1.isLt trips1
  have hn' : min (t1.val + 1) 3 < 4 := by omega
  have em : min t1.val 3 = t1.val := by omega
  have hD1 : k0_cond1 t1 = 1#1 → DOk (Scalar.addi (gN t1) 1#32) := fun h => by rw [gN1]; exact DOk_ok ((cond1_iff t1).mp h)
  have hD2 : k0_cond2 t1 = 1#1 → DOk (Scalar.addi (gN t1) 2#32) := fun h => by rw [gN2]; exact DOk_ok ((cond2_iff t1).mp h)
  have g3 : 103 < 104 := by decide
  have g0 : 0 < 104 := by decide
  have s1 : 1 < 2 := by decide
  have s0 : 0 < 2 := by decide
  have ne : 1 ≠ 0 := by decide
  have e1 := gN_eq t1
  have e3 : gSlot (gN t1) 103#32 = BitVec.ofNat 32 (528 * 1) := by rw [e1]; exact gSlot_eq hn g3
  have e6 : Scalar.subi 528#32 (gSlot (gN t1) 103#32) = BitVec.ofNat 32 (528 * 0) := by rw [e3]; exact nslot_eq s1
  have e5 : gBase (Scalar.minsi (Scalar.addi (gN t1) 1#32) 3#32) = BitVec.ofNat 32 (53264 * (min (t1.val + 1) 3 % 2)) := by rw [gN1, gmin_eq hn, gBase_eq hn']
  have hT := TOk_ok hn g3 s1
  have hG := GOk_ok g0 s0
  have hO := OOk_ok hn
  have eq : body1 (F := F) t1 s = Prog.bind (Scf.Loop.for k0_t2_loop k0_t2_ok s (body2 (F := F) t1 s)) fun s' => gcopy (F := F) t1 hD1 hD2
      (gstep (F := F) mA mH mX mS mZ mW mT (BitVec.ofNat 32 t1) (BitVec.ofNat 32 103) (BitVec.ofNat 32 (528 * 1)) (BitVec.ofNat 32 0)
        (BitVec.ofNat 32 (53264 * (min (t1.val + 1) 3 % 2))) (BitVec.ofNat 32 (528 * 0)) hT hG s' fun s'' => gpops (F := F) mO (BitVec.ofNat 32 t1) hO s'' .ret) := by
    refine (t1_eq (hD1 := hD1) (hD2 := hD2) (hT := by rw [e3, e1]; exact hT) (hG := by rw [e6]; exact hG) (hO := by rw [e1]; exact hO) ..).trans ?_
    unfold g109 gcopy
    refine congrArg _ (funext fun s' => ?_)
    beta_reduce
    rw [gstep_congr (n' := BitVec.ofNat 32 t1) (g' := BitVec.ofNat 32 103) (b' := BitVec.ofNat 32 0) e1 rfl e3 rfl e5 e6 (hT' := hT) (hG' := hG)]
    simp only [gpops_congr e1 (h' := hO)]
  rw [eq]
  unfold inv1
  rw [em]
  iintro ⟨%f, %fo, %hp, HO, HA, HT, HY, HH, HR, HW⟩
  obtain ⟨hu, hf, hd⟩ := hp
  unfold hot
  icases HH with ⟨HV, HS⟩
  icases HA with ⟨HA, HI⟩
  iapply (loop2_run c I hI _ t1 s _) $$ [HO HA HI HT HV]
  · unfold inv2
    iexists f
    isplitr
    · ipureintro
      exact ⟨hu, hf⟩
    isplitl [HO]; · iexact HO
    isplitr [HT]
    · unfold rd
      isplitl [HA]; · iexact HA
      isplitl [HI]; · iexact HI
      iexact HV
    iexact HT
  unfold inv2
  iintro %u1 ⟨%f1, %hp1, HO, HR', HT⟩
  unfold rd
  icases HR' with ⟨HA, HI, HV⟩
  iapply (gcopy_run c I t1 hD1 hD2 _ _) $$ [HV HS HR HW]
  · isplitl [HV HS]
    · unfold hot
      isplitl [HV]; · iexact HV
      iexact HS
    isplitl [HR]; · iexact HR
    iexact HW
  iintro ⟨HH, HR, HW⟩
  unfold hot
  icases HH with ⟨HV, HS⟩
  iapply (gstep_run c I _ hn g3 s1 hn' g0 s0 ne hI hT hG hp1.2 hp1.1 _) $$ [HO HA HI HV HT]
  · isplitl [HO]; · iexact HO
    isplitr [HT]
    · unfold rd
      isplitl [HA]; · iexact HA
      isplitl [HI]; · iexact HI
      iexact HV
    iexact HT
  iintro %u2 %f2 %hp2 ⟨HO, HR', HT⟩
  unfold rd
  icases HR' with ⟨HA, HI, HV⟩
  iapply (gpops_run c I _ hn hO fo hd hp2.1 _) $$ HY
  iintro %u3 %f3 %hp3 HY
  iapply (WP_ret c)
  iexists f2, f3
  isplitr
  · ipureintro
    exact ⟨hp3.1, hp2.2, hp3.2⟩
  isplitl [HO]; · iexact HO
  isplitl [HA HI]
  · isplitl [HA]; · iexact HA
    iexact HI
  isplitl [HT]; · iexact HT
  isplitl [HY]; · iexact HY
  isplitl [HV HS]
  · isplitl [HV]; · iexact HV
    iexact HS
  isplitl [HR]; · iexact HR
  iexact HW

theorem loop1_run (hI : I.Ok) {α : Type} (Q : α → sProp 𝕄) (s0 : Mxu F) (k : Mxu F → Prog (TpuEff nD τ sig (Elt F) Λ₀ .tc) α) :
    inv1 (F := F) c I 0 s0
      ⊢ iprop((∀ u' : Mxu F, inv1 (F := F) c I 4 u' -∗ WP c (k u') Q) -∗ WP c (Prog.bind (Scf.Loop.for k0_t1_loop k0_t1_ok s0 (body1 (F := F))) k) Q) := by
  have h := Scf.wp_for_bind frame (wpE (defs₀ (F := F)) Variants.none (c : Thread nD τ) none) Set.univ k0_t1_loop.lb k0_t1_loop.ub k0_t1_loop.st k0_t1_ok s0
    (body1 (F := F)) (inv1 (F := F) c I) (inv1_step c I hI) (kk := k) (Q := Q)
  have e : Scf.trips k0_t1_loop.lb k0_t1_loop.ub k0_t1_loop.st = 4 := by decide
  rw [e] at h
  exact h

/-! ### The whole body -/

theorem Done.zero (f : S4x48x4096.Idx → F .bf16) : Done (F := F) I 0 0 f := fun i h => by omega

theorem Done.all {f : S4x48x4096.Idx → F .bf16} (h : Done (F := F) I 4 0 f) : f = out (F := F) I :=
  funext fun i => h i (.inl (i 0).isLt)

/-- Everything at rest, the weights' array and the staging buffer whole. -/
def idle (fo : S4x48x4096.Idx → F .bf16) : sProp 𝕄 :=
  iprop(pt c mQ I.q ∗ pt c mA I.a ∗ pt c mH I.sh ∗ pt c mX I.xs ∗ pt c mS I.st ∗ pt c mZ I.zt ∗ pt c mO fo
    ∗ (∃ f : S106528x128.Idx → BitVec 32, pt c mW f) ∗ (∃ f : S1056x128.Idx → BitVec 32, pt c mT f)
    ∗ sem0 (F := F) c 0 ∗ sem0 (F := F) c 1 ∗ ∃ W, owes (c : Thread nD τ) 0 W)

/-- The rows of the staging buffer no copy lands at. -/
def gap : Finset S106528x128.Idx := Finset.univ.filter fun i => ¬ ((i 0 : Nat) % 53264) % 3329 < 3328
def wgap (s : Nat) : Finset S106528x128.Idx := Finset.univ.filter fun i => (i 0 : Nat) / 53264 = s ∧ ((i 0 : Nat) % 53264) % 3329 < 3328 ∨ ¬ ((i 0 : Nat) % 53264) % 3329 < 3328
def sge (n : Nat) : Finset S3328x8192.Idx := Finset.univ.filter fun i => n ≤ (i 1 : Nat) / 2048

theorem mW_split (f : S106528x128.Idx → BitVec 32) :
    (pt c mW f : sProp 𝕄) ⊣⊢ iprop(ptOn c mW (wset 0) f ∗ ptOn c mW (wset 1) f ∗ ptOn c mW gap f) := by
  have m1 : ∀ i : S106528x128.Idx, i ∈ (Finset.univ : Finset S106528x128.Idx) ↔ i ∈ wset 0 ∨ i ∈ wgap 1 := fun i => by
    have h : (i 0 : Nat) < 106528 := (i 0).isLt
    rw [wset, wgap, mem_filt, mem_filt]
    exact ⟨fun _ => by omega, fun _ => Finset.mem_univ _⟩
  have d1 : ∀ i : S106528x128.Idx, i ∈ wset 0 → i ∉ wgap 1 := fun i => by rw [wset, wgap, mem_filt, mem_filt]; omega
  have m2 : ∀ i : S106528x128.Idx, i ∈ wgap 1 ↔ i ∈ wset 1 ∨ i ∈ gap := fun i => by rw [wset, wgap, gap, mem_filt, mem_filt, mem_filt]
  have d2 : ∀ i : S106528x128.Idx, i ∈ wset 1 → i ∉ gap := fun i => by rw [wset, gap, mem_filt, mem_filt]; omega
  have h1 := ptOn_split (F := F) c mW (A := Finset.univ) (B := wset 0) (C := wgap 1) f m1 d1
  have h2 := ptOn_split (F := F) c mW (A := wgap 1) (B := wset 1) (C := gap) f m2 d2
  refine h1.trans ⟨?_, ?_⟩
  · iintro ⟨H0, H⟩
    isplitl [H0]; · iexact H0
    iapply h2.1
    iexact H
  · iintro ⟨H0, H⟩
    isplitl [H0]; · iexact H0
    iapply h2.2
    iexact H

theorem mQ_split (f : S3328x8192.Idx → BitVec 32) :
    (pt c mQ f : sProp 𝕄) ⊣⊢ iprop(ptOn c mQ (srcs 0) f ∗ ptOn c mQ (srcs 1) f ∗ ptOn c mQ (srcs 2) f ∗ ptOn c mQ (srcs 3) f) := by
  have m1 : ∀ i : S3328x8192.Idx, i ∈ (Finset.univ : Finset S3328x8192.Idx) ↔ i ∈ srcs 0 ∨ i ∈ sge 1 := fun i => by
    rw [srcs, sge, mem_filt, mem_filt]
    exact ⟨fun _ => by omega, fun _ => Finset.mem_univ _⟩
  have d1 : ∀ i : S3328x8192.Idx, i ∈ srcs 0 → i ∉ sge 1 := fun i => by rw [srcs, sge, mem_filt, mem_filt]; omega
  have m2 : ∀ i : S3328x8192.Idx, i ∈ sge 1 ↔ i ∈ srcs 1 ∨ i ∈ sge 2 := fun i => by rw [srcs, sge, sge, mem_filt, mem_filt, mem_filt]; omega
  have d2 : ∀ i : S3328x8192.Idx, i ∈ srcs 1 → i ∉ sge 2 := fun i => by rw [srcs, sge, mem_filt, mem_filt]; omega
  have m3 : ∀ i : S3328x8192.Idx, i ∈ sge 2 ↔ i ∈ srcs 2 ∨ i ∈ srcs 3 := fun i => by
    have h : (i 1 : Nat) < 8192 := (i 1).isLt
    rw [srcs, sge, srcs, mem_filt, mem_filt, mem_filt]; omega
  have d3 : ∀ i : S3328x8192.Idx, i ∈ srcs 2 → i ∉ srcs 3 := fun i => by rw [srcs, srcs, mem_filt, mem_filt]; omega
  have h1 := ptOn_split (F := F) c mQ (A := Finset.univ) (B := srcs 0) (C := sge 1) f m1 d1
  have h2 := ptOn_split (F := F) c mQ (A := sge 1) (B := srcs 1) (C := sge 2) f m2 d2
  have h3 := ptOn_split (F := F) c mQ (A := sge 2) (B := srcs 2) (C := srcs 3) f m3 d3
  refine h1.trans ⟨?_, ?_⟩
  · iintro ⟨H0, H⟩
    isplitl [H0]; · iexact H0
    ihave H := h2.1 $$ H
    icases H with ⟨H1, H⟩
    isplitl [H1]; · iexact H1
    iapply h3.1
    iexact H
  · iintro ⟨H0, H1, H⟩
    isplitl [H0]; · iexact H0
    iapply h2.2
    isplitl [H1]; · iexact H1
    iapply h3.2
    iexact H

/-- The staging buffer put together again. -/
theorem mW_join (f0 f1 f2 : S106528x128.Idx → BitVec 32) :
    iprop(ptOn c mW (wset 0) f0 ∗ ptOn c mW (wset 1) f1 ∗ ptOn c mW gap f2) ⊢ (iprop(∃ f : S106528x128.Idx → BitVec 32, pt c mW f) : sProp 𝕄) := by
  let f : S106528x128.Idx → BitVec 32 := fun i => if i ∈ wset 0 then f0 i else if i ∈ wset 1 then f1 i else f2 i
  have e0 : (ptOn c mW (wset 0) f0 : sProp 𝕄) = ptOn c mW (wset 0) f := pointsTo_congr fun i hi => (if_pos hi).symm
  have e1 : (ptOn c mW (wset 1) f1 : sProp 𝕄) = ptOn c mW (wset 1) f := pointsTo_congr fun (i : S106528x128.Idx) hi => by
    have h0 : i ∉ wset 0 := fun h => by
      have hi : i ∈ wset 1 := hi
      rw [wset, mem_filt] at h hi
      omega
    exact ((if_neg h0).trans (if_pos hi)).symm
  have e2 : (ptOn c mW gap f2 : sProp 𝕄) = ptOn c mW gap f := pointsTo_congr fun (i : S106528x128.Idx) hi => by
    have hi : i ∈ gap := hi
    have h0 : i ∉ wset 0 := fun h => by
      rw [wset, mem_filt] at h
      rw [gap, mem_filt] at hi
      exact hi h.2
    have h1 : i ∉ wset 1 := fun h => by
      rw [wset, mem_filt] at h
      rw [gap, mem_filt] at hi
      exact hi h.2
    exact ((if_neg h0).trans (if_neg h1)).symm
  rw [e0, e1, e2]
  iintro H
  iexists f
  iapply (mW_split c f).2
  iexact H

theorem rest_zero : rest (F := F) c I 0 = iprop(bat (F := F) c I 1 16 0 ∗ src c I 0 ∗ src c I 2 ∗ src c I 3) := rfl
theorem rest_four : rest (F := F) c I 4 ⊢ iprop(hot (F := F) c I 2 ∗ src c I 0 ∗ src c I 1 ∗ src c I 2 ∗ src c I 3) := .rfl

theorem root_run (hI : I.Ok) (fo : S4x48x4096.Idx → F .bf16) :
    idle (F := F) c I fo ⊢ WP c (cc0_gptq_linear_skel (F := F) mQ (Memref.isWhole_whole _) mA (Memref.isWhole_whole _) mH (Memref.isWhole_whole _) mX (Memref.isWhole_whole _)
      mS (Memref.isWhole_whole _) mZ (Memref.isWhole_whole _) mO (Memref.isWhole_whole _) mW (Memref.isWhole_whole _) mT (Memref.isWhole_whole _) cc0_scratch2)
      fun _ => idle (F := F) c I (out (F := F) I) := by
  have n0 : 0 < 4 := by decide
  have n1 : 1 < 4 := by decide
  have g0 : 0 < 104 := by decide
  have s0 : 0 < 2 := by decide
  have h0 := DOk_ok n0
  have h1 := DOk_ok n1
  have hG := GOk_ok g0 s0
  have eq : cc0_gptq_linear_skel (F := F) mQ (Memref.isWhole_whole _) mA (Memref.isWhole_whole _) mH (Memref.isWhole_whole _) mX (Memref.isWhole_whole _)
      mS (Memref.isWhole_whole _) mZ (Memref.isWhole_whole _) mO (Memref.isWhole_whole _) mW (Memref.isWhole_whole _) mT (Memref.isWhole_whole _) cc0_scratch2 =
      gstarts (F := F) mQ mW cc0_scratch2 (BitVec.ofNat 32 0) h0 (gstarts (F := F) mQ mW cc0_scratch2 (BitVec.ofNat 32 1) h1 (gwaits (F := F) mQ mW cc0_scratch2 (BitVec.ofNat 32 0) h0
        (gwords (F := F) mA mH mW mT (BitVec.ofNat 32 0) (BitVec.ofNat 32 (53264 * (0 % 2))) (BitVec.ofNat 32 (528 * 0)) hG
          (Prog.bind (Scf.Loop.for k0_t1_loop k0_t1_ok Mxu.init (body1 (F := F))) fun s => s.exit >>= fun _ => .ret PUnit.unit) 32 le_rfl) 16 le_rfl) 16 le_rfl) 16 le_rfl :=
    root_eq _ _ _ _ _ _ _ _ _ _ _ _ _ _ _ _ _ _ _ h0 h1 hG
  rw [eq]
  unfold idle
  iintro ⟨HQ, HA, HI, HX, HC, HZ, HY, ⟨%fw, HW⟩, ⟨%ft, HT⟩, HS0, HS1, HO⟩
  ihave HQ := (mQ_split c I.q).1 $$ HQ
  icases HQ with ⟨Q0, Q1, Q2, Q3⟩
  ihave HW := (mW_split c fw).1 $$ HW
  icases HW with ⟨W0, W1, W2⟩
  iapply (gstarts_run c I _ n0 h0 fw _) $$ [W0 Q0 HS0]
  · isplitl [W0]; · iexact W0
    isplitl [Q0]; · iexact Q0
    iexact HS0
  iintro B0
  iapply (gstarts_run c I _ n1 h1 fw _) $$ [W1 Q1 HS1]
  · isplitl [W1]; · iexact W1
    isplitl [Q1]; · iexact Q1
    iexact HS1
  iintro B1
  iapply (gwaits_run c I _ n0 h0 _) $$ [B0 HO]
  · isplitl [B0]; · iexact B0
    iexact HO
  iintro ⟨W0, Q0, HS0, HO⟩
  iapply (gwords_run c I _ n0 g0 s0 hI hG _ 32 le_rfl ft) $$ [HA HI W0 HT]
  · isplitr [HT]
    · unfold rd
      isplitl [HA]; · iexact HA
      isplitl [HI]; · iexact HI
      iexact W0
    iexact HT
  iintro %f1 %he ⟨HR, HT⟩
  unfold rd
  icases HR with ⟨HA, HI, W0⟩
  have hf := Ext.sorted I he
  iapply (loop1_run c I hI _ Mxu.init _) $$ [HA HI HX HC HZ HY W0 HS0 HT B1 Q0 Q2 Q3 HO]
  · unfold inv1
    iexists f1, fo
    isplitr
    · ipureintro
      exact ⟨MxuIs.init, hf, Done.zero I fo⟩
    isplitl [HX HC HZ]
    · unfold ro
      isplitl [HX]; · iexact HX
      isplitl [HC]; · iexact HC
      iexact HZ
    isplitl [HA HI]
    · isplitl [HA]; · iexact HA
      iexact HI
    isplitl [HT]; · iexact HT
    isplitl [HY]; · iexact HY
    isplitl [W0 HS0]
    · unfold hot
      isplitl [W0]; · iexact W0
      iexact HS0
    isplitr [HO]
    · rw [rest_zero]
      unfold src
      isplitl [B1]; · iexact B1
      isplitl [Q0]; · iexact Q0
      isplitl [Q2]; · iexact Q2
      iexact Q3
    iexact HO
  unfold inv1
  iintro %u ⟨%f, %fz, %hp, HO', HA, HT, HY, HH, HR, HO⟩
  obtain ⟨hu, -, hd⟩ := hp
  have ey := hd.all I
  subst ey
  iapply (Mxu.wp_exit (defs := defs₀ (F := F)) (hd := hu.drained))
  iapply (WP_ret c)
  unfold ro
  icases HO' with ⟨HX, HC, HZ⟩
  icases HA with ⟨HA, HI⟩
  ihave HR := (rest_four c I) $$ HR
  unfold hot src
  icases HH with ⟨W1, HS1⟩
  icases HR with ⟨⟨W0, HS0⟩, Q0, Q1, Q2, Q3⟩
  isplitl [Q0 Q1 Q2 Q3]
  · iapply (mQ_split c I.q).2
    isplitl [Q0]; · iexact Q0
    isplitl [Q1]; · iexact Q1
    isplitl [Q2]; · iexact Q2
    iexact Q3
  isplitl [HA]; · iexact HA
  isplitl [HI]; · iexact HI
  isplitl [HX]; · iexact HX
  isplitl [HC]; · iexact HC
  isplitl [HZ]; · iexact HZ
  isplitl [HY]; · iexact HY
  isplitl [W0 W1 W2]
  · iapply (mW_join c (wrd I 2) (wrd I 3) fw)
    isplitl [W0]; · iexact W0
    isplitl [W1]; · iexact W1
    iexact W2
  isplitl [HT]
  · iexists f
    iexact HT
  isplitl [HS0]; · iexact HS0
  isplitl [HS1]; · iexact HS1
  iexact HO

end Cert.Proof.KernelIdeal
-- ==== Proof.IFrame.lean ====
/-
  The launch: the region's staging buffers, transfers and accumulators, given the whole body's run.
-/
module

public import proofs.«01_k».proof.Proof.IRun5
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxRecDepth 65536

/-! ### @main around the region -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operand the body's transfers read. -/
def H0 : Finset (Ref sig .tc) := {main_v35}
theorem H0_sub : H0 ⊆ Pipeline.restRefs sig spec0 := by decide

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ spec0 H0 op ((List.forall_iff_forall_mem.mp hostOps1_sub) op hop) (fun k => k.elim0) fun b hb => ?_
  obtain rfl : b = main_v35 := by simpa [H0] using hb
  simp only [hostOps1, List.mem_cons, List.mem_nil_iff, or_false] at hop
  rcases hop with rfl | rfl
  · simp only [StableHlo.unary_bufs, Finset.mem_insert, Finset.mem_singleton, not_or]
    exact ⟨StableHlo.devRef_ne_of_ne (by decide), StableHlo.devRef_ne_of_ne (by decide)⟩
  · simp only [StableHlo.reshape_bufs, Finset.mem_insert, Finset.mem_singleton, not_or]
    exact ⟨StableHlo.devRef_ne_of_ne (by decide), StableHlo.devRef_ne_of_ne (by decide)⟩

/-- The body's two transfer counters. -/
abbrev osem0 : Fin 2 → SemLoc sig := fun j => (![SemLoc.dma (dsem 0), SemLoc.dma (dsem 1)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 (F := F) c 0 ∗ sem0 (F := F) c 1) := by
  rw [Pipeline.ownSems0_eq_of_list c osem0 [0, 1] (by decide) (by decide)]; rfl
theorem hbmPts0_eq (c : Dev nD) :
    (bigSep H0 (fun b => ((c : Thread nD τ).loc b) ↦{fullShare} V m c b) : sProp 𝕄) = iprop(pt c mQ (V m c main_v35)) := by
  rw [BI.bigSep_eq_bigSepL_of_eq [main_v35] (by decide) (by decide)]; rfl

theorem PhiD0_eq (c : Dev nD) :
    (Pipeline.ΦD osem0 spec0 H0 (V m) c : sProp 𝕄)
      = iprop(iprop((∃ f : S106528x128.Idx → BitVec 32, pt c mW f) ∗ (∃ f : S1056x128.Idx → BitVec 32, pt c mT f))
          ∗ (∃ r, prngReg c r) ∗ iprop(sem0 (F := F) c 0 ∗ sem0 (F := F) c 1) ∗ pt c mQ (V m c main_v35)) := by
  rw [Pipeline.ΦD_eq, scopedRest0_eq, ownSems00_eq, hbmPts0_eq]; try rfl

/-! ### The one point's blocks are the arrays -/

def t0 : Fin cfg0.N := ⟨0, by decide⟩
theorem t_eq (t : Fin cfg0.N) : t = t0 := by
  have h : ∀ t : Fin grid0.N, t = (⟨0, by decide⟩ : Fin grid0.N) := by decide
  exact h t

theorem ix0 (t : Fin cfg0.N) : win0_0.index t 0 = 0 ∧ win0_0.index t 1 = 0 := (by decide +kernel : ∀ t : Fin grid0.N, win0_0.index t 0 = 0 ∧ win0_0.index t 1 = 0) t
theorem ix1 (t : Fin cfg0.N) : win0_1.index t 0 = 0 ∧ win0_1.index t 1 = 0 := (by decide +kernel : ∀ t : Fin grid0.N, win0_1.index t 0 = 0 ∧ win0_1.index t 1 = 0) t
theorem ix2 (t : Fin cfg0.N) : win0_2.index t 0 = 0 ∧ win0_2.index t 1 = 0 ∧ win0_2.index t 2 = 0 := (by decide +kernel : ∀ t : Fin grid0.N, win0_2.index t 0 = 0 ∧ win0_2.index t 1 = 0 ∧ win0_2.index t 2 = 0) t
theorem ix3 (t : Fin cfg0.N) : win0_3.index t 0 = 0 ∧ win0_3.index t 1 = 0 := (by decide +kernel : ∀ t : Fin grid0.N, win0_3.index t 0 = 0 ∧ win0_3.index t 1 = 0) t
theorem ix4 (t : Fin cfg0.N) : win0_4.index t 0 = 0 ∧ win0_4.index t 1 = 0 := (by decide +kernel : ∀ t : Fin grid0.N, win0_4.index t 0 = 0 ∧ win0_4.index t 1 = 0) t
theorem ix5 (t : Fin cfg0.N) : win0_5.index t 0 = 0 ∧ win0_5.index t 1 = 0 ∧ win0_5.index t 2 = 0 := (by decide +kernel : ∀ t : Fin grid0.N, win0_5.index t 0 = 0 ∧ win0_5.index t 1 = 0 ∧ win0_5.index t 2 = 0) t

theorem emb0 (t : Fin cfg0.N) (j : S104x128.Idx) : ((cfg0.win 0).blk t).view.emb j = j := by
  obtain ⟨e0, e1⟩ := ix0 t
  funext a; apply Fin.ext
  match a with
  | ⟨0, _⟩ => show win0_0.index t (0 : Fin 2) * 104 + 1 * (j 0).val = (j 0).val; omega
  | ⟨1, _⟩ => show win0_0.index t (1 : Fin 2) * 128 + 1 * (j 1).val = (j 1).val; omega
theorem emb1 (t : Fin cfg0.N) (j : S104x128.Idx) : ((cfg0.win 1).blk t).view.emb j = j := by
  obtain ⟨e0, e1⟩ := ix1 t
  funext a; apply Fin.ext
  match a with
  | ⟨0, _⟩ => show win0_1.index t (0 : Fin 2) * 104 + 1 * (j 0).val = (j 0).val; omega
  | ⟨1, _⟩ => show win0_1.index t (1 : Fin 2) * 128 + 1 * (j 1).val = (j 1).val; omega
theorem emb2 (t : Fin cfg0.N) (j : S104x24x256.Idx) : ((cfg0.win 2).blk t).view.emb j = j := by
  obtain ⟨e0, e1, e2⟩ := ix2 t
  funext a; apply Fin.ext
  match a with
  | ⟨0, _⟩ => show win0_2.index t (0 : Fin 3) * 104 + 1 * (j 0).val = (j 0).val; omega
  | ⟨1, _⟩ => show win0_2.index t (1 : Fin 3) * 24 + 1 * (j 1).val = (j 1).val; omega
  | ⟨2, _⟩ => show win0_2.index t (2 : Fin 3) * 256 + 1 * (j 2).val = (j 2).val; omega
theorem emb3 (t : Fin cfg0.N) (j : S6656x128.Idx) : ((cfg0.win 3).blk t).view.emb j = j := by
  obtain ⟨e0, e1⟩ := ix3 t
  funext a; apply Fin.ext
  match a with
  | ⟨0, _⟩ => show win0_3.index t (0 : Fin 2) * 6656 + 1 * (j 0).val = (j 0).val; omega
  | ⟨1, _⟩ => show win0_3.index t (1 : Fin 2) * 128 + 1 * (j 1).val = (j 1).val; omega
theorem emb4 (t : Fin cfg0.N) (j : S6656x128.Idx) : ((cfg0.win 4).blk t).view.emb j = j := by
  obtain ⟨e0, e1⟩ := ix4 t
  funext a; apply Fin.ext
  match a with
  | ⟨0, _⟩ => show win0_4.index t (0 : Fin 2) * 6656 + 1 * (j 0).val = (j 0).val; omega
  | ⟨1, _⟩ => show win0_4.index t (1 : Fin 2) * 128 + 1 * (j 1).val = (j 1).val; omega
theorem emb5 (t : Fin cfg0.N) (j : S4x48x4096.Idx) : ((cfg0.win 5).blk t).view.emb j = j := by
  obtain ⟨e0, e1, e2⟩ := ix5 t
  funext a; apply Fin.ext
  match a with
  | ⟨0, _⟩ => show win0_5.index t (0 : Fin 3) * 4 + 1 * (j 0).val = (j 0).val; omega
  | ⟨1, _⟩ => show win0_5.index t (1 : Fin 3) * 48 + 1 * (j 1).val = (j 1).val; omega
  | ⟨2, _⟩ => show win0_5.index t (2 : Fin 3) * 4096 + 1 * (j 2).val = (j 2).val; omega

theorem iblk0_eq (c : Dev nD) (t : Fin cfg0.N) : iblk m c 0 t = V m c main_v2 := by
  funext j; show V m c main_v2 (((cfg0.win 0).blk t).view.emb j) = V m c main_v2 j; rw [emb0]
theorem iblk1_eq (c : Dev nD) (t : Fin cfg0.N) : iblk m c 1 t = V m c main_v6 := by
  funext j; show V m c main_v6 (((cfg0.win 1).blk t).view.emb j) = V m c main_v6 j; rw [emb1]
theorem iblk2_eq (c : Dev nD) (t : Fin cfg0.N) : iblk m c 2 t = V m c main_v19 := by
  funext j; show V m c main_v19 (((cfg0.win 2).blk t).view.emb j) = V m c main_v19 j; rw [emb2]
theorem iblk3_eq (c : Dev nD) (t : Fin cfg0.N) : iblk m c 3 t = V m c main_v40 := by
  funext j; show V m c main_v40 (((cfg0.win 3).blk t).view.emb j) = V m c main_v40 j; rw [emb3]
theorem iblk4_eq (c : Dev nD) (t : Fin cfg0.N) : iblk m c 4 t = V m c main_v45 := by
  funext j; show V m c main_v45 (((cfg0.win 4).blk t).view.emb j) = V m c main_v45 j; rw [emb4]

/-- What the body is given: the staged words, the two index tables, the activations, the scales, the zeros. -/
def ins (c : Dev nD) : Ins :=
  ⟨V m c main_v35, V m c main_v2, V m c main_v6, V m c main_v19, V m c main_v40, V m c main_v45⟩

/-! ### The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (out (F := F) (ins m c) : S4x48x4096.Idx → F .bf16)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (out (F := F) (ins m c) : S4x48x4096.Idx → F .bf16) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ### The body at the one point -/

abbrev sg0 (t : Fin cfg0.N) : Memref sig .tc .smem S104x128 .i32 := win0_0.stage (cfg0.slots t 0)
abbrev sg1 (t : Fin cfg0.N) : Memref sig .tc .smem S104x128 .i32 := win0_1.stage (cfg0.slots t 1)
abbrev sg2 (t : Fin cfg0.N) : Memref sig .tc .vmem S104x24x256 .i32 := win0_2.stage (cfg0.slots t 2)
abbrev sg3 (t : Fin cfg0.N) : Memref sig .tc .vmem S6656x128 .i32 := win0_3.stage (cfg0.slots t 3)
abbrev sg4 (t : Fin cfg0.N) : Memref sig .tc .vmem S6656x128 .i32 := win0_4.stage (cfg0.slots t 4)
abbrev sg5 (t : Fin cfg0.N) : Memref sig .tc .vmem S4x48x4096 .bf16 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (sg0 t) fullShare ((dats m 0 c).after 0 t)
    ∗ owns (c : Thread nD τ) (sg1 t) fullShare ((dats m 0 c).after 1 t)
    ∗ owns (c : Thread nD τ) (sg2 t) fullShare ((dats m 0 c).after 2 t)
    ∗ owns (c : Thread nD τ) (sg3 t) fullShare ((dats m 0 c).after 3 t)
    ∗ owns (c : Thread nD τ) (sg4 t) fullShare ((dats m 0 c).after 4 t)
    ∗ owns (c : Thread nD τ) (sg5 t) fullShare ((dats m 0 c).after 5 t))

theorem slots_eq (t : Fin cfg0.N) : sg0 t = mA ∧ sg1 t = mH ∧ sg2 t = mX ∧ sg3 t = mS ∧ sg4 t = mZ ∧ sg5 t = mO := by
  have e0 : cfg0.slots t 0 = (0 : Fin 1) := Subsingleton.elim (α := Fin 1) _ _
  have e1 : cfg0.slots t 1 = (0 : Fin 1) := Subsingleton.elim (α := Fin 1) _ _
  have e2 : cfg0.slots t 2 = (0 : Fin 1) := Subsingleton.elim (α := Fin 1) _ _
  have e3 : cfg0.slots t 3 = (0 : Fin 1) := Subsingleton.elim (α := Fin 1) _ _
  have e4 : cfg0.slots t 4 = (0 : Fin 1) := Subsingleton.elim (α := Fin 1) _ _
  have e5 : cfg0.slots t 5 = (0 : Fin 1) := Subsingleton.elim (α := Fin 1) _ _
  unfold sg0 sg1 sg2 sg3 sg4 sg5
  rw [e0, e1, e2, e3, e4, e5]
  exact ⟨rfl, rfl, rfl, rfl, rfl, rfl⟩

/-- The body as the run states it. -/
abbrev bodyR : Prog (TpuEff nD τ sig (Elt F) Λ₀ .tc) PUnit :=
  cc0_gptq_linear_skel mQ (Memref.isWhole_whole _) mA (Memref.isWhole_whole _) mH (Memref.isWhole_whole _) mX (Memref.isWhole_whole _)
    mS (Memref.isWhole_whole _) mZ (Memref.isWhole_whole _) mO (Memref.isWhole_whole _) mW (Memref.isWhole_whole _) mT (Memref.isWhole_whole _) cc0_scratch2

theorem bodyAt_eq (t : Fin cfg0.N) : bodyAt0 (F := F) t = bodyR := by
  have e0 : cfg0.slots t 0 = (0 : Fin 1) := Subsingleton.elim (α := Fin 1) _ _
  have e1 : cfg0.slots t 1 = (0 : Fin 1) := Subsingleton.elim (α := Fin 1) _ _
  have e2 : cfg0.slots t 2 = (0 : Fin 1) := Subsingleton.elim (α := Fin 1) _ _
  have e3 : cfg0.slots t 3 = (0 : Fin 1) := Subsingleton.elim (α := Fin 1) _ _
  have e4 : cfg0.slots t 4 = (0 : Fin 1) := Subsingleton.elim (α := Fin 1) _ _
  have e5 : cfg0.slots t 5 = (0 : Fin 1) := Subsingleton.elim (α := Fin 1) _ _
  unfold bodyAt0 bodyR
  rw [← cc0_gptq_linear_eq_skeleton]

set_option maxHeartbeats 4000000 in
theorem sound_body (hI : ∀ c, (ins m c).Ok) (c : Dev nD) (t : Fin cfg0.N) :
    bodyPre m c t ⊢ wp frame (wpE (defs₀ (F := F)) Variants.none c none) Set.univ (bodyAt0 t) (fun _ => bodyPost m c t) := by
  unfold bodyPre bodyPost
  obtain ⟨s0, s1, s2, s3, s4, s5⟩ := slots_eq t
  rw [s0, s1, s2, s3, s4, s5, bodyAt_eq]
  rw [after0_0, after0_1, after0_2, after0_3, after0_4, after0_5]
  simp only [before0_0, before0_1, before0_2, before0_3, before0_4]
  rw [iblk0_eq, iblk1_eq, iblk2_eq, iblk3_eq, iblk4_eq]
  rw [show (dats m 0 c).Φ t.succ = Pipeline.ΦD osem0 spec0 H0 (V m) c from rfl,
    show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [mA, mH, mX, mS, mZ, mO, owns_whole]
  iintro ⟨⟨⟨HW, HT⟩, Hg, ⟨HS0, HS1⟩, HQ⟩, ⟨%W, -, HO⟩, ⟨%d0, H0⟩, ⟨%d1, H1⟩, ⟨%d2, H2⟩, ⟨%d3, H3⟩, ⟨%d4, H4⟩, ⟨%d5, H5⟩⟩
  ihave Hwp := (root_run (F := F) c (ins m c) (hI c) ((dats m 0 c).before 5 t d5)) $$ [HW HT HS0 HS1 HQ HO H0 H1 H2 H3 H4 H5]
  · unfold idle
    isplitl [HQ]; · iexact HQ
    isplitl [H0]; · iexact H0
    isplitl [H1]; · iexact H1
    isplitl [H2]; · iexact H2
    isplitl [H3]; · iexact H3
    isplitl [H4]; · iexact H4
    isplitl [H5]; · iexact H5
    isplitl [HW]; · iexact HW
    isplitl [HT]; · iexact HT
    isplitl [HS0]; · iexact HS0
    isplitl [HS1]; · iexact HS1
    iexists W; iexact HO
  iapply (wp_wand) $$ [Hwp] [Hg]
  · iexact Hwp
  iintro %u Hid
  unfold idle
  icases Hid with ⟨HQ, H0, H1, H2, H3, H4, H5, HW, HT, HS0, HS1, ⟨%W', HO⟩⟩
  isplitl [HW HT Hg HS0 HS1 HQ]
  · isplitl [HW HT]
    · isplitl [HW]; · iexact HW
      iexact HT
    isplitl [Hg]; · iexact Hg
    isplitl [HS0 HS1]
    · isplitl [HS0]; · iexact HS0
      iexact HS1
    iexact HQ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (hI : ∀ c, (ins m c).Ok) (c : Dev nD) : BodyObligation (dats (F := F) m 0 c) (defs₀ (F := F)) Variants.none () Set.univ := fun t => by
  rw [bigSep_W0, bigSep_W0, defs₀_row]
  exact triple_restated (sound_body m hI c t) rfl .rfl fun _ => .rfl

/-! ### The run -/

set_option backward.isDefEq.respectTransparency.types false in
theorem run_main (hI : ∀ c, (ins m c).Ok) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hI c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := fun _ => .rfl) (hout := fun _ => .rfl)

/-- No line after the region writes an argument: each ends as launched. -/
theorem W_arg (c : Dev nD) (b : Ref sig .tc) (h1 : b ≠ main_v47) (h2 : b ≠ main_v48) (hw : ∀ w, Pipeline.arrRef spec0 w ≠ b)
    (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h1, StableHlo.devRef_ne_of_ne h2⟩)),
    Pipeline.withArrays_of_ne _ c (V0 m c) _ b hw]
  exact hV

/-- The arguments end unchanged, every counter at zero, and the result is what the tail leaves of the body's output. -/
theorem run_all (hI : ∀ c, (ins m c).Ok) : θ_run defs (onTc (τ := τ) (main (F := F))) ⟨m, fun _ => 0, ρ⟩ (fun r => (∀ c : Dev nD,
      r.2.mem ((c.tc : Thread nD τ).loc main_v48) = Pipeline.afterTail₀ cfgs (dats m) 0 (V0 m) [hostOps1] c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_v48 (Pipeline.mem_restRefs_of main_v48 (by decide) (by decide))),
      ((h.1 c).2 main_arg0 (Pipeline.mem_restRefs_of main_arg0 (by decide) (by decide))).trans (W_arg m c main_arg0 (by decide) (by decide) (by exact (by decide : ∀ w, Pipeline.arrRef spec0 w ≠ main_arg0)) (V_main_arg0 m c)),
      ((h.1 c).2 main_arg1 (Pipeline.mem_restRefs_of main_arg1 (by decide) (by decide))).trans (W_arg m c main_arg1 (by decide) (by decide) (by exact (by decide : ∀ w, Pipeline.arrRef spec0 w ≠ main_arg1)) (V_main_arg1 m c)),
      ((h.1 c).2 main_arg2 (Pipeline.mem_restRefs_of main_arg2 (by decide) (by decide))).trans (W_arg m c main_arg2 (by decide) (by decide) (by exact (by decide : ∀ w, Pipeline.arrRef spec0 w ≠ main_arg2)) (V_main_arg2 m c)),
      ((h.1 c).2 main_arg3 (Pipeline.mem_restRefs_of main_arg3 (by decide) (by decide))).trans (W_arg m c main_arg3 (by decide) (by decide) (by exact (by decide : ∀ w, Pipeline.arrRef spec0 w ≠ main_arg3)) (V_main_arg3 m c)),
      ((h.1 c).2 main_arg4 (Pipeline.mem_restRefs_of main_arg4 (by decide) (by decide))).trans (W_arg m c main_arg4 (by decide) (by decide) (by exact (by decide : ∀ w, Pipeline.arrRef spec0 w ≠ main_arg4)) (V_main_arg4 m c))⟩, h.2⟩) (run_main m ρ hI)

end Cert.Proof.KernelIdeal
-- ==== Proof.IHost.lean ====
/-
  What the host's lines before the region leave in the operands: the order of the rows, the words' rows and shifts.
-/
module

public import proofs.«01_k».proof.Proof.Gen.KernelIdeal.Frame
public import Idealize.ShloMosaic.Lib.StableHlo.RunRead
public import Idealize.ShloMosaic.Lib.Claim
public import Idealize.ShloMosaic.Lib.SortFacts

@[expose] public section

set_option maxRecDepth 65536

noncomputable section

namespace Cert.Proof.KernelIdeal

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-! ### The order of the rows -/

/-- The rows in the order of their groups, equal groups as they stand. -/
def ordv (g : IVec S13312 32) : IVec S13312 32 := (Host.sort2 S13312 0 comparator_i32_i32_d0 g (iotaInDim S13312 32 0)).2

/-- The stable sorting permutation of a vector of words with their numbers beside them: place `k` holds row `permN cmp g k`. -/
def permN {n : Nat} (cmp : BitVec 32 × BitVec 32 → BitVec 32 × BitVec 32 → BitVec 1) (g : IVec ⟨1, ![n]⟩ 32) : Fin n → Fin n :=
  sortedFrom fun k k' => cmp (g (Shape.Idx.ofFin k), iotaInDim ⟨1, ![n]⟩ 32 0 (Shape.Idx.ofFin k)) (g (Shape.Idx.ofFin k'), iotaInDim ⟨1, ![n]⟩ 32 0 (Shape.Idx.ofFin k')) == 1#1

/-- The sorted numbers are read through that permutation. -/
theorem sort2_iota {n : Nat} (cmp : BitVec 32 × BitVec 32 → BitVec 32 × BitVec 32 → BitVec 1) (g : IVec ⟨1, ![n]⟩ 32) (j : (⟨1, ![n]⟩ : Shape).Idx) :
    (Host.sort2 ⟨1, ![n]⟩ 0 cmp g (iotaInDim ⟨1, ![n]⟩ 32 0)).2 j = BitVec.ofNat 32 (permN cmp g (j 0)).val := by
  unfold Host.sort2 permN
  simp [iotaInDim]

theorem permN_bijective {n : Nat} (cmp : BitVec 32 × BitVec 32 → BitVec 32 × BitVec 32 → BitVec 1) (g : IVec ⟨1, ![n]⟩ 32) :
    Function.Bijective (permN cmp g) := ⟨sortedFrom_injective _, sortedFrom_surjective _⟩

/-- The row at place `k` of that order. -/
@[irreducible] def perm (g : IVec S13312 32) : Fin 13312 → Fin 13312 := permN comparator_i32_i32_d0 g

theorem perm_bijective (g : IVec S13312 32) : Function.Bijective (perm g) := by
  unfold perm
  exact permN_bijective _ _

theorem ordv_eq (g : IVec S13312 32) (j : S13312.Idx) : ordv g j = BitVec.ofNat 32 (perm g (j 0)).val := by
  unfold perm ordv
  exact sort2_iota comparator_i32_i32_d0 g j

/-- The sign of a word. -/
def sgn (o : BitVec 32) : BitVec 32 := if o = 0 then 0 else if o.msb then -1 else 1

/-- The floor of a word over four, as the host computes it. -/
def fl4 (o : BitVec 32) : BitVec 32 :=
  Scalar.select (IntOp.andi (IntOp.cmpi .ne (sgn o) (sgn 4#32))
    (IntOp.cmpi .ne (IntOp.remsi .host o 4#32) 0#32)) (IntOp.subi (IntOp.divsi .host o 4#32) 1#32) (IntOp.divsi .host o 4#32)

theorem fl4_eq {k : Nat} (hk : k < 13312) : fl4 (BitVec.ofNat 32 k) = BitVec.ofNat 32 (k / 4) := by
  have h : ∀ k : Fin 13312, fl4 (BitVec.ofNat 32 k.val) = BitVec.ofNat 32 (k.val / 4) := by decide +kernel
  exact h ⟨k, hk⟩

theorem V_v2 (c : Dev nD) : V m c main_v2
    = shapeCast S104x128 (fun k => fl4 (ordv (m (c, Proc.devRef .tc main_arg4)) k) : IVec S13312 32) shapeCasts_S13312_S104x128 := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp only [StableHlo.TRef.ofBuf_toBuf]
  rfl

theorem V_v2_lt (c : Dev nD) (i : S104x128.Idx) : (V m c main_v2 i : BitVec 32).toNat < 3328 := by
  rw [V_v2]
  show (fl4 (ordv _ (Shape.reshapeEquiv _ i))).toNat < 3328
  rw [ordv_eq, fl4_eq (Fin.isLt _), BitVec.toNat_ofNat]
  have := (perm (m (c, Proc.devRef .tc main_arg4)) (Shape.reshapeEquiv shapeCasts_S13312_S104x128 i 0)).isLt
  omega

end Cert.Proof.KernelIdeal
-- ==== Proof.IOut.lean ====
/-
  The result array after the whole run: the region's output with its two leading axes exchanged, as one row per token.
-/
module

public import proofs.«01_k».proof.Proof.IFrame
public import Idealize.ShloMosaic.Lib.Pipeline.ValueKit
public import Idealize.ShloMosaic.Lib.StableHlo.RunRead

@[expose] public section

set_option maxRecDepth 65536

noncomputable section

namespace Cert.Proof.KernelIdeal

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The region's output array ends holding what the body stores. -/
theorem final5 (c : Dev nD) : (dats m 0 c).arrAt 5 cfg0.N = (out (F := F) (ins m c) : S4x48x4096.Idx → F .bf16) := by
  refine (dats m 0 c).arrAt_eq_of_after_last 5 t0_0 (by decide +kernel) _ fun j => ?_
  rw [after0_5]
  rfl

theorem v48_eq (c : Dev nD) : Pipeline.afterTail₀ cfgs (dats m) 0 (V0 m) [hostOps1] c main_v48
    = shapeCast S48x1x16384 (transpose S48x4x4096 [1, 0, 2] (out (F := F) (ins m c) : S4x48x4096.Idx → F .bf16) transposes_S4x48x4096_S48x4x4096_1_0_2)
        shapeCasts_S48x4x4096_S48x1x16384 := by
  have e : Pipeline.withArrays (cfgs 0).spec c (V0 m c) (fun w => (dats m 0 c).arrAt w (cfgs 0).N) (Proc.devRef .tc main_v46)
      = (out (F := F) (ins m c) : S4x48x4096.Idx → F .bf16) :=
    (Pipeline.withArrays_arr spec0 (by decide) c (V0 m c) (fun w => (dats m 0 c).arrAt w (cfgs 0).N) 5).trans (final5 m c)
  unfold Pipeline.afterTail₀
  simp only [hostOps1, List.flatten_cons, List.flatten_nil, List.append_nil, List.cons_append, List.nil_append]
  after_reads_simp
  rw [e]
  rfl

/-- The result at a token and a column. -/
theorem v48_read (c : Dev nD) (t : Fin 48) (o : Fin 16384) :
    (Pipeline.afterTail₀ cfgs (dats m) 0 (V0 m) [hostOps1] c main_v48 : S48x1x16384.Idx → F .bf16) (Idealize.ShloMosaic.ix3 t 0 o)
      = out (F := F) (ins m c) (Idealize.ShloMosaic.ix3 ⟨o.val / 4096, by omega⟩ t ⟨o.val % 4096, by omega⟩) := by
  rw [v48_eq]
  rw [shapeCast_apply _ _ _ (Idealize.ShloMosaic.ix3 t (⟨o.val / 4096, by omega⟩ : Fin 4) (⟨o.val % 4096, by omega⟩ : Fin 4096)) (by
    rewrite [Shape.rowMajor_val_three, Shape.rowMajor_val_three]
    show (t.val * 4 + o.val / 4096) * 4096 + o.val % 4096 = (t.val * 1 + 0) * 16384 + o.val
    omega)]
  exact transpose_apply _ _ _ _ _ (fun b => match b with | ⟨0, _⟩ => rfl | ⟨1, _⟩ => rfl | ⟨2, _⟩ => rfl)

end Cert.Proof.KernelIdeal

end
-- ==== Proof.IPre.lean ====
/-
  What the precondition says: in the order of their groups, row `k` is of group `k / 128`.
-/
module

public import proofs.«01_k».proof.Pre_balanced
public import proofs.«01_k».proof.Proof.IHost
public import Idealize.ShloMosaic.Lib.StableHlo.Predicate
public import Idealize.ShloMosaic.Lib.Pointwise
public import Idealize.ShloMosaic.PureOps.Ideal

@[expose] public section

set_option maxRecDepth 65536

noncomputable section

namespace Cert.Proof.KernelIdeal

open Cert.KernelIdeal Cert.KernelIdeal.Gen
open Idealize.ShloMosaic Idealize.ShloMosaic.TcCoe

/-- The side conditions of the precondition's operations. -/
theorem pre_facts : Cert.Pre_balanced.Facts where
  bcast_S_S13312 := by decide
  bcast_S13312_S13312x1_0 := by decide
  gather_S13312_S13312x1_S13312_n_0_n_n_0_1_1_wf := by decide

/-- A number over 128, rounded down, as the host computes it. -/
def fl128 (o : BitVec 32) : BitVec 32 :=
  Scalar.select (IntOp.andi (IntOp.cmpi .ne (sgn o) (sgn 128#32)) (IntOp.cmpi .ne (IntOp.remsi .host o 128#32) 0#32))
    (IntOp.subi (IntOp.divsi .host o 128#32) 1#32) (IntOp.divsi .host o 128#32)

theorem fl128_eq : ∀ k : Fin 13312, fl128 (BitVec.ofNat 32 k.val) = BitVec.ofNat 32 (k.val / 128) := by decide +kernel

/-- A row number counted from the end when negative. -/
def wrapR (o : BitVec 32) : BitVec 32 := Scalar.select (IntOp.cmpi .slt o 0#32) (IntOp.addi o 13312#32) o

theorem wrapR_eq : ∀ n : Fin 13312, min (wrapR (BitVec.ofNat 32 n.val)).toInt.toNat 13311 = n.val := by decide +kernel

theorem cmpi_eq_one {a b : BitVec 32} (h : IntOp.cmpi .eq a b = 1#1) : a = b := by
  by_contra hne
  have e : IntOp.cmpi .eq a b = 0#1 := by simp [IntOp.cmpi, beq_eq_false_iff_ne.mpr hne]
  rw [e] at h
  exact absurd h (by decide)

/-- The group table read in the order of the rows. -/
theorem take_perm (d : GatherDims ⟨1, ![13312]⟩ ⟨2, ![13312, 1]⟩ ⟨1, ![13312]⟩)
    (hcoll : d.collapsedSliceDims = [0]) (hob : d.operandBatchingDims = [])
    (hsim : d.startIndexMap = [0]) (hivd : d.indexVectorDim = 1)
    (hb : S13312.BroadcastsInDim S13312x1 (![0] : Fin 1 → Fin S13312x1.rank)) (x g : IVec S13312 32) (k : Fin 13312) :
    Host.gather d x (broadcastInDim S13312x1 ![0] hb (fun k => wrapR (ordv g k) : IVec S13312 32)) (Shape.Idx.ofFin k) = x (ix1 (perm g k)) := by
  refine (StableHlo.Predicate.gather_take d hcoll hob hsim hivd x _ k (by decide)).trans (congrArg x ?_)
  have e : broadcastInDim S13312x1 ![0] hb (fun k => wrapR (ordv g k) : IVec S13312 32) (StableHlo.Predicate.ixP k) = wrapR (BitVec.ofNat 32 (perm g k).val) :=
    (broadcastInDim_apply _ _ _ _ (ix1 k) (fun a => match a with | ⟨0, _⟩ => rfl)).trans (congrArg wrapR (ordv_eq g (ix1 k)))
  funext a
  match a with
  | ⟨0, _⟩ => exact Fin.ext ((congrArg (fun v : BitVec 32 => min v.toInt.toNat 13311) e).trans (wrapR_eq (perm g k)))

theorem pre_read (x0 : IVec S48x1x13312 16) (x1 : IVec S13312x8192 8) (x2 : IVec S104x16384 16) (x3 : IVec S52x16384 8) (x4 : IVec S13312 32)
    (h : (haveI := pre_facts; Cert.Pre_balanced.fn (F := Ideal) x0 x1 x2 x3 x4) = fun _ => 1#1) (k : Fin 13312) :
    x4 (ix1 (perm x4 k)) = BitVec.ofNat 32 (k.val / 128) := by
  haveI := pre_facts
  have h1 := cmpi_eq_one (congrFun h (Shape.Idx.ofFin k))
  refine (take_perm (Cert.Pre_balanced.gather_S13312_S13312x1_S13312_n_0_n_n_0_1_1) rfl rfl rfl rfl Cert.Pre_balanced.Facts.bcast_S13312_S13312x1_0 x4 x4 k).symm.trans ?_
  exact (Eq.trans (by rfl) h1).trans (fl128_eq k)

end Cert.Proof.KernelIdeal

end
-- ==== Proof.IBody1.lean ====
/-
  What the body computes, read at an index: the words of scales and zeros, the products of one tile.
-/
module

public import proofs.«01_k».proof.Proof.IVal
public import Idealize.ShloMosaic.Lib.Pointwise
public import Idealize.ShloMosaic.Lib.ValueIdx
public import Idealize.ShloMosaic.Lib.BitcastPair
public import Idealize.ShloMosaic.Lib.MatmulPlain

@[expose] public section

noncomputable section

namespace Cert.Proof.KernelIdeal

open Cert.KernelIdeal Cert.KernelIdeal.Gen
open Idealize.ShloMosaic Idealize.ShloMosaic.TcCoe

/-! ### Words -/

/-- The half of a word: the low one at 0, the high one at 1. -/
def half (w : BitVec 32) (k : Nat) : BitVec 16 := w.extractLsb' (16 * k) 16

/-- The `k`-th four bits of a word. -/
def nib (w : BitVec 32) (k : Nat) : BitVec 32 := (w >>> (4 * k)) &&& 15#32

theorem shr_ofNat (w : BitVec 32) {k : Nat} (hk : k < 32) : IntOp.shrui .vector w (BitVec.ofNat 32 k) = w >>> k := by
  have e : (BitVec.ofNat 32 k).toNat = k := by rw [BitVec.toNat_ofNat]; omega
  unfold IntOp.shrui
  rw [e, if_pos hk, BitVec.ushiftRight_eq', e]

/-- The remainder by `m` as the kernel computes it. -/
def kmod (m r : BitVec 32) : BitVec 32 :=
  Scalar.select
    (IntOp.andi
      (IntOp.xori (IntOp.cmpi CmpIPredicate.slt (IntOp.remsi ArithUnit.vector r (Scalar.select (Scalar.cmpi CmpIPredicate.eq m 0#32) 1#32 m)) 0#32)
        (Scalar.cmpi CmpIPredicate.slt (Scalar.select (Scalar.cmpi CmpIPredicate.eq m 0#32) 1#32 m) 0#32))
      (IntOp.cmpi CmpIPredicate.ne (IntOp.remsi ArithUnit.vector r (Scalar.select (Scalar.cmpi CmpIPredicate.eq m 0#32) 1#32 m)) 0#32))
    (IntOp.addi (IntOp.remsi ArithUnit.vector r (Scalar.select (Scalar.cmpi CmpIPredicate.eq m 0#32) 1#32 m))
      (Scalar.select (Scalar.cmpi CmpIPredicate.eq m 0#32) 1#32 m))
    (IntOp.remsi ArithUnit.vector r (Scalar.select (Scalar.cmpi CmpIPredicate.eq m 0#32) 1#32 m))

theorem kmod_8 : ∀ r : Fin 256, IntOp.muli (kmod 8#32 (BitVec.ofNat 32 r.val)) 4#32 = BitVec.ofNat 32 (4 * (r.val % 8)) := by decide +kernel

theorem kmod_2 : ∀ r : Fin 256, IntOp.cmpi CmpIPredicate.eq (kmod 2#32 (BitVec.ofNat 32 r.val)) 0#32 = if r.val % 2 = 0 then 1#1 else 0#1 := by decide +kernel

/-! ### A tile's weights -/

/-- One weight: the code less the zero, times the scale. -/
def gw (w s z : BitVec 32) (r : Nat) : EReal :=
  (FloatOps.sitofp (F := Ideal) .bf16 (nib w (r % 8)) - Ideal.ofBits .bf16 (half z (r % 2))) * Ideal.ofBits .bf16 (half s (r % 2))

theorem bc_sub0 (x : IVec S128x128 32) (r : Fin 256) (l : Fin 128) :
    bitcast S256x128 16 x bitcasts_S128x128_w32_S256x128_w16 (ix2 r l) = half (x (ix2 ⟨r.val / 2, by omega⟩ l)) (r.val % 2) := by
  rw [bitcast_32_16]
  unfold half
  congr 2
  funext a
  match a with
  | ⟨0, _⟩ => rfl
  | ⟨1, _⟩ => rfl

theorem bc_row (z : IVec S1x128 32) (r : Fin 256) (l : Fin 128) :
    bitcast S256x128 16 (broadcastTo S128x128 z broadcasts_S1x128_S128x128) bitcasts_S128x128_w32_S256x128_w16 (ix2 r l)
      = half (z (ix2 0 l)) (r.val % 2) := by
  rw [bc_sub0]
  pointwise

theorem pay43_read (v : IVec S32x128 32) (s z : IVec S1x128 32) (r : Fin 256) (l : Fin 128) :
    k0_pay43 (F := Ideal) (k0_pay42 (F := Ideal) v) s z (ix2 r l)
      = gw (v (ix2 ⟨r.val / 8, by omega⟩ l)) (s (ix2 0 l)) (z (ix2 0 l)) r.val := by
  have e := kmod_8 r
  unfold kmod at e
  unfold k0_pay43 k0_pay42
  pointwise
  rw [e, bc_row, bc_row, shr_ofNat _ (by omega)]
  rfl

theorem pay44_read (p : FVec Ideal S256x128 .bf16) (v : IVec S32x128 32) (s z : IVec S1x128 32) (r c : Fin 256) :
    k0_pay44 (F := Ideal) p v s z (ix2 r c)
      = if h : c.val < 128 then p (ix2 r ⟨c.val, h⟩)
        else gw (v (ix2 ⟨r.val / 8, by omega⟩ ⟨c.val - 128, by omega⟩)) (s (ix2 0 ⟨c.val - 128, by omega⟩)) (z (ix2 0 ⟨c.val - 128, by omega⟩)) r.val := by
  have e := kmod_8 r
  unfold kmod at e
  unfold k0_pay44
  pointwise
  rw [e]
  split
  · rfl
  · rw [bc_row, bc_row, shr_ofNat _ (by omega)]
    rfl

/-! ### A tile's values -/

theorem bc_sub (x : IVec S48x256 32) (p : Fin 96) (r : Fin 256) :
    bitcast S96x256 16 x bitcasts_S48x256_w32_S96x256_w16 (ix2 p r) = half (x (ix2 ⟨p.val / 2, by omega⟩ r)) (p.val % 2) := by
  rw [bitcast_32_16]
  unfold half
  congr 2
  funext a
  match a with
  | ⟨0, _⟩ => rfl
  | ⟨1, _⟩ => rfl

theorem half_zero {k : Nat} (hk : k < 2) : half 0#32 k = 0#16 := by
  obtain rfl | rfl : k = 0 ∨ k = 1 := by omega
  · decide
  · decide

theorem pay45_read (v : IVec S1x24x256 32) (p : Fin 96) (r : Fin 256) :
    k0_pay45 (F := Ideal) v (ix2 p r) = if p.val / 48 = r.val % 2
      then Ideal.ofBits .bf16 (half (v (ix3 0 ⟨p.val / 2 % 24, by omega⟩ r)) (p.val % 2)) else 0 := by
  have e := kmod_2 r
  unfold kmod at e
  unfold k0_pay45
  have h0 : Ideal.ofBits .bf16 (half 0#32 (p.val % 2)) = 0 := by
    rw [half_zero (by omega)]
    exact Ideal.ofBits_zero .bf16
  pointwise
  rw [bc_sub]
  pointwise
  rw [e]
  by_cases hp : p.val / 2 < 24
  · have e1 : (⟨p.val / 2 % 24, by omega⟩ : Fin 24) = ⟨p.val / 2, hp⟩ := Fin.ext (Nat.mod_eq_of_lt hp)
    have e2 : p.val / 48 = 0 := by omega
    rw [dif_pos hp, e1, e2]
    by_cases hr : r.val % 2 = 0
    · rw [if_pos hr, if_pos hr.symm]; rfl
    · rw [if_neg hr, if_neg (Ne.symm hr)]; exact h0
  · have e0 : p.val / 2 - 24 < 24 := by omega
    have e1 : (⟨p.val / 2 % 24, by omega⟩ : Fin 24) = ⟨p.val / 2 - 24, e0⟩ := Fin.ext (by show p.val / 2 % 24 = p.val / 2 - 24; omega)
    have e2 : p.val / 48 = 1 := by omega
    have k1 : ∀ w : BitVec 32, IntOp.subi w (Scalar.select 1#1 w 0#32) = 0#32 := fun w => BitVec.sub_self w
    have k0 : ∀ w : BitVec 32, IntOp.subi w (Scalar.select 0#1 w 0#32) = w := fun w => BitVec.sub_zero w
    rw [dif_neg hp, e1, e2]
    by_cases hr : r.val % 2 = 0
    · have hr' : ¬ 1 = r.val % 2 := by rw [hr]; exact Nat.one_ne_zero
      rw [if_pos hr, if_neg hr']
      exact (congrArg (fun w => Ideal.ofBits .bf16 (half w (p.val % 2))) (k1 _)).trans h0
    · have hr' : 1 = r.val % 2 := by omega
      rw [if_neg hr, if_pos hr']
      exact congrArg (fun w => Ideal.ofBits .bf16 (half w (p.val % 2))) (k0 _)

theorem mxu_read (a : FVec Ideal S96x256 .bf16) (b : FVec Ideal S256x256 .bf16) (r : Fin 96) (c : Fin 256) :
    (FloatOps.mxuPass (F := Ideal) (DotDims.plain 96 256 256) a b : FVec Ideal (Mxu.STile 96) .f32) (ix2 r c) = ∑ k : Fin 256, a (ix2 r k) * b (ix2 k c) := by
  have := Ideal.matmul_plain_apply (M := 96) (K := 256) (N := 256) none a b (fun _ => (0 : EReal)) r c
  rw [zero_add] at this
  refine Eq.trans ?_ this
  rw [Ideal.matmul_apply, zero_add]
  rfl

end Cert.Proof.KernelIdeal

end
-- ==== Proof.ITab.lean ====
/-
  The host's layouts: the shifts, the activations' words, the codes' words, the tables' words.
-/
module

public import proofs.«01_k».proof.Proof.Gen.KernelIdeal.Frame
public import proofs.«01_k».proof.Proof.IHost
public import proofs.«01_k».proof.Proof.IBody1
public import Idealize.ShloMosaic.Lib.BitcastConvert

@[expose] public section

set_option maxRecDepth 65536

noncomputable section

namespace Cert.Proof.KernelIdeal

open Cert.KernelIdeal Cert.KernelIdeal.Gen
open Idealize.ShloMosaic Idealize.ShloMosaic.TcCoe
open Idealize.SL.Sem

variable {F : FTy → Type} [FloatOps F]

/-- Eight times the remainder of a word by four, as the host computes it. -/
def sh4 (o : BitVec 32) : BitVec 32 :=
  IntOp.muli (Scalar.select
    (IntOp.andi (IntOp.cmpi .ne (IntOp.cmpi .slt (IntOp.remsi .host o (Scalar.select (IntOp.cmpi .eq 4#32 0#32) 1#32 4#32)) 0#32)
        (IntOp.cmpi .slt (Scalar.select (IntOp.cmpi .eq 4#32 0#32) 1#32 4#32) 0#32))
      (IntOp.cmpi .ne (IntOp.remsi .host o (Scalar.select (IntOp.cmpi .eq 4#32 0#32) 1#32 4#32)) 0#32))
    (IntOp.addi (IntOp.remsi .host o (Scalar.select (IntOp.cmpi .eq 4#32 0#32) 1#32 4#32)) (Scalar.select (IntOp.cmpi .eq 4#32 0#32) 1#32 4#32))
    (IntOp.remsi .host o (Scalar.select (IntOp.cmpi .eq 4#32 0#32) 1#32 4#32))) 8#32

theorem sh4_eq {k : Nat} (hk : k < 13312) : sh4 (BitVec.ofNat 32 k) = BitVec.ofNat 32 (8 * (k % 4)) := by
  have h : ∀ k : Fin 13312, sh4 (BitVec.ofNat 32 k.val) = BitVec.ofNat 32 (8 * (k.val % 4)) := by decide +kernel
  exact h ⟨k, hk⟩

/-- A row number counted from the end when negative. -/
def wrap (N o : BitVec 32) : BitVec 32 := Scalar.select (IntOp.cmpi .slt o 0#32) (IntOp.addi o N) o

/-- The activations' columns in the order of the rows. -/
def xg (x : S48x1x13312.Idx → BitVec 16) (g : IVec S13312 32) : S48x13312.Idx → BitVec 16 :=
  Host.gather gather_S48x13312_S13312x1_S48x13312_0_1_n_n_1_1_481 (shapeCast S48x13312 x shapeCasts_S48x1x13312_S48x13312)
    (broadcastInDim S13312x1 ![0] bcast_S13312_S13312x1_0 (fun k => wrap 13312#32 (ordv g k) : IVec S13312 32))

/-- The activations' words. -/
def xw (x : S48x1x13312.Idx → BitVec 16) (g : IVec S13312 32) : S104x24x256.Idx → BitVec 32 :=
  Host.bitcastConvertWiden S104x24x256 32 (transpose S104x24x256x2 [2, 0, 3, 1]
    (shapeCast S24x2x104x256 (shapeCast S48x26624 (broadcastInDim S48x13312x2 ![0, 1] bcast_S48x13312_S48x13312x2_0_1 (xg x g)) shapeCasts_S48x13312x2_S48x26624)
      shapeCasts_S48x26624_S24x2x104x256) transposes_S24x2x104x256_S104x24x256x2_2_0_3_1) splits_S104x24x256_w32_S104x24x256x2_w16

/-- The codes' words. -/
def qw (q : S13312x8192.Idx → BitVec 8) : S3328x8192.Idx → BitVec 32 :=
  Host.bitcastConvertWiden S3328x8192 32 (transpose S3328x8192x4 [0, 2, 1] (shapeCast S3328x4x8192 q shapeCasts_S13312x8192_S3328x4x8192)
    transposes_S3328x4x8192_S3328x8192x4_0_2_1) splits_S3328x8192_w32_S3328x8192x4_w8

/-- A table's words. -/
def tabw (s : S104x16384.Idx → BitVec 16) : S6656x128.Idx → BitVec 32 :=
  shapeCast S6656x128 (transpose S4x104x16x128 [1, 0, 2, 3]
    (shapeCast S104x4x16x128 (Host.bitcastConvertWiden S104x8192 32 (shapeCast S104x8192x2 s shapeCasts_S104x16384_S104x8192x2) splits_S104x8192_w32_S104x8192x2_w16)
      shapeCasts_S104x8192_S104x4x16x128) transposes_S104x4x16x128_S4x104x16x128_1_0_2_3) shapeCasts_S4x104x16x128_S6656x128

/-- The zeros of all groups. -/
def zc (z : S52x16384.Idx → BitVec 8) : IVec S104x16384 32 :=
  concatenate S104x16384 0 [⟨S52x16384, (fun i => IntOp.andi ((z i).setWidth 32) 15#32 : IVec S52x16384 32)⟩,
    ⟨S52x16384, (fun i => IntOp.shrsi .host ((z i).setWidth 32) 4#32 : IVec S52x16384 32)⟩] concatenates_S52x16384_S52x16384_S104x16384_d0

/-- Their bit patterns. -/
def zb (z : S52x16384.Idx → BitVec 8) : S104x16384.Idx → BitVec 16 :=
  Host.gather gather_S16_S104x16384x1_S104x16384_n_0_n_n_0_2_1 (fun i => lit0 (S16.rowMajor i))
    (broadcastInDim S104x16384x1 ![0, 1] bcast_S104x16384_S104x16384x1_0_1 (fun i => wrap 16#32 (zc z i) : IVec S104x16384 32))

/-! ## Read at an index -/

/-- The gather of columns. -/
theorem gather_cols {α : Type} (x : S48x13312.Idx → α) (idx : IVec S13312x1 32) (t : Fin 48) (k : Fin 13312) :
    Host.gather gather_S48x13312_S13312x1_S48x13312_0_1_n_n_1_1_481 x idx (ix2 t k) = x (ix2 t ⟨min (idx (ix2 k 0)).toInt.toNat 13311, by omega⟩) := by
  unfold Host.gather
  congr 1
  funext a
  refine Fin.ext ?_
  show gather_S48x13312_S13312x1_S48x13312_0_1_n_n_1_1_481.start (ix2 t k) idx a + gather_S48x13312_S13312x1_S48x13312_0_1_n_n_1_1_481.batchCoord (ix2 t k) a + gather_S48x13312_S13312x1_S48x13312_0_1_n_n_1_1_481.offCoord (ix2 t k) a = _
  have k0 : (0 : Fin S48x13312.rank) ∈ gather_S48x13312_S13312x1_S48x13312_0_1_n_n_1_1_481.sKept := by decide
  have k1 : (1 : Fin S48x13312.rank) ∉ gather_S48x13312_S13312x1_S48x13312_0_1_n_n_1_1_481.sKept := by decide
  have m0 : (0 : Fin S48x13312.rank) ∉ gather_S48x13312_S13312x1_S48x13312_0_1_n_n_1_1_481.startIndexMap := by decide
  have m1 : (1 : Fin S48x13312.rank) ∈ gather_S48x13312_S13312x1_S48x13312_0_1_n_n_1_1_481.startIndexMap := by decide
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg m0, dif_pos k0]
    show 0 + 0 + t.val = t.val
    omega
  · rw [GatherDims.offCoord_eq_zero _ _ _ k1]
    unfold GatherDims.start
    rw [dif_pos m1]
    have hsi : ∀ c, gather_S48x13312_S13312x1_S48x13312_0_1_n_n_1_1_481.siIdx (ix2 t k) c = ix2 k 0 := by
      intro c
      funext e; refine Fin.ext ?_
      match e with
      | ⟨0, _⟩ => rfl
      | ⟨1, _⟩ =>
        have h1 : c.val < 1 := c.isLt
        show c.val = 0
        omega
    rw [hsi]
    rfl

theorem half_append (a b : BitVec 16) {k : Nat} (hk : k < 2) : half (a ++ b) k = if k = 0 then b else a := by
  apply BitVec.eq_of_getLsbD_eq
  intro i hi
  unfold half
  rw [BitVec.getLsbD_extractLsb', BitVec.getLsbD_append]
  obtain rfl | rfl : k = 0 ∨ k = 1 := by omega
  · rw [if_pos rfl, if_pos (by omega)]; simp [hi]
  · rw [if_neg (by omega), if_neg (by omega)]; simp [hi]

/-- The half of a word of two. -/
theorem half_widen {t s : Shape} (x : IVec s 16) (h : t.SplitsWords 32 s 16) (j : t.Idx) (k : Fin 2) :
    half (Host.bitcastConvertWiden t 32 x h j) k.val = x (h.snoc j ⟨k.val, by rw [h.size_axis]; exact k.isLt⟩) := by
  rw [Host.bitcastConvertWiden_apply_16_32, half_append _ _ k.isLt]
  match k with
  | ⟨0, _⟩ => rfl
  | ⟨1, _⟩ => rfl

/-- Four bits of a byte of a word of four. -/
theorem nib_widen {t s : Shape} (x : IVec s 8) (h : t.SplitsWords 32 s 8) (j : t.Idx) (b : Fin 4) {p : Nat} (hp : p < 2) :
    nib (Host.bitcastConvertWiden t 32 x h j >>> (8 * b.val)) p = nib ((x (h.snoc j ⟨b.val, by rw [h.size_axis]; exact b.isLt⟩)).setWidth 32) p := by
  apply BitVec.eq_of_getLsbD_eq
  intro i hi
  unfold nib
  have e15 : (15#32).getLsbD i = decide (i < 4) := by
    have : ∀ i : Fin 32, (15#32).getLsbD i.val = decide (i.val < 4) := by decide
    exact this ⟨i, hi⟩
  rw [BitVec.getLsbD_and, BitVec.getLsbD_and, e15]
  by_cases h4 : i < 4
  · have hb := b.isLt
    rw [BitVec.getLsbD_ushiftRight, BitVec.getLsbD_ushiftRight, BitVec.getLsbD_ushiftRight,
      Host.bitcastConvertWiden_getLsbD _ _ _ _ _ (8 * b.val + (4 * p + i)) (by omega), BitVec.getLsbD_setWidth]
    have e1 : (8 * b.val + (4 * p + i)) / 8 = b.val := by omega
    have e2 : (8 * b.val + (4 * p + i)) % 8 = 4 * p + i := by omega
    simp only [e1, e2]
    rw [decide_eq_true (show 4 * p + i < 32 by omega), Bool.true_and]
  · rw [decide_eq_false h4, Bool.and_false, Bool.and_false]

theorem wrapC_eq : ∀ n : Fin 13312, min (wrap 13312#32 (BitVec.ofNat 32 n.val)).toInt.toNat 13311 = n.val := by decide +kernel

theorem xg_read (x : S48x1x13312.Idx → BitVec 16) (g : IVec S13312 32) (t : Fin 48) (k : Fin 13312) :
    xg x g (ix2 t k) = x (ix3 t 0 (perm g k)) := by
  unfold xg
  rewrite [gather_cols]
  have e : broadcastInDim S13312x1 ![0] bcast_S13312_S13312x1_0 (fun k => wrap 13312#32 (ordv g k) : IVec S13312 32) (ix2 k 0) = wrap 13312#32 (BitVec.ofNat 32 (perm g k).val) := by
    rw [broadcastInDim_apply _ _ _ _ (ix1 k) (fun a => match a with | ⟨0, _⟩ => rfl), ordv_eq]
    rfl
  have key : ∀ v : BitVec 32, v = wrap 13312#32 (BitVec.ofNat 32 (perm g k).val) → (⟨min v.toInt.toNat 13311, by omega⟩ : Fin 13312) = perm g k := by
    intro v hv
    have h := wrapC_eq (perm g k)
    rewrite [← hv] at h
    exact Fin.ext h
  rewrite [key _ e]
  refine shapeCast_apply _ _ _ _ ?_
  rewrite [Shape.rowMajor_val_three, Shape.rowMajor_val_two]
  show (t.val * 1 + 0) * 13312 + (perm g k).val = t.val * 13312 + (perm g k).val
  omega

theorem xw_read (x : S48x1x13312.Idx → BitVec 16) (g : IVec S13312 32) (G : Fin 104) (t : Fin 48) (r : Fin 256) :
    half (pk (xw x g) ![G.val, t.val / 2, r.val]) (t.val % 2) = x (ix3 t 0 (perm g ⟨128 * G.val + r.val / 2, by omega⟩)) := by
  have ht := t.isLt
  rw [← pk_eq (xw x g) (ix3 G ⟨t.val / 2, by omega⟩ r) _ (fun a => match a with | ⟨0, _⟩ => rfl | ⟨1, _⟩ => rfl | ⟨2, _⟩ => rfl)]
  unfold xw
  refine (half_widen _ _ _ (⟨t.val % 2, by omega⟩ : Fin 2)).trans ?_
  rw [transpose_apply _ _ _ _ (ix4 (⟨t.val / 2, by omega⟩ : Fin 24) (⟨t.val % 2, by omega⟩ : Fin 2) G r)
    (fun b => match b with | ⟨0, _⟩ => rfl | ⟨1, _⟩ => rfl | ⟨2, _⟩ => rfl | ⟨3, _⟩ => rfl)]
  rw [shapeCast_apply _ _ _ (ix2 t (⟨G.val * 256 + r.val, by omega⟩ : Fin 26624)) (by
    rewrite [Shape.rowMajor_val_two, Shape.rowMajor_val_four]
    show t.val * 26624 + (G.val * 256 + r.val) = (((t.val / 2) * 2 + t.val % 2) * 104 + G.val) * 256 + r.val
    omega)]
  rw [shapeCast_apply _ _ _ (ix3 t (⟨128 * G.val + r.val / 2, by omega⟩ : Fin 13312) (⟨r.val % 2, by omega⟩ : Fin 2)) (by
    rewrite [Shape.rowMajor_val_two, Shape.rowMajor_val_three]
    show (t.val * 13312 + (128 * G.val + r.val / 2)) * 2 + r.val % 2 = t.val * 26624 + (G.val * 256 + r.val)
    omega)]
  rw [broadcastInDim_apply _ _ _ _ (ix2 t (⟨128 * G.val + r.val / 2, by omega⟩ : Fin 13312)) (fun a => match a with | ⟨0, _⟩ => rfl | ⟨1, _⟩ => rfl), xg_read]

theorem a_read (g : IVec S13312 32) (G : Fin 104) (j : Fin 128) :
    pk (shapeCast S104x128 (fun k => fl4 (ordv g k) : IVec S13312 32) shapeCasts_S13312_S104x128) ![G.val, j.val]
      = BitVec.ofNat 32 ((perm g ⟨128 * G.val + j.val, by omega⟩).val / 4) := by
  rw [← pk_eq _ (ix2 G j) _ (fun a => match a with | ⟨0, _⟩ => rfl | ⟨1, _⟩ => rfl)]
  rw [shapeCast_apply _ _ _ (ix1 ⟨128 * G.val + j.val, by omega⟩) (by
    rewrite [Shape.rowMajor_val_one, Shape.rowMajor_val_two]
    show 128 * G.val + j.val = G.val * 128 + j.val
    omega), ordv_eq]
  exact fl4_eq (Fin.isLt _)

theorem sh_read (g : IVec S13312 32) (G : Fin 104) (j : Fin 128) :
    pk (shapeCast S104x128 (fun k => sh4 (ordv g k) : IVec S13312 32) shapeCasts_S13312_S104x128) ![G.val, j.val]
      = BitVec.ofNat 32 (8 * ((perm g ⟨128 * G.val + j.val, by omega⟩).val % 4)) := by
  rw [← pk_eq _ (ix2 G j) _ (fun a => match a with | ⟨0, _⟩ => rfl | ⟨1, _⟩ => rfl)]
  rw [shapeCast_apply _ _ _ (ix1 ⟨128 * G.val + j.val, by omega⟩) (by
    rewrite [Shape.rowMajor_val_one, Shape.rowMajor_val_two]
    show 128 * G.val + j.val = G.val * 128 + j.val
    omega), ordv_eq]
  exact sh4_eq (Fin.isLt _)

theorem qw_read (q : S13312x8192.Idx → BitVec 8) (k : Fin 13312) (c : Fin 8192) {p : Nat} (hp : p < 2) :
    nib (IntOp.shrui .vector (pk (qw q) ![(BitVec.ofNat 32 (k.val / 4)).toNat, c.val]) (BitVec.ofNat 32 (8 * (k.val % 4)))) p = nib ((q (ix2 k c)).setWidth 32) p := by
  have hk := k.isLt
  rw [shr_ofNat _ (by omega), ← pk_eq (qw q) (ix2 ⟨k.val / 4, by omega⟩ c) _ (fun a => match a with
    | ⟨0, _⟩ => by show k.val / 4 = (BitVec.ofNat 32 (k.val / 4)).toNat; rw [BitVec.toNat_ofNat]; omega
    | ⟨1, _⟩ => rfl)]
  unfold qw
  refine (nib_widen _ _ _ (⟨k.val % 4, by omega⟩ : Fin 4) hp).trans ?_
  rw [transpose_apply _ _ _ _ (ix3 (⟨k.val / 4, by omega⟩ : Fin 3328) (⟨k.val % 4, by omega⟩ : Fin 4) c)
    (fun b => match b with | ⟨0, _⟩ => rfl | ⟨1, _⟩ => rfl | ⟨2, _⟩ => rfl)]
  rw [shapeCast_apply _ _ _ (ix2 k c) (by
    rewrite [Shape.rowMajor_val_two, Shape.rowMajor_val_three]
    show k.val * 8192 + c.val = ((k.val / 4) * 4 + k.val % 4) * 8192 + c.val
    omega)]

theorem tab_read (s : S104x16384.Idx → BitVec 16) (n : Fin 4) (G : Fin 104) (i : Fin 4096) :
    half (pk (tabw s) ![(n.val * 104 + G.val) * 16 + i.val / 2 / 128, i.val / 2 % 128]) (i.val % 2) = s (ix2 G ⟨n.val * 4096 + i.val, by omega⟩) := by
  have hi := i.isLt
  rw [← pk_eq (tabw s) (ix2 ⟨(n.val * 104 + G.val) * 16 + i.val / 2 / 128, by omega⟩ ⟨i.val / 2 % 128, by omega⟩) _ (fun a => match a with | ⟨0, _⟩ => rfl | ⟨1, _⟩ => rfl)]
  unfold tabw
  rw [shapeCast_apply _ _ _ (ix4 n G (⟨i.val / 2 / 128, by omega⟩ : Fin 16) (⟨i.val / 2 % 128, by omega⟩ : Fin 128)) (by
    rewrite [Shape.rowMajor_val_two, Shape.rowMajor_val_four]
    show ((n.val * 104 + G.val) * 16 + i.val / 2 / 128) * 128 + i.val / 2 % 128 = ((n.val * 104 + G.val) * 16 + i.val / 2 / 128) * 128 + i.val / 2 % 128
    rfl)]
  rw [transpose_apply _ _ _ _ (ix4 G n (⟨i.val / 2 / 128, by omega⟩ : Fin 16) (⟨i.val / 2 % 128, by omega⟩ : Fin 128))
    (fun b => match b with | ⟨0, _⟩ => rfl | ⟨1, _⟩ => rfl | ⟨2, _⟩ => rfl | ⟨3, _⟩ => rfl)]
  rw [shapeCast_apply _ _ _ (ix2 G (⟨n.val * 2048 + i.val / 2, by omega⟩ : Fin 8192)) (by
    rewrite [Shape.rowMajor_val_two, Shape.rowMajor_val_four]
    show G.val * 8192 + (n.val * 2048 + i.val / 2) = ((G.val * 4 + n.val) * 16 + i.val / 2 / 128) * 128 + i.val / 2 % 128
    omega)]
  refine (half_widen _ _ _ (⟨i.val % 2, by omega⟩ : Fin 2)).trans ?_
  refine shapeCast_apply _ _ _ _ ?_
  rewrite [Shape.rowMajor_val_two, Shape.rowMajor_val_three]
  show G.val * 16384 + (n.val * 4096 + i.val) = (G.val * 8192 + (n.val * 2048 + i.val / 2)) * 2 + i.val % 2
  omega

end Cert.Proof.KernelIdeal

end
-- ==== Proof.IVals.lean ====
/-
  What the host's lines before the region leave in the other operands: the shifts, the activations, the words, the tables.
-/
module

public import proofs.«01_k».proof.Proof.Gen.KernelIdeal.Frame
public import Idealize.ShloMosaic.Lib.StableHlo.RunRead
public import Idealize.ShloMosaic.Lib.Claim
public import proofs.«01_k».proof.Proof.ITab
public import Idealize.ShloMosaic.Lib.SortFacts

@[expose] public section

set_option maxRecDepth 65536

noncomputable section

namespace Cert.Proof.KernelIdeal

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

theorem V_v6 (c : Dev nD) : V m c main_v6 = shapeCast S104x128 (fun k => sh4 (ordv (m (c, Proc.devRef .tc main_arg4)) k) : IVec S13312 32) shapeCasts_S13312_S104x128 := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp only [StableHlo.TRef.ofBuf_toBuf]
  rfl

theorem V_v19 (c : Dev nD) : V m c main_v19 = xw (m (c, Proc.devRef .tc main_arg0)) (m (c, Proc.devRef .tc main_arg4)) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp only [StableHlo.TRef.ofBuf_toBuf]
  rfl

theorem V_v35 (c : Dev nD) : V m c main_v35 = qw (m (c, Proc.devRef .tc main_arg1)) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

theorem V_v40 (c : Dev nD) : V m c main_v40 = tabw (m (c, Proc.devRef .tc main_arg2)) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

theorem V_v45 (c : Dev nD) : V m c main_v45 = tabw (zb (m (c, Proc.devRef .tc main_arg3))) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

end Cert.Proof.KernelIdeal

end
-- ==== Proof.IBody2.lean ====
/-
  What the body computes, read at an index: the even and the odd columns' sums put side by side, lane by lane.
-/
module

public import proofs.«01_k».proof.Proof.IBody1
public import Idealize.ShloMosaic.Lib.Pointwise
public import Idealize.ShloMosaic.Lib.ValueIdx
public import Idealize.ShloMosaic.Lib.BitcastPair
public import Idealize.ShloMosaic.Lib.MatmulPlain

@[expose] public section

noncomputable section

namespace Cert.Proof.KernelIdeal

open Cert.KernelIdeal Cert.KernelIdeal.Gen
open Idealize.ShloMosaic Idealize.ShloMosaic.TcCoe

/-! ### The interleave -/

def kix (kk l : BitVec 32) : BitVec 32 :=
  Scalar.select
    (IntOp.andi
      (IntOp.cmpi CmpIPredicate.ne
        (IntOp.subi (BitVec.setWidth 32 (IntOp.cmpi CmpIPredicate.sgt l 0#32)) (BitVec.setWidth 32 (IntOp.cmpi CmpIPredicate.slt l 0#32)))
        (Scalar.subi (Scalar.extui (Scalar.cmpi CmpIPredicate.sgt 2#32 0#32)) (Scalar.extui (Scalar.cmpi CmpIPredicate.slt 2#32 0#32))))
      (IntOp.cmpi CmpIPredicate.ne (IntOp.remsi ArithUnit.vector l 2#32) 0#32))
    (IntOp.subi (IntOp.divsi ArithUnit.vector l 2#32) 1#32)
    (IntOp.divsi ArithUnit.vector l 2#32)

theorem kix_eq : ∀ (k : Fin 2) (l : Fin 128),
    (Scalar.select (IntOp.cmpi CmpIPredicate.slt (IntOp.addi (kix 0 (BitVec.ofNat 32 l.val)) (BitVec.ofNat 32 (64 * k.val))) 0#32)
      (IntOp.addi (IntOp.addi (kix 0 (BitVec.ofNat 32 l.val)) (BitVec.ofNat 32 (64 * k.val))) 128#32)
      (IntOp.addi (kix 0 (BitVec.ofNat 32 l.val)) (BitVec.ofNat 32 (64 * k.val)))).toNat % 128 = 64 * k.val + l.val / 2 := by decide +kernel

theorem kmod_2' : ∀ r : Fin 128, IntOp.cmpi CmpIPredicate.eq (kmod 2#32 (BitVec.ofNat 32 r.val)) 0#32 = if r.val % 2 = 0 then 1#1 else 0#1 := by decide +kernel

theorem gval_read (ye yo : FVec Ideal S48x128 .f32) (k : Fin 2) (t : Fin 48) (l : Fin 128) :
    gval (F := Ideal) ye yo (BitVec.ofNat 32 (64 * k.val)) (ix3 0 t l)
      = if l.val % 2 = 0 then ye (ix2 t ⟨64 * k.val + l.val / 2, by omega⟩) else yo (ix2 t ⟨64 * k.val + l.val / 2, by omega⟩) := by
  have e := kmod_2' l
  have e2 := kix_eq k l
  unfold kmod at e
  unfold kix at e2
  unfold gval gidx
  pointwise
  simp only [e2]
  rw [e]
  by_cases hr : l.val % 2 = 0
  · rw [if_pos hr, if_pos hr]; rfl
  · rw [if_neg hr, if_neg hr]; rfl

end Cert.Proof.KernelIdeal

end
-- ==== Proof.IBody3.lean ====
/-
  What the body computes, read at an index: one pass over a group, the sums over the groups, the stored result.
-/
module

public import proofs.«01_k».proof.Proof.IBody2
public import Idealize.ShloMosaic.Lib.Pointwise
public import Idealize.ShloMosaic.Lib.ValueIdx
public import Idealize.ShloMosaic.Lib.BitcastPair
public import Idealize.ShloMosaic.Lib.MatmulPlain

@[expose] public section

noncomputable section

namespace Cert.Proof.KernelIdeal

open Cert.KernelIdeal Cert.KernelIdeal.Gen
open Idealize.ShloMosaic Idealize.ShloMosaic.TcCoe

/-! ### A pass, the sums -/

variable (I : Ins)

theorem wt_read (n g t : Nat) (r c : Fin 256) :
    wt (F := Ideal) I n g t (ix2 r c)
      = gw (srtVal (F := Ideal) I n g (2 * t + c.val / 128) (r.val / 8) (c.val % 128)) (pk I.st ![(n * 104 + g) * 16 + (2 * t + c.val / 128), c.val % 128])
          (pk I.zt ![(n * 104 + g) * 16 + (2 * t + c.val / 128), c.val % 128]) r.val := by
  unfold wt gwt
  rw [pay44_read]
  by_cases h : c.val < 128
  · rw [dif_pos h, pay43_read, Nat.div_eq_of_lt h, Nat.mod_eq_of_lt h]
    rfl
  · rw [dif_neg h, show c.val / 128 = 1 by omega, show c.val % 128 = c.val - 128 by omega]
    rfl

/-- One product of the sums: group `g`'s position `j`, for token `t` and the block's column `i`. -/
def term (n t i g j : Nat) : EReal :=
  Ideal.ofBits .bf16 (half (pk I.xs ![g, t / 2, 2 * j + i % 2]) (t % 2))
    * gw (srtVal (F := Ideal) I n g (i / 2 / 128) (j / 4) (i / 2 % 128)) (pk I.st ![(n * 104 + g) * 16 + i / 2 / 128, i / 2 % 128])
        (pk I.zt ![(n * 104 + g) * 16 + i / 2 / 128, i / 2 % 128]) (2 * j + i % 2)

theorem sum_256 (f : Fin 256 → EReal) : ∑ r, f r = ∑ j : Fin 128, ∑ k : Fin 2, f ⟨k.val + 2 * j.val, by omega⟩ := by
  rw [← Fintype.sum_prod_type']
  exact (Fintype.sum_equiv (finProdFinEquiv (m := 128) (n := 2)) _ _ fun _ => rfl).symm

theorem lh_read (g : Nat) (p : Fin 96) (r : Fin 256) :
    lh (F := Ideal) I g (ix2 p r) = if p.val / 48 = r.val % 2 then Ideal.ofBits .bf16 (half (pk I.xs ![g, p.val / 2 % 24, r.val]) (p.val % 2)) else 0 := by
  unfold lh glhs
  rw [pay45_read]
  rfl

theorem pas_read (n g t i : Nat) (p : Fin 96) (c : Fin 256) (ht : t < 48) (hi : i < 4096) (hp : p.val = 48 * (i % 2) + t) (hc : c.val = i / 2 % 256) :
    pas (F := Ideal) I n g (i / 512) (ix2 p c) = ∑ j : Fin 128, term I n t i g j.val := by
  unfold pas
  rw [mxu_read, sum_256]
  refine Finset.sum_congr rfl fun j _ => ?_
  have e1 : p.val / 48 = i % 2 := by omega
  have e2 : p.val / 2 % 24 = t / 2 := by omega
  have e3 : p.val % 2 = t % 2 := by omega
  have e4 : 2 * (i / 512) + c.val / 128 = i / 2 / 128 := by omega
  have e5 : c.val % 128 = i / 2 % 128 := by omega
  have e6 : ∀ k : Fin 2, (k.val + 2 * j.val) % 2 = k.val := fun k => by omega
  have e7 : ∀ k : Fin 2, (k.val + 2 * j.val) / 8 = j.val / 4 := fun k => by omega
  rw [Fin.sum_univ_two]
  simp only [lh_read, wt_read, e1, e2, e3, e4, e5, e6, e7]
  unfold term
  obtain h | h : i % 2 = 0 ∨ i % 2 = 1 := by omega
  · rw [h, if_pos (show (0 : Nat) = ((0 : Fin 2) : Nat) from rfl), if_neg (show ¬ (0 : Nat) = ((1 : Fin 2) : Nat) by decide), zero_mul, add_zero,
      show ((0 : Fin 2) : Nat) + 2 * j.val = 2 * j.val + 0 by show 0 + 2 * j.val = _; omega]
  · rw [h, if_neg (show ¬ (1 : Nat) = ((0 : Fin 2) : Nat) by decide), if_pos (show (1 : Nat) = ((1 : Fin 2) : Nat) from rfl), zero_mul, zero_add,
      show ((1 : Fin 2) : Nat) + 2 * j.val = 2 * j.val + 1 by show 1 + 2 * j.val = _; omega]

theorem acc_read (n t i : Nat) (p : Fin 96) (c : Fin 256) (ht : t < 48) (hi : i < 4096) (hp : p.val = 48 * (i % 2) + t) (hc : c.val = i / 2 % 256) (g : Nat) :
    acc (F := Ideal) I n (i / 512) g (ix2 p c) = ∑ g' ∈ Finset.range (g + 1), ∑ j : Fin 128, term I n t i g' j.val := by
  induction g with
  | zero => rw [zero_add, Finset.sum_range_one]; exact pas_read I n 0 t i p c ht hi hp hc
  | succ g ih => rw [Finset.sum_range_succ, ← ih, ← pas_read I n (g + 1) t i p c ht hi hp hc]; rfl

theorem rowsE_read (y : FVec Ideal S96x256 .f32) (j : Nat) (t : Fin 48) (c : Fin 128) :
    rowsE (F := Ideal) y j (ix2 t c) = y (ix2 ⟨t.val, by omega⟩ ⟨c.val + 128 * (j / 2 % 2), by omega⟩) := by
  unfold rowsE
  obtain h | h : j / 2 % 2 = 0 ∨ j / 2 % 2 = 1 := by omega
  · rw [if_pos h, extractStridedSlice_apply]
    intro a
    match a with
    | ⟨0, _⟩ => show t.val = 0 + t.val; omega
    | ⟨1, _⟩ => show c.val + 128 * (j / 2 % 2) = 0 + c.val; omega
  · rw [if_neg (by omega), extractStridedSlice_apply]
    intro a
    match a with
    | ⟨0, _⟩ => show t.val = 0 + t.val; omega
    | ⟨1, _⟩ => show c.val + 128 * (j / 2 % 2) = 128 + c.val; omega

theorem rowsO_read (y : FVec Ideal S96x256 .f32) (j : Nat) (t : Fin 48) (c : Fin 128) :
    rowsO (F := Ideal) y j (ix2 t c) = y (ix2 ⟨48 + t.val, by omega⟩ ⟨c.val + 128 * (j / 2 % 2), by omega⟩) := by
  unfold rowsO
  obtain h | h : j / 2 % 2 = 0 ∨ j / 2 % 2 = 1 := by omega
  · rw [if_pos h, extractStridedSlice_apply]
    intro a
    match a with
    | ⟨0, _⟩ => show 48 + t.val = 48 + t.val; omega
    | ⟨1, _⟩ => show c.val + 128 * (j / 2 % 2) = 0 + c.val; omega
  · rw [if_neg (by omega), extractStridedSlice_apply]
    intro a
    match a with
    | ⟨0, _⟩ => show 48 + t.val = 48 + t.val; omega
    | ⟨1, _⟩ => show c.val + 128 * (j / 2 % 2) = 128 + c.val; omega

theorem out_read (n : Fin 4) (t : Fin 48) (i : Fin 4096) :
    out (F := Ideal) I (ix3 n t i) = ∑ g ∈ Finset.range 104, ∑ j : Fin 128, term I n.val t.val i.val g j.val := by
  have e : out (F := Ideal) I (ix3 n t i) = oblk (F := Ideal) I n.val (i.val / 128) (ix3 0 t ⟨i.val % 128, by omega⟩) := by
    unfold out
    refine congrArg (oblk (F := Ideal) I n.val (i.val / 128)) (funext fun a => ?_)
    match a with
    | ⟨0, _⟩ => rfl
    | ⟨1, _⟩ => rfl
    | ⟨2, _⟩ => rfl
  have ek : (if i.val / 128 % 2 = 0 then 0#32 else 64#32) = BitVec.ofNat 32 (64 * (⟨i.val / 128 % 2, by omega⟩ : Fin 2).val) := by
    obtain h | h : i.val / 128 % 2 = 0 ∨ i.val / 128 % 2 = 1 := by omega
    · simp only [h]; rfl
    · simp only [h]; rfl
  rw [e]
  unfold oblk
  rw [ek, gval_read, rowsE_read, rowsO_read, show i.val / 128 / 4 = i.val / 512 by omega]
  by_cases h : (⟨i.val % 128, by omega⟩ : Fin 128).val % 2 = 0
  · rw [if_pos h]
    replace h : i.val % 128 % 2 = 0 := h
    exact acc_read I n.val t.val i.val _ _ t.isLt i.isLt (by show t.val = _; omega)
      (by show 64 * (i.val / 128 % 2) + i.val % 128 / 2 + 128 * (i.val / 128 / 2 % 2) = _; omega) 103
  · rw [if_neg h]
    replace h : ¬ i.val % 128 % 2 = 0 := h
    exact acc_read I n.val t.val i.val _ _ t.isLt i.isLt (by show 48 + t.val = _; omega)
      (by show 64 * (i.val / 128 % 2) + i.val % 128 / 2 + 128 * (i.val / 128 / 2 % 2) = _; omega) 103

/-! ### A word's byte -/

theorem nib_pack {a0 a1 a2 a3 : BitVec 32} {b p : Nat} (hb : b < 4) (hp : p < 2) :
    nib (a3.setWidth 8 ++ a2.setWidth 8 ++ a1.setWidth 8 ++ a0.setWidth 8) (2 * b + p)
      = nib (if b = 0 then a0 else if b = 1 then a1 else if b = 2 then a2 else a3) p := by
  apply BitVec.eq_of_getLsbD_eq
  intro i hi
  unfold nib
  have e15 : (15#32).getLsbD i = decide (i < 4) := by
    have : ∀ i : Fin 32, (15#32).getLsbD i.val = decide (i.val < 4) := by decide
    exact this ⟨i, hi⟩
  rw [BitVec.getLsbD_and, BitVec.getLsbD_and, e15]
  by_cases h4 : i < 4
  · rw [decide_eq_true h4, Bool.and_true, Bool.and_true, BitVec.getLsbD_ushiftRight, BitVec.getLsbD_ushiftRight]
    obtain rfl | rfl | rfl | rfl : b = 0 ∨ b = 1 ∨ b = 2 ∨ b = 3 := by omega
    all_goals
      obtain rfl | rfl : p = 0 ∨ p = 1 := by omega
      all_goals
        simp only [BitVec.getLsbD_append, BitVec.getLsbD_setWidth]
        obtain rfl | rfl | rfl | rfl : i = 0 ∨ i = 1 ∨ i = 2 ∨ i = 3 := by omega
        all_goals simp
  · rw [decide_eq_false h4, Bool.and_false, Bool.and_false]

theorem srt_read (n g C j l p : Nat) (hC : C < 16) (hl : l < 128) (hp : p < 2) :
    nib (srtVal (F := Ideal) I n g C (j / 4) l) ((2 * j + p) % 8)
      = nib (IntOp.shrui .vector (pk I.q ![(pk I.a ![g, j]).toNat, (n * 16 + C) * 128 + l]) (pk I.sh ![g, j])) p := by
  have hb : ∀ j' (x : S8x128.Idx), byt (F := Ideal) I n g j' (C / 8) x
      = IntOp.shrui .vector (pk I.q ![(pk I.a ![g, j']).toNat, (n * 16 + (8 * (C / 8) + (x 0 : Nat))) * 128 + (x 1 : Nat)]) (pk I.sh ![g, j']) := fun j' x => rfl
  have e : srtVal (F := Ideal) I n g C (j / 4) l = srtRows (F := Ideal) I n g (j / 4) (C / 8) (ix2 ⟨C % 8, by omega⟩ ⟨l, hl⟩) := by
    unfold srtVal
    refine (pk_eq _ _ _ fun a => ?_).symm
    match a with
    | ⟨0, _⟩ => rfl
    | ⟨1, _⟩ => rfl
  rw [e]
  unfold srtRows
  rw [shapeCast_self, packElementwiseInt8_apply, show (2 * j + p) % 8 = 2 * (j % 4) + p by omega, nib_pack (by omega) hp, hb, hb, hb, hb]
  have ec : 8 * (C / 8) + C % 8 = C := by omega
  obtain h | h | h | h : j % 4 = 0 ∨ j % 4 = 1 ∨ j % 4 = 2 ∨ j % 4 = 3 := by omega
  · rw [h, if_pos rfl, show 4 * (j / 4) = j by omega]
    show nib (IntOp.shrui .vector (pk I.q ![_, (n * 16 + (8 * (C / 8) + C % 8)) * 128 + l]) _) p = _
    rw [ec]
  · rw [h, if_neg (by decide), if_pos rfl, show 4 * (j / 4) + 1 = j by omega]
    show nib (IntOp.shrui .vector (pk I.q ![_, (n * 16 + (8 * (C / 8) + C % 8)) * 128 + l]) _) p = _
    rw [ec]
  · rw [h, if_neg (by decide), if_neg (by decide), if_pos rfl, show 4 * (j / 4) + 2 = j by omega]
    show nib (IntOp.shrui .vector (pk I.q ![_, (n * 16 + (8 * (C / 8) + C % 8)) * 128 + l]) _) p = _
    rw [ec]
  · rw [h, if_neg (by decide), if_neg (by decide), if_neg (by decide), show 4 * (j / 4) + 3 = j by omega]
    show nib (IntOp.shrui .vector (pk I.q ![_, (n * 16 + (8 * (C / 8) + C % 8)) * 128 + l]) _) p = _
    rw [ec]

end Cert.Proof.KernelIdeal

end
-- ==== Proof.ITabZ.lean ====
/-
  The zeros' table: every bit pattern is the number of its code.
-/
module

public import proofs.«01_k».proof.Proof.Gen.KernelIdeal.Frame
public import proofs.«01_k».proof.Proof.IHost
public import proofs.«01_k».proof.Proof.ITab

@[expose] public section

set_option maxRecDepth 65536

noncomputable section

namespace Cert.Proof.KernelIdeal

open Cert.KernelIdeal Cert.KernelIdeal.Gen
open Idealize.ShloMosaic Idealize.ShloMosaic.TcCoe
open Idealize.SL.Sem

variable {F : FTy → Type} [FloatOps F]

/-! ### The zeros -/

theorem zc_lt (z : S52x16384.Idx → BitVec 8) (g : Fin 104) (o : Fin 16384) : ∃ n : Fin 16, zc z (ix2 g o) = BitVec.ofNat 32 n.val := by
  have h0 : ∀ c : BitVec 8, ∃ n : Fin 16, IntOp.andi (c.setWidth 32) 15#32 = BitVec.ofNat 32 n.val := by decide +kernel
  have h1 : ∀ c : BitVec 8, ∃ n : Fin 16, IntOp.shrsi .host (c.setWidth 32) 4#32 = BitVec.ofNat 32 n.val := by decide +kernel
  unfold zc
  rw [concatenate_pair_apply]
  split
  · exact h0 _
  · exact h1 _

theorem lit0_real : ∀ n : Fin 16, Ideal.ofBits .bf16 (lit0 n) = (((BitVec.ofNat 32 n.val).toInt : ℝ) : EReal) := by
  intro n
  fin_cases n <;> simp [lit0, Ideal.ofBits, Ideal.ieee, -EReal.coe_mul] <;> norm_num

theorem wrapZ_eq : ∀ n : Fin 16, min (wrap 16#32 (BitVec.ofNat 32 n.val)).toInt.toNat 15 = n.val := by decide +kernel

/-- A table of sixteen entries read at numbers. -/
theorem take_read {α : Type} (f : Fin 16 → α) (w : IVec S104x16384 32) (g : Fin 104) (o : Fin 16384) (n : Fin 16)
    (hn : w (ix2 g o) = BitVec.ofNat 32 n.val) :
    Host.gather gather_S16_S104x16384x1_S104x16384_n_0_n_n_0_2_1 (fun i => f (S16.rowMajor i))
      (broadcastInDim S104x16384x1 ![0, 1] bcast_S104x16384_S104x16384x1_0_1 (fun i => wrap 16#32 (w i) : IVec S104x16384 32)) (ix2 g o) = f n := by
  refine (ValueIdx.gather_take_apply (N := 16) (R := 104) (C := 16384) (by decide) gather_S16_S104x16384x1_S104x16384_n_0_n_n_0_2_1_wf _ _ (ix2 g o)).trans ?_
  have e1 : broadcastInDim S104x16384x1 ![0, 1] bcast_S104x16384_S104x16384x1_0_1 (fun i => wrap 16#32 (w i) : IVec S104x16384 32) (ValueIdx.takeIdx (ix2 g o))
      = wrap 16#32 (BitVec.ofNat 32 n.val) :=
    (broadcastInDim_apply _ _ _ _ (ix2 g o) (fun a => match a with | ⟨0, _⟩ => rfl | ⟨1, _⟩ => rfl)).trans (congrArg (wrap 16#32) hn)
  refine congrArg f (Fin.ext ((Shape.rowMajor_val_one _).trans ?_))
  exact (congrArg (fun v : BitVec 32 => min v.toInt.toNat 15) e1).trans (wrapZ_eq n)

theorem zb_read (z : S52x16384.Idx → BitVec 8) (g : Fin 104) (o : Fin 16384) :
    Ideal.ofBits .bf16 (zb z (ix2 g o)) = FloatOps.sitofp (F := Ideal) .bf16 (zc z (ix2 g o)) := by
  obtain ⟨n, hn⟩ := zc_lt z g o
  have e : zb z (ix2 g o) = lit0 n := take_read lit0 (zc z) g o n hn
  exact (congrArg (Ideal.ofBits .bf16) e).trans ((lit0_real n).trans (congrArg (fun v : BitVec 32 => ((v.toInt : ℝ) : EReal)) hn.symm))

end Cert.Proof.KernelIdeal

end
-- ==== Proof.RRead.lean ====
/-
  The reference's result at an index: one sum over the rows.
-/
module

public import proofs.«01_k».proof.Proof.Gen.ReferenceIdeal.Read
public import Idealize.ShloMosaic.Lib.Pointwise

@[expose] public section

noncomputable section

namespace Cert.Proof.ReferenceIdeal

open Cert.ReferenceIdeal Cert.ReferenceIdeal.Gen Cert.ReferenceIdeal.Read
open Idealize.ShloMosaic Idealize.ShloMosaic.TcCoe

/-! ### Rows picked, columns picked -/

theorem gather_rows {α : Type} (x : S104x8192.Idx → α) (idx : IVec S13312x1 32) (b : Fin 13312) (c : Fin 8192) :
    Host.gather gather_S104x8192_S13312x1_S13312x8192_1_0_n_n_0_1_18192 x idx (ix2 b c) = x (ix2 ⟨min (idx (ix2 b 0)).toInt.toNat 103, by omega⟩ c) := by
  unfold Host.gather
  congr 1
  funext a
  refine Fin.ext ?_
  show gather_S104x8192_S13312x1_S13312x8192_1_0_n_n_0_1_18192.start (ix2 b c) idx a + gather_S104x8192_S13312x1_S13312x8192_1_0_n_n_0_1_18192.batchCoord (ix2 b c) a
      + gather_S104x8192_S13312x1_S13312x8192_1_0_n_n_0_1_18192.offCoord (ix2 b c) a = _
  have k0 : (0 : Fin S104x8192.rank) ∉ gather_S104x8192_S13312x1_S13312x8192_1_0_n_n_0_1_18192.sKept := by decide
  have k1 : (1 : Fin S104x8192.rank) ∈ gather_S104x8192_S13312x1_S13312x8192_1_0_n_n_0_1_18192.sKept := by decide
  have m0 : (0 : Fin S104x8192.rank) ∈ gather_S104x8192_S13312x1_S13312x8192_1_0_n_n_0_1_18192.startIndexMap := by decide
  have m1 : (1 : Fin S104x8192.rank) ∉ gather_S104x8192_S13312x1_S13312x8192_1_0_n_n_0_1_18192.startIndexMap := by decide
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ k0]
    unfold GatherDims.start
    rw [dif_pos m0]
    have hsi : ∀ k, gather_S104x8192_S13312x1_S13312x8192_1_0_n_n_0_1_18192.siIdx (ix2 b c) k = ix2 b 0 := by
      intro k
      funext e; refine Fin.ext ?_
      match e with
      | ⟨0, _⟩ => rfl
      | ⟨1, _⟩ =>
        have h1 : k.val < 1 := k.isLt
        show k.val = 0
        omega
    rw [hsi]
    rfl
  · unfold GatherDims.start GatherDims.offCoord
    rw [dif_neg m1, dif_pos k1]
    show 0 + 0 + c.val = c.val
    omega

theorem slice_even {α : Type} (x : S104x16384.Idx → α) (g : Fin 104) (c : Fin 8192) :
    Host.slice S104x8192 ![0, 0] ![1, 2] x slicesBy_S104x16384_S104x8192_0s1_0s2 (ix2 g c) = x (ix2 g ⟨2 * c.val, by omega⟩) := by
  unfold Host.slice
  congr 1
  funext a
  refine Fin.ext ?_
  match a with
  | ⟨0, _⟩ => show 0 + 1 * g.val = g.val; omega
  | ⟨1, _⟩ => show 0 + 2 * c.val = 2 * c.val; omega

theorem slice_odd {α : Type} (x : S104x16384.Idx → α) (g : Fin 104) (c : Fin 8192) :
    Host.slice S104x8192 ![0, 1] ![1, 2] x slicesBy_S104x16384_S104x8192_0s1_1s2 (ix2 g c) = x (ix2 g ⟨2 * c.val + 1, by omega⟩) := by
  unfold Host.slice
  congr 1
  funext a
  refine Fin.ext ?_
  match a with
  | ⟨0, _⟩ => show 0 + 1 * g.val = g.val; omega
  | ⟨1, _⟩ => show 1 + 2 * c.val = 2 * c.val + 1; omega

theorem wrap_eq : ∀ n : Fin 104, min (Scalar.select (IntOp.cmpi .slt (BitVec.ofNat 32 n.val) 0#32) (IntOp.addi (BitVec.ofNat 32 n.val) 104#32) (BitVec.ofNat 32 n.val)).toInt.toNat 103 = n.val := by
  decide +kernel

/-! ### The sum -/

/-- A byte's code: the low four bits at 0, the high four at 1. -/
def rcode (b : BitVec 8) (p : Nat) : BitVec 32 :=
  if p = 0 then IntOp.andi (b.setWidth 32) 15#32 else IntOp.shrsi .host (b.setWidth 32) 4#32

variable (x0 : S48x1x13312.Idx → BitVec 16) (x1 : S13312x8192.Idx → BitVec 8) (x2 : S104x16384.Idx → BitVec 16) (x3 : S52x16384.Idx → BitVec 8) (x4 : IVec S13312 32)

/-- Row `k`'s product, for token `t` and output column `o`, the row's group being `g`. -/
def rterm (t : Fin 48) (o : Fin 16384) (g : Fin 104) (k : Fin 13312) : EReal :=
  Ideal.ofBits .bf16 (x0 (ix3 t 0 k))
    * ((FloatOps.sitofp (F := Ideal) .bf16 (rcode (x1 (ix2 k ⟨o.val / 2, by omega⟩)) (o.val % 2))
        - FloatOps.sitofp (F := Ideal) .bf16 (val_main_v8 (F := Ideal) x3 (ix2 g o))) * Ideal.ofBits .bf16 (x2 (ix2 g o)))

variable (gn : Fin 13312 → Fin 104) (hgn : ∀ k, x4 (ix1 k) = BitVec.ofNat 32 (gn k).val)
include hgn

theorem idx20 (k : Fin 13312) : min (val_main_v20 (F := Ideal) x4 (ix2 k 0)).toInt.toNat 103 = (gn k).val := by
  rw [val_main_v20_apply]
  have e : idx_main_v20 (ix2 k 0) = ix1 k := by
    funext a; match a with | ⟨0, _⟩ => rfl
  rw [e]
  show min (Scalar.select (IntOp.cmpi .slt (x4 (ix1 k)) 0#32) (IntOp.addi (x4 (ix1 k)) 104#32) (x4 (ix1 k))).toInt.toNat 103 = _
  rw [hgn]
  exact wrap_eq _

theorem v31_read (k : Fin 13312) (c : Fin 8192) :
    val_main_v31 (F := Ideal) x1 x2 x3 x4 (ix2 k c)
      = (FloatOps.sitofp (F := Ideal) .bf16 (rcode (x1 (ix2 k c)) 0) - FloatOps.sitofp (F := Ideal) .bf16 (val_main_v8 (F := Ideal) x3 (ix2 (gn k) ⟨2 * c.val, by omega⟩)))
        * Ideal.ofBits .bf16 (x2 (ix2 (gn k) ⟨2 * c.val, by omega⟩)) := by
  have e : (⟨min (val_main_v20 (F := Ideal) x4 (ix2 k 0)).toInt.toNat 103, by omega⟩ : Fin 104) = gn k := Fin.ext (idx20 x4 gn hgn k)
  have e21 : val_main_v21 (F := Ideal) x3 x4 (ix2 k c) = val_main_v8 (F := Ideal) x3 (ix2 (gn k) ⟨2 * c.val, by omega⟩) := by
    unfold val_main_v21 val_main_v13
    rw [gather_rows, slice_even, e]
  have e30 : val_main_v30 (F := Ideal) x2 x4 (ix2 k c) = Ideal.ofBits .bf16 (x2 (ix2 (gn k) ⟨2 * c.val, by omega⟩)) := by
    unfold val_main_v30 val_main_v12
    rw [gather_rows, slice_even]
    exact congrArg (fun g => Ideal.ofBits .bf16 (x2 (ix2 g ⟨2 * c.val, by omega⟩))) e
  rw [val_main_v31_apply, val_main_v23_apply, val_main_v22_apply, e21, e30]
  rfl

theorem v54_read (k : Fin 13312) (c : Fin 8192) :
    val_main_v54 (F := Ideal) x1 x2 x3 x4 (ix2 k c)
      = (FloatOps.sitofp (F := Ideal) .bf16 (rcode (x1 (ix2 k c)) 1) - FloatOps.sitofp (F := Ideal) .bf16 (val_main_v8 (F := Ideal) x3 (ix2 (gn k) ⟨2 * c.val + 1, by omega⟩)))
        * Ideal.ofBits .bf16 (x2 (ix2 (gn k) ⟨2 * c.val + 1, by omega⟩)) := by
  have e : (⟨min (val_main_v43 (F := Ideal) x4 (ix2 k 0)).toInt.toNat 103, by omega⟩ : Fin 104) = gn k := Fin.ext (idx20 x4 gn hgn k)
  have e44 : val_main_v44 (F := Ideal) x3 x4 (ix2 k c) = val_main_v8 (F := Ideal) x3 (ix2 (gn k) ⟨2 * c.val + 1, by omega⟩) := by
    unfold val_main_v44 val_main_v36
    rw [gather_rows, slice_odd, e]
  have e53 : val_main_v53 (F := Ideal) x2 x4 (ix2 k c) = Ideal.ofBits .bf16 (x2 (ix2 (gn k) ⟨2 * c.val + 1, by omega⟩)) := by
    unfold val_main_v53 val_main_v35
    rw [gather_rows, slice_odd]
    exact congrArg (fun g => Ideal.ofBits .bf16 (x2 (ix2 g ⟨2 * c.val + 1, by omega⟩))) e
  rw [val_main_v54_apply, val_main_v46_apply, val_main_v45_apply, e44, e53]
  rfl

omit hgn in
theorem v9_read (t : Fin 48) (k : Fin 13312) : val_main_v9 (F := Ideal) x0 (ix2 t k) = Ideal.ofBits .bf16 (x0 (ix3 t 0 k)) := by
  rw [val_main_v9_apply]
  have e : idx_main_v9 (ix2 t k) = ix3 t 0 k := by
    funext a; refine Fin.ext ?_
    match a with
    | ⟨0, _⟩ => show (t.val * 13312 + k.val) / 13312 = t.val; omega
    | ⟨1, _⟩ => rfl
    | ⟨2, _⟩ => show (t.val * 13312 + k.val) % 13312 = k.val; omega
  rw [e]
  rfl

theorem v32_read (t : Fin 48) (o : Fin 16384) (ho : o.val % 2 = 0) :
    val_main_v32 (F := Ideal) x0 x1 x2 x3 x4 (ix2 t ⟨o.val / 2, by omega⟩) = ∑ k : Fin 13312, rterm x0 x1 x2 x3 t o (gn k) k := by
  rw [val_main_v32_apply]
  refine Finset.sum_congr rfl fun k _ => ?_
  have el : lidx_main_v32 (ix2 t ⟨o.val / 2, by omega⟩) k = ix2 t k := by
    funext a; match a with | ⟨0, _⟩ => rfl | ⟨1, _⟩ => rfl
  have er : ridx_main_v32 (ix2 t ⟨o.val / 2, by omega⟩) k = ix2 k ⟨o.val / 2, by omega⟩ := by
    funext a; match a with | ⟨0, _⟩ => rfl | ⟨1, _⟩ => rfl
  have eo : (⟨2 * (o.val / 2), by omega⟩ : Fin 16384) = o := Fin.ext (by show 2 * (o.val / 2) = o.val; omega)
  rw [el, er, v9_read, v31_read x1 x2 x3 x4 gn hgn]
  unfold rterm
  rw [ho]
  show _ * ((_ - FloatOps.sitofp (F := Ideal) .bf16 (val_main_v8 (F := Ideal) x3 (ix2 (gn k) ⟨2 * (o.val / 2), _⟩))) * Ideal.ofBits .bf16 (x2 (ix2 (gn k) ⟨2 * (o.val / 2), _⟩))) = _
  rw [eo]

theorem v55_read (t : Fin 48) (o : Fin 16384) (ho : o.val % 2 = 1) :
    val_main_v55 (F := Ideal) x0 x1 x2 x3 x4 (ix2 t ⟨o.val / 2, by omega⟩) = ∑ k : Fin 13312, rterm x0 x1 x2 x3 t o (gn k) k := by
  rw [val_main_v55_apply]
  refine Finset.sum_congr rfl fun k _ => ?_
  have el : lidx_main_v55 (ix2 t ⟨o.val / 2, by omega⟩) k = ix2 t k := by
    funext a; match a with | ⟨0, _⟩ => rfl | ⟨1, _⟩ => rfl
  have er : ridx_main_v55 (ix2 t ⟨o.val / 2, by omega⟩) k = ix2 k ⟨o.val / 2, by omega⟩ := by
    funext a; match a with | ⟨0, _⟩ => rfl | ⟨1, _⟩ => rfl
  have eo : (⟨2 * (o.val / 2) + 1, by omega⟩ : Fin 16384) = o := Fin.ext (by show 2 * (o.val / 2) + 1 = o.val; omega)
  rw [el, er, v9_read, v54_read x1 x2 x3 x4 gn hgn]
  unfold rterm
  rw [ho]
  show _ * ((_ - FloatOps.sitofp (F := Ideal) .bf16 (val_main_v8 (F := Ideal) x3 (ix2 (gn k) ⟨2 * (o.val / 2) + 1, _⟩))) * Ideal.ofBits .bf16 (x2 (ix2 (gn k) ⟨2 * (o.val / 2) + 1, _⟩))) = _
  rw [eo]

theorem ref_read (t : Fin 48) (o : Fin 16384) :
    val_main_v61 (F := Ideal) x0 x1 x2 x3 x4 (ix3 t 0 o) = ∑ k : Fin 13312, rterm x0 x1 x2 x3 t o (gn k) k := by
  rw [val_main_v61_apply]
  show val_main_v60 (F := Ideal) x0 x1 x2 x3 x4 (ix3 t 0 o) = _
  have e1 : idx_main_v60 (ix3 t 0 o) = ix2 t o := by
    funext a; refine Fin.ext ?_
    match a with
    | ⟨0, _⟩ => show ((t.val * 1 + 0) * 16384 + o.val) / 16384 = t.val; omega
    | ⟨1, _⟩ => show ((t.val * 1 + 0) * 16384 + o.val) % 16384 = o.val; omega
  have e2 : idx_main_v59 (ix2 t o) = ix3 t ⟨o.val / 2, by omega⟩ ⟨o.val % 2, by omega⟩ := by
    funext a; refine Fin.ext ?_
    match a with
    | ⟨0, _⟩ => show (t.val * 16384 + o.val) / 16384 = t.val; omega
    | ⟨1, _⟩ => show (t.val * 16384 + o.val) / 2 % 8192 = o.val / 2; omega
    | ⟨2, _⟩ => show (t.val * 16384 + o.val) % 2 = o.val % 2; omega
  rw [val_main_v60_apply, e1, val_main_v59_apply, e2]
  unfold val_main_v58
  obtain h | h : o.val % 2 = 0 ∨ o.val % 2 = 1 := by omega
  · rw [concatenate_pair_apply_left (t := S48x8192x2) (s₁ := S48x8192x1) (s₂ := S48x8192x1) 2 _ _ _ _ rfl (ix3 t ⟨o.val / 2, by omega⟩ 0) (fun b => match b with
      | ⟨0, _⟩ => rfl
      | ⟨1, _⟩ => rfl
      | ⟨2, _⟩ => by show 0 = o.val % 2; omega), val_main_v56_apply, ← v32_read x0 x1 x2 x3 x4 gn hgn t o h]
    congr 1
    funext a; match a with | ⟨0, _⟩ => rfl | ⟨1, _⟩ => rfl
  · rw [concatenate_pair_apply_right (t := S48x8192x2) (s₁ := S48x8192x1) (s₂ := S48x8192x1) 2 _ _ _ _ rfl rfl (ix3 t ⟨o.val / 2, by omega⟩ 0) (fun b hb => match b, hb with
      | ⟨0, _⟩, _ => rfl
      | ⟨1, _⟩, _ => rfl
      | ⟨2, _⟩, hb => absurd rfl hb) (by show 0 + 1 = o.val % 2; omega), val_main_v57_apply, ← v55_read x0 x1 x2 x3 x4 gn hgn t o h]
    congr 1
    funext a; match a with | ⟨0, _⟩ => rfl | ⟨1, _⟩ => rfl

end Cert.Proof.ReferenceIdeal

end
-- ==== Proof.ISum.lean ====
/-
  Row by row and in the order of the groups, what the body sums is what the reference sums.
-/
module

public import proofs.«01_k».proof.Proof.IBody3
public import proofs.«01_k».proof.Proof.ITabZ
public import proofs.«01_k».proof.Proof.RRead

@[expose] public section

noncomputable section

namespace Cert.Proof.KernelIdeal

open Cert.KernelIdeal Cert.KernelIdeal.Gen
open Idealize.ShloMosaic Idealize.ShloMosaic.TcCoe
open Cert.Proof.ReferenceIdeal (rcode rterm)

theorem rcode_eq (b : BitVec 8) {p : Nat} (hp : p < 2) : rcode b p = nib (b.setWidth 32) p := by
  have h0 : ∀ b : BitVec 8, rcode b 0 = nib (b.setWidth 32) 0 := by decide +kernel
  have h1 : ∀ b : BitVec 8, rcode b 1 = nib (b.setWidth 32) 1 := by decide +kernel
  obtain rfl | rfl : p = 0 ∨ p = 1 := by omega
  · exact h0 b
  · exact h1 b

theorem zc_eq (x3 : S52x16384.Idx → BitVec 8) : zc x3 = Cert.ReferenceIdeal.Read.val_main_v8 (F := Ideal) x3 := rfl

variable (x0 : S48x1x13312.Idx → BitVec 16) (x1 : S13312x8192.Idx → BitVec 8) (x2 : S104x16384.Idx → BitVec 16) (x3 : S52x16384.Idx → BitVec 8) (x4 : IVec S13312 32)

/-- What the host's lines make of the arguments. -/
def hostIns : Ins :=
  ⟨qw x1, shapeCast S104x128 (fun k => fl4 (ordv x4 k) : IVec S13312 32) shapeCasts_S13312_S104x128,
    shapeCast S104x128 (fun k => sh4 (ordv x4 k) : IVec S13312 32) shapeCasts_S13312_S104x128, xw x0 x4, tabw x2, tabw (zb x3)⟩

theorem code_read (n : Fin 4) (i : Fin 4096) (G : Fin 104) (j : Fin 128) :
    nib (srtVal (F := Ideal) (hostIns x0 x1 x2 x3 x4) n.val G.val (i.val / 2 / 128) (j.val / 4) (i.val / 2 % 128)) ((2 * j.val + i.val % 2) % 8)
      = rcode (x1 (ix2 (perm x4 ⟨128 * G.val + j.val, by omega⟩) ⟨(n.val * 4096 + i.val) / 2, by omega⟩)) ((n.val * 4096 + i.val) % 2) := by
  have hi := i.isLt
  have hp : i.val % 2 < 2 := by omega
  rw [srt_read _ _ _ _ _ _ _ (by omega) (by omega) hp]
  have ea : pk (hostIns x0 x1 x2 x3 x4).a ![G.val, j.val] = BitVec.ofNat 32 ((perm x4 ⟨128 * G.val + j.val, by omega⟩).val / 4) := a_read x4 G j
  have es : pk (hostIns x0 x1 x2 x3 x4).sh ![G.val, j.val] = BitVec.ofNat 32 (8 * ((perm x4 ⟨128 * G.val + j.val, by omega⟩).val % 4)) := sh_read x4 G j
  rw [ea, es]
  have ec : (n.val * 16 + i.val / 2 / 128) * 128 + i.val / 2 % 128 = (n.val * 4096 + i.val) / 2 := by omega
  have e2 : (n.val * 4096 + i.val) % 2 = i.val % 2 := by omega
  rw [ec, e2, rcode_eq _ hp]
  exact qw_read x1 _ ⟨(n.val * 4096 + i.val) / 2, by omega⟩ hp

theorem term_eq (n : Fin 4) (t : Fin 48) (i : Fin 4096) (G : Fin 104) (j : Fin 128) :
    term (hostIns x0 x1 x2 x3 x4) n.val t.val i.val G.val j.val
      = rterm x0 x1 x2 x3 t ⟨n.val * 4096 + i.val, by omega⟩ G (perm x4 ⟨128 * G.val + j.val, by omega⟩) := by
  unfold term rterm gw
  have e2 : (2 * j.val + i.val % 2) % 2 = i.val % 2 := by omega
  rw [code_read, e2]
  have ex : half (pk (hostIns x0 x1 x2 x3 x4).xs ![G.val, t.val / 2, 2 * j.val + i.val % 2]) (t.val % 2) = x0 (ix3 t 0 (perm x4 ⟨128 * G.val + j.val, by omega⟩)) := by
    refine (xw_read x0 x4 G t ⟨2 * j.val + i.val % 2, by omega⟩).trans ?_
    refine congrArg (fun k => x0 (ix3 t 0 (perm x4 k))) (Fin.ext ?_)
    show 128 * G.val + (2 * j.val + i.val % 2) / 2 = 128 * G.val + j.val
    omega
  have es : half (pk (hostIns x0 x1 x2 x3 x4).st ![(n.val * 104 + G.val) * 16 + i.val / 2 / 128, i.val / 2 % 128]) (i.val % 2) = x2 (ix2 G ⟨n.val * 4096 + i.val, by omega⟩) := tab_read x2 n G i
  have ez : half (pk (hostIns x0 x1 x2 x3 x4).zt ![(n.val * 104 + G.val) * 16 + i.val / 2 / 128, i.val / 2 % 128]) (i.val % 2) = zb x3 (ix2 G ⟨n.val * 4096 + i.val, by omega⟩) := tab_read (zb x3) n G i
  rw [ex, es, ez, zb_read, zc_eq]

/-- A sum over the rows, group by group. -/
theorem sum_groups (f : Fin 13312 → EReal) : ∑ k, f k = ∑ G : Fin 104, ∑ j : Fin 128, f ⟨128 * G.val + j.val, by omega⟩ := by
  rw [← Fintype.sum_prod_type']
  exact (Fintype.sum_equiv (finProdFinEquiv (m := 104) (n := 128)) _ f fun x => congrArg f (Fin.ext (Nat.add_comm _ _))).symm

/-- The group of a row, where the groups are balanced. -/
def gn (k : Fin 13312) : Fin 104 := ⟨((Equiv.ofBijective (perm x4) (perm_bijective x4)).symm k).val / 128, by omega⟩

theorem gn_perm (k : Fin 13312) : gn x4 (perm x4 k) = ⟨k.val / 128, by omega⟩ := by
  refine Fin.ext ?_
  show ((Equiv.ofBijective (perm x4) (perm_bijective x4)).symm (Equiv.ofBijective (perm x4) (perm_bijective x4) k)).val / 128 = k.val / 128
  rw [Equiv.symm_apply_apply]

theorem gn_eq (h : ∀ k : Fin 13312, x4 (ix1 (perm x4 k)) = BitVec.ofNat 32 (k.val / 128)) (k : Fin 13312) :
    x4 (ix1 k) = BitVec.ofNat 32 (gn x4 k).val := by
  obtain ⟨k', rfl⟩ := (perm_bijective x4).2 k
  rw [gn_perm]
  exact h k'

/-- The body's result over the host's tables is the reference's. -/
theorem sums_eq (h : ∀ k : Fin 13312, x4 (ix1 (perm x4 k)) = BitVec.ofNat 32 (k.val / 128)) (t : Fin 48) (o : Fin 16384) :
    out (F := Ideal) (hostIns x0 x1 x2 x3 x4) (ix3 ⟨o.val / 4096, by omega⟩ t ⟨o.val % 4096, by omega⟩)
      = Cert.ReferenceIdeal.Read.val_main_v61 (F := Ideal) x0 x1 x2 x3 x4 (ix3 t 0 o) := by
  rw [Cert.Proof.ReferenceIdeal.ref_read x0 x1 x2 x3 x4 (gn x4) (gn_eq x4 h) t o,
    ← (Equiv.ofBijective (perm x4) (perm_bijective x4)).sum_comp (fun k => rterm x0 x1 x2 x3 t o (gn x4 k) k), sum_groups, out_read, Finset.sum_range]
  refine Finset.sum_congr rfl fun G _ => Finset.sum_congr rfl fun j _ => ?_
  refine (term_eq x0 x1 x2 x3 x4 ⟨o.val / 4096, by omega⟩ t ⟨o.val % 4096, by omega⟩ G j).trans ?_
  have eo : (⟨(⟨o.val / 4096, by omega⟩ : Fin 4).val * 4096 + (⟨o.val % 4096, by omega⟩ : Fin 4096).val, by show o.val / 4096 * 4096 + o.val % 4096 < 16384; omega⟩ : Fin 16384) = o := by
    refine Fin.ext ?_
    show o.val / 4096 * 4096 + o.val % 4096 = o.val
    omega
  have eg : gn x4 (perm x4 ⟨128 * G.val + j.val, by omega⟩) = G := by
    rw [gn_perm]
    refine Fin.ext ?_
    show (128 * G.val + j.val) / 128 = G.val
    omega
  show rterm x0 x1 x2 x3 t _ G _ = rterm x0 x1 x2 x3 t o (gn x4 (perm x4 ⟨128 * G.val + j.val, _⟩)) (perm x4 ⟨128 * G.val + j.val, _⟩)
  rw [eg, eo]

end Cert.Proof.KernelIdeal

end
-- ==== Proof.IAlg.lean ====
/-
  The two results agree at every index, under the precondition.
-/
module

public import proofs.«01_k».proof.Proof.IOut
public import proofs.«01_k».proof.Proof.IPre
public import proofs.«01_k».proof.Proof.IVals
public import proofs.«01_k».proof.Proof.ISum

@[expose] public section

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ)

theorem ins_eq (c : Dev nD) : ins m c = hostIns (m (c, Proc.devRef .tc main_arg0)) (m (c, Proc.devRef .tc main_arg1)) (m (c, Proc.devRef .tc main_arg2))
    (m (c, Proc.devRef .tc main_arg3)) (m (c, Proc.devRef .tc main_arg4)) := by
  unfold ins hostIns
  rw [V_v35, V_v2, V_v6, V_v19, V_v40, V_v45]

theorem result_eq (c : Dev nD) (h : ∀ k : Fin 13312, (m (c, Proc.devRef .tc main_arg4) : IVec S13312 32) (Idealize.ShloMosaic.ix1 (perm (m (c, Proc.devRef .tc main_arg4)) k)) = BitVec.ofNat 32 (k.val / 128)) :
    (Pipeline.afterTail₀ cfgs (dats m) 0 (V0 m) [hostOps1] c main_v48 : S48x1x16384.Idx → Ideal .bf16)
      = Cert.ReferenceIdeal.Read.val_main_v61 (F := Ideal) (m (c, Proc.devRef .tc main_arg0)) (m (c, Proc.devRef .tc main_arg1)) (m (c, Proc.devRef .tc main_arg2))
          (m (c, Proc.devRef .tc main_arg3)) (m (c, Proc.devRef .tc main_arg4)) := by
  funext i
  have ei : i = Idealize.ShloMosaic.ix3 (i 0) (0 : Fin 1) (i 2) := by
    funext a
    refine Fin.ext ?_
    match a with
    | ⟨0, _⟩ => rfl
    | ⟨1, _⟩ =>
      have h1 : (i 1).val < 1 := (i 1).isLt
      show (i 1).val = 0
      omega
    | ⟨2, _⟩ => rfl
  rw [ei]
  refine (v48_read m c (i 0) (i 2)).trans ?_
  rw [ins_eq]
  exact sums_eq _ _ _ _ _ h (i 0) (i 2)

end Cert.Proof.KernelIdeal

end
-- ==== Proof.lean ====
/-
  The proof of the certificate.

  The two frames of the kernel are the launch of its body (Proof/KFrame.lean and Proof/IFrame.lean, the same text over the
  two printed programs); the frame of the reference is its run.
-/
module

public import proofs.«01_k».proof.Defs
public import proofs.«01_k».proof.Proof.Gen.Kernel
public import proofs.«01_k».proof.Proof.Gen.KernelIdeal
public import proofs.«01_k».proof.Proof.KFrame
public import proofs.«01_k».proof.Proof.KHost
public import proofs.«01_k».proof.Proof.IFrame
public import proofs.«01_k».proof.Proof.IHost
public import proofs.«01_k».proof.Proof.Gen.ReferenceIdeal.Run
public import proofs.«01_k».proof.Proof.Gen.ReferenceIdeal.Read
public import proofs.«01_k».proof.Proof.IAlg
public import Idealize.ShloMosaic.Adequacy
public import Idealize.ShloMosaic.Init

@[expose] public section

noncomputable section

namespace Cert.Proof

open Idealize.ShloMosaic Idealize.SL.Sem

/-- The kernel's run, read at its arguments and its counters. -/
theorem frame_p : Cert.quiescent_Kernel := fun m ρ _ =>
  (θ_run Cert.Kernel.defs _ _).mono (fun _ h => ⟨fun c => (h.1 c).2, h.2⟩)
    (Cert.Proof.Kernel.run_all (F := Bits) m ρ fun c i => Cert.Proof.Kernel.V_v2_lt m c i)

/-- The same at the ideal instance. -/
theorem frame_pi : Cert.quiescent_KernelIdeal := fun m ρ _ =>
  (θ_run Cert.KernelIdeal.defs _ _).mono (fun _ h => ⟨fun c => (h.1 c).2, h.2⟩)
    (Cert.Proof.KernelIdeal.run_all (F := Ideal) m ρ fun c i => Cert.Proof.KernelIdeal.V_v2_lt m c i)

/-- The reference's run, read at its arguments; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results agree, where the groups are balanced. -/
theorem algebraic : Cert.algebraic_KernelIdeal_ReferenceIdeal_pre_balanced (hPre_balanced := Cert.Proof.KernelIdeal.pre_facts) := by
  intro m g m' g' hpre hargs
  refine ⟨fun c => Pipeline.afterTail₀ Cert.KernelIdeal.cfgs (Cert.Proof.KernelIdeal.dats m) 0 (Cert.KernelIdeal.Gen.V0 m) [Cert.KernelIdeal.Gen.hostOps1] c Cert.KernelIdeal.main_v48, ?_, ?_⟩
  · exact (θ_run Cert.KernelIdeal.defs _ _).mono (fun _ h => h.1)
      (Cert.Proof.KernelIdeal.run_all (F := Ideal) m g fun c i => Cert.Proof.KernelIdeal.V_v2_lt m c i)
  · refine (θ_run Cert.ReferenceIdeal.defs _ _).mono (fun r h c => ⟨(h c).1.trans ?_, (h c).2⟩) (Cert.ReferenceIdeal.Value.run (F := Ideal) m' g')
    obtain ⟨e0, e1, e2, e3, e4⟩ := hargs c
    rw [Cert.ReferenceIdeal.Read.val_main_v61_eq, e0, e1, e2, e3, e4]
    exact (Cert.Proof.KernelIdeal.result_eq m c (Cert.Proof.KernelIdeal.pre_read _ _ _ _ _ (hpre c))).symm

theorem claim : Cert.Claim := ⟨Cert.Kernel.Gen.facts, Cert.KernelIdeal.Gen.facts, Cert.ReferenceIdeal.Gen.facts, Cert.Proof.KernelIdeal.pre_facts,
  frame_p, frame_pi, fun m ρ _ => frame_pi m ρ trivial, frame_ri, fun m ρ _ => frame_ri m ρ trivial, trivial, algebraic⟩

end Cert.Proof

end
